-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputRefIdeal (m : (ℓ : Loc Cert.InputRefIdeal.nD Cert.InputRefIdeal.τ Cert.InputRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputIdeal_finite_scores [hPre_finite_scores : Cert.Pre_finite_scores.Facts] (m : (ℓ : Loc Cert.OutputIdeal.nD Cert.OutputIdeal.τ Cert.OutputIdeal.sig) → Buf (Elt Ideal) ℓ) : Prop :=
  ∀ c : Dev Cert.OutputIdeal.nD,
    (Cert.Pre_finite_scores.fn (F := Ideal) (m ((c.tc : Thread Cert.OutputIdeal.nD Cert.OutputIdeal.τ).loc Cert.OutputIdeal.main_arg0)) (m ((c.tc : Thread Cert.OutputIdeal.nD Cert.OutputIdeal.τ).loc Cert.OutputIdeal.main_arg1)) (m ((c.tc : Thread Cert.OutputIdeal.nD Cert.OutputIdeal.τ).loc Cert.OutputIdeal.main_arg2)) (m ((c.tc : Thread Cert.OutputIdeal.nD Cert.OutputIdeal.τ).loc Cert.OutputIdeal.main_arg3)) (m ((c.tc : Thread Cert.OutputIdeal.nD Cert.OutputIdeal.τ).loc Cert.OutputIdeal.main_arg4)) (m ((c.tc : Thread Cert.OutputIdeal.nD Cert.OutputIdeal.τ).loc Cert.OutputIdeal.main_arg5)) (m ((c.tc : Thread Cert.OutputIdeal.nD Cert.OutputIdeal.τ).loc Cert.OutputIdeal.main_arg6)) (m ((c.tc : Thread Cert.OutputIdeal.nD Cert.OutputIdeal.τ).loc Cert.OutputIdeal.main_arg7)) (m ((c.tc : Thread Cert.OutputIdeal.nD Cert.OutputIdeal.τ).loc Cert.OutputIdeal.main_arg8))).1 = (fun _ => 1#1)
    ∧ (Cert.Pre_finite_scores.fn (F := Ideal) (m ((c.tc : Thread Cert.OutputIdeal.nD Cert.OutputIdeal.τ).loc Cert.OutputIdeal.main_arg0)) (m ((c.tc : Thread Cert.OutputIdeal.nD Cert.OutputIdeal.τ).loc Cert.OutputIdeal.main_arg1)) (m ((c.tc : Thread Cert.OutputIdeal.nD Cert.OutputIdeal.τ).loc Cert.OutputIdeal.main_arg2)) (m ((c.tc : Thread Cert.OutputIdeal.nD Cert.OutputIdeal.τ).loc Cert.OutputIdeal.main_arg3)) (m ((c.tc : Thread Cert.OutputIdeal.nD Cert.OutputIdeal.τ).loc Cert.OutputIdeal.main_arg4)) (m ((c.tc : Thread Cert.OutputIdeal.nD Cert.OutputIdeal.τ).loc Cert.OutputIdeal.main_arg5)) (m ((c.tc : Thread Cert.OutputIdeal.nD Cert.OutputIdeal.τ).loc Cert.OutputIdeal.main_arg6)) (m ((c.tc : Thread Cert.OutputIdeal.nD Cert.OutputIdeal.τ).loc Cert.OutputIdeal.main_arg7)) (m ((c.tc : Thread Cert.OutputIdeal.nD Cert.OutputIdeal.τ).loc Cert.OutputIdeal.main_arg8))).2 = (fun _ => 1#1)

def Pre_OutputRefIdeal (m : (ℓ : Loc Cert.OutputRefIdeal.nD Cert.OutputRefIdeal.τ Cert.OutputRefIdeal.sig) → Buf (Elt Ideal) ℓ) : Prop :=
  True

def Pre_OutputRefIdeal_finite_scores [hPre_finite_scores : Cert.Pre_finite_scores.Facts] (m : (ℓ : Loc Cert.OutputRefIdeal.nD Cert.OutputRefIdeal.τ Cert.OutputRefIdeal.sig) → Buf (Elt Ideal) ℓ) : Prop :=
  ∀ c : Dev Cert.OutputRefIdeal.nD,
    (Cert.Pre_finite_scores.fn (F := Ideal) (m ((c.tc : Thread Cert.OutputRefIdeal.nD Cert.OutputRefIdeal.τ).loc Cert.OutputRefIdeal.main_arg0)) (m ((c.tc : Thread Cert.OutputRefIdeal.nD Cert.OutputRefIdeal.τ).loc Cert.OutputRefIdeal.main_arg1)) (m ((c.tc : Thread Cert.OutputRefIdeal.nD Cert.OutputRefIdeal.τ).loc Cert.OutputRefIdeal.main_arg2)) (m ((c.tc : Thread Cert.OutputRefIdeal.nD Cert.OutputRefIdeal.τ).loc Cert.OutputRefIdeal.main_arg3)) (m ((c.tc : Thread Cert.OutputRefIdeal.nD Cert.OutputRefIdeal.τ).loc Cert.OutputRefIdeal.main_arg4)) (m ((c.tc : Thread Cert.OutputRefIdeal.nD Cert.OutputRefIdeal.τ).loc Cert.OutputRefIdeal.main_arg5)) (m ((c.tc : Thread Cert.OutputRefIdeal.nD Cert.OutputRefIdeal.τ).loc Cert.OutputRefIdeal.main_arg6)) (m ((c.tc : Thread Cert.OutputRefIdeal.nD Cert.OutputRefIdeal.τ).loc Cert.OutputRefIdeal.main_arg7)) (m ((c.tc : Thread Cert.OutputRefIdeal.nD Cert.OutputRefIdeal.τ).loc Cert.OutputRefIdeal.main_arg8))).1 = (fun _ => 1#1)
    ∧ (Cert.Pre_finite_scores.fn (F := Ideal) (m ((c.tc : Thread Cert.OutputRefIdeal.nD Cert.OutputRefIdeal.τ).loc Cert.OutputRefIdeal.main_arg0)) (m ((c.tc : Thread Cert.OutputRefIdeal.nD Cert.OutputRefIdeal.τ).loc Cert.OutputRefIdeal.main_arg1)) (m ((c.tc : Thread Cert.OutputRefIdeal.nD Cert.OutputRefIdeal.τ).loc Cert.OutputRefIdeal.main_arg2)) (m ((c.tc : Thread Cert.OutputRefIdeal.nD Cert.OutputRefIdeal.τ).loc Cert.OutputRefIdeal.main_arg3)) (m ((c.tc : Thread Cert.OutputRefIdeal.nD Cert.OutputRefIdeal.τ).loc Cert.OutputRefIdeal.main_arg4)) (m ((c.tc : Thread Cert.OutputRefIdeal.nD Cert.OutputRefIdeal.τ).loc Cert.OutputRefIdeal.main_arg5)) (m ((c.tc : Thread Cert.OutputRefIdeal.nD Cert.OutputRefIdeal.τ).loc Cert.OutputRefIdeal.main_arg6)) (m ((c.tc : Thread Cert.OutputRefIdeal.nD Cert.OutputRefIdeal.τ).loc Cert.OutputRefIdeal.main_arg7)) (m ((c.tc : Thread Cert.OutputRefIdeal.nD Cert.OutputRefIdeal.τ).loc Cert.OutputRefIdeal.main_arg8))).2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Filter (m : (ℓ : Loc Cert.Filter.nD Cert.Filter.τ Cert.Filter.sig) → Buf (Elt Bits) ℓ) : Prop :=
  True

def Pre_FilterIdeal (m : (ℓ : Loc Cert.FilterIdeal.nD Cert.FilterIdeal.τ Cert.FilterIdeal.sig) → Buf (Elt Ideal) ℓ) : Prop :=
  True

def Pre_FilterRefIdeal (m : (ℓ : Loc Cert.FilterRefIdeal.nD Cert.FilterRefIdeal.τ Cert.FilterRefIdeal.sig) → Buf (Elt Ideal) ℓ) : Prop :=
  True

def Pre_Spectrum (m : (ℓ : Loc Cert.Spectrum.nD Cert.Spectrum.τ Cert.Spectrum.sig) → Buf (Elt Bits) ℓ) : Prop :=
  True

def Pre_SpectrumIdeal (m : (ℓ : Loc Cert.SpectrumIdeal.nD Cert.SpectrumIdeal.τ Cert.SpectrumIdeal.sig) → Buf (Elt Ideal) ℓ) : Prop :=
  True

def Pre_SpectrumRefIdeal (m : (ℓ : Loc Cert.SpectrumRefIdeal.nD Cert.SpectrumRefIdeal.τ Cert.SpectrumRefIdeal.sig) → Buf (Elt Ideal) ℓ) : Prop :=
  True

def Pre_Signal (m : (ℓ : Loc Cert.Signal.nD Cert.Signal.τ Cert.Signal.sig) → Buf (Elt Bits) ℓ) : Prop :=
  True

def Pre_SignalIdeal (m : (ℓ : Loc Cert.SignalIdeal.nD Cert.SignalIdeal.τ Cert.SignalIdeal.sig) → Buf (Elt Ideal) ℓ) : Prop :=
  True

def Pre_SignalRefIdeal (m : (ℓ : Loc Cert.SignalRefIdeal.nD Cert.SignalRefIdeal.τ Cert.SignalRefIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductRefIdeal (m : (ℓ : Loc Cert.ProductRefIdeal.nD Cert.ProductRefIdeal.τ Cert.ProductRefIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerIdeal_finite_scores [hPre_finite_scores : Cert.Pre_finite_scores.Facts] (m : (ℓ : Loc Cert.InnerIdeal.nD Cert.InnerIdeal.τ Cert.InnerIdeal.sig) → Buf (Elt Ideal) ℓ) : Prop :=
  ∀ c : Dev Cert.InnerIdeal.nD,
    (Cert.Pre_finite_scores.fn (F := Ideal) (m ((c.tc : Thread Cert.InnerIdeal.nD Cert.InnerIdeal.τ).loc Cert.InnerIdeal.main_arg0)) (m ((c.tc : Thread Cert.InnerIdeal.nD Cert.InnerIdeal.τ).loc Cert.InnerIdeal.main_arg1)) (m ((c.tc : Thread Cert.InnerIdeal.nD Cert.InnerIdeal.τ).loc Cert.InnerIdeal.main_arg2)) (m ((c.tc : Thread Cert.InnerIdeal.nD Cert.InnerIdeal.τ).loc Cert.InnerIdeal.main_arg3)) (m ((c.tc : Thread Cert.InnerIdeal.nD Cert.InnerIdeal.τ).loc Cert.InnerIdeal.main_arg4)) (m ((c.tc : Thread Cert.InnerIdeal.nD Cert.InnerIdeal.τ).loc Cert.InnerIdeal.main_arg5)) (m ((c.tc : Thread Cert.InnerIdeal.nD Cert.InnerIdeal.τ).loc Cert.InnerIdeal.main_arg6)) (m ((c.tc : Thread Cert.InnerIdeal.nD Cert.InnerIdeal.τ).loc Cert.InnerIdeal.main_arg7)) (m ((c.tc : Thread Cert.InnerIdeal.nD Cert.InnerIdeal.τ).loc Cert.InnerIdeal.main_arg8))).1 = (fun _ => 1#1)
    ∧ (Cert.Pre_finite_scores.fn (F := Ideal) (m ((c.tc : Thread Cert.InnerIdeal.nD Cert.InnerIdeal.τ).loc Cert.InnerIdeal.main_arg0)) (m ((c.tc : Thread Cert.InnerIdeal.nD Cert.InnerIdeal.τ).loc Cert.InnerIdeal.main_arg1)) (m ((c.tc : Thread Cert.InnerIdeal.nD Cert.InnerIdeal.τ).loc Cert.InnerIdeal.main_arg2)) (m ((c.tc : Thread Cert.InnerIdeal.nD Cert.InnerIdeal.τ).loc Cert.InnerIdeal.main_arg3)) (m ((c.tc : Thread Cert.InnerIdeal.nD Cert.InnerIdeal.τ).loc Cert.InnerIdeal.main_arg4)) (m ((c.tc : Thread Cert.InnerIdeal.nD Cert.InnerIdeal.τ).loc Cert.InnerIdeal.main_arg5)) (m ((c.tc : Thread Cert.InnerIdeal.nD Cert.InnerIdeal.τ).loc Cert.InnerIdeal.main_arg6)) (m ((c.tc : Thread Cert.InnerIdeal.nD Cert.InnerIdeal.τ).loc Cert.InnerIdeal.main_arg7)) (m ((c.tc : Thread Cert.InnerIdeal.nD Cert.InnerIdeal.τ).loc Cert.InnerIdeal.main_arg8))).2 = (fun _ => 1#1)

def Pre_InnerRefIdeal (m : (ℓ : Loc Cert.InnerRefIdeal.nD Cert.InnerRefIdeal.τ Cert.InnerRefIdeal.sig) → Buf (Elt Ideal) ℓ) : Prop :=
  True

def Pre_InnerRefIdeal_finite_scores [hPre_finite_scores : Cert.Pre_finite_scores.Facts] (m : (ℓ : Loc Cert.InnerRefIdeal.nD Cert.InnerRefIdeal.τ Cert.InnerRefIdeal.sig) → Buf (Elt Ideal) ℓ) : Prop :=
  ∀ c : Dev Cert.InnerRefIdeal.nD,
    (Cert.Pre_finite_scores.fn (F := Ideal) (m ((c.tc : Thread Cert.InnerRefIdeal.nD Cert.InnerRefIdeal.τ).loc Cert.InnerRefIdeal.main_arg0)) (m ((c.tc : Thread Cert.InnerRefIdeal.nD Cert.InnerRefIdeal.τ).loc Cert.InnerRefIdeal.main_arg1)) (m ((c.tc : Thread Cert.InnerRefIdeal.nD Cert.InnerRefIdeal.τ).loc Cert.InnerRefIdeal.main_arg2)) (m ((c.tc : Thread Cert.InnerRefIdeal.nD Cert.InnerRefIdeal.τ).loc Cert.InnerRefIdeal.main_arg3)) (m ((c.tc : Thread Cert.InnerRefIdeal.nD Cert.InnerRefIdeal.τ).loc Cert.InnerRefIdeal.main_arg4)) (m ((c.tc : Thread Cert.InnerRefIdeal.nD Cert.InnerRefIdeal.τ).loc Cert.InnerRefIdeal.main_arg5)) (m ((c.tc : Thread Cert.InnerRefIdeal.nD Cert.InnerRefIdeal.τ).loc Cert.InnerRefIdeal.main_arg6)) (m ((c.tc : Thread Cert.InnerRefIdeal.nD Cert.InnerRefIdeal.τ).loc Cert.InnerRefIdeal.main_arg7)) (m ((c.tc : Thread Cert.InnerRefIdeal.nD Cert.InnerRefIdeal.τ).loc Cert.InnerRefIdeal.main_arg8))).1 = (fun _ => 1#1)
    ∧ (Cert.Pre_finite_scores.fn (F := Ideal) (m ((c.tc : Thread Cert.InnerRefIdeal.nD Cert.InnerRefIdeal.τ).loc Cert.InnerRefIdeal.main_arg0)) (m ((c.tc : Thread Cert.InnerRefIdeal.nD Cert.InnerRefIdeal.τ).loc Cert.InnerRefIdeal.main_arg1)) (m ((c.tc : Thread Cert.InnerRefIdeal.nD Cert.InnerRefIdeal.τ).loc Cert.InnerRefIdeal.main_arg2)) (m ((c.tc : Thread Cert.InnerRefIdeal.nD Cert.InnerRefIdeal.τ).loc Cert.InnerRefIdeal.main_arg3)) (m ((c.tc : Thread Cert.InnerRefIdeal.nD Cert.InnerRefIdeal.τ).loc Cert.InnerRefIdeal.main_arg4)) (m ((c.tc : Thread Cert.InnerRefIdeal.nD Cert.InnerRefIdeal.τ).loc Cert.InnerRefIdeal.main_arg5)) (m ((c.tc : Thread Cert.InnerRefIdeal.nD Cert.InnerRefIdeal.τ).loc Cert.InnerRefIdeal.main_arg6)) (m ((c.tc : Thread Cert.InnerRefIdeal.nD Cert.InnerRefIdeal.τ).loc Cert.InnerRefIdeal.main_arg7)) (m ((c.tc : Thread Cert.InnerRefIdeal.nD Cert.InnerRefIdeal.τ).loc Cert.InnerRefIdeal.main_arg8))).2 = (fun _ => 1#1)

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondIdeal_finite_inputs [hPre_finite_inputs : Cert.Pre_finite_inputs.Facts] (m : (ℓ : Loc Cert.SecondIdeal.nD Cert.SecondIdeal.τ Cert.SecondIdeal.sig) → Buf (Elt Ideal) ℓ) : Prop :=
  ∀ c : Dev Cert.SecondIdeal.nD,
    (Cert.Pre_finite_inputs.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8))).1 = (fun _ => 1#1)
    ∧ (Cert.Pre_finite_inputs.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8))).2.1 = (fun _ => 1#1)
    ∧ (Cert.Pre_finite_inputs.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8))).2.2.1 = (fun _ => 1#1)
    ∧ (Cert.Pre_finite_inputs.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8))).2.2.2.1 = (fun _ => 1#1)
    ∧ (Cert.Pre_finite_inputs.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8))).2.2.2.2 = (fun _ => 1#1)

def Pre_SecondRefIdeal (m : (ℓ : Loc Cert.SecondRefIdeal.nD Cert.SecondRefIdeal.τ Cert.SecondRefIdeal.sig) → Buf (Elt Ideal) ℓ) : Prop :=
  True

def Pre_SecondRefIdeal_finite_inputs [hPre_finite_inputs : Cert.Pre_finite_inputs.Facts] (m : (ℓ : Loc Cert.SecondRefIdeal.nD Cert.SecondRefIdeal.τ Cert.SecondRefIdeal.sig) → Buf (Elt Ideal) ℓ) : Prop :=
  ∀ c : Dev Cert.SecondRefIdeal.nD,
    (Cert.Pre_finite_inputs.fn (F := Ideal) (m ((c.tc : Thread Cert.SecondRefIdeal.nD Cert.SecondRefIdeal.τ).loc Cert.SecondRefIdeal.main_arg0)) (m ((c.tc : Thread Cert.SecondRefIdeal.nD Cert.SecondRefIdeal.τ).loc Cert.SecondRefIdeal.main_arg1)) (m ((c.tc : Thread Cert.SecondRefIdeal.nD Cert.SecondRefIdeal.τ).loc Cert.SecondRefIdeal.main_arg2)) (m ((c.tc : Thread Cert.SecondRefIdeal.nD Cert.SecondRefIdeal.τ).loc Cert.SecondRefIdeal.main_arg3)) (m ((c.tc : Thread Cert.SecondRefIdeal.nD Cert.SecondRefIdeal.τ).loc Cert.SecondRefIdeal.main_arg4)) (m ((c.tc : Thread Cert.SecondRefIdeal.nD Cert.SecondRefIdeal.τ).loc Cert.SecondRefIdeal.main_arg5)) (m ((c.tc : Thread Cert.SecondRefIdeal.nD Cert.SecondRefIdeal.τ).loc Cert.SecondRefIdeal.main_arg6)) (m ((c.tc : Thread Cert.SecondRefIdeal.nD Cert.SecondRefIdeal.τ).loc Cert.SecondRefIdeal.main_arg7)) (m ((c.tc : Thread Cert.SecondRefIdeal.nD Cert.SecondRefIdeal.τ).loc Cert.SecondRefIdeal.main_arg8))).1 = (fun _ => 1#1)
    ∧ (Cert.Pre_finite_inputs.fn (F := Ideal) (m ((c.tc : Thread Cert.SecondRefIdeal.nD Cert.SecondRefIdeal.τ).loc Cert.SecondRefIdeal.main_arg0)) (m ((c.tc : Thread Cert.SecondRefIdeal.nD Cert.SecondRefIdeal.τ).loc Cert.SecondRefIdeal.main_arg1)) (m ((c.tc : Thread Cert.SecondRefIdeal.nD Cert.SecondRefIdeal.τ).loc Cert.SecondRefIdeal.main_arg2)) (m ((c.tc : Thread Cert.SecondRefIdeal.nD Cert.SecondRefIdeal.τ).loc Cert.SecondRefIdeal.main_arg3)) (m ((c.tc : Thread Cert.SecondRefIdeal.nD Cert.SecondRefIdeal.τ).loc Cert.SecondRefIdeal.main_arg4)) (m ((c.tc : Thread Cert.SecondRefIdeal.nD Cert.SecondRefIdeal.τ).loc Cert.SecondRefIdeal.main_arg5)) (m ((c.tc : Thread Cert.SecondRefIdeal.nD Cert.SecondRefIdeal.τ).loc Cert.SecondRefIdeal.main_arg6)) (m ((c.tc : Thread Cert.SecondRefIdeal.nD Cert.SecondRefIdeal.τ).loc Cert.SecondRefIdeal.main_arg7)) (m ((c.tc : Thread Cert.SecondRefIdeal.nD Cert.SecondRefIdeal.τ).loc Cert.SecondRefIdeal.main_arg8))).2.1 = (fun _ => 1#1)
    ∧ (Cert.Pre_finite_inputs.fn (F := Ideal) (m ((c.tc : Thread Cert.SecondRefIdeal.nD Cert.SecondRefIdeal.τ).loc Cert.SecondRefIdeal.main_arg0)) (m ((c.tc : Thread Cert.SecondRefIdeal.nD Cert.SecondRefIdeal.τ).loc Cert.SecondRefIdeal.main_arg1)) (m ((c.tc : Thread Cert.SecondRefIdeal.nD Cert.SecondRefIdeal.τ).loc Cert.SecondRefIdeal.main_arg2)) (m ((c.tc : Thread Cert.SecondRefIdeal.nD Cert.SecondRefIdeal.τ).loc Cert.SecondRefIdeal.main_arg3)) (m ((c.tc : Thread Cert.SecondRefIdeal.nD Cert.SecondRefIdeal.τ).loc Cert.SecondRefIdeal.main_arg4)) (m ((c.tc : Thread Cert.SecondRefIdeal.nD Cert.SecondRefIdeal.τ).loc Cert.SecondRefIdeal.main_arg5)) (m ((c.tc : Thread Cert.SecondRefIdeal.nD Cert.SecondRefIdeal.τ).loc Cert.SecondRefIdeal.main_arg6)) (m ((c.tc : Thread Cert.SecondRefIdeal.nD Cert.SecondRefIdeal.τ).loc Cert.SecondRefIdeal.main_arg7)) (m ((c.tc : Thread Cert.SecondRefIdeal.nD Cert.SecondRefIdeal.τ).loc Cert.SecondRefIdeal.main_arg8))).2.2.1 = (fun _ => 1#1)
    ∧ (Cert.Pre_finite_inputs.fn (F := Ideal) (m ((c.tc : Thread Cert.SecondRefIdeal.nD Cert.SecondRefIdeal.τ).loc Cert.SecondRefIdeal.main_arg0)) (m ((c.tc : Thread Cert.SecondRefIdeal.nD Cert.SecondRefIdeal.τ).loc Cert.SecondRefIdeal.main_arg1)) (m ((c.tc : Thread Cert.SecondRefIdeal.nD Cert.SecondRefIdeal.τ).loc Cert.SecondRefIdeal.main_arg2)) (m ((c.tc : Thread Cert.SecondRefIdeal.nD Cert.SecondRefIdeal.τ).loc Cert.SecondRefIdeal.main_arg3)) (m ((c.tc : Thread Cert.SecondRefIdeal.nD Cert.SecondRefIdeal.τ).loc Cert.SecondRefIdeal.main_arg4)) (m ((c.tc : Thread Cert.SecondRefIdeal.nD Cert.SecondRefIdeal.τ).loc Cert.SecondRefIdeal.main_arg5)) (m ((c.tc : Thread Cert.SecondRefIdeal.nD Cert.SecondRefIdeal.τ).loc Cert.SecondRefIdeal.main_arg6)) (m ((c.tc : Thread Cert.SecondRefIdeal.nD Cert.SecondRefIdeal.τ).loc Cert.SecondRefIdeal.main_arg7)) (m ((c.tc : Thread Cert.SecondRefIdeal.nD Cert.SecondRefIdeal.τ).loc Cert.SecondRefIdeal.main_arg8))).2.2.2.1 = (fun _ => 1#1)
    ∧ (Cert.Pre_finite_inputs.fn (F := Ideal) (m ((c.tc : Thread Cert.SecondRefIdeal.nD Cert.SecondRefIdeal.τ).loc Cert.SecondRefIdeal.main_arg0)) (m ((c.tc : Thread Cert.SecondRefIdeal.nD Cert.SecondRefIdeal.τ).loc Cert.SecondRefIdeal.main_arg1)) (m ((c.tc : Thread Cert.SecondRefIdeal.nD Cert.SecondRefIdeal.τ).loc Cert.SecondRefIdeal.main_arg2)) (m ((c.tc : Thread Cert.SecondRefIdeal.nD Cert.SecondRefIdeal.τ).loc Cert.SecondRefIdeal.main_arg3)) (m ((c.tc : Thread Cert.SecondRefIdeal.nD Cert.SecondRefIdeal.τ).loc Cert.SecondRefIdeal.main_arg4)) (m ((c.tc : Thread Cert.SecondRefIdeal.nD Cert.SecondRefIdeal.τ).loc Cert.SecondRefIdeal.main_arg5)) (m ((c.tc : Thread Cert.SecondRefIdeal.nD Cert.SecondRefIdeal.τ).loc Cert.SecondRefIdeal.main_arg6)) (m ((c.tc : Thread Cert.SecondRefIdeal.nD Cert.SecondRefIdeal.τ).loc Cert.SecondRefIdeal.main_arg7)) (m ((c.tc : Thread Cert.SecondRefIdeal.nD Cert.SecondRefIdeal.τ).loc Cert.SecondRefIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7)
      ∧ r.2.mem ((c.tc : Thread Cert.Output.nD Cert.Output.τ).loc Cert.Output.main_arg8) = m ((c.tc : Thread Cert.Output.nD Cert.Output.τ).loc Cert.Output.main_arg8))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ r.2.sem = fun _ => 0)

def quiescent_OutputIdeal_pre_finite_scores [hOutputIdeal : Cert.OutputIdeal.Facts] [hPre_finite_scores : Cert.Pre_finite_scores.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal_finite_scores m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ r.2.sem = fun _ => 0)

def quiescent_OutputRefIdeal [hOutputRefIdeal : Cert.OutputRefIdeal.Facts] : Prop :=
  ∀ (m : (ℓ : Loc Cert.OutputRefIdeal.nD Cert.OutputRefIdeal.τ Cert.OutputRefIdeal.sig) → Buf (Elt Ideal) ℓ) (g : Dev Cert.OutputRefIdeal.nD → PrngReg), Pre_OutputRefIdeal m →
    θ_run (Cert.OutputRefIdeal.defs (F := Ideal)) (onTc (τ := Cert.OutputRefIdeal.τ) (Cert.OutputRefIdeal.main (F := Ideal))) ⟨m, fun _ => 0, g⟩ (fun r => (∀ c : Dev Cert.OutputRefIdeal.nD,
      r.2.mem ((c.tc : Thread Cert.OutputRefIdeal.nD Cert.OutputRefIdeal.τ).loc Cert.OutputRefIdeal.main_arg0) = m ((c.tc : Thread Cert.OutputRefIdeal.nD Cert.OutputRefIdeal.τ).loc Cert.OutputRefIdeal.main_arg0)
      ∧ r.2.mem ((c.tc : Thread Cert.OutputRefIdeal.nD Cert.OutputRefIdeal.τ).loc Cert.OutputRefIdeal.main_arg1) = m ((c.tc : Thread Cert.OutputRefIdeal.nD Cert.OutputRefIdeal.τ).loc Cert.OutputRefIdeal.main_arg1)
      ∧ r.2.mem ((c.tc : Thread Cert.OutputRefIdeal.nD Cert.OutputRefIdeal.τ).loc Cert.OutputRefIdeal.main_arg2) = m ((c.tc : Thread Cert.OutputRefIdeal.nD Cert.OutputRefIdeal.τ).loc Cert.OutputRefIdeal.main_arg2)
      ∧ r.2.mem ((c.tc : Thread Cert.OutputRefIdeal.nD Cert.OutputRefIdeal.τ).loc Cert.OutputRefIdeal.main_arg3) = m ((c.tc : Thread Cert.OutputRefIdeal.nD Cert.OutputRefIdeal.τ).loc Cert.OutputRefIdeal.main_arg3)
      ∧ r.2.mem ((c.tc : Thread Cert.OutputRefIdeal.nD Cert.OutputRefIdeal.τ).loc Cert.OutputRefIdeal.main_arg4) = m ((c.tc : Thread Cert.OutputRefIdeal.nD Cert.OutputRefIdeal.τ).loc Cert.OutputRefIdeal.main_arg4)
      ∧ r.2.mem ((c.tc : Thread Cert.OutputRefIdeal.nD Cert.OutputRefIdeal.τ).loc Cert.OutputRefIdeal.main_arg5) = m ((c.tc : Thread Cert.OutputRefIdeal.nD Cert.OutputRefIdeal.τ).loc Cert.OutputRefIdeal.main_arg5)
      ∧ r.2.mem ((c.tc : Thread Cert.OutputRefIdeal.nD Cert.OutputRefIdeal.τ).loc Cert.OutputRefIdeal.main_arg6) = m ((c.tc : Thread Cert.OutputRefIdeal.nD Cert.OutputRefIdeal.τ).loc Cert.OutputRefIdeal.main_arg6)
      ∧ r.2.mem ((c.tc : Thread Cert.OutputRefIdeal.nD Cert.OutputRefIdeal.τ).loc Cert.OutputRefIdeal.main_arg7) = m ((c.tc : Thread Cert.OutputRefIdeal.nD Cert.OutputRefIdeal.τ).loc Cert.OutputRefIdeal.main_arg7)
      ∧ r.2.mem ((c.tc : Thread Cert.OutputRefIdeal.nD Cert.OutputRefIdeal.τ).loc Cert.OutputRefIdeal.main_arg8) = m ((c.tc : Thread Cert.OutputRefIdeal.nD Cert.OutputRefIdeal.τ).loc Cert.OutputRefIdeal.main_arg8))
      ∧ r.2.sem = fun _ => 0)

def quiescent_OutputRefIdeal_pre_finite_scores [hOutputRefIdeal : Cert.OutputRefIdeal.Facts] [hPre_finite_scores : Cert.Pre_finite_scores.Facts] : Prop :=
  ∀ (m : (ℓ : Loc Cert.OutputRefIdeal.nD Cert.OutputRefIdeal.τ Cert.OutputRefIdeal.sig) → Buf (Elt Ideal) ℓ) (g : Dev Cert.OutputRefIdeal.nD → PrngReg), Pre_OutputRefIdeal_finite_scores m →
    θ_run (Cert.OutputRefIdeal.defs (F := Ideal)) (onTc (τ := Cert.OutputRefIdeal.τ) (Cert.OutputRefIdeal.main (F := Ideal))) ⟨m, fun _ => 0, g⟩ (fun r => (∀ c : Dev Cert.OutputRefIdeal.nD,
      r.2.mem ((c.tc : Thread Cert.OutputRefIdeal.nD Cert.OutputRefIdeal.τ).loc Cert.OutputRefIdeal.main_arg0) = m ((c.tc : Thread Cert.OutputRefIdeal.nD Cert.OutputRefIdeal.τ).loc Cert.OutputRefIdeal.main_arg0)
      ∧ r.2.mem ((c.tc : Thread Cert.OutputRefIdeal.nD Cert.OutputRefIdeal.τ).loc Cert.OutputRefIdeal.main_arg1) = m ((c.tc : Thread Cert.OutputRefIdeal.nD Cert.OutputRefIdeal.τ).loc Cert.OutputRefIdeal.main_arg1)
      ∧ r.2.mem ((c.tc : Thread Cert.OutputRefIdeal.nD Cert.OutputRefIdeal.τ).loc Cert.OutputRefIdeal.main_arg2) = m ((c.tc : Thread Cert.OutputRefIdeal.nD Cert.OutputRefIdeal.τ).loc Cert.OutputRefIdeal.main_arg2)
      ∧ r.2.mem ((c.tc : Thread Cert.OutputRefIdeal.nD Cert.OutputRefIdeal.τ).loc Cert.OutputRefIdeal.main_arg3) = m ((c.tc : Thread Cert.OutputRefIdeal.nD Cert.OutputRefIdeal.τ).loc Cert.OutputRefIdeal.main_arg3)
      ∧ r.2.mem ((c.tc : Thread Cert.OutputRefIdeal.nD Cert.OutputRefIdeal.τ).loc Cert.OutputRefIdeal.main_arg4) = m ((c.tc : Thread Cert.OutputRefIdeal.nD Cert.OutputRefIdeal.τ).loc Cert.OutputRefIdeal.main_arg4)
      ∧ r.2.mem ((c.tc : Thread Cert.OutputRefIdeal.nD Cert.OutputRefIdeal.τ).loc Cert.OutputRefIdeal.main_arg5) = m ((c.tc : Thread Cert.OutputRefIdeal.nD Cert.OutputRefIdeal.τ).loc Cert.OutputRefIdeal.main_arg5)
      ∧ r.2.mem ((c.tc : Thread Cert.OutputRefIdeal.nD Cert.OutputRefIdeal.τ).loc Cert.OutputRefIdeal.main_arg6) = m ((c.tc : Thread Cert.OutputRefIdeal.nD Cert.OutputRefIdeal.τ).loc Cert.OutputRefIdeal.main_arg6)
      ∧ r.2.mem ((c.tc : Thread Cert.OutputRefIdeal.nD Cert.OutputRefIdeal.τ).loc Cert.OutputRefIdeal.main_arg7) = m ((c.tc : Thread Cert.OutputRefIdeal.nD Cert.OutputRefIdeal.τ).loc Cert.OutputRefIdeal.main_arg7)
      ∧ r.2.mem ((c.tc : Thread Cert.OutputRefIdeal.nD Cert.OutputRefIdeal.τ).loc Cert.OutputRefIdeal.main_arg8) = m ((c.tc : Thread Cert.OutputRefIdeal.nD Cert.OutputRefIdeal.τ).loc Cert.OutputRefIdeal.main_arg8))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Filter [hFilter : Cert.Filter.Facts] : Prop :=
  ∀ (m : (ℓ : Loc Cert.Filter.nD Cert.Filter.τ Cert.Filter.sig) → Buf (Elt Bits) ℓ) (g : Dev Cert.Filter.nD → PrngReg), Pre_Filter m →
    θ_run (Cert.Filter.defs (F := Bits)) (onTc (τ := Cert.Filter.τ) (Cert.Filter.main (F := Bits))) ⟨m, fun _ => 0, g⟩ (fun r => (∀ c : Dev Cert.Filter.nD,
      r.2.mem ((c.tc : Thread Cert.Filter.nD Cert.Filter.τ).loc Cert.Filter.main_arg0) = m ((c.tc : Thread Cert.Filter.nD Cert.Filter.τ).loc Cert.Filter.main_arg0)
      ∧ r.2.mem ((c.tc : Thread Cert.Filter.nD Cert.Filter.τ).loc Cert.Filter.main_arg1) = m ((c.tc : Thread Cert.Filter.nD Cert.Filter.τ).loc Cert.Filter.main_arg1)
      ∧ r.2.mem ((c.tc : Thread Cert.Filter.nD Cert.Filter.τ).loc Cert.Filter.main_arg2) = m ((c.tc : Thread Cert.Filter.nD Cert.Filter.τ).loc Cert.Filter.main_arg2)
      ∧ r.2.mem ((c.tc : Thread Cert.Filter.nD Cert.Filter.τ).loc Cert.Filter.main_arg3) = m ((c.tc : Thread Cert.Filter.nD Cert.Filter.τ).loc Cert.Filter.main_arg3)
      ∧ r.2.mem ((c.tc : Thread Cert.Filter.nD Cert.Filter.τ).loc Cert.Filter.main_arg4) = m ((c.tc : Thread Cert.Filter.nD Cert.Filter.τ).loc Cert.Filter.main_arg4)
      ∧ r.2.mem ((c.tc : Thread Cert.Filter.nD Cert.Filter.τ).loc Cert.Filter.main_arg5) = m ((c.tc : Thread Cert.Filter.nD Cert.Filter.τ).loc Cert.Filter.main_arg5)
      ∧ r.2.mem ((c.tc : Thread Cert.Filter.nD Cert.Filter.τ).loc Cert.Filter.main_arg6) = m ((c.tc : Thread Cert.Filter.nD Cert.Filter.τ).loc Cert.Filter.main_arg6)
      ∧ r.2.mem ((c.tc : Thread Cert.Filter.nD Cert.Filter.τ).loc Cert.Filter.main_arg7) = m ((c.tc : Thread Cert.Filter.nD Cert.Filter.τ).loc Cert.Filter.main_arg7)
      ∧ r.2.mem ((c.tc : Thread Cert.Filter.nD Cert.Filter.τ).loc Cert.Filter.main_arg8) = m ((c.tc : Thread Cert.Filter.nD Cert.Filter.τ).loc Cert.Filter.main_arg8)
      ∧ r.2.mem ((c.tc : Thread Cert.Filter.nD Cert.Filter.τ).loc Cert.Filter.main_arg9) = m ((c.tc : Thread Cert.Filter.nD Cert.Filter.τ).loc Cert.Filter.main_arg9))
      ∧ r.2.sem = fun _ => 0)

def quiescent_FilterIdeal [hFilterIdeal : Cert.FilterIdeal.Facts] : Prop :=
  ∀ (m : (ℓ : Loc Cert.FilterIdeal.nD Cert.FilterIdeal.τ Cert.FilterIdeal.sig) → Buf (Elt Ideal) ℓ) (g : Dev Cert.FilterIdeal.nD → PrngReg), Pre_FilterIdeal m →
    θ_run (Cert.FilterIdeal.defs (F := Ideal)) (onTc (τ := Cert.FilterIdeal.τ) (Cert.FilterIdeal.main (F := Ideal))) ⟨m, fun _ => 0, g⟩ (fun r => (∀ c : Dev Cert.FilterIdeal.nD,
      r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
      ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
      ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
      ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
      ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
      ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
      ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6)
      ∧ r.2.mem ((c.tc : Thread Cert.FilterIdeal.nD Cert.FilterIdeal.τ).loc Cert.FilterIdeal.main_arg7) = m ((c.tc : Thread Cert.FilterIdeal.nD Cert.FilterIdeal.τ).loc Cert.FilterIdeal.main_arg7)
      ∧ r.2.mem ((c.tc : Thread Cert.FilterIdeal.nD Cert.FilterIdeal.τ).loc Cert.FilterIdeal.main_arg8) = m ((c.tc : Thread Cert.FilterIdeal.nD Cert.FilterIdeal.τ).loc Cert.FilterIdeal.main_arg8)
      ∧ r.2.mem ((c.tc : Thread Cert.FilterIdeal.nD Cert.FilterIdeal.τ).loc Cert.FilterIdeal.main_arg9) = m ((c.tc : Thread Cert.FilterIdeal.nD Cert.FilterIdeal.τ).loc Cert.FilterIdeal.main_arg9))
      ∧ r.2.sem = fun _ => 0)

def quiescent_FilterRefIdeal [hFilterRefIdeal : Cert.FilterRefIdeal.Facts] : Prop :=
  ∀ (m : (ℓ : Loc Cert.FilterRefIdeal.nD Cert.FilterRefIdeal.τ Cert.FilterRefIdeal.sig) → Buf (Elt Ideal) ℓ) (g : Dev Cert.FilterRefIdeal.nD → PrngReg), Pre_FilterRefIdeal m →
    θ_run (Cert.FilterRefIdeal.defs (F := Ideal)) (onTc (τ := Cert.FilterRefIdeal.τ) (Cert.FilterRefIdeal.main (F := Ideal))) ⟨m, fun _ => 0, g⟩ (fun r => (∀ c : Dev Cert.FilterRefIdeal.nD,
      r.2.mem ((c.tc : Thread Cert.FilterRefIdeal.nD Cert.FilterRefIdeal.τ).loc Cert.FilterRefIdeal.main_arg0) = m ((c.tc : Thread Cert.FilterRefIdeal.nD Cert.FilterRefIdeal.τ).loc Cert.FilterRefIdeal.main_arg0)
      ∧ r.2.mem ((c.tc : Thread Cert.FilterRefIdeal.nD Cert.FilterRefIdeal.τ).loc Cert.FilterRefIdeal.main_arg1) = m ((c.tc : Thread Cert.FilterRefIdeal.nD Cert.FilterRefIdeal.τ).loc Cert.FilterRefIdeal.main_arg1)
      ∧ r.2.mem ((c.tc : Thread Cert.FilterRefIdeal.nD Cert.FilterRefIdeal.τ).loc Cert.FilterRefIdeal.main_arg2) = m ((c.tc : Thread Cert.FilterRefIdeal.nD Cert.FilterRefIdeal.τ).loc Cert.FilterRefIdeal.main_arg2)
      ∧ r.2.mem ((c.tc : Thread Cert.FilterRefIdeal.nD Cert.FilterRefIdeal.τ).loc Cert.FilterRefIdeal.main_arg3) = m ((c.tc : Thread Cert.FilterRefIdeal.nD Cert.FilterRefIdeal.τ).loc Cert.FilterRefIdeal.main_arg3)
      ∧ r.2.mem ((c.tc : Thread Cert.FilterRefIdeal.nD Cert.FilterRefIdeal.τ).loc Cert.FilterRefIdeal.main_arg4) = m ((c.tc : Thread Cert.FilterRefIdeal.nD Cert.FilterRefIdeal.τ).loc Cert.FilterRefIdeal.main_arg4)
      ∧ r.2.mem ((c.tc : Thread Cert.FilterRefIdeal.nD Cert.FilterRefIdeal.τ).loc Cert.FilterRefIdeal.main_arg5) = m ((c.tc : Thread Cert.FilterRefIdeal.nD Cert.FilterRefIdeal.τ).loc Cert.FilterRefIdeal.main_arg5)
      ∧ r.2.mem ((c.tc : Thread Cert.FilterRefIdeal.nD Cert.FilterRefIdeal.τ).loc Cert.FilterRefIdeal.main_arg6) = m ((c.tc : Thread Cert.FilterRefIdeal.nD Cert.FilterRefIdeal.τ).loc Cert.FilterRefIdeal.main_arg6)
      ∧ r.2.mem ((c.tc : Thread Cert.FilterRefIdeal.nD Cert.FilterRefIdeal.τ).loc Cert.FilterRefIdeal.main_arg7) = m ((c.tc : Thread Cert.FilterRefIdeal.nD Cert.FilterRefIdeal.τ).loc Cert.FilterRefIdeal.main_arg7)
      ∧ r.2.mem ((c.tc : Thread Cert.FilterRefIdeal.nD Cert.FilterRefIdeal.τ).loc Cert.FilterRefIdeal.main_arg8) = m ((c.tc : Thread Cert.FilterRefIdeal.nD Cert.FilterRefIdeal.τ).loc Cert.FilterRefIdeal.main_arg8)
      ∧ r.2.mem ((c.tc : Thread Cert.FilterRefIdeal.nD Cert.FilterRefIdeal.τ).loc Cert.FilterRefIdeal.main_arg9) = m ((c.tc : Thread Cert.FilterRefIdeal.nD Cert.FilterRefIdeal.τ).loc Cert.FilterRefIdeal.main_arg9))
      ∧ r.2.sem = fun _ => 0)

def quiescent_Spectrum [hSpectrum : Cert.Spectrum.Facts] : Prop :=
  ∀ (m : (ℓ : Loc Cert.Spectrum.nD Cert.Spectrum.τ Cert.Spectrum.sig) → Buf (Elt Bits) ℓ) (g : Dev Cert.Spectrum.nD → PrngReg), Pre_Spectrum m →
    θ_run (Cert.Spectrum.defs (F := Bits)) (onTc (τ := Cert.Spectrum.τ) (Cert.Spectrum.main (F := Bits))) ⟨m, fun _ => 0, g⟩ (fun r => (∀ c : Dev Cert.Spectrum.nD,
      r.2.mem ((c.tc : Thread Cert.Spectrum.nD Cert.Spectrum.τ).loc Cert.Spectrum.main_arg0) = m ((c.tc : Thread Cert.Spectrum.nD Cert.Spectrum.τ).loc Cert.Spectrum.main_arg0)
      ∧ r.2.mem ((c.tc : Thread Cert.Spectrum.nD Cert.Spectrum.τ).loc Cert.Spectrum.main_arg1) = m ((c.tc : Thread Cert.Spectrum.nD Cert.Spectrum.τ).loc Cert.Spectrum.main_arg1))
      ∧ r.2.sem = fun _ => 0)

def quiescent_SpectrumIdeal [hSpectrumIdeal : Cert.SpectrumIdeal.Facts] : Prop :=
  ∀ (m : (ℓ : Loc Cert.SpectrumIdeal.nD Cert.SpectrumIdeal.τ Cert.SpectrumIdeal.sig) → Buf (Elt Ideal) ℓ) (g : Dev Cert.SpectrumIdeal.nD → PrngReg), Pre_SpectrumIdeal m →
    θ_run (Cert.SpectrumIdeal.defs (F := Ideal)) (onTc (τ := Cert.SpectrumIdeal.τ) (Cert.SpectrumIdeal.main (F := Ideal))) ⟨m, fun _ => 0, g⟩ (fun r => (∀ c : Dev Cert.SpectrumIdeal.nD,
      r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
      ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1))
      ∧ r.2.sem = fun _ => 0)

def quiescent_SpectrumRefIdeal [hSpectrumRefIdeal : Cert.SpectrumRefIdeal.Facts] : Prop :=
  ∀ (m : (ℓ : Loc Cert.SpectrumRefIdeal.nD Cert.SpectrumRefIdeal.τ Cert.SpectrumRefIdeal.sig) → Buf (Elt Ideal) ℓ) (g : Dev Cert.SpectrumRefIdeal.nD → PrngReg), Pre_SpectrumRefIdeal m →
    θ_run (Cert.SpectrumRefIdeal.defs (F := Ideal)) (onTc (τ := Cert.SpectrumRefIdeal.τ) (Cert.SpectrumRefIdeal.main (F := Ideal))) ⟨m, fun _ => 0, g⟩ (fun r => (∀ c : Dev Cert.SpectrumRefIdeal.nD,
      r.2.mem ((c.tc : Thread Cert.SpectrumRefIdeal.nD Cert.SpectrumRefIdeal.τ).loc Cert.SpectrumRefIdeal.main_arg0) = m ((c.tc : Thread Cert.SpectrumRefIdeal.nD Cert.SpectrumRefIdeal.τ).loc Cert.SpectrumRefIdeal.main_arg0)
      ∧ r.2.mem ((c.tc : Thread Cert.SpectrumRefIdeal.nD Cert.SpectrumRefIdeal.τ).loc Cert.SpectrumRefIdeal.main_arg1) = m ((c.tc : Thread Cert.SpectrumRefIdeal.nD Cert.SpectrumRefIdeal.τ).loc Cert.SpectrumRefIdeal.main_arg1))
      ∧ r.2.sem = fun _ => 0)

def quiescent_Signal [hSignal : Cert.Signal.Facts] : Prop :=
  ∀ (m : (ℓ : Loc Cert.Signal.nD Cert.Signal.τ Cert.Signal.sig) → Buf (Elt Bits) ℓ) (g : Dev Cert.Signal.nD → PrngReg), Pre_Signal m →
    θ_run (Cert.Signal.defs (F := Bits)) (onTc (τ := Cert.Signal.τ) (Cert.Signal.main (F := Bits))) ⟨m, fun _ => 0, g⟩ (fun r => (∀ c : Dev Cert.Signal.nD,
      r.2.mem ((c.tc : Thread Cert.Signal.nD Cert.Signal.τ).loc Cert.Signal.main_arg0) = m ((c.tc : Thread Cert.Signal.nD Cert.Signal.τ).loc Cert.Signal.main_arg0)
      ∧ r.2.mem ((c.tc : Thread Cert.Signal.nD Cert.Signal.τ).loc Cert.Signal.main_arg1) = m ((c.tc : Thread Cert.Signal.nD Cert.Signal.τ).loc Cert.Signal.main_arg1))
      ∧ r.2.sem = fun _ => 0)

def quiescent_SignalIdeal [hSignalIdeal : Cert.SignalIdeal.Facts] : Prop :=
  ∀ (m : (ℓ : Loc Cert.SignalIdeal.nD Cert.SignalIdeal.τ Cert.SignalIdeal.sig) → Buf (Elt Ideal) ℓ) (g : Dev Cert.SignalIdeal.nD → PrngReg), Pre_SignalIdeal m →
    θ_run (Cert.SignalIdeal.defs (F := Ideal)) (onTc (τ := Cert.SignalIdeal.τ) (Cert.SignalIdeal.main (F := Ideal))) ⟨m, fun _ => 0, g⟩ (fun r => (∀ c : Dev Cert.SignalIdeal.nD,
      r.2.mem ((c.tc : Thread Cert.SignalIdeal.nD Cert.SignalIdeal.τ).loc Cert.SignalIdeal.main_arg0) = m ((c.tc : Thread Cert.SignalIdeal.nD Cert.SignalIdeal.τ).loc Cert.SignalIdeal.main_arg0)
      ∧ r.2.mem ((c.tc : Thread Cert.SignalIdeal.nD Cert.SignalIdeal.τ).loc Cert.SignalIdeal.main_arg1) = m ((c.tc : Thread Cert.SignalIdeal.nD Cert.SignalIdeal.τ).loc Cert.SignalIdeal.main_arg1))
      ∧ r.2.sem = fun _ => 0)

def quiescent_SignalRefIdeal [hSignalRefIdeal : Cert.SignalRefIdeal.Facts] : Prop :=
  ∀ (m : (ℓ : Loc Cert.SignalRefIdeal.nD Cert.SignalRefIdeal.τ Cert.SignalRefIdeal.sig) → Buf (Elt Ideal) ℓ) (g : Dev Cert.SignalRefIdeal.nD → PrngReg), Pre_SignalRefIdeal m →
    θ_run (Cert.SignalRefIdeal.defs (F := Ideal)) (onTc (τ := Cert.SignalRefIdeal.τ) (Cert.SignalRefIdeal.main (F := Ideal))) ⟨m, fun _ => 0, g⟩ (fun r => (∀ c : Dev Cert.SignalRefIdeal.nD,
      r.2.mem ((c.tc : Thread Cert.SignalRefIdeal.nD Cert.SignalRefIdeal.τ).loc Cert.SignalRefIdeal.main_arg0) = m ((c.tc : Thread Cert.SignalRefIdeal.nD Cert.SignalRefIdeal.τ).loc Cert.SignalRefIdeal.main_arg0)
      ∧ r.2.mem ((c.tc : Thread Cert.SignalRefIdeal.nD Cert.SignalRefIdeal.τ).loc Cert.SignalRefIdeal.main_arg1) = m ((c.tc : Thread Cert.SignalRefIdeal.nD Cert.SignalRefIdeal.τ).loc Cert.SignalRefIdeal.main_arg1))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1))
      ∧ r.2.sem = fun _ => 0)

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1)
      ∧ r.2.mem ((c.tc : Thread Cert.Product.nD Cert.Product.τ).loc Cert.Product.main_arg2) = m ((c.tc : Thread Cert.Product.nD Cert.Product.τ).loc Cert.Product.main_arg2)
      ∧ r.2.mem ((c.tc : Thread Cert.Product.nD Cert.Product.τ).loc Cert.Product.main_arg3) = m ((c.tc : Thread Cert.Product.nD Cert.Product.τ).loc Cert.Product.main_arg3))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
      ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
      ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3))
      ∧ r.2.sem = fun _ => 0)

def quiescent_ProductRefIdeal [hProductRefIdeal : Cert.ProductRefIdeal.Facts] : Prop :=
  ∀ (m : (ℓ : Loc Cert.ProductRefIdeal.nD Cert.ProductRefIdeal.τ Cert.ProductRefIdeal.sig) → Buf (Elt Ideal) ℓ) (g : Dev Cert.ProductRefIdeal.nD → PrngReg), Pre_ProductRefIdeal m →
    θ_run (Cert.ProductRefIdeal.defs (F := Ideal)) (onTc (τ := Cert.ProductRefIdeal.τ) (Cert.ProductRefIdeal.main (F := Ideal))) ⟨m, fun _ => 0, g⟩ (fun r => (∀ c : Dev Cert.ProductRefIdeal.nD,
      r.2.mem ((c.tc : Thread Cert.ProductRefIdeal.nD Cert.ProductRefIdeal.τ).loc Cert.ProductRefIdeal.main_arg0) = m ((c.tc : Thread Cert.ProductRefIdeal.nD Cert.ProductRefIdeal.τ).loc Cert.ProductRefIdeal.main_arg0)
      ∧ r.2.mem ((c.tc : Thread Cert.ProductRefIdeal.nD Cert.ProductRefIdeal.τ).loc Cert.ProductRefIdeal.main_arg1) = m ((c.tc : Thread Cert.ProductRefIdeal.nD Cert.ProductRefIdeal.τ).loc Cert.ProductRefIdeal.main_arg1)
      ∧ r.2.mem ((c.tc : Thread Cert.ProductRefIdeal.nD Cert.ProductRefIdeal.τ).loc Cert.ProductRefIdeal.main_arg2) = m ((c.tc : Thread Cert.ProductRefIdeal.nD Cert.ProductRefIdeal.τ).loc Cert.ProductRefIdeal.main_arg2)
      ∧ r.2.mem ((c.tc : Thread Cert.ProductRefIdeal.nD Cert.ProductRefIdeal.τ).loc Cert.ProductRefIdeal.main_arg3) = m ((c.tc : Thread Cert.ProductRefIdeal.nD Cert.ProductRefIdeal.τ).loc Cert.ProductRefIdeal.main_arg3))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3)
      ∧ r.2.mem ((c.tc : Thread Cert.Gated.nD Cert.Gated.τ).loc Cert.Gated.main_arg4) = m ((c.tc : Thread Cert.Gated.nD Cert.Gated.τ).loc Cert.Gated.main_arg4)
      ∧ r.2.mem ((c.tc : Thread Cert.Gated.nD Cert.Gated.τ).loc Cert.Gated.main_arg5) = m ((c.tc : Thread Cert.Gated.nD Cert.Gated.τ).loc Cert.Gated.main_arg5))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
      ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4)
      ∧ r.2.mem ((c.tc : Thread Cert.GatedIdeal.nD Cert.GatedIdeal.τ).loc Cert.GatedIdeal.main_arg5) = m ((c.tc : Thread Cert.GatedIdeal.nD Cert.GatedIdeal.τ).loc Cert.GatedIdeal.main_arg5))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3)
      ∧ r.2.mem ((c.tc : Thread Cert.GatedRefIdeal.nD Cert.GatedRefIdeal.τ).loc Cert.GatedRefIdeal.main_arg4) = m ((c.tc : Thread Cert.GatedRefIdeal.nD Cert.GatedRefIdeal.τ).loc Cert.GatedRefIdeal.main_arg4)
      ∧ r.2.mem ((c.tc : Thread Cert.GatedRefIdeal.nD Cert.GatedRefIdeal.τ).loc Cert.GatedRefIdeal.main_arg5) = m ((c.tc : Thread Cert.GatedRefIdeal.nD Cert.GatedRefIdeal.τ).loc Cert.GatedRefIdeal.main_arg5))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3)
      ∧ r.2.mem ((c.tc : Thread Cert.Inner.nD Cert.Inner.τ).loc Cert.Inner.main_arg4) = m ((c.tc : Thread Cert.Inner.nD Cert.Inner.τ).loc Cert.Inner.main_arg4)
      ∧ r.2.mem ((c.tc : Thread Cert.Inner.nD Cert.Inner.τ).loc Cert.Inner.main_arg5) = m ((c.tc : Thread Cert.Inner.nD Cert.Inner.τ).loc Cert.Inner.main_arg5)
      ∧ r.2.mem ((c.tc : Thread Cert.Inner.nD Cert.Inner.τ).loc Cert.Inner.main_arg6) = m ((c.tc : Thread Cert.Inner.nD Cert.Inner.τ).loc Cert.Inner.main_arg6)
      ∧ r.2.mem ((c.tc : Thread Cert.Inner.nD Cert.Inner.τ).loc Cert.Inner.main_arg7) = m ((c.tc : Thread Cert.Inner.nD Cert.Inner.τ).loc Cert.Inner.main_arg7)
      ∧ r.2.mem ((c.tc : Thread Cert.Inner.nD Cert.Inner.τ).loc Cert.Inner.main_arg8) = m ((c.tc : Thread Cert.Inner.nD Cert.Inner.τ).loc Cert.Inner.main_arg8))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
      ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6)
      ∧ r.2.mem ((c.tc : Thread Cert.InnerIdeal.nD Cert.InnerIdeal.τ).loc Cert.InnerIdeal.main_arg7) = m ((c.tc : Thread Cert.InnerIdeal.nD Cert.InnerIdeal.τ).loc Cert.InnerIdeal.main_arg7)
      ∧ r.2.mem ((c.tc : Thread Cert.InnerIdeal.nD Cert.InnerIdeal.τ).loc Cert.InnerIdeal.main_arg8) = m ((c.tc : Thread Cert.InnerIdeal.nD Cert.InnerIdeal.τ).loc Cert.InnerIdeal.main_arg8))
      ∧ r.2.sem = fun _ => 0)

def quiescent_InnerIdeal_pre_finite_scores [hInnerIdeal : Cert.InnerIdeal.Facts] [hPre_finite_scores : Cert.Pre_finite_scores.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal_finite_scores m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
      ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6)
      ∧ r.2.mem ((c.tc : Thread Cert.InnerIdeal.nD Cert.InnerIdeal.τ).loc Cert.InnerIdeal.main_arg7) = m ((c.tc : Thread Cert.InnerIdeal.nD Cert.InnerIdeal.τ).loc Cert.InnerIdeal.main_arg7)
      ∧ r.2.mem ((c.tc : Thread Cert.InnerIdeal.nD Cert.InnerIdeal.τ).loc Cert.InnerIdeal.main_arg8) = m ((c.tc : Thread Cert.InnerIdeal.nD Cert.InnerIdeal.τ).loc Cert.InnerIdeal.main_arg8))
      ∧ r.2.sem = fun _ => 0)

def quiescent_InnerRefIdeal [hInnerRefIdeal : Cert.InnerRefIdeal.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4)
      ∧ r.2.mem ((c.tc : Thread Cert.InnerRefIdeal.nD Cert.InnerRefIdeal.τ).loc Cert.InnerRefIdeal.main_arg5) = m ((c.tc : Thread Cert.InnerRefIdeal.nD Cert.InnerRefIdeal.τ).loc Cert.InnerRefIdeal.main_arg5)
      ∧ r.2.mem ((c.tc : Thread Cert.InnerRefIdeal.nD Cert.InnerRefIdeal.τ).loc Cert.InnerRefIdeal.main_arg6) = m ((c.tc : Thread Cert.InnerRefIdeal.nD Cert.InnerRefIdeal.τ).loc Cert.InnerRefIdeal.main_arg6)
      ∧ r.2.mem ((c.tc : Thread Cert.InnerRefIdeal.nD Cert.InnerRefIdeal.τ).loc Cert.InnerRefIdeal.main_arg7) = m ((c.tc : Thread Cert.InnerRefIdeal.nD Cert.InnerRefIdeal.τ).loc Cert.InnerRefIdeal.main_arg7)
      ∧ r.2.mem ((c.tc : Thread Cert.InnerRefIdeal.nD Cert.InnerRefIdeal.τ).loc Cert.InnerRefIdeal.main_arg8) = m ((c.tc : Thread Cert.InnerRefIdeal.nD Cert.InnerRefIdeal.τ).loc Cert.InnerRefIdeal.main_arg8))
      ∧ r.2.sem = fun _ => 0)

def quiescent_InnerRefIdeal_pre_finite_scores [hInnerRefIdeal : Cert.InnerRefIdeal.Facts] [hPre_finite_scores : Cert.Pre_finite_scores.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal_finite_scores m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4)
      ∧ r.2.mem ((c.tc : Thread Cert.InnerRefIdeal.nD Cert.InnerRefIdeal.τ).loc Cert.InnerRefIdeal.main_arg5) = m ((c.tc : Thread Cert.InnerRefIdeal.nD Cert.InnerRefIdeal.τ).loc Cert.InnerRefIdeal.main_arg5)
      ∧ r.2.mem ((c.tc : Thread Cert.InnerRefIdeal.nD Cert.InnerRefIdeal.τ).loc Cert.InnerRefIdeal.main_arg6) = m ((c.tc : Thread Cert.InnerRefIdeal.nD Cert.InnerRefIdeal.τ).loc Cert.InnerRefIdeal.main_arg6)
      ∧ r.2.mem ((c.tc : Thread Cert.InnerRefIdeal.nD Cert.InnerRefIdeal.τ).loc Cert.InnerRefIdeal.main_arg7) = m ((c.tc : Thread Cert.InnerRefIdeal.nD Cert.InnerRefIdeal.τ).loc Cert.InnerRefIdeal.main_arg7)
      ∧ r.2.mem ((c.tc : Thread Cert.InnerRefIdeal.nD Cert.InnerRefIdeal.τ).loc Cert.InnerRefIdeal.main_arg8) = m ((c.tc : Thread Cert.InnerRefIdeal.nD Cert.InnerRefIdeal.τ).loc Cert.InnerRefIdeal.main_arg8))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5)
      ∧ r.2.mem ((c.tc : Thread Cert.Second.nD Cert.Second.τ).loc Cert.Second.main_arg6) = m ((c.tc : Thread Cert.Second.nD Cert.Second.τ).loc Cert.Second.main_arg6)
      ∧ r.2.mem ((c.tc : Thread Cert.Second.nD Cert.Second.τ).loc Cert.Second.main_arg7) = m ((c.tc : Thread Cert.Second.nD Cert.Second.τ).loc Cert.Second.main_arg7)
      ∧ r.2.mem ((c.tc : Thread Cert.Second.nD Cert.Second.τ).loc Cert.Second.main_arg8) = m ((c.tc : Thread Cert.Second.nD Cert.Second.τ).loc Cert.Second.main_arg8))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
      ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8))
      ∧ r.2.sem = fun _ => 0)

def quiescent_SecondIdeal_pre_finite_inputs [hSecondIdeal : Cert.SecondIdeal.Facts] [hPre_finite_inputs : Cert.Pre_finite_inputs.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal_finite_inputs m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
      ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8))
      ∧ r.2.sem = fun _ => 0)

def quiescent_SecondRefIdeal [hSecondRefIdeal : Cert.SecondRefIdeal.Facts] : Prop :=
  ∀ (m : (ℓ : Loc Cert.SecondRefIdeal.nD Cert.SecondRefIdeal.τ Cert.SecondRefIdeal.sig) → Buf (Elt Ideal) ℓ) (g : Dev Cert.SecondRefIdeal.nD → PrngReg), Pre_SecondRefIdeal m →
    θ_run (Cert.SecondRefIdeal.defs (F := Ideal)) (onTc (τ := Cert.SecondRefIdeal.τ) (Cert.SecondRefIdeal.main (F := Ideal))) ⟨m, fun _ => 0, g⟩ (fun r => (∀ c : Dev Cert.SecondRefIdeal.nD,
      r.2.mem ((c.tc : Thread Cert.SecondRefIdeal.nD Cert.SecondRefIdeal.τ).loc Cert.SecondRefIdeal.main_arg0) = m ((c.tc : Thread Cert.SecondRefIdeal.nD Cert.SecondRefIdeal.τ).loc Cert.SecondRefIdeal.main_arg0)
      ∧ r.2.mem ((c.tc : Thread Cert.SecondRefIdeal.nD Cert.SecondRefIdeal.τ).loc Cert.SecondRefIdeal.main_arg1) = m ((c.tc : Thread Cert.SecondRefIdeal.nD Cert.SecondRefIdeal.τ).loc Cert.SecondRefIdeal.main_arg1)
      ∧ r.2.mem ((c.tc : Thread Cert.SecondRefIdeal.nD Cert.SecondRefIdeal.τ).loc Cert.SecondRefIdeal.main_arg2) = m ((c.tc : Thread Cert.SecondRefIdeal.nD Cert.SecondRefIdeal.τ).loc Cert.SecondRefIdeal.main_arg2)
      ∧ r.2.mem ((c.tc : Thread Cert.SecondRefIdeal.nD Cert.SecondRefIdeal.τ).loc Cert.SecondRefIdeal.main_arg3) = m ((c.tc : Thread Cert.SecondRefIdeal.nD Cert.SecondRefIdeal.τ).loc Cert.SecondRefIdeal.main_arg3)
      ∧ r.2.mem ((c.tc : Thread Cert.SecondRefIdeal.nD Cert.SecondRefIdeal.τ).loc Cert.SecondRefIdeal.main_arg4) = m ((c.tc : Thread Cert.SecondRefIdeal.nD Cert.SecondRefIdeal.τ).loc Cert.SecondRefIdeal.main_arg4)
      ∧ r.2.mem ((c.tc : Thread Cert.SecondRefIdeal.nD Cert.SecondRefIdeal.τ).loc Cert.SecondRefIdeal.main_arg5) = m ((c.tc : Thread Cert.SecondRefIdeal.nD Cert.SecondRefIdeal.τ).loc Cert.SecondRefIdeal.main_arg5)
      ∧ r.2.mem ((c.tc : Thread Cert.SecondRefIdeal.nD Cert.SecondRefIdeal.τ).loc Cert.SecondRefIdeal.main_arg6) = m ((c.tc : Thread Cert.SecondRefIdeal.nD Cert.SecondRefIdeal.τ).loc Cert.SecondRefIdeal.main_arg6)
      ∧ r.2.mem ((c.tc : Thread Cert.SecondRefIdeal.nD Cert.SecondRefIdeal.τ).loc Cert.SecondRefIdeal.main_arg7) = m ((c.tc : Thread Cert.SecondRefIdeal.nD Cert.SecondRefIdeal.τ).loc Cert.SecondRefIdeal.main_arg7)
      ∧ r.2.mem ((c.tc : Thread Cert.SecondRefIdeal.nD Cert.SecondRefIdeal.τ).loc Cert.SecondRefIdeal.main_arg8) = m ((c.tc : Thread Cert.SecondRefIdeal.nD Cert.SecondRefIdeal.τ).loc Cert.SecondRefIdeal.main_arg8))
      ∧ r.2.sem = fun _ => 0)

def quiescent_SecondRefIdeal_pre_finite_inputs [hSecondRefIdeal : Cert.SecondRefIdeal.Facts] [hPre_finite_inputs : Cert.Pre_finite_inputs.Facts] : Prop :=
  ∀ (m : (ℓ : Loc Cert.SecondRefIdeal.nD Cert.SecondRefIdeal.τ Cert.SecondRefIdeal.sig) → Buf (Elt Ideal) ℓ) (g : Dev Cert.SecondRefIdeal.nD → PrngReg), Pre_SecondRefIdeal_finite_inputs m →
    θ_run (Cert.SecondRefIdeal.defs (F := Ideal)) (onTc (τ := Cert.SecondRefIdeal.τ) (Cert.SecondRefIdeal.main (F := Ideal))) ⟨m, fun _ => 0, g⟩ (fun r => (∀ c : Dev Cert.SecondRefIdeal.nD,
      r.2.mem ((c.tc : Thread Cert.SecondRefIdeal.nD Cert.SecondRefIdeal.τ).loc Cert.SecondRefIdeal.main_arg0) = m ((c.tc : Thread Cert.SecondRefIdeal.nD Cert.SecondRefIdeal.τ).loc Cert.SecondRefIdeal.main_arg0)
      ∧ r.2.mem ((c.tc : Thread Cert.SecondRefIdeal.nD Cert.SecondRefIdeal.τ).loc Cert.SecondRefIdeal.main_arg1) = m ((c.tc : Thread Cert.SecondRefIdeal.nD Cert.SecondRefIdeal.τ).loc Cert.SecondRefIdeal.main_arg1)
      ∧ r.2.mem ((c.tc : Thread Cert.SecondRefIdeal.nD Cert.SecondRefIdeal.τ).loc Cert.SecondRefIdeal.main_arg2) = m ((c.tc : Thread Cert.SecondRefIdeal.nD Cert.SecondRefIdeal.τ).loc Cert.SecondRefIdeal.main_arg2)
      ∧ r.2.mem ((c.tc : Thread Cert.SecondRefIdeal.nD Cert.SecondRefIdeal.τ).loc Cert.SecondRefIdeal.main_arg3) = m ((c.tc : Thread Cert.SecondRefIdeal.nD Cert.SecondRefIdeal.τ).loc Cert.SecondRefIdeal.main_arg3)
      ∧ r.2.mem ((c.tc : Thread Cert.SecondRefIdeal.nD Cert.SecondRefIdeal.τ).loc Cert.SecondRefIdeal.main_arg4) = m ((c.tc : Thread Cert.SecondRefIdeal.nD Cert.SecondRefIdeal.τ).loc Cert.SecondRefIdeal.main_arg4)
      ∧ r.2.mem ((c.tc : Thread Cert.SecondRefIdeal.nD Cert.SecondRefIdeal.τ).loc Cert.SecondRefIdeal.main_arg5) = m ((c.tc : Thread Cert.SecondRefIdeal.nD Cert.SecondRefIdeal.τ).loc Cert.SecondRefIdeal.main_arg5)
      ∧ r.2.mem ((c.tc : Thread Cert.SecondRefIdeal.nD Cert.SecondRefIdeal.τ).loc Cert.SecondRefIdeal.main_arg6) = m ((c.tc : Thread Cert.SecondRefIdeal.nD Cert.SecondRefIdeal.τ).loc Cert.SecondRefIdeal.main_arg6)
      ∧ r.2.mem ((c.tc : Thread Cert.SecondRefIdeal.nD Cert.SecondRefIdeal.τ).loc Cert.SecondRefIdeal.main_arg7) = m ((c.tc : Thread Cert.SecondRefIdeal.nD Cert.SecondRefIdeal.τ).loc Cert.SecondRefIdeal.main_arg7)
      ∧ r.2.mem ((c.tc : Thread Cert.SecondRefIdeal.nD Cert.SecondRefIdeal.τ).loc Cert.SecondRefIdeal.main_arg8) = m ((c.tc : Thread Cert.SecondRefIdeal.nD Cert.SecondRefIdeal.τ).loc Cert.SecondRefIdeal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Input_InputIdeal : Prop :=
  IdealRules.named_const.Statement Cert.InputIdeal.κ "q_scale" .f32 0x3E38AA3B#32 (((Real.sqrt 64)⁻¹ * (Real.log 2)⁻¹ : ℝ) : EReal)

def algebraic_InputIdeal_InputRefIdeal [hInputIdeal : Cert.InputIdeal.Facts] [hInputRefIdeal : Cert.InputRefIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)
      ∧ m' ((c.tc : Thread Cert.InputRefIdeal.nD Cert.InputRefIdeal.τ).loc Cert.InputRefIdeal.main_arg3) = m ((c.tc : Thread Cert.InputIdeal.nD Cert.InputIdeal.τ).loc Cert.InputIdeal.main_arg3)
      ∧ m' ((c.tc : Thread Cert.InputRefIdeal.nD Cert.InputRefIdeal.τ).loc Cert.InputRefIdeal.main_arg4) = m ((c.tc : Thread Cert.InputIdeal.nD Cert.InputIdeal.τ).loc Cert.InputIdeal.main_arg4)) →
    ∃ (v0 : (c : Dev Cert.InputIdeal.nD) → Buf (Elt Ideal) ((c.tc : Thread Cert.InputIdeal.nD Cert.InputIdeal.τ).loc Cert.InputIdeal.main_v8_0)) (v1 : (c : Dev Cert.InputIdeal.nD) → Buf (Elt Ideal) ((c.tc : Thread Cert.InputIdeal.nD Cert.InputIdeal.τ).loc Cert.InputIdeal.main_v8_1)) (v2 : (c : Dev Cert.InputIdeal.nD) → Buf (Elt Ideal) ((c.tc : Thread Cert.InputIdeal.nD Cert.InputIdeal.τ).loc Cert.InputIdeal.main_v8_2)) (v3 : (c : Dev Cert.InputIdeal.nD) → Buf (Elt Ideal) ((c.tc : Thread Cert.InputIdeal.nD Cert.InputIdeal.τ).loc Cert.InputIdeal.main_v8_3)) (v4 : (c : Dev Cert.InputIdeal.nD) → Buf (Elt Ideal) ((c.tc : Thread Cert.InputIdeal.nD Cert.InputIdeal.τ).loc Cert.InputIdeal.main_v8_4)) (v5 : (c : Dev Cert.InputIdeal.nD) → Buf (Elt Ideal) ((c.tc : Thread Cert.InputIdeal.nD Cert.InputIdeal.τ).loc Cert.InputIdeal.main_v8_5)) (v6 : (c : Dev Cert.InputIdeal.nD) → Buf (Elt Ideal) ((c.tc : Thread Cert.InputIdeal.nD Cert.InputIdeal.τ).loc Cert.InputIdeal.main_v8_6)) (v7 : (c : Dev Cert.InputIdeal.nD) → Buf (Elt Ideal) ((c.tc : Thread Cert.InputIdeal.nD Cert.InputIdeal.τ).loc Cert.InputIdeal.main_v8_7)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v8_0) = v0 c
          ∧ r.2.mem ((c.tc : Thread Cert.InputIdeal.nD Cert.InputIdeal.τ).loc Cert.InputIdeal.main_v8_1) = v1 c
          ∧ r.2.mem ((c.tc : Thread Cert.InputIdeal.nD Cert.InputIdeal.τ).loc Cert.InputIdeal.main_v8_2) = v2 c
          ∧ r.2.mem ((c.tc : Thread Cert.InputIdeal.nD Cert.InputIdeal.τ).loc Cert.InputIdeal.main_v8_3) = v3 c
          ∧ r.2.mem ((c.tc : Thread Cert.InputIdeal.nD Cert.InputIdeal.τ).loc Cert.InputIdeal.main_v8_4) = v4 c
          ∧ r.2.mem ((c.tc : Thread Cert.InputIdeal.nD Cert.InputIdeal.τ).loc Cert.InputIdeal.main_v8_5) = v5 c
          ∧ r.2.mem ((c.tc : Thread Cert.InputIdeal.nD Cert.InputIdeal.τ).loc Cert.InputIdeal.main_v8_6) = v6 c
          ∧ r.2.mem ((c.tc : Thread Cert.InputIdeal.nD Cert.InputIdeal.τ).loc Cert.InputIdeal.main_v8_7) = v7 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v68) = v0 c
          ∧ r.2.mem ((c.tc : Thread Cert.InputRefIdeal.nD Cert.InputRefIdeal.τ).loc Cert.InputRefIdeal.main_v69) = v1 c
          ∧ r.2.mem ((c.tc : Thread Cert.InputRefIdeal.nD Cert.InputRefIdeal.τ).loc Cert.InputRefIdeal.main_v70) = v2 c
          ∧ r.2.mem ((c.tc : Thread Cert.InputRefIdeal.nD Cert.InputRefIdeal.τ).loc Cert.InputRefIdeal.main_v71) = v3 c
          ∧ r.2.mem ((c.tc : Thread Cert.InputRefIdeal.nD Cert.InputRefIdeal.τ).loc Cert.InputRefIdeal.main_v72) = v4 c
          ∧ r.2.mem ((c.tc : Thread Cert.InputRefIdeal.nD Cert.InputRefIdeal.τ).loc Cert.InputRefIdeal.main_v73) = v5 c
          ∧ r.2.mem ((c.tc : Thread Cert.InputRefIdeal.nD Cert.InputRefIdeal.τ).loc Cert.InputRefIdeal.main_v74) = v6 c
          ∧ r.2.mem ((c.tc : Thread Cert.InputRefIdeal.nD Cert.InputRefIdeal.τ).loc Cert.InputRefIdeal.main_v75) = v7 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3)
          ∧ r.2.mem ((c.tc : Thread Cert.InputRefIdeal.nD Cert.InputRefIdeal.τ).loc Cert.InputRefIdeal.main_arg4) = m' ((c.tc : Thread Cert.InputRefIdeal.nD Cert.InputRefIdeal.τ).loc Cert.InputRefIdeal.main_arg4))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v0_0)) (v1 : (c : Dev Cert.MemoryIdeal.nD) → Buf (Elt Ideal) ((c.tc : Thread Cert.MemoryIdeal.nD Cert.MemoryIdeal.τ).loc Cert.MemoryIdeal.main_v0_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v0_0) = v0 c
          ∧ r.2.mem ((c.tc : Thread Cert.MemoryIdeal.nD Cert.MemoryIdeal.τ).loc Cert.MemoryIdeal.main_v0_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v18) = v0 c
          ∧ r.2.mem ((c.tc : Thread Cert.MemoryRefIdeal.nD Cert.MemoryRefIdeal.τ).loc Cert.MemoryRefIdeal.main_v19) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_Output_OutputIdeal : Prop :=
  True

def algebraic_OutputIdeal_OutputRefIdeal_pre_finite_scores [hOutputIdeal : Cert.OutputIdeal.Facts] [hOutputRefIdeal : Cert.OutputRefIdeal.Facts] [hPre_finite_scores : Cert.Pre_finite_scores.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputRefIdeal.nD Cert.OutputRefIdeal.τ Cert.OutputRefIdeal.sig) → Buf (Elt Ideal) ℓ) (g' : Dev Cert.OutputRefIdeal.nD → PrngReg), Pre_OutputIdeal_finite_scores m →
    (∀ c : Dev Cert.OutputIdeal.nD,
      m' ((c.tc : Thread Cert.OutputRefIdeal.nD Cert.OutputRefIdeal.τ).loc Cert.OutputRefIdeal.main_arg0) = m ((c.tc : Thread Cert.OutputIdeal.nD Cert.OutputIdeal.τ).loc Cert.OutputIdeal.main_arg0)
      ∧ m' ((c.tc : Thread Cert.OutputRefIdeal.nD Cert.OutputRefIdeal.τ).loc Cert.OutputRefIdeal.main_arg1) = m ((c.tc : Thread Cert.OutputIdeal.nD Cert.OutputIdeal.τ).loc Cert.OutputIdeal.main_arg1)
      ∧ m' ((c.tc : Thread Cert.OutputRefIdeal.nD Cert.OutputRefIdeal.τ).loc Cert.OutputRefIdeal.main_arg2) = m ((c.tc : Thread Cert.OutputIdeal.nD Cert.OutputIdeal.τ).loc Cert.OutputIdeal.main_arg2)
      ∧ m' ((c.tc : Thread Cert.OutputRefIdeal.nD Cert.OutputRefIdeal.τ).loc Cert.OutputRefIdeal.main_arg3) = m ((c.tc : Thread Cert.OutputIdeal.nD Cert.OutputIdeal.τ).loc Cert.OutputIdeal.main_arg3)
      ∧ m' ((c.tc : Thread Cert.OutputRefIdeal.nD Cert.OutputRefIdeal.τ).loc Cert.OutputRefIdeal.main_arg4) = m ((c.tc : Thread Cert.OutputIdeal.nD Cert.OutputIdeal.τ).loc Cert.OutputIdeal.main_arg4)
      ∧ m' ((c.tc : Thread Cert.OutputRefIdeal.nD Cert.OutputRefIdeal.τ).loc Cert.OutputRefIdeal.main_arg5) = m ((c.tc : Thread Cert.OutputIdeal.nD Cert.OutputIdeal.τ).loc Cert.OutputIdeal.main_arg5)
      ∧ m' ((c.tc : Thread Cert.OutputRefIdeal.nD Cert.OutputRefIdeal.τ).loc Cert.OutputRefIdeal.main_arg6) = m ((c.tc : Thread Cert.OutputIdeal.nD Cert.OutputIdeal.τ).loc Cert.OutputIdeal.main_arg6)
      ∧ m' ((c.tc : Thread Cert.OutputRefIdeal.nD Cert.OutputRefIdeal.τ).loc Cert.OutputRefIdeal.main_arg7) = m ((c.tc : Thread Cert.OutputIdeal.nD Cert.OutputIdeal.τ).loc Cert.OutputIdeal.main_arg7)
      ∧ m' ((c.tc : Thread Cert.OutputRefIdeal.nD Cert.OutputRefIdeal.τ).loc Cert.OutputRefIdeal.main_arg8) = m ((c.tc : Thread Cert.OutputIdeal.nD Cert.OutputIdeal.τ).loc Cert.OutputIdeal.main_arg8)) →
    ∃ (v0 : (c : Dev Cert.OutputIdeal.nD) → Buf (Elt Ideal) ((c.tc : Thread Cert.OutputIdeal.nD Cert.OutputIdeal.τ).loc Cert.OutputIdeal.main_v0)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v0) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
          ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ θ_run (Cert.OutputRefIdeal.defs (F := Ideal)) (onTc (τ := Cert.OutputRefIdeal.τ) (Cert.OutputRefIdeal.main (F := Ideal))) ⟨m', fun _ => 0, g'⟩ (fun r => ∀ c : Dev Cert.OutputRefIdeal.nD,
          r.2.mem ((c.tc : Thread Cert.OutputRefIdeal.nD Cert.OutputRefIdeal.τ).loc Cert.OutputRefIdeal.main_v44) = v0 c
          ∧ r.2.mem ((c.tc : Thread Cert.OutputRefIdeal.nD Cert.OutputRefIdeal.τ).loc Cert.OutputRefIdeal.main_arg0) = m' ((c.tc : Thread Cert.OutputRefIdeal.nD Cert.OutputRefIdeal.τ).loc Cert.OutputRefIdeal.main_arg0)
          ∧ r.2.mem ((c.tc : Thread Cert.OutputRefIdeal.nD Cert.OutputRefIdeal.τ).loc Cert.OutputRefIdeal.main_arg1) = m' ((c.tc : Thread Cert.OutputRefIdeal.nD Cert.OutputRefIdeal.τ).loc Cert.OutputRefIdeal.main_arg1)
          ∧ r.2.mem ((c.tc : Thread Cert.OutputRefIdeal.nD Cert.OutputRefIdeal.τ).loc Cert.OutputRefIdeal.main_arg2) = m' ((c.tc : Thread Cert.OutputRefIdeal.nD Cert.OutputRefIdeal.τ).loc Cert.OutputRefIdeal.main_arg2)
          ∧ r.2.mem ((c.tc : Thread Cert.OutputRefIdeal.nD Cert.OutputRefIdeal.τ).loc Cert.OutputRefIdeal.main_arg3) = m' ((c.tc : Thread Cert.OutputRefIdeal.nD Cert.OutputRefIdeal.τ).loc Cert.OutputRefIdeal.main_arg3)
          ∧ r.2.mem ((c.tc : Thread Cert.OutputRefIdeal.nD Cert.OutputRefIdeal.τ).loc Cert.OutputRefIdeal.main_arg4) = m' ((c.tc : Thread Cert.OutputRefIdeal.nD Cert.OutputRefIdeal.τ).loc Cert.OutputRefIdeal.main_arg4)
          ∧ r.2.mem ((c.tc : Thread Cert.OutputRefIdeal.nD Cert.OutputRefIdeal.τ).loc Cert.OutputRefIdeal.main_arg5) = m' ((c.tc : Thread Cert.OutputRefIdeal.nD Cert.OutputRefIdeal.τ).loc Cert.OutputRefIdeal.main_arg5)
          ∧ r.2.mem ((c.tc : Thread Cert.OutputRefIdeal.nD Cert.OutputRefIdeal.τ).loc Cert.OutputRefIdeal.main_arg6) = m' ((c.tc : Thread Cert.OutputRefIdeal.nD Cert.OutputRefIdeal.τ).loc Cert.OutputRefIdeal.main_arg6)
          ∧ r.2.mem ((c.tc : Thread Cert.OutputRefIdeal.nD Cert.OutputRefIdeal.τ).loc Cert.OutputRefIdeal.main_arg7) = m' ((c.tc : Thread Cert.OutputRefIdeal.nD Cert.OutputRefIdeal.τ).loc Cert.OutputRefIdeal.main_arg7)
          ∧ r.2.mem ((c.tc : Thread Cert.OutputRefIdeal.nD Cert.OutputRefIdeal.τ).loc Cert.OutputRefIdeal.main_arg8) = m' ((c.tc : Thread Cert.OutputRefIdeal.nD Cert.OutputRefIdeal.τ).loc Cert.OutputRefIdeal.main_arg8))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1_0)) (v1 : (c : Dev Cert.ConvIdeal.nD) → Buf (Elt Ideal) ((c.tc : Thread Cert.ConvIdeal.nD Cert.ConvIdeal.τ).loc Cert.ConvIdeal.main_v1_1)) (v2 : (c : Dev Cert.ConvIdeal.nD) → Buf (Elt Ideal) ((c.tc : Thread Cert.ConvIdeal.nD Cert.ConvIdeal.τ).loc Cert.ConvIdeal.main_v1_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1_0) = v0 c
          ∧ r.2.mem ((c.tc : Thread Cert.ConvIdeal.nD Cert.ConvIdeal.τ).loc Cert.ConvIdeal.main_v1_1) = v1 c
          ∧ r.2.mem ((c.tc : Thread Cert.ConvIdeal.nD Cert.ConvIdeal.τ).loc Cert.ConvIdeal.main_v1_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v29) = v0 c
          ∧ r.2.mem ((c.tc : Thread Cert.ConvRefIdeal.nD Cert.ConvRefIdeal.τ).loc Cert.ConvRefIdeal.main_v30) = v1 c
          ∧ r.2.mem ((c.tc : Thread Cert.ConvRefIdeal.nD Cert.ConvRefIdeal.τ).loc Cert.ConvRefIdeal.main_v31) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v10_0)) (v1 : (c : Dev Cert.RopeIdeal.nD) → Buf (Elt Ideal) ((c.tc : Thread Cert.RopeIdeal.nD Cert.RopeIdeal.τ).loc Cert.RopeIdeal.main_v10_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v10_0) = v0 c
          ∧ r.2.mem ((c.tc : Thread Cert.RopeIdeal.nD Cert.RopeIdeal.τ).loc Cert.RopeIdeal.main_v10_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v9) = v0 c
          ∧ r.2.mem ((c.tc : Thread Cert.RopeRefIdeal.nD Cert.RopeRefIdeal.τ).loc Cert.RopeRefIdeal.main_v14) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Filter_FilterIdeal : Prop :=
  IdealRules.named_const.Statement Cert.FilterIdeal.κ "t_step" .f32 0x39000400#32 ((8191⁻¹ : ℝ) : EReal)

def algebraic_FilterIdeal_FilterRefIdeal [hFilterIdeal : Cert.FilterIdeal.Facts] [hFilterRefIdeal : Cert.FilterRefIdeal.Facts] : Prop :=
  ∀ (m : (ℓ : Loc Cert.FilterIdeal.nD Cert.FilterIdeal.τ Cert.FilterIdeal.sig) → Buf (Elt Ideal) ℓ) (g : Dev Cert.FilterIdeal.nD → PrngReg)
    (m' : (ℓ : Loc Cert.FilterRefIdeal.nD Cert.FilterRefIdeal.τ Cert.FilterRefIdeal.sig) → Buf (Elt Ideal) ℓ) (g' : Dev Cert.FilterRefIdeal.nD → PrngReg), Pre_FilterIdeal m →
    (∀ c : Dev Cert.FilterIdeal.nD,
      m' ((c.tc : Thread Cert.FilterRefIdeal.nD Cert.FilterRefIdeal.τ).loc Cert.FilterRefIdeal.main_arg0) = m ((c.tc : Thread Cert.FilterIdeal.nD Cert.FilterIdeal.τ).loc Cert.FilterIdeal.main_arg0)
      ∧ m' ((c.tc : Thread Cert.FilterRefIdeal.nD Cert.FilterRefIdeal.τ).loc Cert.FilterRefIdeal.main_arg1) = m ((c.tc : Thread Cert.FilterIdeal.nD Cert.FilterIdeal.τ).loc Cert.FilterIdeal.main_arg1)
      ∧ m' ((c.tc : Thread Cert.FilterRefIdeal.nD Cert.FilterRefIdeal.τ).loc Cert.FilterRefIdeal.main_arg2) = m ((c.tc : Thread Cert.FilterIdeal.nD Cert.FilterIdeal.τ).loc Cert.FilterIdeal.main_arg2)
      ∧ m' ((c.tc : Thread Cert.FilterRefIdeal.nD Cert.FilterRefIdeal.τ).loc Cert.FilterRefIdeal.main_arg3) = m ((c.tc : Thread Cert.FilterIdeal.nD Cert.FilterIdeal.τ).loc Cert.FilterIdeal.main_arg3)
      ∧ m' ((c.tc : Thread Cert.FilterRefIdeal.nD Cert.FilterRefIdeal.τ).loc Cert.FilterRefIdeal.main_arg4) = m ((c.tc : Thread Cert.FilterIdeal.nD Cert.FilterIdeal.τ).loc Cert.FilterIdeal.main_arg4)
      ∧ m' ((c.tc : Thread Cert.FilterRefIdeal.nD Cert.FilterRefIdeal.τ).loc Cert.FilterRefIdeal.main_arg5) = m ((c.tc : Thread Cert.FilterIdeal.nD Cert.FilterIdeal.τ).loc Cert.FilterIdeal.main_arg5)
      ∧ m' ((c.tc : Thread Cert.FilterRefIdeal.nD Cert.FilterRefIdeal.τ).loc Cert.FilterRefIdeal.main_arg6) = m ((c.tc : Thread Cert.FilterIdeal.nD Cert.FilterIdeal.τ).loc Cert.FilterIdeal.main_arg6)
      ∧ m' ((c.tc : Thread Cert.FilterRefIdeal.nD Cert.FilterRefIdeal.τ).loc Cert.FilterRefIdeal.main_arg7) = m ((c.tc : Thread Cert.FilterIdeal.nD Cert.FilterIdeal.τ).loc Cert.FilterIdeal.main_arg7)
      ∧ m' ((c.tc : Thread Cert.FilterRefIdeal.nD Cert.FilterRefIdeal.τ).loc Cert.FilterRefIdeal.main_arg8) = m ((c.tc : Thread Cert.FilterIdeal.nD Cert.FilterIdeal.τ).loc Cert.FilterIdeal.main_arg8)
      ∧ m' ((c.tc : Thread Cert.FilterRefIdeal.nD Cert.FilterRefIdeal.τ).loc Cert.FilterRefIdeal.main_arg9) = m ((c.tc : Thread Cert.FilterIdeal.nD Cert.FilterIdeal.τ).loc Cert.FilterIdeal.main_arg9)) →
    ∃ (v0 : (c : Dev Cert.FilterIdeal.nD) → Buf (Elt Ideal) ((c.tc : Thread Cert.FilterIdeal.nD Cert.FilterIdeal.τ).loc Cert.FilterIdeal.main_v15)),
      θ_run (Cert.FilterIdeal.defs (F := Ideal)) (onTc (τ := Cert.FilterIdeal.τ) (Cert.FilterIdeal.main (F := Ideal))) ⟨m, fun _ => 0, g⟩ (fun r => ∀ c : Dev Cert.FilterIdeal.nD,
          r.2.mem ((c.tc : Thread Cert.FilterIdeal.nD Cert.FilterIdeal.τ).loc Cert.FilterIdeal.main_v15) = v0 c
          ∧ r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
          ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
          ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
          ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
          ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
          ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
          ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6)
          ∧ r.2.mem ((c.tc : Thread Cert.FilterIdeal.nD Cert.FilterIdeal.τ).loc Cert.FilterIdeal.main_arg7) = m ((c.tc : Thread Cert.FilterIdeal.nD Cert.FilterIdeal.τ).loc Cert.FilterIdeal.main_arg7)
          ∧ r.2.mem ((c.tc : Thread Cert.FilterIdeal.nD Cert.FilterIdeal.τ).loc Cert.FilterIdeal.main_arg8) = m ((c.tc : Thread Cert.FilterIdeal.nD Cert.FilterIdeal.τ).loc Cert.FilterIdeal.main_arg8)
          ∧ r.2.mem ((c.tc : Thread Cert.FilterIdeal.nD Cert.FilterIdeal.τ).loc Cert.FilterIdeal.main_arg9) = m ((c.tc : Thread Cert.FilterIdeal.nD Cert.FilterIdeal.τ).loc Cert.FilterIdeal.main_arg9))
      ∧ θ_run (Cert.FilterRefIdeal.defs (F := Ideal)) (onTc (τ := Cert.FilterRefIdeal.τ) (Cert.FilterRefIdeal.main (F := Ideal))) ⟨m', fun _ => 0, g'⟩ (fun r => ∀ c : Dev Cert.FilterRefIdeal.nD,
          r.2.mem ((c.tc : Thread Cert.FilterRefIdeal.nD Cert.FilterRefIdeal.τ).loc Cert.FilterRefIdeal.main_v74) = v0 c
          ∧ r.2.mem ((c.tc : Thread Cert.FilterRefIdeal.nD Cert.FilterRefIdeal.τ).loc Cert.FilterRefIdeal.main_arg0) = m' ((c.tc : Thread Cert.FilterRefIdeal.nD Cert.FilterRefIdeal.τ).loc Cert.FilterRefIdeal.main_arg0)
          ∧ r.2.mem ((c.tc : Thread Cert.FilterRefIdeal.nD Cert.FilterRefIdeal.τ).loc Cert.FilterRefIdeal.main_arg1) = m' ((c.tc : Thread Cert.FilterRefIdeal.nD Cert.FilterRefIdeal.τ).loc Cert.FilterRefIdeal.main_arg1)
          ∧ r.2.mem ((c.tc : Thread Cert.FilterRefIdeal.nD Cert.FilterRefIdeal.τ).loc Cert.FilterRefIdeal.main_arg2) = m' ((c.tc : Thread Cert.FilterRefIdeal.nD Cert.FilterRefIdeal.τ).loc Cert.FilterRefIdeal.main_arg2)
          ∧ r.2.mem ((c.tc : Thread Cert.FilterRefIdeal.nD Cert.FilterRefIdeal.τ).loc Cert.FilterRefIdeal.main_arg3) = m' ((c.tc : Thread Cert.FilterRefIdeal.nD Cert.FilterRefIdeal.τ).loc Cert.FilterRefIdeal.main_arg3)
          ∧ r.2.mem ((c.tc : Thread Cert.FilterRefIdeal.nD Cert.FilterRefIdeal.τ).loc Cert.FilterRefIdeal.main_arg4) = m' ((c.tc : Thread Cert.FilterRefIdeal.nD Cert.FilterRefIdeal.τ).loc Cert.FilterRefIdeal.main_arg4)
          ∧ r.2.mem ((c.tc : Thread Cert.FilterRefIdeal.nD Cert.FilterRefIdeal.τ).loc Cert.FilterRefIdeal.main_arg5) = m' ((c.tc : Thread Cert.FilterRefIdeal.nD Cert.FilterRefIdeal.τ).loc Cert.FilterRefIdeal.main_arg5)
          ∧ r.2.mem ((c.tc : Thread Cert.FilterRefIdeal.nD Cert.FilterRefIdeal.τ).loc Cert.FilterRefIdeal.main_arg6) = m' ((c.tc : Thread Cert.FilterRefIdeal.nD Cert.FilterRefIdeal.τ).loc Cert.FilterRefIdeal.main_arg6)
          ∧ r.2.mem ((c.tc : Thread Cert.FilterRefIdeal.nD Cert.FilterRefIdeal.τ).loc Cert.FilterRefIdeal.main_arg7) = m' ((c.tc : Thread Cert.FilterRefIdeal.nD Cert.FilterRefIdeal.τ).loc Cert.FilterRefIdeal.main_arg7)
          ∧ r.2.mem ((c.tc : Thread Cert.FilterRefIdeal.nD Cert.FilterRefIdeal.τ).loc Cert.FilterRefIdeal.main_arg8) = m' ((c.tc : Thread Cert.FilterRefIdeal.nD Cert.FilterRefIdeal.τ).loc Cert.FilterRefIdeal.main_arg8)
          ∧ r.2.mem ((c.tc : Thread Cert.FilterRefIdeal.nD Cert.FilterRefIdeal.τ).loc Cert.FilterRefIdeal.main_arg9) = m' ((c.tc : Thread Cert.FilterRefIdeal.nD Cert.FilterRefIdeal.τ).loc Cert.FilterRefIdeal.main_arg9))

def preserves_Spectrum_SpectrumIdeal : Prop :=
  True

def algebraic_SpectrumIdeal_SpectrumRefIdeal [hSpectrumIdeal : Cert.SpectrumIdeal.Facts] [hSpectrumRefIdeal : Cert.SpectrumRefIdeal.Facts] : Prop :=
  ∀ (m : (ℓ : Loc Cert.SpectrumIdeal.nD Cert.SpectrumIdeal.τ Cert.SpectrumIdeal.sig) → Buf (Elt Ideal) ℓ) (g : Dev Cert.SpectrumIdeal.nD → PrngReg)
    (m' : (ℓ : Loc Cert.SpectrumRefIdeal.nD Cert.SpectrumRefIdeal.τ Cert.SpectrumRefIdeal.sig) → Buf (Elt Ideal) ℓ) (g' : Dev Cert.SpectrumRefIdeal.nD → PrngReg), Pre_SpectrumIdeal m →
    (∀ c : Dev Cert.SpectrumIdeal.nD,
      m' ((c.tc : Thread Cert.SpectrumRefIdeal.nD Cert.SpectrumRefIdeal.τ).loc Cert.SpectrumRefIdeal.main_arg0) = m ((c.tc : Thread Cert.SpectrumIdeal.nD Cert.SpectrumIdeal.τ).loc Cert.SpectrumIdeal.main_arg0)
      ∧ m' ((c.tc : Thread Cert.SpectrumRefIdeal.nD Cert.SpectrumRefIdeal.τ).loc Cert.SpectrumRefIdeal.main_arg1) = m ((c.tc : Thread Cert.SpectrumIdeal.nD Cert.SpectrumIdeal.τ).loc Cert.SpectrumIdeal.main_arg1)) →
    ∃ (v0 : (c : Dev Cert.SpectrumIdeal.nD) → Buf (Elt Ideal) ((c.tc : Thread Cert.SpectrumIdeal.nD Cert.SpectrumIdeal.τ).loc Cert.SpectrumIdeal.main_v0)),
      θ_run (Cert.SpectrumIdeal.defs (F := Ideal)) (onTc (τ := Cert.SpectrumIdeal.τ) (Cert.SpectrumIdeal.main (F := Ideal))) ⟨m, fun _ => 0, g⟩ (fun r => ∀ c : Dev Cert.SpectrumIdeal.nD,
          r.2.mem ((c.tc : Thread Cert.SpectrumIdeal.nD Cert.SpectrumIdeal.τ).loc Cert.SpectrumIdeal.main_v0) = v0 c
          ∧ r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
          ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1))
      ∧ θ_run (Cert.SpectrumRefIdeal.defs (F := Ideal)) (onTc (τ := Cert.SpectrumRefIdeal.τ) (Cert.SpectrumRefIdeal.main (F := Ideal))) ⟨m', fun _ => 0, g'⟩ (fun r => ∀ c : Dev Cert.SpectrumRefIdeal.nD,
          r.2.mem ((c.tc : Thread Cert.SpectrumRefIdeal.nD Cert.SpectrumRefIdeal.τ).loc Cert.SpectrumRefIdeal.main_v6) = v0 c
          ∧ r.2.mem ((c.tc : Thread Cert.SpectrumRefIdeal.nD Cert.SpectrumRefIdeal.τ).loc Cert.SpectrumRefIdeal.main_arg0) = m' ((c.tc : Thread Cert.SpectrumRefIdeal.nD Cert.SpectrumRefIdeal.τ).loc Cert.SpectrumRefIdeal.main_arg0)
          ∧ r.2.mem ((c.tc : Thread Cert.SpectrumRefIdeal.nD Cert.SpectrumRefIdeal.τ).loc Cert.SpectrumRefIdeal.main_arg1) = m' ((c.tc : Thread Cert.SpectrumRefIdeal.nD Cert.SpectrumRefIdeal.τ).loc Cert.SpectrumRefIdeal.main_arg1))

def preserves_Signal_SignalIdeal : Prop :=
  True

def algebraic_SignalIdeal_SignalRefIdeal [hSignalIdeal : Cert.SignalIdeal.Facts] [hSignalRefIdeal : Cert.SignalRefIdeal.Facts] : Prop :=
  ∀ (m : (ℓ : Loc Cert.SignalIdeal.nD Cert.SignalIdeal.τ Cert.SignalIdeal.sig) → Buf (Elt Ideal) ℓ) (g : Dev Cert.SignalIdeal.nD → PrngReg)
    (m' : (ℓ : Loc Cert.SignalRefIdeal.nD Cert.SignalRefIdeal.τ Cert.SignalRefIdeal.sig) → Buf (Elt Ideal) ℓ) (g' : Dev Cert.SignalRefIdeal.nD → PrngReg), Pre_SignalIdeal m →
    (∀ c : Dev Cert.SignalIdeal.nD,
      m' ((c.tc : Thread Cert.SignalRefIdeal.nD Cert.SignalRefIdeal.τ).loc Cert.SignalRefIdeal.main_arg0) = m ((c.tc : Thread Cert.SignalIdeal.nD Cert.SignalIdeal.τ).loc Cert.SignalIdeal.main_arg0)
      ∧ m' ((c.tc : Thread Cert.SignalRefIdeal.nD Cert.SignalRefIdeal.τ).loc Cert.SignalRefIdeal.main_arg1) = m ((c.tc : Thread Cert.SignalIdeal.nD Cert.SignalIdeal.τ).loc Cert.SignalIdeal.main_arg1)) →
    ∃ (v0 : (c : Dev Cert.SignalIdeal.nD) → Buf (Elt Ideal) ((c.tc : Thread Cert.SignalIdeal.nD Cert.SignalIdeal.τ).loc Cert.SignalIdeal.main_v0)),
      θ_run (Cert.SignalIdeal.defs (F := Ideal)) (onTc (τ := Cert.SignalIdeal.τ) (Cert.SignalIdeal.main (F := Ideal))) ⟨m, fun _ => 0, g⟩ (fun r => ∀ c : Dev Cert.SignalIdeal.nD,
          r.2.mem ((c.tc : Thread Cert.SignalIdeal.nD Cert.SignalIdeal.τ).loc Cert.SignalIdeal.main_v0) = v0 c
          ∧ r.2.mem ((c.tc : Thread Cert.SignalIdeal.nD Cert.SignalIdeal.τ).loc Cert.SignalIdeal.main_arg0) = m ((c.tc : Thread Cert.SignalIdeal.nD Cert.SignalIdeal.τ).loc Cert.SignalIdeal.main_arg0)
          ∧ r.2.mem ((c.tc : Thread Cert.SignalIdeal.nD Cert.SignalIdeal.τ).loc Cert.SignalIdeal.main_arg1) = m ((c.tc : Thread Cert.SignalIdeal.nD Cert.SignalIdeal.τ).loc Cert.SignalIdeal.main_arg1))
      ∧ θ_run (Cert.SignalRefIdeal.defs (F := Ideal)) (onTc (τ := Cert.SignalRefIdeal.τ) (Cert.SignalRefIdeal.main (F := Ideal))) ⟨m', fun _ => 0, g'⟩ (fun r => ∀ c : Dev Cert.SignalRefIdeal.nD,
          r.2.mem ((c.tc : Thread Cert.SignalRefIdeal.nD Cert.SignalRefIdeal.τ).loc Cert.SignalRefIdeal.main_v7) = v0 c
          ∧ r.2.mem ((c.tc : Thread Cert.SignalRefIdeal.nD Cert.SignalRefIdeal.τ).loc Cert.SignalRefIdeal.main_arg0) = m' ((c.tc : Thread Cert.SignalRefIdeal.nD Cert.SignalRefIdeal.τ).loc Cert.SignalRefIdeal.main_arg0)
          ∧ r.2.mem ((c.tc : Thread Cert.SignalRefIdeal.nD Cert.SignalRefIdeal.τ).loc Cert.SignalRefIdeal.main_arg1) = m' ((c.tc : Thread Cert.SignalRefIdeal.nD Cert.SignalRefIdeal.τ).loc Cert.SignalRefIdeal.main_arg1))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v0)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v0) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v6) = v0 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1))

def preserves_Product_ProductIdeal : Prop :=
  True

def algebraic_ProductIdeal_ProductRefIdeal [hProductIdeal : Cert.ProductIdeal.Facts] [hProductRefIdeal : Cert.ProductRefIdeal.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductRefIdeal.nD Cert.ProductRefIdeal.τ Cert.ProductRefIdeal.sig) → Buf (Elt Ideal) ℓ) (g' : Dev Cert.ProductRefIdeal.nD → PrngReg), Pre_ProductIdeal m →
    (∀ c : Dev Cert.ProductIdeal.nD,
      m' ((c.tc : Thread Cert.ProductRefIdeal.nD Cert.ProductRefIdeal.τ).loc Cert.ProductRefIdeal.main_arg0) = m ((c.tc : Thread Cert.ProductIdeal.nD Cert.ProductIdeal.τ).loc Cert.ProductIdeal.main_arg0)
      ∧ m' ((c.tc : Thread Cert.ProductRefIdeal.nD Cert.ProductRefIdeal.τ).loc Cert.ProductRefIdeal.main_arg1) = m ((c.tc : Thread Cert.ProductIdeal.nD Cert.ProductIdeal.τ).loc Cert.ProductIdeal.main_arg1)
      ∧ m' ((c.tc : Thread Cert.ProductRefIdeal.nD Cert.ProductRefIdeal.τ).loc Cert.ProductRefIdeal.main_arg2) = m ((c.tc : Thread Cert.ProductIdeal.nD Cert.ProductIdeal.τ).loc Cert.ProductIdeal.main_arg2)
      ∧ m' ((c.tc : Thread Cert.ProductRefIdeal.nD Cert.ProductRefIdeal.τ).loc Cert.ProductRefIdeal.main_arg3) = m ((c.tc : Thread Cert.ProductIdeal.nD Cert.ProductIdeal.τ).loc Cert.ProductIdeal.main_arg3)) →
    ∃ (v0 : (c : Dev Cert.ProductIdeal.nD) → Buf (Elt Ideal) ((c.tc : Thread Cert.ProductIdeal.nD Cert.ProductIdeal.τ).loc Cert.ProductIdeal.main_v0)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v0) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
          ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
          ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3))
      ∧ θ_run (Cert.ProductRefIdeal.defs (F := Ideal)) (onTc (τ := Cert.ProductRefIdeal.τ) (Cert.ProductRefIdeal.main (F := Ideal))) ⟨m', fun _ => 0, g'⟩ (fun r => ∀ c : Dev Cert.ProductRefIdeal.nD,
          r.2.mem ((c.tc : Thread Cert.ProductRefIdeal.nD Cert.ProductRefIdeal.τ).loc Cert.ProductRefIdeal.main_v22) = v0 c
          ∧ r.2.mem ((c.tc : Thread Cert.ProductRefIdeal.nD Cert.ProductRefIdeal.τ).loc Cert.ProductRefIdeal.main_arg0) = m' ((c.tc : Thread Cert.ProductRefIdeal.nD Cert.ProductRefIdeal.τ).loc Cert.ProductRefIdeal.main_arg0)
          ∧ r.2.mem ((c.tc : Thread Cert.ProductRefIdeal.nD Cert.ProductRefIdeal.τ).loc Cert.ProductRefIdeal.main_arg1) = m' ((c.tc : Thread Cert.ProductRefIdeal.nD Cert.ProductRefIdeal.τ).loc Cert.ProductRefIdeal.main_arg1)
          ∧ r.2.mem ((c.tc : Thread Cert.ProductRefIdeal.nD Cert.ProductRefIdeal.τ).loc Cert.ProductRefIdeal.main_arg2) = m' ((c.tc : Thread Cert.ProductRefIdeal.nD Cert.ProductRefIdeal.τ).loc Cert.ProductRefIdeal.main_arg2)
          ∧ r.2.mem ((c.tc : Thread Cert.ProductRefIdeal.nD Cert.ProductRefIdeal.τ).loc Cert.ProductRefIdeal.main_arg3) = m' ((c.tc : Thread Cert.ProductRefIdeal.nD Cert.ProductRefIdeal.τ).loc Cert.ProductRefIdeal.main_arg3))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)) →
    ∃ (v0 : (c : Dev Cert.BackIdeal.nD) → Buf (Elt Ideal) ((c.tc : Thread Cert.BackIdeal.nD Cert.BackIdeal.τ).loc Cert.BackIdeal.main_v0)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v15) = v0 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)
      ∧ m' ((c.tc : Thread Cert.GatedRefIdeal.nD Cert.GatedRefIdeal.τ).loc Cert.GatedRefIdeal.main_arg4) = m ((c.tc : Thread Cert.GatedIdeal.nD Cert.GatedIdeal.τ).loc Cert.GatedIdeal.main_arg4)
      ∧ m' ((c.tc : Thread Cert.GatedRefIdeal.nD Cert.GatedRefIdeal.τ).loc Cert.GatedRefIdeal.main_arg5) = m ((c.tc : Thread Cert.GatedIdeal.nD Cert.GatedIdeal.τ).loc Cert.GatedIdeal.main_arg5)) →
    ∃ (v0 : (c : Dev Cert.GatedIdeal.nD) → Buf (Elt Ideal) ((c.tc : Thread Cert.GatedIdeal.nD Cert.GatedIdeal.τ).loc Cert.GatedIdeal.main_v0)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v0) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
          ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4)
          ∧ r.2.mem ((c.tc : Thread Cert.GatedIdeal.nD Cert.GatedIdeal.τ).loc Cert.GatedIdeal.main_arg5) = m ((c.tc : Thread Cert.GatedIdeal.nD Cert.GatedIdeal.τ).loc Cert.GatedIdeal.main_arg5))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v18) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3)
          ∧ r.2.mem ((c.tc : Thread Cert.GatedRefIdeal.nD Cert.GatedRefIdeal.τ).loc Cert.GatedRefIdeal.main_arg4) = m' ((c.tc : Thread Cert.GatedRefIdeal.nD Cert.GatedRefIdeal.τ).loc Cert.GatedRefIdeal.main_arg4)
          ∧ r.2.mem ((c.tc : Thread Cert.GatedRefIdeal.nD Cert.GatedRefIdeal.τ).loc Cert.GatedRefIdeal.main_arg5) = m' ((c.tc : Thread Cert.GatedRefIdeal.nD Cert.GatedRefIdeal.τ).loc Cert.GatedRefIdeal.main_arg5))

def preserves_Inner_InnerIdeal : Prop :=
  True

def algebraic_InnerIdeal_InnerRefIdeal_pre_finite_scores [hInnerIdeal : Cert.InnerIdeal.Facts] [hInnerRefIdeal : Cert.InnerRefIdeal.Facts] [hPre_finite_scores : Cert.Pre_finite_scores.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerRefIdeal.nD Cert.InnerRefIdeal.τ Cert.InnerRefIdeal.sig) → Buf (Elt Ideal) ℓ) (g' : Dev Cert.InnerRefIdeal.nD → PrngReg), Pre_InnerIdeal_finite_scores m →
    (∀ c : Dev Cert.InnerIdeal.nD,
      m' ((c.tc : Thread Cert.InnerRefIdeal.nD Cert.InnerRefIdeal.τ).loc Cert.InnerRefIdeal.main_arg0) = m ((c.tc : Thread Cert.InnerIdeal.nD Cert.InnerIdeal.τ).loc Cert.InnerIdeal.main_arg0)
      ∧ m' ((c.tc : Thread Cert.InnerRefIdeal.nD Cert.InnerRefIdeal.τ).loc Cert.InnerRefIdeal.main_arg1) = m ((c.tc : Thread Cert.InnerIdeal.nD Cert.InnerIdeal.τ).loc Cert.InnerIdeal.main_arg1)
      ∧ m' ((c.tc : Thread Cert.InnerRefIdeal.nD Cert.InnerRefIdeal.τ).loc Cert.InnerRefIdeal.main_arg2) = m ((c.tc : Thread Cert.InnerIdeal.nD Cert.InnerIdeal.τ).loc Cert.InnerIdeal.main_arg2)
      ∧ m' ((c.tc : Thread Cert.InnerRefIdeal.nD Cert.InnerRefIdeal.τ).loc Cert.InnerRefIdeal.main_arg3) = m ((c.tc : Thread Cert.InnerIdeal.nD Cert.InnerIdeal.τ).loc Cert.InnerIdeal.main_arg3)
      ∧ m' ((c.tc : Thread Cert.InnerRefIdeal.nD Cert.InnerRefIdeal.τ).loc Cert.InnerRefIdeal.main_arg4) = m ((c.tc : Thread Cert.InnerIdeal.nD Cert.InnerIdeal.τ).loc Cert.InnerIdeal.main_arg4)
      ∧ m' ((c.tc : Thread Cert.InnerRefIdeal.nD Cert.InnerRefIdeal.τ).loc Cert.InnerRefIdeal.main_arg5) = m ((c.tc : Thread Cert.InnerIdeal.nD Cert.InnerIdeal.τ).loc Cert.InnerIdeal.main_arg5)
      ∧ m' ((c.tc : Thread Cert.InnerRefIdeal.nD Cert.InnerRefIdeal.τ).loc Cert.InnerRefIdeal.main_arg6) = m ((c.tc : Thread Cert.InnerIdeal.nD Cert.InnerIdeal.τ).loc Cert.InnerIdeal.main_arg6)
      ∧ m' ((c.tc : Thread Cert.InnerRefIdeal.nD Cert.InnerRefIdeal.τ).loc Cert.InnerRefIdeal.main_arg7) = m ((c.tc : Thread Cert.InnerIdeal.nD Cert.InnerIdeal.τ).loc Cert.InnerIdeal.main_arg7)
      ∧ m' ((c.tc : Thread Cert.InnerRefIdeal.nD Cert.InnerRefIdeal.τ).loc Cert.InnerRefIdeal.main_arg8) = m ((c.tc : Thread Cert.InnerIdeal.nD Cert.InnerIdeal.τ).loc Cert.InnerIdeal.main_arg8)) →
    ∃ (v0 : (c : Dev Cert.InnerIdeal.nD) → Buf (Elt Ideal) ((c.tc : Thread Cert.InnerIdeal.nD Cert.InnerIdeal.τ).loc Cert.InnerIdeal.main_v0)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v0) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
          ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
          ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
          ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6)
          ∧ r.2.mem ((c.tc : Thread Cert.InnerIdeal.nD Cert.InnerIdeal.τ).loc Cert.InnerIdeal.main_arg7) = m ((c.tc : Thread Cert.InnerIdeal.nD Cert.InnerIdeal.τ).loc Cert.InnerIdeal.main_arg7)
          ∧ r.2.mem ((c.tc : Thread Cert.InnerIdeal.nD Cert.InnerIdeal.τ).loc Cert.InnerIdeal.main_arg8) = m ((c.tc : Thread Cert.InnerIdeal.nD Cert.InnerIdeal.τ).loc Cert.InnerIdeal.main_arg8))
      ∧ θ_run (Cert.InnerRefIdeal.defs (F := Ideal)) (onTc (τ := Cert.InnerRefIdeal.τ) (Cert.InnerRefIdeal.main (F := Ideal))) ⟨m', fun _ => 0, g'⟩ (fun r => ∀ c : Dev Cert.InnerRefIdeal.nD,
          r.2.mem ((c.tc : Thread Cert.InnerRefIdeal.nD Cert.InnerRefIdeal.τ).loc Cert.InnerRefIdeal.main_v32) = v0 c
          ∧ r.2.mem ((c.tc : Thread Cert.InnerRefIdeal.nD Cert.InnerRefIdeal.τ).loc Cert.InnerRefIdeal.main_arg0) = m' ((c.tc : Thread Cert.InnerRefIdeal.nD Cert.InnerRefIdeal.τ).loc Cert.InnerRefIdeal.main_arg0)
          ∧ r.2.mem ((c.tc : Thread Cert.InnerRefIdeal.nD Cert.InnerRefIdeal.τ).loc Cert.InnerRefIdeal.main_arg1) = m' ((c.tc : Thread Cert.InnerRefIdeal.nD Cert.InnerRefIdeal.τ).loc Cert.InnerRefIdeal.main_arg1)
          ∧ r.2.mem ((c.tc : Thread Cert.InnerRefIdeal.nD Cert.InnerRefIdeal.τ).loc Cert.InnerRefIdeal.main_arg2) = m' ((c.tc : Thread Cert.InnerRefIdeal.nD Cert.InnerRefIdeal.τ).loc Cert.InnerRefIdeal.main_arg2)
          ∧ r.2.mem ((c.tc : Thread Cert.InnerRefIdeal.nD Cert.InnerRefIdeal.τ).loc Cert.InnerRefIdeal.main_arg3) = m' ((c.tc : Thread Cert.InnerRefIdeal.nD Cert.InnerRefIdeal.τ).loc Cert.InnerRefIdeal.main_arg3)
          ∧ r.2.mem ((c.tc : Thread Cert.InnerRefIdeal.nD Cert.InnerRefIdeal.τ).loc Cert.InnerRefIdeal.main_arg4) = m' ((c.tc : Thread Cert.InnerRefIdeal.nD Cert.InnerRefIdeal.τ).loc Cert.InnerRefIdeal.main_arg4)
          ∧ r.2.mem ((c.tc : Thread Cert.InnerRefIdeal.nD Cert.InnerRefIdeal.τ).loc Cert.InnerRefIdeal.main_arg5) = m' ((c.tc : Thread Cert.InnerRefIdeal.nD Cert.InnerRefIdeal.τ).loc Cert.InnerRefIdeal.main_arg5)
          ∧ r.2.mem ((c.tc : Thread Cert.InnerRefIdeal.nD Cert.InnerRefIdeal.τ).loc Cert.InnerRefIdeal.main_arg6) = m' ((c.tc : Thread Cert.InnerRefIdeal.nD Cert.InnerRefIdeal.τ).loc Cert.InnerRefIdeal.main_arg6)
          ∧ r.2.mem ((c.tc : Thread Cert.InnerRefIdeal.nD Cert.InnerRefIdeal.τ).loc Cert.InnerRefIdeal.main_arg7) = m' ((c.tc : Thread Cert.InnerRefIdeal.nD Cert.InnerRefIdeal.τ).loc Cert.InnerRefIdeal.main_arg7)
          ∧ r.2.mem ((c.tc : Thread Cert.InnerRefIdeal.nD Cert.InnerRefIdeal.τ).loc Cert.InnerRefIdeal.main_arg8) = m' ((c.tc : Thread Cert.InnerRefIdeal.nD Cert.InnerRefIdeal.τ).loc Cert.InnerRefIdeal.main_arg8))

def preserves_Second_SecondIdeal : Prop :=
  True

def algebraic_SecondIdeal_SecondRefIdeal_pre_finite_inputs [hSecondIdeal : Cert.SecondIdeal.Facts] [hSecondRefIdeal : Cert.SecondRefIdeal.Facts] [hPre_finite_inputs : Cert.Pre_finite_inputs.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondRefIdeal.nD Cert.SecondRefIdeal.τ Cert.SecondRefIdeal.sig) → Buf (Elt Ideal) ℓ) (g' : Dev Cert.SecondRefIdeal.nD → PrngReg), Pre_SecondIdeal_finite_inputs m →
    (∀ c : Dev Cert.SecondIdeal.nD,
      m' ((c.tc : Thread Cert.SecondRefIdeal.nD Cert.SecondRefIdeal.τ).loc Cert.SecondRefIdeal.main_arg0) = m ((c.tc : Thread Cert.SecondIdeal.nD Cert.SecondIdeal.τ).loc Cert.SecondIdeal.main_arg0)
      ∧ m' ((c.tc : Thread Cert.SecondRefIdeal.nD Cert.SecondRefIdeal.τ).loc Cert.SecondRefIdeal.main_arg1) = m ((c.tc : Thread Cert.SecondIdeal.nD Cert.SecondIdeal.τ).loc Cert.SecondIdeal.main_arg1)
      ∧ m' ((c.tc : Thread Cert.SecondRefIdeal.nD Cert.SecondRefIdeal.τ).loc Cert.SecondRefIdeal.main_arg2) = m ((c.tc : Thread Cert.SecondIdeal.nD Cert.SecondIdeal.τ).loc Cert.SecondIdeal.main_arg2)
      ∧ m' ((c.tc : Thread Cert.SecondRefIdeal.nD Cert.SecondRefIdeal.τ).loc Cert.SecondRefIdeal.main_arg3) = m ((c.tc : Thread Cert.SecondIdeal.nD Cert.SecondIdeal.τ).loc Cert.SecondIdeal.main_arg3)
      ∧ m' ((c.tc : Thread Cert.SecondRefIdeal.nD Cert.SecondRefIdeal.τ).loc Cert.SecondRefIdeal.main_arg4) = m ((c.tc : Thread Cert.SecondIdeal.nD Cert.SecondIdeal.τ).loc Cert.SecondIdeal.main_arg4)
      ∧ m' ((c.tc : Thread Cert.SecondRefIdeal.nD Cert.SecondRefIdeal.τ).loc Cert.SecondRefIdeal.main_arg5) = m ((c.tc : Thread Cert.SecondIdeal.nD Cert.SecondIdeal.τ).loc Cert.SecondIdeal.main_arg5)
      ∧ m' ((c.tc : Thread Cert.SecondRefIdeal.nD Cert.SecondRefIdeal.τ).loc Cert.SecondRefIdeal.main_arg6) = m ((c.tc : Thread Cert.SecondIdeal.nD Cert.SecondIdeal.τ).loc Cert.SecondIdeal.main_arg6)
      ∧ m' ((c.tc : Thread Cert.SecondRefIdeal.nD Cert.SecondRefIdeal.τ).loc Cert.SecondRefIdeal.main_arg7) = m ((c.tc : Thread Cert.SecondIdeal.nD Cert.SecondIdeal.τ).loc Cert.SecondIdeal.main_arg7)
      ∧ m' ((c.tc : Thread Cert.SecondRefIdeal.nD Cert.SecondRefIdeal.τ).loc Cert.SecondRefIdeal.main_arg8) = m ((c.tc : Thread Cert.SecondIdeal.nD Cert.SecondIdeal.τ).loc Cert.SecondIdeal.main_arg8)) →
    ∃ (v0 : (c : Dev Cert.SecondIdeal.nD) → Buf (Elt Ideal) ((c.tc : Thread Cert.SecondIdeal.nD Cert.SecondIdeal.τ).loc Cert.SecondIdeal.main_v0)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v0) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
          ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
          ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8))
      ∧ θ_run (Cert.SecondRefIdeal.defs (F := Ideal)) (onTc (τ := Cert.SecondRefIdeal.τ) (Cert.SecondRefIdeal.main (F := Ideal))) ⟨m', fun _ => 0, g'⟩ (fun r => ∀ c : Dev Cert.SecondRefIdeal.nD,
          r.2.mem ((c.tc : Thread Cert.SecondRefIdeal.nD Cert.SecondRefIdeal.τ).loc Cert.SecondRefIdeal.main_v58) = v0 c
          ∧ r.2.mem ((c.tc : Thread Cert.SecondRefIdeal.nD Cert.SecondRefIdeal.τ).loc Cert.SecondRefIdeal.main_arg0) = m' ((c.tc : Thread Cert.SecondRefIdeal.nD Cert.SecondRefIdeal.τ).loc Cert.SecondRefIdeal.main_arg0)
          ∧ r.2.mem ((c.tc : Thread Cert.SecondRefIdeal.nD Cert.SecondRefIdeal.τ).loc Cert.SecondRefIdeal.main_arg1) = m' ((c.tc : Thread Cert.SecondRefIdeal.nD Cert.SecondRefIdeal.τ).loc Cert.SecondRefIdeal.main_arg1)
          ∧ r.2.mem ((c.tc : Thread Cert.SecondRefIdeal.nD Cert.SecondRefIdeal.τ).loc Cert.SecondRefIdeal.main_arg2) = m' ((c.tc : Thread Cert.SecondRefIdeal.nD Cert.SecondRefIdeal.τ).loc Cert.SecondRefIdeal.main_arg2)
          ∧ r.2.mem ((c.tc : Thread Cert.SecondRefIdeal.nD Cert.SecondRefIdeal.τ).loc Cert.SecondRefIdeal.main_arg3) = m' ((c.tc : Thread Cert.SecondRefIdeal.nD Cert.SecondRefIdeal.τ).loc Cert.SecondRefIdeal.main_arg3)
          ∧ r.2.mem ((c.tc : Thread Cert.SecondRefIdeal.nD Cert.SecondRefIdeal.τ).loc Cert.SecondRefIdeal.main_arg4) = m' ((c.tc : Thread Cert.SecondRefIdeal.nD Cert.SecondRefIdeal.τ).loc Cert.SecondRefIdeal.main_arg4)
          ∧ r.2.mem ((c.tc : Thread Cert.SecondRefIdeal.nD Cert.SecondRefIdeal.τ).loc Cert.SecondRefIdeal.main_arg5) = m' ((c.tc : Thread Cert.SecondRefIdeal.nD Cert.SecondRefIdeal.τ).loc Cert.SecondRefIdeal.main_arg5)
          ∧ r.2.mem ((c.tc : Thread Cert.SecondRefIdeal.nD Cert.SecondRefIdeal.τ).loc Cert.SecondRefIdeal.main_arg6) = m' ((c.tc : Thread Cert.SecondRefIdeal.nD Cert.SecondRefIdeal.τ).loc Cert.SecondRefIdeal.main_arg6)
          ∧ r.2.mem ((c.tc : Thread Cert.SecondRefIdeal.nD Cert.SecondRefIdeal.τ).loc Cert.SecondRefIdeal.main_arg7) = m' ((c.tc : Thread Cert.SecondRefIdeal.nD Cert.SecondRefIdeal.τ).loc Cert.SecondRefIdeal.main_arg7)
          ∧ r.2.mem ((c.tc : Thread Cert.SecondRefIdeal.nD Cert.SecondRefIdeal.τ).loc Cert.SecondRefIdeal.main_arg8) = m' ((c.tc : Thread Cert.SecondRefIdeal.nD Cert.SecondRefIdeal.τ).loc Cert.SecondRefIdeal.main_arg8))

def Claim : Prop :=
  ∃ (hKernel : Cert.Kernel.Facts) (hKernelIdeal : Cert.KernelIdeal.Facts) (hReferenceIdeal : Cert.ReferenceIdeal.Facts) (hInput : Cert.Input.Facts) (hInputIdeal : Cert.InputIdeal.Facts) (hInputRefIdeal : Cert.InputRefIdeal.Facts) (hMemory : Cert.Memory.Facts) (hMemoryIdeal : Cert.MemoryIdeal.Facts) (hMemoryRefIdeal : Cert.MemoryRefIdeal.Facts) (hOutput : Cert.Output.Facts) (hOutputIdeal : Cert.OutputIdeal.Facts) (hOutputRefIdeal : Cert.OutputRefIdeal.Facts) (hConv : Cert.Conv.Facts) (hConvIdeal : Cert.ConvIdeal.Facts) (hConvRefIdeal : Cert.ConvRefIdeal.Facts) (hRope : Cert.Rope.Facts) (hRopeIdeal : Cert.RopeIdeal.Facts) (hRopeRefIdeal : Cert.RopeRefIdeal.Facts) (hFilter : Cert.Filter.Facts) (hFilterIdeal : Cert.FilterIdeal.Facts) (hFilterRefIdeal : Cert.FilterRefIdeal.Facts) (hSpectrum : Cert.Spectrum.Facts) (hSpectrumIdeal : Cert.SpectrumIdeal.Facts) (hSpectrumRefIdeal : Cert.SpectrumRefIdeal.Facts) (hSignal : Cert.Signal.Facts) (hSignalIdeal : Cert.SignalIdeal.Facts) (hSignalRefIdeal : Cert.SignalRefIdeal.Facts) (hRows : Cert.Rows.Facts) (hRowsIdeal : Cert.RowsIdeal.Facts) (hRowsRefIdeal : Cert.RowsRefIdeal.Facts) (hProduct : Cert.Product.Facts) (hProductIdeal : Cert.ProductIdeal.Facts) (hProductRefIdeal : Cert.ProductRefIdeal.Facts) (hBack : Cert.Back.Facts) (hBackIdeal : Cert.BackIdeal.Facts) (hBackRefIdeal : Cert.BackRefIdeal.Facts) (hGated : Cert.Gated.Facts) (hGatedIdeal : Cert.GatedIdeal.Facts) (hGatedRefIdeal : Cert.GatedRefIdeal.Facts) (hInner : Cert.Inner.Facts) (hInnerIdeal : Cert.InnerIdeal.Facts) (hInnerRefIdeal : Cert.InnerRefIdeal.Facts) (hSecond : Cert.Second.Facts) (hSecondIdeal : Cert.SecondIdeal.Facts) (hSecondRefIdeal : Cert.SecondRefIdeal.Facts) (hPre_finite_inputs : Cert.Pre_finite_inputs.Facts) (hPre_finite_scores : Cert.Pre_finite_scores.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Input (hInput := hInput)
    ∧ quiescent_InputIdeal (hInputIdeal := hInputIdeal)
    ∧ quiescent_InputRefIdeal (hInputRefIdeal := hInputRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Output (hOutput := hOutput)
    ∧ quiescent_OutputIdeal (hOutputIdeal := hOutputIdeal)
    ∧ quiescent_OutputIdeal_pre_finite_scores (hOutputIdeal := hOutputIdeal) (hPre_finite_scores := hPre_finite_scores)
    ∧ quiescent_OutputRefIdeal (hOutputRefIdeal := hOutputRefIdeal)
    ∧ quiescent_OutputRefIdeal_pre_finite_scores (hOutputRefIdeal := hOutputRefIdeal) (hPre_finite_scores := hPre_finite_scores)
    ∧ quiescent_Conv (hConv := hConv)
    ∧ quiescent_ConvIdeal (hConvIdeal := hConvIdeal)
    ∧ quiescent_ConvRefIdeal (hConvRefIdeal := hConvRefIdeal)
    ∧ quiescent_Rope (hRope := hRope)
    ∧ quiescent_RopeIdeal (hRopeIdeal := hRopeIdeal)
    ∧ quiescent_RopeRefIdeal (hRopeRefIdeal := hRopeRefIdeal)
    ∧ quiescent_Filter (hFilter := hFilter)
    ∧ quiescent_FilterIdeal (hFilterIdeal := hFilterIdeal)
    ∧ quiescent_FilterRefIdeal (hFilterRefIdeal := hFilterRefIdeal)
    ∧ quiescent_Spectrum (hSpectrum := hSpectrum)
    ∧ quiescent_SpectrumIdeal (hSpectrumIdeal := hSpectrumIdeal)
    ∧ quiescent_SpectrumRefIdeal (hSpectrumRefIdeal := hSpectrumRefIdeal)
    ∧ quiescent_Signal (hSignal := hSignal)
    ∧ quiescent_SignalIdeal (hSignalIdeal := hSignalIdeal)
    ∧ quiescent_SignalRefIdeal (hSignalRefIdeal := hSignalRefIdeal)
    ∧ quiescent_Rows (hRows := hRows)
    ∧ quiescent_RowsIdeal (hRowsIdeal := hRowsIdeal)
    ∧ quiescent_RowsRefIdeal (hRowsRefIdeal := hRowsRefIdeal)
    ∧ quiescent_Product (hProduct := hProduct)
    ∧ quiescent_ProductIdeal (hProductIdeal := hProductIdeal)
    ∧ quiescent_ProductRefIdeal (hProductRefIdeal := hProductRefIdeal)
    ∧ quiescent_Back (hBack := hBack)
    ∧ quiescent_BackIdeal (hBackIdeal := hBackIdeal)
    ∧ quiescent_BackRefIdeal (hBackRefIdeal := hBackRefIdeal)
    ∧ quiescent_Gated (hGated := hGated)
    ∧ quiescent_GatedIdeal (hGatedIdeal := hGatedIdeal)
    ∧ quiescent_GatedRefIdeal (hGatedRefIdeal := hGatedRefIdeal)
    ∧ quiescent_Inner (hInner := hInner)
    ∧ quiescent_InnerIdeal (hInnerIdeal := hInnerIdeal)
    ∧ quiescent_InnerIdeal_pre_finite_scores (hInnerIdeal := hInnerIdeal) (hPre_finite_scores := hPre_finite_scores)
    ∧ quiescent_InnerRefIdeal (hInnerRefIdeal := hInnerRefIdeal)
    ∧ quiescent_InnerRefIdeal_pre_finite_scores (hInnerRefIdeal := hInnerRefIdeal) (hPre_finite_scores := hPre_finite_scores)
    ∧ quiescent_Second (hSecond := hSecond)
    ∧ quiescent_SecondIdeal (hSecondIdeal := hSecondIdeal)
    ∧ quiescent_SecondIdeal_pre_finite_inputs (hSecondIdeal := hSecondIdeal) (hPre_finite_inputs := hPre_finite_inputs)
    ∧ quiescent_SecondRefIdeal (hSecondRefIdeal := hSecondRefIdeal)
    ∧ quiescent_SecondRefIdeal_pre_finite_inputs (hSecondRefIdeal := hSecondRefIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Input_InputIdeal
    ∧ algebraic_InputIdeal_InputRefIdeal (hInputIdeal := hInputIdeal) (hInputRefIdeal := hInputRefIdeal)
    ∧ preserves_Memory_MemoryIdeal
    ∧ algebraic_MemoryIdeal_MemoryRefIdeal (hMemoryIdeal := hMemoryIdeal) (hMemoryRefIdeal := hMemoryRefIdeal)
    ∧ preserves_Output_OutputIdeal
    ∧ algebraic_OutputIdeal_OutputRefIdeal_pre_finite_scores (hOutputIdeal := hOutputIdeal) (hOutputRefIdeal := hOutputRefIdeal) (hPre_finite_scores := hPre_finite_scores)
    ∧ preserves_Conv_ConvIdeal
    ∧ algebraic_ConvIdeal_ConvRefIdeal (hConvIdeal := hConvIdeal) (hConvRefIdeal := hConvRefIdeal)
    ∧ preserves_Rope_RopeIdeal
    ∧ algebraic_RopeIdeal_RopeRefIdeal (hRopeIdeal := hRopeIdeal) (hRopeRefIdeal := hRopeRefIdeal)
    ∧ preserves_Filter_FilterIdeal
    ∧ algebraic_FilterIdeal_FilterRefIdeal (hFilterIdeal := hFilterIdeal) (hFilterRefIdeal := hFilterRefIdeal)
    ∧ preserves_Spectrum_SpectrumIdeal
    ∧ algebraic_SpectrumIdeal_SpectrumRefIdeal (hSpectrumIdeal := hSpectrumIdeal) (hSpectrumRefIdeal := hSpectrumRefIdeal)
    ∧ preserves_Signal_SignalIdeal
    ∧ algebraic_SignalIdeal_SignalRefIdeal (hSignalIdeal := hSignalIdeal) (hSignalRefIdeal := hSignalRefIdeal)
    ∧ preserves_Rows_RowsIdeal
    ∧ algebraic_RowsIdeal_RowsRefIdeal (hRowsIdeal := hRowsIdeal) (hRowsRefIdeal := hRowsRefIdeal)
    ∧ preserves_Product_ProductIdeal
    ∧ algebraic_ProductIdeal_ProductRefIdeal (hProductIdeal := hProductIdeal) (hProductRefIdeal := hProductRefIdeal)
    ∧ preserves_Back_BackIdeal
    ∧ algebraic_BackIdeal_BackRefIdeal (hBackIdeal := hBackIdeal) (hBackRefIdeal := hBackRefIdeal)
    ∧ preserves_Gated_GatedIdeal
    ∧ algebraic_GatedIdeal_GatedRefIdeal (hGatedIdeal := hGatedIdeal) (hGatedRefIdeal := hGatedRefIdeal)
    ∧ preserves_Inner_InnerIdeal
    ∧ algebraic_InnerIdeal_InnerRefIdeal_pre_finite_scores (hInnerIdeal := hInnerIdeal) (hInnerRefIdeal := hInnerRefIdeal) (hPre_finite_scores := hPre_finite_scores)
    ∧ preserves_Second_SecondIdeal
    ∧ algebraic_SecondIdeal_SecondRefIdeal_pre_finite_inputs (hSecondIdeal := hSecondIdeal) (hSecondRefIdeal := hSecondRefIdeal) (hPre_finite_inputs := hPre_finite_inputs)
-- ==== Pre_finite_inputs.lean ====
abbrev S16384x512 : Shape := ⟨2, ![16384, 512]⟩
abbrev S2x512x8192 : Shape := ⟨3, ![2, 512, 8192]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S1x64 : S_.BroadcastsInDim S1x64 (![] : Fin 0 → Fin S1x64.rank)

variable [Facts]

def fn {F : FTy → Type} [FloatOps F] (main_arg0 : FVec F S16384x512 .bf16) (main_arg1 : FVec F S2x512x8192 .bf16) (main_arg2 : FVec F S16384x512 .bf16) (main_arg3 : FVec F S16384x512 .bf16) (main_arg4 : FVec F S1x64 .f32) (main_arg5 : FVec F S1x64 .f32) (main_arg6 : FVec F S1x64 .f32) (main_arg7 : FVec F S1x64 .f32) (main_arg8 : FVec F S1x128 .f32) : IVec S16384x512 1 × IVec S1x64 1 × IVec S1x64 1 × IVec S1x64 1 × IVec S1x64 1 :=
  let main_v0 : FVec F S16384x512 .f32 := (extf .f32 · bitsLt_bf16_f32) main_arg2
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S1x64 .f32 := Host.absf main_arg4
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S1x64 .f32 := Host.absf main_arg5
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x64 .f32 := Host.absf main_arg6
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x64 .f32 := Host.absf main_arg7
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  (main_v3, main_v6, main_v9, main_v12, main_v15)
-- ==== Pre_finite_scores.lean ====
abbrev S16384x512 : Shape := ⟨2, ![16384, 512]⟩
abbrev S2x512x256 : Shape := ⟨3, ![2, 512, 256]⟩
abbrev S2x256x512 : Shape := ⟨3, ![2, 256, 512]⟩
abbrev S1536x1024 : Shape := ⟨2, ![1536, 1024]⟩
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S2x512x256 : S_.BroadcastsInDim S2x512x256 (![] : Fin 0 → Fin S2x512x256.rank)

variable [Facts]

def fn {F : FTy → Type} [FloatOps F] (main_arg0 : FVec F S16384x512 .bf16) (main_arg1 : FVec F S16384x512 .bf16) (main_arg2 : FVec F S16384x512 .bf16) (main_arg3 : FVec F S16384x512 .bf16) (main_arg4 : FVec F S2x512x256 .bf16) (main_arg5 : FVec F S2x256x512 .bf16) (main_arg6 : FVec F S1536x1024 .bf16) (main_arg7 : FVec F S16384x1024 .f32) (main_arg8 : FVec F S1x1024 .f32) : IVec S16384x512 1 × IVec S2x512x256 1 :=
  let main_v0 : FVec F S16384x512 .f32 := (extf .f32 · bitsLt_bf16_f32) main_arg2
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S2x512x256 .f32 := (extf .f32 · bitsLt_bf16_f32) main_arg4
  let main_v5 : FVec F S2x512x256 .f32 := Host.absf main_v4
  let main_cst_0 : FVec F S_ .f32 := constant S_ .f32 0x7F800000#32
  let main_v6 : FVec F S2x512x256 .f32 := broadcastInDim S2x512x256 ![] bcast_S_S2x512x256 main_cst_0
  let main_v7 : IVec S2x512x256 1 := cmpf .olt main_v5 main_v6
  (main_v3, main_v7)
-- ==== Kernel.lean ====
abbrev S16384x512 : Shape := ⟨2, ![16384, 512]⟩
abbrev S2x512x8192 : Shape := ⟨3, ![2, 512, 8192]⟩
abbrev S1x64 : Shape := ⟨2, ![1, 64]⟩
abbrev S1x128 : Shape := ⟨2, ![1, 128]⟩
abbrev S256x128 : Shape := ⟨2, ![256, 128]⟩
abbrev S1x128x8192 : Shape := ⟨3, ![1, 128, 8192]⟩
abbrev S8192x128 : Shape := ⟨2, ![8192, 128]⟩
abbrev S8192x256 : Shape := ⟨2, ![8192, 256]⟩
abbrev S512x128 : Shape := ⟨2, ![512, 128]⟩
abbrev S512x256 : Shape := ⟨2, ![512, 256]⟩
abbrev S1x128x1024 : Shape := ⟨3, ![1, 128, 1024]⟩
abbrev S128x1024 : Shape := ⟨2, ![128, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S2x512x8192, .bf16⟩
  | .hbm, ⟨2, _⟩ => ⟨S16384x512, .bf16⟩
  | .hbm, ⟨3, _⟩ => ⟨S16384x512, .bf16⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S16384x512, .bf16⟩
  | .local _ .vmem, ⟨0, _⟩ => ⟨S256x128, .bf16⟩
  | .local _ .vmem, ⟨1, _⟩ => ⟨S256x128, .bf16⟩
  | .local _ .vmem, ⟨2, _⟩ => ⟨S1x128x8192, .bf16⟩
  | .local _ .vmem, ⟨3, _⟩ => ⟨S1x128x8192, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S256x128, .bf16⟩
  | .local _ .vmem, ⟨14, _⟩ => ⟨S256x128, .bf16⟩
  | .local _ .vmem, ⟨15, _⟩ => ⟨S8192x256, .bf16⟩
  | .local _ .vmem, ⟨16, _⟩ => ⟨S512x128, .f32⟩
  | .local _ .vmem, ⟨17, _⟩ => ⟨S512x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![2, 4, 32], ![false, false, false]⟩

@[reducible] def k0_t1_loop : Scf.Loop 32 :=
  let c0_i32_9 : BitVec 32 := 0#32
  let c8_i32 : BitVec 32 := 8#32
  let v21 : BitVec 32 := Scalar.addi c0_i32_9 c8_i32
  let c1_i32 : BitVec 32 := 1#32
  ⟨c0_i32_9, v21, c1_i32⟩
def k0_mult1 (k0_t1 : Fin k0_t1_loop.trips) : BitVec 32 :=
  let c0_i32_9 : BitVec 32 := 0#32
  let c1_i32 : BitVec 32 := 1#32
  let arg16 : BitVec 32 := Scf.iv c0_i32_9 c1_i32 k0_t1
  let c1024_i32 : BitVec 32 := 1024#32
  let v72 : BitVec 32 := Scalar.muli arg16 c1024_i32
  v72
def k0_off1 (k0_t1 : Fin k0_t1_loop.trips) : Fin 3 → Nat :=
  let c0_36 : Index := 0#32
  let c0_37 : Index := 0#32
  let c0_i32_9 : BitVec 32 := 0#32
  let c1_i32 : BitVec 32 := 1#32
  let arg16 : BitVec 32 := Scf.iv c0_i32_9 c1_i32 k0_t1
  let c1024_i32 : BitVec 32 := 1024#32
  let v72 : BitVec 32 := Scalar.muli arg16 c1024_i32
  let v73 : BitVec 32 := v72
  let v74 : Index := Scalar.indexCast v73
  ![0, 0, v74.toNat]
def k0_off2 (k0_t1 : Fin k0_t1_loop.trips) : Fin 2 → Nat :=
  let c0_i32_9 : BitVec 32 := 0#32
  let c1_i32 : BitVec 32 := 1#32
  let arg16 : BitVec 32 := Scf.iv c0_i32_9 c1_i32 k0_t1
  let c1024_i32 : BitVec 32 := 1024#32
  let v72 : BitVec 32 := Scalar.muli arg16 c1024_i32
  let v73 : BitVec 32 := v72
  let v89 : Index := Scalar.indexCast v73
  let c0_42 : Index := 0#32
  ![v89.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S16384x512 : Shape := ⟨2, ![16384, 512]⟩
abbrev S2x512x8192 : Shape := ⟨3, ![2, 512, 8192]⟩
abbrev S1x64 : Shape := ⟨2, ![1, 64]⟩
abbrev S1x128 : Shape := ⟨2, ![1, 128]⟩
abbrev S2x8192x4x2x64 : Shape := ⟨5, ![2, 8192, 4, 2, 64]⟩
abbrev S2x4x2x64x8192 : Shape := ⟨5, ![2, 4, 2, 64, 8192]⟩
abbrev S2x8192x4x128 : Shape := ⟨4, ![2, 8192, 4, 128]⟩
abbrev S_ : Shape := ⟨0, ![]⟩
abbrev S2x2x4x8192x8192 : Shape := ⟨5, ![2, 2, 4, 8192, 8192]⟩
abbrev S2x2x4x8192 : Shape := ⟨4, ![2, 2, 4, 8192]⟩
abbrev S2x2x4x8192x1 : Shape := ⟨5, ![2, 2, 4, 8192, 1]⟩
abbrev S1x2x4x8192x8192 : Shape := ⟨5, ![1, 2, 4, 8192, 8192]⟩
abbrev S2x4x8192x8192 : Shape := ⟨4, ![2, 4, 8192, 8192]⟩
abbrev S2x4x128x8192 : Shape := ⟨4, ![2, 4, 128, 8192]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S2x512x8192, .bf16⟩
  | .hbm, ⟨2, _⟩ => ⟨S16384x512, .bf16⟩
  | .hbm, ⟨3, _⟩ => ⟨S16384x512, .bf16⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S16384x512, .f32⟩
  | .hbm, ⟨10, _⟩ => ⟨S2x8192x4x2x64, .f32⟩
  | .hbm, ⟨11, _⟩ => ⟨S2x512x8192, .f32⟩
  | .hbm, ⟨12, _⟩ => ⟨S2x4x2x64x8192, .f32⟩
  | .hbm, ⟨13, _⟩ => ⟨S16384x512, .f32⟩
  | .hbm, ⟨14, _⟩ => ⟨S2x8192x4x128, .f32⟩
  | .hbm, ⟨15, _⟩ => ⟨S16384x512, .f32⟩
  | .hbm, ⟨16, _⟩ => ⟨S1x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x2x4x8192x8192, .f32⟩
  | .hbm, ⟨28, _⟩ => ⟨S_, .f32⟩
  | .hbm, ⟨29, _⟩ => ⟨S_, .f32⟩
  | .hbm, ⟨30, _⟩ => ⟨S2x2x4x8192x8192, .f32⟩
  | .hbm, ⟨31, _⟩ => ⟨S2x2x4x8192x8192, .f32⟩
  | .hbm, ⟨32, _⟩ => ⟨S_, .f32⟩
  | .hbm, ⟨33, _⟩ => ⟨S2x2x4x8192, .f32⟩
  | .hbm, ⟨34, _⟩ => ⟨S_, .f32⟩
  | .hbm, ⟨35, _⟩ => ⟨S2x2x4x8192, .f32⟩
  | .hbm, ⟨36, _⟩ => ⟨S2x2x4x8192, .f32⟩
  | .hbm, ⟨37, _⟩ => ⟨S2x2x4x8192x1, .f32⟩
  | .hbm, ⟨38, _⟩ => ⟨S2x2x4x8192x8192, .f32⟩
  | .hbm, ⟨39, _⟩ => ⟨S2x2x4x8192x8192, .f32⟩
  | .hbm, ⟨40, _⟩ => ⟨S2x2x4x8192x8192, .f32⟩
  | .hbm, ⟨41, _⟩ => ⟨S_, .f32⟩
  | .hbm, ⟨42, _⟩ => ⟨S2x2x4x8192, .f32⟩
  | .hbm, ⟨43, _⟩ => ⟨S2x2x4x8192x1, .f32⟩
  | .hbm, ⟨44, _⟩ => ⟨S2x2x4x8192x8192, .f32⟩
  | .hbm, ⟨45, _⟩ => ⟨S2x2x4x8192x8192, .f32⟩
  | .hbm, ⟨46, _⟩ => ⟨S1x2x4x8192x8192, .f32⟩
  | .hbm, ⟨47, _⟩ => ⟨S2x4x8192x8192, .f32⟩
  | .hbm, ⟨48, _⟩ => ⟨S1x2x4x8192x8192, .f32⟩
  | .hbm, ⟨49, _⟩ => ⟨S2x4x8192x8192, .f32⟩
  | .hbm, ⟨50, _⟩ => ⟨S2x4x8192x8192, .f32⟩
  | .hbm, ⟨51, _⟩ => ⟨S2x4x8192x8192, .f32⟩
  | .hbm, ⟨52, _⟩ => ⟨S2x4x8192x8192, .f32⟩
  | .hbm, ⟨53, _⟩ => ⟨S2x4x128x8192, .f32⟩
  | .hbm, ⟨54, _⟩ => ⟨S2x8192x4x128, .f32⟩
  | .hbm, ⟨55, _⟩ => ⟨S128, .f32⟩
  | .hbm, ⟨56, _⟩ => ⟨S2x8192x4x128, .f32⟩
  | .hbm, ⟨57, _⟩ => ⟨S_, .f32⟩
  | .hbm, ⟨58, _⟩ => ⟨S2x8192x4, .f32⟩
  | .hbm, ⟨59, _⟩ => ⟨S2x8192x4x1, .f32⟩
  | .hbm, ⟨60, _⟩ => ⟨S_, .f32⟩
  | .hbm, ⟨61, _⟩ => ⟨S2x8192x4x1, .f32⟩
  | .hbm, ⟨62, _⟩ => ⟨S2x8192x4x1, .f32⟩
  | .hbm, ⟨63, _⟩ => ⟨S_, .f32⟩
  | .hbm, ⟨64, _⟩ => ⟨S2x8192x4x1, .f32⟩
  | .hbm, ⟨65, _⟩ => ⟨S2x8192x4x1, .f32⟩
  | .hbm, ⟨66, _⟩ => ⟨S2x8192x4x1, .f32⟩
  | .hbm, ⟨67, _⟩ => ⟨S2x8192x4x128, .f32⟩
  | .hbm, ⟨68, _⟩ => ⟨S2x8192x4x128, .f32⟩
  | .hbm, ⟨69, _⟩ => ⟨S1x1x1x128, .f32⟩
  | .hbm, ⟨70, _⟩ => ⟨S2x8192x4x128, .f32⟩
  | .hbm, ⟨71, _⟩ => ⟨S2x8192x4x128, .f32⟩
  | .hbm, ⟨72, _⟩ => ⟨S_, .f32⟩
  | .hbm, ⟨73, _⟩ => ⟨S2x8192x4x128, .f32⟩
  | .hbm, ⟨74, _⟩ => ⟨S2x8192x4x128, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S_, .f32⟩
  | .hbm, ⟨79, _⟩ => ⟨S16384x512, .f32⟩
  | .hbm, ⟨80, _⟩ => ⟨S16384x512, .f32⟩
  | .hbm, ⟨81, _⟩ => ⟨S_, .f32⟩
  | .hbm, ⟨82, _⟩ => ⟨S16384x512, .f32⟩
  | .hbm, ⟨83, _⟩ => ⟨S16384x512, .f32⟩
  | .hbm, ⟨84, _⟩ => ⟨S16384x512, .f32⟩
  | .hbm, ⟨85, _⟩ => ⟨S16384x512, .f32⟩
  | .hbm, ⟨86, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Input.lean ====
abbrev S16384x1024 : Shape := ⟨2, ![16384, 1024]⟩
abbrev S1x1024 : Shape := ⟨2, ![1, 1024]⟩
abbrev S1024x5120 : Shape := ⟨2, ![1024, 5120]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S16384x512 : Shape := ⟨2, ![16384, 512]⟩
abbrev S2x512x8192 : Shape := ⟨3, ![2, 512, 8192]⟩
abbrev S16384x1536 : Shape := ⟨2, ![16384, 1536]⟩
abbrev S512x1024 : Shape := ⟨2, ![512, 1024]⟩
abbrev S512x128 : Shape := ⟨2, ![512, 128]⟩
abbrev S512x512 : Shape := ⟨2, ![512, 512]⟩
abbrev S1x512x512 : Shape := ⟨3, ![1, 512, 512]⟩
abbrev S512x1536 : Shape := ⟨2, ![512, 1536]⟩
abbrev S512 : Shape := ⟨1, ![512]⟩
abbrev S512x1 : Shape := ⟨2, ![512, 1]⟩
abbrev S1024x512 : Shape := ⟨2, ![1024, 512]⟩
abbrev S1024x1536 : Shape := ⟨2, ![1024, 1536]⟩

abbrev nBuf : Space → Nat
  | .hbm => 21
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5120, .bf16⟩
  | .hbm, ⟨3, _⟩ => ⟨S8192x32, .f32⟩
  | .hbm, ⟨4, _⟩ => ⟨S8192x32, .f32⟩
  | .hbm, ⟨5, _⟩ => ⟨S1x8192x1x32, .f32⟩
  | .hbm, ⟨6, _⟩ => ⟨S1x8192x4x32, .f32⟩
  | .hbm, ⟨7, _⟩ => ⟨S8192x128, .f32⟩
  | .hbm, ⟨8, _⟩ => ⟨S8192x32, .f32⟩
  | .hbm, ⟨9, _⟩ => ⟨S8192x64, .f32⟩
  | .hbm, ⟨10, _⟩ => ⟨S1x8192x1x64, .f32⟩
  | .hbm, ⟨11, _⟩ => ⟨S1x8192x2x64, .f32⟩
  | .hbm, ⟨12, _⟩ => ⟨S8192x128, .f32⟩
  | .hbm, ⟨13, _⟩ => ⟨S16384x512, .bf16⟩
  | .hbm, ⟨14, _⟩ => ⟨S2x512x8192, .bf16⟩
  | .hbm, ⟨15, _⟩ => ⟨S16384x512, .bf16⟩
  | .hbm, ⟨16, _⟩ => ⟨S16384x512, .bf16⟩
  | .hbm, ⟨17, _⟩ => ⟨S16384x1536, .bf16⟩
  | .hbm, ⟨18, _⟩ => ⟨S16384x512, .bf16⟩
  | .hbm, ⟨19, _⟩ => ⟨S16384x512, .bf16⟩
  | .hbm, ⟨20, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .vmem, ⟨10, _⟩ => ⟨S1x512x512, .bf16⟩
  | .local _ .vmem, ⟨11, _⟩ => ⟨S1x512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1536, .bf16⟩
  | .local _ .vmem, ⟨17, _⟩ => ⟨S512x1536, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_v8_6 : Ref sig .tc := ⟨.hbm, 19, rfl⟩
abbrev main_v8_7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InputIdeal.lean ====
variable {F : FTy → Type} [FloatOps F] [Named F]
def κ : String → Option EReal := fun
  | "q_scale" => some (((Real.sqrt 64)⁻¹ * (Real.log 2)⁻¹ : ℝ) : EReal)
  | _ => none
-- ==== InputRefIdeal.lean ====
abbrev S16384x1024 : Shape := ⟨2, ![16384, 1024]⟩
abbrev S1x1024 : Shape := ⟨2, ![1, 1024]⟩
abbrev S1024x5120 : Shape := ⟨2, ![1024, 5120]⟩
abbrev S8192x32 : Shape := ⟨2, ![8192, 32]⟩
abbrev S8192x1x1x32 : Shape := ⟨4, ![8192, 1, 1, 32]⟩
abbrev S_ : Shape := ⟨0, ![]⟩
abbrev S16384 : Shape := ⟨1, ![16384]⟩
abbrev S16384x1 : Shape := ⟨2, ![16384, 1]⟩
abbrev S16384x5120 : Shape := ⟨2, ![16384, 5120]⟩
abbrev S16384x512 : Shape := ⟨2, ![16384, 512]⟩
abbrev S16384x1536 : Shape := ⟨2, ![16384, 1536]⟩
abbrev S2x8192x4x2x64 : Shape := ⟨5, ![2, 8192, 4, 2, 64]⟩
abbrev S2x8192x4x2x32 : Shape := ⟨5, ![2, 8192, 4, 2, 32]⟩
abbrev S1x8192x1x1x32 : Shape := ⟨5, ![1, 8192, 1, 1, 32]⟩
abbrev S2x8192x512 : Shape := ⟨3, ![2, 8192, 512]⟩
abbrev S2x512x8192 : Shape := ⟨3, ![2, 512, 8192]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5120, .bf16⟩
  | .hbm, ⟨3, _⟩ => ⟨S8192x32, .f32⟩
  | .hbm, ⟨4, _⟩ => ⟨S8192x32, .f32⟩
  | .hbm, ⟨5, _⟩ => ⟨S8192x1x1x32, .f32⟩
  | .hbm, ⟨6, _⟩ => ⟨S8192x1x1x32, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1024x5120, .f32⟩
  | .hbm, ⟨23, _⟩ => ⟨S16384x5120, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x1536, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S2x8192x4x2x64, .f32⟩
  | .hbm, ⟨33, _⟩ => ⟨S2x8192x4x2x32, .f32⟩
  | .hbm, ⟨34, _⟩ => ⟨S2x8192x4x2x32, .f32⟩
  | .hbm, ⟨35, _⟩ => ⟨S1x8192x1x1x32, .f32⟩
  | .hbm, ⟨36, _⟩ => ⟨S2x8192x4x2x32, .f32⟩
  | .hbm, ⟨37, _⟩ => ⟨S2x8192x4x2x32, .f32⟩
  | .hbm, ⟨38, _⟩ => ⟨S1x8192x1x1x32, .f32⟩
  | .hbm, ⟨39, _⟩ => ⟨S2x8192x4x2x32, .f32⟩
  | .hbm, ⟨40, _⟩ => ⟨S2x8192x4x2x32, .f32⟩
  | .hbm, ⟨41, _⟩ => ⟨S2x8192x4x2x32, .f32⟩
  | .hbm, ⟨42, _⟩ => ⟨S1x8192x1x1x32, .f32⟩
  | .hbm, ⟨43, _⟩ => ⟨S2x8192x4x2x32, .f32⟩
  | .hbm, ⟨44, _⟩ => ⟨S2x8192x4x2x32, .f32⟩
  | .hbm, ⟨45, _⟩ => ⟨S1x8192x1x1x32, .f32⟩
  | .hbm, ⟨46, _⟩ => ⟨S2x8192x4x2x32, .f32⟩
  | .hbm, ⟨47, _⟩ => ⟨S2x8192x4x2x32, .f32⟩
  | .hbm, ⟨48, _⟩ => ⟨S2x8192x4x2x32, .f32⟩
  | .hbm, ⟨49, _⟩ => ⟨S2x8192x4x2x64, .f32⟩
  | .hbm, ⟨50, _⟩ => ⟨S2x8192x4x2x64, .f32⟩
  | .hbm, ⟨51, _⟩ => ⟨S2x8192x4x2x32, .f32⟩
  | .hbm, ⟨52, _⟩ => ⟨S2x8192x4x2x32, .f32⟩
  | .hbm, ⟨53, _⟩ => ⟨S1x8192x1x1x32, .f32⟩
  | .hbm, ⟨54, _⟩ => ⟨S2x8192x4x2x32, .f32⟩
  | .hbm, ⟨55, _⟩ => ⟨S2x8192x4x2x32, .f32⟩
  | .hbm, ⟨56, _⟩ => ⟨S1x8192x1x1x32, .f32⟩
  | .hbm, ⟨57, _⟩ => ⟨S2x8192x4x2x32, .f32⟩
  | .hbm, ⟨58, _⟩ => ⟨S2x8192x4x2x32, .f32⟩
  | .hbm, ⟨59, _⟩ => ⟨S2x8192x4x2x32, .f32⟩
  | .hbm, ⟨60, _⟩ => ⟨S1x8192x1x1x32, .f32⟩
  | .hbm, ⟨61, _⟩ => ⟨S2x8192x4x2x32, .f32⟩
  | .hbm, ⟨62, _⟩ => ⟨S2x8192x4x2x32, .f32⟩
  | .hbm, ⟨63, _⟩ => ⟨S1x8192x1x1x32, .f32⟩
  | .hbm, ⟨64, _⟩ => ⟨S2x8192x4x2x32, .f32⟩
  | .hbm, ⟨65, _⟩ => ⟨S2x8192x4x2x32, .f32⟩
  | .hbm, ⟨66, _⟩ => ⟨S2x8192x4x2x32, .f32⟩
  | .hbm, ⟨67, _⟩ => ⟨S2x8192x4x2x64, .f32⟩
  | .hbm, ⟨68, _⟩ => ⟨S_, .f32⟩
  | .hbm, ⟨69, _⟩ => ⟨S2x8192x4x2x64, .f32⟩
  | .hbm, ⟨70, _⟩ => ⟨S2x8192x4x2x64, .f32⟩
  | .hbm, ⟨71, _⟩ => ⟨S_, .f32⟩
  | .hbm, ⟨72, _⟩ => ⟨S_, .f32⟩
  | .hbm, ⟨73, _⟩ => ⟨S2x8192x4x2x64, .f32⟩
  | .hbm, ⟨74, _⟩ => ⟨S2x8192x4x2x64, .f32⟩
  | .hbm, ⟨75, _⟩ => ⟨S16384x512, .f32⟩
  | .hbm, ⟨76, _⟩ => ⟨S2x8192x512, .f32⟩
  | .hbm, ⟨77, _⟩ => ⟨S2x512x8192, .f32⟩
  | .hbm, ⟨78, _⟩ => ⟨S16384x512, .bf16⟩
  | .hbm, ⟨79, _⟩ => ⟨S2x512x8192, .bf16⟩
  | .hbm, ⟨80, _⟩ => ⟨S16384x512, .bf16⟩
  | .hbm, ⟨81, _⟩ => ⟨S16384x512, .bf16⟩
  | .hbm, ⟨82, _⟩ => ⟨S16384x1536, .bf16⟩
  | .hbm, ⟨83, _⟩ => ⟨S16384x512, .bf16⟩
  | .hbm, ⟨84, _⟩ => ⟨S16384x512, .bf16⟩
  | .hbm, ⟨85, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_2 : Ref sig .tc := ⟨.hbm, 68, rfl⟩
abbrev main_v60 : Ref sig .tc := ⟨.hbm, 69, rfl⟩
abbrev main_v61 : Ref sig .tc := ⟨.hbm, 70, rfl⟩
abbrev main_cst_3 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩

abbrev nD : Nat := 1
abbrev τ : Topo := Topo.v7x

variable {F : FTy → Type} [FloatOps F]
-- ==== Memory.lean ====
abbrev S2x256x1024 : Shape := ⟨3, ![2, 256, 1024]⟩
abbrev S1x1024 : Shape := ⟨2, ![1, 1024]⟩
abbrev S1024x1024 : Shape := ⟨2, ![1024, 1024]⟩
abbrev S2x512x256 : Shape := ⟨3, ![2, 512, 256]⟩
abbrev S2x256x512 : Shape := ⟨3, ![2, 256, 512]⟩
abbrev S1x256x1024 : Shape := ⟨3, ![1, 256, 1024]⟩
abbrev S1x512x256 : Shape := ⟨3, ![1, 512, 256]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024x1024, .bf16⟩
  | .hbm, ⟨3, _⟩ => ⟨S2x512x256, .bf16⟩
  | .hbm, ⟨4, _⟩ => ⟨S2x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x512x256, .bf16⟩
  | .local _ .vmem, ⟨5, _⟩ => ⟨S1x512x256, .bf16⟩
  | .local _ .vmem, ⟨6, _⟩ => ⟨S1x256x512, .bf16⟩
  | .local _ .vmem, ⟨7, _⟩ => ⟨S1x256x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemoryRefIdeal.lean ====
abbrev S2x256x1024 : Shape := ⟨3, ![2, 256, 1024]⟩
abbrev S1x1024 : Shape := ⟨2, ![1, 1024]⟩
abbrev S1024x1024 : Shape := ⟨2, ![1024, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x512 : Shape := ⟨3, ![2, 256, 512]⟩
abbrev S2x512x256 : Shape := ⟨3, ![2, 512, 256]⟩

abbrev nBuf : Space → Nat
  | .hbm => 26
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024x1024, .bf16⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S1024x1024, .f32⟩
  | .hbm, ⟨20, _⟩ => ⟨S2x256x1024, .f32⟩
  | .hbm, ⟨21, _⟩ => ⟨S2x256x512, .f32⟩
  | .hbm, ⟨22, _⟩ => ⟨S2x256x512, .f32⟩
  | .hbm, ⟨23, _⟩ => ⟨S2x512x256, .f32⟩
  | .hbm, ⟨24, _⟩ => ⟨S2x512x256, .bf16⟩
  | .hbm, ⟨25, _⟩ => ⟨S2x256x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Output.lean ====
abbrev S16384x512 : Shape := ⟨2, ![16384, 512]⟩
abbrev S2x512x256 : Shape := ⟨3, ![2, 512, 256]⟩
abbrev S2x256x512 : Shape := ⟨3, ![2, 256, 512]⟩
abbrev S1536x1024 : Shape := ⟨2, ![1536, 1024]⟩
abbrev S16384x1024 : Shape := ⟨2, ![16384, 1024]⟩
abbrev S1x1024 : Shape := ⟨2, ![1, 1024]⟩
abbrev S512x512 : Shape := ⟨2, ![512, 512]⟩
abbrev S1x512x256 : Shape := ⟨3, ![1, 512, 256]⟩
abbrev S1x256x512 : Shape := ⟨3, ![1, 256, 512]⟩
abbrev S512x1024 : Shape := ⟨2, ![512, 1024]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩

abbrev nBuf : Space → Nat
  | .hbm => 10
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S2x512x256, .bf16⟩
  | .hbm, ⟨5, _⟩ => ⟨S2x256x512, .bf16⟩
  | .hbm, ⟨6, _⟩ => ⟨S1536x1024, .bf16⟩
  | .hbm, ⟨7, _⟩ => ⟨S16384x1024, .f32⟩
  | .hbm, ⟨8, _⟩ => ⟨S1x1024, .f32⟩
  | .hbm, ⟨9, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512x256, .bf16⟩
  | .local _ .vmem, ⟨9, _⟩ => ⟨S1x512x256, .bf16⟩
  | .local _ .vmem, ⟨10, _⟩ => ⟨S1x256x512, .bf16⟩
  | .local _ .vmem, ⟨11, _⟩ => ⟨S1x256x512, .bf16⟩
  | .local _ .vmem, ⟨12, _⟩ => ⟨S1536x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutputRefIdeal.lean ====
abbrev S16384x512 : Shape := ⟨2, ![16384, 512]⟩
abbrev S2x512x256 : Shape := ⟨3, ![2, 512, 256]⟩
abbrev S2x256x512 : Shape := ⟨3, ![2, 256, 512]⟩
abbrev S1536x1024 : Shape := ⟨2, ![1536, 1024]⟩
abbrev S16384x1024 : Shape := ⟨2, ![16384, 1024]⟩
abbrev S1x1024 : Shape := ⟨2, ![1, 1024]⟩
abbrev S2x256x4x128 : Shape := ⟨4, ![2, 256, 4, 128]⟩
abbrev S2x8192x4x128 : Shape := ⟨4, ![2, 8192, 4, 128]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S16384x1536 : Shape := ⟨2, ![16384, 1536]⟩
abbrev S16384 : Shape := ⟨1, ![16384]⟩
abbrev S16384x1 : Shape := ⟨2, ![16384, 1]⟩

abbrev nBuf : Space → Nat
  | .hbm => 69
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S2x512x256, .bf16⟩
  | .hbm, ⟨5, _⟩ => ⟨S2x256x512, .bf16⟩
  | .hbm, ⟨6, _⟩ => ⟨S1536x1024, .bf16⟩
  | .hbm, ⟨7, _⟩ => ⟨S16384x1024, .f32⟩
  | .hbm, ⟨8, _⟩ => ⟨S1x1024, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S2x512x256, .f32⟩
  | .hbm, ⟨14, _⟩ => ⟨S2x256x512, .f32⟩
  | .hbm, ⟨15, _⟩ => ⟨S1536x1024, .f32⟩
  | .hbm, ⟨16, _⟩ => ⟨S2x256x512, .f32⟩
  | .hbm, ⟨17, _⟩ => ⟨S2x256x4x128, .f32⟩
  | .hbm, ⟨18, _⟩ => ⟨S2x256x4x128, .f32⟩
  | .hbm, ⟨19, _⟩ => ⟨S2x8192x4x128, .f32⟩
  | .hbm, ⟨20, _⟩ => ⟨S2x4x8192x256, .f32⟩
  | .hbm, ⟨21, _⟩ => ⟨S_, .f32⟩
  | .hbm, ⟨22, _⟩ => ⟨S2x4x8192x256, .f32⟩
  | .hbm, ⟨23, _⟩ => ⟨S2x4x8192x256, .f32⟩
  | .hbm, ⟨24, _⟩ => ⟨S_, .f32⟩
  | .hbm, ⟨25, _⟩ => ⟨S2x4x8192, .f32⟩
  | .hbm, ⟨26, _⟩ => ⟨S_, .f32⟩
  | .hbm, ⟨27, _⟩ => ⟨S2x4x8192, .f32⟩
  | .hbm, ⟨28, _⟩ => ⟨S2x4x8192, .f32⟩
  | .hbm, ⟨29, _⟩ => ⟨S2x4x8192x1, .f32⟩
  | .hbm, ⟨30, _⟩ => ⟨S2x4x8192x256, .f32⟩
  | .hbm, ⟨31, _⟩ => ⟨S2x4x8192x256, .f32⟩
  | .hbm, ⟨32, _⟩ => ⟨S2x4x8192x256, .f32⟩
  | .hbm, ⟨33, _⟩ => ⟨S_, .f32⟩
  | .hbm, ⟨34, _⟩ => ⟨S2x4x8192, .f32⟩
  | .hbm, ⟨35, _⟩ => ⟨S2x4x8192x1, .f32⟩
  | .hbm, ⟨36, _⟩ => ⟨S2x4x8192x256, .f32⟩
  | .hbm, ⟨37, _⟩ => ⟨S2x4x8192x256, .f32⟩
  | .hbm, ⟨38, _⟩ => ⟨S2x4x128x8192, .f32⟩
  | .hbm, ⟨39, _⟩ => ⟨S2x8192x4x128, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x1536, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Conv.lean ====
abbrev S16384x1536 : Shape := ⟨2, ![16384, 1536]⟩
abbrev S3x1536 : Shape := ⟨2, ![3, 1536]⟩
abbrev S1x1536 : Shape := ⟨2, ![1, 1536]⟩
abbrev S2x8192x1536 : Shape := ⟨3, ![2, 8192, 1536]⟩
abbrev S2x8192x512 : Shape := ⟨3, ![2, 8192, 512]⟩
abbrev S1x512x1536 : Shape := ⟨3, ![1, 512, 1536]⟩
abbrev S1x16x1536 : Shape := ⟨3, ![1, 16, 1536]⟩
abbrev S1x512x512 : Shape := ⟨3, ![1, 512, 512]⟩
abbrev S512x1536 : Shape := ⟨2, ![512, 1536]⟩
abbrev S1x1x1536 : Shape := ⟨3, ![1, 1, 1536]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S16384x1536, .bf16⟩
  | .hbm, ⟨1, _⟩ => ⟨S3x1536, .f32⟩
  | .hbm, ⟨2, _⟩ => ⟨S1x1536, .f32⟩
  | .hbm, ⟨3, _⟩ => ⟨S2x8192x1536, .bf16⟩
  | .hbm, ⟨4, _⟩ => ⟨S2x8192x512, .bf16⟩
  | .hbm, ⟨5, _⟩ => ⟨S2x8192x512, .bf16⟩
  | .hbm, ⟨6, _⟩ => ⟨S2x8192x512, .bf16⟩
  | .local _ .vmem, ⟨0, _⟩ => ⟨S1x512x1536, .bf16⟩
  | .local _ .vmem, ⟨1, _⟩ => ⟨S1x512x1536, .bf16⟩
  | .local _ .vmem, ⟨2, _⟩ => ⟨S1x16x1536, .bf16⟩
  | .local _ .vmem, ⟨3, _⟩ => ⟨S1x16x1536, .bf16⟩
  | .local _ .vmem, ⟨4, _⟩ => ⟨S1x16x1536, .bf16⟩
  | .local _ .vmem, ⟨5, _⟩ => ⟨S1x16x1536, .bf16⟩
  | .local _ .vmem, ⟨6, _⟩ => ⟨S3x1536, .f32⟩
  | .local _ .vmem, ⟨7, _⟩ => ⟨S1x1536, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvRefIdeal.lean ====
abbrev S16384x1536 : Shape := ⟨2, ![16384, 1536]⟩
abbrev S3x1536 : Shape := ⟨2, ![3, 1536]⟩
abbrev S1x1536 : Shape := ⟨2, ![1, 1536]⟩
abbrev S2x8192x1536 : Shape := ⟨3, ![2, 8192, 1536]⟩
abbrev S_ : Shape := ⟨0, ![]⟩
abbrev S2x8194x1536 : Shape := ⟨3, ![2, 8194, 1536]⟩
abbrev S1536 : Shape := ⟨1, ![1536]⟩
abbrev S1x1x1536 : Shape := ⟨3, ![1, 1, 1536]⟩
abbrev S2x8192x512 : Shape := ⟨3, ![2, 8192, 512]⟩

abbrev nBuf : Space → Nat
  | .hbm => 37
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S3x1536, .f32⟩
  | .hbm, ⟨2, _⟩ => ⟨S1x1536, .f32⟩
  | .hbm, ⟨3, _⟩ => ⟨S16384x1536, .f32⟩
  | .hbm, ⟨4, _⟩ => ⟨S2x8192x1536, .f32⟩
  | .hbm, ⟨5, _⟩ => ⟨S_, .i32⟩
  | .hbm, ⟨6, _⟩ => ⟨S_, .f32⟩
  | .hbm, ⟨7, _⟩ => ⟨S2x8194x1536, .f32⟩
  | .hbm, ⟨8, _⟩ => ⟨S2x8192x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S2x8192x1536, .f32⟩
  | .hbm, ⟨13, _⟩ => ⟨S2x8192x1536, .f32⟩
  | .hbm, ⟨14, _⟩ => ⟨S2x8192x1536, .f32⟩
  | .hbm, ⟨15, _⟩ => ⟨S1x1536, .f32⟩
  | .hbm, ⟨16, _⟩ => ⟨S1536, .f32⟩
  | .hbm, ⟨17, _⟩ => ⟨S1x1x1536, .f32⟩
  | .hbm, ⟨18, _⟩ => ⟨S2x8192x1536, .f32⟩
  | .hbm, ⟨19, _⟩ => ⟨S2x8192x1536, .f32⟩
  | .hbm, ⟨20, _⟩ => ⟨S2x8192x1536, .f32⟩
  | .hbm, ⟨21, _⟩ => ⟨S2x8192x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S2x8192x1536, .f32⟩
  | .hbm, ⟨26, _⟩ => ⟨S2x8192x1536, .f32⟩
  | .hbm, ⟨27, _⟩ => ⟨S2x8192x1536, .f32⟩
  | .hbm, ⟨28, _⟩ => ⟨S1x1x1536, .f32⟩
  | .hbm, ⟨29, _⟩ => ⟨S2x8192x1536, .f32⟩
  | .hbm, ⟨30, _⟩ => ⟨S2x8192x1536, .f32⟩
  | .hbm, ⟨31, _⟩ => ⟨S2x8192x512, .f32⟩
  | .hbm, ⟨32, _⟩ => ⟨S2x8192x512, .f32⟩
  | .hbm, ⟨33, _⟩ => ⟨S2x8192x512, .f32⟩
  | .hbm, ⟨34, _⟩ => ⟨S2x8192x512, .bf16⟩
  | .hbm, ⟨35, _⟩ => ⟨S2x8192x512, .bf16⟩
  | .hbm, ⟨36, _⟩ => ⟨S2x8192x512, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Rope.lean ====
abbrev S1x32 : Shape := ⟨2, ![1, 32]⟩
abbrev S1x1x1x32 : Shape := ⟨4, ![1, 1, 1, 32]⟩
abbrev S1x1x4x32 : Shape := ⟨4, ![1, 1, 4, 32]⟩
abbrev S1x128 : Shape := ⟨2, ![1, 128]⟩
abbrev S_ : Shape := ⟨0, ![]⟩
abbrev S1x64 : Shape := ⟨2, ![1, 64]⟩
abbrev S1x1x1x64 : Shape := ⟨4, ![1, 1, 1, 64]⟩
abbrev S1x1x2x64 : Shape := ⟨4, ![1, 1, 2, 64]⟩
abbrev S8192x128 : Shape := ⟨2, ![8192, 128]⟩
abbrev S1024x128 : Shape := ⟨2, ![1024, 128]⟩

abbrev nBuf : Space → Nat
  | .hbm => 15
  | .vmem => 6
  | .smem => 0
  | _ => 0

abbrev bufTy : (tb : Table) → Fin (tcTables nBuf tb) → BufTy
  | .hbm, ⟨0, _⟩ => ⟨S1x32, .f32⟩
  | .hbm, ⟨1, _⟩ => ⟨S1x1x1x32, .f32⟩
  | .hbm, ⟨2, _⟩ => ⟨S1x1x4x32, .f32⟩
  | .hbm, ⟨3, _⟩ => ⟨S1x128, .f32⟩
  | .hbm, ⟨4, _⟩ => ⟨S_, .f32⟩
  | .hbm, ⟨5, _⟩ => ⟨S1x32, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x64, .f32⟩
  | .hbm, ⟨10, _⟩ => ⟨S1x1x1x64, .f32⟩
  | .hbm, ⟨11, _⟩ => ⟨S1x1x2x64, .f32⟩
  | .hbm, ⟨12, _⟩ => ⟨S1x128, .f32⟩
  | .hbm, ⟨13, _⟩ => ⟨S8192x128, .f32⟩
  | .hbm, ⟨14, _⟩ => ⟨S8192x128, .f32⟩
  | .local _ .vmem, ⟨0, _⟩ => ⟨S1x128, .f32⟩
  | .local _ .vmem, ⟨1, _⟩ => ⟨S1x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S1x32 : Shape := ⟨2, ![1, 32]⟩
abbrev S8192 : Shape := ⟨1, ![8192]⟩
abbrev S8192x1 : Shape := ⟨2, ![8192, 1]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩

abbrev nBuf : Space → Nat
  | .hbm => 16
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S8192, .f32⟩
  | .hbm, ⟨2, _⟩ => ⟨S8192x1, .f32⟩
  | .hbm, ⟨3, _⟩ => ⟨S8192x32, .f32⟩
  | .hbm, ⟨4, _⟩ => ⟨S8192x32, .f32⟩
  | .hbm, ⟨5, _⟩ => ⟨S8192x32, .f32⟩
  | .hbm, ⟨6, _⟩ => ⟨S8192x32, .f32⟩
  | .hbm, ⟨7, _⟩ => ⟨S8192x32, .f32⟩
  | .hbm, ⟨8, _⟩ => ⟨S1x8192x1x32, .f32⟩
  | .hbm, ⟨9, _⟩ => ⟨S1x8192x4x32, .f32⟩
  | .hbm, ⟨10, _⟩ => ⟨S8192x128, .f32⟩
  | .hbm, ⟨11, _⟩ => ⟨S8192x32, .f32⟩
  | .hbm, ⟨12, _⟩ => ⟨S8192x64, .f32⟩
  | .hbm, ⟨13, _⟩ => ⟨S1x8192x1x64, .f32⟩
  | .hbm, ⟨14, _⟩ => ⟨S1x8192x2x64, .f32⟩
  | .hbm, ⟨15, _⟩ => ⟨S8192x128, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩

abbrev nD : Nat := 1
abbrev τ : Topo := Topo.v7x

variable {F : FTy → Type} [FloatOps F]
-- ==== Filter.lean ====
abbrev S16 : Shape := ⟨1, ![16]⟩
abbrev S512 : Shape := ⟨1, ![512]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S32 : Shape := ⟨1, ![32]⟩
abbrev S_ : Shape := ⟨0, ![]⟩
abbrev S128 : Shape := ⟨1, ![128]⟩
abbrev S1x128 : Shape := ⟨2, ![1, 128]⟩
abbrev S1x512 : Shape := ⟨2, ![1, 512]⟩
abbrev S2x512 : Shape := ⟨2, ![2, 512]⟩
abbrev S2x1x512 : Shape := ⟨3, ![2, 1, 512]⟩
abbrev S128x64 : Shape := ⟨2, ![128, 64]⟩
abbrev S64x2x2x512 : Shape := ⟨4, ![64, 2, 2, 512]⟩
abbrev S2x2x64x512 : Shape := ⟨4, ![2, 2, 64, 512]⟩
abbrev S1x64 : Shape := ⟨2, ![1, 64]⟩
abbrev S2x16384x512 : Shape := ⟨3, ![2, 16384, 512]⟩
abbrev S1x2x64x512 : Shape := ⟨4, ![1, 2, 64, 512]⟩
abbrev S1x1x512 : Shape := ⟨3, ![1, 1, 512]⟩
abbrev S2x512x512 : Shape := ⟨3, ![2, 512, 512]⟩
abbrev S512x1 : Shape := ⟨2, ![512, 1]⟩
abbrev S512x128 : Shape := ⟨2, ![512, 128]⟩
abbrev S512x64 : Shape := ⟨2, ![512, 64]⟩
abbrev S512x512 : Shape := ⟨2, ![512, 512]⟩
abbrev S1x1x64x512 : Shape := ⟨4, ![1, 1, 64, 512]⟩
abbrev S64x512 : Shape := ⟨2, ![64, 512]⟩
abbrev S1x512x512 : Shape := ⟨3, ![1, 512, 512]⟩

abbrev nBuf : Space → Nat
  | .hbm => 30
  | .vmem => 14
  | .smem => 0
  | _ => 0

abbrev bufTy : (tb : Table) → Fin (tcTables nBuf tb) → BufTy
  | .hbm, ⟨0, _⟩ => ⟨S16, .f32⟩
  | .hbm, ⟨1, _⟩ => ⟨S512, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x2048, .f32⟩
  | .hbm, ⟨9, _⟩ => ⟨S64, .f32⟩
  | .hbm, ⟨10, _⟩ => ⟨S32, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S512, .f32⟩
  | .hbm, ⟨16, _⟩ => ⟨S1x512, .f32⟩
  | .hbm, ⟨17, _⟩ => ⟨S1x512, .f32⟩
  | .hbm, ⟨18, _⟩ => ⟨S2x512, .f32⟩
  | .hbm, ⟨19, _⟩ => ⟨S2x1x512, .f32⟩
  | .hbm, ⟨20, _⟩ => ⟨S_, .i32⟩
  | .hbm, ⟨21, _⟩ => ⟨S_, .f32⟩
  | .hbm, ⟨22, _⟩ => ⟨S128x64, .f32⟩
  | .hbm, ⟨23, _⟩ => ⟨S64x2x2x512, .f32⟩
  | .hbm, ⟨24, _⟩ => ⟨S2x2x64x512, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S2x16384x512, .bf16⟩
  | .local _ .vmem, ⟨0, _⟩ => ⟨S1x128, .f32⟩
  | .local _ .vmem, ⟨1, _⟩ => ⟨S128x64, .f32⟩
  | .local _ .vmem, ⟨2, _⟩ => ⟨S1x64, .f32⟩
  | .local _ .vmem, ⟨3, _⟩ => ⟨S64x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S1x2x64x512, .f32⟩
  | .local _ .vmem, ⟨9, _⟩ => ⟨S1x2x64x512, .f32⟩
  | .local _ .vmem, ⟨10, _⟩ => ⟨S1x1x512, .f32⟩
  | .local _ .vmem, ⟨11, _⟩ => ⟨S1x1x512, .f32⟩
  | .local _ .vmem, ⟨12, _⟩ => ⟨S2x512x512, .bf16⟩
  | .local _ .vmem, ⟨13, _⟩ => ⟨S2x512x512, .bf16⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FilterIdeal.lean ====
variable {F : FTy → Type} [FloatOps F] [Named F]
def κ : String → Option EReal := fun
  | "t_step" => some ((8191⁻¹ : ℝ) : EReal)
  | _ => none
-- ==== FilterRefIdeal.lean ====
abbrev S16 : Shape := ⟨1, ![16]⟩
abbrev S512 : Shape := ⟨1, ![512]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S8192 : Shape := ⟨1, ![8192]⟩
abbrev S8192x1 : Shape := ⟨2, ![8192, 1]⟩
abbrev S_ : Shape := ⟨0, ![]⟩
abbrev S1x16 : Shape := ⟨2, ![1, 16]⟩
abbrev S8192x16 : Shape := ⟨2, ![8192, 16]⟩
abbrev S8192x33 : Shape := ⟨2, ![8192, 33]⟩
abbrev S8192x64 : Shape := ⟨2, ![8192, 64]⟩
abbrev S1x64 : Shape := ⟨2, ![1, 64]⟩
abbrev S8192x2048 : Shape := ⟨2, ![8192, 2048]⟩
abbrev S8192x2x2x512 : Shape := ⟨4, ![8192, 2, 2, 512]⟩
abbrev S8192x2x1x512 : Shape := ⟨4, ![8192, 2, 1, 512]⟩
abbrev S8192x2x512 : Shape := ⟨3, ![8192, 2, 512]⟩
abbrev S1x512 : Shape := ⟨2, ![1, 512]⟩
abbrev S8192x512 : Shape := ⟨2, ![8192, 512]⟩
abbrev S8192x1x512 : Shape := ⟨3, ![8192, 1, 512]⟩
abbrev S1x2x512 : Shape := ⟨3, ![1, 2, 512]⟩
abbrev S8191x2x512 : Shape := ⟨3, ![8191, 2, 512]⟩
abbrev S16384x2x512 : Shape := ⟨3, ![16384, 2, 512]⟩
abbrev S2x16384x512 : Shape := ⟨3, ![2, 16384, 512]⟩

abbrev nBuf : Space → Nat
  | .hbm => 89
  | .vmem => 0
  | .smem => 0
  | _ => 0

abbrev bufTy : (tb : Table) → Fin (tcTables nBuf tb) → BufTy
  | .hbm, ⟨0, _⟩ => ⟨S16, .f32⟩
  | .hbm, ⟨1, _⟩ => ⟨S512, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x2048, .f32⟩
  | .hbm, ⟨9, _⟩ => ⟨S64, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S1x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x33, .f32⟩
  | .hbm, ⟨33, _⟩ => ⟨S8192x64, .f32⟩
  | .hbm, ⟨34, _⟩ => ⟨S1x64, .f32⟩
  | .hbm, ⟨35, _⟩ => ⟨S8192x64, .f32⟩
  | .hbm, ⟨36, _⟩ => ⟨S8192x64, .f32⟩
  | .hbm, ⟨37, _⟩ => ⟨S1x64, .f32⟩
  | .hbm, ⟨38, _⟩ => ⟨S8192x64, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S1x64, .f32⟩
  | .hbm, ⟨43, _⟩ => ⟨S8192x64, .f32⟩
  | .hbm, ⟨44, _⟩ => ⟨S8192x64, .f32⟩
  | .hbm, ⟨45, _⟩ => ⟨S1x64, .f32⟩
  | .hbm, ⟨46, _⟩ => ⟨S8192x64, .f32⟩
  | .hbm, ⟨47, _⟩ => ⟨S8192x64, .f32⟩
  | .hbm, ⟨48, _⟩ => ⟨S8192x64, .f32⟩
  | .hbm, ⟨49, _⟩ => ⟨S8192x64, .f32⟩
  | .hbm, ⟨50, _⟩ => ⟨S1x64, .f32⟩
  | .hbm, ⟨51, _⟩ => ⟨S8192x64, .f32⟩
  | .hbm, ⟨52, _⟩ => ⟨S8192x64, .f32⟩
  | .hbm, ⟨53, _⟩ => ⟨S1x64, .f32⟩
  | .hbm, ⟨54, _⟩ => ⟨S8192x64, .f32⟩
  | .hbm, ⟨55, _⟩ => ⟨S8192x64, .f32⟩
  | .hbm, ⟨56, _⟩ => ⟨S8192x64, .f32⟩
  | .hbm, ⟨57, _⟩ => ⟨S8192x2048, .f32⟩
  | .hbm, ⟨58, _⟩ => ⟨S8192x2x2x512, .f32⟩
  | .hbm, ⟨59, _⟩ => ⟨S8192x2x1x512, .f32⟩
  | .hbm, ⟨60, _⟩ => ⟨S8192x2x512, .f32⟩
  | .hbm, ⟨61, _⟩ => ⟨S8192x1, .f32⟩
  | .hbm, ⟨62, _⟩ => ⟨S1x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x1x512, .f32⟩
  | .hbm, ⟨68, _⟩ => ⟨S8192x2x512, .f32⟩
  | .hbm, ⟨69, _⟩ => ⟨S8192x2x512, .f32⟩
  | .hbm, ⟨70, _⟩ => ⟨S8192x2x1x512, .f32⟩
  | .hbm, ⟨71, _⟩ => ⟨S8192x2x512, .f32⟩
  | .hbm, ⟨72, _⟩ => ⟨S8192x1, .f32⟩
  | .hbm, ⟨73, _⟩ => ⟨S512, .f32⟩
  | .hbm, ⟨74, _⟩ => ⟨S1x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x1x512, .f32⟩
  | .hbm, ⟨80, _⟩ => ⟨S8192x2x512, .f32⟩
  | .hbm, ⟨81, _⟩ => ⟨S8192x2x512, .f32⟩
  | .hbm, ⟨82, _⟩ => ⟨S_, .f32⟩
  | .hbm, ⟨83, _⟩ => ⟨S1x2x512, .f32⟩
  | .hbm, ⟨84, _⟩ => ⟨S8191x2x512, .f32⟩
  | .hbm, ⟨85, _⟩ => ⟨S8191x2x512, .f32⟩
  | .hbm, ⟨86, _⟩ => ⟨S16384x2x512, .f32⟩
  | .hbm, ⟨87, _⟩ => ⟨S2x16384x512, .f32⟩
  | .hbm, ⟨88, _⟩ => ⟨S2x16384x512, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_2 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩

abbrev nD : Nat := 1
abbrev τ : Topo := Topo.v7x

variable {F : FTy → Type} [FloatOps F]
-- ==== Spectrum.lean ====
abbrev S128x65536 : Shape := ⟨2, ![128, 65536]⟩
abbrev S128x256x128 : Shape := ⟨3, ![128, 256, 128]⟩
abbrev S256x65536 : Shape := ⟨2, ![256, 65536]⟩
abbrev S128x4096 : Shape := ⟨2, ![128, 4096]⟩
abbrev S8x256x128 : Shape := ⟨3, ![8, 256, 128]⟩
abbrev S256x4096 : Shape := ⟨2, ![256, 4096]⟩
abbrev S128x512 : Shape := ⟨2, ![128, 512]⟩
abbrev S1x256x128 : Shape := ⟨3, ![1, 256, 128]⟩
abbrev S256x128 : Shape := ⟨2, ![256, 128]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S128x65536, .bf16⟩
  | .hbm, ⟨1, _⟩ => ⟨S128x256x128, .bf16⟩
  | .hbm, ⟨2, _⟩ => ⟨S256x65536, .bf16⟩
  | .local _ .vmem, ⟨0, _⟩ => ⟨S128x4096, .bf16⟩
  | .local _ .vmem, ⟨1, _⟩ => ⟨S128x4096, .bf16⟩
  | .local _ .vmem, ⟨2, _⟩ => ⟨S8x256x128, .bf16⟩
  | .local _ .vmem, ⟨3, _⟩ => ⟨S8x256x128, .bf16⟩
  | .local _ .vmem, ⟨4, _⟩ => ⟨S256x4096, .bf16⟩
  | .local _ .vmem, ⟨5, _⟩ => ⟨S256x4096, .bf16⟩
  | _, _ => ⟨S128x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SpectrumRefIdeal.lean ====
abbrev S128x65536 : Shape := ⟨2, ![128, 65536]⟩
abbrev S128x256x128 : Shape := ⟨3, ![128, 256, 128]⟩
abbrev S128x128x512 : Shape := ⟨3, ![128, 128, 512]⟩
abbrev S128x512x256 : Shape := ⟨3, ![128, 512, 256]⟩
abbrev S256x128x512 : Shape := ⟨3, ![256, 128, 512]⟩
abbrev S256x65536 : Shape := ⟨2, ![256, 65536]⟩

abbrev nBuf : Space → Nat
  | .hbm => 9
  | .vmem => 0
  | .smem => 0
  | _ => 0

abbrev bufTy : (tb : Table) → Fin (tcTables nBuf tb) → BufTy
  | .hbm, ⟨0, _⟩ => ⟨S128x65536, .bf16⟩
  | .hbm, ⟨1, _⟩ => ⟨S128x256x128, .bf16⟩
  | .hbm, ⟨2, _⟩ => ⟨S128x65536, .f32⟩
  | .hbm, ⟨3, _⟩ => ⟨S128x128x512, .f32⟩
  | .hbm, ⟨4, _⟩ => ⟨S128x256x128, .f32⟩
  | .hbm, ⟨5, _⟩ => ⟨S128x512x256, .f32⟩
  | .hbm, ⟨6, _⟩ => ⟨S256x128x512, .f32⟩
  | .hbm, ⟨7, _⟩ => ⟨S256x65536, .f32⟩
  | .hbm, ⟨8, _⟩ => ⟨S256x65536, .bf16⟩
  | _, _ => ⟨S128x65536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Signal.lean ====
abbrev S2x64x65536 : Shape := ⟨3, ![2, 64, 65536]⟩
abbrev S128x256x128 : Shape := ⟨3, ![128, 256, 128]⟩
abbrev S256x65536 : Shape := ⟨2, ![256, 65536]⟩
abbrev S2x64x4096 : Shape := ⟨3, ![2, 64, 4096]⟩
abbrev S8x256x128 : Shape := ⟨3, ![8, 256, 128]⟩
abbrev S256x4096 : Shape := ⟨2, ![256, 4096]⟩
abbrev S2x64x512 : Shape := ⟨3, ![2, 64, 512]⟩
abbrev S128x512 : Shape := ⟨2, ![128, 512]⟩
abbrev S1x256x128 : Shape := ⟨3, ![1, 256, 128]⟩
abbrev S256x128 : Shape := ⟨2, ![256, 128]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x64x65536, .bf16⟩
  | .hbm, ⟨1, _⟩ => ⟨S128x256x128, .bf16⟩
  | .hbm, ⟨2, _⟩ => ⟨S256x65536, .bf16⟩
  | .local _ .vmem, ⟨0, _⟩ => ⟨S2x64x4096, .bf16⟩
  | .local _ .vmem, ⟨1, _⟩ => ⟨S2x64x4096, .bf16⟩
  | .local _ .vmem, ⟨2, _⟩ => ⟨S8x256x128, .bf16⟩
  | .local _ .vmem, ⟨3, _⟩ => ⟨S8x256x128, .bf16⟩
  | .local _ .vmem, ⟨4, _⟩ => ⟨S256x4096, .bf16⟩
  | .local _ .vmem, ⟨5, _⟩ => ⟨S256x4096, .bf16⟩
  | _, _ => ⟨S2x64x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SignalRefIdeal.lean ====
abbrev S2x64x65536 : Shape := ⟨3, ![2, 64, 65536]⟩
abbrev S128x256x128 : Shape := ⟨3, ![128, 256, 128]⟩
abbrev S128x65536 : Shape := ⟨2, ![128, 65536]⟩
abbrev S128x128x512 : Shape := ⟨3, ![128, 128, 512]⟩
abbrev S128x512x256 : Shape := ⟨3, ![128, 512, 256]⟩
abbrev S256x128x512 : Shape := ⟨3, ![256, 128, 512]⟩
abbrev S256x65536 : Shape := ⟨2, ![256, 65536]⟩

abbrev nBuf : Space → Nat
  | .hbm => 10
  | .vmem => 0
  | .smem => 0
  | _ => 0

abbrev bufTy : (tb : Table) → Fin (tcTables nBuf tb) → BufTy
  | .hbm, ⟨0, _⟩ => ⟨S2x64x65536, .bf16⟩
  | .hbm, ⟨1, _⟩ => ⟨S128x256x128, .bf16⟩
  | .hbm, ⟨2, _⟩ => ⟨S128x65536, .bf16⟩
  | .hbm, ⟨3, _⟩ => ⟨S128x65536, .f32⟩
  | .hbm, ⟨4, _⟩ => ⟨S128x128x512, .f32⟩
  | .hbm, ⟨5, _⟩ => ⟨S128x256x128, .f32⟩
  | .hbm, ⟨6, _⟩ => ⟨S128x512x256, .f32⟩
  | .hbm, ⟨7, _⟩ => ⟨S256x128x512, .f32⟩
  | .hbm, ⟨8, _⟩ => ⟨S256x65536, .f32⟩
  | .hbm, ⟨9, _⟩ => ⟨S256x65536, .bf16⟩
  | _, _ => ⟨S2x64x65536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Rows.lean ====
abbrev S32768x512 : Shape := ⟨2, ![32768, 512]⟩
abbrev S256x256 : Shape := ⟨2, ![256, 256]⟩
abbrev S2048x512 : Shape := ⟨2, ![2048, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S32768x512, .bf16⟩
  | .hbm, ⟨1, _⟩ => ⟨S256x256, .bf16⟩
  | .hbm, ⟨2, _⟩ => ⟨S32768x512, .bf16⟩
  | .local _ .vmem, ⟨0, _⟩ => ⟨S2048x512, .bf16⟩
  | .local _ .vmem, ⟨1, _⟩ => ⟨S2048x512, .bf16⟩
  | .local _ .vmem, ⟨2, _⟩ => ⟨S256x256, .bf16⟩
  | .local _ .vmem, ⟨3, _⟩ => ⟨S2048x512, .bf16⟩
  | .local _ .vmem, ⟨4, _⟩ => ⟨S2048x512, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowsRefIdeal.lean ====
abbrev S32768x512 : Shape := ⟨2, ![32768, 512]⟩
abbrev S256x256 : Shape := ⟨2, ![256, 256]⟩
abbrev S128x256x512 : Shape := ⟨3, ![128, 256, 512]⟩
abbrev S128x512x256 : Shape := ⟨3, ![128, 512, 256]⟩

abbrev nBuf : Space → Nat
  | .hbm => 9
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S256x256, .bf16⟩
  | .hbm, ⟨2, _⟩ => ⟨S32768x512, .f32⟩
  | .hbm, ⟨3, _⟩ => ⟨S128x256x512, .f32⟩
  | .hbm, ⟨4, _⟩ => ⟨S256x256, .f32⟩
  | .hbm, ⟨5, _⟩ => ⟨S128x512x256, .f32⟩
  | .hbm, ⟨6, _⟩ => ⟨S128x256x512, .f32⟩
  | .hbm, ⟨7, _⟩ => ⟨S32768x512, .f32⟩
  | .hbm, ⟨8, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Product.lean ====
abbrev S32768x512 : Shape := ⟨2, ![32768, 512]⟩
abbrev S256x256 : Shape := ⟨2, ![256, 256]⟩
abbrev S2048x512 : Shape := ⟨2, ![2048, 512]⟩
abbrev S256x512 : Shape := ⟨2, ![256, 512]⟩
abbrev S128x512 : Shape := ⟨2, ![128, 512]⟩

abbrev nBuf : Space → Nat
  | .hbm => 5
  | .vmem => 8
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S256x256, .bf16⟩
  | .hbm, ⟨3, _⟩ => ⟨S256x256, .bf16⟩
  | .hbm, ⟨4, _⟩ => ⟨S32768x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S256x256, .bf16⟩
  | .local _ .vmem, ⟨5, _⟩ => ⟨S256x256, .bf16⟩
  | .local _ .vmem, ⟨6, _⟩ => ⟨S2048x512, .bf16⟩
  | .local _ .vmem, ⟨7, _⟩ => ⟨S2048x512, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProductRefIdeal.lean ====
abbrev S32768x512 : Shape := ⟨2, ![32768, 512]⟩
abbrev S256x256 : Shape := ⟨2, ![256, 256]⟩
abbrev S128x256x512 : Shape := ⟨3, ![128, 256, 512]⟩
abbrev S128x512x256 : Shape := ⟨3, ![128, 512, 256]⟩
abbrev S128x128x512 : Shape := ⟨3, ![128, 128, 512]⟩

abbrev nBuf : Space → Nat
  | .hbm => 27
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S256x256, .bf16⟩
  | .hbm, ⟨3, _⟩ => ⟨S256x256, .bf16⟩
  | .hbm, ⟨4, _⟩ => ⟨S32768x512, .f32⟩
  | .hbm, ⟨5, _⟩ => ⟨S32768x512, .f32⟩
  | .hbm, ⟨6, _⟩ => ⟨S256x256, .f32⟩
  | .hbm, ⟨7, _⟩ => ⟨S256x256, .f32⟩
  | .hbm, ⟨8, _⟩ => ⟨S128x256x512, .f32⟩
  | .hbm, ⟨9, _⟩ => ⟨S128x512x256, .f32⟩
  | .hbm, ⟨10, _⟩ => ⟨S128x256x512, .f32⟩
  | .hbm, ⟨11, _⟩ => ⟨S128x256x512, .f32⟩
  | .hbm, ⟨12, _⟩ => ⟨S128x128x512, .f32⟩
  | .hbm, ⟨13, _⟩ => ⟨S128x128x512, .f32⟩
  | .hbm, ⟨14, _⟩ => ⟨S128x128x512, .f32⟩
  | .hbm, ⟨15, _⟩ => ⟨S128x128x512, .f32⟩
  | .hbm, ⟨16, _⟩ => ⟨S128x128x512, .f32⟩
  | .hbm, ⟨17, _⟩ => ⟨S128x128x512, .f32⟩
  | .hbm, ⟨18, _⟩ => ⟨S128x128x512, .f32⟩
  | .hbm, ⟨19, _⟩ => ⟨S128x128x512, .f32⟩
  | .hbm, ⟨20, _⟩ => ⟨S128x128x512, .f32⟩
  | .hbm, ⟨21, _⟩ => ⟨S128x128x512, .f32⟩
  | .hbm, ⟨22, _⟩ => ⟨S128x256x512, .f32⟩
  | .hbm, ⟨23, _⟩ => ⟨S128x512x256, .f32⟩
  | .hbm, ⟨24, _⟩ => ⟨S128x256x512, .f32⟩
  | .hbm, ⟨25, _⟩ => ⟨S32768x512, .f32⟩
  | .hbm, ⟨26, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Back.lean ====
abbrev S256x65536 : Shape := ⟨2, ![256, 65536]⟩
abbrev S128x128x256 : Shape := ⟨3, ![128, 128, 256]⟩
abbrev S2x64x65536 : Shape := ⟨3, ![2, 64, 65536]⟩
abbrev S1x512 : Shape := ⟨2, ![1, 512]⟩
abbrev S256x4096 : Shape := ⟨2, ![256, 4096]⟩
abbrev S8x128x256 : Shape := ⟨3, ![8, 128, 256]⟩
abbrev S2x64x4096 : Shape := ⟨3, ![2, 64, 4096]⟩
abbrev S1x128x256 : Shape := ⟨3, ![1, 128, 256]⟩
abbrev S128x256 : Shape := ⟨2, ![128, 256]⟩
abbrev S256x512 : Shape := ⟨2, ![256, 512]⟩
abbrev S128x512 : Shape := ⟨2, ![128, 512]⟩
abbrev S64x512 : Shape := ⟨2, ![64, 512]⟩
abbrev S1x64x512 : Shape := ⟨3, ![1, 64, 512]⟩

abbrev nBuf : Space → Nat
  | .hbm => 6
  | .vmem => 11
  | .smem => 0
  | _ => 0

abbrev bufTy : (tb : Table) → Fin (tcTables nBuf tb) → BufTy
  | .hbm, ⟨0, _⟩ => ⟨S256x65536, .bf16⟩
  | .hbm, ⟨1, _⟩ => ⟨S128x128x256, .bf16⟩
  | .hbm, ⟨2, _⟩ => ⟨S2x64x65536, .bf16⟩
  | .hbm, ⟨3, _⟩ => ⟨S2x64x65536, .bf16⟩
  | .hbm, ⟨4, _⟩ => ⟨S1x512, .f32⟩
  | .hbm, ⟨5, _⟩ => ⟨S2x64x65536, .bf16⟩
  | .local _ .vmem, ⟨0, _⟩ => ⟨S256x4096, .bf16⟩
  | .local _ .vmem, ⟨1, _⟩ => ⟨S256x4096, .bf16⟩
  | .local _ .vmem, ⟨2, _⟩ => ⟨S8x128x256, .bf16⟩
  | .local _ .vmem, ⟨3, _⟩ => ⟨S8x128x256, .bf16⟩
  | .local _ .vmem, ⟨4, _⟩ => ⟨S2x64x4096, .bf16⟩
  | .local _ .vmem, ⟨5, _⟩ => ⟨S2x64x4096, .bf16⟩
  | .local _ .vmem, ⟨6, _⟩ => ⟨S2x64x4096, .bf16⟩
  | .local _ .vmem, ⟨7, _⟩ => ⟨S2x64x4096, .bf16⟩
  | .local _ .vmem, ⟨8, _⟩ => ⟨S1x512, .f32⟩
  | .local _ .vmem, ⟨9, _⟩ => ⟨S2x64x4096, .bf16⟩
  | .local _ .vmem, ⟨10, _⟩ => ⟨S2x64x4096, .bf16⟩
  | _, _ => ⟨S256x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BackRefIdeal.lean ====
abbrev S256x65536 : Shape := ⟨2, ![256, 65536]⟩
abbrev S128x128x256 : Shape := ⟨3, ![128, 128, 256]⟩
abbrev S2x64x65536 : Shape := ⟨3, ![2, 64, 65536]⟩
abbrev S1x512 : Shape := ⟨2, ![1, 512]⟩
abbrev S256x128x512 : Shape := ⟨3, ![256, 128, 512]⟩
abbrev S128x512x128 : Shape := ⟨3, ![128, 512, 128]⟩
abbrev S128x128x512 : Shape := ⟨3, ![128, 128, 512]⟩
abbrev S2x64x128x512 : Shape := ⟨4, ![2, 64, 128, 512]⟩
abbrev S1x1x1x512 : Shape := ⟨4, ![1, 1, 1, 512]⟩

abbrev nBuf : Space → Nat
  | .hbm => 21
  | .vmem => 0
  | .smem => 0
  | _ => 0

abbrev bufTy : (tb : Table) → Fin (tcTables nBuf tb) → BufTy
  | .hbm, ⟨0, _⟩ => ⟨S256x65536, .bf16⟩
  | .hbm, ⟨1, _⟩ => ⟨S128x128x256, .bf16⟩
  | .hbm, ⟨2, _⟩ => ⟨S2x64x65536, .bf16⟩
  | .hbm, ⟨3, _⟩ => ⟨S2x64x65536, .bf16⟩
  | .hbm, ⟨4, _⟩ => ⟨S1x512, .f32⟩
  | .hbm, ⟨5, _⟩ => ⟨S256x65536, .f32⟩
  | .hbm, ⟨6, _⟩ => ⟨S128x128x256, .f32⟩
  | .hbm, ⟨7, _⟩ => ⟨S2x64x65536, .f32⟩
  | .hbm, ⟨8, _⟩ => ⟨S2x64x65536, .f32⟩
  | .hbm, ⟨9, _⟩ => ⟨S256x128x512, .f32⟩
  | .hbm, ⟨10, _⟩ => ⟨S128x512x128, .f32⟩
  | .hbm, ⟨11, _⟩ => ⟨S128x128x512, .f32⟩
  | .hbm, ⟨12, _⟩ => ⟨S2x64x128x512, .f32⟩
  | .hbm, ⟨13, _⟩ => ⟨S2x64x128x512, .f32⟩
  | .hbm, ⟨14, _⟩ => ⟨S1x1x1x512, .f32⟩
  | .hbm, ⟨15, _⟩ => ⟨S2x64x128x512, .f32⟩
  | .hbm, ⟨16, _⟩ => ⟨S2x64x128x512, .f32⟩
  | .hbm, ⟨17, _⟩ => ⟨S2x64x128x512, .f32⟩
  | .hbm, ⟨18, _⟩ => ⟨S2x64x65536, .f32⟩
  | .hbm, ⟨19, _⟩ => ⟨S2x64x65536, .f32⟩
  | .hbm, ⟨20, _⟩ => ⟨S2x64x65536, .bf16⟩
  | _, _ => ⟨S256x65536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Gated.lean ====
abbrev S256x65536 : Shape := ⟨2, ![256, 65536]⟩
abbrev S128x128x256 : Shape := ⟨3, ![128, 128, 256]⟩
abbrev S2x64x65536 : Shape := ⟨3, ![2, 64, 65536]⟩
abbrev S1x512 : Shape := ⟨2, ![1, 512]⟩
abbrev S256x4096 : Shape := ⟨2, ![256, 4096]⟩
abbrev S8x128x256 : Shape := ⟨3, ![8, 128, 256]⟩
abbrev S2x64x4096 : Shape := ⟨3, ![2, 64, 4096]⟩
abbrev S1x128x256 : Shape := ⟨3, ![1, 128, 256]⟩
abbrev S128x256 : Shape := ⟨2, ![128, 256]⟩
abbrev S256x512 : Shape := ⟨2, ![256, 512]⟩
abbrev S128x512 : Shape := ⟨2, ![128, 512]⟩
abbrev S64x512 : Shape := ⟨2, ![64, 512]⟩
abbrev S1x64x512 : Shape := ⟨3, ![1, 64, 512]⟩

abbrev nBuf : Space → Nat
  | .hbm => 7
  | .vmem => 13
  | .smem => 0
  | _ => 0

abbrev bufTy : (tb : Table) → Fin (tcTables nBuf tb) → BufTy
  | .hbm, ⟨0, _⟩ => ⟨S256x65536, .bf16⟩
  | .hbm, ⟨1, _⟩ => ⟨S128x128x256, .bf16⟩
  | .hbm, ⟨2, _⟩ => ⟨S2x64x65536, .bf16⟩
  | .hbm, ⟨3, _⟩ => ⟨S2x64x65536, .bf16⟩
  | .hbm, ⟨4, _⟩ => ⟨S1x512, .f32⟩
  | .hbm, ⟨5, _⟩ => ⟨S2x64x65536, .bf16⟩
  | .hbm, ⟨6, _⟩ => ⟨S2x64x65536, .bf16⟩
  | .local _ .vmem, ⟨0, _⟩ => ⟨S256x4096, .bf16⟩
  | .local _ .vmem, ⟨1, _⟩ => ⟨S256x4096, .bf16⟩
  | .local _ .vmem, ⟨2, _⟩ => ⟨S8x128x256, .bf16⟩
  | .local _ .vmem, ⟨3, _⟩ => ⟨S8x128x256, .bf16⟩
  | .local _ .vmem, ⟨4, _⟩ => ⟨S2x64x4096, .bf16⟩
  | .local _ .vmem, ⟨5, _⟩ => ⟨S2x64x4096, .bf16⟩
  | .local _ .vmem, ⟨6, _⟩ => ⟨S2x64x4096, .bf16⟩
  | .local _ .vmem, ⟨7, _⟩ => ⟨S2x64x4096, .bf16⟩
  | .local _ .vmem, ⟨8, _⟩ => ⟨S1x512, .f32⟩
  | .local _ .vmem, ⟨9, _⟩ => ⟨S2x64x4096, .bf16⟩
  | .local _ .vmem, ⟨10, _⟩ => ⟨S2x64x4096, .bf16⟩
  | .local _ .vmem, ⟨11, _⟩ => ⟨S2x64x4096, .bf16⟩
  | .local _ .vmem, ⟨12, _⟩ => ⟨S2x64x4096, .bf16⟩
  | _, _ => ⟨S256x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatedRefIdeal.lean ====
abbrev S256x65536 : Shape := ⟨2, ![256, 65536]⟩
abbrev S128x128x256 : Shape := ⟨3, ![128, 128, 256]⟩
abbrev S2x64x65536 : Shape := ⟨3, ![2, 64, 65536]⟩
abbrev S1x512 : Shape := ⟨2, ![1, 512]⟩
abbrev S256x128x512 : Shape := ⟨3, ![256, 128, 512]⟩
abbrev S128x512x128 : Shape := ⟨3, ![128, 512, 128]⟩
abbrev S128x128x512 : Shape := ⟨3, ![128, 128, 512]⟩
abbrev S2x64x128x512 : Shape := ⟨4, ![2, 64, 128, 512]⟩
abbrev S1x1x1x512 : Shape := ⟨4, ![1, 1, 1, 512]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S256x65536, .bf16⟩
  | .hbm, ⟨1, _⟩ => ⟨S128x128x256, .bf16⟩
  | .hbm, ⟨2, _⟩ => ⟨S2x64x65536, .bf16⟩
  | .hbm, ⟨3, _⟩ => ⟨S2x64x65536, .bf16⟩
  | .hbm, ⟨4, _⟩ => ⟨S1x512, .f32⟩
  | .hbm, ⟨5, _⟩ => ⟨S2x64x65536, .bf16⟩
  | .hbm, ⟨6, _⟩ => ⟨S256x65536, .f32⟩
  | .hbm, ⟨7, _⟩ => ⟨S128x128x256, .f32⟩
  | .hbm, ⟨8, _⟩ => ⟨S2x64x65536, .f32⟩
  | .hbm, ⟨9, _⟩ => ⟨S2x64x65536, .f32⟩
  | .hbm, ⟨10, _⟩ => ⟨S2x64x65536, .f32⟩
  | .hbm, ⟨11, _⟩ => ⟨S256x128x512, .f32⟩
  | .hbm, ⟨12, _⟩ => ⟨S128x512x128, .f32⟩
  | .hbm, ⟨13, _⟩ => ⟨S128x128x512, .f32⟩
  | .hbm, ⟨14, _⟩ => ⟨S2x64x128x512, .f32⟩
  | .hbm, ⟨15, _⟩ => ⟨S2x64x128x512, .f32⟩
  | .hbm, ⟨16, _⟩ => ⟨S1x1x1x512, .f32⟩
  | .hbm, ⟨17, _⟩ => ⟨S2x64x128x512, .f32⟩
  | .hbm, ⟨18, _⟩ => ⟨S2x64x128x512, .f32⟩
  | .hbm, ⟨19, _⟩ => ⟨S2x64x128x512, .f32⟩
  | .hbm, ⟨20, _⟩ => ⟨S2x64x65536, .f32⟩
  | .hbm, ⟨21, _⟩ => ⟨S2x64x65536, .f32⟩
  | .hbm, ⟨22, _⟩ => ⟨S2x64x65536, .f32⟩
  | .hbm, ⟨23, _⟩ => ⟨S2x64x65536, .f32⟩
  | .hbm, ⟨24, _⟩ => ⟨S_, .f32⟩
  | .hbm, ⟨25, _⟩ => ⟨S2x64x65536, .f32⟩
  | .hbm, ⟨26, _⟩ => ⟨S2x64x65536, .f32⟩
  | .hbm, ⟨27, _⟩ => ⟨S_, .f32⟩
  | .hbm, ⟨28, _⟩ => ⟨S2x64x65536, .f32⟩
  | .hbm, ⟨29, _⟩ => ⟨S2x64x65536, .f32⟩
  | .hbm, ⟨30, _⟩ => ⟨S2x64x65536, .f32⟩
  | .hbm, ⟨31, _⟩ => ⟨S2x64x65536, .f32⟩
  | .hbm, ⟨32, _⟩ => ⟨S2x64x65536, .bf16⟩
  | _, _ => ⟨S256x65536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Inner.lean ====
abbrev S16384x512 : Shape := ⟨2, ![16384, 512]⟩
abbrev S2x512x256 : Shape := ⟨3, ![2, 512, 256]⟩
abbrev S2x256x512 : Shape := ⟨3, ![2, 256, 512]⟩
abbrev S1536x1024 : Shape := ⟨2, ![1536, 1024]⟩
abbrev S16384x1024 : Shape := ⟨2, ![16384, 1024]⟩
abbrev S1x1024 : Shape := ⟨2, ![1, 1024]⟩
abbrev S512x512 : Shape := ⟨2, ![512, 512]⟩
abbrev S1x512x256 : Shape := ⟨3, ![1, 512, 256]⟩
abbrev S1x256x512 : Shape := ⟨3, ![1, 256, 512]⟩
abbrev S512x1024 : Shape := ⟨2, ![512, 1024]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩

abbrev nBuf : Space → Nat
  | .hbm => 10
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S2x512x256, .bf16⟩
  | .hbm, ⟨5, _⟩ => ⟨S2x256x512, .bf16⟩
  | .hbm, ⟨6, _⟩ => ⟨S1536x1024, .bf16⟩
  | .hbm, ⟨7, _⟩ => ⟨S16384x1024, .f32⟩
  | .hbm, ⟨8, _⟩ => ⟨S1x1024, .f32⟩
  | .hbm, ⟨9, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512x256, .bf16⟩
  | .local _ .vmem, ⟨9, _⟩ => ⟨S1x512x256, .bf16⟩
  | .local _ .vmem, ⟨10, _⟩ => ⟨S1x256x512, .bf16⟩
  | .local _ .vmem, ⟨11, _⟩ => ⟨S1x256x512, .bf16⟩
  | .local _ .vmem, ⟨12, _⟩ => ⟨S1536x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InnerRefIdeal.lean ====
abbrev S16384x512 : Shape := ⟨2, ![16384, 512]⟩
abbrev S2x512x256 : Shape := ⟨3, ![2, 512, 256]⟩
abbrev S2x256x512 : Shape := ⟨3, ![2, 256, 512]⟩
abbrev S1536x1024 : Shape := ⟨2, ![1536, 1024]⟩
abbrev S16384x1024 : Shape := ⟨2, ![16384, 1024]⟩
abbrev S1x1024 : Shape := ⟨2, ![1, 1024]⟩
abbrev S2x256x4x128 : Shape := ⟨4, ![2, 256, 4, 128]⟩
abbrev S2x8192x4x128 : Shape := ⟨4, ![2, 8192, 4, 128]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S16384x1536 : Shape := ⟨2, ![16384, 1536]⟩

abbrev nBuf : Space → Nat
  | .hbm => 54
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S2x512x256, .bf16⟩
  | .hbm, ⟨5, _⟩ => ⟨S2x256x512, .bf16⟩
  | .hbm, ⟨6, _⟩ => ⟨S1536x1024, .bf16⟩
  | .hbm, ⟨7, _⟩ => ⟨S16384x1024, .f32⟩
  | .hbm, ⟨8, _⟩ => ⟨S1x1024, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S2x512x256, .f32⟩
  | .hbm, ⟨14, _⟩ => ⟨S2x256x512, .f32⟩
  | .hbm, ⟨15, _⟩ => ⟨S1536x1024, .f32⟩
  | .hbm, ⟨16, _⟩ => ⟨S2x256x512, .f32⟩
  | .hbm, ⟨17, _⟩ => ⟨S2x256x4x128, .f32⟩
  | .hbm, ⟨18, _⟩ => ⟨S2x256x4x128, .f32⟩
  | .hbm, ⟨19, _⟩ => ⟨S2x8192x4x128, .f32⟩
  | .hbm, ⟨20, _⟩ => ⟨S2x4x8192x256, .f32⟩
  | .hbm, ⟨21, _⟩ => ⟨S_, .f32⟩
  | .hbm, ⟨22, _⟩ => ⟨S2x4x8192x256, .f32⟩
  | .hbm, ⟨23, _⟩ => ⟨S2x4x8192x256, .f32⟩
  | .hbm, ⟨24, _⟩ => ⟨S_, .f32⟩
  | .hbm, ⟨25, _⟩ => ⟨S2x4x8192, .f32⟩
  | .hbm, ⟨26, _⟩ => ⟨S_, .f32⟩
  | .hbm, ⟨27, _⟩ => ⟨S2x4x8192, .f32⟩
  | .hbm, ⟨28, _⟩ => ⟨S2x4x8192, .f32⟩
  | .hbm, ⟨29, _⟩ => ⟨S2x4x8192x1, .f32⟩
  | .hbm, ⟨30, _⟩ => ⟨S2x4x8192x256, .f32⟩
  | .hbm, ⟨31, _⟩ => ⟨S2x4x8192x256, .f32⟩
  | .hbm, ⟨32, _⟩ => ⟨S2x4x8192x256, .f32⟩
  | .hbm, ⟨33, _⟩ => ⟨S_, .f32⟩
  | .hbm, ⟨34, _⟩ => ⟨S2x4x8192, .f32⟩
  | .hbm, ⟨35, _⟩ => ⟨S2x4x8192x1, .f32⟩
  | .hbm, ⟨36, _⟩ => ⟨S2x4x8192x256, .f32⟩
  | .hbm, ⟨37, _⟩ => ⟨S2x4x8192x256, .f32⟩
  | .hbm, ⟨38, _⟩ => ⟨S2x4x128x8192, .f32⟩
  | .hbm, ⟨39, _⟩ => ⟨S2x8192x4x128, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x1536, .f32⟩
  | .hbm, ⟨52, _⟩ => ⟨S16384x1024, .f32⟩
  | .hbm, ⟨53, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Second.lean ====
abbrev S16384x512 : Shape := ⟨2, ![16384, 512]⟩
abbrev S2x512x8192 : Shape := ⟨3, ![2, 512, 8192]⟩
abbrev S1x64 : Shape := ⟨2, ![1, 64]⟩
abbrev S1x128 : Shape := ⟨2, ![1, 128]⟩
abbrev S256x128 : Shape := ⟨2, ![256, 128]⟩
abbrev S1x128x8192 : Shape := ⟨3, ![1, 128, 8192]⟩
abbrev S8192x128 : Shape := ⟨2, ![8192, 128]⟩
abbrev S8192x256 : Shape := ⟨2, ![8192, 256]⟩
abbrev S512x128 : Shape := ⟨2, ![512, 128]⟩
abbrev S512x256 : Shape := ⟨2, ![512, 256]⟩
abbrev S1x128x1024 : Shape := ⟨3, ![1, 128, 1024]⟩
abbrev S128x1024 : Shape := ⟨2, ![128, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S2x512x8192, .bf16⟩
  | .hbm, ⟨2, _⟩ => ⟨S16384x512, .bf16⟩
  | .hbm, ⟨3, _⟩ => ⟨S16384x512, .bf16⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S16384x512, .bf16⟩
  | .local _ .vmem, ⟨0, _⟩ => ⟨S256x128, .bf16⟩
  | .local _ .vmem, ⟨1, _⟩ => ⟨S256x128, .bf16⟩
  | .local _ .vmem, ⟨2, _⟩ => ⟨S1x128x8192, .bf16⟩
  | .local _ .vmem, ⟨3, _⟩ => ⟨S1x128x8192, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S256x128, .bf16⟩
  | .local _ .vmem, ⟨14, _⟩ => ⟨S256x128, .bf16⟩
  | .local _ .vmem, ⟨15, _⟩ => ⟨S8192x256, .bf16⟩
  | .local _ .vmem, ⟨16, _⟩ => ⟨S512x128, .f32⟩
  | .local _ .vmem, ⟨17, _⟩ => ⟨S512x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![2, 4, 32], ![false, false, false]⟩

@[reducible] def k0_t1_loop : Scf.Loop 32 :=
  let c0_i32_9 : BitVec 32 := 0#32
  let c8_i32 : BitVec 32 := 8#32
  let v21 : BitVec 32 := Scalar.addi c0_i32_9 c8_i32
  let c1_i32 : BitVec 32 := 1#32
  ⟨c0_i32_9, v21, c1_i32⟩
def k0_mult1 (k0_t1 : Fin k0_t1_loop.trips) : BitVec 32 :=
  let c0_i32_9 : BitVec 32 := 0#32
  let c1_i32 : BitVec 32 := 1#32
  let arg16 : BitVec 32 := Scf.iv c0_i32_9 c1_i32 k0_t1
  let c1024_i32 : BitVec 32 := 1024#32
  let v72 : BitVec 32 := Scalar.muli arg16 c1024_i32
  v72
def k0_off1 (k0_t1 : Fin k0_t1_loop.trips) : Fin 3 → Nat :=
  let c0_36 : Index := 0#32
  let c0_37 : Index := 0#32
  let c0_i32_9 : BitVec 32 := 0#32
  let c1_i32 : BitVec 32 := 1#32
  let arg16 : BitVec 32 := Scf.iv c0_i32_9 c1_i32 k0_t1
  let c1024_i32 : BitVec 32 := 1024#32
  let v72 : BitVec 32 := Scalar.muli arg16 c1024_i32
  let v73 : BitVec 32 := v72
  let v74 : Index := Scalar.indexCast v73
  ![0, 0, v74.toNat]
def k0_off2 (k0_t1 : Fin k0_t1_loop.trips) : Fin 2 → Nat :=
  let c0_i32_9 : BitVec 32 := 0#32
  let c1_i32 : BitVec 32 := 1#32
  let arg16 : BitVec 32 := Scf.iv c0_i32_9 c1_i32 k0_t1
  let c1024_i32 : BitVec 32 := 1024#32
  let v72 : BitVec 32 := Scalar.muli arg16 c1024_i32
  let v73 : BitVec 32 := v72
  let v89 : Index := Scalar.indexCast v73
  let c0_42 : Index := 0#32
  ![v89.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== SecondRefIdeal.lean ====
abbrev S16384x512 : Shape := ⟨2, ![16384, 512]⟩
abbrev S2x512x8192 : Shape := ⟨3, ![2, 512, 8192]⟩
abbrev S1x64 : Shape := ⟨2, ![1, 64]⟩
abbrev S1x128 : Shape := ⟨2, ![1, 128]⟩
abbrev S2x8192x4x2x64 : Shape := ⟨5, ![2, 8192, 4, 2, 64]⟩
abbrev S2x4x2x64x8192 : Shape := ⟨5, ![2, 4, 2, 64, 8192]⟩
abbrev S2x8192x4x128 : Shape := ⟨4, ![2, 8192, 4, 128]⟩
abbrev S_ : Shape := ⟨0, ![]⟩
abbrev S2x2x4x8192x8192 : Shape := ⟨5, ![2, 2, 4, 8192, 8192]⟩
abbrev S2x2x4x8192 : Shape := ⟨4, ![2, 2, 4, 8192]⟩
abbrev S2x2x4x8192x1 : Shape := ⟨5, ![2, 2, 4, 8192, 1]⟩
abbrev S1x2x4x8192x8192 : Shape := ⟨5, ![1, 2, 4, 8192, 8192]⟩
abbrev S2x4x8192x8192 : Shape := ⟨4, ![2, 4, 8192, 8192]⟩
abbrev S2x4x128x8192 : Shape := ⟨4, ![2, 4, 128, 8192]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S2x512x8192, .bf16⟩
  | .hbm, ⟨2, _⟩ => ⟨S16384x512, .bf16⟩
  | .hbm, ⟨3, _⟩ => ⟨S16384x512, .bf16⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S16384x512, .f32⟩
  | .hbm, ⟨10, _⟩ => ⟨S2x8192x4x2x64, .f32⟩
  | .hbm, ⟨11, _⟩ => ⟨S2x512x8192, .f32⟩
  | .hbm, ⟨12, _⟩ => ⟨S2x4x2x64x8192, .f32⟩
  | .hbm, ⟨13, _⟩ => ⟨S16384x512, .f32⟩
  | .hbm, ⟨14, _⟩ => ⟨S2x8192x4x128, .f32⟩
  | .hbm, ⟨15, _⟩ => ⟨S16384x512, .f32⟩
  | .hbm, ⟨16, _⟩ => ⟨S1x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x2x4x8192x8192, .f32⟩
  | .hbm, ⟨28, _⟩ => ⟨S_, .f32⟩
  | .hbm, ⟨29, _⟩ => ⟨S_, .f32⟩
  | .hbm, ⟨30, _⟩ => ⟨S2x2x4x8192x8192, .f32⟩
  | .hbm, ⟨31, _⟩ => ⟨S2x2x4x8192x8192, .f32⟩
  | .hbm, ⟨32, _⟩ => ⟨S_, .f32⟩
  | .hbm, ⟨33, _⟩ => ⟨S2x2x4x8192, .f32⟩
  | .hbm, ⟨34, _⟩ => ⟨S_, .f32⟩
  | .hbm, ⟨35, _⟩ => ⟨S2x2x4x8192, .f32⟩
  | .hbm, ⟨36, _⟩ => ⟨S2x2x4x8192, .f32⟩
  | .hbm, ⟨37, _⟩ => ⟨S2x2x4x8192x1, .f32⟩
  | .hbm, ⟨38, _⟩ => ⟨S2x2x4x8192x8192, .f32⟩
  | .hbm, ⟨39, _⟩ => ⟨S2x2x4x8192x8192, .f32⟩
  | .hbm, ⟨40, _⟩ => ⟨S2x2x4x8192x8192, .f32⟩
  | .hbm, ⟨41, _⟩ => ⟨S_, .f32⟩
  | .hbm, ⟨42, _⟩ => ⟨S2x2x4x8192, .f32⟩
  | .hbm, ⟨43, _⟩ => ⟨S2x2x4x8192x1, .f32⟩
  | .hbm, ⟨44, _⟩ => ⟨S2x2x4x8192x8192, .f32⟩
  | .hbm, ⟨45, _⟩ => ⟨S2x2x4x8192x8192, .f32⟩
  | .hbm, ⟨46, _⟩ => ⟨S1x2x4x8192x8192, .f32⟩
  | .hbm, ⟨47, _⟩ => ⟨S2x4x8192x8192, .f32⟩
  | .hbm, ⟨48, _⟩ => ⟨S1x2x4x8192x8192, .f32⟩
  | .hbm, ⟨49, _⟩ => ⟨S2x4x8192x8192, .f32⟩
  | .hbm, ⟨50, _⟩ => ⟨S2x4x8192x8192, .f32⟩
  | .hbm, ⟨51, _⟩ => ⟨S2x4x8192x8192, .f32⟩
  | .hbm, ⟨52, _⟩ => ⟨S2x4x8192x8192, .f32⟩
  | .hbm, ⟨53, _⟩ => ⟨S2x4x128x8192, .f32⟩
  | .hbm, ⟨54, _⟩ => ⟨S2x8192x4x128, .f32⟩
  | .hbm, ⟨55, _⟩ => ⟨S128, .f32⟩
  | .hbm, ⟨56, _⟩ => ⟨S2x8192x4x128, .f32⟩
  | .hbm, ⟨57, _⟩ => ⟨S_, .f32⟩
  | .hbm, ⟨58, _⟩ => ⟨S2x8192x4, .f32⟩
  | .hbm, ⟨59, _⟩ => ⟨S2x8192x4x1, .f32⟩
  | .hbm, ⟨60, _⟩ => ⟨S_, .f32⟩
  | .hbm, ⟨61, _⟩ => ⟨S2x8192x4x1, .f32⟩
  | .hbm, ⟨62, _⟩ => ⟨S2x8192x4x1, .f32⟩
  | .hbm, ⟨63, _⟩ => ⟨S_, .f32⟩
  | .hbm, ⟨64, _⟩ => ⟨S2x8192x4x1, .f32⟩
  | .hbm, ⟨65, _⟩ => ⟨S2x8192x4x1, .f32⟩
  | .hbm, ⟨66, _⟩ => ⟨S2x8192x4x1, .f32⟩
  | .hbm, ⟨67, _⟩ => ⟨S2x8192x4x128, .f32⟩
  | .hbm, ⟨68, _⟩ => ⟨S2x8192x4x128, .f32⟩
  | .hbm, ⟨69, _⟩ => ⟨S1x1x1x128, .f32⟩
  | .hbm, ⟨70, _⟩ => ⟨S2x8192x4x128, .f32⟩
  | .hbm, ⟨71, _⟩ => ⟨S2x8192x4x128, .f32⟩
  | .hbm, ⟨72, _⟩ => ⟨S_, .f32⟩
  | .hbm, ⟨73, _⟩ => ⟨S2x8192x4x128, .f32⟩
  | .hbm, ⟨74, _⟩ => ⟨S2x8192x4x128, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S_, .f32⟩
  | .hbm, ⟨79, _⟩ => ⟨S16384x512, .f32⟩
  | .hbm, ⟨80, _⟩ => ⟨S16384x512, .f32⟩
  | .hbm, ⟨81, _⟩ => ⟨S_, .f32⟩
  | .hbm, ⟨82, _⟩ => ⟨S16384x512, .f32⟩
  | .hbm, ⟨83, _⟩ => ⟨S16384x512, .f32⟩
  | .hbm, ⟨84, _⟩ => ⟨S16384x512, .f32⟩
  | .hbm, ⟨85, _⟩ => ⟨S16384x512, .f32⟩
  | .hbm, ⟨86, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Proof.Norm.lean ====
/- A row scaled to mean square one, and its product with a column of a matrix: what a projection of a normed row is,
   whatever program computes it. -/
module

public import Idealize.ShloMosaic.Lib.Pointwise

@[expose] public section

noncomputable section

namespace Cert.Layer

open Idealize.ShloMosaic
open scoped BigOperators

/-- The factor that scales a row of 1024 numbers to mean square one. -/
def invRms (x : Fin 1024 → EReal) : EReal :=
  Ideal.rsqrt (Ideal.div (∑ k, x k * x k) (Ideal.ofBits FTy.f32 0x44800000#32) + Ideal.ofBits FTy.f32 0x358637BD#32)

/-- Lane `k` of a normed row under its scale. -/
def normed (x g : Fin 1024 → EReal) (k : Fin 1024) : EReal := x k * invRms x * g k

/-- A normed row against a column. -/
def proj (x g w : Fin 1024 → EReal) : EReal := ∑ k, normed x g k * w k

end Cert.Layer

end
-- ==== Proof.Rope.lean ====
/- The rotation of a row's heads by an angle's cosine and sine, and the scale of the queries. -/
module

public import Idealize.ShloMosaic.Lib.Pointwise

@[expose] public section

noncomputable section

namespace Cert.Layer

open Idealize.ShloMosaic
open scoped BigOperators

/-- Lane `j` of a row of eight heads of 64 lanes, every head's halves rotated: in the first half of a head the lane times its cosine less the
    lane 32 after it times its sine, in the second half the lane times its cosine and the lane 32 before it times its sine. -/
def rope (t : Fin 512 → EReal) (cos sin : Fin 32 → EReal) (j : Fin 512) : EReal :=
  if h : j.val % 64 < 32 then
    t j * cos ⟨j.val % 64, h⟩ - t ⟨j.val + 32, by have := j.isLt; omega⟩ * sin ⟨j.val % 64, h⟩
  else
    t j * cos ⟨j.val % 64 - 32, by omega⟩ + t ⟨j.val - 32, by have := j.isLt; omega⟩ * sin ⟨j.val % 64 - 32, by omega⟩

/-- The queries' scale: one over the root of the width of a head, and over the logarithm of two. -/
def qScale : EReal := (((Real.sqrt 64)⁻¹ * (Real.log 2)⁻¹ : ℝ) : EReal)

/-- An eighth over the logarithm of two is the queries' scale. -/
theorem qScale_eq (x : EReal) :
    Ideal.div (x * Ideal.ofBits FTy.f32 0x3E000000#32) (Ideal.log (Ideal.ofBits FTy.f32 0x40000000#32)) = x * qScale := by
  have h8 : Ideal.ofBits FTy.f32 0x3E000000#32 = ((1 / 8 : ℝ) : EReal) := by
    simp [Ideal.ofBits, Ideal.ieee, -EReal.coe_mul]; norm_num
  have h2 : Ideal.ofBits FTy.f32 0x40000000#32 = ((2 : ℝ) : EReal) := by
    simp [Ideal.ofBits, Ideal.ieee, -EReal.coe_mul]
    exact_mod_cast (by norm_num : (8388608 : ℝ) * (2 ^ 22)⁻¹ = 2)
  have hl : Real.log 2 ≠ 0 := (Real.log_pos (by norm_num)).ne'
  have hs : Real.sqrt 64 = 8 := by
    rw [show (64 : ℝ) = 8 ^ 2 by norm_num]; exact Real.sqrt_sq (by norm_num)
  rw [h8, h2, Ideal.log_coe, if_neg (by norm_num), Ideal.div_coe hl, mul_assoc, ← EReal.coe_mul]
  unfold qScale
  rw [hs]
  congr 2
  norm_num

end Cert.Layer

end
-- ==== Proof.InputVal.lean ====
/- The input projection as the kernel leaves it, element by element. -/
module

public import proofs.«01_k».proof.Proof.Gen.InputIdeal.Value
public import proofs.«01_k».proof.Proof.Gen.InputIdeal.Frame
public import proofs.«01_k».proof.Proof.Norm
public import proofs.«01_k».proof.Proof.Rope
public import Idealize.ShloMosaic.Lib.WritesUnit
public import Idealize.ShloMosaic.Lib.Pipeline.ValueKit.Basic
public import Idealize.ShloMosaic.Lib.Pipeline.ValueKit.Tiles
public import Idealize.ShloMosaic.Lib.Pointwise

@[expose] public section

set_option maxRecDepth 16384

noncomputable section

namespace Cert.InputIdeal.Inp

open Cert.InputIdeal Cert.InputIdeal.Gen Idealize.ShloMosaic Idealize.ShloMosaic.TcCoe Idealize.SL.Sem
open Cert.Layer
open scoped BigOperators

/-! ## The body's vectors at an index -/

/-- The normed rows of a block. -/
theorem pay5_apply (x : Vec Ideal S512x1024 .f32) (g : Vec Ideal S1x1024 .f32) (r : Fin 512) (k : Fin 1024) :
    k0_pay5 x g (ix2 r k) = normed (fun k => x (ix2 r k)) (fun k => g (ix2 0 k)) k := by
  pointwise [k0_pay5]
  rfl

/-- The wide product of the normed rows. -/
theorem pay1_apply (v : FVec Ideal S512x1024 .bf16) (w : Vec Ideal S1024x1536 .bf16) (r : Fin 512) (j : Fin 1536) :
    k0_pay1 v w (ix2 r j) = ∑ k, v (ix2 r k) * w (ix2 k j) := by
  pointwise [k0_pay1]

/-- A product of the normed rows with 512 columns. -/
theorem pay2_apply (v : FVec Ideal S512x1024 .bf16) (w : Vec Ideal S1024x512 .bf16) (r : Fin 512) (j : Fin 512) :
    k0_pay2 v w (ix2 r j) = ∑ k, v (ix2 r k) * w (ix2 k j) := by
  pointwise [k0_pay2]

/-- Which lanes lie in the first half of their head, read in the first row. -/
theorem mask_row0 : ∀ j : Fin 512, k0_pay8 (ix2 0 j) = if j.val % 64 < 32 then 1#1 else 0#1 := by decide +kernel

/-- Which lanes lie in the first half of their head. -/
theorem mask_apply (r j : Fin 512) : k0_pay8 (ix2 r j) = if j.val % 64 < 32 then 1#1 else 0#1 := mask_row0 j

/-- A lane's place in a table of 128 lanes. -/
abbrev lane (j : Fin 512) : Fin 128 := ⟨j.val % 128, Nat.mod_lt _ (by decide)⟩

/-- A choice among four copies of a row by the lane is the row at the lane's place in it. -/
theorem four_copies (u : Fin 128 → EReal) (j : Fin 512) :
    (if h : j.val < 128 then u ⟨j.val, h⟩
      else if h : j.val - 128 < 128 then u ⟨j.val - 128, h⟩
      else if h : j.val - 128 - 128 < 128 then u ⟨j.val - 128 - 128, h⟩
      else u ⟨j.val - 128 - 128 - 128, by have := j.isLt; omega⟩) = u (lane j) := by
  have hj := j.isLt
  split
  · exact congrArg u (Fin.ext (by show j.val = j.val % 128; omega))
  · split
    · exact congrArg u (Fin.ext (by show j.val - 128 = j.val % 128; omega))
    · split
      · exact congrArg u (Fin.ext (by show j.val - 128 - 128 = j.val % 128; omega))
      · exact congrArg u (Fin.ext (by show j.val - 128 - 128 - 128 = j.val % 128; omega))

/-- The cosines of all heads. -/
theorem pay6_apply (t : Vec Ideal S512x128 .f32) (r j : Fin 512) : k0_pay6 t (ix2 r j) = t (ix2 r (lane j)) := by
  pointwise [k0_pay6]
  exact four_copies (fun l => t (ix2 r l)) j

/-- The signed sines of all heads. -/
theorem pay7_apply (t : Vec Ideal S512x128 .f32) (r j : Fin 512) : k0_pay7 t (ix2 r j) = t (ix2 r (lane j)) := by
  pointwise [k0_pay7]
  exact four_copies (fun l => t (ix2 r l)) j

/-- A lane times its cosine plus its partner times the signed sine is the rotation. -/
theorem rope_of_lanes (u : Fin 512 → EReal) (c s : Fin 128 → EReal) (cos sin : Fin 32 → EReal)
    (hc : ∀ l : Fin 128, c l = cos ⟨l.val % 32, Nat.mod_lt _ (by decide)⟩)
    (hs : ∀ l : Fin 128, s l = if h : l.val % 64 < 32 then -sin ⟨l.val % 64, h⟩ else sin ⟨l.val % 64 - 32, by omega⟩) (j : Fin 512) :
    u j * c (lane j) + Scalar.select (if j.val % 64 < 32 then 1#1 else 0#1)
        (u ⟨(j.val + 512 - 480) % 512, Nat.mod_lt _ (by decide)⟩) (u ⟨(j.val + 512 - 32) % 512, Nat.mod_lt _ (by decide)⟩) * s (lane j)
      = rope u cos sin j := by
  have hj := j.isLt
  unfold rope
  rw [hc, hs]
  by_cases h : j.val % 64 < 32
  · have h' : (lane j).val % 64 < 32 := by show j.val % 128 % 64 < 32; omega
    rw [if_pos h, dif_pos h, dif_pos h', sub_eq_add_neg, mul_neg]
    have e1 : (⟨(lane j).val % 32, Nat.mod_lt _ (by decide)⟩ : Fin 32) = ⟨j.val % 64, h⟩ := Fin.ext (by show j.val % 128 % 32 = j.val % 64; omega)
    have e2 : (⟨(lane j).val % 64, h'⟩ : Fin 32) = ⟨j.val % 64, h⟩ := Fin.ext (by show j.val % 128 % 64 = j.val % 64; omega)
    have e3 : (⟨(j.val + 512 - 480) % 512, Nat.mod_lt _ (by decide)⟩ : Fin 512) = ⟨j.val + 32, by omega⟩ :=
      Fin.ext (by show (j.val + 512 - 480) % 512 = j.val + 32; omega)
    rw [e1, e2, e3]
    rfl
  · have h' : ¬(lane j).val % 64 < 32 := by show ¬j.val % 128 % 64 < 32; omega
    rw [if_neg h, dif_neg h, dif_neg h']
    have e1 : (⟨(lane j).val % 32, Nat.mod_lt _ (by decide)⟩ : Fin 32) = ⟨j.val % 64 - 32, by omega⟩ :=
      Fin.ext (by show j.val % 128 % 32 = j.val % 64 - 32; omega)
    have e2 : (⟨(lane j).val % 64 - 32, by omega⟩ : Fin 32) = ⟨j.val % 64 - 32, by omega⟩ :=
      Fin.ext (by show j.val % 128 % 64 - 32 = j.val % 64 - 32; omega)
    have e3 : (⟨(j.val + 512 - 32) % 512, Nat.mod_lt _ (by decide)⟩ : Fin 512) = ⟨j.val - 32, by omega⟩ :=
      Fin.ext (by show (j.val + 512 - 32) % 512 = j.val - 32; omega)
    rw [e1, e2, e3]
    rfl

/-- The named scale of the queries is the value its name stands for. -/
theorem q_scale : Named.named (F := Ideal) κ "q_scale" (φ := .f32) 0x3E38AA3B#32 = qScale :=
  IdealRules.named_const.ideal_named_scalar _ _ _ _ rfl

/-! ## A block of each result from the blocks read -/

/-- A load of a whole block reads the block. -/
theorem ld_whole {s : Shape} {e : EltTy} (x : Vec Ideal s e) {off : Fin s.rank → ℕ} (inb : ∀ b, off b + s.size b ≤ s.size b) (h0 : ∀ b, off b = 0) :
    View.ld x (Rect.unit off s.size inb) = x := View.ld_unit_lit _ _ h0

/-- The normed rows of the block read. -/
theorem rows_apply (x0 : Vec Ideal S512x1024 .f32) (x1 : Vec Ideal S1x1024 .f32) (x2 : Vec Ideal S1024x5120 .bf16) (x3 x4 : Vec Ideal S512x128 .f32)
    (r : Fin 512) (k : Fin 1024) : k0_pay13 x0 x1 x2 x3 x4 (ix2 r k) = normed (fun k => x0 (ix2 r k)) (fun k => x1 (ix2 0 k)) k := by
  unfold k0_pay13 r0_0 r0_1
  rw [ld_whole x0 _ (by decide), ld_whole x1 _ (by decide)]
  exact pay5_apply x0 x1 r k

/-- The cosines read, at a lane. -/
theorem cos_apply (x0 : Vec Ideal S512x1024 .f32) (x1 : Vec Ideal S1x1024 .f32) (x2 : Vec Ideal S1024x5120 .bf16) (x3 x4 : Vec Ideal S512x128 .f32)
    (r j : Fin 512) : k0_pay14 x0 x1 x2 x3 x4 (ix2 r j) = x3 (ix2 r (lane j)) := by
  unfold k0_pay14 r0_2
  rw [ld_whole x3 _ (by decide)]
  exact pay6_apply x3 r j

/-- The signed sines read, at a lane. -/
theorem sin_apply (x0 : Vec Ideal S512x1024 .f32) (x1 : Vec Ideal S1x1024 .f32) (x2 : Vec Ideal S1024x5120 .bf16) (x3 x4 : Vec Ideal S512x128 .f32)
    (r j : Fin 512) : k0_pay15 x0 x1 x2 x3 x4 (ix2 r j) = x4 (ix2 r (lane j)) := by
  unfold k0_pay15 r0_2
  rw [ld_whole x4 _ (by decide)]
  exact pay7_apply x4 r j

/-- A column of a load of some columns of the matrix is a column of the matrix. -/
theorem ld_cols {n : ℕ} (x2 : Vec Ideal S1024x5120 .bf16) (off : ℕ) (inb : ∀ a, (![0, off] : Fin 2 → ℕ) a + (![1024, n] : Fin 2 → ℕ) a ≤ S1024x5120.size a)
    (k : Fin 1024) (j : Fin n) (h : off + j.val < 5120) :
    View.ld x2 (Rect.unit (s := S1024x5120) ![0, off] ![1024, n] inb) (ix2 k j) = x2 (ix2 k ⟨off + j.val, h⟩) := by
  refine congrArg x2 (funext fun a => Fin.ext ?_)
  match a with
  | ⟨0, _⟩ => show 0 + 1 * k.val = k.val; omega
  | ⟨1, _⟩ => show off + 1 * j.val = off + j.val; omega

/-- The third result's block at an index. -/
theorem out7_apply (x0 : Vec Ideal S512x1024 .f32) (x1 : Vec Ideal S1x1024 .f32) (x2 : Vec Ideal S1024x5120 .bf16) (x3 x4 : Vec Ideal S512x128 .f32) (y : S512x512.Idx) :
    out0_7 x0 x1 x2 x3 x4 y = proj (fun k => x0 (ix2 (y 0) k)) (fun k => x1 (ix2 0 k))
      (fun k => x2 (ix2 k ⟨1024 + (y 1).val, by have h : (y 1).val < 512 := (y 1).isLt; omega⟩)) := by
  unfold out0_7
  refine (congrFun (View.canon_cons_unit_lit _ _ _ (by decide)) y).trans ((congrArg _ (eq_ix2 y)).trans ((pay2_apply _ _ (y 0) (y 1)).trans ?_))
  refine Finset.sum_congr rfl fun k _ => congrArg₂ (· * ·) (rows_apply x0 x1 x2 x3 x4 (y 0) k) (ld_cols x2 1024 _ k (y 1) _)

/-- The fourth result's block at an index. -/
theorem out8_apply (x0 : Vec Ideal S512x1024 .f32) (x1 : Vec Ideal S1x1024 .f32) (x2 : Vec Ideal S1024x5120 .bf16) (x3 x4 : Vec Ideal S512x128 .f32) (y : S512x512.Idx) :
    out0_8 x0 x1 x2 x3 x4 y = proj (fun k => x0 (ix2 (y 0) k)) (fun k => x1 (ix2 0 k))
      (fun k => x2 (ix2 k ⟨1536 + (y 1).val, by have h : (y 1).val < 512 := (y 1).isLt; omega⟩)) := by
  unfold out0_8
  refine (congrFun (View.canon_cons_unit_lit _ _ _ (by decide)) y).trans ((congrArg _ (eq_ix2 y)).trans ((pay2_apply _ _ (y 0) (y 1)).trans ?_))
  refine Finset.sum_congr rfl fun k _ => congrArg₂ (· * ·) (rows_apply x0 x1 x2 x3 x4 (y 0) k) (ld_cols x2 1536 _ k (y 1) _)

/-- The fifth result's block at an index. -/
theorem out9_apply (x0 : Vec Ideal S512x1024 .f32) (x1 : Vec Ideal S1x1024 .f32) (x2 : Vec Ideal S1024x5120 .bf16) (x3 x4 : Vec Ideal S512x128 .f32) (y : S512x1536.Idx) :
    out0_9 x0 x1 x2 x3 x4 y = proj (fun k => x0 (ix2 (y 0) k)) (fun k => x1 (ix2 0 k))
      (fun k => x2 (ix2 k ⟨2048 + (y 1).val, by have h : (y 1).val < 1536 := (y 1).isLt; omega⟩)) := by
  unfold out0_9
  refine (congrFun (View.canon_cons_unit_lit _ _ _ (by decide)) y).trans ((congrArg _ (eq_ix2 y)).trans ((pay1_apply _ _ (y 0) (y 1)).trans ?_))
  refine Finset.sum_congr rfl fun k _ => congrArg₂ (· * ·) (rows_apply x0 x1 x2 x3 x4 (y 0) k) (ld_cols x2 2048 _ k (y 1) _)

/-- The sixth result's block at an index. -/
theorem out10_apply (x0 : Vec Ideal S512x1024 .f32) (x1 : Vec Ideal S1x1024 .f32) (x2 : Vec Ideal S1024x5120 .bf16) (x3 x4 : Vec Ideal S512x128 .f32) (y : S512x512.Idx) :
    out0_10 x0 x1 x2 x3 x4 y = proj (fun k => x0 (ix2 (y 0) k)) (fun k => x1 (ix2 0 k))
      (fun k => x2 (ix2 k ⟨3584 + (y 1).val, by have h : (y 1).val < 512 := (y 1).isLt; omega⟩)) := by
  unfold out0_10
  refine (congrFun (View.canon_cons_unit_lit _ _ _ (by decide)) y).trans ((congrArg _ (eq_ix2 y)).trans ((pay2_apply _ _ (y 0) (y 1)).trans ?_))
  refine Finset.sum_congr rfl fun k _ => congrArg₂ (· * ·) (rows_apply x0 x1 x2 x3 x4 (y 0) k) (ld_cols x2 3584 _ k (y 1) _)

/-- The seventh result's block at an index. -/
theorem out11_apply (x0 : Vec Ideal S512x1024 .f32) (x1 : Vec Ideal S1x1024 .f32) (x2 : Vec Ideal S1024x5120 .bf16) (x3 x4 : Vec Ideal S512x128 .f32) (y : S512x512.Idx) :
    out0_11 x0 x1 x2 x3 x4 y = proj (fun k => x0 (ix2 (y 0) k)) (fun k => x1 (ix2 0 k))
      (fun k => x2 (ix2 k ⟨4096 + (y 1).val, by have h : (y 1).val < 512 := (y 1).isLt; omega⟩)) := by
  unfold out0_11
  refine (congrFun (View.canon_cons_unit_lit _ _ _ (by decide)) y).trans ((congrArg _ (eq_ix2 y)).trans ((pay2_apply _ _ (y 0) (y 1)).trans ?_))
  refine Finset.sum_congr rfl fun k _ => congrArg₂ (· * ·) (rows_apply x0 x1 x2 x3 x4 (y 0) k) (ld_cols x2 4096 _ k (y 1) _)

/-- The eighth result's block at an index. -/
theorem out12_apply (x0 : Vec Ideal S512x1024 .f32) (x1 : Vec Ideal S1x1024 .f32) (x2 : Vec Ideal S1024x5120 .bf16) (x3 x4 : Vec Ideal S512x128 .f32) (y : S512x512.Idx) :
    out0_12 x0 x1 x2 x3 x4 y = proj (fun k => x0 (ix2 (y 0) k)) (fun k => x1 (ix2 0 k))
      (fun k => x2 (ix2 k ⟨4608 + (y 1).val, by have h : (y 1).val < 512 := (y 1).isLt; omega⟩)) := by
  unfold out0_12
  refine (congrFun (View.canon_cons_unit_lit _ _ _ (by decide)) y).trans ((congrArg _ (eq_ix2 y)).trans ((pay2_apply _ _ (y 0) (y 1)).trans ?_))
  refine Finset.sum_congr rfl fun k _ => congrArg₂ (· * ·) (rows_apply x0 x1 x2 x3 x4 (y 0) k) (ld_cols x2 4608 _ k (y 1) _)

/-- The rotation of a row of a block: of the projection on 512 columns, with tables that repeat the cosines and the signed sines. -/
theorem rope_block (x0 : Vec Ideal S512x1024 .f32) (x1 : Vec Ideal S1x1024 .f32) (x2 : Vec Ideal S1024x5120 .bf16) (x3 x4 : Vec Ideal S512x128 .f32) (cos sin : Fin 32 → EReal) (off : ℕ) (ho : off + 512 ≤ 5120)
    (inb : ∀ a, (![0, off] : Fin 2 → ℕ) a + (![1024, 512] : Fin 2 → ℕ) a ≤ S1024x5120.size a) (r j : Fin 512)
    (hc : ∀ l : Fin 128, x3 (ix2 r l) = cos ⟨l.val % 32, Nat.mod_lt _ (by decide)⟩)
    (hs : ∀ l : Fin 128, x4 (ix2 r l) = if h : l.val % 64 < 32 then -sin ⟨l.val % 64, h⟩ else sin ⟨l.val % 64 - 32, by omega⟩) :
    (let u : Fin 512 → EReal := fun j => ∑ k : Fin 1024, k0_pay13 x0 x1 x2 x3 x4 (ix2 r k) * View.ld x2 (Rect.unit (s := S1024x5120) ![0, off] ![1024, 512] inb) (ix2 k j)
     u j * k0_pay14 x0 x1 x2 x3 x4 (ix2 r j) + Scalar.select (k0_pay8 (ix2 r j))
        (u ⟨(j.val + 512 - 480) % 512, Nat.mod_lt _ (by decide)⟩) (u ⟨(j.val + 512 - 32) % 512, Nat.mod_lt _ (by decide)⟩) * k0_pay15 x0 x1 x2 x3 x4 (ix2 r j))
      = rope (fun j => proj (fun k => x0 (ix2 r k)) (fun k => x1 (ix2 0 k)) (fun k => x2 (ix2 k ⟨off + j.val, by have := j.isLt; omega⟩))) cos sin j := by
  have hu : (fun j : Fin 512 => ∑ k : Fin 1024, k0_pay13 x0 x1 x2 x3 x4 (ix2 r k) * View.ld x2 (Rect.unit (s := S1024x5120) ![0, off] ![1024, 512] inb) (ix2 k j))
      = fun j => proj (fun k => x0 (ix2 r k)) (fun k => x1 (ix2 0 k)) (fun k => x2 (ix2 k ⟨off + j.val, by have := j.isLt; omega⟩)) :=
    funext fun j => Finset.sum_congr rfl fun k _ => congrArg₂ (· * ·) (rows_apply x0 x1 x2 x3 x4 r k) (ld_cols x2 off _ k j _)
  dsimp only
  rw [mask_apply, cos_apply, sin_apply, ← hu]
  exact rope_of_lanes (fun j : Fin 512 => ∑ k : Fin 1024, k0_pay13 x0 x1 x2 x3 x4 (ix2 r k) * View.ld x2 (Rect.unit (s := S1024x5120) ![0, off] ![1024, 512] inb) (ix2 k j)) (fun l => x3 (ix2 r l)) (fun l => x4 (ix2 r l)) cos sin hc hs j

/-- The block of queries at an index. -/
theorem out5_apply (x0 : Vec Ideal S512x1024 .f32) (x1 : Vec Ideal S1x1024 .f32) (x2 : Vec Ideal S1024x5120 .bf16) (x3 x4 : Vec Ideal S512x128 .f32) (cos sin : Fin 32 → EReal) (y : S512x512.Idx)
    (hc : ∀ l : Fin 128, x3 (ix2 (y 0) l) = cos ⟨l.val % 32, Nat.mod_lt _ (by decide)⟩)
    (hs : ∀ l : Fin 128, x4 (ix2 (y 0) l) = if h : l.val % 64 < 32 then -sin ⟨l.val % 64, h⟩ else sin ⟨l.val % 64 - 32, by omega⟩) :
    out0_5 x0 x1 x2 x3 x4 y = rope (fun j => proj (fun k => x0 (ix2 (y 0) k)) (fun k => x1 (ix2 0 k))
      (fun k => x2 (ix2 k ⟨0 + j.val, by have := j.isLt; omega⟩))) cos sin (y 1) * qScale := by
  unfold out0_5 k0_pay16
  refine (congrFun (View.canon_cons_unit_lit _ _ _ (by decide)) y).trans ((congrArg _ (eq_ix2 y)).trans ?_)
  refine Eq.trans ?_ (congrArg (· * qScale) (rope_block x0 x1 x2 x3 x4 cos sin 0 (by decide) inb_S1024x5120_S1024x512_0_0 (y 0) (y 1) hc hs))
  rw [← q_scale]
  generalize k0_pay13 x0 x1 x2 x3 x4 = v
  generalize k0_pay14 x0 x1 x2 x3 x4 = c
  generalize k0_pay15 x0 x1 x2 x3 x4 = s
  pointwise [k0_pay9]

/-- The block of keys, transposed, at an index. -/
theorem out6_apply (x0 : Vec Ideal S512x1024 .f32) (x1 : Vec Ideal S1x1024 .f32) (x2 : Vec Ideal S1024x5120 .bf16) (x3 x4 : Vec Ideal S512x128 .f32) (cos sin : Fin 32 → EReal) (y : S1x512x512.Idx)
    (hc : ∀ l : Fin 128, x3 (ix2 (y 2) l) = cos ⟨l.val % 32, Nat.mod_lt _ (by decide)⟩)
    (hs : ∀ l : Fin 128, x4 (ix2 (y 2) l) = if h : l.val % 64 < 32 then -sin ⟨l.val % 64, h⟩ else sin ⟨l.val % 64 - 32, by omega⟩) :
    out0_6 x0 x1 x2 x3 x4 y = rope (fun j => proj (fun k => x0 (ix2 (y 2) k)) (fun k => x1 (ix2 0 k))
      (fun k => x2 (ix2 k ⟨512 + j.val, by have := j.isLt; omega⟩))) cos sin (y 1) := by
  unfold out0_6 k0_pay16
  refine (congrFun (View.canon_cons_unit_lit _ _ _ (by decide)) y).trans ((congrArg _ (eq_ix3 y)).trans ?_)
  refine Eq.trans ?_ (rope_block x0 x1 x2 x3 x4 cos sin 512 (by decide) inb_S1024x5120_S1024x512_0_512 (y 2) (y 1) hc hs)
  generalize k0_pay13 x0 x1 x2 x3 x4 = v
  generalize k0_pay14 x0 x1 x2 x3 x4 = c
  generalize k0_pay15 x0 x1 x2 x3 x4 = s
  pointwise [k0_pay10]

/-! ## The arrays -/

variable (m : (ℓ : Loc nD τ sig) → Buf (Elt Ideal) ℓ)

/-- Four copies of a table of 32 lanes side by side. -/
def cosTable (T : FVec Ideal S8192x32 .f32) : FVec Ideal S8192x128 .f32 :=
  shapeCast S8192x128 (broadcastInDim S1x8192x4x32 ![0, 1, 2, 3] bcast_S1x8192x1x32_S1x8192x4x32_0_1_2_3
    (shapeCast S1x8192x1x32 T shapeCasts_S8192x32_S1x8192x1x32)) shapeCasts_S1x8192x4x32_S8192x128

/-- The negation of a table of 32 lanes and the table, twice. -/
def sinTable (T : FVec Ideal S8192x32 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, Host.negf T⟩, ⟨S8192x32, T⟩] concatenates_S8192x32_S8192x32_S8192x64_d1)
      shapeCasts_S8192x64_S1x8192x1x64)) shapeCasts_S1x8192x2x64_S8192x128

/-- The table of cosines at an index. -/
theorem cosTable_apply (T : FVec Ideal S8192x32 .f32) (s : Fin 8192) (l : Fin 128) :
    cosTable T (ix2 s l) = T (ix2 s ⟨l.val % 32, Nat.mod_lt _ (by decide)⟩) := by
  pointwise [cosTable]

/-- The table of signed sines at an index. -/
theorem sinTable_apply (T : FVec Ideal S8192x32 .f32) (s : Fin 8192) (l : Fin 128) :
    sinTable T (ix2 s l) = if h : l.val % 64 < 32 then -(T (ix2 s ⟨l.val % 64, h⟩) : EReal) else T (ix2 s ⟨l.val % 64 - 32, by omega⟩) := by
  pointwise [sinTable]

/-- The table of cosines that the region reads. -/
theorem V_cos (c : Dev nD) : V m c main_v2 = cosTable (m ((c : Thread nD τ).loc main_arg3)) := by
  show StableHlo.after hostOps0 (fun b => m (c, b)) (Proc.devRef .tc main_v2) = _
  unfold hostOps0
  after_results_simp
  rfl

/-- The table of signed sines that the region reads. -/
theorem V_sin (c : Dev nD) : V m c main_v7 = sinTable (m ((c : Thread nD τ).loc main_arg4)) := by
  show StableHlo.after hostOps0 (fun b => m (c, b)) (Proc.devRef .tc main_v7) = _
  unfold hostOps0
  after_results_simp
  rfl

/-- Where window 0's block lies at a point. -/
theorem idx0 : ∀ t : Fin grid0.N, win0_0.index t 0 = t.val ∧ win0_0.index t 1 = 0 := by decide +kernel
/-- Where window 1's block lies at a point. -/
theorem idx1 : ∀ t : Fin grid0.N, win0_1.index t 0 = 0 ∧ win0_1.index t 1 = 0 := by decide +kernel
/-- Where window 2's block lies at a point. -/
theorem idx2 : ∀ t : Fin grid0.N, win0_2.index t 0 = 0 ∧ win0_2.index t 1 = 0 := by decide +kernel
/-- Where window 3's block lies at a point. -/
theorem idx3 : ∀ t : Fin grid0.N, win0_3.index t 0 = t.val % 16 ∧ win0_3.index t 1 = 0 := by decide +kernel
/-- Where window 4's block lies at a point. -/
theorem idx4 : ∀ t : Fin grid0.N, win0_4.index t 0 = t.val % 16 ∧ win0_4.index t 1 = 0 := by decide +kernel
/-- Where window 5's block lies at a point. -/
theorem idx5 : ∀ t : Fin grid0.N, win0_5.index t 0 = t.val ∧ win0_5.index t 1 = 0 := by decide +kernel
/-- Where window 7's block lies at a point. -/
theorem idx7 : ∀ t : Fin grid0.N, win0_7.index t 0 = t.val ∧ win0_7.index t 1 = 0 := by decide +kernel
/-- Where window 8's block lies at a point. -/
theorem idx8 : ∀ t : Fin grid0.N, win0_8.index t 0 = t.val ∧ win0_8.index t 1 = 0 := by decide +kernel
/-- Where window 9's block lies at a point. -/
theorem idx9 : ∀ t : Fin grid0.N, win0_9.index t 0 = t.val ∧ win0_9.index t 1 = 0 := by decide +kernel
/-- Where window 10's block lies at a point. -/
theorem idx10 : ∀ t : Fin grid0.N, win0_10.index t 0 = t.val ∧ win0_10.index t 1 = 0 := by decide +kernel
/-- Where window 11's block lies at a point. -/
theorem idx11 : ∀ t : Fin grid0.N, win0_11.index t 0 = t.val ∧ win0_11.index t 1 = 0 := by decide +kernel
/-- Where window 12's block lies at a point. -/
theorem idx12 : ∀ t : Fin grid0.N, win0_12.index t 0 = t.val ∧ win0_12.index t 1 = 0 := by decide +kernel
/-- Where the block of keys lies at a point. -/
theorem idx6 : ∀ t : Fin grid0.N, win0_6.index t 0 = t.val / 16 ∧ win0_6.index t 1 = 0 ∧ win0_6.index t 2 = t.val % 16 := by decide +kernel

/-- A point's block of rows is 512 rows of the input. -/
theorem iblk0 (c : Dev nD) (t : Fin cfg0.N) (r : Fin 512) (k : Fin 1024) :
    (iblk m c 0 t : Vec Ideal S512x1024 .f32) (ix2 r k)
      = m ((c : Thread nD τ).loc main_arg0) (ix2 (n0 := 16384) (n1 := 1024) ⟨t.val * 512 + r.val, by have h : t.val < 32 := t.isLt; have := r.isLt; omega⟩ k) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [hi.1]; omega
  | ⟨1, _⟩ => show win0_0.index t 1 * 1024 + 1 * k.val = k.val; rw [hi.2]; omega

/-- Every point reads the whole scale. -/
theorem iblk1 (c : Dev nD) (t : Fin cfg0.N) (k : Fin 1024) :
    (iblk m c 1 t : Vec Ideal S1x1024 .f32) (ix2 0 k) = m ((c : Thread nD τ).loc main_arg1) (ix2 (n0 := 1) (n1 := 1024) 0 k) := by
  have hi := idx1 t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

/-- Every point reads the whole matrix. -/
theorem iblk2 (c : Dev nD) (t : Fin cfg0.N) (k : Fin 1024) (j : Fin 5120) :
    (iblk m c 2 t : Vec Ideal S1024x5120 .bf16) (ix2 k j) = m ((c : Thread nD τ).loc main_arg2) (ix2 (n0 := 1024) (n1 := 5120) k j) := by
  have hi := idx2 t
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * k.val = k.val; rw [hi.1]; omega
  | ⟨1, _⟩ => show win0_2.index t 1 * 5120 + 1 * j.val = j.val; rw [hi.2]; omega

/-- The position of a row in its sequence. -/
abbrev pos (t : Fin cfg0.N) (r : Fin 512) : Fin 8192 :=
  ⟨t.val % 16 * 512 + r.val, by have := Nat.mod_lt t.val (show 0 < 16 by decide); have := r.isLt; omega⟩

/-- The cosines of position `s`. -/
def cosAt (c : Dev nD) (s : Fin 8192) (i : Fin 32) : EReal := m ((c : Thread nD τ).loc main_arg3) (ix2 (n0 := 8192) (n1 := 32) s i)

/-- The sines of position `s`. -/
def sinAt (c : Dev nD) (s : Fin 8192) (i : Fin 32) : EReal := m ((c : Thread nD τ).loc main_arg4) (ix2 (n0 := 8192) (n1 := 32) s i)

/-- The cosines of a point's rows. -/
theorem iblk3 (c : Dev nD) (t : Fin cfg0.N) (r : Fin 512) (l : Fin 128) :
    (iblk m c 3 t : Vec Ideal S512x128 .f32) (ix2 r l) = cosAt m c (pos t r) ⟨l.val % 32, Nat.mod_lt _ (by decide)⟩ := by
  have hi := idx3 t
  refine Eq.trans ?_ (cosTable_apply (m ((c : Thread nD τ).loc main_arg3)) (pos t r) l)
  unfold iblk
  rw [View.read_apply]
  show V m c main_v2 _ = _
  rw [V_cos]
  congr 1
  funext a
  apply Fin.ext
  match a with
  | ⟨0, _⟩ => show win0_3.index t 0 * 512 + 1 * r.val = t.val % 16 * 512 + r.val; rw [hi.1]; omega
  | ⟨1, _⟩ => show win0_3.index t 1 * 128 + 1 * l.val = l.val; rw [hi.2]; omega

/-- The signed sines of a point's rows. -/
theorem iblk4 (c : Dev nD) (t : Fin cfg0.N) (r : Fin 512) (l : Fin 128) :
    (iblk m c 4 t : Vec Ideal S512x128 .f32) (ix2 r l)
      = if h : l.val % 64 < 32 then -sinAt m c (pos t r) ⟨l.val % 64, h⟩ else sinAt m c (pos t r) ⟨l.val % 64 - 32, by omega⟩ := by
  have hi := idx4 t
  refine Eq.trans ?_ (sinTable_apply (m ((c : Thread nD τ).loc main_arg4)) (pos t r) l)
  unfold iblk
  rw [View.read_apply]
  show V m c main_v7 _ = _
  rw [V_sin]
  congr 1
  funext a
  apply Fin.ext
  match a with
  | ⟨0, _⟩ => show win0_4.index t 0 * 512 + 1 * r.val = t.val % 16 * 512 + r.val; rw [hi.1]; omega
  | ⟨1, _⟩ => show win0_4.index t 1 * 128 + 1 * l.val = l.val; rw [hi.2]; omega

/-- Row `r` of the input, normed, on column `j` of the matrix. -/
def inp (c : Dev nD) (r : Fin 16384) (j : Fin 5120) : EReal :=
  proj (fun k => m ((c : Thread nD τ).loc main_arg0) (ix2 (n0 := 16384) (n1 := 1024) r k))
    (fun k => m ((c : Thread nD τ).loc main_arg1) (ix2 (n0 := 1) (n1 := 1024) 0 k))
    (fun k => m ((c : Thread nD τ).loc main_arg2) (ix2 (n0 := 1024) (n1 := 5120) k j))

/-- A point's projection of a row of its block is the input's. -/
theorem inp_of_blocks (c : Dev nD) (t : Fin cfg0.N) (r : Fin 512) (j : Fin 5120) (q : Fin 16384) (hq : t.val * 512 + r.val = q.val) (p : Fin 5120) (hp : j.val = p.val) :
    proj (fun k => (iblk m c 0 t : Vec Ideal S512x1024 .f32) (ix2 r k)) (fun k => (iblk m c 1 t : Vec Ideal S1x1024 .f32) (ix2 0 k))
      (fun k => (iblk m c 2 t : Vec Ideal S1024x5120 .bf16) (ix2 k j)) = inp m c q p := by
  obtain rfl : j = p := Fin.ext hp
  unfold inp
  congr 1
  · funext k
    refine (iblk0 m c t r k).trans ?_
    exact congrArg (m ((c : Thread nD τ).loc main_arg0)) (congrArg₂ ix2 (Fin.ext hq) rfl)
  · funext k
    exact iblk1 m c t k
  · funext k
    exact iblk2 m c t k j

/-- The array of queries: 512 columns rotated by their position and scaled. -/
def queries (c : Dev nD) : Buf (Elt Ideal) ((c : Thread nD τ).loc main_v8_0) :=
  fun p : S16384x512.Idx => rope (fun j => inp m c (p 0) ⟨0 + j.val, by have := j.isLt; omega⟩)
    (cosAt m c ⟨(p 0).val % 8192, Nat.mod_lt _ (by decide)⟩) (sinAt m c ⟨(p 0).val % 8192, Nat.mod_lt _ (by decide)⟩) (p 1) * qScale

/-- The array of keys: the next 512 columns rotated by their position, transposed within a sequence. -/
def keys (c : Dev nD) : Buf (Elt Ideal) ((c : Thread nD τ).loc main_v8_1) :=
  fun p : S2x512x8192.Idx => rope (fun j => inp m c ⟨(p 0).val * 8192 + (p 2).val, by have h0 : (p 0).val < 2 := (p 0).isLt; have h2 : (p 2).val < 8192 := (p 2).isLt; omega⟩
    ⟨512 + j.val, by have := j.isLt; omega⟩) (cosAt m c (p 2)) (sinAt m c (p 2)) (p 1)

/-- The third array: 512 columns from column 1024 on. -/
def part7 (c : Dev nD) : Buf (Elt Ideal) ((c : Thread nD τ).loc main_v8_2) :=
  fun p : S16384x512.Idx => inp m c (p 0) ⟨1024 + (p 1).val, by have h : (p 1).val < 512 := (p 1).isLt; omega⟩

/-- Every point writes its block of the third array. -/
theorem flushed_7 (c : Dev nD) (t : Fin cfg0.N) (hf : (cfg0.win 7).flush t = true) :
    (dats m 0 c).flushed 7 t = ((cfg0.win 7).blk t).view.read (Elt Ideal) (part7 m c) := by
  rw [Value.flushed7]
  funext j
  rw [View.read_apply]
  have hi := idx7 t
  refine (out7_apply _ _ _ _ _ j).trans (inp_of_blocks m c t (j 0) _ _ ?_ _ ?_)
  · show t.val * 512 + (j 0).val = win0_7.index t 0 * 512 + 1 * (j 0).val
    rw [hi.1]; omega
  · show 1024 + (j 1).val = 1024 + (win0_7.index t 1 * 512 + 1 * (j 1).val)
    rw [hi.2]; omega

/-- The fourth array: 512 columns from column 1536 on. -/
def part8 (c : Dev nD) : Buf (Elt Ideal) ((c : Thread nD τ).loc main_v8_3) :=
  fun p : S16384x512.Idx => inp m c (p 0) ⟨1536 + (p 1).val, by have h : (p 1).val < 512 := (p 1).isLt; omega⟩

/-- Every point writes its block of the fourth array. -/
theorem flushed_8 (c : Dev nD) (t : Fin cfg0.N) (hf : (cfg0.win 8).flush t = true) :
    (dats m 0 c).flushed 8 t = ((cfg0.win 8).blk t).view.read (Elt Ideal) (part8 m c) := by
  rw [Value.flushed8]
  funext j
  rw [View.read_apply]
  have hi := idx8 t
  refine (out8_apply _ _ _ _ _ j).trans (inp_of_blocks m c t (j 0) _ _ ?_ _ ?_)
  · show t.val * 512 + (j 0).val = win0_8.index t 0 * 512 + 1 * (j 0).val
    rw [hi.1]; omega
  · show 1536 + (j 1).val = 1536 + (win0_8.index t 1 * 512 + 1 * (j 1).val)
    rw [hi.2]; omega

/-- The fifth array: 1536 columns from column 2048 on. -/
def part9 (c : Dev nD) : Buf (Elt Ideal) ((c : Thread nD τ).loc main_v8_4) :=
  fun p : S16384x1536.Idx => inp m c (p 0) ⟨2048 + (p 1).val, by have h : (p 1).val < 1536 := (p 1).isLt; omega⟩

/-- Every point writes its block of the fifth array. -/
theorem flushed_9 (c : Dev nD) (t : Fin cfg0.N) (hf : (cfg0.win 9).flush t = true) :
    (dats m 0 c).flushed 9 t = ((cfg0.win 9).blk t).view.read (Elt Ideal) (part9 m c) := by
  rw [Value.flushed9]
  funext j
  rw [View.read_apply]
  have hi := idx9 t
  refine (out9_apply _ _ _ _ _ j).trans (inp_of_blocks m c t (j 0) _ _ ?_ _ ?_)
  · show t.val * 512 + (j 0).val = win0_9.index t 0 * 512 + 1 * (j 0).val
    rw [hi.1]; omega
  · show 2048 + (j 1).val = 2048 + (win0_9.index t 1 * 1536 + 1 * (j 1).val)
    rw [hi.2]; omega

/-- The sixth array: 512 columns from column 3584 on. -/
def part10 (c : Dev nD) : Buf (Elt Ideal) ((c : Thread nD τ).loc main_v8_5) :=
  fun p : S16384x512.Idx => inp m c (p 0) ⟨3584 + (p 1).val, by have h : (p 1).val < 512 := (p 1).isLt; omega⟩

/-- Every point writes its block of the sixth array. -/
theorem flushed_10 (c : Dev nD) (t : Fin cfg0.N) (hf : (cfg0.win 10).flush t = true) :
    (dats m 0 c).flushed 10 t = ((cfg0.win 10).blk t).view.read (Elt Ideal) (part10 m c) := by
  rw [Value.flushed10]
  funext j
  rw [View.read_apply]
  have hi := idx10 t
  refine (out10_apply _ _ _ _ _ j).trans (inp_of_blocks m c t (j 0) _ _ ?_ _ ?_)
  · show t.val * 512 + (j 0).val = win0_10.index t 0 * 512 + 1 * (j 0).val
    rw [hi.1]; omega
  · show 3584 + (j 1).val = 3584 + (win0_10.index t 1 * 512 + 1 * (j 1).val)
    rw [hi.2]; omega

/-- The seventh array: 512 columns from column 4096 on. -/
def part11 (c : Dev nD) : Buf (Elt Ideal) ((c : Thread nD τ).loc main_v8_6) :=
  fun p : S16384x512.Idx => inp m c (p 0) ⟨4096 + (p 1).val, by have h : (p 1).val < 512 := (p 1).isLt; omega⟩

/-- Every point writes its block of the seventh array. -/
theorem flushed_11 (c : Dev nD) (t : Fin cfg0.N) (hf : (cfg0.win 11).flush t = true) :
    (dats m 0 c).flushed 11 t = ((cfg0.win 11).blk t).view.read (Elt Ideal) (part11 m c) := by
  rw [Value.flushed11]
  funext j
  rw [View.read_apply]
  have hi := idx11 t
  refine (out11_apply _ _ _ _ _ j).trans (inp_of_blocks m c t (j 0) _ _ ?_ _ ?_)
  · show t.val * 512 + (j 0).val = win0_11.index t 0 * 512 + 1 * (j 0).val
    rw [hi.1]; omega
  · show 4096 + (j 1).val = 4096 + (win0_11.index t 1 * 512 + 1 * (j 1).val)
    rw [hi.2]; omega

/-- The eighth array: 512 columns from column 4608 on. -/
def part12 (c : Dev nD) : Buf (Elt Ideal) ((c : Thread nD τ).loc main_v8_7) :=
  fun p : S16384x512.Idx => inp m c (p 0) ⟨4608 + (p 1).val, by have h : (p 1).val < 512 := (p 1).isLt; omega⟩

/-- Every point writes its block of the eighth array. -/
theorem flushed_12 (c : Dev nD) (t : Fin cfg0.N) (hf : (cfg0.win 12).flush t = true) :
    (dats m 0 c).flushed 12 t = ((cfg0.win 12).blk t).view.read (Elt Ideal) (part12 m c) := by
  rw [Value.flushed12]
  funext j
  rw [View.read_apply]
  have hi := idx12 t
  refine (out12_apply _ _ _ _ _ j).trans (inp_of_blocks m c t (j 0) _ _ ?_ _ ?_)
  · show t.val * 512 + (j 0).val = win0_12.index t 0 * 512 + 1 * (j 0).val
    rw [hi.1]; omega
  · show 4608 + (j 1).val = 4608 + (win0_12.index t 1 * 512 + 1 * (j 1).val)
    rw [hi.2]; omega

/-- A rotation depends on the row, the cosines and sines and the lane only. -/
theorem rope_congr {u u' : Fin 512 → EReal} {c c' s s' : Fin 32 → EReal} {j j' : Fin 512} (hu : ∀ j, u j = u' j) (hc : c = c') (hs : s = s') (hj : j = j') :
    rope u c s j = rope u' c' s' j' := by
  rw [funext hu, hc, hs, hj]

/-- A point's block of queries lies in the array of queries. -/
theorem queries_block (c : Dev nD) (t : Fin cfg0.N) (y : S512x512.Idx) (p : S16384x512.Idx) (h0 : t.val * 512 + (y 0).val = (p 0).val) (h1 : (y 1).val = (p 1).val) :
    out0_5 (iblk m c 0 t) (iblk m c 1 t) (iblk m c 2 t) (iblk m c 3 t) (iblk m c 4 t) y = queries m c p := by
  have hy : (y 0).val < 512 := (y 0).isLt
  have hp : pos t (y 0) = ⟨(p 0).val % 8192, Nat.mod_lt _ (by decide)⟩ := Fin.ext (by show t.val % 16 * 512 + (y 0).val = (p 0).val % 8192; omega)
  refine (out5_apply _ _ _ _ _ (cosAt m c (pos t (y 0))) (sinAt m c (pos t (y 0))) y (iblk3 m c t (y 0)) (iblk4 m c t (y 0))).trans ?_
  unfold queries
  exact congrArg (· * qScale) (rope_congr (fun u => inp_of_blocks m c t (y 0) _ _ h0 _ rfl) (congrArg (cosAt m c) hp) (congrArg (sinAt m c) hp) (Fin.ext h1))

/-- A point's block of keys lies in the array of keys. -/
theorem keys_block (c : Dev nD) (t : Fin cfg0.N) (y : S1x512x512.Idx) (p : S2x512x8192.Idx) (h0 : t.val / 16 = (p 0).val) (h1 : (y 1).val = (p 1).val)
    (h2 : t.val % 16 * 512 + (y 2).val = (p 2).val) :
    out0_6 (iblk m c 0 t) (iblk m c 1 t) (iblk m c 2 t) (iblk m c 3 t) (iblk m c 4 t) y = keys m c p := by
  have hy : (y 2).val < 512 := (y 2).isLt
  have hp : pos t (y 2) = p 2 := Fin.ext h2
  refine (out6_apply _ _ _ _ _ (cosAt m c (pos t (y 2))) (sinAt m c (pos t (y 2))) y (iblk3 m c t (y 2)) (iblk4 m c t (y 2))).trans ?_
  unfold keys
  refine rope_congr (fun u => inp_of_blocks m c t (y 2) _ _ ?_ _ rfl) (congrArg (cosAt m c) hp) (congrArg (sinAt m c) hp) (Fin.ext h1)
  show t.val * 512 + (y 2).val = (p 0).val * 8192 + (p 2).val
  omega

/-- Every point writes its block of queries. -/
theorem flushed_5 (c : Dev nD) (t : Fin cfg0.N) (hf : (cfg0.win 5).flush t = true) :
    (dats m 0 c).flushed 5 t = ((cfg0.win 5).blk t).view.read (Elt Ideal) (queries m c) := by
  rw [Value.flushed5]
  funext j
  rw [View.read_apply]
  have hi := idx5 t
  refine queries_block m c t j _ ?_ ?_
  · show t.val * 512 + (j 0).val = win0_5.index t 0 * 512 + 1 * (j 0).val
    rw [hi.1]; omega
  · show (j 1).val = win0_5.index t 1 * 512 + 1 * (j 1).val
    rw [hi.2]; omega

/-- Every point writes its block of keys. -/
theorem flushed_6 (c : Dev nD) (t : Fin cfg0.N) (hf : (cfg0.win 6).flush t = true) :
    (dats m 0 c).flushed 6 t = ((cfg0.win 6).blk t).view.read (Elt Ideal) (keys m c) := by
  rw [Value.flushed6]
  funext j
  rw [View.read_apply]
  have hi := idx6 t
  have h0 : (j 0).val < 1 := (j 0).isLt
  refine keys_block m c t j _ ?_ ?_ ?_
  · show t.val / 16 = win0_6.index t 0 * 1 + 1 * (j 0).val
    rw [hi.1]; omega
  · show (j 1).val = win0_6.index t 1 * 512 + 1 * (j 1).val
    rw [hi.2.1]; omega
  · show t.val % 16 * 512 + (j 2).val = win0_6.index t 2 * 512 + 1 * (j 2).val
    rw [hi.2.2]; omega

/-- The point whose block holds a row. -/
abbrev pointOf (r : Fin 16384) : Fin cfg0.N := ⟨r.val / 512, by have := r.isLt; show r.val / 512 < 32; omega⟩

/-- The array of queries after the run. -/
theorem final_5 (c : Dev nD) : (dats m 0 c).arrAt 5 cfg0.N = queries m c :=
  (dats m 0 c).arrAt_eq_of_cover 5 (queries m c) (flushed_5 m c) fun i =>
    ⟨pointOf (i 0), flush0_5 _, by
      show i ∈ ((View.whole main_v8_0).slice (win0_5.rect (pointOf (i 0)))).set
      rw [View.set_slice_whole, Rect.mem_set_unit]
      intro a
      have hi := idx5 (pointOf (i 0))
      have h1 : (i 1 : Nat) < 512 := (i 1).isLt
      match a with
      | ⟨0, _⟩ =>
        show win0_5.index _ 0 * 512 ≤ (i 0 : Nat) ∧ (i 0 : Nat) < win0_5.index _ 0 * 512 + 512
        rw [hi.1]; dsimp only; omega
      | ⟨1, _⟩ =>
        show win0_5.index _ 1 * 512 ≤ (i 1 : Nat) ∧ (i 1 : Nat) < win0_5.index _ 1 * 512 + 512
        rw [hi.2]; omega⟩

/-- The third array after the run. -/
theorem final_7 (c : Dev nD) : (dats m 0 c).arrAt 7 cfg0.N = part7 m c :=
  (dats m 0 c).arrAt_eq_of_cover 7 (part7 m c) (flushed_7 m c) fun i =>
    ⟨pointOf (i 0), flush0_7 _, by
      show i ∈ ((View.whole main_v8_2).slice (win0_7.rect (pointOf (i 0)))).set
      rw [View.set_slice_whole, Rect.mem_set_unit]
      intro a
      have hi := idx7 (pointOf (i 0))
      have h1 : (i 1 : Nat) < 512 := (i 1).isLt
      match a with
      | ⟨0, _⟩ =>
        show win0_7.index _ 0 * 512 ≤ (i 0 : Nat) ∧ (i 0 : Nat) < win0_7.index _ 0 * 512 + 512
        rw [hi.1]; dsimp only; omega
      | ⟨1, _⟩ =>
        show win0_7.index _ 1 * 512 ≤ (i 1 : Nat) ∧ (i 1 : Nat) < win0_7.index _ 1 * 512 + 512
        rw [hi.2]; omega⟩

/-- The fourth array after the run. -/
theorem final_8 (c : Dev nD) : (dats m 0 c).arrAt 8 cfg0.N = part8 m c :=
  (dats m 0 c).arrAt_eq_of_cover 8 (part8 m c) (flushed_8 m c) fun i =>
    ⟨pointOf (i 0), flush0_8 _, by
      show i ∈ ((View.whole main_v8_3).slice (win0_8.rect (pointOf (i 0)))).set
      rw [View.set_slice_whole, Rect.mem_set_unit]
      intro a
      have hi := idx8 (pointOf (i 0))
      have h1 : (i 1 : Nat) < 512 := (i 1).isLt
      match a with
      | ⟨0, _⟩ =>
        show win0_8.index _ 0 * 512 ≤ (i 0 : Nat) ∧ (i 0 : Nat) < win0_8.index _ 0 * 512 + 512
        rw [hi.1]; dsimp only; omega
      | ⟨1, _⟩ =>
        show win0_8.index _ 1 * 512 ≤ (i 1 : Nat) ∧ (i 1 : Nat) < win0_8.index _ 1 * 512 + 512
        rw [hi.2]; omega⟩

/-- The fifth array after the run. -/
theorem final_9 (c : Dev nD) : (dats m 0 c).arrAt 9 cfg0.N = part9 m c :=
  (dats m 0 c).arrAt_eq_of_cover 9 (part9 m c) (flushed_9 m c) fun i =>
    ⟨pointOf (i 0), flush0_9 _, by
      show i ∈ ((View.whole main_v8_4).slice (win0_9.rect (pointOf (i 0)))).set
      rw [View.set_slice_whole, Rect.mem_set_unit]
      intro a
      have hi := idx9 (pointOf (i 0))
      have h1 : (i 1 : Nat) < 1536 := (i 1).isLt
      match a with
      | ⟨0, _⟩ =>
        show win0_9.index _ 0 * 512 ≤ (i 0 : Nat) ∧ (i 0 : Nat) < win0_9.index _ 0 * 512 + 512
        rw [hi.1]; dsimp only; omega
      | ⟨1, _⟩ =>
        show win0_9.index _ 1 * 1536 ≤ (i 1 : Nat) ∧ (i 1 : Nat) < win0_9.index _ 1 * 1536 + 1536
        rw [hi.2]; omega⟩

/-- The sixth array after the run. -/
theorem final_10 (c : Dev nD) : (dats m 0 c).arrAt 10 cfg0.N = part10 m c :=
  (dats m 0 c).arrAt_eq_of_cover 10 (part10 m c) (flushed_10 m c) fun i =>
    ⟨pointOf (i 0), flush0_10 _, by
      show i ∈ ((View.whole main_v8_5).slice (win0_10.rect (pointOf (i 0)))).set
      rw [View.set_slice_whole, Rect.mem_set_unit]
      intro a
      have hi := idx10 (pointOf (i 0))
      have h1 : (i 1 : Nat) < 512 := (i 1).isLt
      match a with
      | ⟨0, _⟩ =>
        show win0_10.index _ 0 * 512 ≤ (i 0 : Nat) ∧ (i 0 : Nat) < win0_10.index _ 0 * 512 + 512
        rw [hi.1]; dsimp only; omega
      | ⟨1, _⟩ =>
        show win0_10.index _ 1 * 512 ≤ (i 1 : Nat) ∧ (i 1 : Nat) < win0_10.index _ 1 * 512 + 512
        rw [hi.2]; omega⟩

/-- The seventh array after the run. -/
theorem final_11 (c : Dev nD) : (dats m 0 c).arrAt 11 cfg0.N = part11 m c :=
  (dats m 0 c).arrAt_eq_of_cover 11 (part11 m c) (flushed_11 m c) fun i =>
    ⟨pointOf (i 0), flush0_11 _, by
      show i ∈ ((View.whole main_v8_6).slice (win0_11.rect (pointOf (i 0)))).set
      rw [View.set_slice_whole, Rect.mem_set_unit]
      intro a
      have hi := idx11 (pointOf (i 0))
      have h1 : (i 1 : Nat) < 512 := (i 1).isLt
      match a with
      | ⟨0, _⟩ =>
        show win0_11.index _ 0 * 512 ≤ (i 0 : Nat) ∧ (i 0 : Nat) < win0_11.index _ 0 * 512 + 512
        rw [hi.1]; dsimp only; omega
      | ⟨1, _⟩ =>
        show win0_11.index _ 1 * 512 ≤ (i 1 : Nat) ∧ (i 1 : Nat) < win0_11.index _ 1 * 512 + 512
        rw [hi.2]; omega⟩

/-- The eighth array after the run. -/
theorem final_12 (c : Dev nD) : (dats m 0 c).arrAt 12 cfg0.N = part12 m c :=
  (dats m 0 c).arrAt_eq_of_cover 12 (part12 m c) (flushed_12 m c) fun i =>
    ⟨pointOf (i 0), flush0_12 _, by
      show i ∈ ((View.whole main_v8_7).slice (win0_12.rect (pointOf (i 0)))).set
      rw [View.set_slice_whole, Rect.mem_set_unit]
      intro a
      have hi := idx12 (pointOf (i 0))
      have h1 : (i 1 : Nat) < 512 := (i 1).isLt
      match a with
      | ⟨0, _⟩ =>
        show win0_12.index _ 0 * 512 ≤ (i 0 : Nat) ∧ (i 0 : Nat) < win0_12.index _ 0 * 512 + 512
        rw [hi.1]; dsimp only; omega
      | ⟨1, _⟩ =>
        show win0_12.index _ 1 * 512 ≤ (i 1 : Nat) ∧ (i 1 : Nat) < win0_12.index _ 1 * 512 + 512
        rw [hi.2]; omega⟩

/-- The point whose block holds a position of a sequence. -/
abbrev pointAt (b : Fin 2) (s : Fin 8192) : Fin cfg0.N := ⟨b.val * 16 + s.val / 512, by have := b.isLt; have := s.isLt; show b.val * 16 + s.val / 512 < 32; omega⟩

/-- The array of keys after the run. -/
theorem final_6 (c : Dev nD) : (dats m 0 c).arrAt 6 cfg0.N = keys m c :=
  (dats m 0 c).arrAt_eq_of_cover 6 (keys m c) (flushed_6 m c) fun i =>
    ⟨pointAt (i 0) (i 2), flush0_6 _, by
      show i ∈ ((View.whole main_v8_1).slice (win0_6.rect (pointAt (i 0) (i 2)))).set
      rw [View.set_slice_whole, Rect.mem_set_unit]
      intro a
      have hi := idx6 (pointAt (i 0) (i 2))
      have h0 : (i 0 : Nat) < 2 := (i 0).isLt
      have h1 : (i 1 : Nat) < 512 := (i 1).isLt
      have h2 : (i 2 : Nat) < 8192 := (i 2).isLt
      match a with
      | ⟨0, _⟩ =>
        show win0_6.index _ 0 * 1 ≤ (i 0 : Nat) ∧ (i 0 : Nat) < win0_6.index _ 0 * 1 + 1
        rw [hi.1]; dsimp only; omega
      | ⟨1, _⟩ =>
        show win0_6.index _ 1 * 512 ≤ (i 1 : Nat) ∧ (i 1 : Nat) < win0_6.index _ 1 * 512 + 512
        rw [hi.2.1]; omega
      | ⟨2, _⟩ =>
        show win0_6.index _ 2 * 512 ≤ (i 2 : Nat) ∧ (i 2 : Nat) < win0_6.index _ 2 * 512 + 512
        rw [hi.2.2]; dsimp only; omega⟩

end Cert.InputIdeal.Inp

end
-- ==== Proof.InputRefVal.lean ====
/- The reference's input projection, element by element. -/
module

public import proofs.«01_k».proof.Proof.Gen.InputRefIdeal.Read
public import proofs.«01_k».proof.Proof.Norm
public import proofs.«01_k».proof.Proof.Rope
public import Idealize.ShloMosaic.Lib.Pipeline.Value
public import Idealize.ShloMosaic.Lib.Pointwise

@[expose] public section

set_option maxRecDepth 16384

noncomputable section

namespace Cert.InputRefIdeal.Inp

open Cert.InputRefIdeal Cert.InputRefIdeal.Gen Cert.InputRefIdeal.Read Idealize.ShloMosaic Idealize.ShloMosaic.TcCoe
open Cert.Layer
open scoped BigOperators

/-- An array of rows. -/
abbrev XArr : Type := BufTy.Contents (Elt Ideal) (⟨S16384x1024, .f32⟩ : BufTy)
/-- A scale. -/
abbrev GArr : Type := BufTy.Contents (Elt Ideal) (⟨S1x1024, .f32⟩ : BufTy)
/-- The weights. -/
abbrev WArr : Type := BufTy.Contents (Elt Ideal) (⟨S1024x5120, .bf16⟩ : BufTy)
/-- A table of cosines or sines. -/
abbrev TArr : Type := BufTy.Contents (Elt Ideal) (⟨S8192x32, .f32⟩ : BufTy)

/-- The factor of a row. -/
theorem inv_apply (X : XArr) (r : Fin 16384) :
    val_main_v9 (F := Ideal) X (ix2 r 0) = invRms (fun k => X (ix2 r k)) := by
  rw [val_main_v9_apply, val_main_v8_apply, val_main_v6_apply, val_main_v4_apply, val_main_v3_apply, val_main_v5_apply, val_main_v7_apply,
    val_main_cst_0_apply, val_main_cst_1_apply, val_main_cst_apply]
  show Ideal.rsqrt (Ideal.div (Ideal.ofBits FTy.f32 0x00000000#32 + ∑ k : Fin 1024, val_main_v2 (F := Ideal) X _) (Ideal.ofBits FTy.f32 0x44800000#32) + Ideal.ofBits FTy.f32 0x358637BD#32) = _
  rw [Ideal.ofBits_zero_f32, zero_add]
  unfold invRms
  have e : ∀ k : Fin 1024, idx_main_v3 (idx_main_v4 (ix2 r 0)) k = ix2 r k := fun k => funext fun a => by
    match a with
    | ⟨0, _⟩ => rfl
    | ⟨1, _⟩ => rfl
  simp only [e]
  rfl

/-- A row of the input projected on a column. -/
theorem inp_apply (X : XArr) (G : GArr) (W : WArr) (r : Fin 16384) (j : Fin 5120) :
    val_main_v15 (F := Ideal) X G W (ix2 r j) = proj (fun k => X (ix2 r k)) (fun k => G (ix2 0 k)) (fun k => W (ix2 k j)) := by
  rw [val_main_v15_apply]
  unfold proj normed
  refine Finset.sum_congr rfl fun k _ => ?_
  have e1 : lidx_main_v15 (ix2 r j) k = ix2 r k := funext fun a => by
    match a with
    | ⟨0, _⟩ => rfl
    | ⟨1, _⟩ => rfl
  have e2 : ridx_main_v15 (ix2 r j) k = ix2 k j := funext fun a => by
    match a with
    | ⟨0, _⟩ => rfl
    | ⟨1, _⟩ => rfl
  have e3 : idx_main_v10 (ix2 r k) = ix2 r 0 := funext fun a => by
    match a with
    | ⟨0, _⟩ => rfl
    | ⟨1, _⟩ => rfl
  have e4 : idx_main_v12 (ix2 r k) = ix2 0 k := funext fun a => by
    match a with
    | ⟨0, _⟩ => rfl
    | ⟨1, _⟩ => rfl
  rw [e1, e2, val_main_v13_apply, val_main_v11_apply, val_main_v10_apply, val_main_v12_apply, val_main_v14_apply, e3, e4, inv_apply]
  rfl

/-- Row `r` of the input, normed, on column `j` of the matrix. -/
def inp (X : XArr) (G : GArr) (W : WArr) (r : Fin 16384) (j : Fin 5120) : EReal :=
  proj (fun k => X (ix2 r k)) (fun k => G (ix2 0 k)) (fun k => W (ix2 k j))

/-- The third result at an index. -/
theorem res70_apply (X : XArr) (G : GArr) (W : WArr) (p : S16384x512.Idx) :
    val_main_v70 (F := Ideal) X G W p = inp X G W (p 0) ⟨1024 + (p 1).val, by have h : (p 1).val < 512 := (p 1).isLt; omega⟩ := by
  rw [val_main_v70_apply, val_main_v18_apply]
  refine Eq.trans ?_ (inp_apply X G W (p 0) _)
  show val_main_v15 (F := Ideal) X G W _ = _
  refine congrArg _ (funext fun a => ?_)
  match a with
  | ⟨0, _⟩ => rfl
  | ⟨1, _⟩ => rfl

/-- The fourth result at an index. -/
theorem res71_apply (X : XArr) (G : GArr) (W : WArr) (p : S16384x512.Idx) :
    val_main_v71 (F := Ideal) X G W p = inp X G W (p 0) ⟨1536 + (p 1).val, by have h : (p 1).val < 512 := (p 1).isLt; omega⟩ := by
  rw [val_main_v71_apply, val_main_v19_apply]
  refine Eq.trans ?_ (inp_apply X G W (p 0) _)
  show val_main_v15 (F := Ideal) X G W _ = _
  refine congrArg _ (funext fun a => ?_)
  match a with
  | ⟨0, _⟩ => rfl
  | ⟨1, _⟩ => rfl

/-- The fifth result at an index. -/
theorem res72_apply (X : XArr) (G : GArr) (W : WArr) (p : S16384x1536.Idx) :
    val_main_v72 (F := Ideal) X G W p = inp X G W (p 0) ⟨2048 + (p 1).val, by have h : (p 1).val < 1536 := (p 1).isLt; omega⟩ := by
  rw [val_main_v72_apply, val_main_v20_apply]
  refine Eq.trans ?_ (inp_apply X G W (p 0) _)
  show val_main_v15 (F := Ideal) X G W _ = _
  refine congrArg _ (funext fun a => ?_)
  match a with
  | ⟨0, _⟩ => rfl
  | ⟨1, _⟩ => rfl

/-- The sixth result at an index. -/
theorem res73_apply (X : XArr) (G : GArr) (W : WArr) (p : S16384x512.Idx) :
    val_main_v73 (F := Ideal) X G W p = inp X G W (p 0) ⟨3584 + (p 1).val, by have h : (p 1).val < 512 := (p 1).isLt; omega⟩ := by
  rw [val_main_v73_apply, val_main_v21_apply]
  refine Eq.trans ?_ (inp_apply X G W (p 0) _)
  show val_main_v15 (F := Ideal) X G W _ = _
  refine congrArg _ (funext fun a => ?_)
  match a with
  | ⟨0, _⟩ => rfl
  | ⟨1, _⟩ => rfl

/-- The seventh result at an index. -/
theorem res74_apply (X : XArr) (G : GArr) (W : WArr) (p : S16384x512.Idx) :
    val_main_v74 (F := Ideal) X G W p = inp X G W (p 0) ⟨4096 + (p 1).val, by have h : (p 1).val < 512 := (p 1).isLt; omega⟩ := by
  rw [val_main_v74_apply, val_main_v22_apply]
  refine Eq.trans ?_ (inp_apply X G W (p 0) _)
  show val_main_v15 (F := Ideal) X G W _ = _
  refine congrArg _ (funext fun a => ?_)
  match a with
  | ⟨0, _⟩ => rfl
  | ⟨1, _⟩ => rfl

/-- The eighth result at an index. -/
theorem res75_apply (X : XArr) (G : GArr) (W : WArr) (p : S16384x512.Idx) :
    val_main_v75 (F := Ideal) X G W p = inp X G W (p 0) ⟨4608 + (p 1).val, by have h : (p 1).val < 512 := (p 1).isLt; omega⟩ := by
  rw [val_main_v75_apply, val_main_v23_apply]
  refine Eq.trans ?_ (inp_apply X G W (p 0) _)
  show val_main_v15 (F := Ideal) X G W _ = _
  refine congrArg _ (funext fun a => ?_)
  match a with
  | ⟨0, _⟩ => rfl
  | ⟨1, _⟩ => rfl

/-- A lane of a head of the queries before the rotation. -/
theorem queries_lane (X : XArr) (G : GArr) (W : WArr) (i : S2x8192x4x2x64.Idx) (r : Fin 16384) (j : Fin 5120) (hr : r.val = (i 0).val * 8192 + (i 1).val)
    (hj : j.val = 0 + (((i 2).val * 2 + (i 3).val) * 64 + (i 4).val)) : val_main_v24 (F := Ideal) X G W i = inp X G W r j := by
  rw [val_main_v24_apply, val_main_v16_apply]
  refine Eq.trans ?_ (inp_apply X G W r j)
  have h0 : (i 0).val < 2 := (i 0).isLt
  have h1 : (i 1).val < 8192 := (i 1).isLt
  have h2 : (i 2).val < 4 := (i 2).isLt
  have h3 : (i 3).val < 2 := (i 3).isLt
  have h4 : (i 4).val < 64 := (i 4).isLt
  refine congrArg _ (funext fun a => ?_)
  match a with
  | ⟨0, _⟩ =>
    refine Fin.ext ?_
    show (((((i 0).val * 8192 + (i 1).val) * 4 + (i 2).val) * 2 + (i 3).val) * 64 + (i 4).val) / 512 = r.val
    omega
  | ⟨1, _⟩ =>
    refine Fin.ext ?_
    show (((((i 0).val * 8192 + (i 1).val) * 4 + (i 2).val) * 2 + (i 3).val) * 64 + (i 4).val) % 512 = j.val
    omega

/-- A lane of a head of the queries after the rotation. -/
theorem queries_rotated (X : XArr) (G : GArr) (W : WArr) (C S : TArr) (i : S2x8192x4x2x64.Idx) (r : Fin 16384) (j : Fin 512) (hr : r.val = (i 0).val * 8192 + (i 1).val)
    (hj : j.val = ((i 2).val * 2 + (i 3).val) * 64 + (i 4).val) :
    val_main_v41 (F := Ideal) X G W C S i = rope (fun j => inp X G W r ⟨0 + j.val, by have := j.isLt; omega⟩)
      (fun k => C (ix2 (i 1) k)) (fun k => S (ix2 (i 1) k)) j := by
  have h0 : (i 0).val < 2 := (i 0).isLt
  have h1 : (i 1).val < 8192 := (i 1).isLt
  have h2 : (i 2).val < 4 := (i 2).isLt
  have h3 : (i 3).val < 2 := (i 3).isLt
  have h4 : (i 4).val < 64 := (i 4).isLt
  unfold rope
  by_cases h : (i 4).val < 32
  · have hj' : j.val % 64 < 32 := by omega
    rw [dif_pos hj']
    unfold val_main_v41
    refine (concatenate_pair_apply_left (s₁ := S2x8192x4x2x32) (s₂ := S2x8192x4x2x32) 4 _ _ _ i rfl (ix5 (i 0) (i 1) (i 2) (i 3) ⟨(i 4).val, h⟩) fun a => ?_).trans ?_
    · match a with
      | ⟨0, _⟩ => rfl
      | ⟨1, _⟩ => rfl
      | ⟨2, _⟩ => rfl
      | ⟨3, _⟩ => rfl
      | ⟨4, _⟩ => rfl
    · rw [val_main_v33_apply, val_main_v29_apply, val_main_v32_apply, val_main_v25_apply, val_main_v26_apply, val_main_v28_apply, val_main_v27_apply, val_main_v31_apply, val_main_v30_apply,
        val_main_v0_apply, val_main_v1_apply]
      refine congrArg₂ (fun a b : EReal => a - b) (congrArg₂ (fun a b : EReal => a * b) (queries_lane X G W _ r _ hr ?_) (congrArg C ?_))
        (congrArg₂ (fun a b : EReal => a * b) (queries_lane X G W _ r _ hr ?_) (congrArg S ?_))
      · show 0 + j.val = 0 + (((i 2).val * 2 + (i 3).val) * 64 + (i 4).val)
        omega
      · funext a
        match a with
        | ⟨0, _⟩ => rfl
        | ⟨1, _⟩ => exact Fin.ext (by show (i 4).val = j.val % 64; omega)
      · show 0 + (j.val + 32) = 0 + (((i 2).val * 2 + (i 3).val) * 64 + (32 + (i 4).val))
        omega
      · funext a
        match a with
        | ⟨0, _⟩ => rfl
        | ⟨1, _⟩ => exact Fin.ext (by show (i 4).val = j.val % 64; omega)
  · have hj' : ¬j.val % 64 < 32 := by omega
    rw [dif_neg hj']
    unfold val_main_v41
    refine (concatenate_pair_apply_right (s₁ := S2x8192x4x2x32) (s₂ := S2x8192x4x2x32) 4 _ _ _ i rfl rfl (ix5 (i 0) (i 1) (i 2) (i 3) ⟨(i 4).val - 32, by omega⟩) (fun a ha => ?_) ?_).trans ?_
    · match a with
      | ⟨0, _⟩ => rfl
      | ⟨1, _⟩ => rfl
      | ⟨2, _⟩ => rfl
      | ⟨3, _⟩ => rfl
      | ⟨4, _⟩ => exact absurd rfl ha
    · show (i 4).val - 32 + 32 = (i 4).val
      omega
    · rw [val_main_v40_apply, val_main_v36_apply, val_main_v39_apply, val_main_v25_apply, val_main_v26_apply, val_main_v35_apply, val_main_v34_apply, val_main_v38_apply, val_main_v37_apply,
        val_main_v0_apply, val_main_v1_apply]
      refine congrArg₂ (fun a b : EReal => a + b) (congrArg₂ (fun a b : EReal => a * b) (queries_lane X G W _ r _ hr ?_) (congrArg C ?_))
        (congrArg₂ (fun a b : EReal => a * b) (queries_lane X G W _ r _ hr ?_) (congrArg S ?_))
      · show 0 + j.val = 0 + (((i 2).val * 2 + (i 3).val) * 64 + (32 + ((i 4).val - 32)))
        omega
      · funext a
        match a with
        | ⟨0, _⟩ => rfl
        | ⟨1, _⟩ => exact Fin.ext (by show (i 4).val - 32 = j.val % 64 - 32; omega)
      · show 0 + (j.val - 32) = 0 + (((i 2).val * 2 + (i 3).val) * 64 + ((i 4).val - 32))
        omega
      · funext a
        match a with
        | ⟨0, _⟩ => rfl
        | ⟨1, _⟩ => exact Fin.ext (by show (i 4).val - 32 = j.val % 64 - 32; omega)

/-- A lane of a head of the keys before the rotation. -/
theorem keys_lane (X : XArr) (G : GArr) (W : WArr) (i : S2x8192x4x2x64.Idx) (r : Fin 16384) (j : Fin 5120) (hr : r.val = (i 0).val * 8192 + (i 1).val)
    (hj : j.val = 512 + (((i 2).val * 2 + (i 3).val) * 64 + (i 4).val)) : val_main_v42 (F := Ideal) X G W i = inp X G W r j := by
  rw [val_main_v42_apply, val_main_v17_apply]
  refine Eq.trans ?_ (inp_apply X G W r j)
  have h0 : (i 0).val < 2 := (i 0).isLt
  have h1 : (i 1).val < 8192 := (i 1).isLt
  have h2 : (i 2).val < 4 := (i 2).isLt
  have h3 : (i 3).val < 2 := (i 3).isLt
  have h4 : (i 4).val < 64 := (i 4).isLt
  refine congrArg _ (funext fun a => ?_)
  match a with
  | ⟨0, _⟩ =>
    refine Fin.ext ?_
    show (((((i 0).val * 8192 + (i 1).val) * 4 + (i 2).val) * 2 + (i 3).val) * 64 + (i 4).val) / 512 = r.val
    omega
  | ⟨1, _⟩ =>
    refine Fin.ext ?_
    show 512 + (((((i 0).val * 8192 + (i 1).val) * 4 + (i 2).val) * 2 + (i 3).val) * 64 + (i 4).val) % 512 = j.val
    omega

/-- A lane of a head of the keys after the rotation. -/
theorem keys_rotated (X : XArr) (G : GArr) (W : WArr) (C S : TArr) (i : S2x8192x4x2x64.Idx) (r : Fin 16384) (j : Fin 512) (hr : r.val = (i 0).val * 8192 + (i 1).val)
    (hj : j.val = ((i 2).val * 2 + (i 3).val) * 64 + (i 4).val) :
    val_main_v59 (F := Ideal) X G W C S i = rope (fun j => inp X G W r ⟨512 + j.val, by have := j.isLt; omega⟩)
      (fun k => C (ix2 (i 1) k)) (fun k => S (ix2 (i 1) k)) j := by
  have h0 : (i 0).val < 2 := (i 0).isLt
  have h1 : (i 1).val < 8192 := (i 1).isLt
  have h2 : (i 2).val < 4 := (i 2).isLt
  have h3 : (i 3).val < 2 := (i 3).isLt
  have h4 : (i 4).val < 64 := (i 4).isLt
  unfold rope
  by_cases h : (i 4).val < 32
  · have hj' : j.val % 64 < 32 := by omega
    rw [dif_pos hj']
    unfold val_main_v59
    refine (concatenate_pair_apply_left (s₁ := S2x8192x4x2x32) (s₂ := S2x8192x4x2x32) 4 _ _ _ i rfl (ix5 (i 0) (i 1) (i 2) (i 3) ⟨(i 4).val, h⟩) fun a => ?_).trans ?_
    · match a with
      | ⟨0, _⟩ => rfl
      | ⟨1, _⟩ => rfl
      | ⟨2, _⟩ => rfl
      | ⟨3, _⟩ => rfl
      | ⟨4, _⟩ => rfl
    · rw [val_main_v51_apply, val_main_v47_apply, val_main_v50_apply, val_main_v43_apply, val_main_v44_apply, val_main_v46_apply, val_main_v45_apply, val_main_v49_apply, val_main_v48_apply,
        val_main_v0_apply, val_main_v1_apply]
      refine congrArg₂ (fun a b : EReal => a - b) (congrArg₂ (fun a b : EReal => a * b) (keys_lane X G W _ r _ hr ?_) (congrArg C ?_))
        (congrArg₂ (fun a b : EReal => a * b) (keys_lane X G W _ r _ hr ?_) (congrArg S ?_))
      · show 512 + j.val = 512 + (((i 2).val * 2 + (i 3).val) * 64 + (i 4).val)
        omega
      · funext a
        match a with
        | ⟨0, _⟩ => rfl
        | ⟨1, _⟩ => exact Fin.ext (by show (i 4).val = j.val % 64; omega)
      · show 512 + (j.val + 32) = 512 + (((i 2).val * 2 + (i 3).val) * 64 + (32 + (i 4).val))
        omega
      · funext a
        match a with
        | ⟨0, _⟩ => rfl
        | ⟨1, _⟩ => exact Fin.ext (by show (i 4).val = j.val % 64; omega)
  · have hj' : ¬j.val % 64 < 32 := by omega
    rw [dif_neg hj']
    unfold val_main_v59
    refine (concatenate_pair_apply_right (s₁ := S2x8192x4x2x32) (s₂ := S2x8192x4x2x32) 4 _ _ _ i rfl rfl (ix5 (i 0) (i 1) (i 2) (i 3) ⟨(i 4).val - 32, by omega⟩) (fun a ha => ?_) ?_).trans ?_
    · match a with
      | ⟨0, _⟩ => rfl
      | ⟨1, _⟩ => rfl
      | ⟨2, _⟩ => rfl
      | ⟨3, _⟩ => rfl
      | ⟨4, _⟩ => exact absurd rfl ha
    · show (i 4).val - 32 + 32 = (i 4).val
      omega
    · rw [val_main_v58_apply, val_main_v54_apply, val_main_v57_apply, val_main_v43_apply, val_main_v44_apply, val_main_v53_apply, val_main_v52_apply, val_main_v56_apply, val_main_v55_apply,
        val_main_v0_apply, val_main_v1_apply]
      refine congrArg₂ (fun a b : EReal => a + b) (congrArg₂ (fun a b : EReal => a * b) (keys_lane X G W _ r _ hr ?_) (congrArg C ?_))
        (congrArg₂ (fun a b : EReal => a * b) (keys_lane X G W _ r _ hr ?_) (congrArg S ?_))
      · show 512 + j.val = 512 + (((i 2).val * 2 + (i 3).val) * 64 + (32 + ((i 4).val - 32)))
        omega
      · funext a
        match a with
        | ⟨0, _⟩ => rfl
        | ⟨1, _⟩ => exact Fin.ext (by show (i 4).val - 32 = j.val % 64 - 32; omega)
      · show 512 + (j.val - 32) = 512 + (((i 2).val * 2 + (i 3).val) * 64 + ((i 4).val - 32))
        omega
      · funext a
        match a with
        | ⟨0, _⟩ => rfl
        | ⟨1, _⟩ => exact Fin.ext (by show (i 4).val - 32 = j.val % 64 - 32; omega)

/-- The reference's queries at an index. -/
theorem res68_apply (X : XArr) (G : GArr) (W : WArr) (C S : TArr) (p : S16384x512.Idx) :
    val_main_v68 (F := Ideal) X G W C S p = rope (fun j => inp X G W (p 0) ⟨0 + j.val, by have := j.isLt; omega⟩)
      (fun k => C (ix2 ⟨(p 0).val % 8192, Nat.mod_lt _ (by decide)⟩ k)) (fun k => S (ix2 ⟨(p 0).val % 8192, Nat.mod_lt _ (by decide)⟩ k)) (p 1) * qScale := by
  have h0 : (p 0).val < 16384 := (p 0).isLt
  have h1 : (p 1).val < 512 := (p 1).isLt
  rw [val_main_v68_apply, val_main_v65_apply, val_main_v64_apply, val_main_v61_apply, val_main_v60_apply, val_main_v63_apply, val_main_v62_apply,
    val_main_cst_2_apply, val_main_cst_3_apply]
  refine (qScale_eq _).trans (congrArg (· * qScale) ?_)
  have e : (idx_main_v65 p) 1 = ⟨(p 0).val % 8192, Nat.mod_lt _ (by decide)⟩ := Fin.ext (by show ((p 0).val * 512 + (p 1).val) / 512 % 8192 = (p 0).val % 8192; omega)
  refine (queries_rotated X G W C S (idx_main_v65 p) (p 0) (p 1) ?_ ?_).trans ?_
  · show (p 0).val = ((p 0).val * 512 + (p 1).val) / 4194304 * 8192 + ((p 0).val * 512 + (p 1).val) / 512 % 8192
    omega
  · show (p 1).val = (((p 0).val * 512 + (p 1).val) / 128 % 4 * 2 + ((p 0).val * 512 + (p 1).val) / 64 % 2) * 64 + ((p 0).val * 512 + (p 1).val) % 64
    omega
  · simp only [e]
    rfl

/-- The reference's keys, transposed within a sequence, at an index. -/
theorem res69_apply (X : XArr) (G : GArr) (W : WArr) (C S : TArr) (p : S2x512x8192.Idx) :
    val_main_v69 (F := Ideal) X G W C S p
      = rope (fun j => inp X G W ⟨(p 0).val * 8192 + (p 2).val, by have h0 : (p 0).val < 2 := (p 0).isLt; have h2 : (p 2).val < 8192 := (p 2).isLt; omega⟩
          ⟨512 + j.val, by have := j.isLt; omega⟩)
        (fun k => C (ix2 (p 2) k)) (fun k => S (ix2 (p 2) k)) (p 1) := by
  have h0 : (p 0).val < 2 := (p 0).isLt
  have h1 : (p 1).val < 512 := (p 1).isLt
  have h2 : (p 2).val < 8192 := (p 2).isLt
  rw [val_main_v69_apply, val_main_v67_apply, val_main_v66_apply]
  have e : (idx_main_v66 (idx_main_v67 p)) 1 = p 2 := Fin.ext (by show (((p 0).val * 8192 + (p 2).val) * 512 + (p 1).val) / 512 % 8192 = (p 2).val; omega)
  refine (keys_rotated X G W C S (idx_main_v66 (idx_main_v67 p)) ⟨(p 0).val * 8192 + (p 2).val, by omega⟩ (p 1) ?_ ?_).trans ?_
  · show (p 0).val * 8192 + (p 2).val = (((p 0).val * 8192 + (p 2).val) * 512 + (p 1).val) / 4194304 * 8192 + (((p 0).val * 8192 + (p 2).val) * 512 + (p 1).val) / 512 % 8192
    omega
  · show (p 1).val = ((((p 0).val * 8192 + (p 2).val) * 512 + (p 1).val) / 128 % 4 * 2 + (((p 0).val * 8192 + (p 2).val) * 512 + (p 1).val) / 64 % 2) * 64 + (((p 0).val * 8192 + (p 2).val) * 512 + (p 1).val) % 64
    omega
  · simp only [e]

end Cert.InputRefIdeal.Inp

end
-- ==== Proof.MemoryVal.lean ====
/- The keys and values of the memory as the kernel leaves them, element by element. -/
module

public import proofs.«01_k».proof.Proof.Gen.MemoryIdeal.Value
public import proofs.«01_k».proof.Proof.Gen.MemoryIdeal.Frame
public import proofs.«01_k».proof.Proof.Norm
public import Idealize.ShloMosaic.Lib.WritesUnit
public import Idealize.ShloMosaic.Lib.Pipeline.ValueKit.Basic
public import Idealize.ShloMosaic.Lib.Pointwise

@[expose] public section

set_option maxRecDepth 16384

noncomputable section

namespace Cert.MemoryIdeal.Mem

open Cert.MemoryIdeal Cert.MemoryIdeal.Gen Idealize.ShloMosaic Idealize.ShloMosaic.TcCoe Idealize.SL.Sem
open Cert.Layer
open scoped BigOperators

/-- The projection of a block's row. -/
theorem pay1_apply (x : Vec Ideal S1x256x1024 .f32) (g : Vec Ideal S1x1024 .f32) (w : Vec Ideal S1024x1024 .bf16) (r : Fin 256) (j : Fin 1024) :
    k0_pay1 x g w (ix2 r j) = proj (fun k => x (ix3 0 r k)) (fun k => g (ix2 0 k)) (fun k => w (ix2 k j)) := by
  pointwise [k0_pay1]
  rfl

/-- A load of a whole block reads the block. -/
theorem ld_whole {s : Shape} {e : EltTy} (x : Vec Ideal s e) {off : Fin s.rank → ℕ} (inb : ∀ b, off b + s.size b ≤ s.size b) (h0 : ∀ b, off b = 0) :
    View.ld x (Rect.unit off s.size inb) = x := View.ld_unit_lit _ _ h0

/-- The block of keys, transposed, at an index. -/
theorem keys_apply (x : Vec Ideal S1x256x1024 .f32) (g : Vec Ideal S1x1024 .f32) (w : Vec Ideal S1024x1024 .bf16) (y : S1x512x256.Idx) :
    out0_3 x g w y = proj (fun k => x (ix3 0 (y 2) k)) (fun k => g (ix2 0 k)) (fun k => w (ix2 k ⟨(y 1).val, (y 1).isLt.trans (by decide)⟩)) := by
  unfold out0_3
  rw [Value.canon3_eq]
  unfold r0_0 r0_1 r0_2
  rw [ld_whole x _ (by decide), ld_whole g _ (by decide), ld_whole w _ (by decide)]
  refine Eq.trans ?_ (pay1_apply x g w (y 2) ⟨(y 1).val, (y 1).isLt.trans (by decide)⟩)
  show k0_pay1 x g w _ = _
  refine congrArg _ (funext fun a => ?_)
  match a with
  | ⟨0, _⟩ => rfl
  | ⟨1, _⟩ => rfl

/-- The block of values at an index. -/
theorem values_apply (x : Vec Ideal S1x256x1024 .f32) (g : Vec Ideal S1x1024 .f32) (w : Vec Ideal S1024x1024 .bf16) (y : S1x256x512.Idx) :
    out0_4 x g w y = proj (fun k => x (ix3 0 (y 1) k)) (fun k => g (ix2 0 k)) (fun k => w (ix2 k ⟨(y 2).val + 512, Nat.add_lt_add_right (y 2).isLt 512⟩)) := by
  unfold out0_4
  rw [Value.canon4_eq]
  unfold r0_0 r0_1 r0_2
  rw [ld_whole x _ (by decide), ld_whole g _ (by decide), ld_whole w _ (by decide)]
  refine Eq.trans ?_ (pay1_apply x g w (y 1) ⟨(y 2).val + 512, Nat.add_lt_add_right (y 2).isLt 512⟩)
  show k0_pay1 x g w _ = _
  refine congrArg _ (funext fun a => ?_)
  match a with
  | ⟨0, _⟩ => rfl
  | ⟨1, _⟩ => rfl

variable (m : (ℓ : Loc nD τ sig) → Buf (Elt Ideal) ℓ)

/-- Which block of the memory a grid point reads or writes. -/
theorem idx0 : ∀ t : Fin grid0.N, win0_0.index t 0 = t.val ∧ win0_0.index t 1 = 0 ∧ win0_0.index t 2 = 0 := by decide +kernel
/-- Which block of the scale a grid point reads or writes. -/
theorem idx1 : ∀ t : Fin grid0.N, win0_1.index t 0 = 0 ∧ win0_1.index t 1 = 0 := by decide +kernel
/-- Which block of the weights a grid point reads or writes. -/
theorem idx2 : ∀ t : Fin grid0.N, win0_2.index t 0 = 0 ∧ win0_2.index t 1 = 0 := by decide +kernel
/-- Which block of the keys a grid point reads or writes. -/
theorem idx3 : ∀ t : Fin grid0.N, win0_3.index t 0 = t.val ∧ win0_3.index t 1 = 0 ∧ win0_3.index t 2 = 0 := by decide +kernel
/-- Which block of the values a grid point reads or writes. -/
theorem idx4 : ∀ t : Fin grid0.N, win0_4.index t 0 = t.val ∧ win0_4.index t 1 = 0 ∧ win0_4.index t 2 = 0 := by decide +kernel

/-- A point's block of the memory is its batch. -/
theorem iblk0 (c : Dev nD) (t : Fin cfg0.N) (r : Fin 256) (k : Fin 1024) :
    (iblk m c 0 t : Vec Ideal S1x256x1024 .f32) (ix3 0 r k) = m ((c : Thread nD τ).loc main_arg0) (ix3 (n0 := 2) (n1 := 256) (n2 := 1024) ⟨t.val, t.isLt⟩ r k) := by
  have hi := idx0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val; rw [hi.1]; omega
  | ⟨1, _⟩ => show win0_0.index t 1 * 256 + 1 * r.val = r.val; rw [hi.2.1]; omega
  | ⟨2, _⟩ => show win0_0.index t 2 * 1024 + 1 * k.val = k.val; rw [hi.2.2]; omega

/-- Every point reads the whole scale. -/
theorem iblk1 (c : Dev nD) (t : Fin cfg0.N) (k : Fin 1024) :
    (iblk m c 1 t : Vec Ideal S1x1024 .f32) (ix2 0 k) = m ((c : Thread nD τ).loc main_arg1) (ix2 (n0 := 1) (n1 := 1024) 0 k) := by
  have hi := idx1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

/-- Every point reads the whole matrix. -/
theorem iblk2 (c : Dev nD) (t : Fin cfg0.N) (k j : Fin 1024) :
    (iblk m c 2 t : Vec Ideal S1024x1024 .bf16) (ix2 k j) = m ((c : Thread nD τ).loc main_arg2) (ix2 (n0 := 1024) (n1 := 1024) k j) := by
  have hi := idx2 t
  unfold iblk
  rw [View.read_apply]
  show V m c main_arg2 _ = m (c.tc.loc main_arg2) _
  unfold V
  congr 1
  funext a
  apply Fin.ext
  match a with
  | ⟨0, _⟩ => show win0_2.index t 0 * 1024 + 1 * k.val = k.val; rw [hi.1]; omega
  | ⟨1, _⟩ => show win0_2.index t 1 * 1024 + 1 * j.val = j.val; rw [hi.2]; omega

/-- Row `r` of batch `b` of the memory, projected on column `j`. -/
def kv (c : Dev nD) (b : Fin 2) (r : Fin 256) (j : Fin 1024) : EReal :=
  proj (fun k => m ((c : Thread nD τ).loc main_arg0) (ix3 (n0 := 2) (n1 := 256) (n2 := 1024) b r k))
    (fun k => m ((c : Thread nD τ).loc main_arg1) (ix2 (n0 := 1) (n1 := 1024) 0 k))
    (fun k => m ((c : Thread nD τ).loc main_arg2) (ix2 (n0 := 1024) (n1 := 1024) k j))

/-- The array of keys, transposed. -/
def keys (c : Dev nD) : Buf (Elt Ideal) ((c : Thread nD τ).loc main_v0_0) :=
  fun p : S2x512x256.Idx => kv m c (p 0) (p 2) ⟨(p 1).val, (p 1).isLt.trans (by decide)⟩

/-- The array of values. -/
def values (c : Dev nD) : Buf (Elt Ideal) ((c : Thread nD τ).loc main_v0_1) :=
  fun p : S2x256x512.Idx => kv m c (p 0) (p 1) ⟨(p 2).val + 512, Nat.add_lt_add_right (p 2).isLt 512⟩

/-- Every point writes its block of keys. -/
theorem flushed_keys (c : Dev nD) (t : Fin cfg0.N) (hf : (cfg0.win 3).flush t = true) :
    (dats m 0 c).flushed 3 t = ((cfg0.win 3).blk t).view.read (Elt Ideal) (keys m c) := by
  rw [Value.flushed3]
  funext j
  rw [View.read_apply]
  have hi := idx3 t
  refine (keys_apply _ _ _ j).trans ?_
  show _ = kv m c _ _ _
  unfold kv
  congr 1
  · funext k
    refine (iblk0 m c t _ k).trans ?_
    refine congrArg (m ((c : Thread nD τ).loc main_arg0)) (congr (congrArg₂ ix3 (Fin.ext ?_) (Fin.ext ?_)) rfl)
    · show t.val = win0_3.index t 0 * 1 + 1 * (j 0).val
      have : (j 0).val < 1 := (j 0).isLt
      rw [hi.1]; omega
    · show (j 2).val = win0_3.index t 2 * 256 + 1 * (j 2).val
      rw [hi.2.2]; omega
  · funext k
    exact iblk1 m c t k
  · funext k
    refine (iblk2 m c t k _).trans ?_
    refine congrArg (m ((c : Thread nD τ).loc main_arg2)) (congrArg₂ ix2 rfl (Fin.ext ?_))
    show (j 1).val = win0_3.index t 1 * 512 + 1 * (j 1).val
    rw [hi.2.1]; omega

/-- Every point writes its block of values. -/
theorem flushed_values (c : Dev nD) (t : Fin cfg0.N) (hf : (cfg0.win 4).flush t = true) :
    (dats m 0 c).flushed 4 t = ((cfg0.win 4).blk t).view.read (Elt Ideal) (values m c) := by
  rw [Value.flushed4]
  funext j
  rw [View.read_apply]
  have hi := idx4 t
  refine (values_apply _ _ _ j).trans ?_
  show _ = kv m c _ _ _
  unfold kv
  congr 1
  · funext k
    refine (iblk0 m c t _ k).trans ?_
    refine congrArg (m ((c : Thread nD τ).loc main_arg0)) (congr (congrArg₂ ix3 (Fin.ext ?_) (Fin.ext ?_)) rfl)
    · show t.val = win0_4.index t 0 * 1 + 1 * (j 0).val
      have : (j 0).val < 1 := (j 0).isLt
      rw [hi.1]; omega
    · show (j 1).val = win0_4.index t 1 * 256 + 1 * (j 1).val
      rw [hi.2.1]; omega
  · funext k
    exact iblk1 m c t k
  · funext k
    refine (iblk2 m c t k _).trans ?_
    refine congrArg (m ((c : Thread nD τ).loc main_arg2)) (congrArg₂ ix2 rfl (Fin.ext ?_))
    show (j 2).val + 512 = win0_4.index t 2 * 512 + 1 * (j 2).val + 512
    rw [hi.2.2]; omega

/-- The array of keys after the run. -/
theorem final_keys (c : Dev nD) : (dats m 0 c).arrAt 3 cfg0.N = keys m c :=
  (dats m 0 c).arrAt_eq_of_cover 3 (keys m c) (flushed_keys m c) fun i =>
    ⟨⟨(i 0).val, (i 0).isLt⟩, flush0_3 _, by
      show i ∈ ((View.whole main_v0_0).slice (win0_3.rect (⟨(i 0).val, (i 0).isLt⟩ : Fin cfg0.N))).set
      rw [View.set_slice_whole, Rect.mem_set_unit]
      intro a
      have hi := idx3 ⟨(i 0).val, (i 0).isLt⟩
      have h1 : (i 1 : Nat) < 512 := (i 1).isLt
      have h2 : (i 2 : Nat) < 256 := (i 2).isLt
      match a with
      | ⟨0, _⟩ =>
        show win0_3.index _ 0 * 1 ≤ (i 0 : Nat) ∧ (i 0 : Nat) < win0_3.index _ 0 * 1 + 1
        rw [hi.1]; dsimp only; omega
      | ⟨1, _⟩ =>
        show win0_3.index _ 1 * 512 ≤ (i 1 : Nat) ∧ (i 1 : Nat) < win0_3.index _ 1 * 512 + 512
        rw [hi.2.1]; omega
      | ⟨2, _⟩ =>
        show win0_3.index _ 2 * 256 ≤ (i 2 : Nat) ∧ (i 2 : Nat) < win0_3.index _ 2 * 256 + 256
        rw [hi.2.2]; omega⟩

/-- The array of values after the run. -/
theorem final_values (c : Dev nD) : (dats m 0 c).arrAt 4 cfg0.N = values m c :=
  (dats m 0 c).arrAt_eq_of_cover 4 (values m c) (flushed_values m c) fun i =>
    ⟨⟨(i 0).val, (i 0).isLt⟩, flush0_4 _, by
      show i ∈ ((View.whole main_v0_1).slice (win0_4.rect (⟨(i 0).val, (i 0).isLt⟩ : Fin cfg0.N))).set
      rw [View.set_slice_whole, Rect.mem_set_unit]
      intro a
      have hi := idx4 ⟨(i 0).val, (i 0).isLt⟩
      have h1 : (i 1 : Nat) < 256 := (i 1).isLt
      have h2 : (i 2 : Nat) < 512 := (i 2).isLt
      match a with
      | ⟨0, _⟩ =>
        show win0_4.index _ 0 * 1 ≤ (i 0 : Nat) ∧ (i 0 : Nat) < win0_4.index _ 0 * 1 + 1
        rw [hi.1]; dsimp only; omega
      | ⟨1, _⟩ =>
        show win0_4.index _ 1 * 256 ≤ (i 1 : Nat) ∧ (i 1 : Nat) < win0_4.index _ 1 * 256 + 256
        rw [hi.2.1]; omega
      | ⟨2, _⟩ =>
        show win0_4.index _ 2 * 512 ≤ (i 2 : Nat) ∧ (i 2 : Nat) < win0_4.index _ 2 * 512 + 512
        rw [hi.2.2]; omega⟩

end Cert.MemoryIdeal.Mem

end
-- ==== Proof.MemoryRefVal.lean ====
/- The reference's keys and values of the memory, element by element. -/
module

public import proofs.«01_k».proof.Proof.Gen.MemoryRefIdeal.Read
public import proofs.«01_k».proof.Proof.Norm
public import Idealize.ShloMosaic.Lib.Pointwise

@[expose] public section

set_option maxRecDepth 16384

noncomputable section

namespace Cert.MemoryRefIdeal.Mem

open Cert.MemoryRefIdeal Cert.MemoryRefIdeal.Gen Cert.MemoryRefIdeal.Read Idealize.ShloMosaic Idealize.ShloMosaic.TcCoe
open Cert.Layer
open scoped BigOperators

/-- The memory. -/
abbrev XArr : Type := BufTy.Contents (Elt Ideal) (⟨S2x256x1024, .f32⟩ : BufTy)
/-- A scale. -/
abbrev GArr : Type := BufTy.Contents (Elt Ideal) (⟨S1x1024, .f32⟩ : BufTy)
/-- The weights. -/
abbrev WArr : Type := BufTy.Contents (Elt Ideal) (⟨S1024x1024, .bf16⟩ : BufTy)

/-- The factor of a row. -/
theorem inv_apply (X : XArr) (b : Fin 2) (r : Fin 256) :
    val_main_v7 (F := Ideal) X (ix3 b r 0) = invRms (fun k => X (ix3 b r k)) := by
  rw [val_main_v7_apply, val_main_v6_apply, val_main_v4_apply, val_main_v2_apply, val_main_v1_apply, val_main_v3_apply, val_main_v5_apply,
    val_main_cst_0_apply, val_main_cst_1_apply, val_main_cst_apply]
  show Ideal.rsqrt (Ideal.div (Ideal.ofBits FTy.f32 0x00000000#32 + ∑ k : Fin 1024, val_main_v0 (F := Ideal) X _) (Ideal.ofBits FTy.f32 0x44800000#32) + Ideal.ofBits FTy.f32 0x358637BD#32) = _
  rw [Ideal.ofBits_zero_f32, zero_add]
  unfold invRms
  have e : ∀ k : Fin 1024, idx_main_v1 (idx_main_v2 (ix3 b r 0)) k = ix3 b r k := fun k => funext fun a => by
    match a with
    | ⟨0, _⟩ => rfl
    | ⟨1, _⟩ => rfl
    | ⟨2, _⟩ => rfl
  simp only [e]
  rfl

/-- A row of the memory projected on a column. -/
theorem kv_apply (X : XArr) (G : GArr) (W : WArr) (b : Fin 2) (r : Fin 256) (j : Fin 1024) :
    val_main_v14 (F := Ideal) X G W (ix3 b r j) = proj (fun k => X (ix3 b r k)) (fun k => G (ix2 0 k)) (fun k => W (ix2 k j)) := by
  rw [val_main_v14_apply]
  unfold proj normed
  refine Finset.sum_congr rfl fun k _ => ?_
  have e1 : lidx_main_v14 (ix3 b r j) k = ix3 b r k := funext fun a => by
    match a with
    | ⟨0, _⟩ => rfl
    | ⟨1, _⟩ => rfl
    | ⟨2, _⟩ => rfl
  have e2 : ridx_main_v14 (ix3 b r j) k = ix2 k j := funext fun a => by
    match a with
    | ⟨0, _⟩ => rfl
    | ⟨1, _⟩ => rfl
  have e3 : idx_main_v8 (ix3 b r k) = ix3 b r 0 := funext fun a => by
    match a with
    | ⟨0, _⟩ => rfl
    | ⟨1, _⟩ => rfl
    | ⟨2, _⟩ => rfl
  have e4 : idx_main_v10 (idx_main_v11 (ix3 b r k)) = ix2 0 k := funext fun a => by
    match a with
    | ⟨0, _⟩ => rfl
    | ⟨1, _⟩ => rfl
  rw [e1, e2, val_main_v12_apply, val_main_v9_apply, val_main_v8_apply, val_main_v11_apply, val_main_v10_apply, val_main_v13_apply, e3, e4, inv_apply]
  rfl

/-- The reference's keys, transposed, at an index. -/
theorem keys_apply (X : XArr) (G : GArr) (W : WArr) (p : S2x512x256.Idx) :
    val_main_v18 (F := Ideal) X G W p = proj (fun k => X (ix3 (p 0) (p 2) k)) (fun k => G (ix2 0 k)) (fun k => W (ix2 k ⟨(p 1).val, (p 1).isLt.trans (by decide)⟩)) := by
  rw [val_main_v18_apply, val_main_v17_apply, val_main_v15_apply]
  refine Eq.trans ?_ (kv_apply X G W (p 0) (p 2) ⟨(p 1).val, (p 1).isLt.trans (by decide)⟩)
  show val_main_v14 (F := Ideal) X G W _ = _
  refine congrArg _ (funext fun a => ?_)
  match a with
  | ⟨0, _⟩ => rfl
  | ⟨1, _⟩ => rfl
  | ⟨2, _⟩ => rfl

/-- The reference's values at an index. -/
theorem values_apply (X : XArr) (G : GArr) (W : WArr) (p : S2x256x512.Idx) :
    val_main_v19 (F := Ideal) X G W p = proj (fun k => X (ix3 (p 0) (p 1) k)) (fun k => G (ix2 0 k)) (fun k => W (ix2 k ⟨(p 2).val + 512, Nat.add_lt_add_right (p 2).isLt 512⟩)) := by
  rw [val_main_v19_apply, val_main_v16_apply]
  refine Eq.trans ?_ (kv_apply X G W (p 0) (p 1) ⟨(p 2).val + 512, Nat.add_lt_add_right (p 2).isLt 512⟩)
  show val_main_v14 (F := Ideal) X G W _ = _
  refine congrArg _ (funext fun a => ?_)
  match a with
  | ⟨0, _⟩ => rfl
  | ⟨1, _⟩ => rfl
  | ⟨2, _⟩ => exact Fin.ext (Nat.add_comm 512 _)

end Cert.MemoryRefIdeal.Mem

end
-- ==== Proof.Mix.lean ====
/- Values mixed by the softmax of a row of scores, with the quotient taken once or of every weight, and the gate: what the
   attention over the memory is, whatever program computes it. -/
module

public import Idealize.ShloMosaic.PureOps.Ideal.Laws
public import Idealize.ShloMosaic.Lib.IdealHost
public import proofs.«01_k».proof.Proof.Norm

@[expose] public section

noncomputable section

namespace Cert.Layer

open Idealize.ShloMosaic
open scoped BigOperators

/-- The scores of a query against the memory's 256 keys. -/
def scores (q : Fin 128 → EReal) (k : Fin 128 → Fin 256 → EReal) (n : Fin 256) : EReal :=
  (∑ d, q d * k d n) * Ideal.ofBits FTy.f32 0x3DB504F3#32

/-- The weight of entry `n` against the largest score. -/
def weight (s : Fin 256 → EReal) (n : Fin 256) : EReal := Ideal.exp (s n - Finset.univ.sup s)

/-- The values mixed by the weights, over the weights' sum. -/
def mix (s v : Fin 256 → EReal) : EReal := Ideal.div (∑ n, weight s n * v n) (∑ n, weight s n)

/-- A number times its logistic. -/
def gate (g : EReal) : EReal := Ideal.div g (1 + Ideal.exp (0 - g))

/-- The exponential is never negative. -/
theorem exp_nonneg (x : EReal) : 0 ≤ Ideal.exp x := by
  induction x with
  | bot => simp
  | top => simp
  | coe r => rw [Ideal.exp_coe]; exact_mod_cast (Real.exp_pos r).le

/-- The gate, multiplied by the logistic instead of divided. -/
theorem gate_eq (g : EReal) : g * Ideal.div 1 (1 + Ideal.exp (-g)) = gate g := by
  have h : (1 : EReal) + Ideal.exp (-g) ≠ 0 := by
    have h1 : (1 : EReal) ≤ 1 + Ideal.exp (-g) := le_add_of_nonneg_right (exp_nonneg _)
    intro e; rw [e] at h1; exact absurd h1 (by simp)
  unfold gate
  rw [Ideal.mul_one_div h, zero_sub]

/-- A sum of reals is the real sum. -/
theorem sum_real {ι : Type} (S : Finset ι) (f : ι → ℝ) : ∑ k ∈ S, (f k : EReal) = ((∑ k ∈ S, f k : ℝ) : EReal) := by
  classical
  induction S using Finset.induction_on with
  | empty => simp
  | insert a S ha ih => rw [Finset.sum_insert ha, Finset.sum_insert ha, EReal.coe_add, ih]

/-- A real that is not negative distributes over a sum of extended reals. -/
theorem sum_mul_real {ι : Type} (S : Finset ι) (f : ι → EReal) {a : ℝ} (ha : 0 ≤ a) : (∑ k ∈ S, f k) * (a : EReal) = ∑ k ∈ S, f k * (a : EReal) := by
  classical
  induction S using Finset.induction_on with
  | empty => simp
  | insert i S hi ih =>
    rw [Finset.sum_insert hi, Finset.sum_insert hi, EReal.right_distrib_of_nonneg_of_ne_top (EReal.coe_nonneg.mpr ha) (EReal.coe_ne_top a), ih]

/-- The constant the scores are multiplied by is a real number. -/
theorem scale_real : ∃ r : ℝ, Ideal.ofBits FTy.f32 0x3DB504F3#32 = (r : EReal) := by
  refine ⟨11863283 / 2 ^ 27, ?_⟩
  simp [Ideal.ofBits, Ideal.ieee, -EReal.coe_mul]; norm_num

/-- Scores of real queries against real keys are real. -/
theorem scores_real (q : Fin 128 → ℝ) (k : Fin 128 → Fin 256 → ℝ) :
    ∃ s : Fin 256 → ℝ, scores (fun d => (q d : EReal)) (fun d n => (k d n : EReal)) = fun n => (s n : EReal) := by
  obtain ⟨c, hc⟩ := scale_real
  refine ⟨fun n => (∑ d, q d * k d n) * c, funext fun n => ?_⟩
  unfold scores
  simp only [hc, ← EReal.coe_mul, sum_real]

/-- The largest of finitely many real scores is one of them. -/
theorem sup_real (s : Fin 256 → ℝ) : ∃ n, (Finset.univ.sup fun n => (s n : EReal)) = (s n : EReal) := by
  obtain ⟨n, -, hn⟩ := Finset.exists_mem_eq_sup (Finset.univ : Finset (Fin 256)) ⟨0, Finset.mem_univ 0⟩ fun n => (s n : EReal)
  exact ⟨n, hn⟩

/-- For real scores the weights are reals that are not negative, and do not sum to zero. -/
theorem weight_real (s : Fin 256 → ℝ) :
    ∃ w : Fin 256 → ℝ, (∀ n, weight (fun n => (s n : EReal)) n = (w n : EReal)) ∧ (∀ n, 0 ≤ w n) ∧ 0 < ∑ n, w n := by
  obtain ⟨m, hm⟩ := sup_real s
  refine ⟨fun n => Real.exp (s n - s m), fun n => ?_, fun n => (Real.exp_pos _).le, ?_⟩
  · unfold weight
    rw [hm, ← EReal.coe_sub, Ideal.exp_coe]
  · exact Finset.sum_pos (fun n _ => Real.exp_pos _) ⟨m, Finset.mem_univ m⟩

/-- For real scores: the values mixed by the quotients of the weights, or the mixed values' quotient. -/
theorem mix_eq (s : Fin 256 → ℝ) (v : Fin 256 → EReal) :
    ∑ n, v n * Ideal.div (weight (fun n => (s n : EReal)) n) (∑ n, weight (fun n => (s n : EReal)) n) = mix (fun n => (s n : EReal)) v := by
  obtain ⟨w, hw, h0, hs⟩ := weight_real s
  unfold mix
  simp only [hw, sum_real]
  rw [Ideal.div_coe hs.ne', sum_mul_real _ _ (by positivity)]
  refine Finset.sum_congr rfl fun n _ => ?_
  rw [Ideal.div_coe hs.ne', ← mul_assoc, mul_comm (v n)]

/-- Lane `j` of a row before its norm: the row itself and its three parts against their rows of the matrix. -/
def summed (x : Fin 1024 → EReal) (a b c : Fin 512 → EReal) (w : Fin 1536 → Fin 1024 → EReal) (j : Fin 1024) : EReal :=
  x j + (∑ k : Fin 512, a k * w ⟨k.val, by omega⟩ j + ∑ k : Fin 512, b k * w ⟨512 + k.val, by omega⟩ j + ∑ k : Fin 512, c k * w ⟨1024 + k.val, by omega⟩ j)

end Cert.Layer

end
-- ==== Proof.OutputVal.lean ====
/- The output projection's result as the kernel leaves it, element by element. -/
module

public import proofs.«01_k».proof.Proof.Gen.OutputIdeal.Value
public import proofs.«01_k».proof.Proof.Gen.OutputIdeal.Frame
public import proofs.«01_k».proof.Proof.Mix
public import Idealize.ShloMosaic.Lib.WritesUnit
public import Idealize.ShloMosaic.Lib.Pipeline.ValueKit.Basic
public import Idealize.ShloMosaic.Lib.Pointwise

@[expose] public section

set_option maxRecDepth 16384

noncomputable section

namespace Cert.OutputIdeal.Out

open Cert.OutputIdeal Cert.OutputIdeal.Gen Idealize.ShloMosaic Idealize.ShloMosaic.TcCoe Idealize.SL.Sem
open Cert.Layer
open scoped BigOperators

/-! ## A block -/

/-- The bit pattern of the maximum's start. -/
theorem bot_f32 : Ideal.ofBits FTy.f32 0xFF800000#32 = ⊥ := by
  simp [Ideal.ofBits, Ideal.ieee]

/-- Row `r` and lane `l` of a head: the memory's values under its softmax, gated. -/
def headOf (q : Vec Ideal S512x128 .bf16) (k : Vec Ideal S1x128x256 .bf16) (v : Vec Ideal S1x256x128 .bf16) (g : Vec Ideal S512x128 .bf16) (r : Fin 512)
    (l : Fin 128) : EReal :=
  mix (scores (fun d => q (ix2 r d)) (fun d n => k (ix3 0 d n))) (fun n => v (ix3 0 n l)) * gate (g (ix2 r l))

/-- The first head. -/
theorem head0 (q : Vec Ideal S512x128 .bf16) (k : Vec Ideal S1x128x256 .bf16) (v : Vec Ideal S1x256x128 .bf16) (g : Vec Ideal S512x128 .bf16) (r : Fin 512)
    (l : Fin 128) : k0_pay2 q k v g (ix2 r l) = headOf q k v g r l := by
  pointwise [k0_pay2]
  rw [bot_f32]
  rfl

/-- The second head. -/
theorem head1 (q : Vec Ideal S512x128 .bf16) (k : Vec Ideal S1x128x256 .bf16) (v : Vec Ideal S1x256x128 .bf16) (g : Vec Ideal S512x128 .bf16) (r : Fin 512)
    (l : Fin 128) : k0_pay4 (k0_pay3 q k) v g (ix2 r l) = headOf q k v g r l := by
  pointwise [k0_pay4, k0_pay3]
  rw [bot_f32]
  rfl

/-- The third head. -/
theorem head2 (q : Vec Ideal S512x128 .bf16) (k : Vec Ideal S1x128x256 .bf16) (v : Vec Ideal S1x256x128 .bf16) (g : Vec Ideal S512x128 .bf16) (r : Fin 512)
    (l : Fin 128) : k0_pay7 (k0_pay5 q k) (k0_pay6 q k v) g (ix2 r l) = headOf q k v g r l := by
  pointwise [k0_pay7, k0_pay5, k0_pay6]
  rw [bot_f32]
  rfl

/-- The mixed values of the fourth head. -/
theorem head3 (q : Vec Ideal S512x128 .bf16) (k : Vec Ideal S1x128x256 .bf16) (v : Vec Ideal S1x256x128 .bf16) (r : Fin 512) (l : Fin 128) :
    k0_pay8 q k v (ix2 r l) = mix (scores (fun d => q (ix2 r d)) (fun d n => k (ix3 0 d n))) (fun n => v (ix3 0 n l)) := by
  pointwise [k0_pay8]
  rw [bot_f32]
  rfl

/-- The gate's number of the fourth head. -/
theorem num3 (g : Vec Ideal S512x128 .bf16) (r : Fin 512) (l : Fin 128) : k0_pay9 g (ix2 r l) = g (ix2 r l) := by
  pointwise [k0_pay9]

/-- The exponential of the fourth head's gate. -/
theorem exp3 (g : Vec Ideal S512x128 .bf16) (r : Fin 512) (l : Fin 128) : k0_pay10 g (ix2 r l) = Ideal.exp (0 - g (ix2 r l)) := by
  pointwise [k0_pay10, k0_pay9]

/-- Four heads side by side. -/
def cat4 (a b c d : Fin 128 → EReal) (k : Fin 512) : EReal :=
  if h : k.val < 128 then a ⟨k.val, h⟩
  else if h : k.val - 128 < 128 then b ⟨k.val - 128, h⟩
  else if h : k.val - 128 - 128 < 128 then c ⟨k.val - 128 - 128, h⟩
  else d ⟨k.val - 128 - 128 - 128, by omega⟩

/-- What a block's row holds after the payload, from the pieces it is made of. -/
theorem pay1_apply (v28 v57 v86 : FVec Ideal S512x128 .bf16) (v105 v107 v110 : FVec Ideal S512x128 .f32) (o : Ideal .f32) (a : Vec Ideal S512x512 .bf16)
    (wa : Vec Ideal S512x1024 .bf16) (b : Vec Ideal S512x512 .bf16) (wb wc : Vec Ideal S512x1024 .bf16) (x : Vec Ideal S512x1024 .f32)
    (g : Vec Ideal S1x1024 .f32) (r : Fin 512) (j : Fin 1024) :
    k0_pay1 v28 v57 v86 v105 v107 v110 o a wa b wb wc x g (ix2 r j)
      = normed (fun j => x (ix2 r j) + (∑ k : Fin 512, a (ix2 r k) * wa (ix2 k j) + ∑ k : Fin 512, b (ix2 r k) * wb (ix2 k j)
          + ∑ k : Fin 512, cat4 (fun l => v28 (ix2 r l)) (fun l => v57 (ix2 r l)) (fun l => v86 (ix2 r l))
              (fun l => v105 (ix2 r l) * Ideal.div (v107 (ix2 r l)) (o + v110 (ix2 r l))) k * wc (ix2 k j)))
          (fun j => g (ix2 0 j)) j := by
  pointwise [k0_pay1]
  rfl

/-- Row `r` and lane `k` of the gated memory, from the whole blocks. -/
def gated (x2 x3 : Vec Ideal S512x512 .bf16) (x4 : Vec Ideal S1x512x256 .bf16) (x5 : Vec Ideal S1x256x512 .bf16) (r k : Fin 512) : EReal :=
  mix (scores (fun d => x2 (ix2 r ⟨k.val / 128 * 128 + d.val, by omega⟩)) (fun d n => x4 (ix3 0 ⟨k.val / 128 * 128 + d.val, by omega⟩ n)))
    (fun n => x5 (ix3 0 n k)) * gate (x3 (ix2 r k))

/-- A head read from the whole blocks. -/
theorem head_gated (x2 x3 : Vec Ideal S512x512 .bf16) (x4 : Vec Ideal S1x512x256 .bf16) (x5 : Vec Ideal S1x256x512 .bf16) (r : Fin 512) (h : Fin 4)
    (q : Vec Ideal S512x128 .bf16) (k : Vec Ideal S1x128x256 .bf16) (v : Vec Ideal S1x256x128 .bf16) (g : Vec Ideal S512x128 .bf16)
    (hq : ∀ d : Fin 128, q (ix2 r d) = x2 (ix2 r ⟨h.val * 128 + d.val, by omega⟩))
    (hk : ∀ (d : Fin 128) (n : Fin 256), k (ix3 0 d n) = x4 (ix3 0 ⟨h.val * 128 + d.val, by omega⟩ n))
    (hv : ∀ (n : Fin 256) (d : Fin 128), v (ix3 0 n d) = x5 (ix3 0 n ⟨h.val * 128 + d.val, by omega⟩))
    (hg : ∀ d : Fin 128, g (ix2 r d) = x3 (ix2 r ⟨h.val * 128 + d.val, by omega⟩)) (l : Fin 128) (j : Fin 512) (hj : j.val = h.val * 128 + l.val) :
    headOf q k v g r l = gated x2 x3 x4 x5 r j := by
  have ej : j = ⟨h.val * 128 + l.val, by omega⟩ := Fin.ext hj
  rw [ej]
  have e : (h.val * 128 + l.val) / 128 = h.val := by omega
  unfold headOf gated
  simp only [hq, hk, hv, hg, e]

/-- The four heads side by side, read from the whole blocks. -/
theorem heads_gated (x2 x3 : Vec Ideal S512x512 .bf16) (x4 : Vec Ideal S1x512x256 .bf16) (x5 : Vec Ideal S1x256x512 .bf16) (r k : Fin 512) :
    cat4 (fun l => k0_pay2 (View.ld x2 r0_0) (View.ld x4 r0_1) (View.ld x5 r0_2) (View.ld x3 r0_0) (ix2 r l))
      (fun l => k0_pay4 (k0_pay3 (View.ld x2 r0_3) (View.ld x4 r0_4)) (View.ld x5 r0_5) (View.ld x3 r0_3) (ix2 r l))
      (fun l => k0_pay7 (k0_pay5 (View.ld x2 r0_6) (View.ld x4 r0_7)) (k0_pay6 (View.ld x2 r0_6) (View.ld x4 r0_7) (View.ld x5 r0_8)) (View.ld x3 r0_6) (ix2 r l))
      (fun l => k0_pay8 (View.ld x2 r0_9) (View.ld x4 r0_10) (View.ld x5 r0_11) (ix2 r l)
        * Ideal.div (k0_pay9 (View.ld x3 r0_9) (ix2 r l)) (Ideal.ofBits FTy.f32 0x3F800000#32 + k0_pay10 (View.ld x3 r0_9) (ix2 r l))) k
      = gated x2 x3 x4 x5 r k := by
  unfold cat4
  split
  · beta_reduce
    rw [head0]
    refine head_gated x2 x3 x4 x5 r 0 _ _ _ _ (fun d => ?_) (fun d n => ?_) (fun n d => ?_) (fun d => ?_) _ k ?_
    · exact congrArg x2 (funext fun a => Fin.ext (by match a with | ⟨0, _⟩ => (show 0 + 1 * r.val = r.val; omega) | ⟨1, _⟩ => (show 0 + 1 * d.val = 0 * 128 + d.val; omega)))
    · exact congrArg x4 (funext fun a => Fin.ext (by match a with | ⟨0, _⟩ => rfl | ⟨1, _⟩ => (show 0 + 1 * d.val = 0 * 128 + d.val; omega) | ⟨2, _⟩ => (show 0 + 1 * n.val = n.val; omega)))
    · exact congrArg x5 (funext fun a => Fin.ext (by match a with | ⟨0, _⟩ => rfl | ⟨1, _⟩ => (show 0 + 1 * n.val = n.val; omega) | ⟨2, _⟩ => (show 0 + 1 * d.val = 0 * 128 + d.val; omega)))
    · exact congrArg x3 (funext fun a => Fin.ext (by match a with | ⟨0, _⟩ => (show 0 + 1 * r.val = r.val; omega) | ⟨1, _⟩ => (show 0 + 1 * d.val = 0 * 128 + d.val; omega)))
    · show k.val = 0 * 128 + k.val
      omega
  · split
    · beta_reduce
      rw [head1]
      refine head_gated x2 x3 x4 x5 r 1 _ _ _ _ (fun d => ?_) (fun d n => ?_) (fun n d => ?_) (fun d => ?_) _ k ?_
      · exact congrArg x2 (funext fun a => Fin.ext (by match a with | ⟨0, _⟩ => (show 0 + 1 * r.val = r.val; omega) | ⟨1, _⟩ => (show 128 + 1 * d.val = 1 * 128 + d.val; omega)))
      · exact congrArg x4 (funext fun a => Fin.ext (by match a with | ⟨0, _⟩ => rfl | ⟨1, _⟩ => (show 128 + 1 * d.val = 1 * 128 + d.val; omega) | ⟨2, _⟩ => (show 0 + 1 * n.val = n.val; omega)))
      · exact congrArg x5 (funext fun a => Fin.ext (by match a with | ⟨0, _⟩ => rfl | ⟨1, _⟩ => (show 0 + 1 * n.val = n.val; omega) | ⟨2, _⟩ => (show 128 + 1 * d.val = 1 * 128 + d.val; omega)))
      · exact congrArg x3 (funext fun a => Fin.ext (by match a with | ⟨0, _⟩ => (show 0 + 1 * r.val = r.val; omega) | ⟨1, _⟩ => (show 128 + 1 * d.val = 1 * 128 + d.val; omega)))
      · show k.val = 1 * 128 + (k.val - 128)
        omega
    · split
      · beta_reduce
        rw [head2]
        refine head_gated x2 x3 x4 x5 r 2 _ _ _ _ (fun d => ?_) (fun d n => ?_) (fun n d => ?_) (fun d => ?_) _ k ?_
        · exact congrArg x2 (funext fun a => Fin.ext (by match a with | ⟨0, _⟩ => (show 0 + 1 * r.val = r.val; omega) | ⟨1, _⟩ => (show 256 + 1 * d.val = 2 * 128 + d.val; omega)))
        · exact congrArg x4 (funext fun a => Fin.ext (by match a with | ⟨0, _⟩ => rfl | ⟨1, _⟩ => (show 256 + 1 * d.val = 2 * 128 + d.val; omega) | ⟨2, _⟩ => (show 0 + 1 * n.val = n.val; omega)))
        · exact congrArg x5 (funext fun a => Fin.ext (by match a with | ⟨0, _⟩ => rfl | ⟨1, _⟩ => (show 0 + 1 * n.val = n.val; omega) | ⟨2, _⟩ => (show 256 + 1 * d.val = 2 * 128 + d.val; omega)))
        · exact congrArg x3 (funext fun a => Fin.ext (by match a with | ⟨0, _⟩ => (show 0 + 1 * r.val = r.val; omega) | ⟨1, _⟩ => (show 256 + 1 * d.val = 2 * 128 + d.val; omega)))
        · show k.val = 2 * 128 + (k.val - 128 - 128)
          omega
      · beta_reduce
        rw [head3, num3, exp3, Ideal.ofBits_one_f32]
        refine head_gated x2 x3 x4 x5 r 3 (View.ld x2 r0_9) (View.ld x4 r0_10) (View.ld x5 r0_11) (View.ld x3 r0_9) (fun d => ?_) (fun d n => ?_) (fun n d => ?_) (fun d => ?_) _ k ?_
        · exact congrArg x2 (funext fun a => Fin.ext (by match a with | ⟨0, _⟩ => (show 0 + 1 * r.val = r.val; omega) | ⟨1, _⟩ => (show 384 + 1 * d.val = 3 * 128 + d.val; omega)))
        · exact congrArg x4 (funext fun a => Fin.ext (by match a with | ⟨0, _⟩ => rfl | ⟨1, _⟩ => (show 384 + 1 * d.val = 3 * 128 + d.val; omega) | ⟨2, _⟩ => (show 0 + 1 * n.val = n.val; omega)))
        · exact congrArg x5 (funext fun a => Fin.ext (by match a with | ⟨0, _⟩ => rfl | ⟨1, _⟩ => (show 0 + 1 * n.val = n.val; omega) | ⟨2, _⟩ => (show 384 + 1 * d.val = 3 * 128 + d.val; omega)))
        · exact congrArg x3 (funext fun a => Fin.ext (by match a with | ⟨0, _⟩ => (show 0 + 1 * r.val = r.val; omega) | ⟨1, _⟩ => (show 384 + 1 * d.val = 3 * 128 + d.val; omega)))
        · have := k.isLt
          show k.val = 3 * 128 + (k.val - 128 - 128 - 128)
          omega

/-- A load of a whole block reads the block. -/
theorem ld_whole {s : Shape} {e : EltTy} (x : Vec Ideal s e) {off : Fin s.rank → ℕ} (inb : ∀ b, off b + s.size b ≤ s.size b) (h0 : ∀ b, off b = 0) :
    View.ld x (Rect.unit off s.size inb) = x := View.ld_unit_lit _ _ h0

/-- The block of results at an index. -/
theorem block_apply (x0 x1 x2 x3 : Vec Ideal S512x512 .bf16) (x4 : Vec Ideal S1x512x256 .bf16) (x5 : Vec Ideal S1x256x512 .bf16) (x6 : Vec Ideal S1536x1024 .bf16)
    (x7 : Vec Ideal S512x1024 .f32) (x8 : Vec Ideal S1x1024 .f32) (y : S512x1024.Idx) :
    out0_9 x0 x1 x2 x3 x4 x5 x6 x7 x8 y
      = normed (summed (fun j => x7 (ix2 (y 0) j)) (fun k => x0 (ix2 (y 0) k)) (fun k => x1 (ix2 (y 0) k)) (fun k => gated x2 x3 x4 x5 (y 0) k)
          (fun k j => x6 (ix2 k j))) (fun j => x8 (ix2 0 j)) (y 1) := by
  unfold out0_9
  refine (congrFun (View.canon_cons_unit_lit _ _ _ (by decide)) y).trans ((congrArg _ (eq_ix2 y)).trans ((pay1_apply _ _ _ _ _ _ _ _ _ _ _ _ _ _ (y 0) (y 1)).trans ?_))
  have w0 : ∀ (k : Fin 512) (j : Fin 1024), View.ld x6 r0_13 (ix2 k j) = x6 (ix2 ⟨k.val, by omega⟩ j) := fun k j =>
    congrArg x6 (funext fun a => Fin.ext (by match a with | ⟨0, _⟩ => (show 0 + 1 * k.val = k.val; omega) | ⟨1, _⟩ => (show 0 + 1 * j.val = j.val; omega)))
  have w1 : ∀ (k : Fin 512) (j : Fin 1024), View.ld x6 r0_14 (ix2 k j) = x6 (ix2 ⟨512 + k.val, by omega⟩ j) := fun k j =>
    congrArg x6 (funext fun a => Fin.ext (by match a with | ⟨0, _⟩ => (show 512 + 1 * k.val = 512 + k.val; omega) | ⟨1, _⟩ => (show 0 + 1 * j.val = j.val; omega)))
  have w2 : ∀ (k : Fin 512) (j : Fin 1024), View.ld x6 r0_15 (ix2 k j) = x6 (ix2 ⟨1024 + k.val, by omega⟩ j) := fun k j =>
    congrArg x6 (funext fun a => Fin.ext (by match a with | ⟨0, _⟩ => (show 1024 + 1 * k.val = 1024 + k.val; omega) | ⟨1, _⟩ => (show 0 + 1 * j.val = j.val; omega)))
  unfold r0_12 r0_16 r0_17
  rw [ld_whole x0 _ (by decide), ld_whole x1 _ (by decide), ld_whole x7 _ (by decide), ld_whole x8 _ (by decide)]
  refine congrArg (fun f => normed f _ _) (funext fun j => ?_)
  unfold summed
  simp only [w0, w1, w2]
  refine congrArg _ (congrArg _ (Finset.sum_congr rfl fun k _ => congrArg (· * _) ?_))
  exact heads_gated x2 x3 x4 x5 (y 0) k

variable (m : (ℓ : Loc nD τ sig) → Buf (Elt Ideal) ℓ) (c : Dev nD)

/-! ## The blocks of a grid point -/

/-- Which block of the first group's rows a grid point takes. -/
theorem idx0 : ∀ t : Fin grid0.N, win0_0.index t 0 = t.val ∧ win0_0.index t 1 = 0 := by decide +kernel

/-- Which block of the second group's rows a grid point takes. -/
theorem idx1 : ∀ t : Fin grid0.N, win0_1.index t 0 = t.val ∧ win0_1.index t 1 = 0 := by decide +kernel

/-- Which block of the memory's queries a grid point takes. -/
theorem idx2 : ∀ t : Fin grid0.N, win0_2.index t 0 = t.val ∧ win0_2.index t 1 = 0 := by decide +kernel

/-- Which block of the memory's gates a grid point takes. -/
theorem idx3 : ∀ t : Fin grid0.N, win0_3.index t 0 = t.val ∧ win0_3.index t 1 = 0 := by decide +kernel

/-- Which block of the memory's keys a grid point takes. -/
theorem idx4 : ∀ t : Fin grid0.N, win0_4.index t 0 = t.val / 16 ∧ win0_4.index t 1 = 0 ∧ win0_4.index t 2 = 0 := by decide +kernel

/-- Which block of the memory's values a grid point takes. -/
theorem idx5 : ∀ t : Fin grid0.N, win0_5.index t 0 = t.val / 16 ∧ win0_5.index t 1 = 0 ∧ win0_5.index t 2 = 0 := by decide +kernel

/-- Which block of the matrix a grid point takes. -/
theorem idx6 : ∀ t : Fin grid0.N, win0_6.index t 0 = 0 ∧ win0_6.index t 1 = 0 := by decide +kernel

/-- Which block of the layer's input a grid point takes. -/
theorem idx7 : ∀ t : Fin grid0.N, win0_7.index t 0 = t.val ∧ win0_7.index t 1 = 0 := by decide +kernel

/-- Which block of the final scale a grid point takes. -/
theorem idx8 : ∀ t : Fin grid0.N, win0_8.index t 0 = 0 ∧ win0_8.index t 1 = 0 := by decide +kernel

/-- Which block of the result a grid point takes. -/
theorem idx9 : ∀ t : Fin grid0.N, win0_9.index t 0 = t.val ∧ win0_9.index t 1 = 0 := by decide +kernel

/-- A point's block of the first group's rows. -/
theorem iblk0 (t : Fin cfg0.N) (r : Fin 512) (k : Fin 512) :
    (iblk m c 0 t : Vec Ideal S512x512 .bf16) (ix2 r k)
      = m ((c : Thread nD τ).loc main_arg0) (ix2 (n0 := 16384) (n1 := 512) ⟨t.val * 512 + r.val, by have h : t.val < 32 := t.isLt; omega⟩ k) := by
  have hi := idx0 t
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 512 + 1 * k.val = k.val; rw [hi.2]; omega

/-- A point's block of the second group's rows. -/
theorem iblk1 (t : Fin cfg0.N) (r : Fin 512) (k : Fin 512) :
    (iblk m c 1 t : Vec Ideal S512x512 .bf16) (ix2 r k)
      = m ((c : Thread nD τ).loc main_arg1) (ix2 (n0 := 16384) (n1 := 512) ⟨t.val * 512 + r.val, by have h : t.val < 32 := t.isLt; omega⟩ k) := by
  have hi := idx1 t
  unfold iblk
  rw [View.read_apply]
  show V m c main_arg1 _ = m (c.tc.loc main_arg1) _
  unfold V
  congr 1
  funext a
  apply Fin.ext
  match a with
  | ⟨0, _⟩ => show win0_1.index t 0 * 512 + 1 * r.val = t.val * 512 + r.val; rw [hi.1]; omega
  | ⟨1, _⟩ => show win0_1.index t 1 * 512 + 1 * k.val = k.val; rw [hi.2]; omega

/-- A point's block of the memory's queries. -/
theorem iblk2 (t : Fin cfg0.N) (r : Fin 512) (k : Fin 512) :
    (iblk m c 2 t : Vec Ideal S512x512 .bf16) (ix2 r k)
      = m ((c : Thread nD τ).loc main_arg2) (ix2 (n0 := 16384) (n1 := 512) ⟨t.val * 512 + r.val, by have h : t.val < 32 := t.isLt; omega⟩ k) := by
  have hi := idx2 t
  unfold iblk
  rw [View.read_apply]
  show V m c main_arg2 _ = m (c.tc.loc main_arg2) _
  unfold V
  congr 1
  funext a
  apply Fin.ext
  match a with
  | ⟨0, _⟩ => show win0_2.index t 0 * 512 + 1 * r.val = t.val * 512 + r.val; rw [hi.1]; omega
  | ⟨1, _⟩ => show win0_2.index t 1 * 512 + 1 * k.val = k.val; rw [hi.2]; omega

/-- A point's block of the memory's gates. -/
theorem iblk3 (t : Fin cfg0.N) (r : Fin 512) (k : Fin 512) :
    (iblk m c 3 t : Vec Ideal S512x512 .bf16) (ix2 r k)
      = m ((c : Thread nD τ).loc main_arg3) (ix2 (n0 := 16384) (n1 := 512) ⟨t.val * 512 + r.val, by have h : t.val < 32 := t.isLt; omega⟩ k) := by
  have hi := idx3 t
  unfold iblk
  rw [View.read_apply]
  show V m c main_arg3 _ = m (c.tc.loc main_arg3) _
  unfold V
  congr 1
  funext a
  apply Fin.ext
  match a with
  | ⟨0, _⟩ => show win0_3.index t 0 * 512 + 1 * r.val = t.val * 512 + r.val; rw [hi.1]; omega
  | ⟨1, _⟩ => show win0_3.index t 1 * 512 + 1 * k.val = k.val; rw [hi.2]; omega

/-- A point's block of the layer's input. -/
theorem iblk7 (t : Fin cfg0.N) (r : Fin 512) (k : Fin 1024) :
    (iblk m c 7 t : Vec Ideal S512x1024 .f32) (ix2 r k)
      = m ((c : Thread nD τ).loc main_arg7) (ix2 (n0 := 16384) (n1 := 1024) ⟨t.val * 512 + r.val, by have h : t.val < 32 := t.isLt; omega⟩ k) := by
  have hi := idx7 t
  unfold iblk
  rw [View.read_apply]
  show V m c main_arg7 _ = m (c.tc.loc main_arg7) _
  unfold V
  congr 1
  funext a
  apply Fin.ext
  match a with
  | ⟨0, _⟩ => show win0_7.index t 0 * 512 + 1 * r.val = t.val * 512 + r.val; rw [hi.1]; omega
  | ⟨1, _⟩ => show win0_7.index t 1 * 1024 + 1 * k.val = k.val; rw [hi.2]; omega

/-- A point's block of the memory's keys. -/
theorem iblk4 (t : Fin cfg0.N) (r : Fin 512) (k : Fin 256) :
    (iblk m c 4 t : Vec Ideal S1x512x256 .bf16) (ix3 0 r k)
      = m ((c : Thread nD τ).loc main_arg4) (ix3 (n0 := 2) (n1 := 512) (n2 := 256) ⟨t.val / 16, by have h : t.val < 32 := t.isLt; omega⟩ r k) := by
  have hi := idx4 t
  unfold iblk
  rw [View.read_apply]
  show V m c main_arg4 _ = m (c.tc.loc main_arg4) _
  unfold V
  congr 1
  funext a
  apply Fin.ext
  match a with
  | ⟨0, _⟩ => show win0_4.index t 0 * 1 + 1 * 0 = t.val / 16; rw [hi.1]; omega
  | ⟨1, _⟩ => show win0_4.index t 1 * 512 + 1 * r.val = r.val; rw [hi.2.1]; omega
  | ⟨2, _⟩ => show win0_4.index t 2 * 256 + 1 * k.val = k.val; rw [hi.2.2]; omega

/-- A point's block of the memory's values. -/
theorem iblk5 (t : Fin cfg0.N) (r : Fin 256) (k : Fin 512) :
    (iblk m c 5 t : Vec Ideal S1x256x512 .bf16) (ix3 0 r k)
      = m ((c : Thread nD τ).loc main_arg5) (ix3 (n0 := 2) (n1 := 256) (n2 := 512) ⟨t.val / 16, by have h : t.val < 32 := t.isLt; omega⟩ r k) := by
  have hi := idx5 t
  unfold iblk
  rw [View.read_apply]
  show V m c main_arg5 _ = m (c.tc.loc main_arg5) _
  unfold V
  congr 1
  funext a
  apply Fin.ext
  match a with
  | ⟨0, _⟩ => show win0_5.index t 0 * 1 + 1 * 0 = t.val / 16; rw [hi.1]; omega
  | ⟨1, _⟩ => show win0_5.index t 1 * 256 + 1 * r.val = r.val; rw [hi.2.1]; omega
  | ⟨2, _⟩ => show win0_5.index t 2 * 512 + 1 * k.val = k.val; rw [hi.2.2]; omega

/-- Every point reads the whole matrix. -/
theorem iblk6 (t : Fin cfg0.N) (r : Fin 1536) (k : Fin 1024) :
    (iblk m c 6 t : Vec Ideal S1536x1024 .bf16) (ix2 r k) = m ((c : Thread nD τ).loc main_arg6) (ix2 (n0 := 1536) (n1 := 1024) r k) := by
  have hi := idx6 t
  unfold iblk
  rw [View.read_apply]
  show V m c main_arg6 _ = m (c.tc.loc main_arg6) _
  unfold V
  congr 1
  funext a
  apply Fin.ext
  match a with
  | ⟨0, _⟩ => show win0_6.index t 0 * 1536 + 1 * r.val = r.val; rw [hi.1]; omega
  | ⟨1, _⟩ => show win0_6.index t 1 * 1024 + 1 * k.val = k.val; rw [hi.2]; omega

/-- Every point reads the whole final scale. -/
theorem iblk8 (t : Fin cfg0.N) (r : Fin 1) (k : Fin 1024) :
    (iblk m c 8 t : Vec Ideal S1x1024 .f32) (ix2 r k) = m ((c : Thread nD τ).loc main_arg8) (ix2 (n0 := 1) (n1 := 1024) r k) := by
  have hi := idx8 t
  unfold iblk
  rw [View.read_apply]
  show V m c main_arg8 _ = m (c.tc.loc main_arg8) _
  unfold V
  congr 1
  funext a
  apply Fin.ext
  match a with
  | ⟨0, _⟩ => show win0_8.index t 0 * 1 + 1 * r.val = r.val; rw [hi.1]; omega
  | ⟨1, _⟩ => show win0_8.index t 1 * 1024 + 1 * k.val = k.val; rw [hi.2]; omega

/-! ## The array -/

/-- Row `r` and lane `k` of the gated memory. -/
def memory (r : Fin 16384) (k : Fin 512) : EReal :=
  mix (scores (fun d => m ((c : Thread nD τ).loc main_arg2) (ix2 (n0 := 16384) (n1 := 512) r ⟨k.val / 128 * 128 + d.val, by omega⟩))
      (fun d n => m ((c : Thread nD τ).loc main_arg4) (ix3 (n0 := 2) (n1 := 512) (n2 := 256) ⟨r.val / 8192, by omega⟩ ⟨k.val / 128 * 128 + d.val, by omega⟩ n)))
    (fun n => m ((c : Thread nD τ).loc main_arg5) (ix3 (n0 := 2) (n1 := 256) (n2 := 512) ⟨r.val / 8192, by omega⟩ n k))
    * gate (m ((c : Thread nD τ).loc main_arg3) (ix2 (n0 := 16384) (n1 := 512) r k))

/-- Row `r` of the result. -/
def row (r : Fin 16384) : Fin 1024 → EReal :=
  normed (summed (fun j => m ((c : Thread nD τ).loc main_arg7) (ix2 (n0 := 16384) (n1 := 1024) r j))
    (fun k => m ((c : Thread nD τ).loc main_arg0) (ix2 (n0 := 16384) (n1 := 512) r k))
    (fun k => m ((c : Thread nD τ).loc main_arg1) (ix2 (n0 := 16384) (n1 := 512) r k)) (fun k => memory m c r k)
    (fun k j => m ((c : Thread nD τ).loc main_arg6) (ix2 (n0 := 1536) (n1 := 1024) k j)))
    (fun j => m ((c : Thread nD τ).loc main_arg8) (ix2 (n0 := 1) (n1 := 1024) 0 j))

/-- The array of results. -/
def result : Buf (Elt Ideal) ((c : Thread nD τ).loc main_v0) := fun p : S16384x1024.Idx => row m c (p 0) (p 1)

/-- A point's row of the gated memory. -/
theorem gated_memory (t : Fin cfg0.N) (r : Fin 512) (R : Fin 16384) (hR : R.val = t.val * 512 + r.val) (k : Fin 512) :
    gated (iblk m c 2 t) (iblk m c 3 t) (iblk m c 4 t) (iblk m c 5 t) r k = memory m c R k := by
  have e : R = ⟨t.val * 512 + r.val, by clear hR; have h : t.val < 32 := t.isLt; omega⟩ := Fin.ext hR
  subst e
  have e' : (t.val * 512 + r.val) / 8192 = t.val / 16 := by have h := r.isLt; omega
  unfold gated memory
  simp only [e', iblk2, iblk3, iblk4, iblk5]

/-- A point's block of results. -/
theorem block_row (t : Fin cfg0.N) (y : S512x1024.Idx) (p : S16384x1024.Idx) (h0 : (p 0).val = t.val * 512 + (y 0).val) (h1 : (p 1).val = (y 1).val) :
    out0_9 (iblk m c 0 t) (iblk m c 1 t) (iblk m c 2 t) (iblk m c 3 t) (iblk m c 4 t) (iblk m c 5 t) (iblk m c 6 t) (iblk m c 7 t) (iblk m c 8 t) y
      = row m c (p 0) (p 1) := by
  refine (block_apply _ _ _ _ _ _ _ _ _ y).trans ?_
  have e : p 0 = ⟨t.val * 512 + (y 0).val, by have h : t.val < 32 := t.isLt; have h' : (y 0).val < 512 := (y 0).isLt; omega⟩ := Fin.ext h0
  have e1 : p 1 = y 1 := Fin.ext h1
  unfold row
  rw [e1]
  refine congrArg₂ (fun f g => normed f g _) ?_ (funext fun j => iblk8 m c t 0 j)
  have f0 : (fun k : Fin 512 => (iblk m c 0 t : Vec Ideal S512x512 .bf16) (ix2 (y 0) k)) = fun k => m ((c : Thread nD τ).loc main_arg0) (ix2 (n0 := 16384) (n1 := 512) (p 0) k) :=
    funext fun k => by rw [e]; exact iblk0 m c t (y 0) k
  have f1 : (fun k : Fin 512 => (iblk m c 1 t : Vec Ideal S512x512 .bf16) (ix2 (y 0) k)) = fun k => m ((c : Thread nD τ).loc main_arg1) (ix2 (n0 := 16384) (n1 := 512) (p 0) k) :=
    funext fun k => by rw [e]; exact iblk1 m c t (y 0) k
  have f7 : (fun j : Fin 1024 => (iblk m c 7 t : Vec Ideal S512x1024 .f32) (ix2 (y 0) j)) = fun j => m ((c : Thread nD τ).loc main_arg7) (ix2 (n0 := 16384) (n1 := 1024) (p 0) j) :=
    funext fun k => by rw [e]; exact iblk7 m c t (y 0) k
  have f6 : (fun (k : Fin 1536) (j : Fin 1024) => (iblk m c 6 t : Vec Ideal S1536x1024 .bf16) (ix2 k j)) = fun k j => m ((c : Thread nD τ).loc main_arg6) (ix2 (n0 := 1536) (n1 := 1024) k j) :=
    funext fun k => funext fun j => iblk6 m c t k j
  have fg : (fun k : Fin 512 => gated (iblk m c 2 t) (iblk m c 3 t) (iblk m c 4 t) (iblk m c 5 t) (y 0) k) = fun k => memory m c (p 0) k :=
    funext fun k => gated_memory m c t (y 0) (p 0) h0 k
  rw [f0, f1, f7, f6, fg]

/-- Every point writes its block of results. -/
theorem flushed_result (t : Fin cfg0.N) (hf : (cfg0.win 9).flush t = true) :
    (dats m 0 c).flushed 9 t = ((cfg0.win 9).blk t).view.read (Elt Ideal) (result m c) := by
  rw [Value.flushed9]
  funext j
  rw [View.read_apply]
  have hi := idx9 t
  refine block_row m c t j _ ?_ ?_
  · show win0_9.index t 0 * 512 + 1 * (j 0).val = t.val * 512 + (j 0).val
    rw [hi.1]; omega
  · show win0_9.index t 1 * 1024 + 1 * (j 1).val = (j 1).val
    rw [hi.2]; omega

/-- The grid point that holds a row. -/
def pointOf (r : Fin 16384) : Fin cfg0.N := ⟨r.val / 512, by have h := r.isLt; show r.val / 512 < 32; omega⟩

/-- The array of results after the run. -/
theorem final_result : (dats m 0 c).arrAt 9 cfg0.N = result m c :=
  (dats m 0 c).arrAt_eq_of_cover 9 (result m c) (flushed_result m c) fun i =>
    ⟨pointOf (i 0), flush0_9 _, by
      show i ∈ ((View.whole main_v0).slice (win0_9.rect (pointOf (i 0)))).set
      rw [View.set_slice_whole, Rect.mem_set_unit]
      intro a
      have hi := idx9 (pointOf (i 0))
      have h0 : (i 0 : Nat) < 16384 := (i 0).isLt
      have h1 : (i 1 : Nat) < 1024 := (i 1).isLt
      have hp : (pointOf (i 0)).val = (i 0 : Nat) / 512 := rfl
      match a with
      | ⟨0, _⟩ =>
        show win0_9.index _ 0 * 512 ≤ (i 0 : Nat) ∧ (i 0 : Nat) < win0_9.index _ 0 * 512 + 512
        rw [hi.1, hp]; omega
      | ⟨1, _⟩ =>
        show win0_9.index _ 1 * 1024 ≤ (i 1 : Nat) ∧ (i 1 : Nat) < win0_9.index _ 1 * 1024 + 1024
        rw [hi.2]; omega⟩

end Cert.OutputIdeal.Out

end
-- ==== Proof.OutputRefVal.lean ====
/- The reference's output projection, element by element. -/
module

public import proofs.«01_k».proof.Proof.Gen.OutputRefIdeal.Read
public import proofs.«01_k».proof.Proof.Mix
public import Idealize.ShloMosaic.Lib.IdealHost
public import Idealize.ShloMosaic.Lib.Pointwise

@[expose] public section

set_option maxRecDepth 16384

noncomputable section

namespace Cert.OutputRefIdeal.Out

open Cert.OutputRefIdeal Cert.OutputRefIdeal.Gen Cert.OutputRefIdeal.Read Idealize.ShloMosaic Idealize.ShloMosaic.TcCoe
open Cert.Layer
open scoped BigOperators

/-- A part of the rows. -/
abbrev AArr : Type := BufTy.Contents (Elt Ideal) (⟨S16384x512, .bf16⟩ : BufTy)
/-- The memory's keys, transposed. -/
abbrev KArr : Type := BufTy.Contents (Elt Ideal) (⟨S2x512x256, .bf16⟩ : BufTy)
/-- The memory's values. -/
abbrev VArr : Type := BufTy.Contents (Elt Ideal) (⟨S2x256x512, .bf16⟩ : BufTy)
/-- The weights. -/
abbrev WArr : Type := BufTy.Contents (Elt Ideal) (⟨S1536x1024, .bf16⟩ : BufTy)
/-- The rows. -/
abbrev XArr : Type := BufTy.Contents (Elt Ideal) (⟨S16384x1024, .f32⟩ : BufTy)
/-- A scale. -/
abbrev GArr : Type := BufTy.Contents (Elt Ideal) (⟨S1x1024, .f32⟩ : BufTy)
/-- A part of the rows as plain numbers. -/
abbrev XIn : Type := S16384x512.Idx → EReal

/-- The scores of row `r` in the head that lane `k` lies in. -/
def sc (Q : AArr) (K : KArr) (r : Fin 16384) (k : Fin 512) : Fin 256 → EReal :=
  scores (fun d => Q (ix2 r ⟨k.val / 128 * 128 + d.val, by omega⟩)) (fun d n => K (ix3 ⟨r.val / 8192, by omega⟩ ⟨k.val / 128 * 128 + d.val, by omega⟩ n))

/-- The scaled products of queries and keys. -/
theorem score_apply (Q : AArr) (K : KArr) (i : S2x4x8192x256.Idx) (r : Fin 16384) (k : Fin 512) (hr : r.val = (i 0).val * 8192 + (i 2).val)
    (hk : k.val / 128 = (i 1).val) : val_main_v13 (F := Ideal) Q K i = sc Q K r k (i 3) := by
  have h0 : (i 0).val < 2 := (i 0).isLt
  have h1 : (i 1).val < 4 := (i 1).isLt
  have h2 : (i 2).val < 8192 := (i 2).isLt
  have h3 : (i 3).val < 256 := (i 3).isLt
  rw [val_main_v13_apply, val_main_v12_apply, val_main_cst_apply, val_main_v11_apply]
  unfold sc scores
  refine congrArg (fun x : EReal => x * Ideal.ofBits FTy.f32 0x3DB504F3#32) (Finset.sum_congr rfl fun d _ => ?_)
  rw [val_main_v10_apply, val_main_v2_apply, val_main_v8_apply, val_main_v7_apply, val_main_v4_apply]
  refine congrArg₂ (fun a b : EReal => a * b) (congrArg Q (funext fun a => ?_)) (congrArg K (funext fun a => ?_))
  · match a with
    | ⟨0, _⟩ =>
      refine Fin.ext ?_
      show ((((i 0).val * 8192 + (i 2).val) * 4 + (i 1).val) * 128 + d.val) / 512 = r.val
      omega
    | ⟨1, _⟩ =>
      refine Fin.ext ?_
      show ((((i 0).val * 8192 + (i 2).val) * 4 + (i 1).val) * 128 + d.val) % 512 = k.val / 128 * 128 + d.val
      omega
  · match a with
    | ⟨0, _⟩ =>
      refine Fin.ext ?_
      show ((((i 0).val * 256 + (i 3).val) * 4 + (i 1).val) * 128 + d.val) / 131072 = r.val / 8192
      omega
    | ⟨1, _⟩ =>
      refine Fin.ext ?_
      show ((((i 0).val * 256 + (i 3).val) * 4 + (i 1).val) * 128 + d.val) % 512 = k.val / 128 * 128 + d.val
      omega
    | ⟨2, _⟩ =>
      refine Fin.ext ?_
      show ((((i 0).val * 256 + (i 3).val) * 4 + (i 1).val) * 128 + d.val) / 512 % 256 = (i 3).val
      omega

/-- The bit pattern of the maximum's start. -/
theorem bot_f32 : Ideal.ofBits FTy.f32 0xFF800000#32 = ⊥ := by
  simp [Ideal.ofBits, Ideal.ieee]

/-- The largest score of a row. -/
theorem max_apply (Q : AArr) (K : KArr) (i : S2x4x8192.Idx) (r : Fin 16384) (k : Fin 512) (hr : r.val = (i 0).val * 8192 + (i 2).val)
    (hk : k.val / 128 = (i 1).val) : val_main_v16 (F := Ideal) Q K i = Finset.univ.sup (sc Q K r k) := by
  rw [val_main_v16_apply, val_main_v15_apply, val_main_cst_1_apply]
  unfold val_main_v14
  rw [Host.reduce_eq_fold_single _ _ _ _ (by decide : S2x4x8192x256.Reduces [3] S2x4x8192) _ _, val_main_cst_0_apply]
  show max (Ideal.ofBits FTy.f32 0xFF800000#32) (Finset.fold max (Ideal.ofBits FTy.f32 0xFF800000#32) _ _) = _
  rw [bot_f32, bot_sup_eq]
  refine Finset.sup_congr rfl fun n _ => ?_
  exact score_apply Q K _ r k hr hk

/-- The weight of an entry. -/
theorem weight_apply (Q : AArr) (K : KArr) (i : S2x4x8192x256.Idx) (r : Fin 16384) (k : Fin 512) (hr : r.val = (i 0).val * 8192 + (i 2).val)
    (hk : k.val / 128 = (i 1).val) : val_main_v20 (F := Ideal) Q K i = weight (sc Q K r k) (i 3) := by
  rw [val_main_v20_apply, val_main_v19_apply, score_apply Q K i r k hr hk, val_main_v18_apply, val_main_v17_apply,
    max_apply Q K (idx_main_v17 (idx_main_v18 i)) r k hr hk]
  rfl

/-- The sum of a row's weights. -/
theorem total_apply (Q : AArr) (K : KArr) (i : S2x4x8192.Idx) (r : Fin 16384) (k : Fin 512) (hr : r.val = (i 0).val * 8192 + (i 2).val)
    (hk : k.val / 128 = (i 1).val) : val_main_v21 (F := Ideal) Q K i = ∑ n, weight (sc Q K r k) n := by
  rw [val_main_v21_apply, val_main_cst_2_apply]
  show Ideal.ofBits FTy.f32 0x00000000#32 + _ = _
  rw [Ideal.ofBits_zero_f32, zero_add]
  exact Finset.sum_congr rfl fun n _ => weight_apply Q K _ r k hr hk

/-- A row's values under its softmax. -/
theorem mixed_apply (Q : AArr) (K : KArr) (V : VArr) (r : Fin 16384) (k : Fin 512) :
    val_main_v27 (F := Ideal) Q K V (ix2 r k)
      = ∑ n, (V (ix3 ⟨r.val / 8192, by omega⟩ n k) : EReal) * Ideal.div (weight (sc Q K r k) n) (∑ n, weight (sc Q K r k) n) := by
  have h0 := r.isLt
  have h1 := k.isLt
  rw [val_main_v27_apply, val_main_v26_apply, val_main_v25_apply]
  refine Finset.sum_congr rfl fun n _ => ?_
  have e0 : r.val = (r.val * 512 + k.val) / 4194304 * 8192 + (r.val * 512 + k.val) / 512 % 8192 := by omega
  have e1 : k.val / 128 = (r.val * 512 + k.val) / 128 % 4 := by omega
  rw [val_main_v9_apply, val_main_v5_apply, val_main_v24_apply, val_main_v23_apply, val_main_v22_apply]
  have w := weight_apply Q K (ridx_main_v25 (idx_main_v26 (idx_main_v27 (ix2 r k))) n) r k e0 e1
  have u := total_apply Q K (idx_main_v22 (idx_main_v23 (ridx_main_v25 (idx_main_v26 (idx_main_v27 (ix2 r k))) n))) r k e0 e1
  rw [w, u]
  refine congrArg₂ (fun a b : EReal => a * b) (congrArg V (funext fun a => ?_)) rfl
  match a with
  | ⟨0, _⟩ =>
    refine Fin.ext ?_
    show (((((r.val * 512 + k.val) / 4194304) * 256 + n.val) * 4 + (r.val * 512 + k.val) / 128 % 4) * 128 + (r.val * 512 + k.val) % 128) / 131072 = r.val / 8192
    omega
  | ⟨1, _⟩ =>
    refine Fin.ext ?_
    show (((((r.val * 512 + k.val) / 4194304) * 256 + n.val) * 4 + (r.val * 512 + k.val) / 128 % 4) * 128 + (r.val * 512 + k.val) % 128) / 512 % 256 = n.val
    omega
  | ⟨2, _⟩ =>
    refine Fin.ext ?_
    show (((((r.val * 512 + k.val) / 4194304) * 256 + n.val) * 4 + (r.val * 512 + k.val) / 128 % 4) * 128 + (r.val * 512 + k.val) % 128) % 512 = k.val
    omega

/-- The gate. -/
theorem gate_apply (g : AArr) (i : S16384x512.Idx) : val_main_v28 (F := Ideal) g i = gate (g i) := by
  rw [val_main_v28_apply, val_main_call0_v5_apply, val_main_call0_v4_apply, val_main_call0_cst_0_apply, val_main_call0_v3_apply,
    val_main_call0_v2_apply, val_main_call0_cst_apply, val_main_call0_v1_apply, val_main_call0_v0_apply, val_main_v3_apply, ← gate_eq]
  show (g i : EReal) * Ideal.div (Ideal.ofBits FTy.f32 0x3F800000#32) (Ideal.ofBits FTy.f32 0x3F800000#32 + Ideal.exp (-(g i : EReal))) = _
  rw [Ideal.ofBits_one_f32]

/-- A row's gated memory, when queries and keys are real. -/
theorem memory_apply (Q g : AArr) (K : KArr) (V : VArr) (hQ : ∀ i, Q i = (EReal.toReal (Q i) : EReal)) (hK : ∀ i, K i = (EReal.toReal (K i) : EReal))
    (r : Fin 16384) (k : Fin 512) :
    val_main_v29 (F := Ideal) Q g K V (ix2 r k) = mix (sc Q K r k) (fun n => V (ix3 ⟨r.val / 8192, by omega⟩ n k)) * gate (g (ix2 r k)) := by
  rw [val_main_v29_apply, gate_apply, mixed_apply]
  obtain ⟨s, hs⟩ := scores_real (fun d => EReal.toReal (Q (ix2 r ⟨k.val / 128 * 128 + d.val, by omega⟩)))
    (fun d n => EReal.toReal (K (ix3 ⟨r.val / 8192, by omega⟩ ⟨k.val / 128 * 128 + d.val, by omega⟩ n)))
  have e : sc Q K r k = fun n => (s n : EReal) := by
    rw [← hs]
    unfold sc
    exact congrArg₂ scores (funext fun d => hQ _) (funext fun d => funext fun n => hK _)
  rw [e]
  exact congrArg (fun x : EReal => x * gate (g (ix2 r k))) (mix_eq s _)

/-- A sum over 1536 terms in three parts. -/
theorem sum_three (f : Fin 1536 → EReal) :
    ∑ k, f k = ∑ k : Fin 512, f ⟨k.val, by omega⟩ + ∑ k : Fin 512, f ⟨512 + k.val, by omega⟩ + ∑ k : Fin 512, f ⟨1024 + k.val, by omega⟩ := by
  have h := Fin.sum_univ_add (a := 1024) (b := 512) f
  have h' := Fin.sum_univ_add (a := 512) (b := 512) fun k => f (Fin.castAdd 512 k)
  exact h.trans (congrArg (· + _) h')

/-- Three arrays side by side, at a lane. -/
theorem cat_apply (a b c : XIn) (r : Fin 16384) (k : Fin 1536) :
    concatenate (α := EReal) S16384x1536 1 [⟨S16384x512, a⟩, ⟨S16384x512, b⟩, ⟨S16384x512, c⟩] concatenates_S16384x512_S16384x512_S16384x512_S16384x1536_d1 (ix2 r k)
      = if h : k.val < 512 then a (ix2 r ⟨k.val, h⟩) else if h : k.val - 512 < 512 then b (ix2 r ⟨k.val - 512, h⟩) else c (ix2 r ⟨k.val - 512 - 512, by omega⟩) := by
  pointwise []

/-- A row before its norm. -/
theorem summed_apply (A B Q g : AArr) (K : KArr) (V : VArr) (W : WArr) (X : XArr) (r : Fin 16384) (j : Fin 1024) :
    val_main_v32 (F := Ideal) A B Q g K V W X (ix2 r j)
      = summed (fun j => X (ix2 r j)) (fun k => A (ix2 r k)) (fun k => B (ix2 r k)) (fun k => val_main_v29 (F := Ideal) Q g K V (ix2 r k))
          (fun k j => W (ix2 k j)) j := by
  rw [val_main_v32_apply, val_main_v31_apply]
  unfold summed
  refine congrArg (fun x : EReal => (X (ix2 r j) : EReal) + x) ?_
  have e : ∀ k : Fin 1536, (val_main_v30 (F := Ideal) A B Q g K V (lidx_main_v31 (ix2 r j) k) : EReal) * val_main_v6 (F := Ideal) W (ridx_main_v31 (ix2 r j) k)
      = (if h : k.val < 512 then A (ix2 r ⟨k.val, h⟩) else if h : k.val - 512 < 512 then B (ix2 r ⟨k.val - 512, h⟩)
          else val_main_v29 (F := Ideal) Q g K V (ix2 r ⟨k.val - 512 - 512, by omega⟩) : EReal) * W (ix2 k j) := by
    intro k
    have el : lidx_main_v31 (ix2 r j) k = ix2 r k := funext fun a => by match a with | ⟨0, _⟩ => rfl | ⟨1, _⟩ => rfl
    have er : ridx_main_v31 (ix2 r j) k = ix2 k j := funext fun a => by match a with | ⟨0, _⟩ => rfl | ⟨1, _⟩ => rfl
    rw [el, er]
    unfold val_main_v30
    exact congrArg (fun x : EReal => x * (W (ix2 k j) : EReal)) (cat_apply _ _ _ r k)
  refine (Finset.sum_congr rfl fun k _ => e k).trans ((sum_three _).trans ?_)
  refine congrArg₂ (fun a b : EReal => a + b) (congrArg₂ (fun a b : EReal => a + b) ?_ ?_) ?_
  · refine Finset.sum_congr rfl fun k _ => ?_
    rw [dif_pos k.isLt]
  · refine Finset.sum_congr rfl fun k _ => ?_
    have h := k.isLt
    rw [dif_neg (by show ¬ 512 + k.val < 512; omega), dif_pos (by show 512 + k.val - 512 < 512; omega)]
    have ek : (⟨512 + k.val - 512, by omega⟩ : Fin 512) = k := Fin.ext (by show 512 + k.val - 512 = k.val; omega)
    exact congrArg (fun q : Fin 512 => (B (ix2 r q) : EReal) * W (ix2 ⟨512 + k.val, by omega⟩ j)) ek
  · refine Finset.sum_congr rfl fun k _ => ?_
    have h := k.isLt
    rw [dif_neg (by show ¬ 1024 + k.val < 512; omega), dif_neg (by show ¬ 1024 + k.val - 512 < 512; omega)]
    have ek : (⟨1024 + k.val - 512 - 512, by omega⟩ : Fin 512) = k := Fin.ext (by show 1024 + k.val - 512 - 512 = k.val; omega)
    exact congrArg (fun q : Fin 512 => (val_main_v29 (F := Ideal) Q g K V (ix2 r q) : EReal) * W (ix2 ⟨1024 + k.val, by omega⟩ j)) ek

/-- The result: a normed row under its scale. -/
theorem normed_apply (A B Q g : AArr) (K : KArr) (V : VArr) (W : WArr) (X : XArr) (G : GArr) (r : Fin 16384) (j : Fin 1024) :
    val_main_v44 (F := Ideal) A B Q g K V W X G (ix2 r j)
      = normed (fun j => val_main_v32 (F := Ideal) A B Q g K V W X (ix2 r j)) (fun j => G (ix2 0 j)) j := by
  rw [val_main_v44_apply, val_main_v43_apply, val_main_v42_apply, val_main_v41_apply, val_main_v40_apply, val_main_v39_apply, val_main_v38_apply,
    val_main_cst_5_apply, val_main_v37_apply, val_main_v36_apply, val_main_cst_4_apply, val_main_v35_apply, val_main_v34_apply, val_main_cst_3_apply]
  unfold normed invRms
  refine congrArg₂ (fun a b : EReal => a * b) (congrArg (fun x : EReal => (val_main_v32 (F := Ideal) A B Q g K V W X (ix2 r j) : EReal) * x) ?_)
    (congrArg G (funext fun a => by match a with | ⟨0, _⟩ => rfl | ⟨1, _⟩ => rfl))
  refine congrArg (fun x : EReal => Ideal.rsqrt (Ideal.div x (Ideal.ofBits FTy.f32 0x44800000#32) + Ideal.ofBits FTy.f32 0x358637BD#32)) ?_
  show Ideal.ofBits FTy.f32 0x00000000#32 + _ = _
  rw [Ideal.ofBits_zero_f32, zero_add]
  refine Finset.sum_congr rfl fun k _ => ?_
  rw [val_main_v33_apply]
  have e : idx_main_v34 (idx_main_v35 (idx_main_v41 (ix2 r j))) k = ix2 r k := funext fun a => by match a with | ⟨0, _⟩ => rfl | ⟨1, _⟩ => rfl
  rw [e]
  rfl

/-- Row `r` of the result, when queries and keys are real. -/
theorem row_apply (A B Q g : AArr) (K : KArr) (V : VArr) (W : WArr) (X : XArr) (G : GArr) (hQ : ∀ i, Q i = (EReal.toReal (Q i) : EReal))
    (hK : ∀ i, K i = (EReal.toReal (K i) : EReal)) (i : S16384x1024.Idx) :
    val_main_v44 (F := Ideal) A B Q g K V W X G i
      = normed (summed (fun j => X (ix2 (i 0) j)) (fun k => A (ix2 (i 0) k)) (fun k => B (ix2 (i 0) k))
          (fun k => mix (scores (fun d => Q (ix2 (i 0) ⟨k.val / 128 * 128 + d.val, by omega⟩))
                (fun d n => K (ix3 ⟨(i 0).val / 8192, by have h : (i 0).val < 16384 := (i 0).isLt; omega⟩ ⟨k.val / 128 * 128 + d.val, by omega⟩ n)))
              (fun n => V (ix3 ⟨(i 0).val / 8192, by have h : (i 0).val < 16384 := (i 0).isLt; omega⟩ n k)) * gate (g (ix2 (i 0) k)))
          (fun k j => W (ix2 k j))) (fun j => G (ix2 0 j)) (i 1) := by
  refine (congrArg (val_main_v44 (F := Ideal) A B Q g K V W X G) (eq_ix2 i)).trans ((normed_apply A B Q g K V W X G (i 0) (i 1)).trans ?_)
  refine congrArg (fun x => normed x (fun j => G (ix2 0 j)) (i 1)) (funext fun j => ?_)
  refine (summed_apply A B Q g K V W X (i 0) j).trans ?_
  exact congrArg (fun c => summed (fun j => X (ix2 (i 0) j)) (fun k => A (ix2 (i 0) k)) (fun k => B (ix2 (i 0) k)) c (fun k j => W (ix2 k j)) j)
    (funext fun k => memory_apply Q g K V hQ hK (i 0) k)

end Cert.OutputRefIdeal.Out

end
-- ==== Proof.Taps.lean ====
/- The short convolution's arithmetic: three rows of a sequence, weighed and added. -/
module

public import Idealize.ShloMosaic.Lib.Pointwise

@[expose] public section

noncomputable section

namespace Cert.Layer

/-- The row a position of a sequence holds, of two sequences of 8192 rows one after the other. -/
def rowHere (u : Fin 16384 → EReal) (b : Fin 2) (s : Fin 8192) : EReal :=
  u ⟨b.val * 8192 + s.val, by have := b.isLt; have := s.isLt; omega⟩

/-- The row before a position of a sequence, and zero before the first. -/
def rowBefore (u : Fin 16384 → EReal) (b : Fin 2) (s : Fin 8192) : EReal :=
  if s.val = 0 then 0 else u ⟨b.val * 8192 + (s.val - 1), by have := b.isLt; have := s.isLt; omega⟩

/-- The row after a position of a sequence, and zero after the last. -/
def rowAfter (u : Fin 16384 → EReal) (b : Fin 2) (s : Fin 8192) : EReal :=
  if h : s.val = 8191 then 0 else u ⟨b.val * 8192 + (s.val + 1), by have := b.isLt; have := s.isLt; omega⟩

/-- Three values weighed and added, and a bias. -/
def taps (p x n w0 w1 w2 b : EReal) : EReal := p * w0 + x * w1 + n * w2 + b

end Cert.Layer

end
-- ==== Proof.ConvVal.lean ====
/- The short convolution as the kernel leaves it, element by element. -/
module

public import proofs.«01_k».proof.Proof.Gen.ConvIdeal.Value
public import proofs.«01_k».proof.Proof.Gen.ConvIdeal.Frame
public import proofs.«01_k».proof.Proof.Taps
public import Idealize.ShloMosaic.Lib.KernelVsHost
public import Idealize.ShloMosaic.Lib.WritesUnit
public import Idealize.ShloMosaic.Lib.Pipeline.ValueKit.Basic
public import Idealize.ShloMosaic.Lib.Pipeline.ValueKit.Tiles
public import Idealize.ShloMosaic.Lib.Pointwise

@[expose] public section

set_option maxRecDepth 16384

noncomputable section

namespace Cert.ConvIdeal.Conv

open Cert.ConvIdeal Cert.ConvIdeal.Gen Idealize.ShloMosaic Idealize.ShloMosaic.TcCoe Idealize.SL.Sem
open Cert.Layer

/-! ## The body's vectors at an index -/

/-- Whether a block is past the first of its sequence. -/
theorem past_first : ∀ a : Fin 16, Scalar.cmpi .sgt (BitVec.ofNat 32 a.val) 0#32 = if a.val = 0 then 0#1 else 1#1 := by decide +kernel
/-- Whether a block is before the last of its sequence. -/
theorem before_last : ∀ a : Fin 16, Scalar.cmpi .slt (BitVec.ofNat 32 a.val) 15#32 = if a.val = 15 then 0#1 else 1#1 := by decide +kernel
/-- Whether a row is the first of its block. -/
theorem row_first : ∀ r : Fin 512, IntOp.cmpi .eq (BitVec.ofNat 32 r.val) 0#32 = if r.val = 0 then 1#1 else 0#1 := by decide +kernel
/-- Whether a row is the last of its block. -/
theorem row_last : ∀ r : Fin 512, IntOp.cmpi .eq (BitVec.ofNat 32 r.val) 511#32 = if r.val = 511 then 1#1 else 0#1 := by decide +kernel

/-- A choice on a bit that is set. -/
theorem select_one {α : Type} (a b : α) : Scalar.select 1#1 a b = a := rfl
/-- A choice on a bit that is not set. -/
theorem select_zero {α : Type} (a b : α) : Scalar.select 0#1 a b = b := rfl

/-- A block turned by one row holds the row before. -/
theorem turn_one (v : FVec Ideal S512x1536 .f32) (r : Fin 512) (k : Fin 1536) (h : r.val ≠ 0) :
    dynamicRotate 0 1#32 none v rotates_S512x1536_d0 (ix2 r k) = v (ix2 (n0 := 512) ⟨r.val - 1, by have := r.isLt; omega⟩ k) := by
  have hr := r.isLt
  refine dynamicRotate_apply _ _ _ _ _ _ fun b => ?_
  match b with
  | ⟨0, _⟩ => show r.val - 1 = (r.val + 512 - 1 % 512) % 512; omega
  | ⟨1, _⟩ => rfl

/-- A block turned by 511 rows holds the row after. -/
theorem turn_back (v : FVec Ideal S512x1536 .f32) (r : Fin 512) (k : Fin 1536) (h : r.val ≠ 511) :
    dynamicRotate 0 511#32 none v rotates_S512x1536_d0 (ix2 r k) = v (ix2 (n0 := 512) ⟨r.val + 1, by have := r.isLt; omega⟩ k) := by
  have hr := r.isLt
  refine dynamicRotate_apply _ _ _ _ _ _ fun b => ?_
  match b with
  | ⟨0, _⟩ => show r.val + 1 = (r.val + 512 - 511 % 512) % 512; omega
  | ⟨1, _⟩ => rfl

/-- The block's rows. -/
theorem pay5_apply (v : Vec Ideal S1x512x1536 .bf16) (r : Fin 512) (k : Fin 1536) : k0_pay5 v (ix2 r k) = v (ix3 0 r k) := by
  pointwise [k0_pay5]

/-- The row after a row of a block, the last one's from the block after and zero where no block follows. -/
def nextOf (i : grid0.Coords) (x : Fin 512 → EReal) (n : EReal) (r : Fin 512) : EReal :=
  if h : r.val = 511 then (if (i 1).val = 15 then 0 else n) else x ⟨r.val + 1, by have := r.isLt; omega⟩

/-- The row before a row of a block, the first one's from the block before and zero where no block precedes. -/
def prevOf (i : grid0.Coords) (x : Fin 512 → EReal) (p : EReal) (r : Fin 512) : EReal :=
  if r.val = 0 then (if (i 1).val = 0 then 0 else p) else x ⟨r.val - 1, by have := r.isLt; omega⟩

/-- The rows after. -/
theorem pay6_apply (i : grid0.Coords) (v : Vec Ideal S1x512x1536 .bf16) (n : Vec Ideal S1x1x1536 .bf16) (r : Fin 512) (k : Fin 1536) :
    k0_pay6 i v n (ix2 r k) = nextOf i (fun r => v (ix3 0 r k)) (n (ix3 0 0 k)) r := by
  have hl := before_last (i 1)
  have hr := row_last r
  unfold nextOf
  by_cases h : r.val = 511
  · rw [dif_pos h]
    rw [if_pos h] at hr
    pointwise [k0_pay6]
    rw [hr, hl, select_one]
    by_cases h1 : (i 1).val = 15
    · rw [if_pos h1, if_pos h1]; rfl
    · rw [if_neg h1, if_neg h1]; rfl
  · rw [dif_neg h]
    rw [if_neg h] at hr
    refine Eq.trans ?_ ((turn_back (k0_pay5 v) r k h).trans (pay5_apply v _ k))
    pointwise [k0_pay6]
    rw [hr, select_zero]

/-- The first two products. -/
theorem pay7_apply (i : grid0.Coords) (v : Vec Ideal S1x512x1536 .bf16) (p : Vec Ideal S1x1x1536 .bf16) (w0 w1 : Vec Ideal S1x1536 .f32)
    (r : Fin 512) (k : Fin 1536) :
    k0_pay7 i v p w0 w1 (ix2 r k)
      = prevOf i (fun r => v (ix3 0 r k)) (p (ix3 0 0 k)) r * w0 (ix2 0 k) + v (ix3 0 r k) * w1 (ix2 0 k) := by
  have hl := past_first (i 1)
  have hr := row_first r
  rw [← pay5_apply v r k]
  unfold prevOf
  by_cases h : r.val = 0
  · rw [if_pos h]
    rw [if_pos h] at hr
    pointwise [k0_pay7]
    rw [hr, hl, select_one]
    by_cases h1 : (i 1).val = 0
    · rw [if_pos h1, if_pos h1]; rfl
    · rw [if_neg h1, if_neg h1]; rfl
  · rw [if_neg h]
    rw [if_neg h] at hr
    refine Eq.trans ?_ (congrArg (fun z : EReal => z * w0 (ix2 0 k) + k0_pay5 v (ix2 r k) * w1 (ix2 0 k))
      ((turn_one (k0_pay5 v) r k h).trans (pay5_apply v _ k)))
    pointwise [k0_pay7]
    rw [hr, select_zero]

/-- The third product and the bias added. -/
theorem pay1_apply (n s : FVec Ideal S512x1536 .f32) (w b : Vec Ideal S1x1536 .f32) (r : Fin 512) (k : Fin 1536) :
    k0_pay1 n s w b (ix2 r k) = s (ix2 r k) + n (ix2 r k) * w (ix2 0 k) + b (ix2 0 k) := by
  pointwise [k0_pay1]

/-- The first third of the channels. -/
theorem pay2_apply (n s : FVec Ideal S512x1536 .f32) (w b : Vec Ideal S1x1536 .f32) (z : Fin 1) (r j : Fin 512) :
    k0_pay2 n s w b (ix3 z r j) = k0_pay1 n s w b (ix2 (n1 := 1536) r ⟨j.val, by have := j.isLt; omega⟩) := by
  pointwise [k0_pay2]

/-- The second third of the channels. -/
theorem pay3_apply (n s : FVec Ideal S512x1536 .f32) (w b : Vec Ideal S1x1536 .f32) (z : Fin 1) (r j : Fin 512) :
    k0_pay3 n s w b (ix3 z r j) = k0_pay1 n s w b (ix2 (n1 := 1536) r ⟨512 + j.val, by have := j.isLt; omega⟩) := by
  pointwise [k0_pay3]

/-- The last third of the channels. -/
theorem pay4_apply (n s : FVec Ideal S512x1536 .f32) (w b : Vec Ideal S1x1536 .f32) (z : Fin 1) (r j : Fin 512) :
    k0_pay4 n s w b (ix3 z r j) = k0_pay1 n s w b (ix2 (n1 := 1536) r ⟨1024 + j.val, by have := j.isLt; omega⟩) := by
  pointwise [k0_pay4]

/-! ## A block of each result from the blocks read -/

/-- A load of a whole block reads the block. -/
theorem ld_whole {s : Shape} {e : EltTy} (x : Vec Ideal s e) {off : Fin s.rank → ℕ} (inb : ∀ b, off b + s.size b ≤ s.size b) (h0 : ∀ b, off b = 0) :
    View.ld x (Rect.unit off s.size inb) = x := View.ld_unit_lit _ _ h0

/-- The last row of the block before. -/
theorem ld_last (x : Vec Ideal S1x16x1536 .bf16) (k : Fin 1536) : View.ld x r0_1 (ix3 0 0 k) = x (ix3 (n1 := 16) 0 15 k) :=
  congrArg x (funext fun a => Fin.ext (by
    match a with
    | ⟨0, _⟩ => rfl
    | ⟨1, _⟩ => rfl
    | ⟨2, _⟩ => show 0 + 1 * k.val = k.val; omega))

/-- The first row of the block after. -/
theorem ld_first (x : Vec Ideal S1x16x1536 .bf16) (k : Fin 1536) : View.ld x r0_2 (ix3 0 0 k) = x (ix3 (n1 := 16) 0 0 k) :=
  congrArg x (funext fun a => Fin.ext (by
    match a with
    | ⟨0, _⟩ => rfl
    | ⟨1, _⟩ => rfl
    | ⟨2, _⟩ => show 0 + 1 * k.val = k.val; omega))

/-- The first row of weights. -/
theorem ld_w0 (x : Vec Ideal S3x1536 .f32) (k : Fin 1536) : View.ld x r0_3 (ix2 0 k) = x (ix2 (n0 := 3) 0 k) :=
  congrArg x (funext fun a => Fin.ext (by
    match a with
    | ⟨0, _⟩ => rfl
    | ⟨1, _⟩ => show 0 + 1 * k.val = k.val; omega))

/-- The second row of weights. -/
theorem ld_w1 (x : Vec Ideal S3x1536 .f32) (k : Fin 1536) : View.ld x r0_4 (ix2 0 k) = x (ix2 (n0 := 3) 1 k) :=
  congrArg x (funext fun a => Fin.ext (by
    match a with
    | ⟨0, _⟩ => rfl
    | ⟨1, _⟩ => show 0 + 1 * k.val = k.val; omega))

/-- The third row of weights. -/
theorem ld_w2 (x : Vec Ideal S3x1536 .f32) (k : Fin 1536) : View.ld x r0_5 (ix2 0 k) = x (ix2 (n0 := 3) 2 k) :=
  congrArg x (funext fun a => Fin.ext (by
    match a with
    | ⟨0, _⟩ => rfl
    | ⟨1, _⟩ => show 0 + 1 * k.val = k.val; omega))

/-- What the body computes for a row and a channel, from the blocks read. -/
def blockConv (i : grid0.Coords) (x0 : Vec Ideal S1x512x1536 .bf16) (x1 x2 : Vec Ideal S1x16x1536 .bf16) (x3 : Vec Ideal S3x1536 .f32)
    (x4 : Vec Ideal S1x1536 .f32) (r : Fin 512) (k : Fin 1536) : EReal :=
  taps (prevOf i (fun r => x0 (ix3 0 r k)) (x1 (ix3 (n1 := 16) 0 15 k)) r) (x0 (ix3 0 r k))
    (nextOf i (fun r => x0 (ix3 0 r k)) (x2 (ix3 (n1 := 16) 0 0 k)) r)
    (x3 (ix2 (n0 := 3) 0 k)) (x3 (ix2 (n0 := 3) 1 k)) (x3 (ix2 (n0 := 3) 2 k)) (x4 (ix2 0 k))

/-- The body's convolution. -/
theorem block_apply (i : grid0.Coords) (x0 : Vec Ideal S1x512x1536 .bf16) (x1 x2 : Vec Ideal S1x16x1536 .bf16) (x3 : Vec Ideal S3x1536 .f32)
    (x4 : Vec Ideal S1x1536 .f32) (r : Fin 512) (k : Fin 1536) :
    k0_pay1 (k0_pay8 i x0 x1 x2 x3 x4) (k0_pay9 i x0 x1 x2 x3 x4) (View.ld x3 r0_5) (View.ld x4 r0_6) (ix2 r k)
      = blockConv i x0 x1 x2 x3 x4 r k := by
  refine (pay1_apply _ _ _ _ r k).trans ?_
  unfold k0_pay8 k0_pay9
  rw [pay6_apply, pay7_apply, ld_last, ld_first, ld_w0, ld_w1, ld_w2]
  unfold r0_0 r0_6
  rw [ld_whole x0 _ (by decide), ld_whole x4 _ (by decide)]
  rfl

/-- The first result's block. -/
theorem out5_apply (i : grid0.Coords) (x0 : Vec Ideal S1x512x1536 .bf16) (x1 x2 : Vec Ideal S1x16x1536 .bf16) (x3 : Vec Ideal S3x1536 .f32)
    (x4 : Vec Ideal S1x1536 .f32) (y : S1x512x512.Idx) :
    out0_5 i x0 x1 x2 x3 x4 y = blockConv i x0 x1 x2 x3 x4 (y 1) ⟨(y 2).val, by have : (y 2).val < 512 := (y 2).isLt; omega⟩ := by
  unfold out0_5
  refine (congrFun (View.canon_cons_unit_lit _ _ _ (by decide)) y).trans ((congrArg _ (eq_ix3 y)).trans ?_)
  exact (pay2_apply _ _ _ _ (y 0) (y 1) (y 2)).trans (block_apply i x0 x1 x2 x3 x4 (y 1) _)

/-- The second result's block. -/
theorem out6_apply (i : grid0.Coords) (x0 : Vec Ideal S1x512x1536 .bf16) (x1 x2 : Vec Ideal S1x16x1536 .bf16) (x3 : Vec Ideal S3x1536 .f32)
    (x4 : Vec Ideal S1x1536 .f32) (y : S1x512x512.Idx) :
    out0_6 i x0 x1 x2 x3 x4 y = blockConv i x0 x1 x2 x3 x4 (y 1) ⟨512 + (y 2).val, by have : (y 2).val < 512 := (y 2).isLt; omega⟩ := by
  unfold out0_6
  refine (congrFun (View.canon_cons_unit_lit _ _ _ (by decide)) y).trans ((congrArg _ (eq_ix3 y)).trans ?_)
  exact (pay3_apply _ _ _ _ (y 0) (y 1) (y 2)).trans (block_apply i x0 x1 x2 x3 x4 (y 1) _)

/-- The last result's block. -/
theorem out7_apply (i : grid0.Coords) (x0 : Vec Ideal S1x512x1536 .bf16) (x1 x2 : Vec Ideal S1x16x1536 .bf16) (x3 : Vec Ideal S3x1536 .f32)
    (x4 : Vec Ideal S1x1536 .f32) (y : S1x512x512.Idx) :
    out0_7 i x0 x1 x2 x3 x4 y = blockConv i x0 x1 x2 x3 x4 (y 1) ⟨1024 + (y 2).val, by have : (y 2).val < 512 := (y 2).isLt; omega⟩ := by
  unfold out0_7
  refine (congrFun (View.canon_cons_unit_lit _ _ _ (by decide)) y).trans ((congrArg _ (eq_ix3 y)).trans ?_)
  exact (pay4_apply _ _ _ _ (y 0) (y 1) (y 2)).trans (block_apply i x0 x1 x2 x3 x4 (y 1) _)

/-! ## The arrays -/

variable (m : (ℓ : Loc nD τ sig) → Buf (Elt Ideal) ℓ)

/-- The two sequences that the region reads. -/
theorem V_seq (c : Dev nD) :
    V m c main_v0 = shapeCast S2x8192x1536 (m ((c : Thread nD τ).loc main_arg0) : FVec Ideal S16384x1536 .bf16) shapeCasts_S16384x1536_S2x8192x1536 := by
  show StableHlo.after hostOps0 (fun b => m (c, b)) (Proc.devRef .tc main_v0) = _
  unfold hostOps0
  after_results_simp
  rfl

/-- The rows of one channel. -/
def rows (c : Dev nD) (k : Fin 1536) (r : Fin 16384) : EReal := m ((c : Thread nD τ).loc main_arg0) (ix2 (n0 := 16384) (n1 := 1536) r k)

/-- A row of a sequence that the region reads. -/
theorem seq_apply (c : Dev nD) (b : Fin 2) (s : Fin 8192) (k : Fin 1536) :
    (V m c main_v0 : FVec Ideal S2x8192x1536 .bf16) (ix3 b s k) = rowHere (rows m c k) b s := by
  rw [V_seq]
  refine shapeCast_apply _ _ _ (ix2 (n0 := 16384) (n1 := 1536) ⟨b.val * 8192 + s.val, by have := b.isLt; have := s.isLt; omega⟩ k) ?_
  rw [Shape.rowMajor_val_two, Shape.rowMajor_val_three]
  rfl

/-- A point's place in the grid. -/
theorem coords_apply : ∀ t : Fin grid0.N, (grid0.coords t 1).val = t.val % 16 := by decide +kernel
/-- Where window 0's block lies at a point. -/
theorem idx0 : ∀ t : Fin grid0.N, win0_0.index t 0 = t.val / 16 ∧ win0_0.index t 1 = t.val % 16 ∧ win0_0.index t 2 = 0 := by decide +kernel
/-- Where the block before lies at a point. -/
theorem idx1 : ∀ t : Fin grid0.N, win0_1.index t 0 = t.val / 16 ∧ win0_1.index t 1 = t.val % 16 * 32 - 1 ∧ win0_1.index t 2 = 0 := by decide +kernel
/-- Where the block after lies at a point. -/
theorem idx2 : ∀ t : Fin grid0.N, win0_2.index t 0 = t.val / 16 ∧ win0_2.index t 1 = min ((t.val % 16 + 1) * 32) 511 ∧ win0_2.index t 2 = 0 := by decide +kernel
/-- Where window 3's block lies at a point. -/
theorem idx3 : ∀ t : Fin grid0.N, win0_3.index t 0 = 0 ∧ win0_3.index t 1 = 0 := by decide +kernel
/-- Where window 4's block lies at a point. -/
theorem idx4 : ∀ t : Fin grid0.N, win0_4.index t 0 = 0 ∧ win0_4.index t 1 = 0 := by decide +kernel
/-- Where window 5's block lies at a point. -/
theorem idx5 : ∀ t : Fin grid0.N, win0_5.index t 0 = t.val / 16 ∧ win0_5.index t 1 = t.val % 16 ∧ win0_5.index t 2 = 0 := by decide +kernel
/-- Where window 6's block lies at a point. -/
theorem idx6 : ∀ t : Fin grid0.N, win0_6.index t 0 = t.val / 16 ∧ win0_6.index t 1 = t.val % 16 ∧ win0_6.index t 2 = 0 := by decide +kernel
/-- Where window 7's block lies at a point. -/
theorem idx7 : ∀ t : Fin grid0.N, win0_7.index t 0 = t.val / 16 ∧ win0_7.index t 1 = t.val % 16 ∧ win0_7.index t 2 = 0 := by decide +kernel

/-- The sequence of a point. -/
abbrev bat (t : Fin cfg0.N) : Fin 2 := ⟨t.val / 16, by have h : t.val < 32 := t.isLt; omega⟩

/-- The position of a row in its sequence. -/
abbrev pos (t : Fin cfg0.N) (r : Fin 512) : Fin 8192 :=
  ⟨t.val % 16 * 512 + r.val, by have := Nat.mod_lt t.val (show 0 < 16 by decide); have := r.isLt; omega⟩

/-- A point's block is 512 rows of its sequence. -/
theorem iblk0 (c : Dev nD) (t : Fin cfg0.N) (r : Fin 512) (k : Fin 1536) :
    (iblk m c 0 t : Vec Ideal S1x512x1536 .bf16) (ix3 0 r k) = rowHere (rows m c k) (bat t) (pos t r) := by
  have hi := idx0 t
  refine Eq.trans ?_ (seq_apply m c (bat t) (pos t r) k)
  unfold iblk
  rw [View.read_apply]
  show V m c main_v0 _ = V m c main_v0 _
  congr 1
  funext a
  apply Fin.ext
  match a with
  | ⟨0, _⟩ => show win0_0.index t 0 * 1 + 1 * 0 = t.val / 16; rw [hi.1]; omega
  | ⟨1, _⟩ => show win0_0.index t 1 * 512 + 1 * r.val = t.val % 16 * 512 + r.val; rw [hi.2.1]; omega
  | ⟨2, _⟩ => show win0_0.index t 2 * 1536 + 1 * k.val = k.val; rw [hi.2.2]; omega

/-- The last row of the block before, where one precedes. -/
theorem iblk1 (c : Dev nD) (t : Fin cfg0.N) (k : Fin 1536) (s : Fin 8192) (hs : s.val + 1 = t.val % 16 * 512) :
    (iblk m c 1 t : Vec Ideal S1x16x1536 .bf16) (ix3 (n1 := 16) 0 15 k) = rowHere (rows m c k) (bat t) s := by
  have hi := idx1 t
  refine Eq.trans ?_ (seq_apply m c (bat t) s k)
  unfold iblk
  rw [View.read_apply]
  show V m c main_v0 _ = V m c main_v0 _
  congr 1
  funext a
  apply Fin.ext
  match a with
  | ⟨0, _⟩ => show win0_1.index t 0 * 1 + 1 * 0 = t.val / 16; rw [hi.1]; omega
  | ⟨1, _⟩ => show win0_1.index t 1 * 16 + 1 * 15 = s.val; rw [hi.2.1]; omega
  | ⟨2, _⟩ => show win0_1.index t 2 * 1536 + 1 * k.val = k.val; rw [hi.2.2]; omega

/-- The first row of the block after, where one follows. -/
theorem iblk2 (c : Dev nD) (t : Fin cfg0.N) (k : Fin 1536) (s : Fin 8192) (hs : s.val = t.val % 16 * 512 + 512) :
    (iblk m c 2 t : Vec Ideal S1x16x1536 .bf16) (ix3 (n1 := 16) 0 0 k) = rowHere (rows m c k) (bat t) s := by
  have hi := idx2 t
  have h := s.isLt
  refine Eq.trans ?_ (seq_apply m c (bat t) s k)
  unfold iblk
  rw [View.read_apply]
  show V m c main_v0 _ = V m c main_v0 _
  congr 1
  funext a
  apply Fin.ext
  match a with
  | ⟨0, _⟩ => show win0_2.index t 0 * 1 + 1 * 0 = t.val / 16; rw [hi.1]; omega
  | ⟨1, _⟩ => show win0_2.index t 1 * 16 + 1 * 0 = s.val; rw [hi.2.1]; omega
  | ⟨2, _⟩ => show win0_2.index t 2 * 1536 + 1 * k.val = k.val; rw [hi.2.2]; omega

/-- Every point reads all the weights. -/
theorem iblk3 (c : Dev nD) (t : Fin cfg0.N) (a : Fin 3) (k : Fin 1536) :
    (iblk m c 3 t : Vec Ideal S3x1536 .f32) (ix2 a k) = m ((c : Thread nD τ).loc main_arg1) (ix2 (n0 := 3) (n1 := 1536) a k) := by
  have hi := idx3 t
  unfold iblk
  rw [View.read_apply]
  show V m c main_arg1 _ = m (c.tc.loc main_arg1) _
  rw [V_main_arg1]
  congr 1
  funext b
  apply Fin.ext
  match b with
  | ⟨0, _⟩ => show win0_3.index t 0 * 3 + 1 * a.val = a.val; rw [hi.1]; omega
  | ⟨1, _⟩ => show win0_3.index t 1 * 1536 + 1 * k.val = k.val; rw [hi.2]; omega

/-- Every point reads the whole bias. -/
theorem iblk4 (c : Dev nD) (t : Fin cfg0.N) (k : Fin 1536) :
    (iblk m c 4 t : Vec Ideal S1x1536 .f32) (ix2 0 k) = m ((c : Thread nD τ).loc main_arg2) (ix2 (n0 := 1) (n1 := 1536) 0 k) := by
  have hi := idx4 t
  unfold iblk
  rw [View.read_apply]
  show V m c main_arg2 _ = m (c.tc.loc main_arg2) _
  rw [V_main_arg2]
  congr 1
  funext b
  apply Fin.ext
  match b with
  | ⟨0, _⟩ => show win0_4.index t 0 * 1 + 1 * 0 = 0; rw [hi.1]
  | ⟨1, _⟩ => show win0_4.index t 1 * 1536 + 1 * k.val = k.val; rw [hi.2]; omega

/-- One channel of the convolution at a position. -/
def conv (c : Dev nD) (b : Fin 2) (s : Fin 8192) (k : Fin 1536) : EReal :=
  taps (rowBefore (rows m c k) b s) (rowHere (rows m c k) b s) (rowAfter (rows m c k) b s)
    (m ((c : Thread nD τ).loc main_arg1) (ix2 (n0 := 3) (n1 := 1536) 0 k)) (m ((c : Thread nD τ).loc main_arg1) (ix2 (n0 := 3) (n1 := 1536) 1 k))
    (m ((c : Thread nD τ).loc main_arg1) (ix2 (n0 := 3) (n1 := 1536) 2 k)) (m ((c : Thread nD τ).loc main_arg2) (ix2 (n0 := 1) (n1 := 1536) 0 k))

/-- The row before, from the blocks a point reads. -/
theorem prev_block (c : Dev nD) (t : Fin cfg0.N) (r : Fin 512) (k : Fin 1536) :
    prevOf (grid0.coords t) (fun r => (iblk m c 0 t : Vec Ideal S1x512x1536 .bf16) (ix3 0 r k))
      ((iblk m c 1 t : Vec Ideal S1x16x1536 .bf16) (ix3 (n1 := 16) 0 15 k)) r = rowBefore (rows m c k) (bat t) (pos t r) := by
  have hc := coords_apply t
  have hm := Nat.mod_lt t.val (show 0 < 16 by decide)
  have hr := r.isLt
  unfold prevOf rowBefore
  by_cases h : r.val = 0
  · rw [if_pos h]
    by_cases h1 : t.val % 16 = 0
    · rw [if_pos (hc.trans h1), if_pos (by show t.val % 16 * 512 + r.val = 0; omega)]
    · rw [if_neg (fun e => h1 (hc.symm.trans e)), if_neg (by show ¬ t.val % 16 * 512 + r.val = 0; omega)]
      exact iblk1 m c t k ⟨t.val % 16 * 512 + r.val - 1, by omega⟩ (by show t.val % 16 * 512 + r.val - 1 + 1 = _; omega)
  · rw [if_neg h, if_neg (by show ¬ t.val % 16 * 512 + r.val = 0; omega)]
    refine (iblk0 m c t ⟨r.val - 1, by omega⟩ k).trans ?_
    unfold rowHere
    refine congrArg _ (Fin.ext ?_)
    show t.val / 16 * 8192 + (t.val % 16 * 512 + (r.val - 1)) = t.val / 16 * 8192 + (t.val % 16 * 512 + r.val - 1)
    omega

/-- The row after, from the blocks a point reads. -/
theorem next_block (c : Dev nD) (t : Fin cfg0.N) (r : Fin 512) (k : Fin 1536) :
    nextOf (grid0.coords t) (fun r => (iblk m c 0 t : Vec Ideal S1x512x1536 .bf16) (ix3 0 r k))
      ((iblk m c 2 t : Vec Ideal S1x16x1536 .bf16) (ix3 (n1 := 16) 0 0 k)) r = rowAfter (rows m c k) (bat t) (pos t r) := by
  have hc := coords_apply t
  have hm := Nat.mod_lt t.val (show 0 < 16 by decide)
  have hr := r.isLt
  unfold nextOf rowAfter
  by_cases h : r.val = 511
  · rw [dif_pos h]
    by_cases h1 : t.val % 16 = 15
    · rw [if_pos (hc.trans h1), dif_pos (by show t.val % 16 * 512 + r.val = 8191; omega)]
    · rw [if_neg (fun e => h1 (hc.symm.trans e)), dif_neg (by show ¬ t.val % 16 * 512 + r.val = 8191; omega)]
      exact iblk2 m c t k ⟨t.val % 16 * 512 + r.val + 1, by omega⟩ (by show t.val % 16 * 512 + r.val + 1 = _; omega)
  · rw [dif_neg h, dif_neg (by show ¬ t.val % 16 * 512 + r.val = 8191; omega)]
    exact iblk0 m c t ⟨r.val + 1, by omega⟩ k

/-- What a point's body computes is the convolution at its rows. -/
theorem block_conv (c : Dev nD) (t : Fin cfg0.N) (r : Fin 512) (k : Fin 1536) :
    blockConv (grid0.coords t) (iblk m c 0 t) (iblk m c 1 t) (iblk m c 2 t) (iblk m c 3 t) (iblk m c 4 t) r k
      = conv m c (bat t) (pos t r) k := by
  unfold blockConv conv
  rw [prev_block, next_block, iblk0, iblk3, iblk3, iblk3, iblk4]

/-- The first third of the channels, as an array. -/
def first (c : Dev nD) : Buf (Elt Ideal) ((c : Thread nD τ).loc main_v1_0) :=
  fun p : S2x8192x512.Idx => conv m c (p 0) (p 1) ⟨(p 2).val, by have : (p 2).val < 512 := (p 2).isLt; omega⟩

/-- A point's block of the first array lies in the array. -/
theorem first_block (c : Dev nD) (t : Fin cfg0.N) (j : S1x512x512.Idx) (p : S2x8192x512.Idx) (h0 : t.val / 16 = (p 0).val)
    (h1 : t.val % 16 * 512 + (j 1).val = (p 1).val) (h2 : (j 2).val = (p 2).val) :
    out0_5 (grid0.coords t) (iblk m c 0 t) (iblk m c 1 t) (iblk m c 2 t) (iblk m c 3 t) (iblk m c 4 t) j = first m c p := by
  refine (out5_apply _ _ _ _ _ _ j).trans ((block_conv m c t (j 1) _).trans ?_)
  unfold first
  exact congr (congrArg₂ (conv m c) (Fin.ext h0) (Fin.ext h1)) (Fin.ext (by show (j 2).val = (p 2).val; omega))

/-- Every point writes its block of the first array. -/
theorem flushed_5 (c : Dev nD) (t : Fin cfg0.N) (hf : (cfg0.win 5).flush t = true) :
    (dats m 0 c).flushed 5 t = ((cfg0.win 5).blk t).view.read (Elt Ideal) (first m c) := by
  rw [Value.flushed5]
  funext j
  rw [View.read_apply]
  have hi := idx5 t
  have h0 : (j 0).val < 1 := (j 0).isLt
  refine first_block m c t j _ ?_ ?_ ?_
  · show t.val / 16 = win0_5.index t 0 * 1 + 1 * (j 0).val
    rw [hi.1]; omega
  · show t.val % 16 * 512 + (j 1).val = win0_5.index t 1 * 512 + 1 * (j 1).val
    rw [hi.2.1]; omega
  · show (j 2).val = win0_5.index t 2 * 512 + 1 * (j 2).val
    rw [hi.2.2]; omega

/-- The second third of the channels, as an array. -/
def second (c : Dev nD) : Buf (Elt Ideal) ((c : Thread nD τ).loc main_v1_1) :=
  fun p : S2x8192x512.Idx => conv m c (p 0) (p 1) ⟨512 + (p 2).val, by have : (p 2).val < 512 := (p 2).isLt; omega⟩

/-- A point's block of the second array lies in the array. -/
theorem second_block (c : Dev nD) (t : Fin cfg0.N) (j : S1x512x512.Idx) (p : S2x8192x512.Idx) (h0 : t.val / 16 = (p 0).val)
    (h1 : t.val % 16 * 512 + (j 1).val = (p 1).val) (h2 : (j 2).val = (p 2).val) :
    out0_6 (grid0.coords t) (iblk m c 0 t) (iblk m c 1 t) (iblk m c 2 t) (iblk m c 3 t) (iblk m c 4 t) j = second m c p := by
  refine (out6_apply _ _ _ _ _ _ j).trans ((block_conv m c t (j 1) _).trans ?_)
  unfold second
  exact congr (congrArg₂ (conv m c) (Fin.ext h0) (Fin.ext h1)) (Fin.ext (by show 512 + (j 2).val = 512 + (p 2).val; omega))

/-- Every point writes its block of the second array. -/
theorem flushed_6 (c : Dev nD) (t : Fin cfg0.N) (hf : (cfg0.win 6).flush t = true) :
    (dats m 0 c).flushed 6 t = ((cfg0.win 6).blk t).view.read (Elt Ideal) (second m c) := by
  rw [Value.flushed6]
  funext j
  rw [View.read_apply]
  have hi := idx6 t
  have h0 : (j 0).val < 1 := (j 0).isLt
  refine second_block m c t j _ ?_ ?_ ?_
  · show t.val / 16 = win0_6.index t 0 * 1 + 1 * (j 0).val
    rw [hi.1]; omega
  · show t.val % 16 * 512 + (j 1).val = win0_6.index t 1 * 512 + 1 * (j 1).val
    rw [hi.2.1]; omega
  · show (j 2).val = win0_6.index t 2 * 512 + 1 * (j 2).val
    rw [hi.2.2]; omega

/-- The third third of the channels, as an array. -/
def third (c : Dev nD) : Buf (Elt Ideal) ((c : Thread nD τ).loc main_v1_2) :=
  fun p : S2x8192x512.Idx => conv m c (p 0) (p 1) ⟨1024 + (p 2).val, by have : (p 2).val < 512 := (p 2).isLt; omega⟩

/-- A point's block of the third array lies in the array. -/
theorem third_block (c : Dev nD) (t : Fin cfg0.N) (j : S1x512x512.Idx) (p : S2x8192x512.Idx) (h0 : t.val / 16 = (p 0).val)
    (h1 : t.val % 16 * 512 + (j 1).val = (p 1).val) (h2 : (j 2).val = (p 2).val) :
    out0_7 (grid0.coords t) (iblk m c 0 t) (iblk m c 1 t) (iblk m c 2 t) (iblk m c 3 t) (iblk m c 4 t) j = third m c p := by
  refine (out7_apply _ _ _ _ _ _ j).trans ((block_conv m c t (j 1) _).trans ?_)
  unfold third
  exact congr (congrArg₂ (conv m c) (Fin.ext h0) (Fin.ext h1)) (Fin.ext (by show 1024 + (j 2).val = 1024 + (p 2).val; omega))

/-- Every point writes its block of the third array. -/
theorem flushed_7 (c : Dev nD) (t : Fin cfg0.N) (hf : (cfg0.win 7).flush t = true) :
    (dats m 0 c).flushed 7 t = ((cfg0.win 7).blk t).view.read (Elt Ideal) (third m c) := by
  rw [Value.flushed7]
  funext j
  rw [View.read_apply]
  have hi := idx7 t
  have h0 : (j 0).val < 1 := (j 0).isLt
  refine third_block m c t j _ ?_ ?_ ?_
  · show t.val / 16 = win0_7.index t 0 * 1 + 1 * (j 0).val
    rw [hi.1]; omega
  · show t.val % 16 * 512 + (j 1).val = win0_7.index t 1 * 512 + 1 * (j 1).val
    rw [hi.2.1]; omega
  · show (j 2).val = win0_7.index t 2 * 512 + 1 * (j 2).val
    rw [hi.2.2]; omega

/-- The point whose block holds a position of a sequence. -/
abbrev pointAt (b : Fin 2) (s : Fin 8192) : Fin cfg0.N := ⟨b.val * 16 + s.val / 512, by have := b.isLt; have := s.isLt; show b.val * 16 + s.val / 512 < 32; omega⟩

/-- The first array after the run. -/
theorem final_5 (c : Dev nD) : (dats m 0 c).arrAt 5 cfg0.N = first m c :=
  (dats m 0 c).arrAt_eq_of_cover 5 (first m c) (flushed_5 m c) fun i =>
    ⟨pointAt (i 0) (i 1), flush0_5 _, by
      show i ∈ ((View.whole main_v1_0).slice (win0_5.rect (pointAt (i 0) (i 1)))).set
      rw [View.set_slice_whole, Rect.mem_set_unit]
      intro a
      have hi := idx5 (pointAt (i 0) (i 1))
      have h0 : (i 0 : Nat) < 2 := (i 0).isLt
      have h1 : (i 1 : Nat) < 8192 := (i 1).isLt
      have h2 : (i 2 : Nat) < 512 := (i 2).isLt
      match a with
      | ⟨0, _⟩ =>
        show win0_5.index _ 0 * 1 ≤ (i 0 : Nat) ∧ (i 0 : Nat) < win0_5.index _ 0 * 1 + 1
        rw [hi.1]; dsimp only; omega
      | ⟨1, _⟩ =>
        show win0_5.index _ 1 * 512 ≤ (i 1 : Nat) ∧ (i 1 : Nat) < win0_5.index _ 1 * 512 + 512
        rw [hi.2.1]; dsimp only; omega
      | ⟨2, _⟩ =>
        show win0_5.index _ 2 * 512 ≤ (i 2 : Nat) ∧ (i 2 : Nat) < win0_5.index _ 2 * 512 + 512
        rw [hi.2.2]; omega⟩

/-- The second array after the run. -/
theorem final_6 (c : Dev nD) : (dats m 0 c).arrAt 6 cfg0.N = second m c :=
  (dats m 0 c).arrAt_eq_of_cover 6 (second m c) (flushed_6 m c) fun i =>
    ⟨pointAt (i 0) (i 1), flush0_6 _, by
      show i ∈ ((View.whole main_v1_1).slice (win0_6.rect (pointAt (i 0) (i 1)))).set
      rw [View.set_slice_whole, Rect.mem_set_unit]
      intro a
      have hi := idx6 (pointAt (i 0) (i 1))
      have h0 : (i 0 : Nat) < 2 := (i 0).isLt
      have h1 : (i 1 : Nat) < 8192 := (i 1).isLt
      have h2 : (i 2 : Nat) < 512 := (i 2).isLt
      match a with
      | ⟨0, _⟩ =>
        show win0_6.index _ 0 * 1 ≤ (i 0 : Nat) ∧ (i 0 : Nat) < win0_6.index _ 0 * 1 + 1
        rw [hi.1]; dsimp only; omega
      | ⟨1, _⟩ =>
        show win0_6.index _ 1 * 512 ≤ (i 1 : Nat) ∧ (i 1 : Nat) < win0_6.index _ 1 * 512 + 512
        rw [hi.2.1]; dsimp only; omega
      | ⟨2, _⟩ =>
        show win0_6.index _ 2 * 512 ≤ (i 2 : Nat) ∧ (i 2 : Nat) < win0_6.index _ 2 * 512 + 512
        rw [hi.2.2]; omega⟩

/-- The third array after the run. -/
theorem final_7 (c : Dev nD) : (dats m 0 c).arrAt 7 cfg0.N = third m c :=
  (dats m 0 c).arrAt_eq_of_cover 7 (third m c) (flushed_7 m c) fun i =>
    ⟨pointAt (i 0) (i 1), flush0_7 _, by
      show i ∈ ((View.whole main_v1_2).slice (win0_7.rect (pointAt (i 0) (i 1)))).set
      rw [View.set_slice_whole, Rect.mem_set_unit]
      intro a
      have hi := idx7 (pointAt (i 0) (i 1))
      have h0 : (i 0 : Nat) < 2 := (i 0).isLt
      have h1 : (i 1 : Nat) < 8192 := (i 1).isLt
      have h2 : (i 2 : Nat) < 512 := (i 2).isLt
      match a with
      | ⟨0, _⟩ =>
        show win0_7.index _ 0 * 1 ≤ (i 0 : Nat) ∧ (i 0 : Nat) < win0_7.index _ 0 * 1 + 1
        rw [hi.1]; dsimp only; omega
      | ⟨1, _⟩ =>
        show win0_7.index _ 1 * 512 ≤ (i 1 : Nat) ∧ (i 1 : Nat) < win0_7.index _ 1 * 512 + 512
        rw [hi.2.1]; dsimp only; omega
      | ⟨2, _⟩ =>
        show win0_7.index _ 2 * 512 ≤ (i 2 : Nat) ∧ (i 2 : Nat) < win0_7.index _ 2 * 512 + 512
        rw [hi.2.2]; omega⟩

end Cert.ConvIdeal.Conv

end
-- ==== Proof.ConvRefVal.lean ====
/- The reference's short convolution, element by element. -/
module

public import proofs.«01_k».proof.Proof.Gen.ConvRefIdeal.Read
public import proofs.«01_k».proof.Proof.Taps
public import Idealize.ShloMosaic.Lib.KernelVsHost
public import Idealize.ShloMosaic.Lib.Pipeline.Value
public import Idealize.ShloMosaic.Lib.Pointwise

@[expose] public section

set_option maxRecDepth 16384

noncomputable section

namespace Cert.ConvRefIdeal.Conv

open Cert.ConvRefIdeal Cert.ConvRefIdeal.Gen Cert.ConvRefIdeal.Read Idealize.ShloMosaic Idealize.ShloMosaic.TcCoe
open Cert.Layer

/-- An array of rows. -/
abbrev UArr : Type := BufTy.Contents (Elt Ideal) (⟨S16384x1536, .bf16⟩ : BufTy)
/-- The three rows of weights. -/
abbrev WArr : Type := BufTy.Contents (Elt Ideal) (⟨S3x1536, .f32⟩ : BufTy)
/-- A bias. -/
abbrev BArr : Type := BufTy.Contents (Elt Ideal) (⟨S1x1536, .f32⟩ : BufTy)

/-- The array as two sequences. -/
theorem seq_apply (U : UArr) (b : Fin 2) (s : Fin 8192) (k : Fin 1536) :
    val_main_v1 (F := Ideal) U (ix3 b s k) = rowHere (fun r => U (ix2 r k)) b s := by
  rw [val_main_v1_apply, val_main_v0_apply]
  show U _ = _
  unfold rowHere
  refine congrArg U (funext fun a => Fin.ext ?_)
  have := b.isLt
  have := s.isLt
  have := k.isLt
  match a with
  | ⟨0, _⟩ => show ((b.val * 8192 + s.val) * 1536 + k.val) / 1536 = b.val * 8192 + s.val; omega
  | ⟨1, _⟩ => show ((b.val * 8192 + s.val) * 1536 + k.val) % 1536 = k.val; omega

/-- The padded sequences inside the padding. -/
theorem padded_inside (U : UArr) (b : Fin 2) (p : Fin 8194) (k : Fin 1536) (s : Fin 8192) (h : p.val = 1 + s.val) :
    val_main_v2 (F := Ideal) U (ix3 b p k) = rowHere (fun r => U (ix2 r k)) b s := by
  unfold val_main_v2
  refine (pad_apply_of_inside _ _ _ _ _ _ _ _ (ix3 b s k) fun a => ?_).trans (seq_apply U b s k)
  match a with
  | ⟨0, _⟩ => show b.val = 0 + b.val * (0 + 1); omega
  | ⟨1, _⟩ => show p.val = 1 + s.val * (0 + 1); omega
  | ⟨2, _⟩ => show k.val = 0 + k.val * (0 + 1); omega

/-- The padding is zero. -/
theorem padded_outside (U : UArr) (b : Fin 2) (p : Fin 8194) (k : Fin 1536) (h : p.val = 0 ∨ p.val = 8193) :
    val_main_v2 (F := Ideal) U (ix3 b p k) = 0 := by
  unfold val_main_v2
  refine (pad_apply_of_not_inside _ _ _ _ _ _ _ _ (1 : Fin 3) fun hin => ?_).trans ?_
  · have h1 : 1 ≤ p.val := hin.1
    have h2 : (p.val - 1) / (0 + 1) < 8192 := hin.2.2
    omega
  · rw [val_main_call0_v0_apply, val_main_c_apply]
    show (((0#32 : BitVec 32).toInt : ℝ) : EReal) = 0
    simp

/-- The first slice is the row before. -/
theorem before_apply (U : UArr) (b : Fin 2) (s : Fin 8192) (k : Fin 1536) :
    val_main_v3 (F := Ideal) U (ix3 b s k) = rowBefore (fun r => U (ix2 r k)) b s := by
  have hs := s.isLt
  rw [val_main_v3_apply]
  refine (congrArg (val_main_v2 (F := Ideal) U) (show _ = ix3 b (⟨s.val, by omega⟩ : Fin 8194) k from funext fun a => by
    match a with
    | ⟨0, _⟩ => rfl
    | ⟨1, _⟩ => rfl
    | ⟨2, _⟩ => rfl)).trans ?_
  unfold rowBefore
  by_cases h : s.val = 0
  · rw [if_pos h]
    exact padded_outside U b _ k (Or.inl h)
  · rw [if_neg h]
    exact padded_inside U b _ k ⟨s.val - 1, by omega⟩ (by show s.val = 1 + (s.val - 1); omega)

/-- The second slice is the row itself. -/
theorem here_apply (U : UArr) (b : Fin 2) (s : Fin 8192) (k : Fin 1536) :
    val_main_v9 (F := Ideal) U (ix3 b s k) = rowHere (fun r => U (ix2 r k)) b s := by
  have hs := s.isLt
  rw [val_main_v9_apply]
  refine (congrArg (val_main_v2 (F := Ideal) U) (show _ = ix3 b (⟨1 + s.val, by omega⟩ : Fin 8194) k from funext fun a => by
    match a with
    | ⟨0, _⟩ => rfl
    | ⟨1, _⟩ => rfl
    | ⟨2, _⟩ => rfl)).trans ?_
  exact padded_inside U b _ k s rfl

/-- The third slice is the row after. -/
theorem after_apply (U : UArr) (b : Fin 2) (s : Fin 8192) (k : Fin 1536) :
    val_main_v16 (F := Ideal) U (ix3 b s k) = rowAfter (fun r => U (ix2 r k)) b s := by
  have hs := s.isLt
  rw [val_main_v16_apply]
  refine (congrArg (val_main_v2 (F := Ideal) U) (show _ = ix3 b (⟨2 + s.val, by omega⟩ : Fin 8194) k from funext fun a => by
    match a with
    | ⟨0, _⟩ => rfl
    | ⟨1, _⟩ => rfl
    | ⟨2, _⟩ => rfl)).trans ?_
  unfold rowAfter
  by_cases h : s.val = 8191
  · rw [dif_pos h]
    exact padded_outside U b _ k (Or.inr (by show 2 + s.val = 8193; omega))
  · rw [dif_neg h]
    exact padded_inside U b _ k ⟨s.val + 1, by omega⟩ (by show 2 + s.val = 1 + (s.val + 1); omega)

/-- The first row of weights. -/
theorem w0_apply (W : WArr) (b : Fin 2) (s : Fin 8192) (k : Fin 1536) :
    val_main_v7 (F := Ideal) W (ix3 b s k) = W (ix2 0 k) := by
  rw [val_main_v7_apply, val_main_v6_apply, val_main_v5_apply, val_main_v4_apply]
  refine congrArg W (funext fun a => Fin.ext ?_)
  match a with
  | ⟨0, _⟩ => rfl
  | ⟨1, _⟩ => exact Nat.mod_eq_of_lt k.isLt

/-- The second row of weights. -/
theorem w1_apply (W : WArr) (b : Fin 2) (s : Fin 8192) (k : Fin 1536) :
    val_main_v13 (F := Ideal) W (ix3 b s k) = W (ix2 1 k) := by
  rw [val_main_v13_apply, val_main_v12_apply, val_main_v11_apply, val_main_v10_apply]
  refine congrArg W (funext fun a => Fin.ext ?_)
  match a with
  | ⟨0, _⟩ => rfl
  | ⟨1, _⟩ => exact Nat.mod_eq_of_lt k.isLt

/-- The third row of weights. -/
theorem w2_apply (W : WArr) (b : Fin 2) (s : Fin 8192) (k : Fin 1536) :
    val_main_v20 (F := Ideal) W (ix3 b s k) = W (ix2 2 k) := by
  rw [val_main_v20_apply, val_main_v19_apply, val_main_v18_apply, val_main_v17_apply]
  refine congrArg W (funext fun a => Fin.ext ?_)
  match a with
  | ⟨0, _⟩ => rfl
  | ⟨1, _⟩ => exact Nat.mod_eq_of_lt k.isLt

/-- The bias. -/
theorem bias_apply (B : BArr) (b : Fin 2) (s : Fin 8192) (k : Fin 1536) :
    val_main_v24 (F := Ideal) B (ix3 b s k) = B (ix2 0 k) := by
  rw [val_main_v24_apply, val_main_v23_apply]
  refine congrArg B (funext fun a => ?_)
  match a with
  | ⟨0, _⟩ => rfl
  | ⟨1, _⟩ => rfl

/-- One channel of the convolution at a position. -/
def conv (U : UArr) (W : WArr) (B : BArr) (b : Fin 2) (s : Fin 8192) (k : Fin 1536) : EReal :=
  taps (rowBefore (fun r => U (ix2 r k)) b s) (rowHere (fun r => U (ix2 r k)) b s) (rowAfter (fun r => U (ix2 r k)) b s)
    (W (ix2 0 k)) (W (ix2 1 k)) (W (ix2 2 k)) (B (ix2 0 k))

/-- The convolution of all channels. -/
theorem conv_apply (U : UArr) (W : WArr) (B : BArr) (b : Fin 2) (s : Fin 8192) (k : Fin 1536) :
    val_main_v25 (F := Ideal) U W B (ix3 b s k) = conv U W B b s k := by
  rw [val_main_v25_apply, val_main_v22_apply, val_main_v15_apply, val_main_v8_apply, val_main_v14_apply, val_main_v21_apply,
    before_apply, here_apply, after_apply, w0_apply, w1_apply, w2_apply, bias_apply]
  rfl

/-- The first third of the channels. -/
theorem first_apply (U : UArr) (W : WArr) (B : BArr) (p : S2x8192x512.Idx) :
    val_main_v29 (F := Ideal) U W B p = conv U W B (p 0) (p 1) ⟨(p 2).val, (p 2).isLt.trans (by decide)⟩ := by
  rw [val_main_v29_apply]
  show val_main_v26 (F := Ideal) U W B p = _
  rw [val_main_v26_apply]
  refine Eq.trans (congrArg _ (funext fun a => ?_)) (conv_apply U W B (p 0) (p 1) ⟨(p 2).val, (p 2).isLt.trans (by decide)⟩)
  match a with
  | ⟨0, _⟩ => rfl
  | ⟨1, _⟩ => rfl
  | ⟨2, _⟩ => rfl

/-- The second third of the channels. -/
theorem second_apply (U : UArr) (W : WArr) (B : BArr) (p : S2x8192x512.Idx) :
    val_main_v30 (F := Ideal) U W B p = conv U W B (p 0) (p 1) ⟨512 + (p 2).val, by have : (p 2).val < 512 := (p 2).isLt; omega⟩ := by
  rw [val_main_v30_apply]
  show val_main_v27 (F := Ideal) U W B p = _
  rw [val_main_v27_apply]
  refine Eq.trans (congrArg _ (funext fun a => ?_)) (conv_apply U W B (p 0) (p 1) ⟨512 + (p 2).val, by have : (p 2).val < 512 := (p 2).isLt; omega⟩)
  match a with
  | ⟨0, _⟩ => rfl
  | ⟨1, _⟩ => rfl
  | ⟨2, _⟩ => rfl

/-- The last third of the channels. -/
theorem third_apply (U : UArr) (W : WArr) (B : BArr) (p : S2x8192x512.Idx) :
    val_main_v31 (F := Ideal) U W B p = conv U W B (p 0) (p 1) ⟨1024 + (p 2).val, by have : (p 2).val < 512 := (p 2).isLt; omega⟩ := by
  rw [val_main_v31_apply]
  show val_main_v28 (F := Ideal) U W B p = _
  rw [val_main_v28_apply]
  refine Eq.trans (congrArg _ (funext fun a => ?_)) (conv_apply U W B (p 0) (p 1) ⟨1024 + (p 2).val, by have : (p 2).val < 512 := (p 2).isLt; omega⟩)
  match a with
  | ⟨0, _⟩ => rfl
  | ⟨1, _⟩ => rfl
  | ⟨2, _⟩ => rfl

end Cert.ConvRefIdeal.Conv

end
-- ==== Proof.Tables.lean ====
/- The tables of the rotary embedding over 128 lanes. -/
module

public import Idealize.ShloMosaic.Lib.Pointwise

@[expose] public section

noncomputable section

namespace Cert.Layer

open Idealize.ShloMosaic

/-- The cosine of a position at a lane, from 32 rates. -/
def cosLane (u : Fin 32 → EReal) (s : Fin 8192) (l : Fin 128) : EReal :=
  Ideal.cos (((s.val : ℝ) : EReal) * u ⟨l.val % 32, Nat.mod_lt _ (by decide)⟩)

/-- The sine of a position at a lane, negated in the first half of each 64 lanes. -/
def sinLane (u : Fin 32 → EReal) (s : Fin 8192) (l : Fin 128) : EReal :=
  if l.val % 64 < 32 then -Ideal.sin (((s.val : ℝ) : EReal) * u ⟨l.val % 32, Nat.mod_lt _ (by decide)⟩)
  else Ideal.sin (((s.val : ℝ) : EReal) * u ⟨l.val % 32, Nat.mod_lt _ (by decide)⟩)

/-- A number below 2³¹ as a word of 32 bits, read as an integer. -/
theorem word_toInt (n : ℕ) (h : n < 2147483648) : (((BitVec.ofNat 32 n).toInt : ℝ) : EReal) = ((n : ℝ) : EReal) := by
  have e : (BitVec.ofNat 32 n).toInt = (n : ℤ) := by
    rw [BitVec.toInt_eq_toNat_of_lt (by rw [BitVec.toNat_ofNat]; omega), BitVec.toNat_ofNat]
    omega
  rw [e, Int.cast_natCast]

end Cert.Layer

end
-- ==== Proof.RopeVal.lean ====
/- The tables of the rotary embedding as the kernel leaves them, element by element. -/
module

public import proofs.«01_k».proof.Proof.Gen.RopeIdeal.Value
public import proofs.«01_k».proof.Proof.Gen.RopeIdeal.Frame
public import proofs.«01_k».proof.Proof.Tables
public import Idealize.ShloMosaic.Lib.WritesUnit
public import Idealize.ShloMosaic.Lib.Pipeline.ValueKit.Basic
public import Idealize.ShloMosaic.Lib.Pipeline.ValueKit.Tiles
public import Idealize.ShloMosaic.Lib.Pointwise

@[expose] public section

set_option maxRecDepth 16384

noncomputable section

namespace Cert.RopeIdeal.Tab

open Cert.RopeIdeal Cert.RopeIdeal.Gen Idealize.ShloMosaic Idealize.ShloMosaic.TcCoe Idealize.SL.Sem
open Cert.Layer

/-! ## The body's vectors at an index -/

/-- The angles of a block. -/
theorem angle_apply (i : grid0.Coords) (v : Vec Ideal S1x128 .f32) (r : Fin 1024) (l : Fin 128) :
    k0_pay1 i v (ix2 r l) = ((((i 0).val * 1024 + r.val : ℕ) : ℝ) : EReal) * v (ix2 0 l) := by
  have hi : (i 0).val < 8 := (i 0).isLt
  have hr := r.isLt
  pointwise [k0_pay1]
  show (((BitVec.ofNat 32 (i 0).val * 1024#32 + BitVec.ofNat 32 r.val).toInt : ℝ) : EReal) * v (ix2 0 l) = _
  rw [show BitVec.ofNat 32 (i 0).val * 1024#32 + BitVec.ofNat 32 r.val = BitVec.ofNat 32 ((i 0).val * 1024 + r.val) from by
    rw [BitVec.ofNat_add, BitVec.ofNat_mul], word_toInt _ (by omega)]

/-- The block of cosines. -/
theorem pay2_apply (i : grid0.Coords) (v : Vec Ideal S1x128 .f32) (r : Fin 1024) (l : Fin 128) :
    k0_pay2 i v (ix2 r l) = Ideal.cos (((((i 0).val * 1024 + r.val : ℕ) : ℝ) : EReal) * v (ix2 0 l)) := by
  rw [← angle_apply]
  pointwise [k0_pay2]

/-- The block of signed sines. -/
theorem pay3_apply (i : grid0.Coords) (v w : Vec Ideal S1x128 .f32) (r : Fin 1024) (l : Fin 128) :
    k0_pay3 i v w (ix2 r l) = Ideal.sin (((((i 0).val * 1024 + r.val : ℕ) : ℝ) : EReal) * v (ix2 0 l)) * w (ix2 0 l) := by
  rw [← angle_apply]
  pointwise [k0_pay3]

/-- A load of a whole block reads the block. -/
theorem ld_whole {s : Shape} {e : EltTy} (x : Vec Ideal s e) {off : Fin s.rank → ℕ} (inb : ∀ b, off b + s.size b ≤ s.size b) (h0 : ∀ b, off b = 0) :
    View.ld x (Rect.unit off s.size inb) = x := View.ld_unit_lit _ _ h0

/-- The block of cosines, from the blocks read. -/
theorem out2_apply (i : grid0.Coords) (x0 x1 : Vec Ideal S1x128 .f32) (y : S1024x128.Idx) :
    out0_2 i x0 x1 y = Ideal.cos (((((i 0).val * 1024 + (y 0).val : ℕ) : ℝ) : EReal) * x0 (ix2 (n1 := 128) 0 (y 1))) := by
  unfold out0_2
  refine (congrFun (View.canon_cons_unit_lit _ _ _ (by decide)) y).trans ((congrArg _ (eq_ix2 y)).trans ?_)
  unfold r0_0
  rw [ld_whole x0 _ (by decide)]
  exact pay2_apply i x0 (y 0) (y 1)

/-- The block of signed sines, from the blocks read. -/
theorem out3_apply (i : grid0.Coords) (x0 x1 : Vec Ideal S1x128 .f32) (y : S1024x128.Idx) :
    out0_3 i x0 x1 y = Ideal.sin (((((i 0).val * 1024 + (y 0).val : ℕ) : ℝ) : EReal) * x0 (ix2 (n1 := 128) 0 (y 1))) * x1 (ix2 (n1 := 128) 0 (y 1)) := by
  unfold out0_3
  refine (congrFun (View.canon_cons_unit_lit _ _ _ (by decide)) y).trans ((congrArg _ (eq_ix2 y)).trans ?_)
  unfold r0_0
  rw [ld_whole x0 _ (by decide), ld_whole x1 _ (by decide)]
  exact pay3_apply i x0 x1 (y 0) (y 1)

/-! ## The arrays -/

variable (m : (ℓ : Loc nD τ sig) → Buf (Elt Ideal) ℓ)

/-- Four copies of the rates side by side. -/
def rates (T : FVec Ideal S1x32 .f32) : FVec Ideal S1x128 .f32 :=
  shapeCast S1x128 (broadcastInDim S1x1x4x32 ![0, 1, 2, 3] bcast_S1x1x1x32_S1x1x4x32_0_1_2_3
    (shapeCast S1x1x1x32 T shapeCasts_S1x32_S1x1x1x32)) shapeCasts_S1x1x4x32_S1x128

/-- Thirty-two signs of minus one and thirty-two of one, twice. -/
def signs : FVec Ideal S1x128 .f32 :=
  shapeCast S1x128 (broadcastInDim S1x1x2x64 ![0, 1, 2, 3] bcast_S1x1x1x64_S1x1x2x64_0_1_2_3
    (shapeCast S1x1x1x64 (concatenate S1x64 1 [⟨S1x32, Host.negf (broadcastInDim S1x32 ![] bcast_S_S1x32 (constant S_ .f32 0x3F800000#32))⟩,
      ⟨S1x32, broadcastInDim S1x32 ![] bcast_S_S1x32 (constant S_ .f32 0x3F800000#32)⟩] concatenates_S1x32_S1x32_S1x64_d1)
      shapeCasts_S1x64_S1x1x1x64)) shapeCasts_S1x1x2x64_S1x128

/-- The rates at a lane. -/
theorem rates_apply (T : FVec Ideal S1x32 .f32) (l : Fin 128) :
    rates T (ix2 0 l) = T (ix2 (n1 := 32) 0 ⟨l.val % 32, Nat.mod_lt _ (by decide)⟩) := by
  pointwise [rates]

/-- The sign at a lane. -/
theorem signs_apply (l : Fin 128) : signs (ix2 0 l) = if l.val % 64 < 32 then -1 else 1 := by
  pointwise [signs]
  by_cases h : l.val % 64 < 32
  · rw [dif_pos h, if_pos h]
  · rw [dif_neg h, if_neg h]

/-- The rates that the region reads. -/
theorem V_rates (c : Dev nD) : V m c main_v2 = rates (m ((c : Thread nD τ).loc main_arg0)) := by
  show StableHlo.after hostOps0 (fun b => m (c, b)) (Proc.devRef .tc main_v2) = _
  unfold hostOps0
  after_results_simp
  rfl

/-- The signs that the region reads. -/
theorem V_signs (c : Dev nD) : V m c main_v9 = signs := by
  show StableHlo.after hostOps0 (fun b => m (c, b)) (Proc.devRef .tc main_v9) = _
  unfold hostOps0
  after_results_simp
  rfl

/-- A point's place in the grid. -/
theorem coords_apply : ∀ t : Fin grid0.N, (grid0.coords t 0).val = t.val := by decide +kernel
/-- Where window 0's block lies at a point. -/
theorem idx0 : ∀ t : Fin grid0.N, win0_0.index t 0 = 0 ∧ win0_0.index t 1 = 0 := by decide +kernel
/-- Where window 1's block lies at a point. -/
theorem idx1 : ∀ t : Fin grid0.N, win0_1.index t 0 = 0 ∧ win0_1.index t 1 = 0 := by decide +kernel
/-- Where window 2's block lies at a point. -/
theorem idx2 : ∀ t : Fin grid0.N, win0_2.index t 0 = t.val ∧ win0_2.index t 1 = 0 := by decide +kernel
/-- Where window 3's block lies at a point. -/
theorem idx3 : ∀ t : Fin grid0.N, win0_3.index t 0 = t.val ∧ win0_3.index t 1 = 0 := by decide +kernel

/-- The rates of the argument. -/
def rate (c : Dev nD) (i : Fin 32) : EReal := m ((c : Thread nD τ).loc main_arg0) (ix2 (n0 := 1) (n1 := 32) 0 i)

/-- Every point reads the rates. -/
theorem iblk0 (c : Dev nD) (t : Fin cfg0.N) (l : Fin 128) :
    (iblk m c 0 t : Vec Ideal S1x128 .f32) (ix2 0 l) = rate m c ⟨l.val % 32, Nat.mod_lt _ (by decide)⟩ := by
  have hi := idx0 t
  refine Eq.trans ?_ (rates_apply (m ((c : Thread nD τ).loc main_arg0)) l)
  unfold iblk
  rw [View.read_apply, ← V_rates]
  show V m c main_v2 _ = V m c main_v2 _
  congr 1
  funext a
  apply Fin.ext
  match a with
  | ⟨0, _⟩ => show win0_0.index t 0 * 1 + 1 * 0 = 0; rw [hi.1]
  | ⟨1, _⟩ => show win0_0.index t 1 * 128 + 1 * l.val = l.val; rw [hi.2]; omega

/-- Every point reads the signs. -/
theorem iblk1 (c : Dev nD) (t : Fin cfg0.N) (l : Fin 128) :
    (iblk m c 1 t : Vec Ideal S1x128 .f32) (ix2 0 l) = (if l.val % 64 < 32 then -1 else 1 : EReal) := by
  have hi := idx1 t
  refine Eq.trans ?_ (signs_apply l)
  unfold iblk
  rw [View.read_apply, ← V_signs m c]
  show V m c main_v9 _ = V m c main_v9 _
  congr 1
  funext a
  apply Fin.ext
  match a with
  | ⟨0, _⟩ => show win0_1.index t 0 * 1 + 1 * 0 = 0; rw [hi.1]
  | ⟨1, _⟩ => show win0_1.index t 1 * 128 + 1 * l.val = l.val; rw [hi.2]; omega

/-- The array of cosines. -/
def cosines (c : Dev nD) : Buf (Elt Ideal) ((c : Thread nD τ).loc main_v10_0) := fun p : S8192x128.Idx => cosLane (rate m c) (p 0) (p 1)

/-- The array of signed sines. -/
def sines (c : Dev nD) : Buf (Elt Ideal) ((c : Thread nD τ).loc main_v10_1) := fun p : S8192x128.Idx => sinLane (rate m c) (p 0) (p 1)

/-- A point's block of cosines lies in the array. -/
theorem cos_block (c : Dev nD) (t : Fin cfg0.N) (y : S1024x128.Idx) (p : S8192x128.Idx) (h0 : t.val * 1024 + (y 0).val = (p 0).val)
    (h1 : y 1 = p 1) : out0_2 (grid0.coords t) (iblk m c 0 t) (iblk m c 1 t) y = cosines m c p := by
  have hc := coords_apply t
  refine (out2_apply _ _ _ y).trans ?_
  unfold cosines cosLane
  rw [hc, h0, h1]
  exact congrArg (fun z : EReal => Ideal.cos (_ * z)) (iblk0 m c t (p 1))

/-- A point's block of signed sines lies in the array. -/
theorem sin_block (c : Dev nD) (t : Fin cfg0.N) (y : S1024x128.Idx) (p : S8192x128.Idx) (h0 : t.val * 1024 + (y 0).val = (p 0).val)
    (h1 : y 1 = p 1) : out0_3 (grid0.coords t) (iblk m c 0 t) (iblk m c 1 t) y = sines m c p := by
  have hc := coords_apply t
  refine (out3_apply _ _ _ y).trans ?_
  unfold sines sinLane
  rw [hc, h0, h1]
  refine (congrArg₂ (fun z w : EReal => Ideal.sin (_ * z) * w) (iblk0 m c t (p 1)) (iblk1 m c t (p 1))).trans ?_
  dsimp only
  split
  · rw [mul_neg, mul_one]
  · rw [mul_one]

/-- Every point writes its block of cosines. -/
theorem flushed_2 (c : Dev nD) (t : Fin cfg0.N) (hf : (cfg0.win 2).flush t = true) :
    (dats m 0 c).flushed 2 t = ((cfg0.win 2).blk t).view.read (Elt Ideal) (cosines m c) := by
  rw [Value.flushed2]
  funext j
  rw [View.read_apply]
  have hi := idx2 t
  refine cos_block m c t j _ ?_ (Fin.ext ?_)
  · show t.val * 1024 + (j 0).val = win0_2.index t 0 * 1024 + 1 * (j 0).val
    rw [hi.1]; omega
  · show (j 1).val = win0_2.index t 1 * 128 + 1 * (j 1).val
    rw [hi.2]; omega

/-- Every point writes its block of sines. -/
theorem flushed_3 (c : Dev nD) (t : Fin cfg0.N) (hf : (cfg0.win 3).flush t = true) :
    (dats m 0 c).flushed 3 t = ((cfg0.win 3).blk t).view.read (Elt Ideal) (sines m c) := by
  rw [Value.flushed3]
  funext j
  rw [View.read_apply]
  have hi := idx3 t
  refine sin_block m c t j _ ?_ (Fin.ext ?_)
  · show t.val * 1024 + (j 0).val = win0_3.index t 0 * 1024 + 1 * (j 0).val
    rw [hi.1]; omega
  · show (j 1).val = win0_3.index t 1 * 128 + 1 * (j 1).val
    rw [hi.2]; omega

/-- The point whose block holds a position. -/
abbrev pointOf (r : Fin 8192) : Fin cfg0.N := ⟨r.val / 1024, by have := r.isLt; show r.val / 1024 < 8; omega⟩

/-- The array of cosines after the run. -/
theorem final_2 (c : Dev nD) : (dats m 0 c).arrAt 2 cfg0.N = cosines m c :=
  (dats m 0 c).arrAt_eq_of_cover 2 (cosines m c) (flushed_2 m c) fun i =>
    ⟨pointOf (i 0), flush0_2 _, by
      show i ∈ ((View.whole main_v10_0).slice (win0_2.rect (pointOf (i 0)))).set
      rw [View.set_slice_whole, Rect.mem_set_unit]
      intro a
      have hi := idx2 (pointOf (i 0))
      have h0 : (i 0 : Nat) < 8192 := (i 0).isLt
      have h1 : (i 1 : Nat) < 128 := (i 1).isLt
      match a with
      | ⟨0, _⟩ =>
        show win0_2.index _ 0 * 1024 ≤ (i 0 : Nat) ∧ (i 0 : Nat) < win0_2.index _ 0 * 1024 + 1024
        rw [hi.1]; dsimp only; omega
      | ⟨1, _⟩ =>
        show win0_2.index _ 1 * 128 ≤ (i 1 : Nat) ∧ (i 1 : Nat) < win0_2.index _ 1 * 128 + 128
        rw [hi.2]; omega⟩

/-- The array of sines after the run. -/
theorem final_3 (c : Dev nD) : (dats m 0 c).arrAt 3 cfg0.N = sines m c :=
  (dats m 0 c).arrAt_eq_of_cover 3 (sines m c) (flushed_3 m c) fun i =>
    ⟨pointOf (i 0), flush0_3 _, by
      show i ∈ ((View.whole main_v10_1).slice (win0_3.rect (pointOf (i 0)))).set
      rw [View.set_slice_whole, Rect.mem_set_unit]
      intro a
      have hi := idx3 (pointOf (i 0))
      have h0 : (i 0 : Nat) < 8192 := (i 0).isLt
      have h1 : (i 1 : Nat) < 128 := (i 1).isLt
      match a with
      | ⟨0, _⟩ =>
        show win0_3.index _ 0 * 1024 ≤ (i 0 : Nat) ∧ (i 0 : Nat) < win0_3.index _ 0 * 1024 + 1024
        rw [hi.1]; dsimp only; omega
      | ⟨1, _⟩ =>
        show win0_3.index _ 1 * 128 ≤ (i 1 : Nat) ∧ (i 1 : Nat) < win0_3.index _ 1 * 128 + 128
        rw [hi.2]; omega⟩

end Cert.RopeIdeal.Tab

end
-- ==== Proof.RopeRefVal.lean ====
/- The reference's tables of the rotary embedding, element by element. -/
module

public import proofs.«01_k».proof.Proof.Gen.RopeRefIdeal.Read
public import proofs.«01_k».proof.Proof.Tables
public import Idealize.ShloMosaic.Lib.Pipeline.Value
public import Idealize.ShloMosaic.Lib.Pointwise

@[expose] public section

set_option maxRecDepth 16384

noncomputable section

namespace Cert.RopeRefIdeal.Tab

open Cert.RopeRefIdeal Cert.RopeRefIdeal.Gen Cert.RopeRefIdeal.Read Idealize.ShloMosaic Idealize.ShloMosaic.TcCoe
open Cert.Layer

/-- The rates. -/
abbrev IArr : Type := BufTy.Contents (Elt Ideal) (⟨S1x32, .f32⟩ : BufTy)

/-- The angle of a position at a rate. -/
theorem angle_apply (U : IArr) (s : Fin 8192) (i : Fin 32) :
    val_main_v4 (F := Ideal) U (ix2 s i) = ((s.val : ℝ) : EReal) * U (ix2 0 i) := by
  pointwise [val_main_v4, val_main_v3, val_main_v2, val_main_v1, val_main_v0]
  show (((BitVec.ofNat 32 s.val).toInt : ℝ) : EReal) * U (ix2 0 i) = _
  rw [word_toInt s.val (by have := s.isLt; omega)]

/-- The table of cosines from the angles. -/
theorem cos_at (U : IArr) (s : Fin 8192) (l : Fin 128) :
    val_main_v9 (F := Ideal) U (ix2 s l) = Ideal.cos (val_main_v4 (F := Ideal) U (ix2 (n1 := 32) s ⟨l.val % 32, Nat.mod_lt _ (by decide)⟩)) := by
  unfold val_main_v9 val_main_v8 val_main_v7 val_main_v5
  generalize val_main_v4 (F := Ideal) U = v
  pointwise

/-- The table of signed sines from the angles. -/
theorem sin_at (U : IArr) (s : Fin 8192) (l : Fin 128) :
    val_main_v14 (F := Ideal) U (ix2 s l) = if l.val % 64 < 32
      then -Ideal.sin (val_main_v4 (F := Ideal) U (ix2 (n1 := 32) s ⟨l.val % 32, Nat.mod_lt _ (by decide)⟩))
      else Ideal.sin (val_main_v4 (F := Ideal) U (ix2 (n1 := 32) s ⟨l.val % 32, Nat.mod_lt _ (by decide)⟩)) := by
  unfold val_main_v14 val_main_v13 val_main_v12 val_main_v11 val_main_v10 val_main_v6
  generalize val_main_v4 (F := Ideal) U = v
  pointwise
  have hl := l.isLt
  by_cases h : l.val % 64 < 32
  · rw [dif_pos h, if_pos h]
    exact congrArg (fun z : Fin 32 => -Ideal.sin (v (ix2 s z))) (Fin.ext (by show l.val % 64 = l.val % 32; omega))
  · rw [dif_neg h, if_neg h]
    exact congrArg (fun z : Fin 32 => Ideal.sin (v (ix2 s z))) (Fin.ext (by show l.val % 64 - 32 = l.val % 32; omega))

/-- The table of cosines. -/
theorem cos_apply (U : IArr) (p : S8192x128.Idx) :
    val_main_v9 (F := Ideal) U p = cosLane (fun i => U (ix2 0 i)) (p 0) (p 1) := by
  refine (congrArg _ (eq_ix2 p)).trans ((cos_at U (p 0) (p 1)).trans ?_)
  unfold cosLane
  exact congrArg Ideal.cos (angle_apply U (p 0) _)

/-- The table of signed sines. -/
theorem sin_apply (U : IArr) (p : S8192x128.Idx) :
    val_main_v14 (F := Ideal) U p = sinLane (fun i => U (ix2 0 i)) (p 0) (p 1) := by
  refine (congrArg _ (eq_ix2 p)).trans ((sin_at U (p 0) (p 1)).trans ?_)
  unfold sinLane
  exact congrArg (fun z : EReal => ite _ (-Ideal.sin z) (Ideal.sin z)) (angle_apply U (p 0) _)

end Cert.RopeRefIdeal.Tab

end
-- ==== Proof.FilterDef.lean ====
/- The filters of the long convolution: three sine layers over a position's features, a product and a decay. -/
module

public import proofs.«01_k».proof.Proof.Tables

@[expose] public section

noncomputable section

namespace Cert.Layer

open Idealize.ShloMosaic
open scoped BigOperators

/-- A position as a share of the last position. -/
def timeAt (p : ℕ) : EReal := ((p : ℝ) : EReal) * ((8191⁻¹ : ℝ) : EReal)

/-- A position's angle: once round over all positions, with the circle's length as it is rounded to single precision. -/
def turnAt (p : ℕ) : EReal := Ideal.div (((p : ℝ) : EReal) * Ideal.ofBits .f32 0x40C90FDB#32) (Ideal.ofBits .f32 0x46000000#32)

/-- The features of a position: the time, sixteen cosines and sixteen negated sines. -/
def feature (f : Fin 16 → EReal) (p : ℕ) (k : Fin 33) : EReal :=
  if k.val = 0 then timeAt p
  else if k.val ≤ 16 then Ideal.cos (turnAt p * f ⟨(k.val + 15) % 16, Nat.mod_lt _ (by decide)⟩)
  else -Ideal.sin (turnAt p * f ⟨(k.val + 15) % 16, Nat.mod_lt _ (by decide)⟩)

/-- A sine layer: the sine of the product plus a bias, at a frequency. -/
def sineLayer {n : ℕ} (z : Fin n → EReal) (w : Fin n → Fin 64 → EReal) (b fr : Fin 64 → EReal) (o : Fin 64) : EReal :=
  Ideal.sin (fr o * (∑ k, z k * w k o + b o))

/-- The weights of the filters' network. -/
structure FilterNet where
  /-- The features' frequencies. -/
  f : Fin 16 → EReal
  /-- The first layer's matrix. -/
  w1 : Fin 33 → Fin 64 → EReal
  /-- The first layer's bias. -/
  b1 : Fin 64 → EReal
  /-- The second layer's matrix. -/
  w2 : Fin 64 → Fin 64 → EReal
  /-- The second layer's bias. -/
  b2 : Fin 64 → EReal
  /-- The third layer's matrix. -/
  w3 : Fin 64 → Fin 64 → EReal
  /-- The third layer's bias. -/
  b3 : Fin 64 → EReal
  /-- The layers' frequencies. -/
  fr : Fin 64 → EReal

/-- The network's output at a position. -/
def FilterNet.out (N : FilterNet) (p : ℕ) : Fin 64 → EReal :=
  sineLayer (sineLayer (sineLayer (feature N.f p) N.w1 N.b1 N.fr) N.w2 N.b2 N.fr) N.w3 N.b3 N.fr

/-- A filter's tap at a position: the network's output times a column, decayed. -/
def FilterNet.tap (N : FilterNet) (w : Fin 64 → EReal) (d : EReal) (p : ℕ) : EReal :=
  (∑ q, N.out p q * w q) * Ideal.exp (-timeAt p * d)

/-- The two filters over twice the positions: the forward taps, a zero, and the backward taps reversed. -/
def filterAt (N : FilterNet) (w4 : Fin 64 → Fin 2048 → EReal) (deltas : Fin 512 → EReal) (o : Fin 2) (n : Fin 16384) (c : Fin 512) : EReal :=
  if n.val = 8192 then 0
  else if n.val < 8192 then N.tap (fun q => w4 q ⟨o.val * 1024 + c.val, by omega⟩) (deltas c) n.val
  else N.tap (fun q => w4 q ⟨o.val * 1024 + 512 + c.val, by omega⟩) (deltas ⟨511 - c.val, by omega⟩) (16383 - n.val)

end Cert.Layer

end
-- ==== Proof.FilterVal.lean ====
/- The filters as the kernel leaves them, element by element. -/
module

public import proofs.«01_k».proof.Proof.Gen.FilterIdeal.Value
public import proofs.«01_k».proof.Proof.Gen.FilterIdeal.Frame
public import proofs.«01_k».proof.Proof.FilterDef
public import Idealize.ShloMosaic.Lib.WritesUnit
public import Idealize.ShloMosaic.Lib.Pipeline.ValueKit.Basic
public import Idealize.ShloMosaic.Lib.Pipeline.ValueKit.Tiles
public import Idealize.ShloMosaic.Lib.Pointwise
public import Idealize.ShloMosaic.Lib.WordCmp

@[expose] public section

set_option maxRecDepth 16384

noncomputable section

namespace Cert.FilterIdeal.Filt

open Cert.FilterIdeal Cert.FilterIdeal.Gen Idealize.ShloMosaic Idealize.ShloMosaic.TcCoe Idealize.SL.Sem
open Cert.Layer
open scoped BigOperators

/-! ## The body's vectors at an index -/

/-- A row's place in the doubled positions. -/
abbrev place (i : grid0.Coords) (r : Fin 512) : ℕ := (i 0).val * 512 + r.val

/-- The position that a place stands for. -/
def pos (n : ℕ) : ℕ := if n < 8192 then n else 16383 - n

/-- A place lies below the doubled length. -/
theorem place_lt (i : grid0.Coords) (r : Fin 512) : place i r < 16384 := by
  have hi : (i 0).val < 32 := (i 0).isLt
  have hr := r.isLt
  show (i 0).val * 512 + r.val < 16384
  omega

/-- The places of a block's rows. -/
theorem pay3_apply (i : grid0.Coords) (r : Fin 512) : k0_pay3 i (ix2 r 0) = BitVec.ofNat 32 (place i r) := by
  pointwise [k0_pay3]
  show BitVec.ofNat 32 (i 0).val * 512#32 + BitVec.ofNat 32 r.val = _
  rw [BitVec.ofNat_add, BitVec.ofNat_mul]

/-- A choice by whether one small word is another. -/
theorem select_eq {α : Type} (a b : ℕ) (ha : a < 16384) (hb : b < 16384) (x y : α) :
    Scalar.select (IntOp.cmpi .eq (BitVec.ofNat 32 a) (BitVec.ofNat 32 b)) x y = if a = b then x else y := by
  rw [WordCmp.cmpi_eq_eq_toNat, BitVec.toNat_ofNat, BitVec.toNat_ofNat, Nat.mod_eq_of_lt (by omega), Nat.mod_eq_of_lt (by omega)]
  by_cases h : a = b
  · rw [if_pos h, decide_eq_true h]; rfl
  · rw [if_neg h, decide_eq_false h]; rfl

/-- A choice by whether one small word is below another. -/
theorem select_slt {α : Type} (a b : ℕ) (ha : a < 16384) (hb : b < 16384) (x y : α) :
    Scalar.select (IntOp.cmpi .slt (BitVec.ofNat 32 a) (BitVec.ofNat 32 b)) x y = if a < b then x else y := by
  rw [WordCmp.cmpi_slt_ofNat (by omega) (by omega)]
  by_cases h : a < b
  · rw [if_pos h, decide_eq_true h]; rfl
  · rw [if_neg h, decide_eq_false h]; rfl

/-- A choice by whether one small word is at most another. -/
theorem select_sle {α : Type} (a b : ℕ) (ha : a < 16384) (hb : b < 16384) (x y : α) :
    Scalar.select (IntOp.cmpi .sle (BitVec.ofNat 32 a) (BitVec.ofNat 32 b)) x y = if a ≤ b then x else y := by
  rw [WordCmp.cmpi_sle_ofNat (by omega) (by omega)]
  by_cases h : a ≤ b
  · rw [if_pos h, decide_eq_true h]; rfl
  · rw [if_neg h, decide_eq_false h]; rfl

/-- The positions of a block's rows. -/
theorem pay4_apply (i : grid0.Coords) (r : Fin 512) : k0_pay4 (F := Ideal) i (ix2 r 0) = ((pos (place i r) : ℝ) : EReal) := by
  have hn := place_lt i r
  have h3 := pay3_apply i r
  generalize place i r = n at hn h3 ⊢
  unfold k0_pay4
  generalize k0_pay3 i = v at h3 ⊢
  pointwise
  rw [h3]
  rw [select_slt n 8192 hn (by decide)]
  unfold pos
  by_cases h : n < 8192
  · rw [if_pos h, if_pos h]
    exact word_toInt n (by omega)
  · rw [if_neg h, if_neg h]
    rw [show IntOp.subi (16383#32) (BitVec.ofNat 32 n) = BitVec.ofNat 32 (16383 - n) from (BitVec.ofNat_sub_ofNat_of_le 16383 n (by omega) (by omega))]
    exact word_toInt (16383 - n) (by omega)

/-- The named step of time is the value its name stands for. -/
theorem t_step : Named.named (F := Ideal) κ "t_step" (φ := .f32) 0x39000400#32 = ((8191⁻¹ : ℝ) : EReal) :=
  IdealRules.named_const.ideal_named_scalar _ _ _ _ rfl

/-- The times of a block's rows. -/
theorem pay5_apply (i : grid0.Coords) (r : Fin 512) : k0_pay5 (F := Ideal) i (ix2 r 0) = timeAt (pos (place i r)) := by
  unfold timeAt
  rw [← pay4_apply, ← t_step]
  pointwise [k0_pay5]

/-- The features of a block's rows. -/
theorem pay6_apply (i : grid0.Coords) (v : Vec Ideal S1x128 .f32) (r : Fin 512) (l : Fin 128) :
    k0_pay6 i v (ix2 r l) = if l.val = 0 then timeAt (pos (place i r))
      else if l.val ≤ 16 then Ideal.cos (turnAt (pos (place i r)) * v (ix2 0 l))
      else if l.val ≤ 32 then -Ideal.sin (turnAt (pos (place i r)) * v (ix2 0 l)) else 0 := by
  unfold turnAt
  rw [← pay4_apply, ← pay5_apply]
  unfold k0_pay6
  generalize k0_pay5 (F := Ideal) i = v5
  generalize k0_pay4 (F := Ideal) i = v4
  pointwise
  have hl := l.isLt
  rw [select_eq l.val 0 (by omega) (by decide), select_sle l.val 16 (by omega) (by decide), select_sle l.val 32 (by omega) (by decide), zero_sub]

/-- The three sine layers. -/
theorem pay9_apply (z : FVec Ideal S512x128 .f32) (fr : FVec Ideal S1x64 .f32) (w1 : FVec Ideal S128x64 .f32) (b1 : Vec Ideal S1x64 .f32)
    (w2 : Vec Ideal S64x64 .f32) (b2 : Vec Ideal S1x64 .f32) (w3 : Vec Ideal S64x64 .f32) (b3 : Vec Ideal S1x64 .f32) (r : Fin 512) (o : Fin 64) :
    k0_pay9 z fr w1 b1 w2 b2 w3 b3 (ix2 r o)
      = sineLayer (sineLayer (sineLayer (fun k => z (ix2 r k)) (fun k o => w1 (ix2 k o)) (fun o => b1 (ix2 0 o)) (fun o => fr (ix2 0 o)))
          (fun k o => w2 (ix2 k o)) (fun o => b2 (ix2 0 o)) (fun o => fr (ix2 0 o)))
          (fun k o => w3 (ix2 k o)) (fun o => b3 (ix2 0 o)) (fun o => fr (ix2 0 o)) o := by
  unfold sineLayer
  pointwise [k0_pay9]

/-- The decay of a block's rows. -/
theorem pay10_apply (t : FVec Ideal S512x1 .f32) (d : Vec Ideal S1x1x512 .f32) (r : Fin 512) (c : Fin 512) :
    k0_pay10 t d (ix2 r c) = Ideal.exp (-t (ix2 r 0) * d (ix3 0 0 c)) := by
  rw [← zero_sub]
  pointwise [k0_pay10]

/-- The first filter's undelayed products. -/
theorem pay11_apply (t : FVec Ideal S512x1 .f32) (z : FVec Ideal S512x128 .f32) (fr : FVec Ideal S1x64 .f32) (w1 : FVec Ideal S128x64 .f32) (b1 : Vec Ideal S1x64 .f32)
    (w2 : Vec Ideal S64x64 .f32) (b2 : Vec Ideal S1x64 .f32) (w3 : Vec Ideal S64x64 .f32) (b3 : Vec Ideal S1x64 .f32) (d : Vec Ideal S1x1x512 .f32)
    (w4 : Vec Ideal S1x1x64x512 .f32) (r : Fin 512) (c : Fin 512) :
    k0_pay11 t z fr w1 b1 w2 b2 w3 b3 d w4 (ix2 r c)
      = (∑ q, k0_pay9 z fr w1 b1 w2 b2 w3 b3 (ix2 r q) * w4 (ix4 0 0 q c)) * Ideal.exp (-t (ix2 r 0) * d (ix3 0 0 c)) := by
  rw [← pay10_apply]
  unfold k0_pay11
  generalize k0_pay9 z fr w1 b1 w2 b2 w3 b3 = h
  generalize k0_pay10 t d = e
  pointwise

/-- The first filter's block. -/
theorem pay1_apply (i : grid0.Coords) (v : FVec Ideal S512x512 .f32) (r c : Fin 512) :
    k0_pay1 (k0_pay3 i) v (ix3 0 r c) = if place i r = 8192 then 0 else v (ix2 r c) := by
  have hn := place_lt i r
  have h3 := pay3_apply i r
  generalize place i r = n at hn h3 ⊢
  generalize k0_pay3 i = p at h3 ⊢
  pointwise [k0_pay1]
  rw [h3]
  exact select_eq n 8192 hn (by decide) _ _

/-- The second filter's block. -/
theorem pay2_apply (i : grid0.Coords) (h : FVec Ideal S512x64 .f32) (e : FVec Ideal S512x512 .f32) (w4 : Vec Ideal S1x1x64x512 .f32) (r c : Fin 512) :
    k0_pay2 (k0_pay3 i) h e w4 (ix3 0 r c) = if place i r = 8192 then 0 else (∑ q, h (ix2 r q) * w4 (ix4 0 0 q c)) * e (ix2 r c) := by
  have hn := place_lt i r
  have h3 := pay3_apply i r
  generalize place i r = n at hn h3 ⊢
  generalize k0_pay3 i = p at h3 ⊢
  pointwise [k0_pay2]
  rw [h3]
  exact select_eq n 8192 hn (by decide) _ _

/-! ## A block from the blocks read -/

/-- A load of a whole block reads the block. -/
theorem ld_whole {s : Shape} {e : EltTy} (x : Vec Ideal s e) {off : Fin s.rank → ℕ} (inb : ∀ b, off b + s.size b ≤ s.size b) (h0 : ∀ b, off b = 0) :
    View.ld x (Rect.unit off s.size inb) = x := View.ld_unit_lit _ _ h0

/-- The first matrix of the last products. -/
theorem ld_first (x : Vec Ideal S1x2x64x512 .f32) (q : Fin 64) (c : Fin 512) : View.ld x r0_5 (ix4 0 0 q c) = x (ix4 (n1 := 2) 0 0 q c) :=
  congrArg x (funext fun a => Fin.ext (by
    match a with
    | ⟨0, _⟩ => rfl
    | ⟨1, _⟩ => rfl
    | ⟨2, _⟩ => show 0 + 1 * q.val = q.val; omega
    | ⟨3, _⟩ => show 0 + 1 * c.val = c.val; omega))

/-- The second matrix of the last products. -/
theorem ld_second (x : Vec Ideal S1x2x64x512 .f32) (q : Fin 64) (c : Fin 512) : View.ld x r0_7 (ix4 0 0 q c) = x (ix4 (n1 := 2) 0 1 q c) :=
  congrArg x (funext fun a => Fin.ext (by
    match a with
    | ⟨0, _⟩ => rfl
    | ⟨1, _⟩ => rfl
    | ⟨2, _⟩ => show 0 + 1 * q.val = q.val; omega
    | ⟨3, _⟩ => show 0 + 1 * c.val = c.val; omega))

variable (i : grid0.Coords) (x0 : Vec Ideal S1x128 .f32) (x1 : Vec Ideal S128x64 .f32) (x2 : Vec Ideal S1x64 .f32) (x3 : Vec Ideal S64x64 .f32)
  (x4 : Vec Ideal S1x64 .f32) (x5 : Vec Ideal S64x64 .f32) (x6 x7 : Vec Ideal S1x64 .f32) (x8 : Vec Ideal S1x2x64x512 .f32) (x9 : Vec Ideal S1x1x512 .f32)

/-- The network's output for a row, from the blocks read. -/
def rowOut (r : Fin 512) : Fin 64 → EReal :=
  sineLayer (sineLayer (sineLayer (fun k => k0_pay6 i x0 (ix2 r k)) (fun k o => x1 (ix2 k o)) (fun o => x2 (ix2 0 o)) (fun o => x7 (ix2 0 o)))
    (fun k o => x3 (ix2 k o)) (fun o => x4 (ix2 0 o)) (fun o => x7 (ix2 0 o)))
    (fun k o => x5 (ix2 k o)) (fun o => x6 (ix2 0 o)) (fun o => x7 (ix2 0 o))

/-- The network's output as the body computes it. -/
theorem rowOut_apply (r : Fin 512) (q : Fin 64) :
    k0_pay9 (k0_pay14 i x0 x1 x2 x3 x4 x5 x6 x7 x8 x9) (k0_pay15 i x0 x1 x2 x3 x4 x5 x6 x7 x8 x9) (k0_pay16 i x0 x1 x2 x3 x4 x5 x6 x7 x8 x9)
      (View.ld x2 r0_1) (View.ld x3 r0_3) (View.ld x4 r0_1) (View.ld x5 r0_3) (View.ld x6 r0_1) (ix2 r q) = rowOut i x0 x1 x2 x3 x4 x5 x6 x7 r q := by
  unfold k0_pay14 k0_pay15 k0_pay16 r0_0 r0_1 r0_2 r0_3
  rw [ld_whole x0 _ (by decide), ld_whole x1 _ (by decide), ld_whole x2 _ (by decide), ld_whole x3 _ (by decide), ld_whole x4 _ (by decide),
    ld_whole x5 _ (by decide), ld_whole x6 _ (by decide), ld_whole x7 _ (by decide), pay9_apply]
  unfold rowOut
  have h7 : ∀ o, k0_pay7 x7 (ix2 0 o) = x7 (ix2 0 o) := fun o => by pointwise [k0_pay7]
  have h8 : ∀ k o, k0_pay8 x1 (ix2 k o) = x1 (ix2 k o) := fun k o => by pointwise [k0_pay8]
  simp only [h7, h8]

/-- An element of a block, from the blocks read. -/
def blockTap (o : Fin 2) (r c : Fin 512) : EReal :=
  if place i r = 8192 then 0
  else (∑ q, rowOut i x0 x1 x2 x3 x4 x5 x6 x7 r q * x8 (ix4 0 o q c)) * Ideal.exp (-timeAt (pos (place i r)) * x9 (ix3 0 0 c))

/-- The block, from the blocks read. -/
theorem out10_at (o : Fin 2) (r c : Fin 512) :
    out0_10 i x0 x1 x2 x3 x4 x5 x6 x7 x8 x9 (ix3 o r c) = blockTap i x0 x1 x2 x3 x4 x5 x6 x7 x8 x9 o r c := by
  have hd : k0_pay10 (k0_pay13 i x0 x1 x2 x3 x4 x5 x6 x7 x8 x9) (View.ld x9 r0_4) (ix2 r c)
      = Ideal.exp (-timeAt (pos (place i r)) * x9 (ix3 0 0 c)) := by
    unfold k0_pay13 r0_4
    rw [ld_whole x9 _ (by decide), pay10_apply, pay5_apply]
  unfold out0_10 blockTap
  have ho : o = 0 ∨ o = 1 := by omega
  rcases ho with rfl | rfl
  · refine (View.canon_cons_of_not_mem _ _ ?_).trans ?_
    · unfold r0_8
      rw [Rect.mem_set_unit]
      intro h
      have h0 : 1 ≤ 0 := (h 0).1
      omega
    · have e : ix3 (0 : Fin 2) r c = r0_6.emb (ix3 (0 : Fin 1) r c) := funext fun a => Fin.ext (by
        match a with
        | ⟨0, _⟩ => rfl
        | ⟨1, _⟩ => show r.val = 0 + 1 * r.val; omega
        | ⟨2, _⟩ => show c.val = 0 + 1 * c.val; omega)
      rw [e, View.canon_cons_emb]
      unfold k0_pay12
      rw [pay1_apply, pay11_apply, ← pay10_apply, hd]
      simp only [rowOut_apply]
      exact if_congr Iff.rfl rfl (congrArg (· * _) (Finset.sum_congr rfl fun q _ => congrArg (_ * ·) (ld_first x8 q c)))
  · have e : ix3 (1 : Fin 2) r c = r0_8.emb (ix3 (0 : Fin 1) r c) := funext fun a => Fin.ext (by
      match a with
      | ⟨0, _⟩ => rfl
      | ⟨1, _⟩ => show r.val = 0 + 1 * r.val; omega
      | ⟨2, _⟩ => show c.val = 0 + 1 * c.val; omega)
    rw [e, View.canon_cons_emb]
    unfold k0_pay12
    rw [pay2_apply, hd]
    simp only [rowOut_apply]
    exact if_congr Iff.rfl rfl (congrArg (· * _) (Finset.sum_congr rfl fun q _ => congrArg (_ * ·) (ld_second x8 q c)))

/-! ## The arrays -/

variable (m : (ℓ : Loc nD τ sig) → Buf (Elt Ideal) ℓ)

/-- The frequencies of 128 lanes: the sixteen twice, after a lane of zero. -/
def lanes (f : FVec Ideal S16 .f32) : FVec Ideal S1x128 .f32 :=
  broadcastInDim S1x128 ![1] bcast_S128_S1x128_1 (pad S128 ![1] ![95] ![0]
    (concatenate S32 0 [⟨S16, f⟩, ⟨S16, f⟩] concatenates_S16_S16_S32_d0) (sitofp .f32 (constantI S_ 32 0#32)) pads_S32_S128_1950 h_S_)

/-- The two rows of decay rates. -/
def rates (d : FVec Ideal S512 .f32) : FVec Ideal S2x1x512 .f32 :=
  broadcastInDim S2x1x512 ![0, 2] bcast_S2x512_S2x1x512_0_2 (concatenate S2x512 0 [⟨S1x512, broadcastInDim S1x512 ![1] bcast_S512_S1x512_1 d⟩,
    ⟨S1x512, broadcastInDim S1x512 ![1] bcast_S512_S1x512_1 (Host.reverse [0] d)⟩] concatenates_S1x512_S1x512_S2x512_d0)

/-- The first matrix with rows of zeros below it. -/
def padded (w : FVec Ideal S33x64 .f32) : FVec Ideal S128x64 .f32 :=
  pad S128x64 ![0, 0] ![95, 0] ![0, 0] w (sitofp .f32 (constantI S_ 32 0#32)) pads_S33x64_S128x64_0950_000 h_S_

/-- The last matrix, a part for each direction and filter. -/
def parts (w : FVec Ideal S64x2048 .f32) : FVec Ideal S2x2x64x512 .f32 :=
  transpose S2x2x64x512 [2, 1, 0, 3] (shapeCast S64x2x2x512 w shapeCasts_S64x2048_S64x2x2x512) transposes_S64x2x2x512_S2x2x64x512_2_1_0_3

/-- A lane's frequency. -/
theorem lanes_apply (f : FVec Ideal S16 .f32) (l : Fin 128) (h0 : l.val ≠ 0) (h1 : l.val ≤ 32) :
    lanes f (ix2 0 l) = f (ix1 (n0 := 16) ⟨(l.val + 15) % 16, Nat.mod_lt _ (by decide)⟩) := by
  pointwise [lanes]
  have hl := l.isLt
  refine (dif_pos ⟨by omega, by omega⟩).trans ?_
  by_cases h : l.val - 1 < 16
  · refine (dif_pos h).trans (congrArg (fun z : Fin 16 => f (ix1 z)) (Fin.ext ?_))
    show l.val - 1 = (l.val + 15) % 16
    omega
  · refine (dif_neg h).trans (congrArg (fun z : Fin 16 => f (ix1 z)) (Fin.ext ?_))
    show l.val - 1 - 16 = (l.val + 15) % 16
    omega

/-- A direction's decay rate. -/
theorem rates_apply (d : FVec Ideal S512 .f32) (b : Fin 2) (c : Fin 512) :
    rates d (ix3 b 0 c) = if b.val = 0 then d (ix1 c) else d (ix1 (n0 := 512) ⟨511 - c.val, by omega⟩) := by
  pointwise [rates]
  by_cases h : b.val < 1
  · exact (dif_pos h).trans (if_pos (by omega)).symm
  · refine (dif_neg h).trans (Eq.trans ?_ (if_neg (by omega)).symm)
    exact congrArg (fun z : Fin 512 => d (ix1 z)) (Fin.ext (by show 512 - (c.val + 1) = 511 - c.val; omega))

/-- A row of the first matrix. -/
theorem padded_apply (w : FVec Ideal S33x64 .f32) (k : Fin 33) (o : Fin 64) : padded w (ix2 (n0 := 128) ⟨k.val, by omega⟩ o) = w (ix2 k o) := by
  pointwise [padded]

/-- A row below the first matrix. -/
theorem padded_zero (w : FVec Ideal S33x64 .f32) (k : Fin 128) (o : Fin 64) (h : 33 ≤ k.val) : padded w (ix2 k o) = 0 := by
  pointwise [padded]
  refine (dif_neg (by omega)).trans ?_
  show (((0#32 : BitVec 32).toInt : ℝ) : EReal) = 0
  simp

/-- A column of a part of the last matrix. -/
theorem parts_apply (w : FVec Ideal S64x2048 .f32) (b o : Fin 2) (q : Fin 64) (c : Fin 512) :
    parts w (ix4 b o q c) = w (ix2 (n1 := 2048) q ⟨o.val * 1024 + b.val * 512 + c.val, by omega⟩) := by
  pointwise [parts]

/-- The frequencies that the region reads. -/
theorem V_lanes (c : Dev nD) : V m c main_v2 = lanes (m ((c : Thread nD τ).loc main_arg0)) := by
  show StableHlo.after (List.flatten [hostOps0, hostOps0_1, hostOps0_2, hostOps0_3, hostOps0_4]) (fun b => m (c, b)) (Proc.devRef .tc main_v2) = _
  unfold hostOps0 hostOps0_1 hostOps0_2 hostOps0_3 hostOps0_4
  simp only [List.flatten_cons, List.flatten_nil, List.append_nil, List.cons_append, List.nil_append]
  after_results_simp
  rfl

/-- The decay rates that the region reads. -/
theorem V_rates (c : Dev nD) : V m c main_v7 = rates (m ((c : Thread nD τ).loc main_arg1)) := by
  show StableHlo.after (List.flatten [hostOps0, hostOps0_1, hostOps0_2, hostOps0_3, hostOps0_4]) (fun b => m (c, b)) (Proc.devRef .tc main_v7) = _
  unfold hostOps0 hostOps0_1 hostOps0_2 hostOps0_3 hostOps0_4
  simp only [List.flatten_cons, List.flatten_nil, List.append_nil, List.cons_append, List.nil_append]
  after_results_simp
  rfl

/-- The first matrix that the region reads. -/
theorem V_padded (c : Dev nD) : V m c main_v8 = padded (m ((c : Thread nD τ).loc main_arg2)) := by
  show StableHlo.after (List.flatten [hostOps0, hostOps0_1, hostOps0_2, hostOps0_3, hostOps0_4]) (fun b => m (c, b)) (Proc.devRef .tc main_v8) = _
  unfold hostOps0 hostOps0_1 hostOps0_2 hostOps0_3 hostOps0_4
  simp only [List.flatten_cons, List.flatten_nil, List.append_nil, List.cons_append, List.nil_append]
  after_results_simp
  rfl

/-- The last matrix that the region reads. -/
theorem V_parts (c : Dev nD) : V m c main_v10 = parts (m ((c : Thread nD τ).loc main_arg8)) := by
  show StableHlo.after (List.flatten [hostOps0, hostOps0_1, hostOps0_2, hostOps0_3, hostOps0_4]) (fun b => m (c, b)) (Proc.devRef .tc main_v10) = _
  unfold hostOps0 hostOps0_1 hostOps0_2 hostOps0_3 hostOps0_4
  simp only [List.flatten_cons, List.flatten_nil, List.append_nil, List.cons_append, List.nil_append]
  after_results_simp
  rfl

/-- The first bias that the region reads. -/
theorem V_v11 (c : Dev nD) : V m c main_v11 = broadcastInDim S1x64 ![1] bcast_S64_S1x64_1 (m ((c : Thread nD τ).loc main_arg3)) := by
  show StableHlo.after (List.flatten [hostOps0, hostOps0_1, hostOps0_2, hostOps0_3, hostOps0_4]) (fun b => m (c, b)) (Proc.devRef .tc main_v11) = _
  unfold hostOps0 hostOps0_1 hostOps0_2 hostOps0_3 hostOps0_4
  simp only [List.flatten_cons, List.flatten_nil, List.append_nil, List.cons_append, List.nil_append]
  after_results_simp

/-- The second bias that the region reads. -/
theorem V_v12 (c : Dev nD) : V m c main_v12 = broadcastInDim S1x64 ![1] bcast_S64_S1x64_1 (m ((c : Thread nD τ).loc main_arg5)) := by
  show StableHlo.after (List.flatten [hostOps0, hostOps0_1, hostOps0_2, hostOps0_3, hostOps0_4]) (fun b => m (c, b)) (Proc.devRef .tc main_v12) = _
  unfold hostOps0 hostOps0_1 hostOps0_2 hostOps0_3 hostOps0_4
  simp only [List.flatten_cons, List.flatten_nil, List.append_nil, List.cons_append, List.nil_append]
  after_results_simp

/-- The third bias that the region reads. -/
theorem V_v13 (c : Dev nD) : V m c main_v13 = broadcastInDim S1x64 ![1] bcast_S64_S1x64_1 (m ((c : Thread nD τ).loc main_arg7)) := by
  show StableHlo.after (List.flatten [hostOps0, hostOps0_1, hostOps0_2, hostOps0_3, hostOps0_4]) (fun b => m (c, b)) (Proc.devRef .tc main_v13) = _
  unfold hostOps0 hostOps0_1 hostOps0_2 hostOps0_3 hostOps0_4
  simp only [List.flatten_cons, List.flatten_nil, List.append_nil, List.cons_append, List.nil_append]
  after_results_simp

/-- The layers' frequencies that the region reads. -/
theorem V_v14 (c : Dev nD) : V m c main_v14 = broadcastInDim S1x64 ![1] bcast_S64_S1x64_1 (m ((c : Thread nD τ).loc main_arg9)) := by
  show StableHlo.after (List.flatten [hostOps0, hostOps0_1, hostOps0_2, hostOps0_3, hostOps0_4]) (fun b => m (c, b)) (Proc.devRef .tc main_v14) = _
  unfold hostOps0 hostOps0_1 hostOps0_2 hostOps0_3 hostOps0_4
  simp only [List.flatten_cons, List.flatten_nil, List.append_nil, List.cons_append, List.nil_append]
  after_results_simp

/-- A point's place in the grid. -/
theorem coords_apply : ∀ t : Fin grid0.N, (grid0.coords t 0).val = t.val := by decide +kernel
/-- Where window 0's block lies at a point. -/
theorem idx0 : ∀ t : Fin grid0.N, win0_0.index t 0 = 0 ∧ win0_0.index t 1 = 0 := by decide +kernel
/-- Where window 1's block lies at a point. -/
theorem idx1 : ∀ t : Fin grid0.N, win0_1.index t 0 = 0 ∧ win0_1.index t 1 = 0 := by decide +kernel
/-- Where window 2's block lies at a point. -/
theorem idx2 : ∀ t : Fin grid0.N, win0_2.index t 0 = 0 ∧ win0_2.index t 1 = 0 := by decide +kernel
/-- Where window 3's block lies at a point. -/
theorem idx3 : ∀ t : Fin grid0.N, win0_3.index t 0 = 0 ∧ win0_3.index t 1 = 0 := by decide +kernel
/-- Where window 4's block lies at a point. -/
theorem idx4 : ∀ t : Fin grid0.N, win0_4.index t 0 = 0 ∧ win0_4.index t 1 = 0 := by decide +kernel
/-- Where window 5's block lies at a point. -/
theorem idx5 : ∀ t : Fin grid0.N, win0_5.index t 0 = 0 ∧ win0_5.index t 1 = 0 := by decide +kernel
/-- Where window 6's block lies at a point. -/
theorem idx6 : ∀ t : Fin grid0.N, win0_6.index t 0 = 0 ∧ win0_6.index t 1 = 0 := by decide +kernel
/-- Where window 7's block lies at a point. -/
theorem idx7 : ∀ t : Fin grid0.N, win0_7.index t 0 = 0 ∧ win0_7.index t 1 = 0 := by decide +kernel
/-- Where the last matrix's block lies at a point. -/
theorem idx8 : ∀ t : Fin grid0.N, win0_8.index t 0 = t.val / 16 ∧ win0_8.index t 1 = 0 ∧ win0_8.index t 2 = 0 ∧ win0_8.index t 3 = 0 := by decide +kernel
/-- Where the decay rates' block lies at a point. -/
theorem idx9 : ∀ t : Fin grid0.N, win0_9.index t 0 = t.val / 16 ∧ win0_9.index t 1 = 0 ∧ win0_9.index t 2 = 0 := by decide +kernel
/-- Where the result's block lies at a point. -/
theorem idx10 : ∀ t : Fin grid0.N, win0_10.index t 0 = 0 ∧ win0_10.index t 1 = t.val ∧ win0_10.index t 2 = 0 := by decide +kernel

/-- Every point reads the whole of window 0's array. -/
theorem iblk0 (c : Dev nD) (t : Fin cfg0.N) (k : Fin 1) (o : Fin 128) :
    (iblk m c 0 t : Vec Ideal S1x128 .f32) (ix2 k o) = (V m c main_v2 : FVec Ideal S1x128 .f32) (ix2 k o) := by
  have hi := idx0 t
  unfold iblk
  rw [View.read_apply]
  show V m c main_v2 _ = V m c main_v2 _
  congr 1
  funext a
  apply Fin.ext
  match a with
  | ⟨0, _⟩ => show win0_0.index t 0 * 1 + 1 * k.val = k.val; rw [hi.1]; omega
  | ⟨1, _⟩ => show win0_0.index t 1 * 128 + 1 * o.val = o.val; rw [hi.2]; omega

/-- Every point reads the whole of window 1's array. -/
theorem iblk1 (c : Dev nD) (t : Fin cfg0.N) (k : Fin 128) (o : Fin 64) :
    (iblk m c 1 t : Vec Ideal S128x64 .f32) (ix2 k o) = (V m c main_v8 : FVec Ideal S128x64 .f32) (ix2 k o) := by
  have hi := idx1 t
  unfold iblk
  rw [View.read_apply]
  show V m c main_v8 _ = V m c main_v8 _
  congr 1
  funext a
  apply Fin.ext
  match a with
  | ⟨0, _⟩ => show win0_1.index t 0 * 128 + 1 * k.val = k.val; rw [hi.1]; omega
  | ⟨1, _⟩ => show win0_1.index t 1 * 64 + 1 * o.val = o.val; rw [hi.2]; omega

/-- Every point reads the whole of window 2's array. -/
theorem iblk2 (c : Dev nD) (t : Fin cfg0.N) (k : Fin 1) (o : Fin 64) :
    (iblk m c 2 t : Vec Ideal S1x64 .f32) (ix2 k o) = (V m c main_v11 : FVec Ideal S1x64 .f32) (ix2 k o) := by
  have hi := idx2 t
  unfold iblk
  rw [View.read_apply]
  show V m c main_v11 _ = V m c main_v11 _
  congr 1
  funext a
  apply Fin.ext
  match a with
  | ⟨0, _⟩ => show win0_2.index t 0 * 1 + 1 * k.val = k.val; rw [hi.1]; omega
  | ⟨1, _⟩ => show win0_2.index t 1 * 64 + 1 * o.val = o.val; rw [hi.2]; omega

/-- Every point reads the whole of window 3's array. -/
theorem iblk3 (c : Dev nD) (t : Fin cfg0.N) (k : Fin 64) (o : Fin 64) :
    (iblk m c 3 t : Vec Ideal S64x64 .f32) (ix2 k o) = (V m c main_arg4 : FVec Ideal S64x64 .f32) (ix2 k o) := by
  have hi := idx3 t
  unfold iblk
  rw [View.read_apply]
  show V m c main_arg4 _ = V m c main_arg4 _
  congr 1
  funext a
  apply Fin.ext
  match a with
  | ⟨0, _⟩ => show win0_3.index t 0 * 64 + 1 * k.val = k.val; rw [hi.1]; omega
  | ⟨1, _⟩ => show win0_3.index t 1 * 64 + 1 * o.val = o.val; rw [hi.2]; omega

/-- Every point reads the whole of window 4's array. -/
theorem iblk4 (c : Dev nD) (t : Fin cfg0.N) (k : Fin 1) (o : Fin 64) :
    (iblk m c 4 t : Vec Ideal S1x64 .f32) (ix2 k o) = (V m c main_v12 : FVec Ideal S1x64 .f32) (ix2 k o) := by
  have hi := idx4 t
  unfold iblk
  rw [View.read_apply]
  show V m c main_v12 _ = V m c main_v12 _
  congr 1
  funext a
  apply Fin.ext
  match a with
  | ⟨0, _⟩ => show win0_4.index t 0 * 1 + 1 * k.val = k.val; rw [hi.1]; omega
  | ⟨1, _⟩ => show win0_4.index t 1 * 64 + 1 * o.val = o.val; rw [hi.2]; omega

/-- Every point reads the whole of window 5's array. -/
theorem iblk5 (c : Dev nD) (t : Fin cfg0.N) (k : Fin 64) (o : Fin 64) :
    (iblk m c 5 t : Vec Ideal S64x64 .f32) (ix2 k o) = (V m c main_arg6 : FVec Ideal S64x64 .f32) (ix2 k o) := by
  have hi := idx5 t
  unfold iblk
  rw [View.read_apply]
  show V m c main_arg6 _ = V m c main_arg6 _
  congr 1
  funext a
  apply Fin.ext
  match a with
  | ⟨0, _⟩ => show win0_5.index t 0 * 64 + 1 * k.val = k.val; rw [hi.1]; omega
  | ⟨1, _⟩ => show win0_5.index t 1 * 64 + 1 * o.val = o.val; rw [hi.2]; omega

/-- Every point reads the whole of window 6's array. -/
theorem iblk6 (c : Dev nD) (t : Fin cfg0.N) (k : Fin 1) (o : Fin 64) :
    (iblk m c 6 t : Vec Ideal S1x64 .f32) (ix2 k o) = (V m c main_v13 : FVec Ideal S1x64 .f32) (ix2 k o) := by
  have hi := idx6 t
  unfold iblk
  rw [View.read_apply]
  show V m c main_v13 _ = V m c main_v13 _
  congr 1
  funext a
  apply Fin.ext
  match a with
  | ⟨0, _⟩ => show win0_6.index t 0 * 1 + 1 * k.val = k.val; rw [hi.1]; omega
  | ⟨1, _⟩ => show win0_6.index t 1 * 64 + 1 * o.val = o.val; rw [hi.2]; omega

/-- Every point reads the whole of window 7's array. -/
theorem iblk7 (c : Dev nD) (t : Fin cfg0.N) (k : Fin 1) (o : Fin 64) :
    (iblk m c 7 t : Vec Ideal S1x64 .f32) (ix2 k o) = (V m c main_v14 : FVec Ideal S1x64 .f32) (ix2 k o) := by
  have hi := idx7 t
  unfold iblk
  rw [View.read_apply]
  show V m c main_v14 _ = V m c main_v14 _
  congr 1
  funext a
  apply Fin.ext
  match a with
  | ⟨0, _⟩ => show win0_7.index t 0 * 1 + 1 * k.val = k.val; rw [hi.1]; omega
  | ⟨1, _⟩ => show win0_7.index t 1 * 64 + 1 * o.val = o.val; rw [hi.2]; omega

/-- The direction of a point's block: forwards in the first half of the grid, backwards in the second. -/
abbrev side (t : Fin cfg0.N) : Fin 2 := ⟨t.val / 16, by have h : t.val < 32 := t.isLt; omega⟩

/-- A point reads its direction's parts of the last matrix. -/
theorem iblk8 (c : Dev nD) (t : Fin cfg0.N) (o : Fin 2) (q : Fin 64) (k : Fin 512) :
    (iblk m c 8 t : Vec Ideal S1x2x64x512 .f32) (ix4 0 o q k) = (V m c main_v10 : FVec Ideal S2x2x64x512 .f32) (ix4 (side t) o q k) := by
  have hi := idx8 t
  unfold iblk
  rw [View.read_apply]
  show V m c main_v10 _ = V m c main_v10 _
  congr 1
  funext a
  apply Fin.ext
  match a with
  | ⟨0, _⟩ => show win0_8.index t 0 * 1 + 1 * 0 = t.val / 16; rw [hi.1]; omega
  | ⟨1, _⟩ => show win0_8.index t 1 * 2 + 1 * o.val = o.val; rw [hi.2.1]; omega
  | ⟨2, _⟩ => show win0_8.index t 2 * 64 + 1 * q.val = q.val; rw [hi.2.2.1]; omega
  | ⟨3, _⟩ => show win0_8.index t 3 * 512 + 1 * k.val = k.val; rw [hi.2.2.2]; omega

/-- A point reads its direction's decay rates. -/
theorem iblk9 (c : Dev nD) (t : Fin cfg0.N) (k : Fin 512) :
    (iblk m c 9 t : Vec Ideal S1x1x512 .f32) (ix3 0 0 k) = (V m c main_v7 : FVec Ideal S2x1x512 .f32) (ix3 (side t) 0 k) := by
  have hi := idx9 t
  unfold iblk
  rw [View.read_apply]
  show V m c main_v7 _ = V m c main_v7 _
  congr 1
  funext a
  apply Fin.ext
  match a with
  | ⟨0, _⟩ => show win0_9.index t 0 * 1 + 1 * 0 = t.val / 16; rw [hi.1]; omega
  | ⟨1, _⟩ => show win0_9.index t 1 * 1 + 1 * 0 = 0; rw [hi.2.1]
  | ⟨2, _⟩ => show win0_9.index t 2 * 512 + 1 * k.val = k.val; rw [hi.2.2]; omega

/-- The network of the arguments. -/
def net (x0 : FVec Ideal S16 .f32) (x2 : FVec Ideal S33x64 .f32) (x3 : FVec Ideal S64 .f32) (x4 : FVec Ideal S64x64 .f32) (x5 : FVec Ideal S64 .f32)
    (x6 : FVec Ideal S64x64 .f32) (x7 : FVec Ideal S64 .f32) (x9 : FVec Ideal S64 .f32) : FilterNet :=
  ⟨fun j => x0 (ix1 j), fun k o => x2 (ix2 k o), fun o => x3 (ix1 o), fun k o => x4 (ix2 k o), fun o => x5 (ix1 o),
    fun k o => x6 (ix2 k o), fun o => x7 (ix1 o), fun o => x9 (ix1 o)⟩

/-- The network of the arguments in memory. -/
def memNet (c : Dev nD) : FilterNet :=
  net (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg9))

/-- The array of the two filters. -/
def filters (c : Dev nD) : Buf (Elt Ideal) ((c : Thread nD τ).loc main_v15) := fun p : S2x16384x512.Idx =>
  filterAt (memNet m c) (fun q j => (m ((c : Thread nD τ).loc main_arg8) : FVec Ideal S64x2048 .f32) (ix2 q j))
    (fun k => (m ((c : Thread nD τ).loc main_arg1) : FVec Ideal S512 .f32) (ix1 k)) (p 0) (p 1) (p 2)

/-- A bias of 64 lanes that the region reads. -/
theorem row_apply (x : FVec Ideal S64 .f32) (o : Fin 64) : broadcastInDim S1x64 ![1] bcast_S64_S1x64_1 x (ix2 0 o) = x (ix1 o) := by
  pointwise

/-- A sum over 128 rows whose last 95 are zero is the sum over the first 33. -/
theorem sum_33 (z w : Fin 128 → EReal) (h : ∀ k : Fin 128, 33 ≤ k.val → w k = 0) :
    ∑ k, z k * w k = ∑ k : Fin 33, z ⟨k.val, by omega⟩ * w ⟨k.val, by omega⟩ := by
  show ∑ k : Fin (33 + 95), z k * w k = _
  rw [Fin.sum_univ_add, Finset.sum_eq_zero (s := Finset.univ) (f := fun k : Fin 95 => z (Fin.natAdd 33 k) * w (Fin.natAdd 33 k))
    (fun k _ => by rw [h (Fin.natAdd 33 k) (Nat.le_add_right 33 k.val), mul_zero]), add_zero]
  rfl

/-- The features that a point computes for a row. -/
theorem feature_block (c : Dev nD) (t : Fin cfg0.N) (r : Fin 512) (k : Fin 33) :
    k0_pay6 (grid0.coords t) (iblk m c 0 t) (ix2 (n1 := 128) r ⟨k.val, by omega⟩) = feature (memNet m c).f (pos (place (grid0.coords t) r)) k := by
  have hk := k.isLt
  rw [pay6_apply]
  unfold feature
  by_cases h0 : k.val = 0
  · rw [if_pos h0, if_pos h0]
  · have hl : (iblk m c 0 t : Vec Ideal S1x128 .f32) (ix2 (n1 := 128) 0 ⟨k.val, by omega⟩) = (memNet m c).f ⟨(k.val + 15) % 16, Nat.mod_lt _ (by decide)⟩ := by
      rw [iblk0, V_lanes]
      exact lanes_apply _ ⟨k.val, by omega⟩ h0 (by show k.val ≤ 32; omega)
    rw [if_neg h0, if_neg h0, hl]
    by_cases h1 : k.val ≤ 16
    · rw [if_pos h1, if_pos h1]
    · rw [if_neg h1, if_neg h1, if_pos (show k.val ≤ 32 by omega)]

/-- The network's output that a point computes for a row. -/
theorem out_block (c : Dev nD) (t : Fin cfg0.N) (r : Fin 512) :
    rowOut (grid0.coords t) (iblk m c 0 t) (iblk m c 1 t) (iblk m c 2 t) (iblk m c 3 t) (iblk m c 4 t) (iblk m c 5 t) (iblk m c 6 t) (iblk m c 7 t) r
      = (memNet m c).out (pos (place (grid0.coords t) r)) := by
  unfold rowOut FilterNet.out
  have e1 : ∀ k o, (iblk m c 1 t : Vec Ideal S128x64 .f32) (ix2 k o) = padded (m ((c : Thread nD τ).loc main_arg2)) (ix2 k o) := fun k o => by
    rw [iblk1, V_padded]
  have e2 : (fun o => (iblk m c 2 t : Vec Ideal S1x64 .f32) (ix2 0 o)) = (memNet m c).b1 := funext fun o => by
    rw [iblk2, V_v11]; exact row_apply _ o
  have e3 : (fun k o => (iblk m c 3 t : Vec Ideal S64x64 .f32) (ix2 k o)) = (memNet m c).w2 := funext fun k => funext fun o => by
    rw [iblk3, V_main_arg4]; rfl
  have e4 : (fun o => (iblk m c 4 t : Vec Ideal S1x64 .f32) (ix2 0 o)) = (memNet m c).b2 := funext fun o => by
    rw [iblk4, V_v12]; exact row_apply _ o
  have e5 : (fun k o => (iblk m c 5 t : Vec Ideal S64x64 .f32) (ix2 k o)) = (memNet m c).w3 := funext fun k => funext fun o => by
    rw [iblk5, V_main_arg6]; rfl
  have e6 : (fun o => (iblk m c 6 t : Vec Ideal S1x64 .f32) (ix2 0 o)) = (memNet m c).b3 := funext fun o => by
    rw [iblk6, V_v13]; exact row_apply _ o
  have e7 : (fun o => (iblk m c 7 t : Vec Ideal S1x64 .f32) (ix2 0 o)) = (memNet m c).fr := funext fun o => by
    rw [iblk7, V_v14]; exact row_apply _ o
  rw [e2, e3, e4, e5, e6, e7]
  refine congrArg (fun z => sineLayer (sineLayer z _ _ _) _ _ _) (funext fun o => ?_)
  unfold sineLayer
  refine congrArg (fun z : EReal => Ideal.sin (_ * (z + _))) ?_
  refine (sum_33 _ (fun k => (iblk m c 1 t : Vec Ideal S128x64 .f32) (ix2 k o)) fun k hk => ?_).trans (Finset.sum_congr rfl fun k _ => ?_)
  · rw [e1]; exact padded_zero _ k o hk
  · refine congrArg₂ (· * ·) (feature_block m c t r k) ?_
    rw [e1]; exact padded_apply _ k o

/-- A point's block lies in the array. -/
theorem filter_block (c : Dev nD) (t : Fin cfg0.N) (o : Fin 2) (r k : Fin 512) (n : Fin 16384) (hn : t.val * 512 + r.val = n.val) :
    out0_10 (grid0.coords t) (iblk m c 0 t) (iblk m c 1 t) (iblk m c 2 t) (iblk m c 3 t) (iblk m c 4 t) (iblk m c 5 t) (iblk m c 6 t) (iblk m c 7 t)
      (iblk m c 8 t) (iblk m c 9 t) (ix3 o r k)
      = filterAt (memNet m c) (fun q j => (m ((c : Thread nD τ).loc main_arg8) : FVec Ideal S64x2048 .f32) (ix2 q j))
          (fun k => (m ((c : Thread nD τ).loc main_arg1) : FVec Ideal S512 .f32) (ix1 k)) o n k := by
  have hp : place (grid0.coords t) r = n.val := by
    show (grid0.coords t 0).val * 512 + r.val = n.val
    rw [coords_apply, hn]
  have ht : t.val < 32 := t.isLt
  have hr := r.isLt
  have h8 : ∀ q, (iblk m c 8 t : Vec Ideal S1x2x64x512 .f32) (ix4 0 o q k)
      = (m ((c : Thread nD τ).loc main_arg8) : FVec Ideal S64x2048 .f32) (ix2 (n1 := 2048) q ⟨o.val * 1024 + t.val / 16 * 512 + k.val, by omega⟩) := fun q => by
    rw [iblk8, V_parts]
    exact parts_apply _ (side t) o q k
  have h9 : (iblk m c 9 t : Vec Ideal S1x1x512 .f32) (ix3 0 0 k)
      = if t.val / 16 = 0 then (m ((c : Thread nD τ).loc main_arg1) : FVec Ideal S512 .f32) (ix1 k)
        else (m ((c : Thread nD τ).loc main_arg1) : FVec Ideal S512 .f32) (ix1 (n0 := 512) ⟨511 - k.val, by omega⟩) := by
    rw [iblk9, V_rates]
    exact rates_apply _ (side t) k
  rw [out10_at]
  unfold blockTap filterAt
  rw [out_block, hp, h9]
  simp only [h8]
  by_cases h : n.val = 8192
  · rw [if_pos h, if_pos h]
  · rw [if_neg h, if_neg h]
    unfold FilterNet.tap pos
    by_cases hl : n.val < 8192
    · rw [if_pos hl, if_pos hl, if_pos (show t.val / 16 = 0 by omega)]
      refine congrArg (· * _) (Finset.sum_congr rfl fun q _ => congrArg ((memNet m c).out _ q * ·) ?_)
      exact congrArg (fun z : Fin 2048 => (m ((c : Thread nD τ).loc main_arg8) : FVec Ideal S64x2048 .f32) (ix2 q z))
        (Fin.ext (by show o.val * 1024 + t.val / 16 * 512 + k.val = o.val * 1024 + k.val; omega))
    · rw [if_neg hl, if_neg hl, if_neg (show ¬t.val / 16 = 0 by omega)]
      refine congrArg (· * _) (Finset.sum_congr rfl fun q _ => congrArg ((memNet m c).out _ q * ·) ?_)
      exact congrArg (fun z : Fin 2048 => (m ((c : Thread nD τ).loc main_arg8) : FVec Ideal S64x2048 .f32) (ix2 q z))
        (Fin.ext (by show o.val * 1024 + t.val / 16 * 512 + k.val = o.val * 1024 + 512 + k.val; omega))

/-- An index of a point's block is an index of the array. -/
theorem flushed_at (c : Dev nD) (t : Fin cfg0.N) (y : S2x512x512.Idx) (p : S2x16384x512.Idx) (h0 : y 0 = p 0) (h1 : t.val * 512 + (y 1).val = (p 1).val)
    (h2 : y 2 = p 2) :
    out0_10 (grid0.coords t) (iblk m c 0 t) (iblk m c 1 t) (iblk m c 2 t) (iblk m c 3 t) (iblk m c 4 t) (iblk m c 5 t) (iblk m c 6 t) (iblk m c 7 t)
      (iblk m c 8 t) (iblk m c 9 t) y = filters m c p := by
  refine (congrArg _ (eq_ix3 y)).trans ((filter_block m c t (y 0) (y 1) (y 2) (p 1) h1).trans ?_)
  unfold filters
  rw [h0, h2]

/-- Every point writes its block of the filters. -/
theorem flushed_10 (c : Dev nD) (t : Fin cfg0.N) (hf : (cfg0.win 10).flush t = true) :
    (dats m 0 c).flushed 10 t = ((cfg0.win 10).blk t).view.read (Elt Ideal) (filters m c) := by
  rw [Value.flushed10]
  funext j
  rw [View.read_apply]
  have hi := idx10 t
  refine flushed_at m c t j _ (Fin.ext ?_) ?_ (Fin.ext ?_)
  · show (j 0).val = win0_10.index t 0 * 2 + 1 * (j 0).val
    rw [hi.1]; omega
  · show t.val * 512 + (j 1).val = win0_10.index t 1 * 512 + 1 * (j 1).val
    rw [hi.2.1]; omega
  · show (j 2).val = win0_10.index t 2 * 512 + 1 * (j 2).val
    rw [hi.2.2]; omega

/-- The point whose block holds a place. -/
abbrev pointOf (r : Fin 16384) : Fin cfg0.N := ⟨r.val / 512, by have := r.isLt; show r.val / 512 < 32; omega⟩

/-- The array of the filters after the run. -/
theorem final_10 (c : Dev nD) : (dats m 0 c).arrAt 10 cfg0.N = filters m c :=
  (dats m 0 c).arrAt_eq_of_cover 10 (filters m c) (flushed_10 m c) fun i =>
    ⟨pointOf (i 1), flush0_10 _, by
      show i ∈ ((View.whole main_v15).slice (win0_10.rect (pointOf (i 1)))).set
      rw [View.set_slice_whole, Rect.mem_set_unit]
      intro a
      have hi := idx10 (pointOf (i 1))
      have h0 : (i 0 : Nat) < 2 := (i 0).isLt
      have h1 : (i 1 : Nat) < 16384 := (i 1).isLt
      have h2 : (i 2 : Nat) < 512 := (i 2).isLt
      match a with
      | ⟨0, _⟩ =>
        show win0_10.index _ 0 * 2 ≤ (i 0 : Nat) ∧ (i 0 : Nat) < win0_10.index _ 0 * 2 + 2
        rw [hi.1]; omega
      | ⟨1, _⟩ =>
        show win0_10.index _ 1 * 512 ≤ (i 1 : Nat) ∧ (i 1 : Nat) < win0_10.index _ 1 * 512 + 512
        rw [hi.2.1]; dsimp only; omega
      | ⟨2, _⟩ =>
        show win0_10.index _ 2 * 512 ≤ (i 2 : Nat) ∧ (i 2 : Nat) < win0_10.index _ 2 * 512 + 512
        rw [hi.2.2]; omega⟩

end Cert.FilterIdeal.Filt

end
-- ==== Proof.FilterRefVal.lean ====
/- The reference's filters, element by element. -/
module

public import proofs.«01_k».proof.Proof.Gen.FilterRefIdeal.Read
public import proofs.«01_k».proof.Proof.FilterDef
public import Idealize.ShloMosaic.Lib.Pointwise

@[expose] public section

set_option maxRecDepth 16384

noncomputable section

namespace Cert.FilterRefIdeal.Filt

open Cert.FilterRefIdeal Cert.FilterRefIdeal.Gen Cert.FilterRefIdeal.Read Idealize.ShloMosaic Idealize.ShloMosaic.TcCoe Idealize.SL.Sem
open Cert.Layer
open scoped BigOperators

/-- The bits of the last position. -/
theorem last_f32 : Ideal.ofBits FTy.f32 0x45FFF800#32 = ((8191 : ℝ) : EReal) := by
  simp [Ideal.ofBits, Ideal.ieee, -EReal.coe_mul]; norm_num

/-- The time at a position. -/
theorem time_apply (p : Fin 8192) : val_main_v3 (F := Ideal) (ix2 p 0) = timeAt p.val := by
  unfold val_main_v3 val_main_v2 val_main_v1 val_main_v0 val_main_cst
  pointwise
  show Ideal.div (((BitVec.ofNat 32 p.val).toInt : ℝ) : EReal) (Ideal.ofBits FTy.f32 0x45FFF800#32) = _
  rw [word_toInt p.val (by have := p.isLt; omega), last_f32, Ideal.div_coe (by norm_num), one_div]
  rfl

/-- The angle at a position. -/
theorem turn_apply (p : Fin 8192) : val_main_v7 (F := Ideal) (ix2 p 0) = turnAt p.val := by
  unfold val_main_v7 val_main_v6 val_main_v5 val_main_v4 val_main_v1 val_main_v0 val_main_cst_0 val_main_cst_1
  pointwise
  show Ideal.div ((((BitVec.ofNat 32 p.val).toInt : ℝ) : EReal) * _) _ = _
  rw [word_toInt p.val (by have := p.isLt; omega)]
  rfl

/-- The features of a position. -/
theorem feature_apply (x0 : FVec Ideal S16 .f32) (p : Fin 8192) (k : Fin 33) :
    val_main_v19 (F := Ideal) x0 (ix2 p k) = feature (fun j => x0 (ix1 j)) p.val k := by
  unfold val_main_v19 val_main_v18 val_main_v17 val_main_v16 val_main_v15 val_main_v14 val_main_v13 val_main_v12 val_main_v11 val_main_v10 val_main_v9 val_main_v8 feature
  rw [← time_apply, ← turn_apply]
  generalize val_main_v3 (F := Ideal) = vt
  generalize val_main_v7 (F := Ideal) = vw
  pointwise
  have hk := k.isLt
  by_cases h0 : k.val < 1
  · refine (dif_pos h0).trans (Eq.trans ?_ (if_pos (by omega)).symm)
    exact congrArg (fun z : Fin 1 => vt (ix2 p z)) (Subsingleton.elim _ _)
  · refine (dif_neg h0).trans (Eq.trans ?_ (if_neg (by omega)).symm)
    by_cases h1 : k.val - 1 < 16
    · refine (dif_pos h1).trans (Eq.trans ?_ (if_pos (by omega)).symm)
      exact congrArg (fun z : Fin 16 => Ideal.cos (vw (ix2 p 0) * x0 (ix1 z))) (Fin.ext (by show k.val - 1 = (k.val + 15) % 16; omega))
    · refine (dif_neg h1).trans (Eq.trans ?_ (if_neg (by omega)).symm)
      exact congrArg (fun z : Fin 16 => -Ideal.sin (vw (ix2 p 0) * x0 (ix1 z))) (Fin.ext (by show k.val - 1 - 16 = (k.val + 15) % 16; omega))

variable (x0 : FVec Ideal S16 .f32) (x1 : FVec Ideal S512 .f32) (x2 : FVec Ideal S33x64 .f32) (x3 : FVec Ideal S64 .f32)
  (x4 : FVec Ideal S64x64 .f32) (x5 : FVec Ideal S64 .f32) (x6 : FVec Ideal S64x64 .f32) (x7 : FVec Ideal S64 .f32)
  (x8 : FVec Ideal S64x2048 .f32) (x9 : FVec Ideal S64 .f32)

/-- The network of the arguments. -/
def net : FilterNet := ⟨fun j => x0 (ix1 j), fun k o => x2 (ix2 k o), fun o => x3 (ix1 o), fun k o => x4 (ix2 k o), fun o => x5 (ix1 o),
  fun k o => x6 (ix2 k o), fun o => x7 (ix1 o), fun o => x9 (ix1 o)⟩

/-- The first layer at a position. -/
theorem layer1_apply (p : Fin 8192) (o : Fin 64) : val_main_v27 (F := Ideal) x0 x2 x3 x9 (ix2 p o)
    = sineLayer (feature (fun j => x0 (ix1 j)) p.val) (fun k o => x2 (ix2 k o)) (fun o => x3 (ix1 o)) (fun o => x9 (ix1 o)) o := by
  unfold val_main_v27 val_main_v26 val_main_v25 val_main_v24 val_main_v23 val_main_v22 val_main_v21 val_main_v20 sineLayer
  have h := feature_apply x0 p
  generalize val_main_v19 (F := Ideal) x0 = v at h ⊢
  simp only [← h]
  pointwise

/-- The second layer at a position. -/
theorem layer2_apply (p : Fin 8192) (o : Fin 64) : val_main_v35 (F := Ideal) x0 x2 x3 x4 x5 x9 (ix2 p o)
    = sineLayer (fun k => val_main_v27 (F := Ideal) x0 x2 x3 x9 (ix2 p k)) (fun k o => x4 (ix2 k o)) (fun o => x5 (ix1 o)) (fun o => x9 (ix1 o)) o := by
  unfold val_main_v35 val_main_v34 val_main_v33 val_main_v32 val_main_v31 val_main_v30 val_main_v29 val_main_v28 sineLayer
  generalize val_main_v27 (F := Ideal) x0 x2 x3 x9 = v
  pointwise

/-- The third layer at a position. -/
theorem layer3_apply (p : Fin 8192) (o : Fin 64) : val_main_v43 (F := Ideal) x0 x2 x3 x4 x5 x6 x7 x9 (ix2 p o)
    = sineLayer (fun k => val_main_v35 (F := Ideal) x0 x2 x3 x4 x5 x9 (ix2 p k)) (fun k o => x6 (ix2 k o)) (fun o => x7 (ix1 o)) (fun o => x9 (ix1 o)) o := by
  unfold val_main_v43 val_main_v42 val_main_v41 val_main_v40 val_main_v39 val_main_v38 val_main_v37 val_main_v36 sineLayer
  generalize val_main_v35 (F := Ideal) x0 x2 x3 x4 x5 x9 = v
  pointwise

/-- The network's output at a position. -/
theorem out_apply (p : Fin 8192) (o : Fin 64) : val_main_v43 (F := Ideal) x0 x2 x3 x4 x5 x6 x7 x9 (ix2 p o) = (net x0 x2 x3 x4 x5 x6 x7 x9).out p.val o := by
  rw [layer3_apply]
  simp only [layer2_apply, layer1_apply]
  rfl

/-- A forward tap. -/
theorem fwd_apply (p : Fin 8192) (o : Fin 2) (c : Fin 512) : val_main_v56 (F := Ideal) x0 x1 x2 x3 x4 x5 x6 x7 x8 x9 (ix3 p o c)
    = (net x0 x2 x3 x4 x5 x6 x7 x9).tap (fun q => x8 (ix2 q ⟨o.val * 1024 + c.val, by omega⟩)) (x1 (ix1 c)) p.val := by
  unfold FilterNet.tap
  simp only [← out_apply, ← time_apply]
  unfold val_main_v56 val_main_v55 val_main_v54 val_main_v53 val_main_v52 val_main_v51 val_main_v50 val_main_v49 val_main_v48 val_main_v47 val_main_v46 val_main_v45 val_main_v44
  generalize val_main_v43 (F := Ideal) x0 x2 x3 x4 x5 x6 x7 x9 = v
  generalize val_main_v3 (F := Ideal) = vt
  pointwise

/-- A backward tap. -/
theorem bwd_apply (p : Fin 8192) (o : Fin 2) (c : Fin 512) : val_main_v68 (F := Ideal) x0 x1 x2 x3 x4 x5 x6 x7 x8 x9 (ix3 p o c)
    = (net x0 x2 x3 x4 x5 x6 x7 x9).tap (fun q => x8 (ix2 q ⟨o.val * 1024 + 512 + c.val, by omega⟩)) (x1 (ix1 ⟨511 - c.val, by omega⟩)) p.val := by
  unfold FilterNet.tap
  simp only [← out_apply, ← time_apply]
  unfold val_main_v68 val_main_v67 val_main_v66 val_main_v65 val_main_v64 val_main_v63 val_main_v62 val_main_v61 val_main_v60 val_main_v59 val_main_v58 val_main_v57 val_main_v45 val_main_v44
  generalize val_main_v43 (F := Ideal) x0 x2 x3 x4 x5 x6 x7 x9 = v
  generalize val_main_v3 (F := Ideal) = vt
  pointwise
  have e : c.rev = (⟨511 - c.val, by omega⟩ : Fin 512) := Fin.ext (by rw [Fin.val_rev]; show 512 - (c.val + 1) = 511 - c.val; omega)
  exact congrArg (fun z : Fin 512 => (∑ x, v (ix2 p x) * x8 (ix2 x ⟨o.val * 1024 + 512 + c.val, by omega⟩)) * Ideal.exp (-vt (ix2 p 0) * x1 (ix1 z))) e

/-- The backward taps reversed. -/
theorem rev_apply (j : Fin 8191) (o : Fin 2) (c : Fin 512) : val_main_v71 (F := Ideal) x0 x1 x2 x3 x4 x5 x6 x7 x8 x9 (ix3 j o c)
    = val_main_v68 (F := Ideal) x0 x1 x2 x3 x4 x5 x6 x7 x8 x9 (ix3 (n0 := 8192) ⟨8190 - j.val, by omega⟩ o c) := by
  unfold val_main_v71 val_main_v70
  generalize val_main_v68 (F := Ideal) x0 x1 x2 x3 x4 x5 x6 x7 x8 x9 = vb
  pointwise
  exact congrArg (fun z : Fin 8192 => vb (ix3 z o c)) (Fin.ext (by show 8191 - (j.val + 1) = 8190 - j.val; omega))

/-- The two filters, the position first. -/
theorem cat_apply (n : Fin 16384) (o : Fin 2) (c : Fin 512) : val_main_v72 (F := Ideal) x0 x1 x2 x3 x4 x5 x6 x7 x8 x9 (ix3 n o c)
    = if h : n.val < 8192 then val_main_v56 (F := Ideal) x0 x1 x2 x3 x4 x5 x6 x7 x8 x9 (ix3 (n0 := 8192) ⟨n.val, h⟩ o c)
      else if h : n.val - 8192 < 1 then 0
      else val_main_v71 (F := Ideal) x0 x1 x2 x3 x4 x5 x6 x7 x8 x9 (ix3 (n0 := 8191) ⟨n.val - 8192 - 1, by omega⟩ o c) := by
  unfold val_main_v72 val_main_v69 val_main_cst_2
  generalize val_main_v56 (F := Ideal) x0 x1 x2 x3 x4 x5 x6 x7 x8 x9 = vf
  generalize val_main_v71 (F := Ideal) x0 x1 x2 x3 x4 x5 x6 x7 x8 x9 = vb
  pointwise

/-- The two filters. -/
theorem filter_at (o : Fin 2) (n : Fin 16384) (c : Fin 512) : val_main_v74 (F := Ideal) x0 x1 x2 x3 x4 x5 x6 x7 x8 x9 (ix3 o n c)
    = filterAt (net x0 x2 x3 x4 x5 x6 x7 x9) (fun q j => x8 (ix2 q j)) (fun c => x1 (ix1 c)) o n c := by
  unfold filterAt
  have e : idx_main_v73 (ix3 o n c) = ix3 n o c := funext fun a => by
    match a with
    | ⟨0, _⟩ => rfl
    | ⟨1, _⟩ => rfl
    | ⟨2, _⟩ => rfl
  rw [val_main_v74_apply, val_main_v73_apply, e]
  show val_main_v72 (F := Ideal) x0 x1 x2 x3 x4 x5 x6 x7 x8 x9 (ix3 n o c) = _
  rw [cat_apply]
  have hn := n.isLt
  by_cases h : n.val < 8192
  · rw [dif_pos h, if_neg (by omega), if_pos h]
    exact fwd_apply x0 x1 x2 x3 x4 x5 x6 x7 x8 x9 ⟨n.val, h⟩ o c
  · rw [dif_neg h]
    by_cases h1 : n.val - 8192 < 1
    · rw [dif_pos h1, if_pos (by omega)]
    · rw [dif_neg h1, if_neg (by omega), if_neg h, rev_apply]
      refine (bwd_apply x0 x1 x2 x3 x4 x5 x6 x7 x8 x9 _ o c).trans ?_
      exact congrArg _ (by show 8190 - (n.val - 8192 - 1) = 16383 - n.val; omega)

/-- The two filters at an index. -/
theorem filter_apply (i : S2x16384x512.Idx) : val_main_v74 (F := Ideal) x0 x1 x2 x3 x4 x5 x6 x7 x8 x9 i
    = filterAt (net x0 x2 x3 x4 x5 x6 x7 x9) (fun q j => x8 (ix2 q j)) (fun c => x1 (ix1 c)) (i 0) (i 1) (i 2) :=
  (congrArg _ (eq_ix3 i)).trans (filter_at x0 x1 x2 x3 x4 x5 x6 x7 x8 x9 (i 0) (i 1) (i 2))

end Cert.FilterRefIdeal.Filt

end
-- ==== Proof.SpectrumVal.lean ====
/- The first stage of a filter's transform as the kernel leaves it, element by element. -/
module

public import proofs.«01_k».proof.Proof.Gen.SpectrumIdeal.Value
public import proofs.«01_k».proof.Proof.Gen.SpectrumIdeal.Frame
public import Idealize.ShloMosaic.Lib.WritesUnit
public import Idealize.ShloMosaic.Lib.Pipeline.ValueKit.Basic
public import Idealize.ShloMosaic.Lib.Pipeline.ValueKit.Tiles
public import Idealize.ShloMosaic.Lib.Pointwise

@[expose] public section

set_option maxRecDepth 16384

noncomputable section

namespace Cert.SpectrumIdeal.Stage

open Cert.SpectrumIdeal Cert.SpectrumIdeal.Gen Idealize.ShloMosaic Idealize.ShloMosaic.TcCoe Idealize.SL.Sem
open scoped BigOperators

/-- The product of one column's matrix and its slab of 512 lanes. -/
theorem pay1_apply (v : Vec Ideal S128x512 .bf16) (w : Vec Ideal S1x256x128 .bf16) (r : Fin 256) (c : Fin 512) :
    k0_pay1 v w (ix2 r c) = ∑ q, w (ix3 0 r q) * v (ix2 q c) := by
  pointwise [k0_pay1]

/-- An element of a block of eight columns, each multiplied by its matrix. -/
def slab (x0 : Vec Ideal S128x4096 .bf16) (x1 : Vec Ideal S8x256x128 .bf16) (y : S256x4096.Idx) : EReal :=
  ∑ q : Fin 128, x1 (ix3 (n0 := 8) (n1 := 256) ⟨(y 1).val / 512, by have h : (y 1).val < 4096 := (y 1).isLt; omega⟩ (y 0) q)
    * x0 (ix2 (n0 := 128) (n1 := 4096) q (y 1))

/-- An element of one column's product. -/
theorem piece_apply (j o : ℕ) (inb : ∀ b, ![0, o] b + S128x512.size b ≤ S128x4096.size b)
    (jnb : ∀ b, ![j, 0, 0] b + S1x256x128.size b ≤ S8x256x128.size b) (x0 : Vec Ideal S128x4096 .bf16) (x1 : Vec Ideal S8x256x128 .bf16)
    (y : S256x4096.Idx) (x : S256x512.Idx) (ho : o = 512 * j) (h0 : (y 0).val = (x 0).val) (h1 : (y 1).val = o + (x 1).val) :
    k0_pay1 (View.ld x0 (Rect.unit (s := S128x4096) ![0, o] S128x512.size inb)) (View.ld x1 (Rect.unit (s := S8x256x128) ![j, 0, 0] S1x256x128.size jnb)) x
      = slab x0 x1 y := by
  have hx : (x 1).val < 512 := (x 1).isLt
  refine (congrArg _ (eq_ix2 x)).trans ((pay1_apply _ _ (x 0) (x 1)).trans ?_)
  unfold slab
  refine Finset.sum_congr rfl fun q _ => congrArg₂ (· * ·) (congrArg x1 (funext fun a => Fin.ext ?_)) (congrArg x0 (funext fun a => Fin.ext ?_))
  · match a with
    | ⟨0, _⟩ => show j + 1 * 0 = (y 1).val / 512; omega
    | ⟨1, _⟩ => show 0 + 1 * (x 0).val = (y 0).val; omega
    | ⟨2, _⟩ => show 0 + 1 * q.val = q.val; omega
  · match a with
    | ⟨0, _⟩ => show 0 + 1 * q.val = q.val; omega
    | ⟨1, _⟩ => show o + 1 * (x 1).val = (y 1).val; omega

/-- A block of the result, from the blocks read. -/
theorem out2_apply (x0 : Vec Ideal S128x4096 .bf16) (x1 : Vec Ideal S8x256x128 .bf16) (y : S256x4096.Idx) : out0_2 x0 x1 y = slab x0 x1 y := by
  canon_tiles x h
  all_goals exact piece_apply _ _ _ _ x0 x1 y x (by decide) (by omega) (by omega)

/-! ## The array -/

variable (m : (ℓ : Loc nD τ sig) → Buf (Elt Ideal) ℓ)

/-- Where window 0's block lies at a point. -/
theorem idx0 : ∀ t : Fin grid0.N, win0_0.index t 0 = 0 ∧ win0_0.index t 1 = t.val := by decide +kernel
/-- Where the matrices' block lies at a point. -/
theorem idx1 : ∀ t : Fin grid0.N, win0_1.index t 0 = t.val ∧ win0_1.index t 1 = 0 ∧ win0_1.index t 2 = 0 := by decide +kernel
/-- Where the result's block lies at a point. -/
theorem idx2 : ∀ t : Fin grid0.N, win0_2.index t 0 = 0 ∧ win0_2.index t 1 = t.val := by decide +kernel

/-- A point reads 4096 lanes. -/
theorem iblk0 (c : Dev nD) (t : Fin cfg0.N) (r : Fin 128) (k : Fin 4096) (n : Fin 65536) (hn : t.val * 4096 + k.val = n.val) :
    (iblk m c 0 t : Vec Ideal S128x4096 .bf16) (ix2 r k) = (m ((c : Thread nD τ).loc main_arg0) : FVec Ideal S128x65536 .bf16) (ix2 r n) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 128 + 1 * r.val = r.val; rw [hi.1, Nat.zero_mul, Nat.zero_add, Nat.one_mul]
  | ⟨1, _⟩ => show win0_0.index t 1 * 4096 + 1 * k.val = n.val; rw [hi.2, Nat.one_mul]; exact hn

/-- A point reads eight matrices. -/
theorem iblk1 (c : Dev nD) (t : Fin cfg0.N) (j : Fin 8) (a : Fin 256) (b : Fin 128) (n : Fin 128) (hn : t.val * 8 + j.val = n.val) :
    (iblk m c 1 t : Vec Ideal S8x256x128 .bf16) (ix3 j a b) = (m ((c : Thread nD τ).loc main_arg1) : FVec Ideal S128x256x128 .bf16) (ix3 n a b) := by
  have hi := idx1 t
  unfold iblk
  rw [View.read_apply]
  show V m c main_arg1 _ = m (c.tc.loc main_arg1) _
  rw [V_main_arg1]
  congr 1
  funext d
  apply Fin.ext
  match d with
  | ⟨0, _⟩ => show win0_1.index t 0 * 8 + 1 * j.val = n.val; rw [hi.1, Nat.one_mul]; exact hn
  | ⟨1, _⟩ => show win0_1.index t 1 * 256 + 1 * a.val = a.val; rw [hi.2.1, Nat.zero_mul, Nat.zero_add, Nat.one_mul]
  | ⟨2, _⟩ => show win0_1.index t 2 * 128 + 1 * b.val = b.val; rw [hi.2.2, Nat.zero_mul, Nat.zero_add, Nat.one_mul]

/-- An element of the 128 products of a column's matrix and its slab of 512 lanes. -/
def productAt (X : Vec Ideal S128x65536 .bf16) (W : Vec Ideal S128x256x128 .bf16) (p : S256x65536.Idx) : EReal :=
  ∑ q : Fin 128, W (ix3 (n0 := 128) (n1 := 256) ⟨(p 1).val / 512, by have h : (p 1).val < 65536 := (p 1).isLt; omega⟩ (p 0) q)
    * X (ix2 (n0 := 128) (n1 := 65536) q (p 1))

/-- The array of the products. -/
def products (c : Dev nD) : Buf (Elt Ideal) ((c : Thread nD τ).loc main_v0) := fun p : S256x65536.Idx =>
  productAt (m ((c : Thread nD τ).loc main_arg0)) (m ((c : Thread nD τ).loc main_arg1)) p

/-- An element of a point's block is an element of the array. -/
theorem block_at (c : Dev nD) (t : Fin cfg0.N) (y : S256x4096.Idx) (p : S256x65536.Idx) (h0 : y 0 = p 0) (h1 : t.val * 4096 + (y 1).val = (p 1).val) :
    out0_2 (iblk m c 0 t) (iblk m c 1 t) y = products m c p := by
  refine (out2_apply _ _ y).trans ?_
  show slab _ _ y = productAt _ _ p
  unfold slab productAt
  refine Finset.sum_congr rfl fun q _ => congrArg₂ (· * ·) ?_ ?_
  · rw [h0]
    refine iblk1 m c t _ (p 0) q _ ?_
    show t.val * 8 + (y 1).val / 512 = (p 1).val / 512
    omega
  · exact iblk0 m c t q _ _ h1

/-- Every point writes its block of the array. -/
theorem flushed_2 (c : Dev nD) (t : Fin cfg0.N) (hf : (cfg0.win 2).flush t = true) :
    (dats m 0 c).flushed 2 t = ((cfg0.win 2).blk t).view.read (Elt Ideal) (products m c) := by
  rw [Value.flushed2]
  funext j
  rw [View.read_apply]
  have hi := idx2 t
  refine block_at m c t j _ (Fin.ext ?_) ?_
  · show (j 0).val = win0_2.index t 0 * 256 + 1 * (j 0).val
    rw [hi.1, Nat.zero_mul, Nat.zero_add, Nat.one_mul]
  · show t.val * 4096 + (j 1).val = win0_2.index t 1 * 4096 + 1 * (j 1).val
    rw [hi.2, Nat.one_mul]

/-- The point whose block holds a lane. -/
abbrev pointOf (r : Fin 65536) : Fin cfg0.N := ⟨r.val / 4096, by have := r.isLt; show r.val / 4096 < 16; omega⟩

/-- The array after the run. -/
theorem final_2 (c : Dev nD) : (dats m 0 c).arrAt 2 cfg0.N = products m c :=
  (dats m 0 c).arrAt_eq_of_cover 2 (products m c) (flushed_2 m c) fun i =>
    ⟨pointOf (i 1), flush0_2 _, by
      show i ∈ ((View.whole main_v0).slice (win0_2.rect (pointOf (i 1)))).set
      rw [View.set_slice_whole, Rect.mem_set_unit]
      intro a
      have hi := idx2 (pointOf (i 1))
      have h0 : (i 0 : Nat) < 256 := (i 0).isLt
      have h1 : (i 1 : Nat) < 65536 := (i 1).isLt
      match a with
      | ⟨0, _⟩ =>
        show win0_2.index _ 0 * 256 ≤ (i 0 : Nat) ∧ (i 0 : Nat) < win0_2.index _ 0 * 256 + 256
        rw [hi.1]; omega
      | ⟨1, _⟩ =>
        show win0_2.index _ 1 * 4096 ≤ (i 1 : Nat) ∧ (i 1 : Nat) < win0_2.index _ 1 * 4096 + 4096
        rw [hi.2]; dsimp only; omega⟩

end Cert.SpectrumIdeal.Stage

end
-- ==== Proof.SpectrumRefVal.lean ====
/- The reference's first stage of a filter's transform, element by element. -/
module

public import proofs.«01_k».proof.Proof.Gen.SpectrumRefIdeal.Read
public import Idealize.ShloMosaic.Lib.Pointwise

@[expose] public section

set_option maxRecDepth 16384

noncomputable section

namespace Cert.SpectrumRefIdeal.Stage

open Cert.SpectrumRefIdeal Cert.SpectrumRefIdeal.Gen Cert.SpectrumRefIdeal.Read Idealize.ShloMosaic Idealize.ShloMosaic.TcCoe
open scoped BigOperators

/-- An element of the 128 products. -/
theorem products_apply (X : FVec Ideal S128x65536 .bf16) (W : FVec Ideal S128x256x128 .bf16) (p : S256x65536.Idx) :
    val_main_v6 (F := Ideal) X W p
      = ∑ q : Fin 128, W (ix3 (n0 := 128) (n1 := 256) ⟨(p 1).val / 512, by have h : (p 1).val < 65536 := (p 1).isLt; omega⟩ (p 0) q)
        * X (ix2 (n0 := 128) (n1 := 65536) q (p 1)) := by
  have h0 : (p 0).val < 256 := (p 0).isLt
  have h1 : (p 1).val < 65536 := (p 1).isLt
  rw [val_main_v6_apply, val_main_v5_apply, val_main_v4_apply, val_main_v3_apply]
  refine Finset.sum_congr rfl fun q _ => ?_
  rw [val_main_v1_apply, val_main_v0_apply, val_main_v2_apply]
  have hq := q.isLt
  refine (mul_comm _ _).trans (congrArg₂ (· * ·) (congrArg W (funext fun a => Fin.ext ?_)) (congrArg X (funext fun a => Fin.ext ?_)))
  · match a with
    | ⟨0, _⟩ => show ((p 0).val * 65536 + (p 1).val) / 512 % 128 = (p 1).val / 512; omega
    | ⟨1, _⟩ => show ((p 0).val * 65536 + (p 1).val) / 65536 = (p 0).val; omega
    | ⟨2, _⟩ => rfl
  · match a with
    | ⟨0, _⟩ =>
      show ((q.val * 128 + ((p 0).val * 65536 + (p 1).val) / 512 % 128) * 512 + ((p 0).val * 65536 + (p 1).val) % 512) / 65536 = q.val
      omega
    | ⟨1, _⟩ =>
      show ((q.val * 128 + ((p 0).val * 65536 + (p 1).val) / 512 % 128) * 512 + ((p 0).val * 65536 + (p 1).val) % 512) % 65536 = (p 1).val
      omega

end Cert.SpectrumRefIdeal.Stage

end
-- ==== Proof.SignalVal.lean ====
/- The first stage of the signal's transform as the kernel leaves it, element by element. -/
module

public import proofs.«01_k».proof.Proof.Gen.SignalIdeal.Value
public import proofs.«01_k».proof.Proof.Gen.SignalIdeal.Frame
public import Idealize.ShloMosaic.Lib.WritesUnit
public import Idealize.ShloMosaic.Lib.Pipeline.ValueKit.Basic
public import Idealize.ShloMosaic.Lib.Pipeline.ValueKit.Tiles
public import Idealize.ShloMosaic.Lib.Pointwise

@[expose] public section

set_option maxRecDepth 16384

noncomputable section

namespace Cert.SignalIdeal.Stage

open Cert.SignalIdeal Cert.SignalIdeal.Gen Idealize.ShloMosaic Idealize.ShloMosaic.TcCoe Idealize.SL.Sem
open scoped BigOperators

/-- The product of one column's matrix and its slab of 512 lanes. -/
theorem pay1_apply (v : Vec Ideal S2x64x512 .bf16) (w : Vec Ideal S1x256x128 .bf16) (r : Fin 256) (c : Fin 512) :
    k0_pay1 v w (ix2 r c) = ∑ q, w (ix3 0 r q) * v (ix3 (n0 := 2) (n1 := 64) ⟨q.val / 64, by omega⟩ ⟨q.val % 64, by omega⟩ c) := by
  pointwise [k0_pay1]

/-- An element of a block of eight columns, each multiplied by its matrix. -/
def slab (x0 : Vec Ideal S2x64x4096 .bf16) (x1 : Vec Ideal S8x256x128 .bf16) (y : S256x4096.Idx) : EReal :=
  ∑ q : Fin 128, x1 (ix3 (n0 := 8) (n1 := 256) ⟨(y 1).val / 512, by have h : (y 1).val < 4096 := (y 1).isLt; omega⟩ (y 0) q)
    * x0 (ix3 (n0 := 2) (n1 := 64) (n2 := 4096) ⟨q.val / 64, by omega⟩ ⟨q.val % 64, by omega⟩ (y 1))

/-- An element of one column's product. -/
theorem piece_apply (j o : ℕ) (inb : ∀ b, ![0, 0, o] b + S2x64x512.size b ≤ S2x64x4096.size b)
    (jnb : ∀ b, ![j, 0, 0] b + S1x256x128.size b ≤ S8x256x128.size b) (x0 : Vec Ideal S2x64x4096 .bf16) (x1 : Vec Ideal S8x256x128 .bf16)
    (y : S256x4096.Idx) (x : S256x512.Idx) (ho : o = 512 * j) (h0 : (y 0).val = (x 0).val) (h1 : (y 1).val = o + (x 1).val) :
    k0_pay1 (View.ld x0 (Rect.unit (s := S2x64x4096) ![0, 0, o] S2x64x512.size inb)) (View.ld x1 (Rect.unit (s := S8x256x128) ![j, 0, 0] S1x256x128.size jnb)) x
      = slab x0 x1 y := by
  have hx : (x 1).val < 512 := (x 1).isLt
  refine (congrArg _ (eq_ix2 x)).trans ((pay1_apply _ _ (x 0) (x 1)).trans ?_)
  unfold slab
  refine Finset.sum_congr rfl fun q _ => congrArg₂ (· * ·) (congrArg x1 (funext fun a => Fin.ext ?_)) (congrArg x0 (funext fun a => Fin.ext ?_))
  · match a with
    | ⟨0, _⟩ => show j + 1 * 0 = (y 1).val / 512; omega
    | ⟨1, _⟩ => show 0 + 1 * (x 0).val = (y 0).val; omega
    | ⟨2, _⟩ => show 0 + 1 * q.val = q.val; omega
  · match a with
    | ⟨0, _⟩ => show 0 + 1 * (q.val / 64) = q.val / 64; omega
    | ⟨1, _⟩ => show 0 + 1 * (q.val % 64) = q.val % 64; omega
    | ⟨2, _⟩ => show o + 1 * (x 1).val = (y 1).val; omega

/-- A block of the result, from the blocks read. -/
theorem out2_apply (x0 : Vec Ideal S2x64x4096 .bf16) (x1 : Vec Ideal S8x256x128 .bf16) (y : S256x4096.Idx) : out0_2 x0 x1 y = slab x0 x1 y := by
  canon_tiles x h
  all_goals exact piece_apply _ _ _ _ x0 x1 y x (by decide) (by omega) (by omega)

/-! ## The array -/

variable (m : (ℓ : Loc nD τ sig) → Buf (Elt Ideal) ℓ)

/-- Where window 0's block lies at a point. -/
theorem idx0 : ∀ t : Fin grid0.N, win0_0.index t 0 = 0 ∧ win0_0.index t 1 = 0 ∧ win0_0.index t 2 = t.val := by decide +kernel
/-- Where the matrices' block lies at a point. -/
theorem idx1 : ∀ t : Fin grid0.N, win0_1.index t 0 = t.val ∧ win0_1.index t 1 = 0 ∧ win0_1.index t 2 = 0 := by decide +kernel
/-- Where the result's block lies at a point. -/
theorem idx2 : ∀ t : Fin grid0.N, win0_2.index t 0 = 0 ∧ win0_2.index t 1 = t.val := by decide +kernel

/-- A point reads 4096 lanes. -/
theorem iblk0 (c : Dev nD) (t : Fin cfg0.N) (b : Fin 2) (r : Fin 64) (k : Fin 4096) (n : Fin 65536) (hn : t.val * 4096 + k.val = n.val) :
    (iblk m c 0 t : Vec Ideal S2x64x4096 .bf16) (ix3 b r k) = (m ((c : Thread nD τ).loc main_arg0) : FVec Ideal S2x64x65536 .bf16) (ix3 b r n) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 2 + 1 * b.val = b.val; rw [hi.1, Nat.zero_mul, Nat.zero_add, Nat.one_mul]
  | ⟨1, _⟩ => show win0_0.index t 1 * 64 + 1 * r.val = r.val; rw [hi.2.1, Nat.zero_mul, Nat.zero_add, Nat.one_mul]
  | ⟨2, _⟩ => show win0_0.index t 2 * 4096 + 1 * k.val = n.val; rw [hi.2.2, Nat.one_mul]; exact hn

/-- A point reads eight matrices. -/
theorem iblk1 (c : Dev nD) (t : Fin cfg0.N) (j : Fin 8) (a : Fin 256) (b : Fin 128) (n : Fin 128) (hn : t.val * 8 + j.val = n.val) :
    (iblk m c 1 t : Vec Ideal S8x256x128 .bf16) (ix3 j a b) = (m ((c : Thread nD τ).loc main_arg1) : FVec Ideal S128x256x128 .bf16) (ix3 n a b) := by
  have hi := idx1 t
  unfold iblk
  rw [View.read_apply]
  show V m c main_arg1 _ = m (c.tc.loc main_arg1) _
  rw [V_main_arg1]
  congr 1
  funext d
  apply Fin.ext
  match d with
  | ⟨0, _⟩ => show win0_1.index t 0 * 8 + 1 * j.val = n.val; rw [hi.1, Nat.one_mul]; exact hn
  | ⟨1, _⟩ => show win0_1.index t 1 * 256 + 1 * a.val = a.val; rw [hi.2.1, Nat.zero_mul, Nat.zero_add, Nat.one_mul]
  | ⟨2, _⟩ => show win0_1.index t 2 * 128 + 1 * b.val = b.val; rw [hi.2.2, Nat.zero_mul, Nat.zero_add, Nat.one_mul]

/-- An element of the 128 products of a column's matrix and its slab of 512 lanes. -/
def productAt (X : Vec Ideal S2x64x65536 .bf16) (W : Vec Ideal S128x256x128 .bf16) (p : S256x65536.Idx) : EReal :=
  ∑ q : Fin 128, W (ix3 (n0 := 128) (n1 := 256) ⟨(p 1).val / 512, by have h : (p 1).val < 65536 := (p 1).isLt; omega⟩ (p 0) q)
    * X (ix3 (n0 := 2) (n1 := 64) (n2 := 65536) ⟨q.val / 64, by omega⟩ ⟨q.val % 64, by omega⟩ (p 1))

/-- The array of the products. -/
def products (c : Dev nD) : Buf (Elt Ideal) ((c : Thread nD τ).loc main_v0) := fun p : S256x65536.Idx =>
  productAt (m ((c : Thread nD τ).loc main_arg0)) (m ((c : Thread nD τ).loc main_arg1)) p

/-- An element of a point's block is an element of the array. -/
theorem block_at (c : Dev nD) (t : Fin cfg0.N) (y : S256x4096.Idx) (p : S256x65536.Idx) (h0 : y 0 = p 0) (h1 : t.val * 4096 + (y 1).val = (p 1).val) :
    out0_2 (iblk m c 0 t) (iblk m c 1 t) y = products m c p := by
  refine (out2_apply _ _ y).trans ?_
  show slab _ _ y = productAt _ _ p
  unfold slab productAt
  refine Finset.sum_congr rfl fun q _ => congrArg₂ (· * ·) ?_ ?_
  · rw [h0]
    refine iblk1 m c t _ (p 0) q _ ?_
    show t.val * 8 + (y 1).val / 512 = (p 1).val / 512
    omega
  · exact iblk0 m c t _ _ _ _ h1

/-- Every point writes its block of the array. -/
theorem flushed_2 (c : Dev nD) (t : Fin cfg0.N) (hf : (cfg0.win 2).flush t = true) :
    (dats m 0 c).flushed 2 t = ((cfg0.win 2).blk t).view.read (Elt Ideal) (products m c) := by
  rw [Value.flushed2]
  funext j
  rw [View.read_apply]
  have hi := idx2 t
  refine block_at m c t j _ (Fin.ext ?_) ?_
  · show (j 0).val = win0_2.index t 0 * 256 + 1 * (j 0).val
    rw [hi.1, Nat.zero_mul, Nat.zero_add, Nat.one_mul]
  · show t.val * 4096 + (j 1).val = win0_2.index t 1 * 4096 + 1 * (j 1).val
    rw [hi.2, Nat.one_mul]

/-- The point whose block holds a lane. -/
abbrev pointOf (r : Fin 65536) : Fin cfg0.N := ⟨r.val / 4096, by have := r.isLt; show r.val / 4096 < 16; omega⟩

/-- The array after the run. -/
theorem final_2 (c : Dev nD) : (dats m 0 c).arrAt 2 cfg0.N = products m c :=
  (dats m 0 c).arrAt_eq_of_cover 2 (products m c) (flushed_2 m c) fun i =>
    ⟨pointOf (i 1), flush0_2 _, by
      show i ∈ ((View.whole main_v0).slice (win0_2.rect (pointOf (i 1)))).set
      rw [View.set_slice_whole, Rect.mem_set_unit]
      intro a
      have hi := idx2 (pointOf (i 1))
      have h0 : (i 0 : Nat) < 256 := (i 0).isLt
      have h1 : (i 1 : Nat) < 65536 := (i 1).isLt
      match a with
      | ⟨0, _⟩ =>
        show win0_2.index _ 0 * 256 ≤ (i 0 : Nat) ∧ (i 0 : Nat) < win0_2.index _ 0 * 256 + 256
        rw [hi.1]; omega
      | ⟨1, _⟩ =>
        show win0_2.index _ 1 * 4096 ≤ (i 1 : Nat) ∧ (i 1 : Nat) < win0_2.index _ 1 * 4096 + 4096
        rw [hi.2]; dsimp only; omega⟩

end Cert.SignalIdeal.Stage

end
-- ==== Proof.SignalRefVal.lean ====
/- The reference's first stage of the signal's transform, element by element. -/
module

public import proofs.«01_k».proof.Proof.Gen.SignalRefIdeal.Read
public import Idealize.ShloMosaic.Lib.Pointwise

@[expose] public section

set_option maxRecDepth 16384

noncomputable section

namespace Cert.SignalRefIdeal.Stage

open Cert.SignalRefIdeal Cert.SignalRefIdeal.Gen Cert.SignalRefIdeal.Read Idealize.ShloMosaic Idealize.ShloMosaic.TcCoe
open scoped BigOperators

/-- An element of the 128 products. -/
theorem products_apply (X : FVec Ideal S2x64x65536 .bf16) (W : FVec Ideal S128x256x128 .bf16) (p : S256x65536.Idx) :
    val_main_v7 (F := Ideal) X W p
      = ∑ q : Fin 128, W (ix3 (n0 := 128) (n1 := 256) ⟨(p 1).val / 512, by have h : (p 1).val < 65536 := (p 1).isLt; omega⟩ (p 0) q)
        * X (ix3 (n0 := 2) (n1 := 64) (n2 := 65536) ⟨q.val / 64, by omega⟩ ⟨q.val % 64, by omega⟩ (p 1)) := by
  have h0 : (p 0).val < 256 := (p 0).isLt
  have h1 : (p 1).val < 65536 := (p 1).isLt
  rw [val_main_v7_apply, val_main_v6_apply, val_main_v5_apply, val_main_v4_apply]
  refine Finset.sum_congr rfl fun q _ => ?_
  rw [val_main_v2_apply, val_main_v1_apply, val_main_v0_apply, val_main_v3_apply]
  have hq := q.isLt
  refine (mul_comm _ _).trans (congrArg₂ (· * ·) (congrArg W (funext fun a => Fin.ext ?_)) (congrArg X (funext fun a => Fin.ext ?_)))
  · match a with
    | ⟨0, _⟩ => show ((p 0).val * 65536 + (p 1).val) / 512 % 128 = (p 1).val / 512; omega
    | ⟨1, _⟩ => show ((p 0).val * 65536 + (p 1).val) / 65536 = (p 0).val; omega
    | ⟨2, _⟩ => rfl
  · match a with
    | ⟨0, _⟩ =>
      show (((q.val * 128 + ((p 0).val * 65536 + (p 1).val) / 512 % 128) * 512 + ((p 0).val * 65536 + (p 1).val) % 512) / 65536 * 65536 + ((q.val * 128 + ((p 0).val * 65536 + (p 1).val) / 512 % 128) * 512 + ((p 0).val * 65536 + (p 1).val) % 512) % 65536) / 4194304 = q.val / 64
      omega
    | ⟨1, _⟩ =>
      show (((q.val * 128 + ((p 0).val * 65536 + (p 1).val) / 512 % 128) * 512 + ((p 0).val * 65536 + (p 1).val) % 512) / 65536 * 65536 + ((q.val * 128 + ((p 0).val * 65536 + (p 1).val) / 512 % 128) * 512 + ((p 0).val * 65536 + (p 1).val) % 512) % 65536) / 65536 % 64 = q.val % 64
      omega
    | ⟨2, _⟩ =>
      show (((q.val * 128 + ((p 0).val * 65536 + (p 1).val) / 512 % 128) * 512 + ((p 0).val * 65536 + (p 1).val) % 512) / 65536 * 65536 + ((q.val * 128 + ((p 0).val * 65536 + (p 1).val) / 512 % 128) * 512 + ((p 0).val * 65536 + (p 1).val) % 512) % 65536) % 65536 = (p 1).val
      omega

end Cert.SignalRefIdeal.Stage

end
-- ==== Proof.RowsVal.lean ====
/- The second stage of a filter's transform as the kernel leaves it, element by element. -/
module

public import proofs.«01_k».proof.Proof.Gen.RowsIdeal.Value
public import proofs.«01_k».proof.Proof.Gen.RowsIdeal.Frame
public import Idealize.ShloMosaic.Lib.WritesUnit
public import Idealize.ShloMosaic.Lib.Pipeline.ValueKit.Basic
public import Idealize.ShloMosaic.Lib.Pipeline.ValueKit.Tiles
public import Idealize.ShloMosaic.Lib.Pointwise

@[expose] public section

set_option maxRecDepth 16384

noncomputable section

namespace Cert.RowsIdeal.Stage

open Cert.RowsIdeal Cert.RowsIdeal.Gen Idealize.ShloMosaic Idealize.ShloMosaic.TcCoe Idealize.SL.Sem
open scoped BigOperators

/-- The product of the matrix and a slab of 256 rows. -/
theorem pay5_apply (v : Vec Ideal S256x512 .bf16) (w : Vec Ideal S256x256 .bf16) (r : Fin 256) (c : Fin 512) :
    k0_pay5 v w (ix2 r c) = ∑ q, w (ix2 r q) * v (ix2 q c) := by
  pointwise [k0_pay5]

/-- An element of a block of eight slabs multiplied by the matrix. -/
def slab (x0 : Vec Ideal S2048x512 .bf16) (x1 : Vec Ideal S256x256 .bf16) (y : S2048x512.Idx) : EReal :=
  ∑ q : Fin 256, x1 (ix2 (n0 := 256) ⟨(y 0).val % 256, Nat.mod_lt _ (by decide)⟩ q)
    * x0 (ix2 (n0 := 2048) (n1 := 512) ⟨(y 0).val / 256 * 256 + q.val, by have h : (y 0).val < 2048 := (y 0).isLt; omega⟩ (y 1))

/-- An element of one slab's product. -/
theorem piece_apply (o : ℕ) (inb : ∀ b, ![o, 0] b + S256x512.size b ≤ S2048x512.size b) (x0 : Vec Ideal S2048x512 .bf16) (x1 : Vec Ideal S256x256 .bf16)
    (y : S2048x512.Idx) (x : S256x512.Idx) (ho : o % 256 = 0) (h0 : (y 0).val = o + (x 0).val) (h1 : (y 1).val = (x 1).val) :
    k0_pay5 (View.ld x0 (Rect.unit (s := S2048x512) ![o, 0] S256x512.size inb)) (View.ld x1 r0_1) x = slab x0 x1 y := by
  have hx : (x 0).val < 256 := (x 0).isLt
  refine (congrArg _ (eq_ix2 x)).trans ((pay5_apply _ _ (x 0) (x 1)).trans ?_)
  unfold slab
  refine Finset.sum_congr rfl fun q _ => congrArg₂ (· * ·) (congrArg x1 (funext fun a => Fin.ext ?_)) (congrArg x0 (funext fun a => Fin.ext ?_))
  · match a with
    | ⟨0, _⟩ => show 0 + 1 * (x 0).val = (y 0).val % 256; omega
    | ⟨1, _⟩ => show 0 + 1 * q.val = q.val; omega
  · match a with
    | ⟨0, _⟩ => show o + 1 * q.val = (y 0).val / 256 * 256 + q.val; omega
    | ⟨1, _⟩ => show 0 + 1 * (x 1).val = (y 1).val; omega

/-- A block of the result, from the blocks read. -/
theorem out2_apply (x0 : Vec Ideal S2048x512 .bf16) (x1 : Vec Ideal S256x256 .bf16) (y : S2048x512.Idx) : out0_2 x0 x1 y = slab x0 x1 y := by
  canon_tiles x h
  all_goals exact piece_apply _ _ x0 x1 y x (by decide) (by omega) (by omega)

/-! ## The array -/

variable (m : (ℓ : Loc nD τ sig) → Buf (Elt Ideal) ℓ)

/-- Where window 0's block lies at a point. -/
theorem idx0 : ∀ t : Fin grid0.N, win0_0.index t 0 = t.val ∧ win0_0.index t 1 = 0 := by decide +kernel
/-- Where the matrix lies at a point. -/
theorem idx1 : ∀ t : Fin grid0.N, win0_1.index t 0 = 0 ∧ win0_1.index t 1 = 0 := by decide +kernel
/-- Where the result's block lies at a point. -/
theorem idx2 : ∀ t : Fin grid0.N, win0_2.index t 0 = t.val ∧ win0_2.index t 1 = 0 := by decide +kernel

/-- A point reads 2048 rows. -/
theorem iblk0 (c : Dev nD) (t : Fin cfg0.N) (r : Fin 2048) (k : Fin 512) (n : Fin 32768) (hn : t.val * 2048 + r.val = n.val) :
    (iblk m c 0 t : Vec Ideal S2048x512 .bf16) (ix2 r k) = (m ((c : Thread nD τ).loc main_arg0) : FVec Ideal S32768x512 .bf16) (ix2 n k) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * r.val = n.val; rw [hi.1]; omega
  | ⟨1, _⟩ => show win0_0.index t 1 * 512 + 1 * k.val = k.val; rw [hi.2, Nat.zero_mul, Nat.zero_add, Nat.one_mul]

/-- Every point reads the whole matrix. -/
theorem iblk1 (c : Dev nD) (t : Fin cfg0.N) (a b : Fin 256) :
    (iblk m c 1 t : Vec Ideal S256x256 .bf16) (ix2 a b) = (m ((c : Thread nD τ).loc main_arg1) : FVec Ideal S256x256 .bf16) (ix2 a b) := by
  have hi := idx1 t
  unfold iblk
  rw [View.read_apply]
  show V m c main_arg1 _ = m (c.tc.loc main_arg1) _
  rw [V_main_arg1]
  congr 1
  funext d
  apply Fin.ext
  match d with
  | ⟨0, _⟩ => show win0_1.index t 0 * 256 + 1 * a.val = a.val; rw [hi.1]; omega
  | ⟨1, _⟩ => show win0_1.index t 1 * 256 + 1 * b.val = b.val; rw [hi.2]; omega

/-- An element of the 128 products of a matrix and the slabs of 256 rows. -/
def productAt (A : Vec Ideal S32768x512 .bf16) (W : Vec Ideal S256x256 .bf16) (p : S32768x512.Idx) : EReal :=
  ∑ q : Fin 256, W (ix2 (n0 := 256) ⟨(p 0).val % 256, Nat.mod_lt _ (by decide)⟩ q)
    * A (ix2 (n0 := 32768) (n1 := 512) ⟨(p 0).val / 256 * 256 + q.val, by have h : (p 0).val < 32768 := (p 0).isLt; omega⟩ (p 1))

/-- The array of the products. -/
def products (c : Dev nD) : Buf (Elt Ideal) ((c : Thread nD τ).loc main_v0) := fun p : S32768x512.Idx =>
  productAt (m ((c : Thread nD τ).loc main_arg0)) (m ((c : Thread nD τ).loc main_arg1)) p

/-- An element of a point's block is an element of the array. -/
theorem block_at (c : Dev nD) (t : Fin cfg0.N) (y : S2048x512.Idx) (p : S32768x512.Idx) (h0 : t.val * 2048 + (y 0).val = (p 0).val) (h1 : y 1 = p 1) :
    out0_2 (iblk m c 0 t) (iblk m c 1 t) y = products m c p := by
  refine (out2_apply _ _ y).trans ?_
  show slab _ _ y = productAt _ _ p
  unfold slab productAt
  refine Finset.sum_congr rfl fun q _ => congrArg₂ (· * ·) ?_ ?_
  · refine (iblk1 m c t _ q).trans (congrArg (fun z : Fin 256 => (m ((c : Thread nD τ).loc main_arg1) : FVec Ideal S256x256 .bf16) (ix2 z q)) (Fin.ext ?_))
    show (y 0).val % 256 = (p 0).val % 256
    omega
  · rw [h1]
    refine iblk0 m c t _ (p 1) _ ?_
    show t.val * 2048 + ((y 0).val / 256 * 256 + q.val) = (p 0).val / 256 * 256 + q.val
    omega

/-- Every point writes its block of the array. -/
theorem flushed_2 (c : Dev nD) (t : Fin cfg0.N) (hf : (cfg0.win 2).flush t = true) :
    (dats m 0 c).flushed 2 t = ((cfg0.win 2).blk t).view.read (Elt Ideal) (products m c) := by
  rw [Value.flushed2]
  funext j
  rw [View.read_apply]
  have hi := idx2 t
  refine block_at m c t j _ ?_ (Fin.ext ?_)
  · show t.val * 2048 + (j 0).val = win0_2.index t 0 * 2048 + 1 * (j 0).val
    rw [hi.1]; omega
  · show (j 1).val = win0_2.index t 1 * 512 + 1 * (j 1).val
    rw [hi.2]; omega

/-- The point whose block holds a row. -/
abbrev pointOf (r : Fin 32768) : Fin cfg0.N := ⟨r.val / 2048, by have := r.isLt; show r.val / 2048 < 16; omega⟩

/-- The array after the run. -/
theorem final_2 (c : Dev nD) : (dats m 0 c).arrAt 2 cfg0.N = products m c :=
  (dats m 0 c).arrAt_eq_of_cover 2 (products m c) (flushed_2 m c) fun i =>
    ⟨pointOf (i 0), flush0_2 _, by
      show i ∈ ((View.whole main_v0).slice (win0_2.rect (pointOf (i 0)))).set
      rw [View.set_slice_whole, Rect.mem_set_unit]
      intro a
      have hi := idx2 (pointOf (i 0))
      have h0 : (i 0 : Nat) < 32768 := (i 0).isLt
      have h1 : (i 1 : Nat) < 512 := (i 1).isLt
      match a with
      | ⟨0, _⟩ =>
        show win0_2.index _ 0 * 2048 ≤ (i 0 : Nat) ∧ (i 0 : Nat) < win0_2.index _ 0 * 2048 + 2048
        rw [hi.1]; dsimp only; omega
      | ⟨1, _⟩ =>
        show win0_2.index _ 1 * 512 ≤ (i 1 : Nat) ∧ (i 1 : Nat) < win0_2.index _ 1 * 512 + 512
        rw [hi.2]; omega⟩

end Cert.RowsIdeal.Stage

end
-- ==== Proof.RowsRefVal.lean ====
/- The reference's second stage of a filter's transform, element by element. -/
module

public import proofs.«01_k».proof.Proof.Gen.RowsRefIdeal.Read
public import Idealize.ShloMosaic.Lib.Pointwise

@[expose] public section

set_option maxRecDepth 16384

noncomputable section

namespace Cert.RowsRefIdeal.Stage

open Cert.RowsRefIdeal Cert.RowsRefIdeal.Gen Cert.RowsRefIdeal.Read Idealize.ShloMosaic Idealize.ShloMosaic.TcCoe
open scoped BigOperators

/-- An element of the 128 products. -/
theorem products_apply (A : FVec Ideal S32768x512 .bf16) (W : FVec Ideal S256x256 .bf16) (p : S32768x512.Idx) :
    val_main_v6 (F := Ideal) A W p = ∑ q : Fin 256, W (ix2 (n0 := 256) ⟨(p 0).val % 256, Nat.mod_lt _ (by decide)⟩ q)
      * A (ix2 (n0 := 32768) (n1 := 512) ⟨(p 0).val / 256 * 256 + q.val, by have h : (p 0).val < 32768 := (p 0).isLt; omega⟩ (p 1)) := by
  have h0 : (p 0).val < 32768 := (p 0).isLt
  have h1 : (p 1).val < 512 := (p 1).isLt
  rw [val_main_v6_apply, val_main_v5_apply, val_main_v4_apply, val_main_v3_apply]
  refine Finset.sum_congr rfl fun q _ => ?_
  rw [val_main_v1_apply, val_main_v0_apply, val_main_v2_apply]
  refine (mul_comm _ _).trans (congrArg₂ (· * ·) (congrArg W (funext fun a => Fin.ext ?_)) (congrArg A (funext fun a => Fin.ext ?_)))
  · match a with
    | ⟨0, _⟩ => show ((p 0).val * 512 + (p 1).val) / 512 % 256 = (p 0).val % 256; omega
    | ⟨1, _⟩ => rfl
  · match a with
    | ⟨0, _⟩ =>
      show ((((p 0).val * 512 + (p 1).val) / 131072 * 256 + q.val) * 512 + ((p 0).val * 512 + (p 1).val) % 512) / 512 = (p 0).val / 256 * 256 + q.val
      omega
    | ⟨1, _⟩ =>
      show ((((p 0).val * 512 + (p 1).val) / 131072 * 256 + q.val) * 512 + ((p 0).val * 512 + (p 1).val) % 512) % 512 = (p 1).val
      omega

end Cert.RowsRefIdeal.Stage

end
-- ==== Proof.ProductDef.lean ====
/- A column of the second stage, the product with the filter and the stage's inverse. -/
module

public import Idealize.ShloMosaic.Lib.Pointwise

@[expose] public section

noncomputable section

namespace Stage

open Idealize.ShloMosaic
open scoped BigOperators

/-- A column transformed, multiplied by the filter's and transformed back: the transformed column and the filter's hold 128 real parts and then
    128 imaginary parts. -/
def throughFilter (w wc : Fin 256 → Fin 256 → EReal) (a : Fin 256 → EReal) (kr ki : Fin 128 → EReal) (r : Fin 256) : EReal :=
  ∑ q : Fin 128, wc r ⟨q.val, by omega⟩ * ((∑ j, w ⟨q.val, by omega⟩ j * a j) * kr q - (∑ j, w ⟨128 + q.val, by omega⟩ j * a j) * ki q)
    + ∑ q : Fin 128, wc r ⟨128 + q.val, by omega⟩ * ((∑ j, w ⟨q.val, by omega⟩ j * a j) * ki q + (∑ j, w ⟨128 + q.val, by omega⟩ j * a j) * kr q)

/-- An element of an array whose slabs of 256 rows go through the stage, the product and the inverse. -/
def slabAt (n : ℕ) (w wc : Fin 256 → Fin 256 → EReal) (a k : Fin n → EReal) (hn : n % 256 = 0) (r : Fin n) : EReal :=
  throughFilter w wc (fun q => a ⟨r.val / 256 * 256 + q.val, by omega⟩) (fun q => k ⟨r.val / 256 * 256 + q.val, by omega⟩)
    (fun q => k ⟨r.val / 256 * 256 + (128 + q.val), by omega⟩) ⟨r.val % 256, Nat.mod_lt _ (by decide)⟩

end Stage

end
-- ==== Proof.ProductVal.lean ====
/- The second stage of the signal's transform, its product with the filter's and the stage's inverse as the kernel leaves them. -/
module

public import proofs.«01_k».proof.Proof.Gen.ProductIdeal.Value
public import proofs.«01_k».proof.Proof.Gen.ProductIdeal.Frame
public import proofs.«01_k».proof.Proof.ProductDef
public import Idealize.ShloMosaic.Lib.WritesUnit
public import Idealize.ShloMosaic.Lib.Pipeline.ValueKit.Basic
public import Idealize.ShloMosaic.Lib.Pipeline.ValueKit.Tiles
public import Idealize.ShloMosaic.Lib.Pointwise

@[expose] public section

set_option maxRecDepth 16384

noncomputable section

namespace Cert.ProductIdeal.Stage

open Cert.ProductIdeal Cert.ProductIdeal.Gen Idealize.ShloMosaic Idealize.ShloMosaic.TcCoe Idealize.SL.Sem
open scoped BigOperators

/-- One slab through the stage, the product and the inverse. -/
theorem pay3_apply (w : Vec Ideal S256x256 .bf16) (v : Vec Ideal S256x512 .bf16) (kr ki : Vec Ideal S128x512 .bf16) (wc : Vec Ideal S256x256 .bf16)
    (r : Fin 256) (c : Fin 512) :
    k0_pay3 w v kr ki wc (ix2 r c) = _root_.Stage.throughFilter (fun a b => w (ix2 a b)) (fun a b => wc (ix2 a b)) (fun a => v (ix2 a c))
      (fun a => kr (ix2 a c)) (fun a => ki (ix2 a c)) r := by
  unfold _root_.Stage.throughFilter
  pointwise [k0_pay3]

/-- An element of a block of eight slabs. -/
def slab (x0 x1 : Vec Ideal S2048x512 .bf16) (x2 x3 : Vec Ideal S256x256 .bf16) (y : S2048x512.Idx) : EReal :=
  _root_.Stage.slabAt 2048 (fun a b => x2 (ix2 a b)) (fun a b => x3 (ix2 a b)) (fun a => x0 (ix2 (n0 := 2048) (n1 := 512) a (y 1)))
    (fun a => x1 (ix2 (n0 := 2048) (n1 := 512) a (y 1))) (by decide) (y 0)

/-- The matrix read whole. -/
theorem ld_whole (x : Vec Ideal S256x256 .bf16) : (fun a b : Fin 256 => (View.ld x r0_0 : Vec Ideal S256x256 .bf16) (ix2 a b)) = fun a b => x (ix2 a b) := by
  funext a b
  refine congrArg x (funext fun d => Fin.ext ?_)
  match d with
  | ⟨0, _⟩ => show 0 + 1 * a.val = a.val; omega
  | ⟨1, _⟩ => show 0 + 1 * b.val = b.val; omega

/-- An element of one slab. -/
theorem piece_apply (o o' : ℕ) (inb : ∀ b, ![o, 0] b + S256x512.size b ≤ S2048x512.size b) (inr : ∀ b, ![o, 0] b + S128x512.size b ≤ S2048x512.size b)
    (ini : ∀ b, ![o', 0] b + S128x512.size b ≤ S2048x512.size b) (x0 x1 : Vec Ideal S2048x512 .bf16) (x2 x3 : Vec Ideal S256x256 .bf16)
    (y : S2048x512.Idx) (x : S256x512.Idx) (ho : o % 256 = 0) (ho' : o' = o + 128) (h0 : (y 0).val = o + (x 0).val) (h1 : (y 1).val = (x 1).val) :
    k0_pay3 (View.ld x2 r0_0) (View.ld x0 (Rect.unit (s := S2048x512) ![o, 0] S256x512.size inb))
      (View.ld x1 (Rect.unit (s := S2048x512) ![o, 0] S128x512.size inr)) (View.ld x1 (Rect.unit (s := S2048x512) ![o', 0] S128x512.size ini))
      (View.ld x3 r0_0) x = slab x0 x1 x2 x3 y := by
  have hx : (x 0).val < 256 := (x 0).isLt
  refine (congrArg _ (eq_ix2 x)).trans ((pay3_apply _ _ _ _ _ (x 0) (x 1)).trans ?_)
  rw [ld_whole, ld_whole]
  unfold slab _root_.Stage.slabAt
  have hr : (x 0 : Fin 256) = ⟨(y 0).val % 256, Nat.mod_lt _ (by decide)⟩ := Fin.ext (by show (x 0).val = (y 0).val % 256; omega)
  rw [hr]
  congr 1
  · funext q
    refine congrArg x0 (funext fun d => Fin.ext ?_)
    match d with
    | ⟨0, _⟩ => show o + 1 * q.val = (y 0).val / 256 * 256 + q.val; omega
    | ⟨1, _⟩ => show 0 + 1 * (x 1).val = (y 1).val; omega
  · funext q
    refine congrArg x1 (funext fun d => Fin.ext ?_)
    match d with
    | ⟨0, _⟩ => show o + 1 * q.val = (y 0).val / 256 * 256 + q.val; omega
    | ⟨1, _⟩ => show 0 + 1 * (x 1).val = (y 1).val; omega
  · funext q
    refine congrArg x1 (funext fun d => Fin.ext ?_)
    match d with
    | ⟨0, _⟩ => show o' + 1 * q.val = (y 0).val / 256 * 256 + (128 + q.val); omega
    | ⟨1, _⟩ => show 0 + 1 * (x 1).val = (y 1).val; omega

/-- A block of the result, from the blocks read. -/
theorem out4_apply (x0 x1 : Vec Ideal S2048x512 .bf16) (x2 x3 : Vec Ideal S256x256 .bf16) (y : S2048x512.Idx) :
    out0_4 x0 x1 x2 x3 y = slab x0 x1 x2 x3 y := by
  canon_tiles x h
  · exact piece_apply 1792 1920 (by decide) (by decide) (by decide) x0 x1 x2 x3 y x (by decide) (by decide) (by omega) (by omega)
  · exact piece_apply 1536 1664 (by decide) (by decide) (by decide) x0 x1 x2 x3 y x (by decide) (by decide) (by omega) (by omega)
  · exact piece_apply 1280 1408 (by decide) (by decide) (by decide) x0 x1 x2 x3 y x (by decide) (by decide) (by omega) (by omega)
  · exact piece_apply 1024 1152 (by decide) (by decide) (by decide) x0 x1 x2 x3 y x (by decide) (by decide) (by omega) (by omega)
  · exact piece_apply 768 896 (by decide) (by decide) (by decide) x0 x1 x2 x3 y x (by decide) (by decide) (by omega) (by omega)
  · exact piece_apply 512 640 (by decide) (by decide) (by decide) x0 x1 x2 x3 y x (by decide) (by decide) (by omega) (by omega)
  · exact piece_apply 256 384 (by decide) (by decide) (by decide) x0 x1 x2 x3 y x (by decide) (by decide) (by omega) (by omega)
  · exact piece_apply 0 128 (by decide) (by decide) (by decide) x0 x1 x2 x3 y x (by decide) (by decide) (by omega) (by omega)

/-! ## The array -/

variable (m : (ℓ : Loc nD τ sig) → Buf (Elt Ideal) ℓ)

/-- Where window 0's block lies at a point. -/
theorem idx0 : ∀ t : Fin grid0.N, win0_0.index t 0 = t.val ∧ win0_0.index t 1 = 0 := by decide +kernel
/-- Where window 1's block lies at a point. -/
theorem idx1 : ∀ t : Fin grid0.N, win0_1.index t 0 = t.val ∧ win0_1.index t 1 = 0 := by decide +kernel
/-- Where window 2's block lies at a point. -/
theorem idx2 : ∀ t : Fin grid0.N, win0_2.index t 0 = 0 ∧ win0_2.index t 1 = 0 := by decide +kernel
/-- Where window 3's block lies at a point. -/
theorem idx3 : ∀ t : Fin grid0.N, win0_3.index t 0 = 0 ∧ win0_3.index t 1 = 0 := by decide +kernel
/-- Where window 4's block lies at a point. -/
theorem idx4 : ∀ t : Fin grid0.N, win0_4.index t 0 = t.val ∧ win0_4.index t 1 = 0 := by decide +kernel

/-- A point reads 2048 rows of operand 0. -/
theorem iblk0 (c : Dev nD) (t : Fin cfg0.N) (r : Fin 2048) (k : Fin 512) (n : Fin 32768) (hn : t.val * 2048 + r.val = n.val) :
    (iblk m c 0 t : Vec Ideal S2048x512 .bf16) (ix2 r k) = (m ((c : Thread nD τ).loc main_arg0) : FVec Ideal S32768x512 .bf16) (ix2 n k) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * r.val = n.val; rw [hi.1, Nat.one_mul]; exact hn
  | ⟨1, _⟩ => show win0_0.index t 1 * 512 + 1 * k.val = k.val; rw [hi.2, Nat.zero_mul, Nat.zero_add, Nat.one_mul]

/-- A point reads 2048 rows of operand 1. -/
theorem iblk1 (c : Dev nD) (t : Fin cfg0.N) (r : Fin 2048) (k : Fin 512) (n : Fin 32768) (hn : t.val * 2048 + r.val = n.val) :
    (iblk m c 1 t : Vec Ideal S2048x512 .bf16) (ix2 r k) = (m ((c : Thread nD τ).loc main_arg1) : FVec Ideal S32768x512 .bf16) (ix2 n k) := by
  have hi := idx1 t
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * r.val = n.val; rw [hi.1, Nat.one_mul]; exact hn
  | ⟨1, _⟩ => show win0_1.index t 1 * 512 + 1 * k.val = k.val; rw [hi.2, Nat.zero_mul, Nat.zero_add, Nat.one_mul]

/-- Every point reads the whole of matrix 2. -/
theorem iblk2 (c : Dev nD) (t : Fin cfg0.N) (a b : Fin 256) :
    (iblk m c 2 t : Vec Ideal S256x256 .bf16) (ix2 a b) = (m ((c : Thread nD τ).loc main_arg2) : FVec Ideal S256x256 .bf16) (ix2 a b) := by
  have hi := idx2 t
  unfold iblk
  rw [View.read_apply]
  show V m c main_arg2 _ = m (c.tc.loc main_arg2) _
  rw [V_main_arg2]
  congr 1
  funext d
  apply Fin.ext
  match d with
  | ⟨0, _⟩ => show win0_2.index t 0 * 256 + 1 * a.val = a.val; rw [hi.1, Nat.zero_mul, Nat.zero_add, Nat.one_mul]
  | ⟨1, _⟩ => show win0_2.index t 1 * 256 + 1 * b.val = b.val; rw [hi.2, Nat.zero_mul, Nat.zero_add, Nat.one_mul]

/-- Every point reads the whole of matrix 3. -/
theorem iblk3 (c : Dev nD) (t : Fin cfg0.N) (a b : Fin 256) :
    (iblk m c 3 t : Vec Ideal S256x256 .bf16) (ix2 a b) = (m ((c : Thread nD τ).loc main_arg3) : FVec Ideal S256x256 .bf16) (ix2 a b) := by
  have hi := idx3 t
  unfold iblk
  rw [View.read_apply]
  show V m c main_arg3 _ = m (c.tc.loc main_arg3) _
  rw [V_main_arg3]
  congr 1
  funext d
  apply Fin.ext
  match d with
  | ⟨0, _⟩ => show win0_3.index t 0 * 256 + 1 * a.val = a.val; rw [hi.1, Nat.zero_mul, Nat.zero_add, Nat.one_mul]
  | ⟨1, _⟩ => show win0_3.index t 1 * 256 + 1 * b.val = b.val; rw [hi.2, Nat.zero_mul, Nat.zero_add, Nat.one_mul]

/-- An element of the array from the arrays it is made of. -/
def productAt (A K : Vec Ideal S32768x512 .bf16) (W C : Vec Ideal S256x256 .bf16) (p : S32768x512.Idx) : EReal :=
  _root_.Stage.slabAt 32768 (fun a b => W (ix2 a b)) (fun a b => C (ix2 a b)) (fun a => A (ix2 (n0 := 32768) (n1 := 512) a (p 1)))
    (fun a => K (ix2 (n0 := 32768) (n1 := 512) a (p 1))) (by decide) (p 0)

/-- The array of the slabs. -/
def products (c : Dev nD) : Buf (Elt Ideal) ((c : Thread nD τ).loc main_v0) := fun p : S32768x512.Idx =>
  productAt (m ((c : Thread nD τ).loc main_arg0)) (m ((c : Thread nD τ).loc main_arg1)) (m ((c : Thread nD τ).loc main_arg2))
    (m ((c : Thread nD τ).loc main_arg3)) p

/-- An element of a point's block is an element of the array. -/
theorem block_at (c : Dev nD) (t : Fin cfg0.N) (y : S2048x512.Idx) (p : S32768x512.Idx) (h0 : t.val * 2048 + (y 0).val = (p 0).val) (h1 : y 1 = p 1) :
    out0_4 (iblk m c 0 t) (iblk m c 1 t) (iblk m c 2 t) (iblk m c 3 t) y = products m c p := by
  refine (out4_apply _ _ _ _ y).trans ?_
  show slab _ _ _ _ y = productAt _ _ _ _ p
  unfold slab productAt _root_.Stage.slabAt
  have hr : (⟨(y 0).val % 256, Nat.mod_lt _ (by decide)⟩ : Fin 256) = ⟨(p 0).val % 256, Nat.mod_lt _ (by decide)⟩ :=
    Fin.ext (by show (y 0).val % 256 = (p 0).val % 256; omega)
  rw [h1, hr]
  congr 1
  · funext a b
    exact iblk2 m c t a b
  · funext a b
    exact iblk3 m c t a b
  · funext q
    refine iblk0 m c t _ (p 1) _ ?_
    show t.val * 2048 + ((y 0).val / 256 * 256 + q.val) = (p 0).val / 256 * 256 + q.val
    omega
  · funext q
    refine iblk1 m c t _ (p 1) _ ?_
    show t.val * 2048 + ((y 0).val / 256 * 256 + q.val) = (p 0).val / 256 * 256 + q.val
    omega
  · funext q
    refine iblk1 m c t _ (p 1) _ ?_
    show t.val * 2048 + ((y 0).val / 256 * 256 + (128 + q.val)) = (p 0).val / 256 * 256 + (128 + q.val)
    omega

/-- Every point writes its block of the array. -/
theorem flushed_4 (c : Dev nD) (t : Fin cfg0.N) (hf : (cfg0.win 4).flush t = true) :
    (dats m 0 c).flushed 4 t = ((cfg0.win 4).blk t).view.read (Elt Ideal) (products m c) := by
  rw [Value.flushed4]
  funext j
  rw [View.read_apply]
  have hi := idx4 t
  refine block_at m c t j _ ?_ (Fin.ext ?_)
  · show t.val * 2048 + (j 0).val = win0_4.index t 0 * 2048 + 1 * (j 0).val
    rw [hi.1]; omega
  · show (j 1).val = win0_4.index t 1 * 512 + 1 * (j 1).val
    rw [hi.2]; omega

/-- The point whose block holds a row. -/
abbrev pointOf (r : Fin 32768) : Fin cfg0.N := ⟨r.val / 2048, by have := r.isLt; show r.val / 2048 < 16; omega⟩

/-- The array after the run. -/
theorem final_4 (c : Dev nD) : (dats m 0 c).arrAt 4 cfg0.N = products m c :=
  (dats m 0 c).arrAt_eq_of_cover 4 (products m c) (flushed_4 m c) fun i =>
    ⟨pointOf (i 0), flush0_4 _, by
      show i ∈ ((View.whole main_v0).slice (win0_4.rect (pointOf (i 0)))).set
      rw [View.set_slice_whole, Rect.mem_set_unit]
      intro a
      have hi := idx4 (pointOf (i 0))
      have h0 : (i 0 : Nat) < 32768 := (i 0).isLt
      have h1 : (i 1 : Nat) < 512 := (i 1).isLt
      match a with
      | ⟨0, _⟩ =>
        show win0_4.index _ 0 * 2048 ≤ (i 0 : Nat) ∧ (i 0 : Nat) < win0_4.index _ 0 * 2048 + 2048
        rw [hi.1]; dsimp only; omega
      | ⟨1, _⟩ =>
        show win0_4.index _ 1 * 512 ≤ (i 1 : Nat) ∧ (i 1 : Nat) < win0_4.index _ 1 * 512 + 512
        rw [hi.2]; omega⟩

end Cert.ProductIdeal.Stage

end
-- ==== Proof.ProductRefVal.lean ====
/- The reference's second stage of the signal's transform, product with the filter's and inverse stage, element by element. -/
module

public import proofs.«01_k».proof.Proof.Gen.ProductRefIdeal.Read
public import proofs.«01_k».proof.Proof.ProductDef
public import Idealize.ShloMosaic.Lib.Pointwise

@[expose] public section

set_option maxRecDepth 16384

noncomputable section

namespace Cert.ProductRefIdeal.Stage

open Cert.ProductRefIdeal Cert.ProductRefIdeal.Gen Cert.ProductRefIdeal.Read Idealize.ShloMosaic Idealize.ShloMosaic.TcCoe
open scoped BigOperators

variable (A K : FVec Ideal S32768x512 .bf16) (W C : FVec Ideal S256x256 .bf16)

/-- An element of the transformed columns. -/
theorem stage_apply (j : Fin 128) (r : Fin 256) (c : Fin 512) (i : S128x256x512.Idx) (h0 : (i 0).val = j.val) (h1 : (i 1).val = r.val) (h2 : (i 2).val = c.val) :
    val_main_v6 (F := Ideal) A W i
      = ∑ q : Fin 256, W (ix2 (n0 := 256) r q) * A (ix2 (n0 := 32768) (n1 := 512) ⟨j.val * 256 + q.val, by omega⟩ c) := by
  rw [val_main_v6_apply, val_main_v5_apply]
  refine Finset.sum_congr rfl fun q _ => ?_
  rw [val_main_v4_apply, val_main_v0_apply, val_main_v2_apply]
  have hc := c.isLt
  refine (mul_comm _ _).trans (congrArg₂ (· * ·) (congrArg W (funext fun a => Fin.ext ?_)) (congrArg A (funext fun a => Fin.ext ?_)))
  · match a with
    | ⟨0, _⟩ => exact h1
    | ⟨1, _⟩ => rfl
  · match a with
    | ⟨0, _⟩ => show (((i 0).val * 256 + q.val) * 512 + (i 2).val) / 512 = j.val * 256 + q.val; omega
    | ⟨1, _⟩ => show (((i 0).val * 256 + q.val) * 512 + (i 2).val) % 512 = c.val; omega

/-- An element of the filter's columns. -/
theorem filter_apply (j : Fin 128) (r : Fin 256) (c : Fin 512) (i : S128x256x512.Idx) (h0 : (i 0).val = j.val) (h1 : (i 1).val = r.val) (h2 : (i 2).val = c.val) :
    val_main_v7 (F := Ideal) K i = K (ix2 (n0 := 32768) (n1 := 512) ⟨j.val * 256 + r.val, by omega⟩ c) := by
  rw [val_main_v7_apply, val_main_v1_apply]
  have hc := c.isLt
  refine congrArg K (funext fun a => Fin.ext ?_)
  match a with
  | ⟨0, _⟩ => show (((i 0).val * 256 + (i 1).val) * 512 + (i 2).val) / 512 = j.val * 256 + r.val; omega
  | ⟨1, _⟩ => show (((i 0).val * 256 + (i 1).val) * 512 + (i 2).val) % 512 = c.val; omega

/-- An element of the products' real parts. -/
theorem real_apply (j : Fin 128) (q : Fin 128) (c : Fin 512) :
    val_main_v18 (F := Ideal) A K W (ix3 j (⟨q.val, by omega⟩ : Fin 256) c)
      = (∑ k : Fin 256, W (ix2 (n0 := 256) ⟨q.val, by omega⟩ k) * A (ix2 (n0 := 32768) (n1 := 512) ⟨j.val * 256 + k.val, by omega⟩ c))
          * K (ix2 (n0 := 32768) (n1 := 512) ⟨j.val * 256 + q.val, by omega⟩ c)
        - (∑ k : Fin 256, W (ix2 (n0 := 256) ⟨128 + q.val, by omega⟩ k) * A (ix2 (n0 := 32768) (n1 := 512) ⟨j.val * 256 + k.val, by omega⟩ c))
          * K (ix2 (n0 := 32768) (n1 := 512) ⟨j.val * 256 + (128 + q.val), by omega⟩ c) := by
  unfold val_main_v18
  refine (concatenate_pair_apply_left (s₁ := S128x128x512) (s₂ := S128x128x512) 1 _ _ _ (ix3 j (⟨q.val, by omega⟩ : Fin 256) c : S128x256x512.Idx) rfl (ix3 j q c) fun a => ?_).trans ?_
  · match a with
    | ⟨0, _⟩ => rfl
    | ⟨1, _⟩ => rfl
    | ⟨2, _⟩ => rfl
  · rw [val_main_v14_apply, val_main_v12_apply, val_main_v13_apply, val_main_v8_apply, val_main_v9_apply, val_main_v10_apply, val_main_v11_apply]
    exact congrArg₂ (fun a b : EReal => a - b)
      (congrArg₂ (fun a b : EReal => a * b) (stage_apply A W j ⟨q.val, by omega⟩ c _ rfl rfl rfl) (filter_apply K j ⟨q.val, by omega⟩ c _ rfl rfl rfl))
      (congrArg₂ (fun a b : EReal => a * b) (stage_apply A W j ⟨128 + q.val, by omega⟩ c _ rfl rfl rfl) (filter_apply K j ⟨128 + q.val, by omega⟩ c _ rfl rfl rfl))

/-- An element of the products' imaginary parts. -/
theorem imag_apply (j : Fin 128) (q : Fin 128) (c : Fin 512) :
    val_main_v18 (F := Ideal) A K W (ix3 j (⟨128 + q.val, by omega⟩ : Fin 256) c)
      = (∑ k : Fin 256, W (ix2 (n0 := 256) ⟨q.val, by omega⟩ k) * A (ix2 (n0 := 32768) (n1 := 512) ⟨j.val * 256 + k.val, by omega⟩ c))
          * K (ix2 (n0 := 32768) (n1 := 512) ⟨j.val * 256 + (128 + q.val), by omega⟩ c)
        + (∑ k : Fin 256, W (ix2 (n0 := 256) ⟨128 + q.val, by omega⟩ k) * A (ix2 (n0 := 32768) (n1 := 512) ⟨j.val * 256 + k.val, by omega⟩ c))
          * K (ix2 (n0 := 32768) (n1 := 512) ⟨j.val * 256 + q.val, by omega⟩ c) := by
  unfold val_main_v18
  refine (concatenate_pair_apply_right (s₁ := S128x128x512) (s₂ := S128x128x512) 1 _ _ _ (ix3 j (⟨128 + q.val, by omega⟩ : Fin 256) c : S128x256x512.Idx) rfl rfl (ix3 j q c) (fun a ha => ?_) ?_).trans ?_
  · match a with
    | ⟨0, _⟩ => rfl
    | ⟨1, _⟩ => exact absurd rfl ha
    | ⟨2, _⟩ => rfl
  · show q.val + 128 = 128 + q.val
    omega
  · rw [val_main_v17_apply, val_main_v15_apply, val_main_v16_apply, val_main_v8_apply, val_main_v9_apply, val_main_v10_apply, val_main_v11_apply]
    exact congrArg₂ (fun a b : EReal => a + b)
      (congrArg₂ (fun a b : EReal => a * b) (stage_apply A W j ⟨q.val, by omega⟩ c _ rfl rfl rfl) (filter_apply K j ⟨128 + q.val, by omega⟩ c _ rfl rfl rfl))
      (congrArg₂ (fun a b : EReal => a * b) (stage_apply A W j ⟨128 + q.val, by omega⟩ c _ rfl rfl rfl) (filter_apply K j ⟨q.val, by omega⟩ c _ rfl rfl rfl))

/-- An element of the reference's result. -/
theorem products_apply (p : S32768x512.Idx) :
    val_main_v22 (F := Ideal) A K W C p = _root_.Stage.slabAt 32768 (fun a b => W (ix2 a b)) (fun a b => C (ix2 a b))
      (fun a => A (ix2 (n0 := 32768) (n1 := 512) a (p 1))) (fun a => K (ix2 (n0 := 32768) (n1 := 512) a (p 1))) (by decide) (p 0) := by
  have h0 : (p 0).val < 32768 := (p 0).isLt
  have h1 : (p 1).val < 512 := (p 1).isLt
  rw [val_main_v22_apply, val_main_v21_apply, val_main_v20_apply, val_main_v19_apply]
  have hs : ∀ q : Fin 256, val_main_v18 (F := Ideal) A K W (lidx_main_v19 (idx_main_v20 (idx_main_v21 p)) q)
        * val_main_v3 (F := Ideal) C (ridx_main_v19 (idx_main_v20 (idx_main_v21 p)) q)
      = C (ix2 (n0 := 256) ⟨(p 0).val % 256, Nat.mod_lt _ (by decide)⟩ q)
        * val_main_v18 (F := Ideal) A K W (ix3 (⟨(p 0).val / 256, by omega⟩ : Fin 128) q (p 1)) := by
    intro q
    rw [val_main_v3_apply]
    refine (mul_comm _ _).trans (congrArg₂ (· * ·) (congrArg C (funext fun a => Fin.ext ?_))
      (congrArg (val_main_v18 (F := Ideal) A K W) (funext fun a => Fin.ext ?_)))
    · match a with
      | ⟨0, _⟩ => show ((p 0).val * 512 + (p 1).val) / 512 % 256 = (p 0).val % 256; omega
      | ⟨1, _⟩ => rfl
    · match a with
      | ⟨0, _⟩ => show ((p 0).val * 512 + (p 1).val) / 131072 = (p 0).val / 256; omega
      | ⟨1, _⟩ => rfl
      | ⟨2, _⟩ => show ((p 0).val * 512 + (p 1).val) % 512 = (p 1).val; omega
  refine (Finset.sum_congr rfl fun q _ => hs q).trans ?_
  refine (Fin.sum_univ_add (a := 128) (b := 128) fun q : Fin (128 + 128) => C (ix2 (n0 := 256) ⟨(p 0).val % 256, Nat.mod_lt _ (by decide)⟩ q)
        * val_main_v18 (F := Ideal) A K W (ix3 (⟨(p 0).val / 256, by omega⟩ : Fin 128) q (p 1))).trans ?_
  unfold _root_.Stage.slabAt _root_.Stage.throughFilter
  exact congrArg₂ (fun a b : EReal => a + b)
    (Finset.sum_congr rfl fun q _ => congrArg (C (ix2 (n0 := 256) ⟨(p 0).val % 256, Nat.mod_lt _ (by decide)⟩ ⟨q.val, by omega⟩) * ·) (real_apply A K W _ q (p 1)))
    (Finset.sum_congr rfl fun q _ => congrArg (C (ix2 (n0 := 256) ⟨(p 0).val % 256, Nat.mod_lt _ (by decide)⟩ ⟨128 + q.val, by omega⟩) * ·) (imag_apply A K W _ q (p 1)))

end Cert.ProductRefIdeal.Stage

end
-- ==== Proof.BackVal.lean ====
/- The last stage of the inverse transform, its residual and its gate as the kernel leaves them, element by element. -/
module

public import proofs.«01_k».proof.Proof.Gen.BackIdeal.Value
public import proofs.«01_k».proof.Proof.Gen.BackIdeal.Frame
public import Idealize.ShloMosaic.Lib.WritesUnit
public import Idealize.ShloMosaic.Lib.Pipeline.ValueKit.Basic
public import Idealize.ShloMosaic.Lib.Pipeline.ValueKit.Tiles
public import Idealize.ShloMosaic.Lib.Pointwise

@[expose] public section

set_option maxRecDepth 16384

noncomputable section

namespace Cert.BackIdeal.Stage

open Cert.BackIdeal Cert.BackIdeal.Gen Idealize.ShloMosaic Idealize.ShloMosaic.TcCoe Idealize.SL.Sem
open scoped BigOperators

/-- A column's first batch: its rows of the product, the residual and the gate. -/
theorem first_apply (s : Vec Ideal S1x512 .f32) (w : Vec Ideal S1x128x256 .bf16) (d : Vec Ideal S256x512 .bf16) (u xg : Vec Ideal S1x64x512 .bf16)
    (z : Fin 1) (r : Fin 64) (c : Fin 512) :
    k0_pay3 s w d u xg (ix3 z r c) = xg (ix3 0 r c) * (∑ k, w (ix3 0 ⟨r.val, by omega⟩ k) * d (ix2 k c) + u (ix3 0 r c) * s (ix2 0 c)) := by
  obtain rfl : z = 0 := Subsingleton.elim _ _
  pointwise [k0_pay3, k0_pay2]

/-- A column's second batch: its rows of the product, the residual and the gate. -/
theorem second_apply (s : Vec Ideal S1x512 .f32) (w : Vec Ideal S1x128x256 .bf16) (d : Vec Ideal S256x512 .bf16) (u xg : Vec Ideal S1x64x512 .bf16)
    (z : Fin 1) (r : Fin 64) (c : Fin 512) :
    k0_pay5 (k0_pay4 s w d u xg) (ix3 z r c) = xg (ix3 0 r c) * (∑ k, w (ix3 0 ⟨64 + r.val, by omega⟩ k) * d (ix2 k c) + u (ix3 0 r c) * s (ix2 0 c)) := by
  obtain rfl : z = 0 := Subsingleton.elim _ _
  pointwise [k0_pay5, k0_pay4, k0_pay2]

/-- An element of a block of eight columns and two batches. -/
def slab (x0 : Vec Ideal S256x4096 .bf16) (x1 : Vec Ideal S8x128x256 .bf16) (x2 x3 : Vec Ideal S2x64x4096 .bf16) (x4 : Vec Ideal S1x512 .f32) (y : S2x64x4096.Idx) : EReal :=
  x3 y * (∑ k : Fin 256, x1 (ix3 (n0 := 8) (n1 := 128) ⟨(y 2).val / 512, by have h : (y 2).val < 4096 := (y 2).isLt; omega⟩
      ⟨(y 0).val * 64 + (y 1).val, by have h : (y 0).val < 2 := (y 0).isLt; have h' : (y 1).val < 64 := (y 1).isLt; omega⟩ k)
      * x0 (ix2 (n0 := 256) (n1 := 4096) k (y 2))
    + x2 y * x4 (ix2 (n0 := 1) (n1 := 512) 0 ⟨(y 2).val % 512, Nat.mod_lt _ (by decide)⟩))

/-- An element of a column's piece of batch 0. -/
theorem first_piece (j o : ℕ) (inj : ∀ b, ![j, 0, 0] b + S1x128x256.size b ≤ S8x128x256.size b) (ino : ∀ b, ![0, o] b + S256x512.size b ≤ S256x4096.size b)
    (inc : ∀ b, ![0, 0, o] b + S1x64x512.size b ≤ S2x64x4096.size b) (x0 : Vec Ideal S256x4096 .bf16) (x1 : Vec Ideal S8x128x256 .bf16) (x2 x3 : Vec Ideal S2x64x4096 .bf16) (x4 : Vec Ideal S1x512 .f32)
    (y : S2x64x4096.Idx) (x : S1x64x512.Idx) (ho : o = 512 * j) (h0 : (y 0).val = (x 0).val) (h1 : (y 1).val = (x 1).val) (h2 : (y 2).val = o + (x 2).val) :
    k0_pay3 (View.ld x4 r0_0) (View.ld x1 (Rect.unit (s := S8x128x256) ![j, 0, 0] S1x128x256.size inj)) (View.ld x0 (Rect.unit (s := S256x4096) ![0, o] S256x512.size ino))
      (View.ld x2 (Rect.unit (s := S2x64x4096) ![0, 0, o] S1x64x512.size inc)) (View.ld x3 (Rect.unit (s := S2x64x4096) ![0, 0, o] S1x64x512.size inc)) x = slab x0 x1 x2 x3 x4 y := by
  have hx0 : (x 0).val < 1 := (x 0).isLt
  have hx2 : (x 2).val < 512 := (x 2).isLt
  have hl : ∀ v : Vec Ideal S2x64x4096 .bf16, (View.ld v (Rect.unit (s := S2x64x4096) ![0, 0, o] S1x64x512.size inc) : Vec Ideal S1x64x512 .bf16)
      (ix3 (n0 := 1) (n1 := 64) (n2 := 512) 0 (x 1) (x 2)) = v y := by
    intro v
    refine congrArg v (funext fun a => Fin.ext ?_)
    match a with
    | ⟨0, _⟩ => show 0 + 1 * 0 = (y 0).val; omega
    | ⟨1, _⟩ => show 0 + 1 * (x 1).val = (y 1).val; omega
    | ⟨2, _⟩ => show o + 1 * (x 2).val = (y 2).val; omega
  refine (congrArg _ (eq_ix3 x)).trans ((first_apply _ _ _ _ _ (x 0) (x 1) (x 2)).trans ?_)
  unfold slab
  refine congrArg₂ (fun a b : EReal => a * b) (hl x3) (congrArg₂ (fun a b : EReal => a + b) (Finset.sum_congr rfl fun q _ => congrArg₂ (fun a b : EReal => a * b) (congrArg x1 (funext fun a => Fin.ext ?_)) (congrArg x0 (funext fun a => Fin.ext ?_))) (congrArg₂ (fun a b : EReal => a * b) (hl x2) (congrArg x4 (funext fun a => Fin.ext ?_))))
  · match a with
    | ⟨0, _⟩ => show j + 1 * 0 = (y 2).val / 512; omega
    | ⟨1, _⟩ => show 0 + 1 * (x 1).val = (y 0).val * 64 + (y 1).val; omega
    | ⟨2, _⟩ => show 0 + 1 * q.val = q.val; omega
  · match a with
    | ⟨0, _⟩ => show 0 + 1 * q.val = q.val; omega
    | ⟨1, _⟩ => show o + 1 * (x 2).val = (y 2).val; omega
  · match a with
    | ⟨0, _⟩ => rfl
    | ⟨1, _⟩ => show 0 + 1 * (x 2).val = (y 2).val % 512; omega

/-- An element of a column's piece of batch 1. -/
theorem second_piece (j o : ℕ) (inj : ∀ b, ![j, 0, 0] b + S1x128x256.size b ≤ S8x128x256.size b) (ino : ∀ b, ![0, o] b + S256x512.size b ≤ S256x4096.size b)
    (inc : ∀ b, ![1, 0, o] b + S1x64x512.size b ≤ S2x64x4096.size b) (x0 : Vec Ideal S256x4096 .bf16) (x1 : Vec Ideal S8x128x256 .bf16) (x2 x3 : Vec Ideal S2x64x4096 .bf16) (x4 : Vec Ideal S1x512 .f32)
    (y : S2x64x4096.Idx) (x : S1x64x512.Idx) (ho : o = 512 * j) (h0 : (y 0).val = 1 + (x 0).val) (h1 : (y 1).val = (x 1).val) (h2 : (y 2).val = o + (x 2).val) :
    k0_pay5 (k0_pay4 (View.ld x4 r0_0) (View.ld x1 (Rect.unit (s := S8x128x256) ![j, 0, 0] S1x128x256.size inj)) (View.ld x0 (Rect.unit (s := S256x4096) ![0, o] S256x512.size ino))
      (View.ld x2 (Rect.unit (s := S2x64x4096) ![1, 0, o] S1x64x512.size inc)) (View.ld x3 (Rect.unit (s := S2x64x4096) ![1, 0, o] S1x64x512.size inc))) x = slab x0 x1 x2 x3 x4 y := by
  have hx0 : (x 0).val < 1 := (x 0).isLt
  have hx2 : (x 2).val < 512 := (x 2).isLt
  have hl : ∀ v : Vec Ideal S2x64x4096 .bf16, (View.ld v (Rect.unit (s := S2x64x4096) ![1, 0, o] S1x64x512.size inc) : Vec Ideal S1x64x512 .bf16)
      (ix3 (n0 := 1) (n1 := 64) (n2 := 512) 0 (x 1) (x 2)) = v y := by
    intro v
    refine congrArg v (funext fun a => Fin.ext ?_)
    match a with
    | ⟨0, _⟩ => show 1 + 1 * 0 = (y 0).val; omega
    | ⟨1, _⟩ => show 0 + 1 * (x 1).val = (y 1).val; omega
    | ⟨2, _⟩ => show o + 1 * (x 2).val = (y 2).val; omega
  refine (congrArg _ (eq_ix3 x)).trans ((second_apply _ _ _ _ _ (x 0) (x 1) (x 2)).trans ?_)
  unfold slab
  refine congrArg₂ (fun a b : EReal => a * b) (hl x3) (congrArg₂ (fun a b : EReal => a + b) (Finset.sum_congr rfl fun q _ => congrArg₂ (fun a b : EReal => a * b) (congrArg x1 (funext fun a => Fin.ext ?_)) (congrArg x0 (funext fun a => Fin.ext ?_))) (congrArg₂ (fun a b : EReal => a * b) (hl x2) (congrArg x4 (funext fun a => Fin.ext ?_))))
  · match a with
    | ⟨0, _⟩ => show j + 1 * 0 = (y 2).val / 512; omega
    | ⟨1, _⟩ => show 0 + 1 * (64 + (x 1).val) = (y 0).val * 64 + (y 1).val; omega
    | ⟨2, _⟩ => show 0 + 1 * q.val = q.val; omega
  · match a with
    | ⟨0, _⟩ => show 0 + 1 * q.val = q.val; omega
    | ⟨1, _⟩ => show o + 1 * (x 2).val = (y 2).val; omega
  · match a with
    | ⟨0, _⟩ => rfl
    | ⟨1, _⟩ => show 0 + 1 * (x 2).val = (y 2).val % 512; omega

/-- A block of the result, from the blocks read. -/
theorem out5_apply (x0 : Vec Ideal S256x4096 .bf16) (x1 : Vec Ideal S8x128x256 .bf16) (x2 x3 : Vec Ideal S2x64x4096 .bf16) (x4 : Vec Ideal S1x512 .f32) (y : S2x64x4096.Idx) : out0_5 x0 x1 x2 x3 x4 y = slab x0 x1 x2 x3 x4 y := by
  canon_tiles x h
  · exact second_piece 7 3584 (by decide) (by decide) (by decide) x0 x1 x2 x3 x4 y x (by decide) (by omega) (by omega) (by omega)
  · exact first_piece 7 3584 (by decide) (by decide) (by decide) x0 x1 x2 x3 x4 y x (by decide) (by omega) (by omega) (by omega)
  · exact second_piece 6 3072 (by decide) (by decide) (by decide) x0 x1 x2 x3 x4 y x (by decide) (by omega) (by omega) (by omega)
  · exact first_piece 6 3072 (by decide) (by decide) (by decide) x0 x1 x2 x3 x4 y x (by decide) (by omega) (by omega) (by omega)
  · exact second_piece 5 2560 (by decide) (by decide) (by decide) x0 x1 x2 x3 x4 y x (by decide) (by omega) (by omega) (by omega)
  · exact first_piece 5 2560 (by decide) (by decide) (by decide) x0 x1 x2 x3 x4 y x (by decide) (by omega) (by omega) (by omega)
  · exact second_piece 4 2048 (by decide) (by decide) (by decide) x0 x1 x2 x3 x4 y x (by decide) (by omega) (by omega) (by omega)
  · exact first_piece 4 2048 (by decide) (by decide) (by decide) x0 x1 x2 x3 x4 y x (by decide) (by omega) (by omega) (by omega)
  · exact second_piece 3 1536 (by decide) (by decide) (by decide) x0 x1 x2 x3 x4 y x (by decide) (by omega) (by omega) (by omega)
  · exact first_piece 3 1536 (by decide) (by decide) (by decide) x0 x1 x2 x3 x4 y x (by decide) (by omega) (by omega) (by omega)
  · exact second_piece 2 1024 (by decide) (by decide) (by decide) x0 x1 x2 x3 x4 y x (by decide) (by omega) (by omega) (by omega)
  · exact first_piece 2 1024 (by decide) (by decide) (by decide) x0 x1 x2 x3 x4 y x (by decide) (by omega) (by omega) (by omega)
  · exact second_piece 1 512 (by decide) (by decide) (by decide) x0 x1 x2 x3 x4 y x (by decide) (by omega) (by omega) (by omega)
  · exact first_piece 1 512 (by decide) (by decide) (by decide) x0 x1 x2 x3 x4 y x (by decide) (by omega) (by omega) (by omega)
  · exact second_piece 0 0 (by decide) (by decide) (by decide) x0 x1 x2 x3 x4 y x (by decide) (by omega) (by omega) (by omega)
  · exact first_piece 0 0 (by decide) (by decide) (by decide) x0 x1 x2 x3 x4 y x (by decide) (by omega) (by omega) (by omega)

/-! ## The array -/

variable (m : (ℓ : Loc nD τ sig) → Buf (Elt Ideal) ℓ)

/-- Where window 0's block lies at a point. -/
theorem idx0 : ∀ t : Fin grid0.N, win0_0.index t 0 = 0 ∧ win0_0.index t 1 = t.val := by decide +kernel
/-- Where window 1's block lies at a point. -/
theorem idx1 : ∀ t : Fin grid0.N, win0_1.index t 0 = t.val ∧ win0_1.index t 1 = 0 ∧ win0_1.index t 2 = 0 := by decide +kernel
/-- Where window 2's block lies at a point. -/
theorem idx2 : ∀ t : Fin grid0.N, win0_2.index t 0 = 0 ∧ win0_2.index t 1 = 0 ∧ win0_2.index t 2 = t.val := by decide +kernel
/-- Where window 3's block lies at a point. -/
theorem idx3 : ∀ t : Fin grid0.N, win0_3.index t 0 = 0 ∧ win0_3.index t 1 = 0 ∧ win0_3.index t 2 = t.val := by decide +kernel
/-- Where window 4's block lies at a point. -/
theorem idx4 : ∀ t : Fin grid0.N, win0_4.index t 0 = 0 ∧ win0_4.index t 1 = 0 := by decide +kernel
/-- Where window 5's block lies at a point. -/
theorem idx5 : ∀ t : Fin grid0.N, win0_5.index t 0 = 0 ∧ win0_5.index t 1 = 0 ∧ win0_5.index t 2 = t.val := by decide +kernel

/-- A point reads 4096 lanes of the stage before. -/
theorem iblk0 (c : Dev nD) (t : Fin cfg0.N) (r : Fin 256) (k : Fin 4096) (n : Fin 65536) (hn : t.val * 4096 + k.val = n.val) :
    (iblk m c 0 t : Vec Ideal S256x4096 .bf16) (ix2 r k) = (m ((c : Thread nD τ).loc main_arg0) : FVec Ideal S256x65536 .bf16) (ix2 r n) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = r.val; rw [hi.1, Nat.zero_mul, Nat.zero_add, Nat.one_mul]
  | ⟨1, _⟩ => show win0_0.index t 1 * 4096 + 1 * k.val = n.val; rw [hi.2, Nat.one_mul]; exact hn

/-- A point reads eight matrices. -/
theorem iblk1 (c : Dev nD) (t : Fin cfg0.N) (j : Fin 8) (a : Fin 128) (b : Fin 256) (n : Fin 128) (a' : Fin 128) (hn : t.val * 8 + j.val = n.val) (ha : a.val = a'.val) :
    (iblk m c 1 t : Vec Ideal S8x128x256 .bf16) (ix3 j a b) = (m ((c : Thread nD τ).loc main_arg1) : FVec Ideal S128x128x256 .bf16) (ix3 n a' b) := by
  have hi := idx1 t
  unfold iblk
  rw [View.read_apply]
  show V m c main_arg1 _ = m (c.tc.loc main_arg1) _
  rw [V_main_arg1]
  congr 1
  funext d
  apply Fin.ext
  match d with
  | ⟨0, _⟩ => show win0_1.index t 0 * 8 + 1 * j.val = n.val; rw [hi.1, Nat.one_mul]; exact hn
  | ⟨1, _⟩ => show win0_1.index t 1 * 128 + 1 * a.val = a'.val; rw [hi.2.1, Nat.zero_mul, Nat.zero_add, Nat.one_mul]; exact ha
  | ⟨2, _⟩ => show win0_1.index t 2 * 256 + 1 * b.val = b.val; rw [hi.2.2, Nat.zero_mul, Nat.zero_add, Nat.one_mul]

/-- A point reads 4096 lanes of operand 2. -/
theorem iblk2 (c : Dev nD) (t : Fin cfg0.N) (y : S2x64x4096.Idx) (p : S2x64x65536.Idx) (h0 : (y 0).val = (p 0).val) (h1 : (y 1).val = (p 1).val)
    (h2 : t.val * 4096 + (y 2).val = (p 2).val) :
    (iblk m c 2 t : Vec Ideal S2x64x4096 .bf16) y = (m ((c : Thread nD τ).loc main_arg2) : FVec Ideal S2x64x65536 .bf16) p := by
  have hi := idx2 t
  unfold iblk
  rw [View.read_apply]
  show V m c main_arg2 _ = m (c.tc.loc main_arg2) _
  rw [V_main_arg2]
  congr 1
  funext a
  apply Fin.ext
  match a with
  | ⟨0, _⟩ => show win0_2.index t 0 * 2 + 1 * (y 0).val = (p 0).val; rw [hi.1, Nat.zero_mul, Nat.zero_add, Nat.one_mul]; exact h0
  | ⟨1, _⟩ => show win0_2.index t 1 * 64 + 1 * (y 1).val = (p 1).val; rw [hi.2.1, Nat.zero_mul, Nat.zero_add, Nat.one_mul]; exact h1
  | ⟨2, _⟩ => show win0_2.index t 2 * 4096 + 1 * (y 2).val = (p 2).val; rw [hi.2.2, Nat.one_mul]; exact h2

/-- A point reads 4096 lanes of operand 3. -/
theorem iblk3 (c : Dev nD) (t : Fin cfg0.N) (y : S2x64x4096.Idx) (p : S2x64x65536.Idx) (h0 : (y 0).val = (p 0).val) (h1 : (y 1).val = (p 1).val)
    (h2 : t.val * 4096 + (y 2).val = (p 2).val) :
    (iblk m c 3 t : Vec Ideal S2x64x4096 .bf16) y = (m ((c : Thread nD τ).loc main_arg3) : FVec Ideal S2x64x65536 .bf16) p := by
  have hi := idx3 t
  unfold iblk
  rw [View.read_apply]
  show V m c main_arg3 _ = m (c.tc.loc main_arg3) _
  rw [V_main_arg3]
  congr 1
  funext a
  apply Fin.ext
  match a with
  | ⟨0, _⟩ => show win0_3.index t 0 * 2 + 1 * (y 0).val = (p 0).val; rw [hi.1, Nat.zero_mul, Nat.zero_add, Nat.one_mul]; exact h0
  | ⟨1, _⟩ => show win0_3.index t 1 * 64 + 1 * (y 1).val = (p 1).val; rw [hi.2.1, Nat.zero_mul, Nat.zero_add, Nat.one_mul]; exact h1
  | ⟨2, _⟩ => show win0_3.index t 2 * 4096 + 1 * (y 2).val = (p 2).val; rw [hi.2.2, Nat.one_mul]; exact h2

/-- Every point reads the residual's whole row. -/
theorem iblk4 (c : Dev nD) (t : Fin cfg0.N) (a : Fin 1) (b b' : Fin 512) (hb : b.val = b'.val) :
    (iblk m c 4 t : Vec Ideal S1x512 .f32) (ix2 a b) = (m ((c : Thread nD τ).loc main_arg4) : FVec Ideal S1x512 .f32) (ix2 a b') := by
  have hi := idx4 t
  unfold iblk
  rw [View.read_apply]
  show V m c main_arg4 _ = m (c.tc.loc main_arg4) _
  rw [V_main_arg4]
  congr 1
  funext d
  apply Fin.ext
  match d with
  | ⟨0, _⟩ => show win0_4.index t 0 * 1 + 1 * a.val = a.val; rw [hi.1, Nat.zero_mul, Nat.zero_add, Nat.one_mul]
  | ⟨1, _⟩ => show win0_4.index t 1 * 512 + 1 * b.val = b'.val; rw [hi.2, Nat.zero_mul, Nat.zero_add, Nat.one_mul]; exact hb

/-- An element of the result from the arrays it is made of. -/
def resultAt (D : Vec Ideal S256x65536 .bf16) (W : Vec Ideal S128x128x256 .bf16) (U X : Vec Ideal S2x64x65536 .bf16) (S : Vec Ideal S1x512 .f32) (p : S2x64x65536.Idx) : EReal :=
  X p * (∑ k : Fin 256, W (ix3 (n0 := 128) (n1 := 128) ⟨(p 2).val / 512, by have h : (p 2).val < 65536 := (p 2).isLt; omega⟩
      ⟨(p 0).val * 64 + (p 1).val, by have h : (p 0).val < 2 := (p 0).isLt; have h' : (p 1).val < 64 := (p 1).isLt; omega⟩ k)
      * D (ix2 (n0 := 256) (n1 := 65536) k (p 2))
    + U p * S (ix2 (n0 := 1) (n1 := 512) 0 ⟨(p 2).val % 512, Nat.mod_lt _ (by decide)⟩))

/-- The array of the results. -/
def products (c : Dev nD) : Buf (Elt Ideal) ((c : Thread nD τ).loc main_v0) := fun p : S2x64x65536.Idx =>
  resultAt (m ((c : Thread nD τ).loc main_arg0)) (m ((c : Thread nD τ).loc main_arg1)) (m ((c : Thread nD τ).loc main_arg2)) (m ((c : Thread nD τ).loc main_arg3)) (m ((c : Thread nD τ).loc main_arg4)) p

/-- An element of a point's block is an element of the array. -/
theorem block_at (c : Dev nD) (t : Fin cfg0.N) (y : S2x64x4096.Idx) (p : S2x64x65536.Idx) (h0 : y 0 = p 0) (h1 : y 1 = p 1)
    (h2 : t.val * 4096 + (y 2).val = (p 2).val) :
    out0_5 (iblk m c 0 t) (iblk m c 1 t) (iblk m c 2 t) (iblk m c 3 t) (iblk m c 4 t) y = products m c p := by
  refine (out5_apply _ _ _ _ _ y).trans ?_
  show slab _ _ _ _ _ y = resultAt _ _ _ _ _ p
  unfold slab resultAt
  have e0 : (y 0).val = (p 0).val := congrArg Fin.val h0
  have e1 : (y 1).val = (p 1).val := congrArg Fin.val h1
  refine congrArg₂ (fun a b : EReal => a * b) (iblk3 m c t y p e0 e1 h2) (congrArg₂ (fun a b : EReal => a + b) (Finset.sum_congr rfl fun q _ => congrArg₂ (fun a b : EReal => a * b) (iblk1 m c t _ _ q _ _ ?_ ?_) (iblk0 m c t q _ _ h2)) (congrArg₂ (fun a b : EReal => a * b) (iblk2 m c t y p e0 e1 h2) (iblk4 m c t 0 _ _ ?_)))
  · show t.val * 8 + (y 2).val / 512 = (p 2).val / 512
    omega
  · show (y 0).val * 64 + (y 1).val = (p 0).val * 64 + (p 1).val
    omega
  · show (y 2).val % 512 = (p 2).val % 512
    omega

/-- Every point writes its block of the array. -/
theorem flushed_5 (c : Dev nD) (t : Fin cfg0.N) (hf : (cfg0.win 5).flush t = true) :
    (dats m 0 c).flushed 5 t = ((cfg0.win 5).blk t).view.read (Elt Ideal) (products m c) := by
  rw [Value.flushed5]
  funext j
  rw [View.read_apply]
  have hi := idx5 t
  refine block_at m c t j _ (Fin.ext ?_) (Fin.ext ?_) ?_
  · show (j 0).val = win0_5.index t 0 * 2 + 1 * (j 0).val
    rw [hi.1, Nat.zero_mul, Nat.zero_add, Nat.one_mul]
  · show (j 1).val = win0_5.index t 1 * 64 + 1 * (j 1).val
    rw [hi.2.1, Nat.zero_mul, Nat.zero_add, Nat.one_mul]
  · show t.val * 4096 + (j 2).val = win0_5.index t 2 * 4096 + 1 * (j 2).val
    rw [hi.2.2, Nat.one_mul]

/-- The point whose block holds a lane. -/
abbrev pointOf (r : Fin 65536) : Fin cfg0.N := ⟨r.val / 4096, by have := r.isLt; show r.val / 4096 < 16; omega⟩

/-- The array after the run. -/
theorem final_5 (c : Dev nD) : (dats m 0 c).arrAt 5 cfg0.N = products m c :=
  (dats m 0 c).arrAt_eq_of_cover 5 (products m c) (flushed_5 m c) fun i =>
    ⟨pointOf (i 2), flush0_5 _, by
      show i ∈ ((View.whole main_v0).slice (win0_5.rect (pointOf (i 2)))).set
      rw [View.set_slice_whole, Rect.mem_set_unit]
      intro a
      have hi := idx5 (pointOf (i 2))
      have h0 : (i 0 : Nat) < 2 := (i 0).isLt
      have h1 : (i 1 : Nat) < 64 := (i 1).isLt
      have h2 : (i 2 : Nat) < 65536 := (i 2).isLt
      match a with
      | ⟨0, _⟩ =>
        show win0_5.index _ 0 * 2 ≤ (i 0 : Nat) ∧ (i 0 : Nat) < win0_5.index _ 0 * 2 + 2
        rw [hi.1]; omega
      | ⟨1, _⟩ =>
        show win0_5.index _ 1 * 64 ≤ (i 1 : Nat) ∧ (i 1 : Nat) < win0_5.index _ 1 * 64 + 64
        rw [hi.2.1]; omega
      | ⟨2, _⟩ =>
        show win0_5.index _ 2 * 4096 ≤ (i 2 : Nat) ∧ (i 2 : Nat) < win0_5.index _ 2 * 4096 + 4096
        rw [hi.2.2]; dsimp only; omega⟩

end Cert.BackIdeal.Stage

end
-- ==== Proof.BackRefVal.lean ====
/- The reference's last stage of the inverse transform, its residual and its gate, element by element. -/
module

public import proofs.«01_k».proof.Proof.Gen.BackRefIdeal.Read
public import Idealize.ShloMosaic.Lib.Pointwise

@[expose] public section

set_option maxRecDepth 16384

noncomputable section

namespace Cert.BackRefIdeal.Stage

open Cert.BackRefIdeal Cert.BackRefIdeal.Gen Cert.BackRefIdeal.Read Idealize.ShloMosaic Idealize.ShloMosaic.TcCoe
open scoped BigOperators

variable (D : FVec Ideal S256x65536 .bf16) (W : FVec Ideal S128x128x256 .bf16) (U X : FVec Ideal S2x64x65536 .bf16) (S : FVec Ideal S1x512 .f32)

/-- An element of the stage's product. -/
theorem stage_apply (b : Fin 2) (r : Fin 64) (j : Fin 128) (c : Fin 512) :
    val_main_v7 (F := Ideal) D W (ix4 b r j c)
      = ∑ k : Fin 256, W (ix3 (n0 := 128) (n1 := 128) j ⟨b.val * 64 + r.val, by omega⟩ k) * D (ix2 (n0 := 256) (n1 := 65536) k ⟨j.val * 512 + c.val, by omega⟩) := by
  have hb := b.isLt
  have hr := r.isLt
  have hj := j.isLt
  have hc := c.isLt
  rw [val_main_v7_apply, val_main_v6_apply, val_main_v5_apply]
  refine Finset.sum_congr rfl fun k _ => ?_
  have hk := k.isLt
  rw [val_main_v4_apply, val_main_v0_apply, val_main_v1_apply]
  have e1 : (((b.val * 64 + r.val) * 128 + j.val) * 512 + c.val) / 65536 = b.val * 64 + r.val := by omega
  have e2 : (((b.val * 64 + r.val) * 128 + j.val) * 512 + c.val) / 512 % 128 = j.val := by omega
  have e3 : (((b.val * 64 + r.val) * 128 + j.val) * 512 + c.val) % 512 = c.val := by omega
  refine (mul_comm _ _).trans (congrArg₂ (· * ·) (congrArg W (funext fun a => Fin.ext ?_)) (congrArg D (funext fun a => Fin.ext ?_)))
  · match a with
    | ⟨0, _⟩ => exact e2
    | ⟨1, _⟩ => exact e1
    | ⟨2, _⟩ => rfl
  · match a with
    | ⟨0, _⟩ =>
      show ((k.val * 128 + (((b.val * 64 + r.val) * 128 + j.val) * 512 + c.val) / 512 % 128) * 512 + (((b.val * 64 + r.val) * 128 + j.val) * 512 + c.val) % 512) / 65536
        = k.val
      rw [e2, e3]
      omega
    | ⟨1, _⟩ =>
      show ((k.val * 128 + (((b.val * 64 + r.val) * 128 + j.val) * 512 + c.val) / 512 % 128) * 512 + (((b.val * 64 + r.val) * 128 + j.val) * 512 + c.val) % 512) % 65536
        = j.val * 512 + c.val
      rw [e2, e3]
      omega

/-- An element of the residual. -/
theorem residual_apply (b : Fin 2) (r : Fin 64) (j : Fin 128) (c : Fin 512) :
    val_main_v11 (F := Ideal) U S (ix4 b r j c)
      = (U (ix3 (n0 := 2) (n1 := 64) (n2 := 65536) b r ⟨j.val * 512 + c.val, by omega⟩) * S (ix2 (n0 := 1) (n1 := 512) 0 c) : EReal) := by
  have hb := b.isLt
  have hr := r.isLt
  have hj := j.isLt
  have hc := c.isLt
  rw [val_main_v11_apply, val_main_v8_apply, val_main_v10_apply, val_main_v9_apply, val_main_v2_apply]
  refine congrArg₂ (fun a b : EReal => a * b) (congrArg U (funext fun a => Fin.ext ?_)) (congrArg S (funext fun a => Fin.ext ?_))
  · match a with
    | ⟨0, _⟩ => show (((b.val * 64 + r.val) * 128 + j.val) * 512 + c.val) / 4194304 = b.val; omega
    | ⟨1, _⟩ => show (((b.val * 64 + r.val) * 128 + j.val) * 512 + c.val) / 65536 % 64 = r.val; omega
    | ⟨2, _⟩ => show (((b.val * 64 + r.val) * 128 + j.val) * 512 + c.val) % 65536 = j.val * 512 + c.val; omega
  · match a with
    | ⟨0, _⟩ => rfl
    | ⟨1, _⟩ => rfl

/-- An element of the reference's result. -/
theorem products_apply (p : S2x64x65536.Idx) :
    val_main_v15 (F := Ideal) D W U X S p
      = (X p * (∑ k : Fin 256, W (ix3 (n0 := 128) (n1 := 128) ⟨(p 2).val / 512, by have h : (p 2).val < 65536 := (p 2).isLt; omega⟩
            ⟨(p 0).val * 64 + (p 1).val, by have h : (p 0).val < 2 := (p 0).isLt; have h' : (p 1).val < 64 := (p 1).isLt; omega⟩ k)
            * D (ix2 (n0 := 256) (n1 := 65536) k (p 2))
          + U p * S (ix2 (n0 := 1) (n1 := 512) 0 ⟨(p 2).val % 512, Nat.mod_lt _ (by decide)⟩)) : EReal) := by
  have h0 : (p 0).val < 2 := (p 0).isLt
  have h1 : (p 1).val < 64 := (p 1).isLt
  have h2 : (p 2).val < 65536 := (p 2).isLt
  have hi : idx_main_v13 p = (ix4 (p 0) (p 1) (⟨(p 2).val / 512, by omega⟩ : Fin 128) (⟨(p 2).val % 512, by omega⟩ : Fin 512) : S2x64x128x512.Idx) := by
    funext a
    refine Fin.ext ?_
    match a with
    | ⟨0, _⟩ => show (((p 0).val * 64 + (p 1).val) * 65536 + (p 2).val) / 4194304 = (p 0).val; omega
    | ⟨1, _⟩ => show (((p 0).val * 64 + (p 1).val) * 65536 + (p 2).val) / 65536 % 64 = (p 1).val; omega
    | ⟨2, _⟩ => show (((p 0).val * 64 + (p 1).val) * 65536 + (p 2).val) / 512 % 128 = (p 2).val / 512; omega
    | ⟨3, _⟩ => show (((p 0).val * 64 + (p 1).val) * 65536 + (p 2).val) % 512 = (p 2).val % 512; omega
  have hz : (⟨(p 2).val / 512 * 512 + (p 2).val % 512, by omega⟩ : Fin 65536) = p 2 := Fin.ext (by show (p 2).val / 512 * 512 + (p 2).val % 512 = (p 2).val; omega)
  rw [val_main_v15_apply, val_main_v14_apply, val_main_v3_apply, val_main_v13_apply, val_main_v12_apply]
  refine congrArg₂ (fun a b : EReal => a * b) rfl (congrArg₂ (fun a b : EReal => a + b) ?_ ?_)
  · refine (congrArg (val_main_v7 (F := Ideal) D W) hi).trans ((stage_apply D W (p 0) (p 1) _ _).trans (Finset.sum_congr rfl fun k _ => ?_))
    exact congrArg₂ (fun a b : EReal => a * b) rfl (congrArg (fun z : Fin 65536 => D (ix2 (n0 := 256) (n1 := 65536) k z)) hz)
  · refine (congrArg (val_main_v11 (F := Ideal) U S) hi).trans ((residual_apply U S (p 0) (p 1) _ _).trans ?_)
    exact congrArg₂ (fun a b : EReal => a * b)
      ((congrArg (fun z : Fin 65536 => U (ix3 (n0 := 2) (n1 := 64) (n2 := 65536) (p 0) (p 1) z)) hz).trans (congrArg U (eq_ix3 p).symm)) rfl

end Cert.BackRefIdeal.Stage

end
-- ==== Proof.GatedVal.lean ====
/- The last stage of the inverse transform, its residual and its gates as the kernel leaves them, element by element. -/
module

public import proofs.«01_k».proof.Proof.Gen.GatedIdeal.Value
public import proofs.«01_k».proof.Proof.Gen.GatedIdeal.Frame
public import proofs.«01_k».proof.Proof.Mix
public import Idealize.ShloMosaic.Lib.WritesUnit
public import Idealize.ShloMosaic.Lib.Pipeline.ValueKit.Basic
public import Idealize.ShloMosaic.Lib.Pipeline.ValueKit.Tiles
public import Idealize.ShloMosaic.Lib.Pointwise

@[expose] public section

set_option maxRecDepth 16384

noncomputable section

namespace Cert.GatedIdeal.Stage

open Cert.GatedIdeal Cert.GatedIdeal.Gen Cert.Layer Idealize.ShloMosaic Idealize.ShloMosaic.TcCoe Idealize.SL.Sem
open scoped BigOperators

/-- A column's first batch: its rows of the product, the residual and the gate. -/
theorem first_apply (s : Vec Ideal S1x512 .f32) (w : Vec Ideal S1x128x256 .bf16) (d : Vec Ideal S256x512 .bf16) (u xg : Vec Ideal S1x64x512 .bf16) (vg : Vec Ideal S1x64x512 .bf16)
    (z : Fin 1) (r : Fin 64) (c : Fin 512) :
    k0_pay3 s w d u xg vg (ix3 z r c) = xg (ix3 0 r c) * (∑ k, w (ix3 0 ⟨r.val, by omega⟩ k) * d (ix2 k c) + u (ix3 0 r c) * s (ix2 0 c)) * gate (vg (ix3 0 r c)) := by
  obtain rfl : z = 0 := Subsingleton.elim _ _
  unfold gate
  pointwise [k0_pay3, k0_pay2]

/-- A column's second batch: its rows of the product, the residual and the gate. -/
theorem second_apply (s : Vec Ideal S1x512 .f32) (w : Vec Ideal S1x128x256 .bf16) (d : Vec Ideal S256x512 .bf16) (u xg : Vec Ideal S1x64x512 .bf16) (vg : Vec Ideal S1x64x512 .bf16)
    (z : Fin 1) (r : Fin 64) (c : Fin 512) :
    k0_pay6 s (k0_pay4 w d) (k0_pay5 u) xg vg (ix3 z r c) = xg (ix3 0 r c) * (∑ k, w (ix3 0 ⟨64 + r.val, by omega⟩ k) * d (ix2 k c) + u (ix3 0 r c) * s (ix2 0 c)) * gate (vg (ix3 0 r c)) := by
  obtain rfl : z = 0 := Subsingleton.elim _ _
  unfold gate
  pointwise [k0_pay6, k0_pay5, k0_pay4, k0_pay2]

/-- An element of a block of eight columns and two batches. -/
def slab (x0 : Vec Ideal S256x4096 .bf16) (x1 : Vec Ideal S8x128x256 .bf16) (x2 x3 : Vec Ideal S2x64x4096 .bf16) (x4 : Vec Ideal S1x512 .f32) (x5 : Vec Ideal S2x64x4096 .bf16) (y : S2x64x4096.Idx) : EReal :=
  x3 y * (∑ k : Fin 256, x1 (ix3 (n0 := 8) (n1 := 128) ⟨(y 2).val / 512, by have h : (y 2).val < 4096 := (y 2).isLt; omega⟩
      ⟨(y 0).val * 64 + (y 1).val, by have h : (y 0).val < 2 := (y 0).isLt; have h' : (y 1).val < 64 := (y 1).isLt; omega⟩ k)
      * x0 (ix2 (n0 := 256) (n1 := 4096) k (y 2))
    + x2 y * x4 (ix2 (n0 := 1) (n1 := 512) 0 ⟨(y 2).val % 512, Nat.mod_lt _ (by decide)⟩)) * gate (x5 y)

/-- An element of a column's piece of batch 0. -/
theorem first_piece (j o : ℕ) (inj : ∀ b, ![j, 0, 0] b + S1x128x256.size b ≤ S8x128x256.size b) (ino : ∀ b, ![0, o] b + S256x512.size b ≤ S256x4096.size b)
    (inc : ∀ b, ![0, 0, o] b + S1x64x512.size b ≤ S2x64x4096.size b) (x0 : Vec Ideal S256x4096 .bf16) (x1 : Vec Ideal S8x128x256 .bf16) (x2 x3 : Vec Ideal S2x64x4096 .bf16) (x4 : Vec Ideal S1x512 .f32) (x5 : Vec Ideal S2x64x4096 .bf16)
    (y : S2x64x4096.Idx) (x : S1x64x512.Idx) (ho : o = 512 * j) (h0 : (y 0).val = (x 0).val) (h1 : (y 1).val = (x 1).val) (h2 : (y 2).val = o + (x 2).val) :
    k0_pay3 (View.ld x4 r0_0) (View.ld x1 (Rect.unit (s := S8x128x256) ![j, 0, 0] S1x128x256.size inj)) (View.ld x0 (Rect.unit (s := S256x4096) ![0, o] S256x512.size ino))
      (View.ld x2 (Rect.unit (s := S2x64x4096) ![0, 0, o] S1x64x512.size inc)) (View.ld x3 (Rect.unit (s := S2x64x4096) ![0, 0, o] S1x64x512.size inc)) (View.ld x5 (Rect.unit (s := S2x64x4096) ![0, 0, o] S1x64x512.size inc)) x = slab x0 x1 x2 x3 x4 x5 y := by
  have hx0 : (x 0).val < 1 := (x 0).isLt
  have hx2 : (x 2).val < 512 := (x 2).isLt
  have hl : ∀ v : Vec Ideal S2x64x4096 .bf16, (View.ld v (Rect.unit (s := S2x64x4096) ![0, 0, o] S1x64x512.size inc) : Vec Ideal S1x64x512 .bf16)
      (ix3 (n0 := 1) (n1 := 64) (n2 := 512) 0 (x 1) (x 2)) = v y := by
    intro v
    refine congrArg v (funext fun a => Fin.ext ?_)
    match a with
    | ⟨0, _⟩ => show 0 + 1 * 0 = (y 0).val; omega
    | ⟨1, _⟩ => show 0 + 1 * (x 1).val = (y 1).val; omega
    | ⟨2, _⟩ => show o + 1 * (x 2).val = (y 2).val; omega
  refine (congrArg _ (eq_ix3 x)).trans ((first_apply _ _ _ _ _ _ (x 0) (x 1) (x 2)).trans ?_)
  unfold slab
  refine congrArg₂ (fun a b : EReal => a * b) (congrArg₂ (fun a b : EReal => a * b) (hl x3) (congrArg₂ (fun a b : EReal => a + b) (Finset.sum_congr rfl fun q _ => congrArg₂ (fun a b : EReal => a * b) (congrArg x1 (funext fun a => Fin.ext ?_)) (congrArg x0 (funext fun a => Fin.ext ?_))) (congrArg₂ (fun a b : EReal => a * b) (hl x2) (congrArg x4 (funext fun a => Fin.ext ?_))))) (congrArg gate (hl x5))
  · match a with
    | ⟨0, _⟩ => show j + 1 * 0 = (y 2).val / 512; omega
    | ⟨1, _⟩ => show 0 + 1 * (x 1).val = (y 0).val * 64 + (y 1).val; omega
    | ⟨2, _⟩ => show 0 + 1 * q.val = q.val; omega
  · match a with
    | ⟨0, _⟩ => show 0 + 1 * q.val = q.val; omega
    | ⟨1, _⟩ => show o + 1 * (x 2).val = (y 2).val; omega
  · match a with
    | ⟨0, _⟩ => rfl
    | ⟨1, _⟩ => show 0 + 1 * (x 2).val = (y 2).val % 512; omega

/-- An element of a column's piece of batch 1. -/
theorem second_piece (j o : ℕ) (inj : ∀ b, ![j, 0, 0] b + S1x128x256.size b ≤ S8x128x256.size b) (ino : ∀ b, ![0, o] b + S256x512.size b ≤ S256x4096.size b)
    (inc : ∀ b, ![1, 0, o] b + S1x64x512.size b ≤ S2x64x4096.size b) (x0 : Vec Ideal S256x4096 .bf16) (x1 : Vec Ideal S8x128x256 .bf16) (x2 x3 : Vec Ideal S2x64x4096 .bf16) (x4 : Vec Ideal S1x512 .f32) (x5 : Vec Ideal S2x64x4096 .bf16)
    (y : S2x64x4096.Idx) (x : S1x64x512.Idx) (ho : o = 512 * j) (h0 : (y 0).val = 1 + (x 0).val) (h1 : (y 1).val = (x 1).val) (h2 : (y 2).val = o + (x 2).val) :
    k0_pay6 (View.ld x4 r0_0) (k0_pay4 (View.ld x1 (Rect.unit (s := S8x128x256) ![j, 0, 0] S1x128x256.size inj)) (View.ld x0 (Rect.unit (s := S256x4096) ![0, o] S256x512.size ino)))
      (k0_pay5 (View.ld x2 (Rect.unit (s := S2x64x4096) ![1, 0, o] S1x64x512.size inc))) (View.ld x3 (Rect.unit (s := S2x64x4096) ![1, 0, o] S1x64x512.size inc)) (View.ld x5 (Rect.unit (s := S2x64x4096) ![1, 0, o] S1x64x512.size inc)) x = slab x0 x1 x2 x3 x4 x5 y := by
  have hx0 : (x 0).val < 1 := (x 0).isLt
  have hx2 : (x 2).val < 512 := (x 2).isLt
  have hl : ∀ v : Vec Ideal S2x64x4096 .bf16, (View.ld v (Rect.unit (s := S2x64x4096) ![1, 0, o] S1x64x512.size inc) : Vec Ideal S1x64x512 .bf16)
      (ix3 (n0 := 1) (n1 := 64) (n2 := 512) 0 (x 1) (x 2)) = v y := by
    intro v
    refine congrArg v (funext fun a => Fin.ext ?_)
    match a with
    | ⟨0, _⟩ => show 1 + 1 * 0 = (y 0).val; omega
    | ⟨1, _⟩ => show 0 + 1 * (x 1).val = (y 1).val; omega
    | ⟨2, _⟩ => show o + 1 * (x 2).val = (y 2).val; omega
  refine (congrArg _ (eq_ix3 x)).trans ((second_apply _ _ _ _ _ _ (x 0) (x 1) (x 2)).trans ?_)
  unfold slab
  refine congrArg₂ (fun a b : EReal => a * b) (congrArg₂ (fun a b : EReal => a * b) (hl x3) (congrArg₂ (fun a b : EReal => a + b) (Finset.sum_congr rfl fun q _ => congrArg₂ (fun a b : EReal => a * b) (congrArg x1 (funext fun a => Fin.ext ?_)) (congrArg x0 (funext fun a => Fin.ext ?_))) (congrArg₂ (fun a b : EReal => a * b) (hl x2) (congrArg x4 (funext fun a => Fin.ext ?_))))) (congrArg gate (hl x5))
  · match a with
    | ⟨0, _⟩ => show j + 1 * 0 = (y 2).val / 512; omega
    | ⟨1, _⟩ => show 0 + 1 * (64 + (x 1).val) = (y 0).val * 64 + (y 1).val; omega
    | ⟨2, _⟩ => show 0 + 1 * q.val = q.val; omega
  · match a with
    | ⟨0, _⟩ => show 0 + 1 * q.val = q.val; omega
    | ⟨1, _⟩ => show o + 1 * (x 2).val = (y 2).val; omega
  · match a with
    | ⟨0, _⟩ => rfl
    | ⟨1, _⟩ => show 0 + 1 * (x 2).val = (y 2).val % 512; omega

/-- A block of the result, from the blocks read. -/
theorem out6_apply (x0 : Vec Ideal S256x4096 .bf16) (x1 : Vec Ideal S8x128x256 .bf16) (x2 x3 : Vec Ideal S2x64x4096 .bf16) (x4 : Vec Ideal S1x512 .f32) (x5 : Vec Ideal S2x64x4096 .bf16) (y : S2x64x4096.Idx) : out0_6 x0 x1 x2 x3 x4 x5 y = slab x0 x1 x2 x3 x4 x5 y := by
  canon_tiles x h
  · exact second_piece 7 3584 (by decide) (by decide) (by decide) x0 x1 x2 x3 x4 x5 y x (by decide) (by omega) (by omega) (by omega)
  · exact first_piece 7 3584 (by decide) (by decide) (by decide) x0 x1 x2 x3 x4 x5 y x (by decide) (by omega) (by omega) (by omega)
  · exact second_piece 6 3072 (by decide) (by decide) (by decide) x0 x1 x2 x3 x4 x5 y x (by decide) (by omega) (by omega) (by omega)
  · exact first_piece 6 3072 (by decide) (by decide) (by decide) x0 x1 x2 x3 x4 x5 y x (by decide) (by omega) (by omega) (by omega)
  · exact second_piece 5 2560 (by decide) (by decide) (by decide) x0 x1 x2 x3 x4 x5 y x (by decide) (by omega) (by omega) (by omega)
  · exact first_piece 5 2560 (by decide) (by decide) (by decide) x0 x1 x2 x3 x4 x5 y x (by decide) (by omega) (by omega) (by omega)
  · exact second_piece 4 2048 (by decide) (by decide) (by decide) x0 x1 x2 x3 x4 x5 y x (by decide) (by omega) (by omega) (by omega)
  · exact first_piece 4 2048 (by decide) (by decide) (by decide) x0 x1 x2 x3 x4 x5 y x (by decide) (by omega) (by omega) (by omega)
  · exact second_piece 3 1536 (by decide) (by decide) (by decide) x0 x1 x2 x3 x4 x5 y x (by decide) (by omega) (by omega) (by omega)
  · exact first_piece 3 1536 (by decide) (by decide) (by decide) x0 x1 x2 x3 x4 x5 y x (by decide) (by omega) (by omega) (by omega)
  · exact second_piece 2 1024 (by decide) (by decide) (by decide) x0 x1 x2 x3 x4 x5 y x (by decide) (by omega) (by omega) (by omega)
  · exact first_piece 2 1024 (by decide) (by decide) (by decide) x0 x1 x2 x3 x4 x5 y x (by decide) (by omega) (by omega) (by omega)
  · exact second_piece 1 512 (by decide) (by decide) (by decide) x0 x1 x2 x3 x4 x5 y x (by decide) (by omega) (by omega) (by omega)
  · exact first_piece 1 512 (by decide) (by decide) (by decide) x0 x1 x2 x3 x4 x5 y x (by decide) (by omega) (by omega) (by omega)
  · exact second_piece 0 0 (by decide) (by decide) (by decide) x0 x1 x2 x3 x4 x5 y x (by decide) (by omega) (by omega) (by omega)
  · exact first_piece 0 0 (by decide) (by decide) (by decide) x0 x1 x2 x3 x4 x5 y x (by decide) (by omega) (by omega) (by omega)

/-! ## The array -/

variable (m : (ℓ : Loc nD τ sig) → Buf (Elt Ideal) ℓ)

/-- Where window 0's block lies at a point. -/
theorem idx0 : ∀ t : Fin grid0.N, win0_0.index t 0 = 0 ∧ win0_0.index t 1 = t.val := by decide +kernel
/-- Where window 1's block lies at a point. -/
theorem idx1 : ∀ t : Fin grid0.N, win0_1.index t 0 = t.val ∧ win0_1.index t 1 = 0 ∧ win0_1.index t 2 = 0 := by decide +kernel
/-- Where window 2's block lies at a point. -/
theorem idx2 : ∀ t : Fin grid0.N, win0_2.index t 0 = 0 ∧ win0_2.index t 1 = 0 ∧ win0_2.index t 2 = t.val := by decide +kernel
/-- Where window 3's block lies at a point. -/
theorem idx3 : ∀ t : Fin grid0.N, win0_3.index t 0 = 0 ∧ win0_3.index t 1 = 0 ∧ win0_3.index t 2 = t.val := by decide +kernel
/-- Where window 4's block lies at a point. -/
theorem idx4 : ∀ t : Fin grid0.N, win0_4.index t 0 = 0 ∧ win0_4.index t 1 = 0 := by decide +kernel
/-- Where window 5's block lies at a point. -/
theorem idx5 : ∀ t : Fin grid0.N, win0_5.index t 0 = 0 ∧ win0_5.index t 1 = 0 ∧ win0_5.index t 2 = t.val := by decide +kernel
/-- Where window 6's block lies at a point. -/
theorem idx6 : ∀ t : Fin grid0.N, win0_6.index t 0 = 0 ∧ win0_6.index t 1 = 0 ∧ win0_6.index t 2 = t.val := by decide +kernel

/-- A point reads 4096 lanes of the stage before. -/
theorem iblk0 (c : Dev nD) (t : Fin cfg0.N) (r : Fin 256) (k : Fin 4096) (n : Fin 65536) (hn : t.val * 4096 + k.val = n.val) :
    (iblk m c 0 t : Vec Ideal S256x4096 .bf16) (ix2 r k) = (m ((c : Thread nD τ).loc main_arg0) : FVec Ideal S256x65536 .bf16) (ix2 r n) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = r.val; rw [hi.1, Nat.zero_mul, Nat.zero_add, Nat.one_mul]
  | ⟨1, _⟩ => show win0_0.index t 1 * 4096 + 1 * k.val = n.val; rw [hi.2, Nat.one_mul]; exact hn

/-- A point reads eight matrices. -/
theorem iblk1 (c : Dev nD) (t : Fin cfg0.N) (j : Fin 8) (a : Fin 128) (b : Fin 256) (n : Fin 128) (a' : Fin 128) (hn : t.val * 8 + j.val = n.val) (ha : a.val = a'.val) :
    (iblk m c 1 t : Vec Ideal S8x128x256 .bf16) (ix3 j a b) = (m ((c : Thread nD τ).loc main_arg1) : FVec Ideal S128x128x256 .bf16) (ix3 n a' b) := by
  have hi := idx1 t
  unfold iblk
  rw [View.read_apply]
  show V m c main_arg1 _ = m (c.tc.loc main_arg1) _
  rw [V_main_arg1]
  congr 1
  funext d
  apply Fin.ext
  match d with
  | ⟨0, _⟩ => show win0_1.index t 0 * 8 + 1 * j.val = n.val; rw [hi.1, Nat.one_mul]; exact hn
  | ⟨1, _⟩ => show win0_1.index t 1 * 128 + 1 * a.val = a'.val; rw [hi.2.1, Nat.zero_mul, Nat.zero_add, Nat.one_mul]; exact ha
  | ⟨2, _⟩ => show win0_1.index t 2 * 256 + 1 * b.val = b.val; rw [hi.2.2, Nat.zero_mul, Nat.zero_add, Nat.one_mul]

/-- A point reads 4096 lanes of operand 2. -/
theorem iblk2 (c : Dev nD) (t : Fin cfg0.N) (y : S2x64x4096.Idx) (p : S2x64x65536.Idx) (h0 : (y 0).val = (p 0).val) (h1 : (y 1).val = (p 1).val)
    (h2 : t.val * 4096 + (y 2).val = (p 2).val) :
    (iblk m c 2 t : Vec Ideal S2x64x4096 .bf16) y = (m ((c : Thread nD τ).loc main_arg2) : FVec Ideal S2x64x65536 .bf16) p := by
  have hi := idx2 t
  unfold iblk
  rw [View.read_apply]
  show V m c main_arg2 _ = m (c.tc.loc main_arg2) _
  rw [V_main_arg2]
  congr 1
  funext a
  apply Fin.ext
  match a with
  | ⟨0, _⟩ => show win0_2.index t 0 * 2 + 1 * (y 0).val = (p 0).val; rw [hi.1, Nat.zero_mul, Nat.zero_add, Nat.one_mul]; exact h0
  | ⟨1, _⟩ => show win0_2.index t 1 * 64 + 1 * (y 1).val = (p 1).val; rw [hi.2.1, Nat.zero_mul, Nat.zero_add, Nat.one_mul]; exact h1
  | ⟨2, _⟩ => show win0_2.index t 2 * 4096 + 1 * (y 2).val = (p 2).val; rw [hi.2.2, Nat.one_mul]; exact h2

/-- A point reads 4096 lanes of operand 3. -/
theorem iblk3 (c : Dev nD) (t : Fin cfg0.N) (y : S2x64x4096.Idx) (p : S2x64x65536.Idx) (h0 : (y 0).val = (p 0).val) (h1 : (y 1).val = (p 1).val)
    (h2 : t.val * 4096 + (y 2).val = (p 2).val) :
    (iblk m c 3 t : Vec Ideal S2x64x4096 .bf16) y = (m ((c : Thread nD τ).loc main_arg3) : FVec Ideal S2x64x65536 .bf16) p := by
  have hi := idx3 t
  unfold iblk
  rw [View.read_apply]
  show V m c main_arg3 _ = m (c.tc.loc main_arg3) _
  rw [V_main_arg3]
  congr 1
  funext a
  apply Fin.ext
  match a with
  | ⟨0, _⟩ => show win0_3.index t 0 * 2 + 1 * (y 0).val = (p 0).val; rw [hi.1, Nat.zero_mul, Nat.zero_add, Nat.one_mul]; exact h0
  | ⟨1, _⟩ => show win0_3.index t 1 * 64 + 1 * (y 1).val = (p 1).val; rw [hi.2.1, Nat.zero_mul, Nat.zero_add, Nat.one_mul]; exact h1
  | ⟨2, _⟩ => show win0_3.index t 2 * 4096 + 1 * (y 2).val = (p 2).val; rw [hi.2.2, Nat.one_mul]; exact h2

/-- A point reads 4096 lanes of operand 5. -/
theorem iblk5 (c : Dev nD) (t : Fin cfg0.N) (y : S2x64x4096.Idx) (p : S2x64x65536.Idx) (h0 : (y 0).val = (p 0).val) (h1 : (y 1).val = (p 1).val)
    (h2 : t.val * 4096 + (y 2).val = (p 2).val) :
    (iblk m c 5 t : Vec Ideal S2x64x4096 .bf16) y = (m ((c : Thread nD τ).loc main_arg5) : FVec Ideal S2x64x65536 .bf16) p := by
  have hi := idx5 t
  unfold iblk
  rw [View.read_apply]
  show V m c main_arg5 _ = m (c.tc.loc main_arg5) _
  rw [V_main_arg5]
  congr 1
  funext a
  apply Fin.ext
  match a with
  | ⟨0, _⟩ => show win0_5.index t 0 * 2 + 1 * (y 0).val = (p 0).val; rw [hi.1, Nat.zero_mul, Nat.zero_add, Nat.one_mul]; exact h0
  | ⟨1, _⟩ => show win0_5.index t 1 * 64 + 1 * (y 1).val = (p 1).val; rw [hi.2.1, Nat.zero_mul, Nat.zero_add, Nat.one_mul]; exact h1
  | ⟨2, _⟩ => show win0_5.index t 2 * 4096 + 1 * (y 2).val = (p 2).val; rw [hi.2.2, Nat.one_mul]; exact h2

/-- Every point reads the residual's whole row. -/
theorem iblk4 (c : Dev nD) (t : Fin cfg0.N) (a : Fin 1) (b b' : Fin 512) (hb : b.val = b'.val) :
    (iblk m c 4 t : Vec Ideal S1x512 .f32) (ix2 a b) = (m ((c : Thread nD τ).loc main_arg4) : FVec Ideal S1x512 .f32) (ix2 a b') := by
  have hi := idx4 t
  unfold iblk
  rw [View.read_apply]
  show V m c main_arg4 _ = m (c.tc.loc main_arg4) _
  rw [V_main_arg4]
  congr 1
  funext d
  apply Fin.ext
  match d with
  | ⟨0, _⟩ => show win0_4.index t 0 * 1 + 1 * a.val = a.val; rw [hi.1, Nat.zero_mul, Nat.zero_add, Nat.one_mul]
  | ⟨1, _⟩ => show win0_4.index t 1 * 512 + 1 * b.val = b'.val; rw [hi.2, Nat.zero_mul, Nat.zero_add, Nat.one_mul]; exact hb

/-- An element of the result from the arrays it is made of. -/
def resultAt (D : Vec Ideal S256x65536 .bf16) (W : Vec Ideal S128x128x256 .bf16) (U X : Vec Ideal S2x64x65536 .bf16) (S : Vec Ideal S1x512 .f32) (G : Vec Ideal S2x64x65536 .bf16) (p : S2x64x65536.Idx) : EReal :=
  X p * (∑ k : Fin 256, W (ix3 (n0 := 128) (n1 := 128) ⟨(p 2).val / 512, by have h : (p 2).val < 65536 := (p 2).isLt; omega⟩
      ⟨(p 0).val * 64 + (p 1).val, by have h : (p 0).val < 2 := (p 0).isLt; have h' : (p 1).val < 64 := (p 1).isLt; omega⟩ k)
      * D (ix2 (n0 := 256) (n1 := 65536) k (p 2))
    + U p * S (ix2 (n0 := 1) (n1 := 512) 0 ⟨(p 2).val % 512, Nat.mod_lt _ (by decide)⟩)) * gate (G p)

/-- The array of the results. -/
def products (c : Dev nD) : Buf (Elt Ideal) ((c : Thread nD τ).loc main_v0) := fun p : S2x64x65536.Idx =>
  resultAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) p

/-- An element of a point's block is an element of the array. -/
theorem block_at (c : Dev nD) (t : Fin cfg0.N) (y : S2x64x4096.Idx) (p : S2x64x65536.Idx) (h0 : y 0 = p 0) (h1 : y 1 = p 1)
    (h2 : t.val * 4096 + (y 2).val = (p 2).val) :
    out0_6 (iblk m c 0 t) (iblk m c 1 t) (iblk m c 2 t) (iblk m c 3 t) (iblk m c 4 t) (iblk m c 5 t) y = products m c p := by
  refine (out6_apply _ _ _ _ _ _ y).trans ?_
  show slab _ _ _ _ _ _ y = resultAt _ _ _ _ _ _ p
  unfold slab resultAt
  have e0 : (y 0).val = (p 0).val := congrArg Fin.val h0
  have e1 : (y 1).val = (p 1).val := congrArg Fin.val h1
  refine congrArg₂ (fun a b : EReal => a * b) (congrArg₂ (fun a b : EReal => a * b) (iblk3 m c t y p e0 e1 h2) (congrArg₂ (fun a b : EReal => a + b) (Finset.sum_congr rfl fun q _ => congrArg₂ (fun a b : EReal => a * b) (iblk1 m c t _ _ q _ _ ?_ ?_) (iblk0 m c t q _ _ h2)) (congrArg₂ (fun a b : EReal => a * b) (iblk2 m c t y p e0 e1 h2) (iblk4 m c t 0 _ _ ?_)))) (congrArg gate (iblk5 m c t y p e0 e1 h2))
  · show t.val * 8 + (y 2).val / 512 = (p 2).val / 512
    omega
  · show (y 0).val * 64 + (y 1).val = (p 0).val * 64 + (p 1).val
    omega
  · show (y 2).val % 512 = (p 2).val % 512
    omega

/-- Every point writes its block of the array. -/
theorem flushed_6 (c : Dev nD) (t : Fin cfg0.N) (hf : (cfg0.win 6).flush t = true) :
    (dats m 0 c).flushed 6 t = ((cfg0.win 6).blk t).view.read (Elt Ideal) (products m c) := by
  rw [Value.flushed6]
  funext j
  rw [View.read_apply]
  have hi := idx6 t
  refine block_at m c t j _ (Fin.ext ?_) (Fin.ext ?_) ?_
  · show (j 0).val = win0_6.index t 0 * 2 + 1 * (j 0).val
    rw [hi.1, Nat.zero_mul, Nat.zero_add, Nat.one_mul]
  · show (j 1).val = win0_6.index t 1 * 64 + 1 * (j 1).val
    rw [hi.2.1, Nat.zero_mul, Nat.zero_add, Nat.one_mul]
  · show t.val * 4096 + (j 2).val = win0_6.index t 2 * 4096 + 1 * (j 2).val
    rw [hi.2.2, Nat.one_mul]

/-- The point whose block holds a lane. -/
abbrev pointOf (r : Fin 65536) : Fin cfg0.N := ⟨r.val / 4096, by have := r.isLt; show r.val / 4096 < 16; omega⟩

/-- The array after the run. -/
theorem final_6 (c : Dev nD) : (dats m 0 c).arrAt 6 cfg0.N = products m c :=
  (dats m 0 c).arrAt_eq_of_cover 6 (products m c) (flushed_6 m c) fun i =>
    ⟨pointOf (i 2), flush0_6 _, by
      show i ∈ ((View.whole main_v0).slice (win0_6.rect (pointOf (i 2)))).set
      rw [View.set_slice_whole, Rect.mem_set_unit]
      intro a
      have hi := idx6 (pointOf (i 2))
      have h0 : (i 0 : Nat) < 2 := (i 0).isLt
      have h1 : (i 1 : Nat) < 64 := (i 1).isLt
      have h2 : (i 2 : Nat) < 65536 := (i 2).isLt
      match a with
      | ⟨0, _⟩ =>
        show win0_6.index _ 0 * 2 ≤ (i 0 : Nat) ∧ (i 0 : Nat) < win0_6.index _ 0 * 2 + 2
        rw [hi.1]; omega
      | ⟨1, _⟩ =>
        show win0_6.index _ 1 * 64 ≤ (i 1 : Nat) ∧ (i 1 : Nat) < win0_6.index _ 1 * 64 + 64
        rw [hi.2.1]; omega
      | ⟨2, _⟩ =>
        show win0_6.index _ 2 * 4096 ≤ (i 2 : Nat) ∧ (i 2 : Nat) < win0_6.index _ 2 * 4096 + 4096
        rw [hi.2.2]; dsimp only; omega⟩

end Cert.GatedIdeal.Stage

end
-- ==== Proof.GatedRefVal.lean ====
/- The reference's last stage of the inverse transform, its residual and its gates, element by element. -/
module

public import proofs.«01_k».proof.Proof.Gen.GatedRefIdeal.Read
public import proofs.«01_k».proof.Proof.Mix
public import Idealize.ShloMosaic.Lib.Pointwise

@[expose] public section

set_option maxRecDepth 16384

noncomputable section

namespace Cert.GatedRefIdeal.Stage

open Cert.GatedRefIdeal Cert.GatedRefIdeal.Gen Cert.GatedRefIdeal.Read Cert.Layer Idealize.ShloMosaic Idealize.ShloMosaic.TcCoe
open scoped BigOperators

variable (D : FVec Ideal S256x65536 .bf16) (W : FVec Ideal S128x128x256 .bf16) (U X : FVec Ideal S2x64x65536 .bf16) (S : FVec Ideal S1x512 .f32) (G : FVec Ideal S2x64x65536 .bf16)

/-- An element of the stage's product. -/
theorem stage_apply (b : Fin 2) (r : Fin 64) (j : Fin 128) (c : Fin 512) :
    val_main_v8 (F := Ideal) D W (ix4 b r j c)
      = ∑ k : Fin 256, W (ix3 (n0 := 128) (n1 := 128) j ⟨b.val * 64 + r.val, by omega⟩ k) * D (ix2 (n0 := 256) (n1 := 65536) k ⟨j.val * 512 + c.val, by omega⟩) := by
  have hb := b.isLt
  have hr := r.isLt
  have hj := j.isLt
  have hc := c.isLt
  rw [val_main_v8_apply, val_main_v7_apply, val_main_v6_apply]
  refine Finset.sum_congr rfl fun k _ => ?_
  have hk := k.isLt
  rw [val_main_v5_apply, val_main_v0_apply, val_main_v1_apply]
  have e1 : (((b.val * 64 + r.val) * 128 + j.val) * 512 + c.val) / 65536 = b.val * 64 + r.val := by omega
  have e2 : (((b.val * 64 + r.val) * 128 + j.val) * 512 + c.val) / 512 % 128 = j.val := by omega
  have e3 : (((b.val * 64 + r.val) * 128 + j.val) * 512 + c.val) % 512 = c.val := by omega
  refine (mul_comm _ _).trans (congrArg₂ (· * ·) (congrArg W (funext fun a => Fin.ext ?_)) (congrArg D (funext fun a => Fin.ext ?_)))
  · match a with
    | ⟨0, _⟩ => exact e2
    | ⟨1, _⟩ => exact e1
    | ⟨2, _⟩ => rfl
  · match a with
    | ⟨0, _⟩ =>
      show ((k.val * 128 + (((b.val * 64 + r.val) * 128 + j.val) * 512 + c.val) / 512 % 128) * 512 + (((b.val * 64 + r.val) * 128 + j.val) * 512 + c.val) % 512) / 65536
        = k.val
      rw [e2, e3]
      omega
    | ⟨1, _⟩ =>
      show ((k.val * 128 + (((b.val * 64 + r.val) * 128 + j.val) * 512 + c.val) / 512 % 128) * 512 + (((b.val * 64 + r.val) * 128 + j.val) * 512 + c.val) % 512) % 65536
        = j.val * 512 + c.val
      rw [e2, e3]
      omega

/-- An element of the residual. -/
theorem residual_apply (b : Fin 2) (r : Fin 64) (j : Fin 128) (c : Fin 512) :
    val_main_v12 (F := Ideal) U S (ix4 b r j c)
      = (U (ix3 (n0 := 2) (n1 := 64) (n2 := 65536) b r ⟨j.val * 512 + c.val, by omega⟩) * S (ix2 (n0 := 1) (n1 := 512) 0 c) : EReal) := by
  have hb := b.isLt
  have hr := r.isLt
  have hj := j.isLt
  have hc := c.isLt
  rw [val_main_v12_apply, val_main_v9_apply, val_main_v11_apply, val_main_v10_apply, val_main_v2_apply]
  refine congrArg₂ (fun a b : EReal => a * b) (congrArg U (funext fun a => Fin.ext ?_)) (congrArg S (funext fun a => Fin.ext ?_))
  · match a with
    | ⟨0, _⟩ => show (((b.val * 64 + r.val) * 128 + j.val) * 512 + c.val) / 4194304 = b.val; omega
    | ⟨1, _⟩ => show (((b.val * 64 + r.val) * 128 + j.val) * 512 + c.val) / 65536 % 64 = r.val; omega
    | ⟨2, _⟩ => show (((b.val * 64 + r.val) * 128 + j.val) * 512 + c.val) % 65536 = j.val * 512 + c.val; omega
  · match a with
    | ⟨0, _⟩ => rfl
    | ⟨1, _⟩ => rfl

/-- The gate. -/
theorem gate_apply (i : S2x64x65536.Idx) : val_main_v16 (F := Ideal) G i = gate (G i) := by
  rw [val_main_v16_apply, val_main_call0_v5_apply, val_main_call0_v4_apply, val_main_call0_cst_0_apply, val_main_call0_v3_apply,
    val_main_call0_v2_apply, val_main_call0_cst_apply, val_main_call0_v1_apply, val_main_call0_v0_apply, val_main_v4_apply, ← gate_eq]
  show (G i : EReal) * Ideal.div (Ideal.ofBits FTy.f32 0x3F800000#32) (Ideal.ofBits FTy.f32 0x3F800000#32 + Ideal.exp (-(G i : EReal))) = _
  rw [Ideal.ofBits_one_f32]

/-- An element of the reference's result. -/
theorem products_apply (p : S2x64x65536.Idx) :
    val_main_v18 (F := Ideal) D W U X S G p
      = (X p * (∑ k : Fin 256, W (ix3 (n0 := 128) (n1 := 128) ⟨(p 2).val / 512, by have h : (p 2).val < 65536 := (p 2).isLt; omega⟩
            ⟨(p 0).val * 64 + (p 1).val, by have h : (p 0).val < 2 := (p 0).isLt; have h' : (p 1).val < 64 := (p 1).isLt; omega⟩ k)
            * D (ix2 (n0 := 256) (n1 := 65536) k (p 2))
          + U p * S (ix2 (n0 := 1) (n1 := 512) 0 ⟨(p 2).val % 512, Nat.mod_lt _ (by decide)⟩)) * gate (G p) : EReal) := by
  have h0 : (p 0).val < 2 := (p 0).isLt
  have h1 : (p 1).val < 64 := (p 1).isLt
  have h2 : (p 2).val < 65536 := (p 2).isLt
  have hi : idx_main_v14 p = (ix4 (p 0) (p 1) (⟨(p 2).val / 512, by omega⟩ : Fin 128) (⟨(p 2).val % 512, by omega⟩ : Fin 512) : S2x64x128x512.Idx) := by
    funext a
    refine Fin.ext ?_
    match a with
    | ⟨0, _⟩ => show (((p 0).val * 64 + (p 1).val) * 65536 + (p 2).val) / 4194304 = (p 0).val; omega
    | ⟨1, _⟩ => show (((p 0).val * 64 + (p 1).val) * 65536 + (p 2).val) / 65536 % 64 = (p 1).val; omega
    | ⟨2, _⟩ => show (((p 0).val * 64 + (p 1).val) * 65536 + (p 2).val) / 512 % 128 = (p 2).val / 512; omega
    | ⟨3, _⟩ => show (((p 0).val * 64 + (p 1).val) * 65536 + (p 2).val) % 512 = (p 2).val % 512; omega
  have hz : (⟨(p 2).val / 512 * 512 + (p 2).val % 512, by omega⟩ : Fin 65536) = p 2 := Fin.ext (by show (p 2).val / 512 * 512 + (p 2).val % 512 = (p 2).val; omega)
  rw [val_main_v18_apply, val_main_v17_apply, gate_apply, val_main_v15_apply, val_main_v3_apply, val_main_v14_apply, val_main_v13_apply]
  refine congrArg₂ (fun a b : EReal => a * b) (congrArg₂ (fun a b : EReal => a * b) rfl (congrArg₂ (fun a b : EReal => a + b) ?_ ?_)) rfl
  · refine (congrArg (val_main_v8 (F := Ideal) D W) hi).trans ((stage_apply D W (p 0) (p 1) _ _).trans (Finset.sum_congr rfl fun k _ => ?_))
    exact congrArg₂ (fun a b : EReal => a * b) rfl (congrArg (fun z : Fin 65536 => D (ix2 (n0 := 256) (n1 := 65536) k z)) hz)
  · refine (congrArg (val_main_v12 (F := Ideal) U S) hi).trans ((residual_apply U S (p 0) (p 1) _ _).trans ?_)
    exact congrArg₂ (fun a b : EReal => a * b)
      ((congrArg (fun z : Fin 65536 => U (ix3 (n0 := 2) (n1 := 64) (n2 := 65536) (p 0) (p 1) z)) hz).trans (congrArg U (eq_ix3 p).symm)) rfl

end Cert.GatedRefIdeal.Stage

end
-- ==== Proof.InnerVal.lean ====
/- The result of the output projection without the final norm as the kernel leaves it, element by element. -/
module

public import proofs.«01_k».proof.Proof.Gen.InnerIdeal.Value
public import proofs.«01_k».proof.Proof.Gen.InnerIdeal.Frame
public import proofs.«01_k».proof.Proof.Mix
public import Idealize.ShloMosaic.Lib.WritesUnit
public import Idealize.ShloMosaic.Lib.Pipeline.ValueKit.Basic
public import Idealize.ShloMosaic.Lib.Pointwise

@[expose] public section

set_option maxRecDepth 16384

noncomputable section

namespace Cert.InnerIdeal.Out

open Cert.InnerIdeal Cert.InnerIdeal.Gen Idealize.ShloMosaic Idealize.ShloMosaic.TcCoe Idealize.SL.Sem
open Cert.Layer
open scoped BigOperators

/-! ## A block -/

/-- The bit pattern of the maximum's start. -/
theorem bot_f32 : Ideal.ofBits FTy.f32 0xFF800000#32 = ⊥ := by
  simp [Ideal.ofBits, Ideal.ieee]

/-- Row `r` and lane `l` of a head: the memory's values under its softmax, gated. -/
def headOf (q : Vec Ideal S512x128 .bf16) (k : Vec Ideal S1x128x256 .bf16) (v : Vec Ideal S1x256x128 .bf16) (g : Vec Ideal S512x128 .bf16) (r : Fin 512)
    (l : Fin 128) : EReal :=
  mix (scores (fun d => q (ix2 r d)) (fun d n => k (ix3 0 d n))) (fun n => v (ix3 0 n l)) * gate (g (ix2 r l))

/-- The first head. -/
theorem head0 (q : Vec Ideal S512x128 .bf16) (k : Vec Ideal S1x128x256 .bf16) (v : Vec Ideal S1x256x128 .bf16) (g : Vec Ideal S512x128 .bf16) (r : Fin 512)
    (l : Fin 128) : k0_pay2 q k v g (ix2 r l) = headOf q k v g r l := by
  pointwise [k0_pay2]
  rw [bot_f32]
  rfl

/-- The second head. -/
theorem head1 (q : Vec Ideal S512x128 .bf16) (k : Vec Ideal S1x128x256 .bf16) (v : Vec Ideal S1x256x128 .bf16) (g : Vec Ideal S512x128 .bf16) (r : Fin 512)
    (l : Fin 128) : k0_pay4 (k0_pay3 q k) v g (ix2 r l) = headOf q k v g r l := by
  pointwise [k0_pay4, k0_pay3]
  rw [bot_f32]
  rfl

/-- The third head. -/
theorem head2 (q : Vec Ideal S512x128 .bf16) (k : Vec Ideal S1x128x256 .bf16) (v : Vec Ideal S1x256x128 .bf16) (g : Vec Ideal S512x128 .bf16) (r : Fin 512)
    (l : Fin 128) : k0_pay7 (k0_pay5 q k) (k0_pay6 q k v) g (ix2 r l) = headOf q k v g r l := by
  pointwise [k0_pay7, k0_pay5, k0_pay6]
  rw [bot_f32]
  rfl

/-- The mixed values of the fourth head. -/
theorem head3 (q : Vec Ideal S512x128 .bf16) (k : Vec Ideal S1x128x256 .bf16) (v : Vec Ideal S1x256x128 .bf16) (r : Fin 512) (l : Fin 128) :
    k0_pay8 q k v (ix2 r l) = mix (scores (fun d => q (ix2 r d)) (fun d n => k (ix3 0 d n))) (fun n => v (ix3 0 n l)) := by
  pointwise [k0_pay8]
  rw [bot_f32]
  rfl

/-- The gate's number of the fourth head. -/
theorem num3 (g : Vec Ideal S512x128 .bf16) (r : Fin 512) (l : Fin 128) : k0_pay9 g (ix2 r l) = g (ix2 r l) := by
  pointwise [k0_pay9]

/-- The exponential of the fourth head's gate. -/
theorem exp3 (g : Vec Ideal S512x128 .bf16) (r : Fin 512) (l : Fin 128) : k0_pay10 g (ix2 r l) = Ideal.exp (0 - g (ix2 r l)) := by
  pointwise [k0_pay10, k0_pay9]

/-- Four heads side by side. -/
def cat4 (a b c d : Fin 128 → EReal) (k : Fin 512) : EReal :=
  if h : k.val < 128 then a ⟨k.val, h⟩
  else if h : k.val - 128 < 128 then b ⟨k.val - 128, h⟩
  else if h : k.val - 128 - 128 < 128 then c ⟨k.val - 128 - 128, h⟩
  else d ⟨k.val - 128 - 128 - 128, by omega⟩

/-- What a block's row holds after the payload, from the pieces it is made of. -/
theorem pay1_apply (v28 v57 v86 : FVec Ideal S512x128 .bf16) (v105 v107 v110 : FVec Ideal S512x128 .f32) (o : Ideal .f32) (a : Vec Ideal S512x512 .bf16)
    (wa : Vec Ideal S512x1024 .bf16) (b : Vec Ideal S512x512 .bf16) (wb wc : Vec Ideal S512x1024 .bf16) (x : Vec Ideal S512x1024 .f32)
    (r : Fin 512) (j : Fin 1024) :
    k0_pay1 v28 v57 v86 v105 v107 v110 o a wa b wb wc x (ix2 r j)
      = x (ix2 r j) + (∑ k : Fin 512, a (ix2 r k) * wa (ix2 k j) + ∑ k : Fin 512, b (ix2 r k) * wb (ix2 k j)
          + ∑ k : Fin 512, cat4 (fun l => v28 (ix2 r l)) (fun l => v57 (ix2 r l)) (fun l => v86 (ix2 r l))
              (fun l => v105 (ix2 r l) * Ideal.div (v107 (ix2 r l)) (o + v110 (ix2 r l))) k * wc (ix2 k j)) := by
  pointwise [k0_pay1]
  rfl

/-- Row `r` and lane `k` of the gated memory, from the whole blocks. -/
def gated (x2 x3 : Vec Ideal S512x512 .bf16) (x4 : Vec Ideal S1x512x256 .bf16) (x5 : Vec Ideal S1x256x512 .bf16) (r k : Fin 512) : EReal :=
  mix (scores (fun d => x2 (ix2 r ⟨k.val / 128 * 128 + d.val, by omega⟩)) (fun d n => x4 (ix3 0 ⟨k.val / 128 * 128 + d.val, by omega⟩ n)))
    (fun n => x5 (ix3 0 n k)) * gate (x3 (ix2 r k))

/-- A head read from the whole blocks. -/
theorem head_gated (x2 x3 : Vec Ideal S512x512 .bf16) (x4 : Vec Ideal S1x512x256 .bf16) (x5 : Vec Ideal S1x256x512 .bf16) (r : Fin 512) (h : Fin 4)
    (q : Vec Ideal S512x128 .bf16) (k : Vec Ideal S1x128x256 .bf16) (v : Vec Ideal S1x256x128 .bf16) (g : Vec Ideal S512x128 .bf16)
    (hq : ∀ d : Fin 128, q (ix2 r d) = x2 (ix2 r ⟨h.val * 128 + d.val, by omega⟩))
    (hk : ∀ (d : Fin 128) (n : Fin 256), k (ix3 0 d n) = x4 (ix3 0 ⟨h.val * 128 + d.val, by omega⟩ n))
    (hv : ∀ (n : Fin 256) (d : Fin 128), v (ix3 0 n d) = x5 (ix3 0 n ⟨h.val * 128 + d.val, by omega⟩))
    (hg : ∀ d : Fin 128, g (ix2 r d) = x3 (ix2 r ⟨h.val * 128 + d.val, by omega⟩)) (l : Fin 128) (j : Fin 512) (hj : j.val = h.val * 128 + l.val) :
    headOf q k v g r l = gated x2 x3 x4 x5 r j := by
  have ej : j = ⟨h.val * 128 + l.val, by omega⟩ := Fin.ext hj
  rw [ej]
  have e : (h.val * 128 + l.val) / 128 = h.val := by omega
  unfold headOf gated
  simp only [hq, hk, hv, hg, e]

/-- The four heads side by side, read from the whole blocks. -/
theorem heads_gated (x2 x3 : Vec Ideal S512x512 .bf16) (x4 : Vec Ideal S1x512x256 .bf16) (x5 : Vec Ideal S1x256x512 .bf16) (r k : Fin 512) :
    cat4 (fun l => k0_pay2 (View.ld x2 r0_0) (View.ld x4 r0_1) (View.ld x5 r0_2) (View.ld x3 r0_0) (ix2 r l))
      (fun l => k0_pay4 (k0_pay3 (View.ld x2 r0_3) (View.ld x4 r0_4)) (View.ld x5 r0_5) (View.ld x3 r0_3) (ix2 r l))
      (fun l => k0_pay7 (k0_pay5 (View.ld x2 r0_6) (View.ld x4 r0_7)) (k0_pay6 (View.ld x2 r0_6) (View.ld x4 r0_7) (View.ld x5 r0_8)) (View.ld x3 r0_6) (ix2 r l))
      (fun l => k0_pay8 (View.ld x2 r0_9) (View.ld x4 r0_10) (View.ld x5 r0_11) (ix2 r l)
        * Ideal.div (k0_pay9 (View.ld x3 r0_9) (ix2 r l)) (Ideal.ofBits FTy.f32 0x3F800000#32 + k0_pay10 (View.ld x3 r0_9) (ix2 r l))) k
      = gated x2 x3 x4 x5 r k := by
  unfold cat4
  split
  · beta_reduce
    rw [head0]
    refine head_gated x2 x3 x4 x5 r 0 _ _ _ _ (fun d => ?_) (fun d n => ?_) (fun n d => ?_) (fun d => ?_) _ k ?_
    · exact congrArg x2 (funext fun a => Fin.ext (by match a with | ⟨0, _⟩ => (show 0 + 1 * r.val = r.val; omega) | ⟨1, _⟩ => (show 0 + 1 * d.val = 0 * 128 + d.val; omega)))
    · exact congrArg x4 (funext fun a => Fin.ext (by match a with | ⟨0, _⟩ => rfl | ⟨1, _⟩ => (show 0 + 1 * d.val = 0 * 128 + d.val; omega) | ⟨2, _⟩ => (show 0 + 1 * n.val = n.val; omega)))
    · exact congrArg x5 (funext fun a => Fin.ext (by match a with | ⟨0, _⟩ => rfl | ⟨1, _⟩ => (show 0 + 1 * n.val = n.val; omega) | ⟨2, _⟩ => (show 0 + 1 * d.val = 0 * 128 + d.val; omega)))
    · exact congrArg x3 (funext fun a => Fin.ext (by match a with | ⟨0, _⟩ => (show 0 + 1 * r.val = r.val; omega) | ⟨1, _⟩ => (show 0 + 1 * d.val = 0 * 128 + d.val; omega)))
    · show k.val = 0 * 128 + k.val
      omega
  · split
    · beta_reduce
      rw [head1]
      refine head_gated x2 x3 x4 x5 r 1 _ _ _ _ (fun d => ?_) (fun d n => ?_) (fun n d => ?_) (fun d => ?_) _ k ?_
      · exact congrArg x2 (funext fun a => Fin.ext (by match a with | ⟨0, _⟩ => (show 0 + 1 * r.val = r.val; omega) | ⟨1, _⟩ => (show 128 + 1 * d.val = 1 * 128 + d.val; omega)))
      · exact congrArg x4 (funext fun a => Fin.ext (by match a with | ⟨0, _⟩ => rfl | ⟨1, _⟩ => (show 128 + 1 * d.val = 1 * 128 + d.val; omega) | ⟨2, _⟩ => (show 0 + 1 * n.val = n.val; omega)))
      · exact congrArg x5 (funext fun a => Fin.ext (by match a with | ⟨0, _⟩ => rfl | ⟨1, _⟩ => (show 0 + 1 * n.val = n.val; omega) | ⟨2, _⟩ => (show 128 + 1 * d.val = 1 * 128 + d.val; omega)))
      · exact congrArg x3 (funext fun a => Fin.ext (by match a with | ⟨0, _⟩ => (show 0 + 1 * r.val = r.val; omega) | ⟨1, _⟩ => (show 128 + 1 * d.val = 1 * 128 + d.val; omega)))
      · show k.val = 1 * 128 + (k.val - 128)
        omega
    · split
      · beta_reduce
        rw [head2]
        refine head_gated x2 x3 x4 x5 r 2 _ _ _ _ (fun d => ?_) (fun d n => ?_) (fun n d => ?_) (fun d => ?_) _ k ?_
        · exact congrArg x2 (funext fun a => Fin.ext (by match a with | ⟨0, _⟩ => (show 0 + 1 * r.val = r.val; omega) | ⟨1, _⟩ => (show 256 + 1 * d.val = 2 * 128 + d.val; omega)))
        · exact congrArg x4 (funext fun a => Fin.ext (by match a with | ⟨0, _⟩ => rfl | ⟨1, _⟩ => (show 256 + 1 * d.val = 2 * 128 + d.val; omega) | ⟨2, _⟩ => (show 0 + 1 * n.val = n.val; omega)))
        · exact congrArg x5 (funext fun a => Fin.ext (by match a with | ⟨0, _⟩ => rfl | ⟨1, _⟩ => (show 0 + 1 * n.val = n.val; omega) | ⟨2, _⟩ => (show 256 + 1 * d.val = 2 * 128 + d.val; omega)))
        · exact congrArg x3 (funext fun a => Fin.ext (by match a with | ⟨0, _⟩ => (show 0 + 1 * r.val = r.val; omega) | ⟨1, _⟩ => (show 256 + 1 * d.val = 2 * 128 + d.val; omega)))
        · show k.val = 2 * 128 + (k.val - 128 - 128)
          omega
      · beta_reduce
        rw [head3, num3, exp3, Ideal.ofBits_one_f32]
        refine head_gated x2 x3 x4 x5 r 3 (View.ld x2 r0_9) (View.ld x4 r0_10) (View.ld x5 r0_11) (View.ld x3 r0_9) (fun d => ?_) (fun d n => ?_) (fun n d => ?_) (fun d => ?_) _ k ?_
        · exact congrArg x2 (funext fun a => Fin.ext (by match a with | ⟨0, _⟩ => (show 0 + 1 * r.val = r.val; omega) | ⟨1, _⟩ => (show 384 + 1 * d.val = 3 * 128 + d.val; omega)))
        · exact congrArg x4 (funext fun a => Fin.ext (by match a with | ⟨0, _⟩ => rfl | ⟨1, _⟩ => (show 384 + 1 * d.val = 3 * 128 + d.val; omega) | ⟨2, _⟩ => (show 0 + 1 * n.val = n.val; omega)))
        · exact congrArg x5 (funext fun a => Fin.ext (by match a with | ⟨0, _⟩ => rfl | ⟨1, _⟩ => (show 0 + 1 * n.val = n.val; omega) | ⟨2, _⟩ => (show 384 + 1 * d.val = 3 * 128 + d.val; omega)))
        · exact congrArg x3 (funext fun a => Fin.ext (by match a with | ⟨0, _⟩ => (show 0 + 1 * r.val = r.val; omega) | ⟨1, _⟩ => (show 384 + 1 * d.val = 3 * 128 + d.val; omega)))
        · have := k.isLt
          show k.val = 3 * 128 + (k.val - 128 - 128 - 128)
          omega

/-- A load of a whole block reads the block. -/
theorem ld_whole {s : Shape} {e : EltTy} (x : Vec Ideal s e) {off : Fin s.rank → ℕ} (inb : ∀ b, off b + s.size b ≤ s.size b) (h0 : ∀ b, off b = 0) :
    View.ld x (Rect.unit off s.size inb) = x := View.ld_unit_lit _ _ h0

/-- The block of results at an index. -/
theorem block_apply (x0 x1 x2 x3 : Vec Ideal S512x512 .bf16) (x4 : Vec Ideal S1x512x256 .bf16) (x5 : Vec Ideal S1x256x512 .bf16) (x6 : Vec Ideal S1536x1024 .bf16)
    (x7 : Vec Ideal S512x1024 .f32) (x8 : Vec Ideal S1x1024 .f32) (y : S512x1024.Idx) :
    out0_9 x0 x1 x2 x3 x4 x5 x6 x7 x8 y
      = summed (fun j => x7 (ix2 (y 0) j)) (fun k => x0 (ix2 (y 0) k)) (fun k => x1 (ix2 (y 0) k)) (fun k => gated x2 x3 x4 x5 (y 0) k)
          (fun k j => x6 (ix2 k j)) (y 1) := by
  unfold out0_9
  refine (congrFun (View.canon_cons_unit_lit _ _ _ (by decide)) y).trans ((congrArg _ (eq_ix2 y)).trans ((pay1_apply _ _ _ _ _ _ _ _ _ _ _ _ _ (y 0) (y 1)).trans ?_))
  have w0 : ∀ (k : Fin 512) (j : Fin 1024), View.ld x6 r0_13 (ix2 k j) = x6 (ix2 ⟨k.val, by omega⟩ j) := fun k j =>
    congrArg x6 (funext fun a => Fin.ext (by match a with | ⟨0, _⟩ => (show 0 + 1 * k.val = k.val; omega) | ⟨1, _⟩ => (show 0 + 1 * j.val = j.val; omega)))
  have w1 : ∀ (k : Fin 512) (j : Fin 1024), View.ld x6 r0_14 (ix2 k j) = x6 (ix2 ⟨512 + k.val, by omega⟩ j) := fun k j =>
    congrArg x6 (funext fun a => Fin.ext (by match a with | ⟨0, _⟩ => (show 512 + 1 * k.val = 512 + k.val; omega) | ⟨1, _⟩ => (show 0 + 1 * j.val = j.val; omega)))
  have w2 : ∀ (k : Fin 512) (j : Fin 1024), View.ld x6 r0_15 (ix2 k j) = x6 (ix2 ⟨1024 + k.val, by omega⟩ j) := fun k j =>
    congrArg x6 (funext fun a => Fin.ext (by match a with | ⟨0, _⟩ => (show 1024 + 1 * k.val = 1024 + k.val; omega) | ⟨1, _⟩ => (show 0 + 1 * j.val = j.val; omega)))
  unfold r0_12 r0_16
  rw [ld_whole x0 _ (by decide), ld_whole x1 _ (by decide), ld_whole x7 _ (by decide)]
  unfold summed
  refine congrArg (fun z : EReal => x7 (ix2 (y 0) (y 1)) + z) (congrArg₂ (fun a b : EReal => a + b) (congrArg₂ (fun a b : EReal => a + b) ?_ ?_) ?_)
  · exact Finset.sum_congr rfl fun k _ => congrArg (fun z : EReal => x0 (ix2 (y 0) k) * z) (w0 k (y 1))
  · exact Finset.sum_congr rfl fun k _ => congrArg (fun z : EReal => x1 (ix2 (y 0) k) * z) (w1 k (y 1))
  · exact Finset.sum_congr rfl fun k _ => congrArg₂ (fun a b : EReal => a * b) (heads_gated x2 x3 x4 x5 (y 0) k) (w2 k (y 1))

variable (m : (ℓ : Loc nD τ sig) → Buf (Elt Ideal) ℓ) (c : Dev nD)

/-! ## The blocks of a grid point -/

/-- Which block of the first group's rows a grid point takes. -/
theorem idx0 : ∀ t : Fin grid0.N, win0_0.index t 0 = t.val ∧ win0_0.index t 1 = 0 := by decide +kernel

/-- Which block of the second group's rows a grid point takes. -/
theorem idx1 : ∀ t : Fin grid0.N, win0_1.index t 0 = t.val ∧ win0_1.index t 1 = 0 := by decide +kernel

/-- Which block of the memory's queries a grid point takes. -/
theorem idx2 : ∀ t : Fin grid0.N, win0_2.index t 0 = t.val ∧ win0_2.index t 1 = 0 := by decide +kernel

/-- Which block of the memory's gates a grid point takes. -/
theorem idx3 : ∀ t : Fin grid0.N, win0_3.index t 0 = t.val ∧ win0_3.index t 1 = 0 := by decide +kernel

/-- Which block of the memory's keys a grid point takes. -/
theorem idx4 : ∀ t : Fin grid0.N, win0_4.index t 0 = t.val / 16 ∧ win0_4.index t 1 = 0 ∧ win0_4.index t 2 = 0 := by decide +kernel

/-- Which block of the memory's values a grid point takes. -/
theorem idx5 : ∀ t : Fin grid0.N, win0_5.index t 0 = t.val / 16 ∧ win0_5.index t 1 = 0 ∧ win0_5.index t 2 = 0 := by decide +kernel

/-- Which block of the matrix a grid point takes. -/
theorem idx6 : ∀ t : Fin grid0.N, win0_6.index t 0 = 0 ∧ win0_6.index t 1 = 0 := by decide +kernel

/-- Which block of the layer's input a grid point takes. -/
theorem idx7 : ∀ t : Fin grid0.N, win0_7.index t 0 = t.val ∧ win0_7.index t 1 = 0 := by decide +kernel

/-- Which block of the result a grid point takes. -/
theorem idx9 : ∀ t : Fin grid0.N, win0_9.index t 0 = t.val ∧ win0_9.index t 1 = 0 := by decide +kernel

/-- A point's block of the first group's rows. -/
theorem iblk0 (t : Fin cfg0.N) (r : Fin 512) (k : Fin 512) :
    (iblk m c 0 t : Vec Ideal S512x512 .bf16) (ix2 r k)
      = m ((c : Thread nD τ).loc main_arg0) (ix2 (n0 := 16384) (n1 := 512) ⟨t.val * 512 + r.val, by have h : t.val < 32 := t.isLt; omega⟩ k) := by
  have hi := idx0 t
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 512 + 1 * k.val = k.val; rw [hi.2]; omega

/-- A point's block of the second group's rows. -/
theorem iblk1 (t : Fin cfg0.N) (r : Fin 512) (k : Fin 512) :
    (iblk m c 1 t : Vec Ideal S512x512 .bf16) (ix2 r k)
      = m ((c : Thread nD τ).loc main_arg1) (ix2 (n0 := 16384) (n1 := 512) ⟨t.val * 512 + r.val, by have h : t.val < 32 := t.isLt; omega⟩ k) := by
  have hi := idx1 t
  unfold iblk
  rw [View.read_apply]
  show V m c main_arg1 _ = m (c.tc.loc main_arg1) _
  unfold V
  congr 1
  funext a
  apply Fin.ext
  match a with
  | ⟨0, _⟩ => show win0_1.index t 0 * 512 + 1 * r.val = t.val * 512 + r.val; rw [hi.1]; omega
  | ⟨1, _⟩ => show win0_1.index t 1 * 512 + 1 * k.val = k.val; rw [hi.2]; omega

/-- A point's block of the memory's queries. -/
theorem iblk2 (t : Fin cfg0.N) (r : Fin 512) (k : Fin 512) :
    (iblk m c 2 t : Vec Ideal S512x512 .bf16) (ix2 r k)
      = m ((c : Thread nD τ).loc main_arg2) (ix2 (n0 := 16384) (n1 := 512) ⟨t.val * 512 + r.val, by have h : t.val < 32 := t.isLt; omega⟩ k) := by
  have hi := idx2 t
  unfold iblk
  rw [View.read_apply]
  show V m c main_arg2 _ = m (c.tc.loc main_arg2) _
  unfold V
  congr 1
  funext a
  apply Fin.ext
  match a with
  | ⟨0, _⟩ => show win0_2.index t 0 * 512 + 1 * r.val = t.val * 512 + r.val; rw [hi.1]; omega
  | ⟨1, _⟩ => show win0_2.index t 1 * 512 + 1 * k.val = k.val; rw [hi.2]; omega

/-- A point's block of the memory's gates. -/
theorem iblk3 (t : Fin cfg0.N) (r : Fin 512) (k : Fin 512) :
    (iblk m c 3 t : Vec Ideal S512x512 .bf16) (ix2 r k)
      = m ((c : Thread nD τ).loc main_arg3) (ix2 (n0 := 16384) (n1 := 512) ⟨t.val * 512 + r.val, by have h : t.val < 32 := t.isLt; omega⟩ k) := by
  have hi := idx3 t
  unfold iblk
  rw [View.read_apply]
  show V m c main_arg3 _ = m (c.tc.loc main_arg3) _
  unfold V
  congr 1
  funext a
  apply Fin.ext
  match a with
  | ⟨0, _⟩ => show win0_3.index t 0 * 512 + 1 * r.val = t.val * 512 + r.val; rw [hi.1]; omega
  | ⟨1, _⟩ => show win0_3.index t 1 * 512 + 1 * k.val = k.val; rw [hi.2]; omega

/-- A point's block of the layer's input. -/
theorem iblk7 (t : Fin cfg0.N) (r : Fin 512) (k : Fin 1024) :
    (iblk m c 7 t : Vec Ideal S512x1024 .f32) (ix2 r k)
      = m ((c : Thread nD τ).loc main_arg7) (ix2 (n0 := 16384) (n1 := 1024) ⟨t.val * 512 + r.val, by have h : t.val < 32 := t.isLt; omega⟩ k) := by
  have hi := idx7 t
  unfold iblk
  rw [View.read_apply]
  show V m c main_arg7 _ = m (c.tc.loc main_arg7) _
  unfold V
  congr 1
  funext a
  apply Fin.ext
  match a with
  | ⟨0, _⟩ => show win0_7.index t 0 * 512 + 1 * r.val = t.val * 512 + r.val; rw [hi.1]; omega
  | ⟨1, _⟩ => show win0_7.index t 1 * 1024 + 1 * k.val = k.val; rw [hi.2]; omega

/-- A point's block of the memory's keys. -/
theorem iblk4 (t : Fin cfg0.N) (r : Fin 512) (k : Fin 256) :
    (iblk m c 4 t : Vec Ideal S1x512x256 .bf16) (ix3 0 r k)
      = m ((c : Thread nD τ).loc main_arg4) (ix3 (n0 := 2) (n1 := 512) (n2 := 256) ⟨t.val / 16, by have h : t.val < 32 := t.isLt; omega⟩ r k) := by
  have hi := idx4 t
  unfold iblk
  rw [View.read_apply]
  show V m c main_arg4 _ = m (c.tc.loc main_arg4) _
  unfold V
  congr 1
  funext a
  apply Fin.ext
  match a with
  | ⟨0, _⟩ => show win0_4.index t 0 * 1 + 1 * 0 = t.val / 16; rw [hi.1]; omega
  | ⟨1, _⟩ => show win0_4.index t 1 * 512 + 1 * r.val = r.val; rw [hi.2.1]; omega
  | ⟨2, _⟩ => show win0_4.index t 2 * 256 + 1 * k.val = k.val; rw [hi.2.2]; omega

/-- A point's block of the memory's values. -/
theorem iblk5 (t : Fin cfg0.N) (r : Fin 256) (k : Fin 512) :
    (iblk m c 5 t : Vec Ideal S1x256x512 .bf16) (ix3 0 r k)
      = m ((c : Thread nD τ).loc main_arg5) (ix3 (n0 := 2) (n1 := 256) (n2 := 512) ⟨t.val / 16, by have h : t.val < 32 := t.isLt; omega⟩ r k) := by
  have hi := idx5 t
  unfold iblk
  rw [View.read_apply]
  show V m c main_arg5 _ = m (c.tc.loc main_arg5) _
  unfold V
  congr 1
  funext a
  apply Fin.ext
  match a with
  | ⟨0, _⟩ => show win0_5.index t 0 * 1 + 1 * 0 = t.val / 16; rw [hi.1]; omega
  | ⟨1, _⟩ => show win0_5.index t 1 * 256 + 1 * r.val = r.val; rw [hi.2.1]; omega
  | ⟨2, _⟩ => show win0_5.index t 2 * 512 + 1 * k.val = k.val; rw [hi.2.2]; omega

/-- Every point reads the whole matrix. -/
theorem iblk6 (t : Fin cfg0.N) (r : Fin 1536) (k : Fin 1024) :
    (iblk m c 6 t : Vec Ideal S1536x1024 .bf16) (ix2 r k) = m ((c : Thread nD τ).loc main_arg6) (ix2 (n0 := 1536) (n1 := 1024) r k) := by
  have hi := idx6 t
  unfold iblk
  rw [View.read_apply]
  show V m c main_arg6 _ = m (c.tc.loc main_arg6) _
  unfold V
  congr 1
  funext a
  apply Fin.ext
  match a with
  | ⟨0, _⟩ => show win0_6.index t 0 * 1536 + 1 * r.val = r.val; rw [hi.1]; omega
  | ⟨1, _⟩ => show win0_6.index t 1 * 1024 + 1 * k.val = k.val; rw [hi.2]; omega

/-! ## The array -/

/-- Row `r` and lane `k` of the gated memory. -/
def memory (r : Fin 16384) (k : Fin 512) : EReal :=
  mix (scores (fun d => m ((c : Thread nD τ).loc main_arg2) (ix2 (n0 := 16384) (n1 := 512) r ⟨k.val / 128 * 128 + d.val, by omega⟩))
      (fun d n => m ((c : Thread nD τ).loc main_arg4) (ix3 (n0 := 2) (n1 := 512) (n2 := 256) ⟨r.val / 8192, by omega⟩ ⟨k.val / 128 * 128 + d.val, by omega⟩ n)))
    (fun n => m ((c : Thread nD τ).loc main_arg5) (ix3 (n0 := 2) (n1 := 256) (n2 := 512) ⟨r.val / 8192, by omega⟩ n k))
    * gate (m ((c : Thread nD τ).loc main_arg3) (ix2 (n0 := 16384) (n1 := 512) r k))

/-- Row `r` of the result. -/
def row (r : Fin 16384) : Fin 1024 → EReal :=
  summed (fun j => m ((c : Thread nD τ).loc main_arg7) (ix2 (n0 := 16384) (n1 := 1024) r j))
    (fun k => m ((c : Thread nD τ).loc main_arg0) (ix2 (n0 := 16384) (n1 := 512) r k))
    (fun k => m ((c : Thread nD τ).loc main_arg1) (ix2 (n0 := 16384) (n1 := 512) r k)) (fun k => memory m c r k)
    (fun k j => m ((c : Thread nD τ).loc main_arg6) (ix2 (n0 := 1536) (n1 := 1024) k j))

/-- The array of results. -/
def result : Buf (Elt Ideal) ((c : Thread nD τ).loc main_v0) := fun p : S16384x1024.Idx => row m c (p 0) (p 1)

/-- A point's row of the gated memory. -/
theorem gated_memory (t : Fin cfg0.N) (r : Fin 512) (R : Fin 16384) (hR : R.val = t.val * 512 + r.val) (k : Fin 512) :
    gated (iblk m c 2 t) (iblk m c 3 t) (iblk m c 4 t) (iblk m c 5 t) r k = memory m c R k := by
  have e : R = ⟨t.val * 512 + r.val, by clear hR; have h : t.val < 32 := t.isLt; omega⟩ := Fin.ext hR
  subst e
  have e' : (t.val * 512 + r.val) / 8192 = t.val / 16 := by have h := r.isLt; omega
  unfold gated memory
  simp only [e', iblk2, iblk3, iblk4, iblk5]

/-- A point's block of results. -/
theorem block_row (t : Fin cfg0.N) (y : S512x1024.Idx) (p : S16384x1024.Idx) (h0 : (p 0).val = t.val * 512 + (y 0).val) (h1 : (p 1).val = (y 1).val) :
    out0_9 (iblk m c 0 t) (iblk m c 1 t) (iblk m c 2 t) (iblk m c 3 t) (iblk m c 4 t) (iblk m c 5 t) (iblk m c 6 t) (iblk m c 7 t) (iblk m c 8 t) y
      = row m c (p 0) (p 1) := by
  refine (block_apply _ _ _ _ _ _ _ _ _ y).trans ?_
  have e : p 0 = ⟨t.val * 512 + (y 0).val, by have h : t.val < 32 := t.isLt; have h' : (y 0).val < 512 := (y 0).isLt; omega⟩ := Fin.ext h0
  have e1 : p 1 = y 1 := Fin.ext h1
  unfold row
  rw [e1]
  have f0 : (fun k : Fin 512 => (iblk m c 0 t : Vec Ideal S512x512 .bf16) (ix2 (y 0) k)) = fun k => m ((c : Thread nD τ).loc main_arg0) (ix2 (n0 := 16384) (n1 := 512) (p 0) k) :=
    funext fun k => by rw [e]; exact iblk0 m c t (y 0) k
  have f1 : (fun k : Fin 512 => (iblk m c 1 t : Vec Ideal S512x512 .bf16) (ix2 (y 0) k)) = fun k => m ((c : Thread nD τ).loc main_arg1) (ix2 (n0 := 16384) (n1 := 512) (p 0) k) :=
    funext fun k => by rw [e]; exact iblk1 m c t (y 0) k
  have f7 : (fun j : Fin 1024 => (iblk m c 7 t : Vec Ideal S512x1024 .f32) (ix2 (y 0) j)) = fun j => m ((c : Thread nD τ).loc main_arg7) (ix2 (n0 := 16384) (n1 := 1024) (p 0) j) :=
    funext fun k => by rw [e]; exact iblk7 m c t (y 0) k
  have f6 : (fun (k : Fin 1536) (j : Fin 1024) => (iblk m c 6 t : Vec Ideal S1536x1024 .bf16) (ix2 k j)) = fun k j => m ((c : Thread nD τ).loc main_arg6) (ix2 (n0 := 1536) (n1 := 1024) k j) :=
    funext fun k => funext fun j => iblk6 m c t k j
  have fg : (fun k : Fin 512 => gated (iblk m c 2 t) (iblk m c 3 t) (iblk m c 4 t) (iblk m c 5 t) (y 0) k) = fun k => memory m c (p 0) k :=
    funext fun k => gated_memory m c t (y 0) (p 0) h0 k
  rw [f0, f1, f7, f6, fg]

/-- Every point writes its block of results. -/
theorem flushed_result (t : Fin cfg0.N) (hf : (cfg0.win 9).flush t = true) :
    (dats m 0 c).flushed 9 t = ((cfg0.win 9).blk t).view.read (Elt Ideal) (result m c) := by
  rw [Value.flushed9]
  funext j
  rw [View.read_apply]
  have hi := idx9 t
  refine block_row m c t j _ ?_ ?_
  · show win0_9.index t 0 * 512 + 1 * (j 0).val = t.val * 512 + (j 0).val
    rw [hi.1]; omega
  · show win0_9.index t 1 * 1024 + 1 * (j 1).val = (j 1).val
    rw [hi.2]; omega

/-- The grid point that holds a row. -/
def pointOf (r : Fin 16384) : Fin cfg0.N := ⟨r.val / 512, by have h := r.isLt; show r.val / 512 < 32; omega⟩

/-- The array of results after the run. -/
theorem final_result : (dats m 0 c).arrAt 9 cfg0.N = result m c :=
  (dats m 0 c).arrAt_eq_of_cover 9 (result m c) (flushed_result m c) fun i =>
    ⟨pointOf (i 0), flush0_9 _, by
      show i ∈ ((View.whole main_v0).slice (win0_9.rect (pointOf (i 0)))).set
      rw [View.set_slice_whole, Rect.mem_set_unit]
      intro a
      have hi := idx9 (pointOf (i 0))
      have h0 : (i 0 : Nat) < 16384 := (i 0).isLt
      have h1 : (i 1 : Nat) < 1024 := (i 1).isLt
      have hp : (pointOf (i 0)).val = (i 0 : Nat) / 512 := rfl
      match a with
      | ⟨0, _⟩ =>
        show win0_9.index _ 0 * 512 ≤ (i 0 : Nat) ∧ (i 0 : Nat) < win0_9.index _ 0 * 512 + 512
        rw [hi.1, hp]; omega
      | ⟨1, _⟩ =>
        show win0_9.index _ 1 * 1024 ≤ (i 1 : Nat) ∧ (i 1 : Nat) < win0_9.index _ 1 * 1024 + 1024
        rw [hi.2]; omega⟩

end Cert.InnerIdeal.Out

end
-- ==== Proof.InnerRefVal.lean ====
/- The reference's output projection without the final norm, element by element. -/
module

public import proofs.«01_k».proof.Proof.Gen.InnerRefIdeal.Read
public import proofs.«01_k».proof.Proof.Mix
public import Idealize.ShloMosaic.Lib.IdealHost
public import Idealize.ShloMosaic.Lib.Pointwise

@[expose] public section

set_option maxRecDepth 16384

noncomputable section

namespace Cert.InnerRefIdeal.Out

open Cert.InnerRefIdeal Cert.InnerRefIdeal.Gen Cert.InnerRefIdeal.Read Idealize.ShloMosaic Idealize.ShloMosaic.TcCoe
open Cert.Layer
open scoped BigOperators

/-- A part of the rows. -/
abbrev AArr : Type := BufTy.Contents (Elt Ideal) (⟨S16384x512, .bf16⟩ : BufTy)
/-- The memory's keys, transposed. -/
abbrev KArr : Type := BufTy.Contents (Elt Ideal) (⟨S2x512x256, .bf16⟩ : BufTy)
/-- The memory's values. -/
abbrev VArr : Type := BufTy.Contents (Elt Ideal) (⟨S2x256x512, .bf16⟩ : BufTy)
/-- The weights. -/
abbrev WArr : Type := BufTy.Contents (Elt Ideal) (⟨S1536x1024, .bf16⟩ : BufTy)
/-- The rows. -/
abbrev XArr : Type := BufTy.Contents (Elt Ideal) (⟨S16384x1024, .f32⟩ : BufTy)
/-- A part of the rows as plain numbers. -/
abbrev XIn : Type := S16384x512.Idx → EReal

/-- The scores of row `r` in the head that lane `k` lies in. -/
def sc (Q : AArr) (K : KArr) (r : Fin 16384) (k : Fin 512) : Fin 256 → EReal :=
  scores (fun d => Q (ix2 r ⟨k.val / 128 * 128 + d.val, by omega⟩)) (fun d n => K (ix3 ⟨r.val / 8192, by omega⟩ ⟨k.val / 128 * 128 + d.val, by omega⟩ n))

/-- The scaled products of queries and keys. -/
theorem score_apply (Q : AArr) (K : KArr) (i : S2x4x8192x256.Idx) (r : Fin 16384) (k : Fin 512) (hr : r.val = (i 0).val * 8192 + (i 2).val)
    (hk : k.val / 128 = (i 1).val) : val_main_v13 (F := Ideal) Q K i = sc Q K r k (i 3) := by
  have h0 : (i 0).val < 2 := (i 0).isLt
  have h1 : (i 1).val < 4 := (i 1).isLt
  have h2 : (i 2).val < 8192 := (i 2).isLt
  have h3 : (i 3).val < 256 := (i 3).isLt
  rw [val_main_v13_apply, val_main_v12_apply, val_main_cst_apply, val_main_v11_apply]
  unfold sc scores
  refine congrArg (fun x : EReal => x * Ideal.ofBits FTy.f32 0x3DB504F3#32) (Finset.sum_congr rfl fun d _ => ?_)
  rw [val_main_v10_apply, val_main_v2_apply, val_main_v8_apply, val_main_v7_apply, val_main_v4_apply]
  refine congrArg₂ (fun a b : EReal => a * b) (congrArg Q (funext fun a => ?_)) (congrArg K (funext fun a => ?_))
  · match a with
    | ⟨0, _⟩ =>
      refine Fin.ext ?_
      show ((((i 0).val * 8192 + (i 2).val) * 4 + (i 1).val) * 128 + d.val) / 512 = r.val
      omega
    | ⟨1, _⟩ =>
      refine Fin.ext ?_
      show ((((i 0).val * 8192 + (i 2).val) * 4 + (i 1).val) * 128 + d.val) % 512 = k.val / 128 * 128 + d.val
      omega
  · match a with
    | ⟨0, _⟩ =>
      refine Fin.ext ?_
      show ((((i 0).val * 256 + (i 3).val) * 4 + (i 1).val) * 128 + d.val) / 131072 = r.val / 8192
      omega
    | ⟨1, _⟩ =>
      refine Fin.ext ?_
      show ((((i 0).val * 256 + (i 3).val) * 4 + (i 1).val) * 128 + d.val) % 512 = k.val / 128 * 128 + d.val
      omega
    | ⟨2, _⟩ =>
      refine Fin.ext ?_
      show ((((i 0).val * 256 + (i 3).val) * 4 + (i 1).val) * 128 + d.val) / 512 % 256 = (i 3).val
      omega

/-- The bit pattern of the maximum's start. -/
theorem bot_f32 : Ideal.ofBits FTy.f32 0xFF800000#32 = ⊥ := by
  simp [Ideal.ofBits, Ideal.ieee]

/-- The largest score of a row. -/
theorem max_apply (Q : AArr) (K : KArr) (i : S2x4x8192.Idx) (r : Fin 16384) (k : Fin 512) (hr : r.val = (i 0).val * 8192 + (i 2).val)
    (hk : k.val / 128 = (i 1).val) : val_main_v16 (F := Ideal) Q K i = Finset.univ.sup (sc Q K r k) := by
  rw [val_main_v16_apply, val_main_v15_apply, val_main_cst_1_apply]
  unfold val_main_v14
  rw [Host.reduce_eq_fold_single _ _ _ _ (by decide : S2x4x8192x256.Reduces [3] S2x4x8192) _ _, val_main_cst_0_apply]
  show max (Ideal.ofBits FTy.f32 0xFF800000#32) (Finset.fold max (Ideal.ofBits FTy.f32 0xFF800000#32) _ _) = _
  rw [bot_f32, bot_sup_eq]
  refine Finset.sup_congr rfl fun n _ => ?_
  exact score_apply Q K _ r k hr hk

/-- The weight of an entry. -/
theorem weight_apply (Q : AArr) (K : KArr) (i : S2x4x8192x256.Idx) (r : Fin 16384) (k : Fin 512) (hr : r.val = (i 0).val * 8192 + (i 2).val)
    (hk : k.val / 128 = (i 1).val) : val_main_v20 (F := Ideal) Q K i = weight (sc Q K r k) (i 3) := by
  rw [val_main_v20_apply, val_main_v19_apply, score_apply Q K i r k hr hk, val_main_v18_apply, val_main_v17_apply,
    max_apply Q K (idx_main_v17 (idx_main_v18 i)) r k hr hk]
  rfl

/-- The sum of a row's weights. -/
theorem total_apply (Q : AArr) (K : KArr) (i : S2x4x8192.Idx) (r : Fin 16384) (k : Fin 512) (hr : r.val = (i 0).val * 8192 + (i 2).val)
    (hk : k.val / 128 = (i 1).val) : val_main_v21 (F := Ideal) Q K i = ∑ n, weight (sc Q K r k) n := by
  rw [val_main_v21_apply, val_main_cst_2_apply]
  show Ideal.ofBits FTy.f32 0x00000000#32 + _ = _
  rw [Ideal.ofBits_zero_f32, zero_add]
  exact Finset.sum_congr rfl fun n _ => weight_apply Q K _ r k hr hk

/-- A row's values under its softmax. -/
theorem mixed_apply (Q : AArr) (K : KArr) (V : VArr) (r : Fin 16384) (k : Fin 512) :
    val_main_v27 (F := Ideal) Q K V (ix2 r k)
      = ∑ n, (V (ix3 ⟨r.val / 8192, by omega⟩ n k) : EReal) * Ideal.div (weight (sc Q K r k) n) (∑ n, weight (sc Q K r k) n) := by
  have h0 := r.isLt
  have h1 := k.isLt
  rw [val_main_v27_apply, val_main_v26_apply, val_main_v25_apply]
  refine Finset.sum_congr rfl fun n _ => ?_
  have e0 : r.val = (r.val * 512 + k.val) / 4194304 * 8192 + (r.val * 512 + k.val) / 512 % 8192 := by omega
  have e1 : k.val / 128 = (r.val * 512 + k.val) / 128 % 4 := by omega
  rw [val_main_v9_apply, val_main_v5_apply, val_main_v24_apply, val_main_v23_apply, val_main_v22_apply]
  have w := weight_apply Q K (ridx_main_v25 (idx_main_v26 (idx_main_v27 (ix2 r k))) n) r k e0 e1
  have u := total_apply Q K (idx_main_v22 (idx_main_v23 (ridx_main_v25 (idx_main_v26 (idx_main_v27 (ix2 r k))) n))) r k e0 e1
  rw [w, u]
  refine congrArg₂ (fun a b : EReal => a * b) (congrArg V (funext fun a => ?_)) rfl
  match a with
  | ⟨0, _⟩ =>
    refine Fin.ext ?_
    show (((((r.val * 512 + k.val) / 4194304) * 256 + n.val) * 4 + (r.val * 512 + k.val) / 128 % 4) * 128 + (r.val * 512 + k.val) % 128) / 131072 = r.val / 8192
    omega
  | ⟨1, _⟩ =>
    refine Fin.ext ?_
    show (((((r.val * 512 + k.val) / 4194304) * 256 + n.val) * 4 + (r.val * 512 + k.val) / 128 % 4) * 128 + (r.val * 512 + k.val) % 128) / 512 % 256 = n.val
    omega
  | ⟨2, _⟩ =>
    refine Fin.ext ?_
    show (((((r.val * 512 + k.val) / 4194304) * 256 + n.val) * 4 + (r.val * 512 + k.val) / 128 % 4) * 128 + (r.val * 512 + k.val) % 128) % 512 = k.val
    omega

/-- The gate. -/
theorem gate_apply (g : AArr) (i : S16384x512.Idx) : val_main_v28 (F := Ideal) g i = gate (g i) := by
  rw [val_main_v28_apply, val_main_call0_v5_apply, val_main_call0_v4_apply, val_main_call0_cst_0_apply, val_main_call0_v3_apply,
    val_main_call0_v2_apply, val_main_call0_cst_apply, val_main_call0_v1_apply, val_main_call0_v0_apply, val_main_v3_apply, ← gate_eq]
  show (g i : EReal) * Ideal.div (Ideal.ofBits FTy.f32 0x3F800000#32) (Ideal.ofBits FTy.f32 0x3F800000#32 + Ideal.exp (-(g i : EReal))) = _
  rw [Ideal.ofBits_one_f32]

/-- A row's gated memory, when queries and keys are real. -/
theorem memory_apply (Q g : AArr) (K : KArr) (V : VArr) (hQ : ∀ i, Q i = (EReal.toReal (Q i) : EReal)) (hK : ∀ i, K i = (EReal.toReal (K i) : EReal))
    (r : Fin 16384) (k : Fin 512) :
    val_main_v29 (F := Ideal) Q g K V (ix2 r k) = mix (sc Q K r k) (fun n => V (ix3 ⟨r.val / 8192, by omega⟩ n k)) * gate (g (ix2 r k)) := by
  rw [val_main_v29_apply, gate_apply, mixed_apply]
  obtain ⟨s, hs⟩ := scores_real (fun d => EReal.toReal (Q (ix2 r ⟨k.val / 128 * 128 + d.val, by omega⟩)))
    (fun d n => EReal.toReal (K (ix3 ⟨r.val / 8192, by omega⟩ ⟨k.val / 128 * 128 + d.val, by omega⟩ n)))
  have e : sc Q K r k = fun n => (s n : EReal) := by
    rw [← hs]
    unfold sc
    exact congrArg₂ scores (funext fun d => hQ _) (funext fun d => funext fun n => hK _)
  rw [e]
  exact congrArg (fun x : EReal => x * gate (g (ix2 r k))) (mix_eq s _)

/-- A sum over 1536 terms in three parts. -/
theorem sum_three (f : Fin 1536 → EReal) :
    ∑ k, f k = ∑ k : Fin 512, f ⟨k.val, by omega⟩ + ∑ k : Fin 512, f ⟨512 + k.val, by omega⟩ + ∑ k : Fin 512, f ⟨1024 + k.val, by omega⟩ := by
  have h := Fin.sum_univ_add (a := 1024) (b := 512) f
  have h' := Fin.sum_univ_add (a := 512) (b := 512) fun k => f (Fin.castAdd 512 k)
  exact h.trans (congrArg (· + _) h')

/-- Three arrays side by side, at a lane. -/
theorem cat_apply (a b c : XIn) (r : Fin 16384) (k : Fin 1536) :
    concatenate (α := EReal) S16384x1536 1 [⟨S16384x512, a⟩, ⟨S16384x512, b⟩, ⟨S16384x512, c⟩] concatenates_S16384x512_S16384x512_S16384x512_S16384x1536_d1 (ix2 r k)
      = if h : k.val < 512 then a (ix2 r ⟨k.val, h⟩) else if h : k.val - 512 < 512 then b (ix2 r ⟨k.val - 512, h⟩) else c (ix2 r ⟨k.val - 512 - 512, by omega⟩) := by
  pointwise []

/-- A row before its norm. -/
theorem summed_apply (A B Q g : AArr) (K : KArr) (V : VArr) (W : WArr) (X : XArr) (r : Fin 16384) (j : Fin 1024) :
    val_main_v32 (F := Ideal) A B Q g K V W X (ix2 r j)
      = summed (fun j => X (ix2 r j)) (fun k => A (ix2 r k)) (fun k => B (ix2 r k)) (fun k => val_main_v29 (F := Ideal) Q g K V (ix2 r k))
          (fun k j => W (ix2 k j)) j := by
  rw [val_main_v32_apply, val_main_v31_apply]
  unfold summed
  refine congrArg (fun x : EReal => (X (ix2 r j) : EReal) + x) ?_
  have e : ∀ k : Fin 1536, (val_main_v30 (F := Ideal) A B Q g K V (lidx_main_v31 (ix2 r j) k) : EReal) * val_main_v6 (F := Ideal) W (ridx_main_v31 (ix2 r j) k)
      = (if h : k.val < 512 then A (ix2 r ⟨k.val, h⟩) else if h : k.val - 512 < 512 then B (ix2 r ⟨k.val - 512, h⟩)
          else val_main_v29 (F := Ideal) Q g K V (ix2 r ⟨k.val - 512 - 512, by omega⟩) : EReal) * W (ix2 k j) := by
    intro k
    have el : lidx_main_v31 (ix2 r j) k = ix2 r k := funext fun a => by match a with | ⟨0, _⟩ => rfl | ⟨1, _⟩ => rfl
    have er : ridx_main_v31 (ix2 r j) k = ix2 k j := funext fun a => by match a with | ⟨0, _⟩ => rfl | ⟨1, _⟩ => rfl
    rw [el, er]
    unfold val_main_v30
    exact congrArg (fun x : EReal => x * (W (ix2 k j) : EReal)) (cat_apply _ _ _ r k)
  refine (Finset.sum_congr rfl fun k _ => e k).trans ((sum_three _).trans ?_)
  refine congrArg₂ (fun a b : EReal => a + b) (congrArg₂ (fun a b : EReal => a + b) ?_ ?_) ?_
  · refine Finset.sum_congr rfl fun k _ => ?_
    rw [dif_pos k.isLt]
  · refine Finset.sum_congr rfl fun k _ => ?_
    have h := k.isLt
    rw [dif_neg (by show ¬ 512 + k.val < 512; omega), dif_pos (by show 512 + k.val - 512 < 512; omega)]
    have ek : (⟨512 + k.val - 512, by omega⟩ : Fin 512) = k := Fin.ext (by show 512 + k.val - 512 = k.val; omega)
    exact congrArg (fun q : Fin 512 => (B (ix2 r q) : EReal) * W (ix2 ⟨512 + k.val, by omega⟩ j)) ek
  · refine Finset.sum_congr rfl fun k _ => ?_
    have h := k.isLt
    rw [dif_neg (by show ¬ 1024 + k.val < 512; omega), dif_neg (by show ¬ 1024 + k.val - 512 < 512; omega)]
    have ek : (⟨1024 + k.val - 512 - 512, by omega⟩ : Fin 512) = k := Fin.ext (by show 1024 + k.val - 512 - 512 = k.val; omega)
    exact congrArg (fun q : Fin 512 => (val_main_v29 (F := Ideal) Q g K V (ix2 r q) : EReal) * W (ix2 ⟨1024 + k.val, by omega⟩ j)) ek

/-- Row `r` of the result, when queries and keys are real. -/
theorem row_apply (A B Q g : AArr) (K : KArr) (V : VArr) (W : WArr) (X : XArr) (hQ : ∀ i, Q i = (EReal.toReal (Q i) : EReal))
    (hK : ∀ i, K i = (EReal.toReal (K i) : EReal)) (i : S16384x1024.Idx) :
    val_main_v32 (F := Ideal) A B Q g K V W X i
      = summed (fun j => X (ix2 (i 0) j)) (fun k => A (ix2 (i 0) k)) (fun k => B (ix2 (i 0) k))
          (fun k => mix (scores (fun d => Q (ix2 (i 0) ⟨k.val / 128 * 128 + d.val, by omega⟩))
                (fun d n => K (ix3 ⟨(i 0).val / 8192, by have h : (i 0).val < 16384 := (i 0).isLt; omega⟩ ⟨k.val / 128 * 128 + d.val, by omega⟩ n)))
              (fun n => V (ix3 ⟨(i 0).val / 8192, by have h : (i 0).val < 16384 := (i 0).isLt; omega⟩ n k)) * gate (g (ix2 (i 0) k)))
          (fun k j => W (ix2 k j)) (i 1) := by
  refine (congrArg (val_main_v32 (F := Ideal) A B Q g K V W X) (eq_ix2 i)).trans ((summed_apply A B Q g K V W X (i 0) (i 1)).trans ?_)
  exact congrArg (fun c => summed (fun j => X (ix2 (i 0) j)) (fun k => A (ix2 (i 0) k)) (fun k => B (ix2 (i 0) k)) c (fun k j => W (ix2 k j)) (i 1))
    (funext fun k => memory_apply Q g K V hQ hK (i 0) k)

end Cert.InnerRefIdeal.Out

end
-- ==== Proof.Softmax.lean ====
/- A softmax over a row of extended-real scores, written in two ways: by chunks, carrying the running maximum and the
   rescaled sums in base two, and at once, with the natural exponential of the scores times log 2. This module names no
   program: it is about extended reals alone. -/
module

public import Idealize.ShloMosaic.PureOps.Ideal.Laws
public import Idealize.ShloMosaic.Lib.IdealHost

@[expose] public section

noncomputable section

namespace Cert.Attn

open Idealize.ShloMosaic
open scoped BigOperators

/-! ## The weight of a score below a maximum -/

/-- The weight of a score `s` against a maximum `m`, as a real number. -/
def wt (s m : EReal) : ℝ := (Ideal.exp2 (s - m)).toReal

/-- Against any maximum that is not below it, a score's power of two is a real number: the weight. -/
theorem exp2_sub_eq {s m : EReal} (h : s ≤ m) : Ideal.exp2 (s - m) = ((wt s m : ℝ) : EReal) := by
  unfold wt
  induction s with
  | bot => simp
  | top => obtain rfl : m = ⊤ := top_le_iff.mp h; simp
  | coe r =>
    induction m with
    | bot => exact absurd h (by simp)
    | top => simp
    | coe t => rw [← EReal.coe_sub, Ideal.exp2_coe, EReal.toReal_coe]

/-- Weights are not negative. -/
theorem wt_nonneg {s m : EReal} (h : s ≤ m) : 0 ≤ wt s m := by
  unfold wt
  induction s with
  | bot => simp
  | top => obtain rfl : m = ⊤ := top_le_iff.mp h; simp
  | coe r =>
    induction m with
    | bot => exact absurd h (by simp)
    | top => simp
    | coe t => rw [← EReal.coe_sub, Ideal.exp2_coe, EReal.toReal_coe]; exact Real.rpow_nonneg (by norm_num) _

/-- Raising the maximum from `m` to `m'` multiplies a weight by the weight of `m` against `m'`. -/
theorem wt_mul {s m m' : EReal} (h : s ≤ m) (h' : m ≤ m') : wt s m * wt m m' = wt s m' := by
  unfold wt
  induction s with
  | bot => simp
  | top =>
    obtain rfl : m = ⊤ := top_le_iff.mp h
    obtain rfl : m' = ⊤ := top_le_iff.mp h'
    simp
  | coe r =>
    induction m with
    | bot => exact absurd h (by simp)
    | top => obtain rfl : m' = ⊤ := top_le_iff.mp h'; simp
    | coe t =>
      induction m' with
      | bot => exact absurd h' (by simp)
      | top => simp
      | coe u =>
        rw [← EReal.coe_sub, ← EReal.coe_sub, ← EReal.coe_sub]
        simp only [Ideal.exp2_coe, EReal.toReal_coe]
        rw [show Real.rpow 2 (r - t) = (2 : ℝ) ^ (r - t) from rfl, show Real.rpow 2 (t - u) = (2 : ℝ) ^ (t - u) from rfl,
          show Real.rpow 2 (r - u) = (2 : ℝ) ^ (r - u) from rfl, ← Real.rpow_add (by norm_num)]
        congr 1; ring

/-- The natural exponential of scores times log 2 is the power of two of the scores. -/
theorem exp_log_two (s m : EReal) :
    Ideal.exp (s * ((Real.log 2 : ℝ) : EReal) - m * ((Real.log 2 : ℝ) : EReal)) = Ideal.exp2 (s - m) := by
  have hl : (0 : ℝ) < Real.log 2 := Real.log_pos (by norm_num)
  induction s with
  | bot => rw [EReal.bot_mul_coe_of_pos hl]; simp
  | top =>
    rw [EReal.top_mul_coe_of_pos hl]
    induction m with
    | bot => rw [EReal.bot_mul_coe_of_pos hl]; simp
    | top => rw [EReal.top_mul_coe_of_pos hl]; simp
    | coe t => rw [← EReal.coe_mul]; simp [-EReal.coe_mul]
  | coe r =>
    induction m with
    | bot => rw [EReal.bot_mul_coe_of_pos hl, ← EReal.coe_mul]; simp [-EReal.coe_mul]
    | top => rw [EReal.top_mul_coe_of_pos hl, ← EReal.coe_mul]; simp [-EReal.coe_mul]
    | coe t =>
      rw [← EReal.coe_mul, ← EReal.coe_mul, ← EReal.coe_sub, ← EReal.coe_sub]
      simp only [Ideal.exp2_coe, Ideal.exp_coe]
      rw [show Real.rpow 2 (r - t) = (2 : ℝ) ^ (r - t) from rfl, Real.rpow_def_of_pos (by norm_num)]
      congr 2; ring

/-- A maximum of scores times log 2 is the maximum of the scores, times log 2. -/
theorem sup_mul_log {ι : Type} (S : Finset ι) (s : ι → EReal) :
    (S.sup fun k => s k * ((Real.log 2 : ℝ) : EReal)) = S.sup s * ((Real.log 2 : ℝ) : EReal) := by
  have hl : (0 : ℝ) < Real.log 2 := Real.log_pos (by norm_num)
  have hm : Monotone fun x : EReal => x * ((Real.log 2 : ℝ) : EReal) := fun a b hab =>
    mul_le_mul_of_nonneg_right hab (EReal.coe_nonneg.mpr hl.le)
  exact (Finset.comp_sup_eq_sup_comp_of_is_total _ hm (EReal.bot_mul_coe_of_pos hl)).symm

/-- A sum of reals, read in the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-! ## The rows by chunks of 1024 scores -/

/-- The running maximum after `n` chunks of the scores. -/
def runMax (s : ℕ → EReal) : ℕ → EReal
  | 0 => ⊥
  | n + 1 => max (runMax s n) (Finset.univ.fold max ⊥ fun i : Fin 1024 => s (1024 * n + i.val))

/-- The running weighted sum of `u` after `n` chunks: what was carried, rescaled to the new maximum, plus the chunk's. -/
def runSum (s u : ℕ → EReal) : ℕ → EReal
  | 0 => 0
  | n + 1 => runSum s u n * Ideal.exp2 (runMax s n - runMax s (n + 1))
      + ∑ i : Fin 1024, Ideal.exp2 (s (1024 * n + i.val) - runMax s (n + 1)) * u (1024 * n + i.val)

/-- A fold of `max` from the bottom is the supremum. -/
theorem fold_max_eq_sup {ι : Type} (S : Finset ι) (f : ι → EReal) : S.fold max ⊥ f = S.sup f := rfl

/-- The running maximum is the supremum of the scores met so far. -/
theorem runMax_eq (s : ℕ → EReal) (n : ℕ) : runMax s n = (Finset.range (1024 * n)).sup s := by
  induction n with
  | zero => simp [runMax]
  | succ n ih =>
    rw [runMax, ih, fold_max_eq_sup]
    apply le_antisymm
    · refine max_le (Finset.sup_mono (Finset.range_mono (by omega))) (Finset.sup_le fun i _ => ?_)
      exact Finset.le_sup (f := s) (Finset.mem_range.mpr (by have := i.isLt; omega))
    · refine Finset.sup_le fun k hk => ?_
      have hk := Finset.mem_range.mp hk
      by_cases h : k < 1024 * n
      · exact le_max_of_le_left (Finset.le_sup (f := s) (Finset.mem_range.mpr h))
      · refine le_max_of_le_right ?_
        have e : s k = (fun i : Fin 1024 => s (1024 * n + i.val)) ⟨k - 1024 * n, by omega⟩ := by
          show s k = s (1024 * n + (k - 1024 * n)); congr 1; omega
        rw [e]; exact Finset.le_sup (f := fun i : Fin 1024 => s (1024 * n + i.val)) (Finset.mem_univ _)

/-- The running sum is the sum of the scores' weights against the running maximum, times the reals `u`. -/
theorem runSum_eq (s : ℕ → EReal) (u : ℕ → ℝ) (n : ℕ) :
    runSum s (fun k => (u k : EReal)) n = ((∑ k ∈ Finset.range (1024 * n), wt (s k) (runMax s n) * u k : ℝ) : EReal) := by
  induction n with
  | zero => simp [runSum]
  | succ n ih =>
    have hmm : runMax s n ≤ runMax s (n + 1) := le_max_left _ _
    have hA : ∀ k ∈ Finset.range (1024 * n), s k ≤ runMax s n := fun k hk => by
      rw [runMax_eq]; exact Finset.le_sup (f := s) hk
    have hB : ∀ i : Fin 1024, s (1024 * n + i.val) ≤ runMax s (n + 1) := fun i => by
      rw [runMax_eq]; exact Finset.le_sup (f := s) (Finset.mem_range.mpr (by have := i.isLt; omega))
    have e : 1024 * (n + 1) = 1024 * n + 1024 := by ring
    have hc : ∑ i : Fin 1024, Ideal.exp2 (s (1024 * n + i.val) - runMax s (n + 1)) * ((u (1024 * n + i.val) : ℝ) : EReal)
        = ((∑ i : Fin 1024, wt (s (1024 * n + i.val)) (runMax s (n + 1)) * u (1024 * n + i.val) : ℝ) : EReal) := by
      rw [coe_sum]
      exact Finset.sum_congr rfl fun i _ => by rw [exp2_sub_eq (hB i), ← EReal.coe_mul]
    rw [runSum, ih, exp2_sub_eq hmm, ← EReal.coe_mul, hc, ← EReal.coe_add, e, Finset.sum_range_add, Finset.sum_mul,
      Finset.sum_range (n := 1024)]
    congr 2
    exact Finset.sum_congr rfl fun k hk => by rw [mul_right_comm, wt_mul (hA k hk) hmm]

/-! ## The two maps, their difference and its normalization -/

/-- The quotient of two reals by a divisor that is not zero is real. -/
theorem div_real {y : ℝ} (x : ℝ) (h : y ≠ 0) : Ideal.div (x : EReal) (y : EReal) = ((x / y : ℝ) : EReal) := by
  rw [Ideal.div_coe h, ← EReal.coe_mul]; congr 1; ring

/-- Zero divided by zero. -/
theorem div_zero_zero : Ideal.div ((0 : ℝ) : EReal) ((0 : ℝ) : EReal) = ⊥ := by
  unfold Ideal.div; simp

/-- A row of values divided by the root of its mean square: `K` values, `e` under the root. -/
def nrm (K e : EReal) (d : Fin 128 → EReal) (j : Fin 128) : EReal :=
  d j * Ideal.rsqrt (Ideal.div (∑ i, d i * d i) K + e)

/-- Whether an extended real is infinite. -/
def Inf (x : EReal) : Prop := x = ⊤ ∨ x = ⊥

/-- The square of an infinity. -/
theorem Inf.sq {x : EReal} (h : Inf x) : x * x = ⊤ := by
  rcases h with rfl | rfl <;> simp

/-- Squares are not negative. -/
theorem sq_nonneg' (x : EReal) : 0 ≤ x * x := by
  induction x with
  | bot => simp
  | top => simp
  | coe r => rw [← EReal.coe_mul]; exact EReal.coe_nonneg.mpr (mul_self_nonneg r)

/-- A row that is zero, or that has an infinite entry, normalizes to zero. -/
theorem nrm_zero {K e : ℝ} (hK : 0 < K) (d : Fin 128 → EReal) (j : Fin 128) (h : (∀ i, d i = 0) ∨ ∃ i, Inf (d i)) :
    nrm (K : EReal) (e : EReal) d j = 0 := by
  unfold nrm
  rcases h with h | ⟨i, hi⟩
  · rw [h j, zero_mul]
  · have hs : ∑ i, d i * d i = ⊤ := by
      refine top_le_iff.mp ?_
      rw [← hi.sq]
      exact Finset.single_le_sum (f := fun i => d i * d i) (fun i _ => sq_nonneg' _) (Finset.mem_univ i)
    have hd : Ideal.div ⊤ (K : EReal) = ⊤ := by
      rw [Ideal.div_coe hK.ne']; exact EReal.top_mul_coe_of_pos (by positivity)
    rw [hs, hd, EReal.top_add_coe, Ideal.rsqrt_top, mul_zero]

/-- A sum with an infinite term is infinite. -/
theorem Inf.sum {ι : Type} (S : Finset ι) (f : ι → EReal) {k : ι} (hk : k ∈ S) (h : Inf (f k)) : Inf (∑ k ∈ S, f k) := by
  classical
  have hadd : ∀ x y : EReal, Inf x → Inf (x + y) := by
    rintro x y (rfl | rfl)
    · induction y with
      | bot => right; simp
      | top => left; simp
      | coe r => left; simp
    · right; simp
  rw [← Finset.add_sum_erase S f hk]
  exact hadd _ _ h

/-- A real that is not zero times an infinity is infinite. -/
theorem Inf.mul {x : EReal} (h : Inf x) {r : ℝ} (hr : r ≠ 0) : Inf ((r : EReal) * x) := by
  rcases lt_or_gt_of_ne hr with hr | hr <;> rcases h with rfl | rfl
  · right; exact EReal.coe_mul_top_of_neg hr
  · left; exact EReal.coe_mul_bot_of_neg hr
  · left; exact EReal.coe_mul_top_of_pos hr
  · right; exact EReal.coe_mul_bot_of_pos hr

/-- The values gathered by a row of constant infinite coefficients: all zero, or one of them infinite. -/
theorem gather_inf {ι : Type} [Fintype ι] (v : ι → Fin 128 → ℝ) {x : EReal} (hx : Inf x) :
    (∀ j, ∑ k, (v k j : EReal) * x = 0) ∨ ∃ j, Inf (∑ k, (v k j : EReal) * x) := by
  by_cases h : ∀ k j, v k j = 0
  · left; intro j; simp [h]
  · right
    push Not at h
    obtain ⟨k, j, hkj⟩ := h
    exact ⟨j, Inf.sum _ _ (Finset.mem_univ k) (hx.mul hkj)⟩

/-- THE ROW: two rows of real weights `w₀`, `w₁` that are not negative, a real `lam` and real values `v`. Gathering the
    values by each row of weights, dividing by each row's sum and taking the difference of the two quotients, or dividing
    each weight by its row's sum, taking the difference of the two maps and gathering the values by it: the two
    normalized rows are the same, also where a row of weights sums to zero. -/
theorem row_eq {ι : Type} [Fintype ι] (w₀ w₁ : ι → ℝ) (h₀ : ∀ k, 0 ≤ w₀ k) (h₁ : ∀ k, 0 ≤ w₁ k) (lam : ℝ)
    (v : ι → Fin 128 → ℝ) {K e : ℝ} (hK : 0 < K) (j : Fin 128) :
    nrm (K : EReal) (e : EReal) (fun j => Ideal.div ((∑ k, w₀ k * v k j : ℝ) : EReal) ((∑ k, w₀ k : ℝ) : EReal)
        - (lam : EReal) * Ideal.div ((∑ k, w₁ k * v k j : ℝ) : EReal) ((∑ k, w₁ k : ℝ) : EReal)) j
      = nrm (K : EReal) (e : EReal) (fun j => ∑ k, (v k j : EReal) *
          (Ideal.div (w₀ k : EReal) ((∑ k, w₀ k : ℝ) : EReal)
            - (lam : EReal) * Ideal.div (w₁ k : EReal) ((∑ k, w₁ k : ℝ) : EReal))) j := by
  have hz : ∀ w : ι → ℝ, (∀ k, 0 ≤ w k) → ∑ k, w k = 0 → ∀ k, w k = 0 := fun w hw h k =>
    (Finset.sum_eq_zero_iff_of_nonneg fun k _ => hw k).mp h k (Finset.mem_univ k)
  by_cases L₀ : ∑ k, w₀ k = 0
  · have e₀ := hz w₀ h₀ L₀
    have eo : ∀ j, Ideal.div ((∑ k, w₀ k * v k j : ℝ) : EReal) ((∑ k, w₀ k : ℝ) : EReal) = ⊥ := fun j => by
      simp only [e₀, zero_mul, Finset.sum_const_zero]; exact div_zero_zero
    have ep : ∀ k, Ideal.div (w₀ k : EReal) ((∑ k, w₀ k : ℝ) : EReal) = ⊥ := fun k => by
      rw [L₀, e₀]; exact div_zero_zero
    simp only [eo, ep, sub_eq_add_neg, EReal.bot_add]
    rw [nrm_zero hK _ _ (Or.inr ⟨j, Or.inr rfl⟩), nrm_zero hK _ _ (gather_inf v (Or.inr rfl))]
  · by_cases L₁ : ∑ k, w₁ k = 0
    · have e₁ := hz w₁ h₁ L₁
      have eo : ∀ j, Ideal.div ((∑ k, w₁ k * v k j : ℝ) : EReal) ((∑ k, w₁ k : ℝ) : EReal) = ⊥ := fun j => by
        simp only [e₁, zero_mul, Finset.sum_const_zero]; exact div_zero_zero
      have ep : ∀ k, Ideal.div (w₁ k : EReal) ((∑ k, w₁ k : ℝ) : EReal) = ⊥ := fun k => by
        rw [L₁, e₁]; exact div_zero_zero
      simp only [eo, ep, div_real _ L₀]
      rcases eq_or_ne lam 0 with rfl | hl
      · congr 1
        funext j
        simp only [EReal.coe_zero, zero_mul, sub_zero, ← EReal.coe_mul, ← coe_sum]
        congr 1
        rw [Finset.sum_div]
        exact Finset.sum_congr rfl fun k _ => by ring
      · obtain ⟨x, hx, hs⟩ : ∃ x : EReal, Inf x ∧ ∀ r : ℝ, (r : EReal) - (lam : EReal) * ⊥ = x := by
          rcases lt_or_gt_of_ne hl with hl | hl
          · exact ⟨⊥, Or.inr rfl, fun r => by rw [EReal.coe_mul_bot_of_neg hl]; simp⟩
          · exact ⟨⊤, Or.inl rfl, fun r => by rw [EReal.coe_mul_bot_of_pos hl]; simp⟩
        simp only [hs]
        rw [nrm_zero hK _ _ (Or.inr ⟨j, hx⟩), nrm_zero hK _ _ (gather_inf v hx)]
    · congr 1
      funext j
      simp only [div_real _ L₀, div_real _ L₁, ← EReal.coe_mul, ← EReal.coe_sub, ← coe_sum]
      congr 1
      rw [Finset.sum_div, Finset.sum_div, Finset.mul_sum, ← Finset.sum_sub_distrib]
      exact Finset.sum_congr rfl fun k _ => by ring

end Cert.Attn

end
-- ==== Proof.SecondPayload.lean ====
/- The vector expressions of the second layer's attention read at one row and lane. A block's 256 query rows are stacked twice: rows
   below 256 of the stack keep the first 64 lanes of a query (the first attention map), the others the last 64 (the
   second map). -/
module

public import proofs.«01_k».proof.Proof.Gen.SecondIdeal.Skeleton
public import proofs.«01_k».proof.Proof.Softmax
public import Idealize.ShloMosaic.Lib.Pointwise

@[expose] public section

set_option maxRecDepth 16384

noncomputable section

namespace Cert.SecondIdeal.Attn

open Cert.SecondIdeal Cert.SecondIdeal.Gen Cert.Attn Idealize.ShloMosaic
open scoped BigOperators

/-- The query row under row `r` of the stack. -/
def qrow (r : Fin 512) : Fin 256 := ⟨r.val % 256, Nat.mod_lt _ (by norm_num)⟩

/-- The lanes of a query that the map of row `r` of the stack reads. -/
def qlane (r : Fin 512) (d : Fin 64) : Fin 128 :=
  ⟨64 * (r.val / 256) + d.val, by have := r.isLt; have := d.isLt; omega⟩

/-- The lanes below 64 are selected by the first mask. -/
theorem mask_lt (x : Fin 128) : IntOp.cmpi .slt (BitVec.ofNat 32 x.val) 64#32 = if x.val < 64 then 1#1 else 0#1 := by
  revert x; decide +kernel

/-- The lanes from 64 on are selected by the second mask. -/
theorem mask_ge (x : Fin 128) : IntOp.cmpi .sge (BitVec.ofNat 32 x.val) 64#32 = if x.val < 64 then 0#1 else 1#1 := by
  revert x; decide +kernel

/-- The word of minus infinity is the least extended real. -/
theorem neg_inf : Ideal.ofBits FTy.f32 4286578688#32 = (⊥ : EReal) := by
  simp [Ideal.ofBits, Ideal.ieee]

/-- A chunk's scores: only the map's own 64 lanes count. -/
theorem pay5_apply (v3 : Vec Ideal S256x128 .bf16) (v75 : Vec Ideal S1x128x1024 .bf16) (r : Fin 512) (i : Fin 1024) :
    k0_pay5 v3 v75 (ix2 r i) = ∑ d : Fin 64, v3 (ix2 (qrow r) (qlane r d)) * v75 (ix3 0 (qlane r d) i) := by
  pointwise [k0_pay5]
  rw [Fin.sum_univ_add (a := 64) (b := 64)]
  by_cases h : r.val < 256
  · simp only [h, dif_pos, mask_lt]
    have hd : r.val / 256 = 0 := by omega
    have h1 : ∀ d : Fin 64, Fin.castAdd 64 d = qlane r d := fun d => Fin.ext (by simp [qlane, hd])
    have h2 : (⟨r.val, h⟩ : Fin 256) = qrow r := Fin.ext (by simp [qrow]; omega)
    have hl : ∀ d : Fin 64, (qlane r d).val < 64 := fun d => by simp [qlane, hd]
    have hg : ∀ d : Fin 64, ¬ (Fin.natAdd 64 d).val < 64 := fun d => by simp
    simp [h1, h2, hl, hg, Scalar.select]
  · simp only [h, dif_neg, mask_ge, not_false_eq_true]
    have hd : r.val / 256 = 1 := by omega
    have h1 : ∀ d : Fin 64, Fin.natAdd 64 d = qlane r d := fun d => Fin.ext (by
      show 64 + d.val = 64 * (r.val / 256) + d.val
      rw [hd])
    have h2 : (⟨r.val - 256, by omega⟩ : Fin 256) = qrow r := Fin.ext (by simp [qrow]; omega)
    have hl : ∀ d : Fin 64, ¬ (qlane r d).val < 64 := fun d => by simp [qlane, hd]
    have hg : ∀ d : Fin 64, (Fin.castAdd 64 d).val < 64 := fun d => by simp
    simp only [h1, h2, hl, hg, Scalar.select, if_true, if_false]
    simp

/-- The running maximum after a chunk, when before it every lane of the row held `M`. -/
theorem pay6_apply (v3 : Vec Ideal S256x128 .bf16) (v75 : Vec Ideal S1x128x1024 .bf16) (v78 : Vec Ideal S512x128 .f32)
    (r : Fin 512) (M : EReal) (hM : ∀ l : Fin 128, v78 (ix2 r l) = M) (l : Fin 128) :
    k0_pay6 v3 v75 v78 (ix2 r l) = max M (Finset.univ.fold max ⊥ fun x : Fin 1024 => k0_pay5 v3 v75 (ix2 r x)) := by
  pointwise [k0_pay6]
  rw [hM, neg_inf]

/-- The same of the stored form. -/
theorem pay8_apply (v3 : Vec Ideal S256x128 .bf16) (v75 : Vec Ideal S1x128x1024 .bf16) (v78 : Vec Ideal S512x128 .f32)
    (r : Fin 512) (M : EReal) (hM : ∀ l : Fin 128, v78 (ix2 r l) = M) (l : Fin 128) :
    k0_pay8 v3 v75 v78 (ix2 r l) = max M (Finset.univ.fold max ⊥ fun x : Fin 1024 => k0_pay5 v3 v75 (ix2 r x)) := by
  rw [← pay6_apply v3 v75 v78 r M hM l]
  pointwise [k0_pay8]

/-- The accumulated sums after a chunk. -/
theorem pay7_apply (v3 : Vec Ideal S256x128 .bf16) (v75 : Vec Ideal S1x128x1024 .bf16) (v78 : Vec Ideal S512x128 .f32)
    (v90 : Vec Ideal S1024x256 .bf16) (v92 : Vec Ideal S512x256 .f32)
    (r : Fin 512) (M M' : EReal) (hM : ∀ l : Fin 128, v78 (ix2 r l) = M)
    (hM' : max M (Finset.univ.fold max ⊥ fun x : Fin 1024 => k0_pay5 v3 v75 (ix2 r x)) = M') (j : Fin 256) :
    k0_pay7 v3 v75 v78 v90 v92 (ix2 r j) =
      v92 (ix2 r j) * Ideal.exp2 (M - M') + ∑ x : Fin 1024, Ideal.exp2 (k0_pay5 v3 v75 (ix2 r x) - M') * v90 (ix2 x j) := by
  have h6 : ∀ l : Fin 128, k0_pay6 v3 v75 v78 (ix2 r l) = M' := fun l => (pay6_apply v3 v75 v78 r M hM l).trans hM'
  pointwise [k0_pay7]
  simp only [h6, hM, dite_eq_ite, ite_self]
  rfl

/-- The running maximum starts at the least extended real. -/
theorem pay3_apply (r : Fin 512) (l : Fin 128) : (k0_pay3 : FVec Ideal S512x128 .f32) (ix2 r l) = ⊥ := by
  pointwise [k0_pay3]
  exact neg_inf

/-- The sums start at zero. -/
theorem pay4_apply (r : Fin 512) (j : Fin 256) : (k0_pay4 : FVec Ideal S512x256 .f32) (ix2 r j) = 0 := by
  pointwise [k0_pay4]

/-- The values kept beside the ones: a copy. -/
theorem pay1_apply (v72 : Vec Ideal S8192x128 .bf16) (k : Fin 8192) (l : Fin 128) : k0_pay1 v72 (ix2 k l) = v72 (ix2 k l) := by
  pointwise [k0_pay1]

/-- The ones kept beside the values. -/
theorem pay2_apply (k : Fin 8192) (l : Fin 128) : (k0_pay2 : FVec Ideal S8192x128 .bf16) (ix2 k l) = 1 := by
  pointwise [k0_pay2]

/-- The weighted sum of the values over the sum of the weights. -/
theorem pay9_apply (v22 : Vec Ideal S512x256 .f32) (r : Fin 512) (l : Fin 128) :
    k0_pay9 v22 (ix2 r l) = Ideal.div (v22 (ix2 r ⟨l.val, by omega⟩)) (v22 (ix2 r ⟨128 + l.val, by omega⟩)) := by
  pointwise [k0_pay9]

/-- The product of two of the small vectors. -/
theorem pay10_apply (v26 v27 : Vec Ideal S1x64 .f32) (l : Fin 64) : k0_pay10 v26 v27 (ix2 0 l) = v26 (ix2 0 l) * v27 (ix2 0 l) := by
  pointwise [k0_pay10]

/-- The difference of the two maps' results at a row, weighted by `lam`. -/
def diff (v25 : FVec Ideal S512x128 .f32) (lam : EReal) (r : Fin 256) (l : Fin 128) : EReal :=
  v25 (ix2 ⟨r.val, by omega⟩ l) - lam * v25 (ix2 ⟨256 + r.val, by omega⟩ l)

/-- The weight of the second map. -/
def lamOf (x4 x5 x6 x7 : Vec Ideal S1x64 .f32) : EReal :=
  Ideal.exp (∑ x : Fin 64, x4 (ix2 0 x) * x5 (ix2 0 x)) - Ideal.exp (∑ x : Fin 64, x6 (ix2 0 x) * x7 (ix2 0 x)) + Ideal.ofBits FTy.f32 1052116297#32

/-- The block stored: the difference normalized, scaled and gated. -/
theorem pay11_apply (v25 : FVec Ideal S512x128 .f32) (x4 x5 x6 x7 : Vec Ideal S1x64 .f32) (v56 : Vec Ideal S1x128 .f32) (v61 : Vec Ideal S256x128 .bf16) (r : Fin 256) (l : Fin 128) :
    k0_pay11 v25 (k0_pay10 x4 x5) x6 x7 v56 v61 (ix2 r l) =
      nrm (Ideal.ofBits FTy.f32 1124073472#32) (Ideal.ofBits FTy.f32 897988541#32) (fun i => diff v25 (lamOf x4 x5 x6 x7) r i) l
        * v56 (ix2 0 l) * Ideal.ofBits FTy.f32 1059388764#32 * Ideal.div (v61 (ix2 r l)) (1 + Ideal.exp (0 - v61 (ix2 r l))) := by
  pointwise [k0_pay11]
  simp only [pay10_apply]
  rfl

end Cert.SecondIdeal.Attn

end
-- ==== Proof.SecondLoop.lean ====
/- The second layer's attention: the kernel's loop over the chunks of the keys: the contents of its two scratch buffers after every chunk. -/
module

public import proofs.«01_k».proof.Proof.Gen.SecondIdeal.Value
public import proofs.«01_k».proof.Proof.Gen.SecondIdeal.Frame
public import proofs.«01_k».proof.Proof.SecondPayload
public import Idealize.ShloMosaic.Lib.VecWindow
public import Idealize.ShloMosaic.Lib.Pipeline.ValueKit.Tiles

@[expose] public section

noncomputable section

namespace Cert.SecondIdeal.Attn

open Cert.SecondIdeal Cert.SecondIdeal.Gen Idealize.ShloMosaic Idealize.ShloMosaic.TcCoe Idealize.SL.Sem
open Cert.Attn
open scoped BigOperators

variable {F : FTy → Type} [FloatOps F]

/-- Chunk `n` of the transposed keys. -/
def chK (kt : Vec F S1x128x8192 .bf16) (n : ℕ) : Vec F S1x128x1024 .bf16 :=
  fun j => kt (ix3 0 (j 1) ⟨(1024 * n + (j 2).val) % 8192, Nat.mod_lt _ (by norm_num)⟩)

/-- Chunk `n` of the values and the ones beside them. -/
def chV (xs : Vec F S8192x256 .bf16) (n : ℕ) : Vec F S1024x256 .bf16 :=
  fun j => xs (ix2 ⟨(1024 * n + (j 0).val) % 8192, Nat.mod_lt _ (by norm_num)⟩ (j 1))

/-- The running maximum and the accumulated sums after `n` chunks. -/
def st (q : Vec F S256x128 .bf16) (kt : Vec F S1x128x8192 .bf16) (xs : Vec F S8192x256 .bf16) :
    ℕ → Vec F S512x128 .f32 × Vec F S512x256 .f32
  | 0 => (k0_pay3, k0_pay4)
  | n + 1 => (k0_pay8 q (chK kt n) (st q kt xs n).1, k0_pay7 q (chK kt n) (st q kt xs n).1 (chV xs n) (st q kt xs n).2)

/-- The loop makes eight trips. -/
theorem trips_eq : k0_t1_loop.trips = 8 := by decide +kernel

/-- A trip's two stores, of what it reads. -/
theorem trip_eq (𝒱 : Variants) (c : Dev nD) (bd : Option 𝒱.V) (i : grid0.Coords) (a3 : Memref sig .tc .vmem S256x128 .bf16) (h3 : a3.IsWhole) (a4 : Memref sig .tc .vmem S1x128x8192 .bf16) (h4 : a4.IsWhole) (a5 : Memref sig .tc .vmem S8192x128 .bf16) (h5 : a5.IsWhole) (a6 : Memref sig .tc .vmem S256x128 .bf16) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x128 .f32) (h11 : a11.IsWhole) (a12 : Memref sig .tc .vmem S256x128 .bf16) (h12 : a12.IsWhole) (a13 : Memref sig .tc .vmem S8192x256 .bf16) (h13 : a13.IsWhole) (a14 : Memref sig .tc .vmem S512x128 .f32) (h14 : a14.IsWhole) (a15 : Memref sig .tc .vmem S512x256 .f32) (h15 : a15.IsWhole) (v3 : Vec F S256x128 .bf16) (X4 : BufTy.Contents (Elt F) a4.view.ty) (X13 : BufTy.Contents (Elt F) a13.view.ty) (k : Fin k0_t1_loop.trips) (f14 : BufTy.Contents (Elt F) a14.view.ty) (f15 : BufTy.Contents (Elt F) a15.view.ty) :
    tripL_k0_t1 𝒱 c bd i a3 h3 a4 h4 a5 h5 a6 h6 a7 h7 a8 h8 a9 h9 a10 h10 a11 h11 a12 h12 a13 h13 a14 h14 a15 h15 v3 X4 X13 k f14 f15 =
      ([⟨Rect.unit ![0, 0] S512x128.size inb_S512x128_S512x128_0_0, k0_pay8 v3 (chK (a4.view.read (Elt F) X4) k.val) (a14.view.read (Elt F) f14)⟩],
       [⟨Rect.unit ![0, 0] S512x256.size inb_S512x256_S512x256_0_0, k0_pay7 v3 (chK (a4.view.read (Elt F) X4) k.val) (a14.view.read (Elt F) f14) (chV (a13.view.read (Elt F) X13) k.val) (a15.view.read (Elt F) f15)⟩]) := by
  have e4 : a4.view.readAt (Elt F) (Rect.unit (s := S1x128x8192) (k0_off1 k) S1x128x1024.size (k0_off1_inb k)).toLoadRect X4 = chK (a4.view.read (Elt F) X4) k.val := by
    rw [View.readAt_eq_ld]
    funext j
    refine View.ld_unit_apply_of _ _ _ _ j _ fun b => ?_
    have hk : k.val < 8 := trips_eq ▸ k.isLt
    have h2 : (j 2).val < 1024 := (j 2).isLt
    have h0 : (j 0).val < 1 := (j 0).isLt
    have ho := k0_off1_eq k
    match b with
    | ⟨0, _⟩ => show 0 = k0_off1 k 0 + (j 0).val; rw [show k0_off1 k 0 = 0 from congrFun ho 0]; omega
    | ⟨1, _⟩ => show (j 1).val = k0_off1 k 1 + (j 1).val; rw [show k0_off1 k 1 = 0 from congrFun ho 1]; omega
    | ⟨2, _⟩ => show (1024 * k.val + (j 2).val) % 8192 = k0_off1 k 2 + (j 2).val; rw [show k0_off1 k 2 = 1024 * k.val from congrFun ho 2]; omega
  have e13 : a13.view.readAt (Elt F) (Rect.unit (s := S8192x256) (k0_off2 k) S1024x256.size (k0_off2_inb k)).toLoadRect X13 = chV (a13.view.read (Elt F) X13) k.val := by
    rw [View.readAt_eq_ld]
    funext j
    refine View.ld_unit_apply_of _ _ _ _ j _ fun b => ?_
    have hk : k.val < 8 := trips_eq ▸ k.isLt
    have h0 : (j 0).val < 1024 := (j 0).isLt
    have ho := k0_off2_eq k
    match b with
    | ⟨0, _⟩ => show (1024 * k.val + (j 0).val) % 8192 = k0_off2 k 0 + (j 0).val; rw [show k0_off2 k 0 = 1024 * k.val from congrFun ho 0]; omega
    | ⟨1, _⟩ => show (j 1).val = k0_off2 k 1 + (j 1).val; rw [show k0_off2 k 1 = 0 from congrFun ho 1]; omega
  have e14 : a14.view.readAt (Elt F) (Rect.unit ![0, 0] S512x128.size inb_S512x128_S512x128_0_0).toLoadRect f14 = a14.view.read (Elt F) f14 := by
    rw [View.readAt_eq_ld]; exact View.ld_unit_lit _ _ (by decide)
  have e15 : a15.view.readAt (Elt F) (Rect.unit ![0, 0] S512x256.size inb_S512x256_S512x256_0_0).toLoadRect f15 = a15.view.read (Elt F) f15 := by
    rw [View.readAt_eq_ld]; exact View.ld_unit_lit _ _ (by decide)
  rw [← e4, ← e13, ← e14, ← e15]
  unfold tripL_k0_t1 trip_k0_t1
  dsimp only

/-- After `n` chunks the two scratch buffers hold the running maximum and the accumulated sums. -/
theorem loop_read (𝒱 : Variants) (c : Dev nD) (bd : Option 𝒱.V) (i : grid0.Coords) (a3 : Memref sig .tc .vmem S256x128 .bf16) (h3 : a3.IsWhole) (a4 : Memref sig .tc .vmem S1x128x8192 .bf16) (h4 : a4.IsWhole) (a5 : Memref sig .tc .vmem S8192x128 .bf16) (h5 : a5.IsWhole) (a6 : Memref sig .tc .vmem S256x128 .bf16) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x128 .f32) (h11 : a11.IsWhole) (a12 : Memref sig .tc .vmem S256x128 .bf16) (h12 : a12.IsWhole) (a13 : Memref sig .tc .vmem S8192x256 .bf16) (h13 : a13.IsWhole) (a14 : Memref sig .tc .vmem S512x128 .f32) (h14 : a14.IsWhole) (a15 : Memref sig .tc .vmem S512x256 .f32) (h15 : a15.IsWhole) (v3 : Vec F S256x128 .bf16) (X4 : BufTy.Contents (Elt F) a4.view.ty) (X13 : BufTy.Contents (Elt F) a13.view.ty)
    (G14 : BufTy.Contents (Elt F) a14.view.ty) (G15 : BufTy.Contents (Elt F) a15.view.ty)
    (e14 : a14.view.read (Elt F) G14 = k0_pay3) (e15 : a15.view.read (Elt F) G15 = k0_pay4) (n : ℕ) (hn : n ≤ k0_t1_loop.trips) :
    a14.view.read (Elt F) (a14.view.writes (Elt F) G14 (pb_k0_t1 𝒱 c bd i a3 h3 a4 h4 a5 h5 a6 h6 a7 h7 a8 h8 a9 h9 a10 h10 a11 h11 a12 h12 a13 h13 a14 h14 a15 h15 v3 X4 X13 G14 G15 n).1) = (st v3 (a4.view.read (Elt F) X4) (a13.view.read (Elt F) X13) n).1 ∧
    a15.view.read (Elt F) (a15.view.writes (Elt F) G15 (pb_k0_t1 𝒱 c bd i a3 h3 a4 h4 a5 h5 a6 h6 a7 h7 a8 h8 a9 h9 a10 h10 a11 h11 a12 h12 a13 h13 a14 h14 a15 h15 v3 X4 X13 G14 G15 n).2) = (st v3 (a4.view.read (Elt F) X4) (a13.view.read (Elt F) X13) n).2 := by
  induction n with
  | zero => exact ⟨e14, e15⟩
  | succ n ih =>
    obtain ⟨i14, i15⟩ := ih (Nat.le_of_succ_le hn)
    have e := pb_k0_t1_succ 𝒱 c bd i a3 h3 a4 h4 a5 h5 a6 h6 a7 h7 a8 h8 a9 h9 a10 h10 a11 h11 a12 h12 a13 h13 a14 h14 a15 h15 v3 X4 X13 G14 G15 ⟨n, hn⟩
    rw [trip_eq] at e
    dsimp only at e
    rw [e, i14, i15]
    exact ⟨View.read_writes_full _ _ _ _ _, View.read_writes_full _ _ _ _ _⟩

/-- The sums read after the loop. -/
theorem loop_readCov (𝒱 : Variants) (c : Dev nD) (bd : Option 𝒱.V) (i : grid0.Coords) (a3 : Memref sig .tc .vmem S256x128 .bf16) (h3 : a3.IsWhole) (a4 : Memref sig .tc .vmem S1x128x8192 .bf16) (h4 : a4.IsWhole) (a5 : Memref sig .tc .vmem S8192x128 .bf16) (h5 : a5.IsWhole) (a6 : Memref sig .tc .vmem S256x128 .bf16) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x128 .f32) (h11 : a11.IsWhole) (a12 : Memref sig .tc .vmem S256x128 .bf16) (h12 : a12.IsWhole) (a13 : Memref sig .tc .vmem S8192x256 .bf16) (h13 : a13.IsWhole) (a14 : Memref sig .tc .vmem S512x128 .f32) (h14 : a14.IsWhole) (a15 : Memref sig .tc .vmem S512x256 .f32) (h15 : a15.IsWhole) (v3 : Vec F S256x128 .bf16) (X4 : BufTy.Contents (Elt F) a4.view.ty) (X13 : BufTy.Contents (Elt F) a13.view.ty)
    (G14 : BufTy.Contents (Elt F) a14.view.ty) (e14 : a14.view.read (Elt F) G14 = k0_pay3) {inb : _} {inb' : _} (n : ℕ) (hn : n = k0_t1_loop.trips) :
    a15.view.readCov ((pb_k0_t1 𝒱 c bd i a3 h3 a4 h4 a5 h5 a6 h6 a7 h7 a8 h8 a9 h9 a10 h10 a11 h11 a12 h12 a13 h13 a14 h14 a15 h15 v3 X4 X13 G14 (a15.view.writes (Elt F) a15.view.junk [⟨Rect.unit ![0, 0] S512x256.size inb, k0_pay4⟩]) n).2 ++ [⟨Rect.unit ![0, 0] S512x256.size inb, k0_pay4⟩])
      (Rect.unit (s := S512x256) ![0, 0] S512x256.size inb').toLoadRect = (st v3 (a4.view.read (Elt F) X4) (a13.view.read (Elt F) X13) 8).2 := by
  unfold View.readCov
  rw [View.readAt_eq_ld, View.writes_append, View.ld_unit_lit _ _ (by decide)]
  rw [(loop_read 𝒱 c bd i a3 h3 a4 h4 a5 h5 a6 h6 a7 h7 a8 h8 a9 h9 a10 h10 a11 h11 a12 h12 a13 h13 a14 h14 a15 h15 v3 X4 X13 G14 _ e14 (View.read_writes_full _ _ _ _ _) n hn.le).2, hn, trips_eq]

/-! ## The loop's values over the extended reals -/

/-- The base-two score of key `k` for row `r` of the stack. -/
def score (q : Vec Ideal S256x128 .bf16) (kt : Vec Ideal S1x128x8192 .bf16) (r : Fin 512) (k : ℕ) : EReal :=
  ∑ d : Fin 64, q (ix2 (qrow r) (qlane r d)) * kt (ix3 0 (qlane r d) ⟨k % 8192, Nat.mod_lt _ (by norm_num)⟩)

/-- Column `j` of the values and the ones beside them, by key. -/
def col (xs : Vec Ideal S8192x256 .bf16) (j : Fin 256) (k : ℕ) : EReal :=
  xs (ix2 ⟨k % 8192, Nat.mod_lt _ (by norm_num)⟩ j)

/-- The scratch buffers hold the running maximum of the scores, and the sums of the values by their weights. -/
theorem st_apply (q : Vec Ideal S256x128 .bf16) (kt : Vec Ideal S1x128x8192 .bf16) (xs : Vec Ideal S8192x256 .bf16) (r : Fin 512) (n : ℕ) :
    (∀ l : Fin 128, (st q kt xs n).1 (ix2 r l) = runMax (score q kt r) n) ∧
    (∀ j : Fin 256, (st q kt xs n).2 (ix2 r j) = runSum (score q kt r) (col xs j) n) := by
  have h5 : ∀ n (x : Fin 1024), k0_pay5 q (chK kt n) (ix2 r x) = score q kt r (1024 * n + x.val) := fun n x => pay5_apply _ _ _ _
  induction n with
  | zero => exact ⟨fun l => pay3_apply r l, fun j => pay4_apply r j⟩
  | succ n ih =>
    have hM : max (runMax (score q kt r) n) (Finset.univ.fold max ⊥ fun x : Fin 1024 => k0_pay5 q (chK kt n) (ix2 r x)) = runMax (score q kt r) (n + 1) := by
      simp only [h5]; rfl
    refine ⟨fun l => ?_, fun j => ?_⟩
    · exact (pay8_apply q (chK kt n) _ r _ ih.1 l).trans hM
    · refine (pay7_apply q (chK kt n) _ (chV xs n) _ r _ _ ih.1 hM j).trans ?_
      rw [ih.2 j]
      simp only [h5]
      rfl

end Cert.SecondIdeal.Attn

end
-- ==== Proof.SecondBlock.lean ====
/- The second layer's attention: what a grid point of the kernel stores, as one function of the blocks it reads. -/
module

public import proofs.«01_k».proof.Proof.Gen.SecondIdeal.Value
public import proofs.«01_k».proof.Proof.Gen.SecondIdeal.Frame
public import proofs.«01_k».proof.Proof.SecondLoop
public import Idealize.ShloMosaic.Lib.WritesUnit
public import Idealize.ShloMosaic.Lib.Pipeline.ValueKit.Basic

@[expose] public section

noncomputable section

namespace Cert.SecondIdeal.Attn

open Cert.SecondIdeal Cert.SecondIdeal.Gen Idealize.ShloMosaic Idealize.ShloMosaic.TcCoe Idealize.SL.Sem
open Cert.Attn
open scoped BigOperators

variable {F : FTy → Type} [FloatOps F]

/-- A load of a whole buffer reads its contents. -/
theorem readAt_unread {sp : Space} {s : Shape} {e : EltTy} (a : Memref sig .tc sp s e) (h : a.IsWhole) (x : s.Idx → Elt F e) {off : Fin s.rank → ℕ}
    (inb : ∀ b, off b + s.size b ≤ s.size b) (h0 : ∀ b, off b = 0) :
    a.view.readAt (Elt F) (Rect.unit off s.size inb).toLoadRect (h.unread x) = x := by
  rw [View.readAt_eq_ld, h.read_unread, View.ld_unit_lit _ _ h0]

/-- The values beside a block of ones: what the first query block of a head stores, and the others reuse. -/
def vones (x2 : Vec F S8192x128 .bf16) : Vec F S8192x256 .bf16 :=
  fun j => if h : (j 1).val < 128 then k0_pay1 x2 (ix2 (j 0) ⟨(j 1).val, h⟩)
    else k0_pay2 (ix2 (j 0) ⟨(j 1).val - 128, by have := (j 1).isLt; change _ < 256 at this; omega⟩)

/-- The two stores of the values and the ones, read back. -/
theorem vones_read {sp : Space} (v : View sig .tc sp S8192x256 .bf16) (f : BufTy.Contents (Elt F) v.ty) (x2 : Vec F S8192x128 .bf16) {inb : _} {inb' : _} :
    v.read (Elt F) (v.writes (Elt F) f
      [⟨Rect.unit (s := S8192x256) ![0, 128] S8192x128.size inb, k0_pay2⟩, ⟨Rect.unit ![0, 0] S8192x128.size inb', k0_pay1 x2⟩]) = vones x2 := by
  funext j
  have hj : (j 1).val < 256 := (j 1).isLt
  unfold vones
  by_cases h : (j 1).val < 128
  · rw [dif_pos h]
    refine (View.read_writes_cons_unit_of_not_mem v f inb k0_pay2 _ j rfl 1 (Or.inl h)).trans ?_
    refine View.read_writes_cons_unit_of_mem v f inb' (k0_pay1 x2) [] j (ix2 (j 0) ⟨(j 1).val, h⟩) rfl fun b => ?_
    match b with
    | ⟨0, _⟩ => show (j 0).val = 0 + (j 0).val; omega
    | ⟨1, _⟩ => show (j 1).val = 0 + (j 1).val; omega
  · rw [dif_neg h]
    refine View.read_writes_cons_unit_of_mem v f inb k0_pay2 _ j (ix2 (j 0) ⟨(j 1).val - 128, by omega⟩) rfl fun b => ?_
    match b with
    | ⟨0, _⟩ => show (j 0).val = 0 + (j 0).val; omega
    | ⟨1, _⟩ => show (j 1).val = 128 + ((j 1).val - 128); omega

/-- The block a point stores, from its inputs and the values kept beside the ones. -/
def blk (x0 : Vec F S256x128 .bf16) (x1 : Vec F S1x128x8192 .bf16) (xs : Vec F S8192x256 .bf16) (x3 : Vec F S256x128 .bf16) (x4 : Vec F S1x64 .f32) (x5 : Vec F S1x64 .f32) (x6 : Vec F S1x64 .f32) (x7 : Vec F S1x64 .f32) (x8 : Vec F S1x128 .f32) : Vec F S256x128 .bf16 :=
  k0_pay11 (k0_pay9 (st x0 x1 xs 8).2) (k0_pay10 x4 x5) x6 x7 x8 x3

/-- A later query block of a head reuses the values kept beside the ones. -/
theorem out_B (c : Dev nD) (i : grid0.Coords) (a3 : Memref sig .tc .vmem S256x128 .bf16) (h3 : a3.IsWhole) (a4 : Memref sig .tc .vmem S1x128x8192 .bf16) (h4 : a4.IsWhole) (a5 : Memref sig .tc .vmem S8192x128 .bf16) (h5 : a5.IsWhole) (a6 : Memref sig .tc .vmem S256x128 .bf16) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x128 .f32) (h11 : a11.IsWhole) (a12 : Memref sig .tc .vmem S256x128 .bf16) (h12 : a12.IsWhole) (a13 : Memref sig .tc .vmem S8192x256 .bf16) (h13 : a13.IsWhole) (a14 : Memref sig .tc .vmem S512x128 .f32) (h14 : a14.IsWhole) (a15 : Memref sig .tc .vmem S512x256 .f32) (h15 : a15.IsWhole) (hc : ¬cond0_0 i)
    (x0 : Vec F S256x128 .bf16) (x1 : Vec F S1x128x8192 .bf16) (x2 : Vec F S8192x128 .bf16) (x3 : Vec F S256x128 .bf16) (x4 : Vec F S1x64 .f32) (x5 : Vec F S1x64 .f32) (x6 : Vec F S1x64 .f32) (x7 : Vec F S1x64 .f32) (x8 : Vec F S1x128 .f32) (xs : Vec F S8192x256 .bf16) :
    out0_B_9 c i a3 h3 a4 h4 a5 h5 a6 h6 a7 h7 a8 h8 a9 h9 a10 h10 a11 h11 a12 h12 a13 h13 a14 h14 a15 h15 hc x0 x1 x2 x3 x4 x5 x6 x7 x8 xs = blk x0 x1 xs x3 x4 x5 x6 x7 x8 := by
  unfold out0_B_9
  rw [View.read_writes_eq_canon _ _ _ (cover0_B_9 c i a3 h3 a4 h4 a5 h5 a6 h6 a7 h7 a8 h8 a9 h9 a10 h10 a11 h11 a12 h12 a13 h13 a14 h14 a15 h15 hc x0 x1 x2 x3 x4 x5 x6 x7 x8 xs)]
  unfold kernelRun0_B
  dsimp only
  sl_unfold_words
  refine (View.canon_cons_unit_lit _ _ _ (by decide)).trans ?_
  rw [readAt_unread a3 h3 _ _ (by decide), readAt_unread a6 h6 _ _ (by decide), readAt_unread a7 h7 _ _ (by decide), readAt_unread a8 h8 _ _ (by decide),
    readAt_unread a9 h9 _ _ (by decide), readAt_unread a10 h10 _ _ (by decide), readAt_unread a11 h11 _ _ (by decide),
    loop_readCov Variants.none c none i a3 h3 a4 h4 a5 h5 a6 h6 a7 h7 a8 h8 a9 h9 a10 h10 a11 h11 a12 h12 a13 h13 a14 h14 a15 h15 x0 (h4.unread x1) (h13.unread xs) _ (View.read_writes_full _ _ _ _ _) _ rfl, h4.read_unread, h13.read_unread]
  rfl

/-- The first query block of a head keeps the values beside the ones, and uses them. -/
theorem out_A (c : Dev nD) (i : grid0.Coords) (a3 : Memref sig .tc .vmem S256x128 .bf16) (h3 : a3.IsWhole) (a4 : Memref sig .tc .vmem S1x128x8192 .bf16) (h4 : a4.IsWhole) (a5 : Memref sig .tc .vmem S8192x128 .bf16) (h5 : a5.IsWhole) (a6 : Memref sig .tc .vmem S256x128 .bf16) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x128 .f32) (h11 : a11.IsWhole) (a12 : Memref sig .tc .vmem S256x128 .bf16) (h12 : a12.IsWhole) (a13 : Memref sig .tc .vmem S8192x256 .bf16) (h13 : a13.IsWhole) (a14 : Memref sig .tc .vmem S512x128 .f32) (h14 : a14.IsWhole) (a15 : Memref sig .tc .vmem S512x256 .f32) (h15 : a15.IsWhole) (hc : cond0_0 i)
    (x0 : Vec F S256x128 .bf16) (x1 : Vec F S1x128x8192 .bf16) (x2 : Vec F S8192x128 .bf16) (x3 : Vec F S256x128 .bf16) (x4 : Vec F S1x64 .f32) (x5 : Vec F S1x64 .f32) (x6 : Vec F S1x64 .f32) (x7 : Vec F S1x64 .f32) (x8 : Vec F S1x128 .f32) :
    out0_A_9 c i a3 h3 a4 h4 a5 h5 a6 h6 a7 h7 a8 h8 a9 h9 a10 h10 a11 h11 a12 h12 a13 h13 a14 h14 a15 h15 hc x0 x1 x2 x3 x4 x5 x6 x7 x8 = blk x0 x1 (vones x2) x3 x4 x5 x6 x7 x8 := by
  unfold out0_A_9
  rw [View.read_writes_eq_canon _ _ _ (cover0_A_9 c i a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  refine (View.canon_cons_unit_lit _ _ _ (by decide)).trans ?_
  rw [readAt_unread a3 h3 _ _ (by decide), readAt_unread a6 h6 _ _ (by decide), readAt_unread a7 h7 _ _ (by decide), readAt_unread a8 h8 _ _ (by decide),
    readAt_unread a9 h9 _ _ (by decide), readAt_unread a10 h10 _ _ (by decide), readAt_unread a11 h11 _ _ (by decide), readAt_unread a5 h5 _ _ (by decide),
    loop_readCov Variants.none c none i a3 h3 a4 h4 a5 h5 a6 h6 a7 h7 a8 h8 a9 h9 a10 h10 a11 h11 a12 h12 a13 h13 a14 h14 a15 h15 x0 (h4.unread x1) _ _ (View.read_writes_full _ _ _ _ _) _ rfl, h4.read_unread, vones_read]
  rfl

/-- What the first query block of a head keeps. -/
theorem sout_A (c : Dev nD) (i : grid0.Coords) (a3 : Memref sig .tc .vmem S256x128 .bf16) (h3 : a3.IsWhole) (a4 : Memref sig .tc .vmem S1x128x8192 .bf16) (h4 : a4.IsWhole) (a5 : Memref sig .tc .vmem S8192x128 .bf16) (h5 : a5.IsWhole) (a6 : Memref sig .tc .vmem S256x128 .bf16) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x128 .f32) (h11 : a11.IsWhole) (a12 : Memref sig .tc .vmem S256x128 .bf16) (h12 : a12.IsWhole) (a13 : Memref sig .tc .vmem S8192x256 .bf16) (h13 : a13.IsWhole) (a14 : Memref sig .tc .vmem S512x128 .f32) (h14 : a14.IsWhole) (a15 : Memref sig .tc .vmem S512x256 .f32) (h15 : a15.IsWhole) (hc : cond0_0 i)
    (x0 : Vec F S256x128 .bf16) (x1 : Vec F S1x128x8192 .bf16) (x2 : Vec F S8192x128 .bf16) (x3 : Vec F S256x128 .bf16) (x4 : Vec F S1x64 .f32) (x5 : Vec F S1x64 .f32) (x6 : Vec F S1x64 .f32) (x7 : Vec F S1x64 .f32) (x8 : Vec F S1x128 .f32) :
    sout0_A_0 c i a3 h3 a4 h4 a5 h5 a6 h6 a7 h7 a8 h8 a9 h9 a10 h10 a11 h11 a12 h12 a13 h13 a14 h14 a15 h15 hc x0 x1 x2 x3 x4 x5 x6 x7 x8 = vones x2 := by
  unfold sout0_A_0 kernelRun0_A
  dsimp only
  sl_unfold_words
  rw [readAt_unread a5 h5 _ _ (by decide)]
  exact vones_read _ _ _

end Cert.SecondIdeal.Attn

end
-- ==== Proof.SecondArray.lean ====
/- The second layer's attention: the kernel's result array, element by element. -/
module

public import proofs.«01_k».proof.Proof.Gen.SecondIdeal.Value
public import proofs.«01_k».proof.Proof.Gen.SecondIdeal.Frame
public import proofs.«01_k».proof.Proof.SecondBlock

@[expose] public section

noncomputable section

namespace Cert.SecondIdeal.Attn

open Cert.SecondIdeal Cert.SecondIdeal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

/-- Grid point `t`'s block of rows, over the queries, the gates and the result. -/
def prow (t : ℕ) : ℕ := t / 128 * 32 + t % 32

/-- Grid point `t`'s head. -/
def phead (t : ℕ) : ℕ := t / 32 % 4

/-- Which block of the queries a grid point reads or writes. -/
theorem idx0 : ∀ t : Fin grid0.N, win0_0.index t 0 = prow t.val ∧ win0_0.index t 1 = phead t.val := by decide +kernel
/-- Which block of the keys a grid point reads or writes. -/
theorem idx1 : ∀ t : Fin grid0.N, win0_1.index t 0 = t.val / 128 ∧ win0_1.index t 1 = phead t.val ∧ win0_1.index t 2 = 0 := by decide +kernel
/-- Which block of the values a grid point reads or writes. -/
theorem idx2 : ∀ t : Fin grid0.N, win0_2.index t 0 = t.val / 128 ∧ win0_2.index t 1 = phead t.val := by decide +kernel
/-- Which block of the gates a grid point reads or writes. -/
theorem idx3 : ∀ t : Fin grid0.N, win0_3.index t 0 = prow t.val ∧ win0_3.index t 1 = phead t.val := by decide +kernel
/-- Which block of the first vector of the factor a grid point reads or writes. -/
theorem idx4 : ∀ t : Fin grid0.N, win0_4.index t 0 = 0 ∧ win0_4.index t 1 = 0 := by decide +kernel
/-- Which block of the second vector of the factor a grid point reads or writes. -/
theorem idx5 : ∀ t : Fin grid0.N, win0_5.index t 0 = 0 ∧ win0_5.index t 1 = 0 := by decide +kernel
/-- Which block of the third vector of the factor a grid point reads or writes. -/
theorem idx6 : ∀ t : Fin grid0.N, win0_6.index t 0 = 0 ∧ win0_6.index t 1 = 0 := by decide +kernel
/-- Which block of the fourth vector of the factor a grid point reads or writes. -/
theorem idx7 : ∀ t : Fin grid0.N, win0_7.index t 0 = 0 ∧ win0_7.index t 1 = 0 := by decide +kernel
/-- Which block of the scale a grid point reads or writes. -/
theorem idx8 : ∀ t : Fin grid0.N, win0_8.index t 0 = 0 ∧ win0_8.index t 1 = 0 := by decide +kernel
/-- Which block of the result a grid point reads or writes. -/
theorem idx9 : ∀ t : Fin grid0.N, win0_9.index t 0 = prow t.val ∧ win0_9.index t 1 = phead t.val := by decide +kernel

/-- There are 64 blocks of rows. -/
theorem prow_lt (t : Fin cfg0.N) : prow t.val < 64 := by
  have : t.val < 256 := t.isLt
  unfold prow; omega

/-- There are four heads. -/
theorem phead_lt (t : ℕ) : phead t < 4 := by unfold phead; omega

/-- Window 0's block at a point, by its index in the array. -/
theorem iblk0 (c : Dev nD) (t : Fin cfg0.N) (r : Fin 256) (l : Fin 128) :
    (iblk m c 0 t : Vec F S256x128 .bf16) (ix2 r l) = m ((c : Thread nD τ).loc main_arg0) (ix2 (n0 := 16384) (n1 := 512) ⟨prow t.val * 256 + r.val, by have := prow_lt t; omega⟩ ⟨phead t.val * 128 + l.val, by have := phead_lt t.val; omega⟩) := by
  have hi := idx0 t
  unfold iblk
  rw [View.read_apply]
  show V m c main_arg0 _ = m (c.tc.loc main_arg0) _
  unfold V
  congr 1
  funext a
  apply Fin.ext
  match a with
  | ⟨0, _⟩ => show win0_0.index t 0 * 256 + 1 * r.val = prow t.val * 256 + r.val; rw [hi.1]; omega
  | ⟨1, _⟩ => show win0_0.index t 1 * 128 + 1 * l.val = phead t.val * 128 + l.val; rw [hi.2]; omega

/-- Window 1's block at a point, by its index in the array. -/
theorem iblk1 (c : Dev nD) (t : Fin cfg0.N) (r : Fin 128) (l : Fin 8192) :
    (iblk m c 1 t : Vec F S1x128x8192 .bf16) (ix3 0 r l) = m ((c : Thread nD τ).loc main_arg1)
      (ix3 (n0 := 2) (n1 := 512) (n2 := 8192) ⟨t.val / 128, by have : t.val < 256 := t.isLt; omega⟩ ⟨phead t.val * 128 + r.val, by have := phead_lt t.val; omega⟩ l) := by
  have hi := idx1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 128; rw [hi.1]; omega
  | ⟨1, _⟩ => show win0_1.index t 1 * 128 + 1 * r.val = phead t.val * 128 + r.val; rw [hi.2.1]; omega
  | ⟨2, _⟩ => show win0_1.index t 2 * 8192 + 1 * l.val = l.val; rw [hi.2.2]; omega

/-- Window 2's block at a point, by its index in the array. -/
theorem iblk2 (c : Dev nD) (t : Fin cfg0.N) (r : Fin 8192) (l : Fin 128) :
    (iblk m c 2 t : Vec F S8192x128 .bf16) (ix2 r l) = m ((c : Thread nD τ).loc main_arg2) (ix2 (n0 := 16384) (n1 := 512) ⟨t.val / 128 * 8192 + r.val, by have : t.val < 256 := t.isLt; omega⟩ ⟨phead t.val * 128 + l.val, by have := phead_lt t.val; omega⟩) := by
  have hi := idx2 t
  unfold iblk
  rw [View.read_apply]
  show V m c main_arg2 _ = m (c.tc.loc main_arg2) _
  unfold V
  congr 1
  funext a
  apply Fin.ext
  match a with
  | ⟨0, _⟩ => show win0_2.index t 0 * 8192 + 1 * r.val = t.val / 128 * 8192 + r.val; rw [hi.1]; omega
  | ⟨1, _⟩ => show win0_2.index t 1 * 128 + 1 * l.val = phead t.val * 128 + l.val; rw [hi.2]; omega

/-- Window 3's block at a point, by its index in the array. -/
theorem iblk3 (c : Dev nD) (t : Fin cfg0.N) (r : Fin 256) (l : Fin 128) :
    (iblk m c 3 t : Vec F S256x128 .bf16) (ix2 r l) = m ((c : Thread nD τ).loc main_arg3) (ix2 (n0 := 16384) (n1 := 512) ⟨prow t.val * 256 + r.val, by have := prow_lt t; omega⟩ ⟨phead t.val * 128 + l.val, by have := phead_lt t.val; omega⟩) := by
  have hi := idx3 t
  unfold iblk
  rw [View.read_apply]
  show V m c main_arg3 _ = m (c.tc.loc main_arg3) _
  unfold V
  congr 1
  funext a
  apply Fin.ext
  match a with
  | ⟨0, _⟩ => show win0_3.index t 0 * 256 + 1 * r.val = prow t.val * 256 + r.val; rw [hi.1]; omega
  | ⟨1, _⟩ => show win0_3.index t 1 * 128 + 1 * l.val = phead t.val * 128 + l.val; rw [hi.2]; omega

/-- Window 4's block at a point, by its index in the array. -/
theorem iblk4 (c : Dev nD) (t : Fin cfg0.N) (r : Fin 1) (l : Fin 64) :
    (iblk m c 4 t : Vec F S1x64 .f32) (ix2 r l) = m ((c : Thread nD τ).loc main_arg4) (ix2 (n0 := 1) (n1 := 64) ⟨r.val, by omega⟩ ⟨l.val, by omega⟩) := by
  have hi := idx4 t
  unfold iblk
  rw [View.read_apply]
  show V m c main_arg4 _ = m (c.tc.loc main_arg4) _
  unfold V
  congr 1
  funext a
  apply Fin.ext
  match a with
  | ⟨0, _⟩ => show win0_4.index t 0 * 1 + 1 * r.val = r.val; rw [hi.1]; omega
  | ⟨1, _⟩ => show win0_4.index t 1 * 64 + 1 * l.val = l.val; rw [hi.2]; omega

/-- Window 5's block at a point, by its index in the array. -/
theorem iblk5 (c : Dev nD) (t : Fin cfg0.N) (r : Fin 1) (l : Fin 64) :
    (iblk m c 5 t : Vec F S1x64 .f32) (ix2 r l) = m ((c : Thread nD τ).loc main_arg5) (ix2 (n0 := 1) (n1 := 64) ⟨r.val, by omega⟩ ⟨l.val, by omega⟩) := by
  have hi := idx5 t
  unfold iblk
  rw [View.read_apply]
  show V m c main_arg5 _ = m (c.tc.loc main_arg5) _
  unfold V
  congr 1
  funext a
  apply Fin.ext
  match a with
  | ⟨0, _⟩ => show win0_5.index t 0 * 1 + 1 * r.val = r.val; rw [hi.1]; omega
  | ⟨1, _⟩ => show win0_5.index t 1 * 64 + 1 * l.val = l.val; rw [hi.2]; omega

/-- Window 6's block at a point, by its index in the array. -/
theorem iblk6 (c : Dev nD) (t : Fin cfg0.N) (r : Fin 1) (l : Fin 64) :
    (iblk m c 6 t : Vec F S1x64 .f32) (ix2 r l) = m ((c : Thread nD τ).loc main_arg6) (ix2 (n0 := 1) (n1 := 64) ⟨r.val, by omega⟩ ⟨l.val, by omega⟩) := by
  have hi := idx6 t
  unfold iblk
  rw [View.read_apply]
  show V m c main_arg6 _ = m (c.tc.loc main_arg6) _
  unfold V
  congr 1
  funext a
  apply Fin.ext
  match a with
  | ⟨0, _⟩ => show win0_6.index t 0 * 1 + 1 * r.val = r.val; rw [hi.1]; omega
  | ⟨1, _⟩ => show win0_6.index t 1 * 64 + 1 * l.val = l.val; rw [hi.2]; omega

/-- Window 7's block at a point, by its index in the array. -/
theorem iblk7 (c : Dev nD) (t : Fin cfg0.N) (r : Fin 1) (l : Fin 64) :
    (iblk m c 7 t : Vec F S1x64 .f32) (ix2 r l) = m ((c : Thread nD τ).loc main_arg7) (ix2 (n0 := 1) (n1 := 64) ⟨r.val, by omega⟩ ⟨l.val, by omega⟩) := by
  have hi := idx7 t
  unfold iblk
  rw [View.read_apply]
  show V m c main_arg7 _ = m (c.tc.loc main_arg7) _
  unfold V
  congr 1
  funext a
  apply Fin.ext
  match a with
  | ⟨0, _⟩ => show win0_7.index t 0 * 1 + 1 * r.val = r.val; rw [hi.1]; omega
  | ⟨1, _⟩ => show win0_7.index t 1 * 64 + 1 * l.val = l.val; rw [hi.2]; omega

/-- Window 8's block at a point, by its index in the array. -/
theorem iblk8 (c : Dev nD) (t : Fin cfg0.N) (r : Fin 1) (l : Fin 128) :
    (iblk m c 8 t : Vec F S1x128 .f32) (ix2 r l) = m ((c : Thread nD τ).loc main_arg8) (ix2 (n0 := 1) (n1 := 128) ⟨r.val, by omega⟩ ⟨l.val, by omega⟩) := by
  have hi := idx8 t
  unfold iblk
  rw [View.read_apply]
  show V m c main_arg8 _ = m (c.tc.loc main_arg8) _
  unfold V
  congr 1
  funext a
  apply Fin.ext
  match a with
  | ⟨0, _⟩ => show win0_8.index t 0 * 1 + 1 * r.val = r.val; rw [hi.1]; omega
  | ⟨1, _⟩ => show win0_8.index t 1 * 128 + 1 * l.val = l.val; rw [hi.2]; omega

/-- Inside a head the values' block does not move. -/
theorem iblk2_pred (c : Dev nD) (t : Fin cfg0.N) (h0 : ¬t.val % 32 = 0) (h : t.val - 1 < cfg0.N) :
    (iblk m c 2 ⟨t.val - 1, h⟩ : Vec F S8192x128 .bf16) = iblk m c 2 t := by
  have key : ∀ (r : Fin 8192) (l : Fin 128), (iblk m c 2 ⟨t.val - 1, h⟩ : Vec F S8192x128 .bf16) (ix2 r l) = (iblk m c 2 t : Vec F S8192x128 .bf16) (ix2 r l) := fun r l => by
    rw [iblk2, iblk2]
    refine congrArg (m ((c : Thread nD τ).loc main_arg2)) (congrArg₂ ix2 (Fin.ext ?_) (Fin.ext ?_))
    · show (t.val - 1) / 128 * 8192 + r.val = t.val / 128 * 8192 + r.val
      have : (t.val - 1) / 128 = t.val / 128 := by omega
      rw [this]
    · show phead (t.val - 1) * 128 + l.val = phead t.val * 128 + l.val
      have : phead (t.val - 1) = phead t.val := by unfold phead; omega
      rw [this]
  refine funext fun (j : S8192x128.Idx) => ?_
  rw [eq_ix2 j]
  exact key _ _

/-- After every point the scratch keeps the head's values beside the ones. -/
theorem kept (c : Dev nD) : ∀ (n : ℕ) (h : n < cfg0.N), (outsAt0 m c n h).2 = vones (iblk m c 2 ⟨n, h⟩)
  | n, h => by
    by_cases h0 : n % 32 = 0
    · refine (congrArg Prod.snd (outsAt0_A m c ⟨n, h⟩ h0)).trans ?_
      dsimp only
      exact sout_A ..
    · have hp : n - 1 < n := by omega
      refine (congrArg Prod.snd (outsAt0_B m c ⟨n, h⟩ h0)).trans ?_
      dsimp only
      unfold sout0_B_0
      exact (kept c (n - 1) _).trans (congrArg vones (iblk2_pred m c ⟨n, h⟩ h0 _))

/-- What point `t` leaves in the result's block. -/
def blkAt (c : Dev nD) (t : Fin cfg0.N) : Vec F S256x128 .bf16 :=
  blk (iblk m c 0 t) (iblk m c 1 t) (vones (iblk m c 2 t)) (iblk m c 3 t) (iblk m c 4 t) (iblk m c 5 t) (iblk m c 6 t) (iblk m c 7 t) (iblk m c 8 t)

/-- Every point leaves its block. -/
theorem outs_eq (c : Dev nD) (t : Fin cfg0.N) : (outsAt0 m c t.val t.isLt).1 = blkAt m c t := by
  by_cases h0 : t.val % 32 = 0
  · refine (congrArg Prod.fst (outsAt0_A m c t h0)).trans ?_
    dsimp only
    exact out_A ..
  · refine (congrArg Prod.fst (outsAt0_B m c t h0)).trans ?_
    dsimp only
    refine (out_B ..).trans ?_
    rw [kept, iblk2_pred m c t h0]
    rfl

/-- The point that computes a row and lane of the result. -/
def pt (p : S16384x512.Idx) : Fin cfg0.N :=
  ⟨(p 0).val / 8192 * 128 + (p 1).val / 128 * 32 + (p 0).val % 8192 / 256, by
    have h0 : (p 0).val < 16384 := (p 0).isLt
    have h1 : (p 1).val < 512 := (p 1).isLt
    show _ < 256
    omega⟩

/-- The result array. -/
def result (c : Dev nD) : Buf (Elt F) ((c : Thread nD τ).loc main_v0) :=
  fun p : S16384x512.Idx => blkAt m c (pt p) (ix2 ⟨(p 0).val % 256, Nat.mod_lt _ (by norm_num)⟩ ⟨(p 1).val % 128, Nat.mod_lt _ (by norm_num)⟩)

/-- The result at an index of point `t`'s block. -/
theorem result_at (c : Dev nD) (t : Fin cfg0.N) (p : S16384x512.Idx) (j : S256x128.Idx) (e0 : (p 0).val = prow t.val * 256 + (j 0).val)
    (e1 : (p 1).val = phead t.val * 128 + (j 1).val) : (result m c : Vec F S16384x512 .bf16) p = blkAt m c t j := by
  have ht : t.val < 256 := t.isLt
  have hj0 : (j 0).val < 256 := (j 0).isLt
  have hj1 : (j 1).val < 128 := (j 1).isLt
  have hpt : pt p = t := Fin.ext (by
    show (p 0).val / 8192 * 128 + (p 1).val / 128 * 32 + (p 0).val % 8192 / 256 = t.val
    rw [e0, e1]; unfold prow phead; omega)
  have hj : (ix2 ⟨(p 0).val % 256, Nat.mod_lt _ (by norm_num)⟩ ⟨(p 1).val % 128, Nat.mod_lt _ (by norm_num)⟩ : S256x128.Idx) = j := by
    rw [eq_ix2 j]
    exact congrArg₂ ix2 (Fin.ext (by show (p 0).val % 256 = (j 0).val; rw [e0]; omega)) (Fin.ext (by show (p 1).val % 128 = (j 1).val; rw [e1]; omega))
  show blkAt m c (pt p) _ = _
  rw [hpt, hj]

/-- Every point writes its block of the result. -/
theorem flushed_eq (c : Dev nD) (t : Fin cfg0.N) (hf : (cfg0.win 9).flush t = true) :
    (dats m 0 c).flushed 9 t = ((cfg0.win 9).blk t).view.read (Elt F) (result m c) := by
  rw [Value.flushed9, outs_eq]
  funext j
  rw [View.read_apply]
  have hi := idx9 t
  have ht : t.val < 256 := t.isLt
  have e0 : ((((cfg0.win 9).blk t).view.emb j : S16384x512.Idx) 0).val = prow t.val * 256 + (j 0).val := by
    show win0_9.index t 0 * 256 + 1 * (j 0).val = _; rw [hi.1]; omega
  have e1 : ((((cfg0.win 9).blk t).view.emb j : S16384x512.Idx) 1).val = phead t.val * 128 + (j 1).val := by
    show win0_9.index t 1 * 128 + 1 * (j 1).val = _; rw [hi.2]; omega
  exact (result_at m c t _ j e0 e1).symm

/-- The result array after the run. -/
theorem final (c : Dev nD) : (dats m 0 c).arrAt 9 cfg0.N = result m c :=
  (dats m 0 c).arrAt_eq_of_cover 9 (result m c) (flushed_eq m c) fun i =>
    ⟨pt i, flush0_9 _, by
      show i ∈ ((View.whole main_v0).slice (win0_9.rect (pt i))).set
      rw [View.set_slice_whole, Rect.mem_set_unit]
      intro a
      have hi := idx9 (pt i)
      have h0 : (i 0 : Nat) < 16384 := (i 0).isLt
      have h1 : (i 1 : Nat) < 512 := (i 1).isLt
      have hp : (pt i).val = (i 0).val / 8192 * 128 + (i 1).val / 128 * 32 + (i 0).val % 8192 / 256 := rfl
      match a with
      | ⟨0, _⟩ =>
        show win0_9.index (pt i) 0 * 256 ≤ (i 0 : Nat) ∧ (i 0 : Nat) < win0_9.index (pt i) 0 * 256 + 256
        rw [hi.1, hp]; unfold prow; omega
      | ⟨1, _⟩ =>
        show win0_9.index (pt i) 1 * 128 ≤ (i 1 : Nat) ∧ (i 1 : Nat) < win0_9.index (pt i) 1 * 128 + 128
        rw [hi.2, hp]; unfold phead; omega⟩

end Cert.SecondIdeal.Attn

end
-- ==== Proof.SecondVal.lean ====
/- The second layer's attention: the block a grid point stores, over the extended reals, when the values it reads are real numbers: the two softmax
   averages of the values, their difference, the norm over the head's lanes and the gate. -/
module

public import proofs.«01_k».proof.Proof.SecondBlock
public import Idealize.ShloMosaic.Lib.Pointwise

@[expose] public section

set_option maxRecDepth 16384

noncomputable section

namespace Cert.SecondIdeal.Attn

open Cert.SecondIdeal Cert.SecondIdeal.Gen Idealize.ShloMosaic Idealize.ShloMosaic.TcCoe
open Cert.Attn
open scoped BigOperators

/-- The weight of key `k` in row `r` of a block, against the row's maximum over all the keys. -/
def wk (q : Vec Ideal S256x128 .bf16) (kt : Vec Ideal S1x128x8192 .bf16) (r : Fin 512) (k : Fin 8192) : ℝ :=
  wt (score q kt r k.val) ((Finset.range 8192).sup (score q kt r))

/-- The loop's sums at its end, for one column of real numbers. -/
theorem sums_apply (q : Vec Ideal S256x128 .bf16) (kt : Vec Ideal S1x128x8192 .bf16) (xs : Vec Ideal S8192x256 .bf16) (r : Fin 512) (j : Fin 256)
    (u : Fin 8192 → ℝ) (hu : ∀ k, xs (ix2 k j) = (u k : EReal)) :
    (st q kt xs 8).2 (ix2 r j) = ((∑ k, wk q kt r k * u k : ℝ) : EReal) := by
  rw [(st_apply q kt xs r 8).2 j, show col xs j = fun k => ((u ⟨k % 8192, Nat.mod_lt _ (by norm_num)⟩ : ℝ) : EReal) from funext fun k => hu _]
  refine (runSum_eq (score q kt r) (fun k => u ⟨k % 8192, Nat.mod_lt _ (by norm_num)⟩) 8).trans (congrArg _ ?_)
  rw [runMax_eq, show 1024 * 8 = 8192 from rfl, Finset.sum_range]
  refine Finset.sum_congr rfl fun k _ => ?_
  exact congrArg (fun i => wk q kt r k * u i) (Fin.ext (Nat.mod_eq_of_lt k.isLt))

/-- The kept values in the first half of the lanes. -/
theorem vones_val (x2 : Vec Ideal S8192x128 .bf16) (k : Fin 8192) (l : Fin 128) : vones x2 (ix2 k ⟨l.val, by omega⟩) = x2 (ix2 k l) := by
  exact (dif_pos (show l.val < 128 from l.isLt)).trans (pay1_apply x2 k l)

/-- The ones in the second half. -/
theorem vones_one (x2 : Vec Ideal S8192x128 .bf16) (k : Fin 8192) (l : Fin 128) : vones x2 (ix2 k ⟨128 + l.val, by omega⟩) = ((1 : ℝ) : EReal) := by
  exact (dif_neg (show ¬128 + l.val < 128 by omega)).trans ((pay2_apply _ _).trans EReal.coe_one.symm)

/-- A row's average of the values. -/
theorem mean_apply (q : Vec Ideal S256x128 .bf16) (kt : Vec Ideal S1x128x8192 .bf16) (x2 : Vec Ideal S8192x128 .bf16) (v : Fin 8192 → Fin 128 → ℝ)
    (hv : ∀ k l, x2 (ix2 k l) = (v k l : EReal)) (r : Fin 512) (l : Fin 128) :
    k0_pay9 (st q kt (vones x2) 8).2 (ix2 r l)
      = Ideal.div ((∑ k, wk q kt r k * v k l : ℝ) : EReal) ((∑ k, wk q kt r k : ℝ) : EReal) := by
  rw [pay9_apply, sums_apply q kt (vones x2) r ⟨l.val, by omega⟩ (fun k => v k l) (fun k => (vones_val x2 k l).trans (hv k l)),
    sums_apply q kt (vones x2) r ⟨128 + l.val, by omega⟩ (fun _ => 1) (fun k => vones_one x2 k l)]
  simp only [mul_one]

/-- The row of map `t` that query `r` of a block becomes. -/
def mrow (t : Fin 2) (r : Fin 256) : Fin 512 := ⟨t.val * 256 + r.val, by omega⟩

/-- The block stored, at an index. -/
theorem blk_apply (x0 : Vec Ideal S256x128 .bf16) (x1 : Vec Ideal S1x128x8192 .bf16) (x2 : Vec Ideal S8192x128 .bf16) (x3 : Vec Ideal S256x128 .bf16)
    (x4 x5 x6 x7 : Vec Ideal S1x64 .f32) (x8 : Vec Ideal S1x128 .f32) (v : Fin 8192 → Fin 128 → ℝ)
    (hv : ∀ k l, x2 (ix2 k l) = (v k l : EReal)) (r : Fin 256) (l : Fin 128) :
    blk x0 x1 (vones x2) x3 x4 x5 x6 x7 x8 (ix2 r l)
      = nrm (Ideal.ofBits FTy.f32 1124073472#32) (Ideal.ofBits FTy.f32 897988541#32)
          (fun j => Ideal.div ((∑ k, wk x0 x1 (mrow 0 r) k * v k j : ℝ) : EReal) ((∑ k, wk x0 x1 (mrow 0 r) k : ℝ) : EReal)
            - lamOf x4 x5 x6 x7 * Ideal.div ((∑ k, wk x0 x1 (mrow 1 r) k * v k j : ℝ) : EReal) ((∑ k, wk x0 x1 (mrow 1 r) k : ℝ) : EReal)) l
        * x8 (ix2 0 l) * Ideal.ofBits FTy.f32 1059388764#32 * Ideal.div (x3 (ix2 r l)) (1 + Ideal.exp (0 - x3 (ix2 r l))) := by
  unfold blk
  rw [pay11_apply]
  have e : (fun i => diff (k0_pay9 (st x0 x1 (vones x2) 8).2) (lamOf x4 x5 x6 x7) r i)
      = fun j => Ideal.div ((∑ k, wk x0 x1 (mrow 0 r) k * v k j : ℝ) : EReal) ((∑ k, wk x0 x1 (mrow 0 r) k : ℝ) : EReal)
            - lamOf x4 x5 x6 x7 * Ideal.div ((∑ k, wk x0 x1 (mrow 1 r) k * v k j : ℝ) : EReal) ((∑ k, wk x0 x1 (mrow 1 r) k : ℝ) : EReal) := by
    funext j
    unfold diff
    rw [mean_apply x0 x1 x2 v hv, mean_apply x0 x1 x2 v hv]
    rw [show (⟨r.val, by omega⟩ : Fin 512) = mrow 0 r from Fin.ext (by simp [mrow]),
      show (⟨256 + r.val, by omega⟩ : Fin 512) = mrow 1 r from Fin.ext (by simp [mrow])]
  rw [e]

end Cert.SecondIdeal.Attn

end
-- ==== Proof.SecondRefVal.lean ====
/- The second layer's attention: the reference read at an index: the softmax of the two maps of a head, their difference against the values, the
   norm over the head's lanes and the gate. -/
module

public import proofs.«01_k».proof.Proof.Gen.SecondRefIdeal.Read
public import proofs.«01_k».proof.Proof.Softmax
public import Idealize.ShloMosaic.Lib.Pointwise

@[expose] public section

set_option maxRecDepth 16384

noncomputable section

namespace Cert.SecondRefIdeal.Attn

open Cert.SecondRefIdeal Cert.SecondRefIdeal.Gen Cert.SecondRefIdeal.Read Idealize.ShloMosaic Idealize.ShloMosaic.TcCoe
open Cert.Attn
open scoped BigOperators

/-- An array of rows. -/
abbrev QArr : Type := BufTy.Contents (Elt Ideal) (⟨S16384x512, .bf16⟩ : BufTy)
/-- The keys, transposed. -/
abbrev KArr : Type := BufTy.Contents (Elt Ideal) (⟨S2x512x8192, .bf16⟩ : BufTy)
/-- A vector of the factor. -/
abbrev LArr : Type := BufTy.Contents (Elt Ideal) (⟨S1x64, .f32⟩ : BufTy)
/-- A scale. -/
abbrev GArr : Type := BufTy.Contents (Elt Ideal) (⟨S1x128, .f32⟩ : BufTy)

/-- Row `s` of batch `b` in an array of both batches' rows. -/
def rq (b : Fin 2) (s : Fin 8192) : Fin 16384 := ⟨b.val * 8192 + s.val, by omega⟩

/-- Lane `d` of map `t` of head `h`. -/
def rc (h : Fin 4) (t : Fin 2) (d : Fin 64) : Fin 512 := ⟨h.val * 128 + t.val * 64 + d.val, by omega⟩

/-- Lane `j` of head `h`. -/
def rl (h : Fin 4) (j : Fin 128) : Fin 512 := ⟨h.val * 128 + j.val, by omega⟩

/-- The score, in base two, of query `s` against key `k` in map `t` of head `h`. -/
def sc (Q : QArr) (K : KArr) (b : Fin 2) (h : Fin 4) (t : Fin 2) (s : Fin 8192) (k : ℕ) : EReal :=
  ∑ d : Fin 64, (Q (ix2 (rq b s) (rc h t d)) : EReal) * K (ix3 b (rc h t d) ⟨k % 8192, Nat.mod_lt _ (by norm_num)⟩)

/-- The bit pattern of the number two. -/
theorem two_f32 : Ideal.ofBits FTy.f32 0x40000000#32 = ((2 : ℝ) : EReal) := by
  simp [Ideal.ofBits, Ideal.ieee, -EReal.coe_mul]; norm_num

/-- The bit pattern of the maximum's start. -/
theorem bot_f32 : Ideal.ofBits FTy.f32 0xFF800000#32 = ⊥ := by
  simp [Ideal.ofBits, Ideal.ieee]

/-- The products of queries and keys. -/
theorem score_apply (Q : QArr) (K : KArr) (t b : Fin 2) (h : Fin 4) (s k : Fin 8192) :
    val_main_v15 (F := Ideal) Q K (ix5 t b h s k) = sc Q K b h t s k.val := by
  rw [val_main_v15_apply]
  unfold sc
  refine Finset.sum_congr rfl fun d _ => ?_
  rw [val_main_v1_apply, val_main_v0_apply, val_main_v3_apply, val_main_v2_apply]
  refine congrArg₂ (· * ·) (congrArg Q ?_) (congrArg K ?_)
  · funext a
    match a with
    | ⟨0, _⟩ => exact Fin.ext (by dsimp [rq, rc, ix2, ix5]; omega)
    | ⟨1, _⟩ => exact Fin.ext (by dsimp [rq, rc, ix2, ix5]; omega)
  · funext a
    match a with
    | ⟨0, _⟩ => exact Fin.ext (by dsimp [rq, rc, ix3, ix5]; omega)
    | ⟨1, _⟩ => exact Fin.ext (by dsimp [rq, rc, ix3, ix5]; omega)
    | ⟨2, _⟩ => exact Fin.ext (by dsimp [rq, rc, ix3, ix5]; omega)

/-- The scores in base e. -/
theorem scaled_apply (Q : QArr) (K : KArr) (t b : Fin 2) (h : Fin 4) (s k : Fin 8192) :
    val_main_v18 (F := Ideal) Q K (ix5 t b h s k) = sc Q K b h t s k.val * ((Real.log 2 : ℝ) : EReal) := by
  rw [val_main_v18_apply, score_apply, val_main_v17_apply, val_main_v16_apply, val_main_cst_2_apply]
  show _ * Ideal.log (Ideal.ofBits FTy.f32 0x40000000#32) = _
  rw [two_f32, Ideal.log_coe, if_neg (by norm_num)]

/-- A supremum over a range, indexed by the numbers below its length. -/
theorem sup_range_eq (n : ℕ) (f : ℕ → EReal) : (Finset.range n).sup f = (Finset.univ : Finset (Fin n)).sup fun k => f k.val :=
  le_antisymm (Finset.sup_le fun k hk => Finset.le_sup (f := fun k : Fin n => f k.val) (Finset.mem_univ ⟨k, Finset.mem_range.mp hk⟩))
    (Finset.sup_le fun k _ => Finset.le_sup (f := f) (Finset.mem_range.mpr k.isLt))

/-- The maximum of a query's scores. -/
theorem max_apply (Q : QArr) (K : KArr) (t b : Fin 2) (h : Fin 4) (s : Fin 8192) :
    val_main_v21 (F := Ideal) Q K (ix4 t b h s)
      = (Finset.range 8192).sup (sc Q K b h t s) * ((Real.log 2 : ℝ) : EReal) := by
  rw [val_main_v21_apply, val_main_v20_apply, val_main_cst_4_apply]
  unfold val_main_v19
  rw [Host.reduce_eq_fold_single _ _ _ _ (by decide : S2x2x4x8192x8192.Reduces [4] S2x2x4x8192) _ _, val_main_cst_3_apply]
  show max (Ideal.ofBits FTy.f32 0xFF800000#32) (Finset.fold max (Ideal.ofBits FTy.f32 0xFF800000#32) _ _) = _
  rw [bot_f32, fold_max_eq_sup, bot_sup_eq, ← sup_mul_log, sup_range_eq]
  refine Finset.sup_congr rfl fun k _ => ?_
  refine (congrArg (val_main_v18 (F := Ideal) Q K) ?_).trans (scaled_apply Q K t b h s k)
  funext a
  match a with
  | ⟨0, _⟩ => rfl
  | ⟨1, _⟩ => rfl
  | ⟨2, _⟩ => rfl
  | ⟨3, _⟩ => rfl
  | ⟨4, _⟩ => rfl

/-- The weight of key `k` for query `s`, against the query's maximum. -/
def wgt (Q : QArr) (K : KArr) (b : Fin 2) (h : Fin 4) (t : Fin 2) (s k : Fin 8192) : ℝ :=
  wt (sc Q K b h t s k.val) ((Finset.range 8192).sup (sc Q K b h t s))

/-- No score of a row exceeds its largest. -/
theorem sc_le (Q : QArr) (K : KArr) (t b : Fin 2) (h : Fin 4) (s k : Fin 8192) :
    sc Q K b h t s k.val ≤ (Finset.range 8192).sup (sc Q K b h t s) :=
  Finset.le_sup (f := sc Q K b h t s) (Finset.mem_range.mpr k.isLt)

/-- The weight of a key: the exponential of its score less the row's largest. -/
theorem weight_apply (Q : QArr) (K : KArr) (t b : Fin 2) (h : Fin 4) (s k : Fin 8192) :
    val_main_v25 (F := Ideal) Q K (ix5 t b h s k) = (wgt Q K b h t s k : EReal) := by
  rw [val_main_v25_apply, val_main_v24_apply, scaled_apply, val_main_v23_apply, val_main_v22_apply]
  rw [show idx_main_v22 (idx_main_v23 (ix5 t b h s k)) = ix4 t b h s from by
    funext a; match a with | ⟨0, _⟩ => rfl | ⟨1, _⟩ => rfl | ⟨2, _⟩ => rfl | ⟨3, _⟩ => rfl]
  rw [max_apply]
  exact (exp_log_two _ _).trans (exp2_sub_eq (sc_le Q K t b h s k))

/-- The sum of a row's weights. -/
theorem denom_apply (Q : QArr) (K : KArr) (t b : Fin 2) (h : Fin 4) (s : Fin 8192) :
    val_main_v26 (F := Ideal) Q K (ix4 t b h s) = ((∑ k, wgt Q K b h t s k : ℝ) : EReal) := by
  rw [val_main_v26_apply, val_main_cst_5_apply, coe_sum]
  show Ideal.ofBits FTy.f32 0x00000000#32 + _ = _
  rw [Ideal.ofBits_zero_f32, zero_add]
  refine Finset.sum_congr rfl fun k _ => ?_
  rw [← weight_apply]
  refine congrArg (val_main_v25 (F := Ideal) Q K) ?_
  funext a
  match a with | ⟨0, _⟩ => rfl | ⟨1, _⟩ => rfl | ⟨2, _⟩ => rfl | ⟨3, _⟩ => rfl | ⟨4, _⟩ => rfl

/-- A query's share of a key. -/
def prob (Q : QArr) (K : KArr) (b : Fin 2) (h : Fin 4) (t : Fin 2) (s k : Fin 8192) : EReal :=
  Ideal.div (wgt Q K b h t s k : EReal) ((∑ k, wgt Q K b h t s k : ℝ) : EReal)

/-- The probability of a key. -/
theorem prob_apply (Q : QArr) (K : KArr) (t b : Fin 2) (h : Fin 4) (s k : Fin 8192) :
    val_main_v29 (F := Ideal) Q K (ix5 t b h s k) = prob Q K b h t s k := by
  rw [val_main_v29_apply, weight_apply, val_main_v28_apply, val_main_v27_apply]
  rw [show idx_main_v27 (idx_main_v28 (ix5 t b h s k)) = ix4 t b h s from by
    funext a; match a with | ⟨0, _⟩ => rfl | ⟨1, _⟩ => rfl | ⟨2, _⟩ => rfl | ⟨3, _⟩ => rfl]
  rw [denom_apply]
  rfl

/-- The probabilities of the first map. -/
theorem first_apply (Q : QArr) (K : KArr) (b : Fin 2) (h : Fin 4) (s k : Fin 8192) :
    val_main_v31 (F := Ideal) Q K (ix4 b h s k) = prob Q K b h 0 s k := by
  rw [val_main_v31_apply, val_main_v30_apply, ← prob_apply]
  refine congrArg (val_main_v29 (F := Ideal) Q K) ?_
  funext a
  match a with
  | ⟨0, _⟩ => rfl
  | ⟨1, _⟩ => exact Fin.ext (by dsimp [ix4, ix5]; omega)
  | ⟨2, _⟩ => exact Fin.ext (by dsimp [ix4, ix5]; omega)
  | ⟨3, _⟩ => exact Fin.ext (by dsimp [ix4, ix5]; omega)
  | ⟨4, _⟩ => exact Fin.ext (by dsimp [ix4, ix5]; omega)

/-- The probabilities of the second map. -/
theorem second_apply (Q : QArr) (K : KArr) (b : Fin 2) (h : Fin 4) (s k : Fin 8192) :
    val_main_v33 (F := Ideal) Q K (ix4 b h s k) = prob Q K b h 1 s k := by
  rw [val_main_v33_apply, val_main_v32_apply, ← prob_apply]
  refine congrArg (val_main_v29 (F := Ideal) Q K) ?_
  funext a
  match a with
  | ⟨0, _⟩ => rfl
  | ⟨1, _⟩ => exact Fin.ext (by dsimp [ix4, ix5]; omega)
  | ⟨2, _⟩ => exact Fin.ext (by dsimp [ix4, ix5]; omega)
  | ⟨3, _⟩ => exact Fin.ext (by dsimp [ix4, ix5]; omega)
  | ⟨4, _⟩ => exact Fin.ext (by dsimp [ix4, ix5]; omega)

/-- The factor of the second map. -/
def lamR (x4 x5 x6 x7 : LArr) : EReal :=
  Ideal.exp (∑ x : Fin 64, (x4 (ix2 0 x) : EReal) * x5 (ix2 0 x)) - Ideal.exp (∑ x : Fin 64, (x6 (ix2 0 x) : EReal) * x7 (ix2 0 x))
    + Ideal.ofBits FTy.f32 0x3EB60549#32

/-- The factor of the second map. -/
theorem lam_apply (x4 x5 x6 x7 : LArr) (i : S_.Idx) : val_main_v14 (F := Ideal) x4 x5 x6 x7 i = lamR x4 x5 x6 x7 := by
  rw [val_main_v14_apply, val_main_v13_apply, val_main_v9_apply, val_main_v12_apply, val_main_v8_apply, val_main_v11_apply,
    val_main_cst_apply, val_main_cst_0_apply, val_main_cst_1_apply, sum_idx2, sum_idx2, Fin.sum_univ_one, Fin.sum_univ_one]
  show Ideal.exp (Ideal.ofBits FTy.f32 0x00000000#32 + _) - Ideal.exp (Ideal.ofBits FTy.f32 0x00000000#32 + _) + _ = _
  rw [Ideal.ofBits_zero_f32, zero_add, zero_add]
  rfl

/-- The difference of the two maps against the values. -/
def out (Q : QArr) (K : KArr) (V : QArr) (lam : EReal) (b : Fin 2) (h : Fin 4) (s : Fin 8192) (l : Fin 128) : EReal :=
  ∑ k : Fin 8192, (V (ix2 (rq b k) (rl h l)) : EReal) * (prob Q K b h 0 s k - lam * prob Q K b h 1 s k)

/-- The values under the difference of the two maps. -/
theorem out_apply (Q : QArr) (K : KArr) (V : QArr) (x4 x5 x6 x7 : LArr) (b : Fin 2) (h : Fin 4) (s : Fin 8192) (l : Fin 128) :
    val_main_v38 (F := Ideal) Q K V x4 x5 x6 x7 (ix4 b s h l) = out Q K V (lamR x4 x5 x6 x7) b h s l := by
  rw [val_main_v38_apply, val_main_v37_apply]
  unfold out
  refine Finset.sum_congr rfl fun k _ => ?_
  rw [val_main_v5_apply, val_main_v4_apply, val_main_v36_apply, val_main_v35_apply, val_main_v34_apply, lam_apply]
  rw [show ridx_main_v37 (idx_main_v38 (ix4 b s h l)) k = ix4 b h s k from by
    funext a; match a with | ⟨0, _⟩ => rfl | ⟨1, _⟩ => rfl | ⟨2, _⟩ => rfl | ⟨3, _⟩ => rfl]
  rw [first_apply, second_apply]
  refine congrArg₂ (· * ·) (congrArg V ?_) rfl
  funext a
  match a with
  | ⟨0, _⟩ => exact Fin.ext (by dsimp [rq, rl, ix2, ix4]; omega)
  | ⟨1, _⟩ => exact Fin.ext (by dsimp [rq, rl, ix2, ix4]; omega)

/-- A head's values scaled to mean square one, under their scale. -/
theorem scale_apply (Q : QArr) (K : KArr) (V : QArr) (x4 x5 x6 x7 : LArr) (b : Fin 2) (h : Fin 4) (s : Fin 8192) (l : Fin 128) :
    val_main_v49 (F := Ideal) Q K V x4 x5 x6 x7 (ix4 b s h l)
      = nrm (Ideal.ofBits FTy.f32 0x43000000#32) (Ideal.ofBits FTy.f32 0x358637BD#32) (out Q K V (lamR x4 x5 x6 x7) b h s) l := by
  rw [val_main_v49_apply, out_apply, val_main_v48_apply, val_main_v47_apply, val_main_v46_apply, val_main_v45_apply, val_main_v44_apply,
    val_main_v43_apply, val_main_cst_7_apply, val_main_cst_8_apply, val_main_v42_apply, val_main_v41_apply, val_main_cst_6_apply]
  have e : (∑ k : Fin 128, val_main_v40 (F := Ideal) Q K V x4 x5 x6 x7 (idx_main_v41 (idx_main_v42 (idx_main_v48 (ix4 b s h l))) k) : EReal)
      = ∑ k : Fin 128, out Q K V (lamR x4 x5 x6 x7) b h s k * out Q K V (lamR x4 x5 x6 x7) b h s k :=
    Finset.sum_congr rfl fun k _ => by
      rw [val_main_v40_apply, show idx_main_v41 (idx_main_v42 (idx_main_v48 (ix4 b s h l))) k = ix4 b s h k from by
        funext a; match a with | ⟨0, _⟩ => rfl | ⟨1, _⟩ => rfl | ⟨2, _⟩ => rfl | ⟨3, _⟩ => rfl]
      rw [out_apply]
      rfl
  rw [e]
  show _ * Ideal.rsqrt (Ideal.div (Ideal.ofBits FTy.f32 0x00000000#32 + _) _ + _) = _
  rw [Ideal.ofBits_zero_f32, zero_add]
  rfl

/-- The gate. -/
theorem gate_apply (g : QArr) (i : S16384x512.Idx) :
    val_main_v56 (F := Ideal) g i = (g i : EReal) * Ideal.div 1 (1 + Ideal.exp (-(g i : EReal))) := by
  rw [val_main_v56_apply, val_main_call0_v5_apply, val_main_call0_v4_apply, val_main_call0_cst_0_apply, val_main_call0_v3_apply,
    val_main_call0_v2_apply, val_main_call0_cst_apply, val_main_call0_v1_apply, val_main_call0_v0_apply, val_main_v6_apply]
  show (g i : EReal) * Ideal.div (Ideal.ofBits FTy.f32 0x3F800000#32) (Ideal.ofBits FTy.f32 0x3F800000#32 + Ideal.exp (-(g i : EReal))) = _
  rw [Ideal.ofBits_one_f32]

/-- The reference's result at row `s` of batch `b` and lane `l` of head `h`. -/
theorem result_apply (Q : QArr) (K : KArr) (V g : QArr) (x4 x5 x6 x7 : LArr) (x8 : GArr) (b : Fin 2) (h : Fin 4) (s : Fin 8192) (l : Fin 128) :
    val_main_v58 (F := Ideal) Q K V g x4 x5 x6 x7 x8 (ix2 (rq b s) (rl h l))
      = nrm (Ideal.ofBits FTy.f32 0x43000000#32) (Ideal.ofBits FTy.f32 0x358637BD#32) (out Q K V (lamR x4 x5 x6 x7) b h s) l
          * x8 (ix2 0 l) * Ideal.ofBits FTy.f32 0x3F24FD5C#32
          * ((g (ix2 (rq b s) (rl h l)) : EReal) * Ideal.div 1 (1 + Ideal.exp (-(g (ix2 (rq b s) (rl h l)) : EReal)))) := by
  rw [val_main_v58_apply, val_main_v57_apply, gate_apply, val_main_v55_apply]
  rw [show idx_main_v55 (ix2 (rq b s) (rl h l)) = ix4 b s h l from by
    funext a
    match a with
    | ⟨0, _⟩ => exact Fin.ext (by dsimp [rq, rl, ix2, ix4]; omega)
    | ⟨1, _⟩ => exact Fin.ext (by dsimp [rq, rl, ix2, ix4]; omega)
    | ⟨2, _⟩ => exact Fin.ext (by dsimp [rq, rl, ix2, ix4]; omega)
    | ⟨3, _⟩ => exact Fin.ext (by dsimp [rq, rl, ix2, ix4]; omega)]
  rw [val_main_v54_apply, val_main_v53_apply, val_main_cst_9_apply, val_main_v52_apply, scale_apply, val_main_v51_apply, val_main_v50_apply,
    val_main_v39_apply]
  rw [show idx_main_v39 (idx_main_v50 (idx_main_v51 (ix4 b s h l))) = ix2 0 l from by
    funext a
    match a with
    | ⟨0, _⟩ => rfl
    | ⟨1, _⟩ => exact Fin.ext (by dsimp [ix2, ix4]; omega)]
  rfl

end Cert.SecondRefIdeal.Attn

end
-- ==== Proof.SecondEqual.lean ====
/- The second layer's attention: the kernel's array and the reference's are the same, for finite values and finite vectors of the factor. -/
module

public import proofs.«01_k».proof.Proof.SecondArray
public import proofs.«01_k».proof.Proof.SecondVal
public import proofs.«01_k».proof.Proof.SecondRefVal
public import Idealize.ShloMosaic.Lib.IdealHost

@[expose] public section

set_option maxRecDepth 16384

noncomputable section

namespace Cert.SecondIdeal.Attn

open Cert.SecondIdeal Cert.SecondIdeal.Gen Idealize.ShloMosaic Idealize.ShloMosaic.TcCoe
open Cert.Attn Cert.SecondRefIdeal.Attn
open scoped BigOperators

variable (m : (ℓ : Loc nD τ sig) → Buf (Elt Ideal) ℓ) (c : Dev nD)

/-- The grid point of a row and a head. -/
def tp (b : Fin 2) (h : Fin 4) (s : Fin 8192) : Fin cfg0.N :=
  ⟨b.val * 128 + h.val * 32 + s.val / 256, by show _ < 256; omega⟩

/-- Its block of rows. -/
theorem prow_tp (b : Fin 2) (h : Fin 4) (s : Fin 8192) : prow (tp b h s).val = b.val * 32 + s.val / 256 := by
  unfold prow tp; dsimp only; omega

/-- Its head. -/
theorem phead_tp (b : Fin 2) (h : Fin 4) (s : Fin 8192) : phead (tp b h s).val = h.val := by
  unfold phead tp; dsimp only; omega

/-- Its batch. -/
theorem pb_tp (b : Fin 2) (h : Fin 4) (s : Fin 8192) : (tp b h s).val / 128 = b.val := by
  unfold tp; dsimp only; omega

/-- The row of `s` in its block. -/
def rr (s : Fin 8192) : Fin 256 := ⟨s.val % 256, Nat.mod_lt _ (by norm_num)⟩

/-- The scores of a block's row are those of the query it holds. -/
theorem score_eq (b : Fin 2) (h : Fin 4) (t : Fin 2) (s : Fin 8192) :
    score (iblk m c 0 (tp b h s)) (iblk m c 1 (tp b h s)) (mrow t (rr s))
      = sc (m ((c : Thread nD τ).loc main_arg0)) (m ((c : Thread nD τ).loc main_arg1)) b h t s := by
  funext k
  unfold score sc
  refine Finset.sum_congr rfl fun d _ => ?_
  rw [iblk0, iblk1]
  have hp := prow_tp b h s
  have hh := phead_tp b h s
  have hb := pb_tp b h s
  have ht : t.val < 2 := t.isLt
  have hs : s.val % 256 < 256 := Nat.mod_lt _ (by norm_num)
  have h1 : (qrow (mrow t (rr s))).val = s.val % 256 := by
    show (t.val * 256 + s.val % 256) % 256 = _; omega
  have h2 : (qlane (mrow t (rr s)) d).val = 64 * t.val + d.val := by
    show 64 * ((t.val * 256 + s.val % 256) / 256) + d.val = _; omega
  refine congrArg₂ (· * ·) (congrArg (m ((c : Thread nD τ).loc main_arg0)) (congrArg₂ ix2 (Fin.ext ?_) (Fin.ext ?_)))
    (congrArg (m ((c : Thread nD τ).loc main_arg1)) (congr (congrArg₂ ix3 (Fin.ext ?_) (Fin.ext ?_)) rfl))
  · show prow (tp b h s).val * 256 + (qrow (mrow t (rr s))).val = b.val * 8192 + s.val; omega
  · show phead (tp b h s).val * 128 + (qlane (mrow t (rr s)) d).val = h.val * 128 + t.val * 64 + d.val; omega
  · exact hb
  · show phead (tp b h s).val * 128 + (qlane (mrow t (rr s)) d).val = h.val * 128 + t.val * 64 + d.val; omega

/-- So are the weights. -/
theorem weight_eq (b : Fin 2) (h : Fin 4) (t : Fin 2) (s k : Fin 8192) :
    wk (iblk m c 0 (tp b h s)) (iblk m c 1 (tp b h s)) (mrow t (rr s)) k
      = wgt (m ((c : Thread nD τ).loc main_arg0)) (m ((c : Thread nD τ).loc main_arg1)) b h t s k := by
  unfold wk wgt
  rw [score_eq]

/-- The ideal exponential is never negative. -/
theorem exp_nonneg (x : EReal) : 0 ≤ Ideal.exp x := by
  induction x with
  | bot => simp
  | top => simp
  | coe r => rw [Ideal.exp_coe]; exact_mod_cast (Real.exp_pos r).le

/-- The gate, multiplied or divided. -/
theorem gate_eq (g : EReal) : Ideal.div g (1 + Ideal.exp (0 - g)) = g * Ideal.div 1 (1 + Ideal.exp (-g)) := by
  have h : (1 : EReal) + Ideal.exp (-g) ≠ 0 := by
    have h1 : (1 : EReal) ≤ 1 + Ideal.exp (-g) := le_add_of_nonneg_right (exp_nonneg _)
    intro e; rw [e] at h1; exact absurd h1 (by simp)
  rw [Ideal.mul_one_div h, zero_sub]

/-- The divisor of the mean square. -/
theorem c128 : Ideal.ofBits FTy.f32 1124073472#32 = ((128 : ℝ) : EReal) := by
  simp [Ideal.ofBits, Ideal.ieee, -EReal.coe_mul]; norm_num

/-- The number added to the mean square. -/
theorem ceps : ∃ e : ℝ, Ideal.ofBits FTy.f32 897988541#32 = (e : EReal) := by
  refine ⟨8796093 / 2 ^ 43, ?_⟩
  simp [Ideal.ofBits, Ideal.ieee, -EReal.coe_mul]; norm_num

/-- The number added to the difference of the exponentials. -/
theorem cinit : ∃ e : ℝ, Ideal.ofBits FTy.f32 1052116297#32 = (e : EReal) := by
  refine ⟨11928905 / 2 ^ 25, ?_⟩
  simp [Ideal.ofBits, Ideal.ieee, -EReal.coe_mul]; norm_num

/-- The factor of the second map is a real number when the vectors it is made of are finite. -/
theorem lam_real (x4 x5 x6 x7 : Vec Ideal S1x64 .f32) (y4 y5 y6 y7 : Fin 64 → ℝ) (h4 : ∀ x, x4 (ix2 0 x) = (y4 x : EReal))
    (h5 : ∀ x, x5 (ix2 0 x) = (y5 x : EReal)) (h6 : ∀ x, x6 (ix2 0 x) = (y6 x : EReal)) (h7 : ∀ x, x7 (ix2 0 x) = (y7 x : EReal)) :
    ∃ l : ℝ, lamOf x4 x5 x6 x7 = (l : EReal) := by
  obtain ⟨e, he⟩ := cinit
  refine ⟨Real.exp (∑ x, y4 x * y5 x) - Real.exp (∑ x, y6 x * y7 x) + e, ?_⟩
  unfold lamOf
  have a : (∑ x : Fin 64, (x4 (ix2 0 x) * x5 (ix2 0 x) : EReal)) = ((∑ x, y4 x * y5 x : ℝ) : EReal) := by
    rw [coe_sum]; exact Finset.sum_congr rfl fun x _ => by rw [h4, h5, EReal.coe_mul]
  have b : (∑ x : Fin 64, (x6 (ix2 0 x) * x7 (ix2 0 x) : EReal)) = ((∑ x, y6 x * y7 x : ℝ) : EReal) := by
    rw [coe_sum]; exact Finset.sum_congr rfl fun x _ => by rw [h6, h7, EReal.coe_mul]
  rw [a, b, he, Ideal.exp_coe, Ideal.exp_coe, ← EReal.coe_sub, ← EReal.coe_add]

/-- The kernel's result at a row and a lane. -/
theorem result_at_row (b : Fin 2) (h : Fin 4) (s : Fin 8192) (l : Fin 128) :
    (result m c : Vec Ideal S16384x512 .bf16) (ix2 (rq b s) (rl h l)) = blkAt m c (tp b h s) (ix2 (rr s) l) := by
  have hp := prow_tp b h s
  have hh := phead_tp b h s
  refine result_at m c (tp b h s) _ _ ?_ ?_
  · show b.val * 8192 + s.val = prow (tp b h s).val * 256 + s.val % 256; omega
  · show h.val * 128 + l.val = phead (tp b h s).val * 128 + l.val; omega

/-- The two programs' results at a row and a lane. -/
theorem equal_at (v : Fin 16384 → Fin 512 → ℝ) (y4 y5 y6 y7 : Fin 64 → ℝ)
    (hv : ∀ i j, (m ((c : Thread nD τ).loc main_arg2) : Vec Ideal S16384x512 .bf16) (ix2 i j) = (v i j : EReal))
    (h4 : ∀ x, (m ((c : Thread nD τ).loc main_arg4) : Vec Ideal S1x64 .f32) (ix2 0 x) = (y4 x : EReal))
    (h5 : ∀ x, (m ((c : Thread nD τ).loc main_arg5) : Vec Ideal S1x64 .f32) (ix2 0 x) = (y5 x : EReal))
    (h6 : ∀ x, (m ((c : Thread nD τ).loc main_arg6) : Vec Ideal S1x64 .f32) (ix2 0 x) = (y6 x : EReal))
    (h7 : ∀ x, (m ((c : Thread nD τ).loc main_arg7) : Vec Ideal S1x64 .f32) (ix2 0 x) = (y7 x : EReal))
    (b : Fin 2) (h : Fin 4) (s : Fin 8192) (l : Fin 128) :
    (result m c : Vec Ideal S16384x512 .bf16) (ix2 (rq b s) (rl h l))
      = Cert.SecondRefIdeal.Read.val_main_v58 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (ix2 (rq b s) (rl h l)) := by
  have hp := prow_tp b h s
  have hh := phead_tp b h s
  have hb := pb_tp b h s
  have k4 : (iblk m c 4 (tp b h s) : Vec Ideal S1x64 .f32) = m ((c : Thread nD τ).loc main_arg4) := funext fun j => by
    rw [eq_ix2 j]; exact iblk4 m c _ _ _
  have k5 : (iblk m c 5 (tp b h s) : Vec Ideal S1x64 .f32) = m ((c : Thread nD τ).loc main_arg5) := funext fun j => by
    rw [eq_ix2 j]; exact iblk5 m c _ _ _
  have k6 : (iblk m c 6 (tp b h s) : Vec Ideal S1x64 .f32) = m ((c : Thread nD τ).loc main_arg6) := funext fun j => by
    rw [eq_ix2 j]; exact iblk6 m c _ _ _
  have k7 : (iblk m c 7 (tp b h s) : Vec Ideal S1x64 .f32) = m ((c : Thread nD τ).loc main_arg7) := funext fun j => by
    rw [eq_ix2 j]; exact iblk7 m c _ _ _
  have k8 : (iblk m c 8 (tp b h s) : Vec Ideal S1x128 .f32) = m ((c : Thread nD τ).loc main_arg8) := funext fun j => by
    rw [eq_ix2 j]; exact iblk8 m c _ _ _
  have hv' : ∀ (k : Fin 8192) (j : Fin 128), (iblk m c 2 (tp b h s) : Vec Ideal S8192x128 .bf16) (ix2 k j) = (v (rq b k) (rl h j) : EReal) := fun k j => by
    rw [iblk2, ← hv]
    refine congrArg (m ((c : Thread nD τ).loc main_arg2)) (congrArg₂ ix2 (Fin.ext ?_) (Fin.ext ?_))
    · show (tp b h s).val / 128 * 8192 + k.val = b.val * 8192 + k.val; omega
    · show phead (tp b h s).val * 128 + j.val = h.val * 128 + j.val; omega
  have hg : (iblk m c 3 (tp b h s) : Vec Ideal S256x128 .bf16) (ix2 (rr s) l) = (m ((c : Thread nD τ).loc main_arg3) : Vec Ideal S16384x512 .bf16) (ix2 (rq b s) (rl h l)) := by
    rw [iblk3]
    refine congrArg (m ((c : Thread nD τ).loc main_arg3)) (congrArg₂ ix2 (Fin.ext ?_) (Fin.ext ?_))
    · show prow (tp b h s).val * 256 + s.val % 256 = b.val * 8192 + s.val; omega
    · show phead (tp b h s).val * 128 + l.val = h.val * 128 + l.val; omega
  rw [result_at_row, Cert.SecondRefIdeal.Attn.result_apply]
  unfold blkAt
  rw [blk_apply _ _ _ _ _ _ _ _ _ (fun k j => v (rq b k) (rl h j)) hv', hg, k4, k5, k6, k7, k8, gate_eq]
  obtain ⟨lam, hl⟩ := lam_real _ _ _ _ y4 y5 y6 y7 h4 h5 h6 h7
  obtain ⟨e, he⟩ := ceps
  have hr : lamR (m ((c : Thread nD τ).loc main_arg4)) (m ((c : Thread nD τ).loc main_arg5)) (m ((c : Thread nD τ).loc main_arg6)) (m ((c : Thread nD τ).loc main_arg7)) = (lam : EReal) := hl
  rw [hl, hr]
  simp only [weight_eq]
  rw [c128, he]
  have key := row_eq (wgt (m ((c : Thread nD τ).loc main_arg0)) (m ((c : Thread nD τ).loc main_arg1)) b h 0 s)
    (wgt (m ((c : Thread nD τ).loc main_arg0)) (m ((c : Thread nD τ).loc main_arg1)) b h 1 s)
    (fun k => wt_nonneg (sc_le _ _ _ _ _ _ _)) (fun k => wt_nonneg (sc_le _ _ _ _ _ _ _)) lam (fun k j => v (rq b k) (rl h j))
    (K := 128) (e := e) (by norm_num) l
  rw [key]
  have ho : (out (m ((c : Thread nD τ).loc main_arg0)) (m ((c : Thread nD τ).loc main_arg1)) (m ((c : Thread nD τ).loc main_arg2)) (lam : EReal) b h s)
      = fun j => ∑ k : Fin 8192, ((v (rq b k) (rl h j) : ℝ) : EReal) *
          (prob (m ((c : Thread nD τ).loc main_arg0)) (m ((c : Thread nD τ).loc main_arg1)) b h 0 s k
            - (lam : EReal) * prob (m ((c : Thread nD τ).loc main_arg0)) (m ((c : Thread nD τ).loc main_arg1)) b h 1 s k) := by
    funext j
    unfold out
    exact Finset.sum_congr rfl fun k _ => congrArg (· * _) (hv _ _)
  rw [ho]
  rfl

/-- The two programs' results. -/
theorem equal (v : Fin 16384 → Fin 512 → ℝ) (y4 y5 y6 y7 : Fin 64 → ℝ)
    (hv : ∀ i j, (m ((c : Thread nD τ).loc main_arg2) : Vec Ideal S16384x512 .bf16) (ix2 i j) = (v i j : EReal))
    (h4 : ∀ x, (m ((c : Thread nD τ).loc main_arg4) : Vec Ideal S1x64 .f32) (ix2 0 x) = (y4 x : EReal))
    (h5 : ∀ x, (m ((c : Thread nD τ).loc main_arg5) : Vec Ideal S1x64 .f32) (ix2 0 x) = (y5 x : EReal))
    (h6 : ∀ x, (m ((c : Thread nD τ).loc main_arg6) : Vec Ideal S1x64 .f32) (ix2 0 x) = (y6 x : EReal))
    (h7 : ∀ x, (m ((c : Thread nD τ).loc main_arg7) : Vec Ideal S1x64 .f32) (ix2 0 x) = (y7 x : EReal)) :
    (result m c : Vec Ideal S16384x512 .bf16)
      = Cert.SecondRefIdeal.Read.val_main_v58 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  funext p
  have p0 : (p 0).val < 16384 := (p 0).isLt
  have p1 : (p 1).val < 512 := (p 1).isLt
  have e : p = ix2 (rq ⟨(p 0).val / 8192, by omega⟩ ⟨(p 0).val % 8192, by omega⟩) (rl ⟨(p 1).val / 128, by omega⟩ ⟨(p 1).val % 128, by omega⟩) := by
    funext a
    match a with
    | ⟨0, _⟩ => exact Fin.ext (by show (p 0).val = (p 0).val / 8192 * 8192 + (p 0).val % 8192; omega)
    | ⟨1, _⟩ => exact Fin.ext (by show (p 1).val = (p 1).val / 128 * 128 + (p 1).val % 128; omega)
  rw [e]
  exact equal_at m c v y4 y5 y6 y7 hv h4 h5 h6 h7 _ _ _ _

end Cert.SecondIdeal.Attn

end
-- ==== Proof.Payload.lean ====
/- The attention kernel's vector expressions read at one row and lane. A block's 256 query rows are stacked twice: rows
   below 256 of the stack keep the first 64 lanes of a query (the first attention map), the others the last 64 (the
   second map). -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Attn

open Cert.KernelIdeal Cert.KernelIdeal.Gen Cert.Attn Idealize.ShloMosaic
open scoped BigOperators

/-- The query row under row `r` of the stack. -/
def qrow (r : Fin 512) : Fin 256 := ⟨r.val % 256, Nat.mod_lt _ (by norm_num)⟩

/-- The lanes of a query that the map of row `r` of the stack reads. -/
def qlane (r : Fin 512) (d : Fin 64) : Fin 128 :=
  ⟨64 * (r.val / 256) + d.val, by have := r.isLt; have := d.isLt; omega⟩

/-- The lanes below 64 are selected by the first mask. -/
theorem mask_lt (x : Fin 128) : IntOp.cmpi .slt (BitVec.ofNat 32 x.val) 64#32 = if x.val < 64 then 1#1 else 0#1 := by
  revert x; decide +kernel

/-- The lanes from 64 on are selected by the second mask. -/
theorem mask_ge (x : Fin 128) : IntOp.cmpi .sge (BitVec.ofNat 32 x.val) 64#32 = if x.val < 64 then 0#1 else 1#1 := by
  revert x; decide +kernel

/-- The word of minus infinity is the least extended real. -/
theorem neg_inf : Ideal.ofBits FTy.f32 4286578688#32 = (⊥ : EReal) := by
  simp [Ideal.ofBits, Ideal.ieee]

/-- A chunk's scores: only the map's own 64 lanes count. -/
theorem pay5_apply (v3 : Vec Ideal S256x128 .bf16) (v75 : Vec Ideal S1x128x1024 .bf16) (r : Fin 512) (i : Fin 1024) :
    k0_pay5 v3 v75 (ix2 r i) = ∑ d : Fin 64, v3 (ix2 (qrow r) (qlane r d)) * v75 (ix3 0 (qlane r d) i) := by
  pointwise [k0_pay5]
  rw [Fin.sum_univ_add (a := 64) (b := 64)]
  by_cases h : r.val < 256
  · simp only [h, dif_pos, mask_lt]
    have hd : r.val / 256 = 0 := by omega
    have h1 : ∀ d : Fin 64, Fin.castAdd 64 d = qlane r d := fun d => Fin.ext (by simp [qlane, hd])
    have h2 : (⟨r.val, h⟩ : Fin 256) = qrow r := Fin.ext (by simp [qrow]; omega)
    have hl : ∀ d : Fin 64, (qlane r d).val < 64 := fun d => by simp [qlane, hd]
    have hg : ∀ d : Fin 64, ¬ (Fin.natAdd 64 d).val < 64 := fun d => by simp
    simp [h1, h2, hl, hg, Scalar.select]
  · simp only [h, dif_neg, mask_ge, not_false_eq_true]
    have hd : r.val / 256 = 1 := by omega
    have h1 : ∀ d : Fin 64, Fin.natAdd 64 d = qlane r d := fun d => Fin.ext (by
      show 64 + d.val = 64 * (r.val / 256) + d.val
      rw [hd])
    have h2 : (⟨r.val - 256, by omega⟩ : Fin 256) = qrow r := Fin.ext (by simp [qrow]; omega)
    have hl : ∀ d : Fin 64, ¬ (qlane r d).val < 64 := fun d => by simp [qlane, hd]
    have hg : ∀ d : Fin 64, (Fin.castAdd 64 d).val < 64 := fun d => by simp
    simp only [h1, h2, hl, hg, Scalar.select, if_true, if_false]
    simp

/-- The running maximum after a chunk, when before it every lane of the row held `M`. -/
theorem pay6_apply (v3 : Vec Ideal S256x128 .bf16) (v75 : Vec Ideal S1x128x1024 .bf16) (v78 : Vec Ideal S512x128 .f32)
    (r : Fin 512) (M : EReal) (hM : ∀ l : Fin 128, v78 (ix2 r l) = M) (l : Fin 128) :
    k0_pay6 v3 v75 v78 (ix2 r l) = max M (Finset.univ.fold max ⊥ fun x : Fin 1024 => k0_pay5 v3 v75 (ix2 r x)) := by
  pointwise [k0_pay6]
  rw [hM, neg_inf]

/-- The same of the stored form. -/
theorem pay8_apply (v3 : Vec Ideal S256x128 .bf16) (v75 : Vec Ideal S1x128x1024 .bf16) (v78 : Vec Ideal S512x128 .f32)
    (r : Fin 512) (M : EReal) (hM : ∀ l : Fin 128, v78 (ix2 r l) = M) (l : Fin 128) :
    k0_pay8 v3 v75 v78 (ix2 r l) = max M (Finset.univ.fold max ⊥ fun x : Fin 1024 => k0_pay5 v3 v75 (ix2 r x)) := by
  rw [← pay6_apply v3 v75 v78 r M hM l]
  pointwise [k0_pay8]

/-- The accumulated sums after a chunk. -/
theorem pay7_apply (v3 : Vec Ideal S256x128 .bf16) (v75 : Vec Ideal S1x128x1024 .bf16) (v78 : Vec Ideal S512x128 .f32)
    (v90 : Vec Ideal S1024x256 .bf16) (v92 : Vec Ideal S512x256 .f32)
    (r : Fin 512) (M M' : EReal) (hM : ∀ l : Fin 128, v78 (ix2 r l) = M)
    (hM' : max M (Finset.univ.fold max ⊥ fun x : Fin 1024 => k0_pay5 v3 v75 (ix2 r x)) = M') (j : Fin 256) :
    k0_pay7 v3 v75 v78 v90 v92 (ix2 r j) =
      v92 (ix2 r j) * Ideal.exp2 (M - M') + ∑ x : Fin 1024, Ideal.exp2 (k0_pay5 v3 v75 (ix2 r x) - M') * v90 (ix2 x j) := by
  have h6 : ∀ l : Fin 128, k0_pay6 v3 v75 v78 (ix2 r l) = M' := fun l => (pay6_apply v3 v75 v78 r M hM l).trans hM'
  pointwise [k0_pay7]
  simp only [h6, hM, dite_eq_ite, ite_self]
  rfl

/-- The running maximum starts at the least extended real. -/
theorem pay3_apply (r : Fin 512) (l : Fin 128) : (k0_pay3 : FVec Ideal S512x128 .f32) (ix2 r l) = ⊥ := by
  pointwise [k0_pay3]
  exact neg_inf

/-- The sums start at zero. -/
theorem pay4_apply (r : Fin 512) (j : Fin 256) : (k0_pay4 : FVec Ideal S512x256 .f32) (ix2 r j) = 0 := by
  pointwise [k0_pay4]

/-- The values kept beside the ones: a copy. -/
theorem pay1_apply (v72 : Vec Ideal S8192x128 .bf16) (k : Fin 8192) (l : Fin 128) : k0_pay1 v72 (ix2 k l) = v72 (ix2 k l) := by
  pointwise [k0_pay1]

/-- The ones kept beside the values. -/
theorem pay2_apply (k : Fin 8192) (l : Fin 128) : (k0_pay2 : FVec Ideal S8192x128 .bf16) (ix2 k l) = 1 := by
  pointwise [k0_pay2]

/-- The weighted sum of the values over the sum of the weights. -/
theorem pay9_apply (v22 : Vec Ideal S512x256 .f32) (r : Fin 512) (l : Fin 128) :
    k0_pay9 v22 (ix2 r l) = Ideal.div (v22 (ix2 r ⟨l.val, by omega⟩)) (v22 (ix2 r ⟨128 + l.val, by omega⟩)) := by
  pointwise [k0_pay9]

/-- The product of two of the small vectors. -/
theorem pay10_apply (v26 v27 : Vec Ideal S1x64 .f32) (l : Fin 64) : k0_pay10 v26 v27 (ix2 0 l) = v26 (ix2 0 l) * v27 (ix2 0 l) := by
  pointwise [k0_pay10]

/-- The difference of the two maps' results at a row, weighted by `lam`. -/
def diff (v25 : FVec Ideal S512x128 .f32) (lam : EReal) (r : Fin 256) (l : Fin 128) : EReal :=
  v25 (ix2 ⟨r.val, by omega⟩ l) - lam * v25 (ix2 ⟨256 + r.val, by omega⟩ l)

/-- The weight of the second map. -/
def lamOf (x4 x5 x6 x7 : Vec Ideal S1x64 .f32) : EReal :=
  Ideal.exp (∑ x : Fin 64, x4 (ix2 0 x) * x5 (ix2 0 x)) - Ideal.exp (∑ x : Fin 64, x6 (ix2 0 x) * x7 (ix2 0 x)) + Ideal.ofBits FTy.f32 1045220557#32

/-- The block stored: the difference normalized, scaled and gated. -/
theorem pay11_apply (v25 : FVec Ideal S512x128 .f32) (x4 x5 x6 x7 : Vec Ideal S1x64 .f32) (v56 : Vec Ideal S1x128 .f32) (v61 : Vec Ideal S256x128 .bf16) (r : Fin 256) (l : Fin 128) :
    k0_pay11 v25 (k0_pay10 x4 x5) x6 x7 v56 v61 (ix2 r l) =
      nrm (Ideal.ofBits FTy.f32 1124073472#32) (Ideal.ofBits FTy.f32 897988541#32) (fun i => diff v25 (lamOf x4 x5 x6 x7) r i) l
        * v56 (ix2 0 l) * Ideal.ofBits FTy.f32 1061997773#32 * Ideal.div (v61 (ix2 r l)) (1 + Ideal.exp (0 - v61 (ix2 r l))) := by
  pointwise [k0_pay11]
  simp only [pay10_apply]
  rfl

end Cert.KernelIdeal.Attn

end
-- ==== Proof.Loop.lean ====
/- The kernel's loop over the chunks of the keys: the contents of its two scratch buffers after every chunk. -/
module

public import proofs.«01_k».proof.Proof.Gen.KernelIdeal.Value
public import proofs.«01_k».proof.Proof.Gen.KernelIdeal.Frame
public import proofs.«01_k».proof.Proof.Payload
public import Idealize.ShloMosaic.Lib.VecWindow
public import Idealize.ShloMosaic.Lib.Pipeline.ValueKit.Tiles

@[expose] public section

noncomputable section

namespace Cert.KernelIdeal.Attn

open Cert.KernelIdeal Cert.KernelIdeal.Gen Idealize.ShloMosaic Idealize.ShloMosaic.TcCoe Idealize.SL.Sem
open Cert.Attn
open scoped BigOperators

variable {F : FTy → Type} [FloatOps F]

/-- Chunk `n` of the transposed keys. -/
def chK (kt : Vec F S1x128x8192 .bf16) (n : ℕ) : Vec F S1x128x1024 .bf16 :=
  fun j => kt (ix3 0 (j 1) ⟨(1024 * n + (j 2).val) % 8192, Nat.mod_lt _ (by norm_num)⟩)

/-- Chunk `n` of the values and the ones beside them. -/
def chV (xs : Vec F S8192x256 .bf16) (n : ℕ) : Vec F S1024x256 .bf16 :=
  fun j => xs (ix2 ⟨(1024 * n + (j 0).val) % 8192, Nat.mod_lt _ (by norm_num)⟩ (j 1))

/-- The running maximum and the accumulated sums after `n` chunks. -/
def st (q : Vec F S256x128 .bf16) (kt : Vec F S1x128x8192 .bf16) (xs : Vec F S8192x256 .bf16) :
    ℕ → Vec F S512x128 .f32 × Vec F S512x256 .f32
  | 0 => (k0_pay3, k0_pay4)
  | n + 1 => (k0_pay8 q (chK kt n) (st q kt xs n).1, k0_pay7 q (chK kt n) (st q kt xs n).1 (chV xs n) (st q kt xs n).2)

/-- The loop makes eight trips. -/
theorem trips_eq : k0_t1_loop.trips = 8 := by decide +kernel

/-- A trip's two stores, of what it reads. -/
theorem trip_eq (𝒱 : Variants) (c : Dev nD) (bd : Option 𝒱.V) (i : grid0.Coords) (a3 : Memref sig .tc .vmem S256x128 .bf16) (h3 : a3.IsWhole) (a4 : Memref sig .tc .vmem S1x128x8192 .bf16) (h4 : a4.IsWhole) (a5 : Memref sig .tc .vmem S8192x128 .bf16) (h5 : a5.IsWhole) (a6 : Memref sig .tc .vmem S256x128 .bf16) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x128 .f32) (h11 : a11.IsWhole) (a12 : Memref sig .tc .vmem S256x128 .bf16) (h12 : a12.IsWhole) (a13 : Memref sig .tc .vmem S8192x256 .bf16) (h13 : a13.IsWhole) (a14 : Memref sig .tc .vmem S512x128 .f32) (h14 : a14.IsWhole) (a15 : Memref sig .tc .vmem S512x256 .f32) (h15 : a15.IsWhole) (v3 : Vec F S256x128 .bf16) (X4 : BufTy.Contents (Elt F) a4.view.ty) (X13 : BufTy.Contents (Elt F) a13.view.ty) (k : Fin k0_t1_loop.trips) (f14 : BufTy.Contents (Elt F) a14.view.ty) (f15 : BufTy.Contents (Elt F) a15.view.ty) :
    tripL_k0_t1 𝒱 c bd i a3 h3 a4 h4 a5 h5 a6 h6 a7 h7 a8 h8 a9 h9 a10 h10 a11 h11 a12 h12 a13 h13 a14 h14 a15 h15 v3 X4 X13 k f14 f15 =
      ([⟨Rect.unit ![0, 0] S512x128.size inb_S512x128_S512x128_0_0, k0_pay8 v3 (chK (a4.view.read (Elt F) X4) k.val) (a14.view.read (Elt F) f14)⟩],
       [⟨Rect.unit ![0, 0] S512x256.size inb_S512x256_S512x256_0_0, k0_pay7 v3 (chK (a4.view.read (Elt F) X4) k.val) (a14.view.read (Elt F) f14) (chV (a13.view.read (Elt F) X13) k.val) (a15.view.read (Elt F) f15)⟩]) := by
  have e4 : a4.view.readAt (Elt F) (Rect.unit (s := S1x128x8192) (k0_off1 k) S1x128x1024.size (k0_off1_inb k)).toLoadRect X4 = chK (a4.view.read (Elt F) X4) k.val := by
    rw [View.readAt_eq_ld]
    funext j
    refine View.ld_unit_apply_of _ _ _ _ j _ fun b => ?_
    have hk : k.val < 8 := trips_eq ▸ k.isLt
    have h2 : (j 2).val < 1024 := (j 2).isLt
    have h0 : (j 0).val < 1 := (j 0).isLt
    have ho := k0_off1_eq k
    match b with
    | ⟨0, _⟩ => show 0 = k0_off1 k 0 + (j 0).val; rw [show k0_off1 k 0 = 0 from congrFun ho 0]; omega
    | ⟨1, _⟩ => show (j 1).val = k0_off1 k 1 + (j 1).val; rw [show k0_off1 k 1 = 0 from congrFun ho 1]; omega
    | ⟨2, _⟩ => show (1024 * k.val + (j 2).val) % 8192 = k0_off1 k 2 + (j 2).val; rw [show k0_off1 k 2 = 1024 * k.val from congrFun ho 2]; omega
  have e13 : a13.view.readAt (Elt F) (Rect.unit (s := S8192x256) (k0_off2 k) S1024x256.size (k0_off2_inb k)).toLoadRect X13 = chV (a13.view.read (Elt F) X13) k.val := by
    rw [View.readAt_eq_ld]
    funext j
    refine View.ld_unit_apply_of _ _ _ _ j _ fun b => ?_
    have hk : k.val < 8 := trips_eq ▸ k.isLt
    have h0 : (j 0).val < 1024 := (j 0).isLt
    have ho := k0_off2_eq k
    match b with
    | ⟨0, _⟩ => show (1024 * k.val + (j 0).val) % 8192 = k0_off2 k 0 + (j 0).val; rw [show k0_off2 k 0 = 1024 * k.val from congrFun ho 0]; omega
    | ⟨1, _⟩ => show (j 1).val = k0_off2 k 1 + (j 1).val; rw [show k0_off2 k 1 = 0 from congrFun ho 1]; omega
  have e14 : a14.view.readAt (Elt F) (Rect.unit ![0, 0] S512x128.size inb_S512x128_S512x128_0_0).toLoadRect f14 = a14.view.read (Elt F) f14 := by
    rw [View.readAt_eq_ld]; exact View.ld_unit_lit _ _ (by decide)
  have e15 : a15.view.readAt (Elt F) (Rect.unit ![0, 0] S512x256.size inb_S512x256_S512x256_0_0).toLoadRect f15 = a15.view.read (Elt F) f15 := by
    rw [View.readAt_eq_ld]; exact View.ld_unit_lit _ _ (by decide)
  rw [← e4, ← e13, ← e14, ← e15]
  unfold tripL_k0_t1 trip_k0_t1
  dsimp only

/-- After `n` chunks the two scratch buffers hold the running maximum and the accumulated sums. -/
theorem loop_read (𝒱 : Variants) (c : Dev nD) (bd : Option 𝒱.V) (i : grid0.Coords) (a3 : Memref sig .tc .vmem S256x128 .bf16) (h3 : a3.IsWhole) (a4 : Memref sig .tc .vmem S1x128x8192 .bf16) (h4 : a4.IsWhole) (a5 : Memref sig .tc .vmem S8192x128 .bf16) (h5 : a5.IsWhole) (a6 : Memref sig .tc .vmem S256x128 .bf16) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x128 .f32) (h11 : a11.IsWhole) (a12 : Memref sig .tc .vmem S256x128 .bf16) (h12 : a12.IsWhole) (a13 : Memref sig .tc .vmem S8192x256 .bf16) (h13 : a13.IsWhole) (a14 : Memref sig .tc .vmem S512x128 .f32) (h14 : a14.IsWhole) (a15 : Memref sig .tc .vmem S512x256 .f32) (h15 : a15.IsWhole) (v3 : Vec F S256x128 .bf16) (X4 : BufTy.Contents (Elt F) a4.view.ty) (X13 : BufTy.Contents (Elt F) a13.view.ty)
    (G14 : BufTy.Contents (Elt F) a14.view.ty) (G15 : BufTy.Contents (Elt F) a15.view.ty)
    (e14 : a14.view.read (Elt F) G14 = k0_pay3) (e15 : a15.view.read (Elt F) G15 = k0_pay4) (n : ℕ) (hn : n ≤ k0_t1_loop.trips) :
    a14.view.read (Elt F) (a14.view.writes (Elt F) G14 (pb_k0_t1 𝒱 c bd i a3 h3 a4 h4 a5 h5 a6 h6 a7 h7 a8 h8 a9 h9 a10 h10 a11 h11 a12 h12 a13 h13 a14 h14 a15 h15 v3 X4 X13 G14 G15 n).1) = (st v3 (a4.view.read (Elt F) X4) (a13.view.read (Elt F) X13) n).1 ∧
    a15.view.read (Elt F) (a15.view.writes (Elt F) G15 (pb_k0_t1 𝒱 c bd i a3 h3 a4 h4 a5 h5 a6 h6 a7 h7 a8 h8 a9 h9 a10 h10 a11 h11 a12 h12 a13 h13 a14 h14 a15 h15 v3 X4 X13 G14 G15 n).2) = (st v3 (a4.view.read (Elt F) X4) (a13.view.read (Elt F) X13) n).2 := by
  induction n with
  | zero => exact ⟨e14, e15⟩
  | succ n ih =>
    obtain ⟨i14, i15⟩ := ih (Nat.le_of_succ_le hn)
    have e := pb_k0_t1_succ 𝒱 c bd i a3 h3 a4 h4 a5 h5 a6 h6 a7 h7 a8 h8 a9 h9 a10 h10 a11 h11 a12 h12 a13 h13 a14 h14 a15 h15 v3 X4 X13 G14 G15 ⟨n, hn⟩
    rw [trip_eq] at e
    dsimp only at e
    rw [e, i14, i15]
    exact ⟨View.read_writes_full _ _ _ _ _, View.read_writes_full _ _ _ _ _⟩

/-- The sums read after the loop. -/
theorem loop_readCov (𝒱 : Variants) (c : Dev nD) (bd : Option 𝒱.V) (i : grid0.Coords) (a3 : Memref sig .tc .vmem S256x128 .bf16) (h3 : a3.IsWhole) (a4 : Memref sig .tc .vmem S1x128x8192 .bf16) (h4 : a4.IsWhole) (a5 : Memref sig .tc .vmem S8192x128 .bf16) (h5 : a5.IsWhole) (a6 : Memref sig .tc .vmem S256x128 .bf16) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x128 .f32) (h11 : a11.IsWhole) (a12 : Memref sig .tc .vmem S256x128 .bf16) (h12 : a12.IsWhole) (a13 : Memref sig .tc .vmem S8192x256 .bf16) (h13 : a13.IsWhole) (a14 : Memref sig .tc .vmem S512x128 .f32) (h14 : a14.IsWhole) (a15 : Memref sig .tc .vmem S512x256 .f32) (h15 : a15.IsWhole) (v3 : Vec F S256x128 .bf16) (X4 : BufTy.Contents (Elt F) a4.view.ty) (X13 : BufTy.Contents (Elt F) a13.view.ty)
    (G14 : BufTy.Contents (Elt F) a14.view.ty) (e14 : a14.view.read (Elt F) G14 = k0_pay3) {inb : _} {inb' : _} (n : ℕ) (hn : n = k0_t1_loop.trips) :
    a15.view.readCov ((pb_k0_t1 𝒱 c bd i a3 h3 a4 h4 a5 h5 a6 h6 a7 h7 a8 h8 a9 h9 a10 h10 a11 h11 a12 h12 a13 h13 a14 h14 a15 h15 v3 X4 X13 G14 (a15.view.writes (Elt F) a15.view.junk [⟨Rect.unit ![0, 0] S512x256.size inb, k0_pay4⟩]) n).2 ++ [⟨Rect.unit ![0, 0] S512x256.size inb, k0_pay4⟩])
      (Rect.unit (s := S512x256) ![0, 0] S512x256.size inb').toLoadRect = (st v3 (a4.view.read (Elt F) X4) (a13.view.read (Elt F) X13) 8).2 := by
  unfold View.readCov
  rw [View.readAt_eq_ld, View.writes_append, View.ld_unit_lit _ _ (by decide)]
  rw [(loop_read 𝒱 c bd i a3 h3 a4 h4 a5 h5 a6 h6 a7 h7 a8 h8 a9 h9 a10 h10 a11 h11 a12 h12 a13 h13 a14 h14 a15 h15 v3 X4 X13 G14 _ e14 (View.read_writes_full _ _ _ _ _) n hn.le).2, hn, trips_eq]

/-! ## The loop's values over the extended reals -/

/-- The base-two score of key `k` for row `r` of the stack. -/
def score (q : Vec Ideal S256x128 .bf16) (kt : Vec Ideal S1x128x8192 .bf16) (r : Fin 512) (k : ℕ) : EReal :=
  ∑ d : Fin 64, q (ix2 (qrow r) (qlane r d)) * kt (ix3 0 (qlane r d) ⟨k % 8192, Nat.mod_lt _ (by norm_num)⟩)

/-- Column `j` of the values and the ones beside them, by key. -/
def col (xs : Vec Ideal S8192x256 .bf16) (j : Fin 256) (k : ℕ) : EReal :=
  xs (ix2 ⟨k % 8192, Nat.mod_lt _ (by norm_num)⟩ j)

/-- The scratch buffers hold the running maximum of the scores, and the sums of the values by their weights. -/
theorem st_apply (q : Vec Ideal S256x128 .bf16) (kt : Vec Ideal S1x128x8192 .bf16) (xs : Vec Ideal S8192x256 .bf16) (r : Fin 512) (n : ℕ) :
    (∀ l : Fin 128, (st q kt xs n).1 (ix2 r l) = runMax (score q kt r) n) ∧
    (∀ j : Fin 256, (st q kt xs n).2 (ix2 r j) = runSum (score q kt r) (col xs j) n) := by
  have h5 : ∀ n (x : Fin 1024), k0_pay5 q (chK kt n) (ix2 r x) = score q kt r (1024 * n + x.val) := fun n x => pay5_apply _ _ _ _
  induction n with
  | zero => exact ⟨fun l => pay3_apply r l, fun j => pay4_apply r j⟩
  | succ n ih =>
    have hM : max (runMax (score q kt r) n) (Finset.univ.fold max ⊥ fun x : Fin 1024 => k0_pay5 q (chK kt n) (ix2 r x)) = runMax (score q kt r) (n + 1) := by
      simp only [h5]; rfl
    refine ⟨fun l => ?_, fun j => ?_⟩
    · exact (pay8_apply q (chK kt n) _ r _ ih.1 l).trans hM
    · refine (pay7_apply q (chK kt n) _ (chV xs n) _ r _ _ ih.1 hM j).trans ?_
      rw [ih.2 j]
      simp only [h5]
      rfl

end Cert.KernelIdeal.Attn

end
-- ==== Proof.Block.lean ====
/- What a grid point of the kernel stores, as one function of the blocks it reads. -/
module

public import proofs.«01_k».proof.Proof.Gen.KernelIdeal.Value
public import proofs.«01_k».proof.Proof.Gen.KernelIdeal.Frame
public import proofs.«01_k».proof.Proof.Loop
public import Idealize.ShloMosaic.Lib.WritesUnit
public import Idealize.ShloMosaic.Lib.Pipeline.ValueKit.Basic

@[expose] public section

noncomputable section

namespace Cert.KernelIdeal.Attn

open Cert.KernelIdeal Cert.KernelIdeal.Gen Idealize.ShloMosaic Idealize.ShloMosaic.TcCoe Idealize.SL.Sem
open Cert.Attn
open scoped BigOperators

variable {F : FTy → Type} [FloatOps F]

/-- A load of a whole buffer reads its contents. -/
theorem readAt_unread {sp : Space} {s : Shape} {e : EltTy} (a : Memref sig .tc sp s e) (h : a.IsWhole) (x : s.Idx → Elt F e) {off : Fin s.rank → ℕ}
    (inb : ∀ b, off b + s.size b ≤ s.size b) (h0 : ∀ b, off b = 0) :
    a.view.readAt (Elt F) (Rect.unit off s.size inb).toLoadRect (h.unread x) = x := by
  rw [View.readAt_eq_ld, h.read_unread, View.ld_unit_lit _ _ h0]

/-- The values beside a block of ones: what the first query block of a head stores, and the others reuse. -/
def vones (x2 : Vec F S8192x128 .bf16) : Vec F S8192x256 .bf16 :=
  fun j => if h : (j 1).val < 128 then k0_pay1 x2 (ix2 (j 0) ⟨(j 1).val, h⟩)
    else k0_pay2 (ix2 (j 0) ⟨(j 1).val - 128, by have := (j 1).isLt; change _ < 256 at this; omega⟩)

/-- The two stores of the values and the ones, read back. -/
theorem vones_read {sp : Space} (v : View sig .tc sp S8192x256 .bf16) (f : BufTy.Contents (Elt F) v.ty) (x2 : Vec F S8192x128 .bf16) {inb : _} {inb' : _} :
    v.read (Elt F) (v.writes (Elt F) f
      [⟨Rect.unit (s := S8192x256) ![0, 128] S8192x128.size inb, k0_pay2⟩, ⟨Rect.unit ![0, 0] S8192x128.size inb', k0_pay1 x2⟩]) = vones x2 := by
  funext j
  have hj : (j 1).val < 256 := (j 1).isLt
  unfold vones
  by_cases h : (j 1).val < 128
  · rw [dif_pos h]
    refine (View.read_writes_cons_unit_of_not_mem v f inb k0_pay2 _ j rfl 1 (Or.inl h)).trans ?_
    refine View.read_writes_cons_unit_of_mem v f inb' (k0_pay1 x2) [] j (ix2 (j 0) ⟨(j 1).val, h⟩) rfl fun b => ?_
    match b with
    | ⟨0, _⟩ => show (j 0).val = 0 + (j 0).val; omega
    | ⟨1, _⟩ => show (j 1).val = 0 + (j 1).val; omega
  · rw [dif_neg h]
    refine View.read_writes_cons_unit_of_mem v f inb k0_pay2 _ j (ix2 (j 0) ⟨(j 1).val - 128, by omega⟩) rfl fun b => ?_
    match b with
    | ⟨0, _⟩ => show (j 0).val = 0 + (j 0).val; omega
    | ⟨1, _⟩ => show (j 1).val = 128 + ((j 1).val - 128); omega

/-- The block a point stores, from its inputs and the values kept beside the ones. -/
def blk (x0 : Vec F S256x128 .bf16) (x1 : Vec F S1x128x8192 .bf16) (xs : Vec F S8192x256 .bf16) (x3 : Vec F S256x128 .bf16) (x4 : Vec F S1x64 .f32) (x5 : Vec F S1x64 .f32) (x6 : Vec F S1x64 .f32) (x7 : Vec F S1x64 .f32) (x8 : Vec F S1x128 .f32) : Vec F S256x128 .bf16 :=
  k0_pay11 (k0_pay9 (st x0 x1 xs 8).2) (k0_pay10 x4 x5) x6 x7 x8 x3

/-- A later query block of a head reuses the values kept beside the ones. -/
theorem out_B (c : Dev nD) (i : grid0.Coords) (a3 : Memref sig .tc .vmem S256x128 .bf16) (h3 : a3.IsWhole) (a4 : Memref sig .tc .vmem S1x128x8192 .bf16) (h4 : a4.IsWhole) (a5 : Memref sig .tc .vmem S8192x128 .bf16) (h5 : a5.IsWhole) (a6 : Memref sig .tc .vmem S256x128 .bf16) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x128 .f32) (h11 : a11.IsWhole) (a12 : Memref sig .tc .vmem S256x128 .bf16) (h12 : a12.IsWhole) (a13 : Memref sig .tc .vmem S8192x256 .bf16) (h13 : a13.IsWhole) (a14 : Memref sig .tc .vmem S512x128 .f32) (h14 : a14.IsWhole) (a15 : Memref sig .tc .vmem S512x256 .f32) (h15 : a15.IsWhole) (hc : ¬cond0_0 i)
    (x0 : Vec F S256x128 .bf16) (x1 : Vec F S1x128x8192 .bf16) (x2 : Vec F S8192x128 .bf16) (x3 : Vec F S256x128 .bf16) (x4 : Vec F S1x64 .f32) (x5 : Vec F S1x64 .f32) (x6 : Vec F S1x64 .f32) (x7 : Vec F S1x64 .f32) (x8 : Vec F S1x128 .f32) (xs : Vec F S8192x256 .bf16) :
    out0_B_9 c i a3 h3 a4 h4 a5 h5 a6 h6 a7 h7 a8 h8 a9 h9 a10 h10 a11 h11 a12 h12 a13 h13 a14 h14 a15 h15 hc x0 x1 x2 x3 x4 x5 x6 x7 x8 xs = blk x0 x1 xs x3 x4 x5 x6 x7 x8 := by
  unfold out0_B_9
  rw [View.read_writes_eq_canon _ _ _ (cover0_B_9 c i a3 h3 a4 h4 a5 h5 a6 h6 a7 h7 a8 h8 a9 h9 a10 h10 a11 h11 a12 h12 a13 h13 a14 h14 a15 h15 hc x0 x1 x2 x3 x4 x5 x6 x7 x8 xs)]
  unfold kernelRun0_B
  dsimp only
  sl_unfold_words
  refine (View.canon_cons_unit_lit _ _ _ (by decide)).trans ?_
  rw [readAt_unread a3 h3 _ _ (by decide), readAt_unread a6 h6 _ _ (by decide), readAt_unread a7 h7 _ _ (by decide), readAt_unread a8 h8 _ _ (by decide),
    readAt_unread a9 h9 _ _ (by decide), readAt_unread a10 h10 _ _ (by decide), readAt_unread a11 h11 _ _ (by decide),
    loop_readCov Variants.none c none i a3 h3 a4 h4 a5 h5 a6 h6 a7 h7 a8 h8 a9 h9 a10 h10 a11 h11 a12 h12 a13 h13 a14 h14 a15 h15 x0 (h4.unread x1) (h13.unread xs) _ (View.read_writes_full _ _ _ _ _) _ rfl, h4.read_unread, h13.read_unread]
  rfl

/-- The first query block of a head keeps the values beside the ones, and uses them. -/
theorem out_A (c : Dev nD) (i : grid0.Coords) (a3 : Memref sig .tc .vmem S256x128 .bf16) (h3 : a3.IsWhole) (a4 : Memref sig .tc .vmem S1x128x8192 .bf16) (h4 : a4.IsWhole) (a5 : Memref sig .tc .vmem S8192x128 .bf16) (h5 : a5.IsWhole) (a6 : Memref sig .tc .vmem S256x128 .bf16) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x128 .f32) (h11 : a11.IsWhole) (a12 : Memref sig .tc .vmem S256x128 .bf16) (h12 : a12.IsWhole) (a13 : Memref sig .tc .vmem S8192x256 .bf16) (h13 : a13.IsWhole) (a14 : Memref sig .tc .vmem S512x128 .f32) (h14 : a14.IsWhole) (a15 : Memref sig .tc .vmem S512x256 .f32) (h15 : a15.IsWhole) (hc : cond0_0 i)
    (x0 : Vec F S256x128 .bf16) (x1 : Vec F S1x128x8192 .bf16) (x2 : Vec F S8192x128 .bf16) (x3 : Vec F S256x128 .bf16) (x4 : Vec F S1x64 .f32) (x5 : Vec F S1x64 .f32) (x6 : Vec F S1x64 .f32) (x7 : Vec F S1x64 .f32) (x8 : Vec F S1x128 .f32) :
    out0_A_9 c i a3 h3 a4 h4 a5 h5 a6 h6 a7 h7 a8 h8 a9 h9 a10 h10 a11 h11 a12 h12 a13 h13 a14 h14 a15 h15 hc x0 x1 x2 x3 x4 x5 x6 x7 x8 = blk x0 x1 (vones x2) x3 x4 x5 x6 x7 x8 := by
  unfold out0_A_9
  rw [View.read_writes_eq_canon _ _ _ (cover0_A_9 c i a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  refine (View.canon_cons_unit_lit _ _ _ (by decide)).trans ?_
  rw [readAt_unread a3 h3 _ _ (by decide), readAt_unread a6 h6 _ _ (by decide), readAt_unread a7 h7 _ _ (by decide), readAt_unread a8 h8 _ _ (by decide),
    readAt_unread a9 h9 _ _ (by decide), readAt_unread a10 h10 _ _ (by decide), readAt_unread a11 h11 _ _ (by decide), readAt_unread a5 h5 _ _ (by decide),
    loop_readCov Variants.none c none i a3 h3 a4 h4 a5 h5 a6 h6 a7 h7 a8 h8 a9 h9 a10 h10 a11 h11 a12 h12 a13 h13 a14 h14 a15 h15 x0 (h4.unread x1) _ _ (View.read_writes_full _ _ _ _ _) _ rfl, h4.read_unread, vones_read]
  rfl

/-- What the first query block of a head keeps. -/
theorem sout_A (c : Dev nD) (i : grid0.Coords) (a3 : Memref sig .tc .vmem S256x128 .bf16) (h3 : a3.IsWhole) (a4 : Memref sig .tc .vmem S1x128x8192 .bf16) (h4 : a4.IsWhole) (a5 : Memref sig .tc .vmem S8192x128 .bf16) (h5 : a5.IsWhole) (a6 : Memref sig .tc .vmem S256x128 .bf16) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x128 .f32) (h11 : a11.IsWhole) (a12 : Memref sig .tc .vmem S256x128 .bf16) (h12 : a12.IsWhole) (a13 : Memref sig .tc .vmem S8192x256 .bf16) (h13 : a13.IsWhole) (a14 : Memref sig .tc .vmem S512x128 .f32) (h14 : a14.IsWhole) (a15 : Memref sig .tc .vmem S512x256 .f32) (h15 : a15.IsWhole) (hc : cond0_0 i)
    (x0 : Vec F S256x128 .bf16) (x1 : Vec F S1x128x8192 .bf16) (x2 : Vec F S8192x128 .bf16) (x3 : Vec F S256x128 .bf16) (x4 : Vec F S1x64 .f32) (x5 : Vec F S1x64 .f32) (x6 : Vec F S1x64 .f32) (x7 : Vec F S1x64 .f32) (x8 : Vec F S1x128 .f32) :
    sout0_A_0 c i a3 h3 a4 h4 a5 h5 a6 h6 a7 h7 a8 h8 a9 h9 a10 h10 a11 h11 a12 h12 a13 h13 a14 h14 a15 h15 hc x0 x1 x2 x3 x4 x5 x6 x7 x8 = vones x2 := by
  unfold sout0_A_0 kernelRun0_A
  dsimp only
  sl_unfold_words
  rw [readAt_unread a5 h5 _ _ (by decide)]
  exact vones_read _ _ _

end Cert.KernelIdeal.Attn

end
-- ==== Proof.Array.lean ====
/- The kernel's result array, element by element. -/
module

public import proofs.«01_k».proof.Proof.Gen.KernelIdeal.Value
public import proofs.«01_k».proof.Proof.Gen.KernelIdeal.Frame
public import proofs.«01_k».proof.Proof.Block

@[expose] public section

noncomputable section

namespace Cert.KernelIdeal.Attn

open Cert.KernelIdeal Cert.KernelIdeal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

/-- Grid point `t`'s block of rows, over the queries, the gates and the result. -/
def prow (t : ℕ) : ℕ := t / 128 * 32 + t % 32

/-- Grid point `t`'s head. -/
def phead (t : ℕ) : ℕ := t / 32 % 4

/-- Which block of the queries a grid point reads or writes. -/
theorem idx0 : ∀ t : Fin grid0.N, win0_0.index t 0 = prow t.val ∧ win0_0.index t 1 = phead t.val := by decide +kernel
/-- Which block of the keys a grid point reads or writes. -/
theorem idx1 : ∀ t : Fin grid0.N, win0_1.index t 0 = t.val / 128 ∧ win0_1.index t 1 = phead t.val ∧ win0_1.index t 2 = 0 := by decide +kernel
/-- Which block of the values a grid point reads or writes. -/
theorem idx2 : ∀ t : Fin grid0.N, win0_2.index t 0 = t.val / 128 ∧ win0_2.index t 1 = phead t.val := by decide +kernel
/-- Which block of the gates a grid point reads or writes. -/
theorem idx3 : ∀ t : Fin grid0.N, win0_3.index t 0 = prow t.val ∧ win0_3.index t 1 = phead t.val := by decide +kernel
/-- Which block of the first vector of the factor a grid point reads or writes. -/
theorem idx4 : ∀ t : Fin grid0.N, win0_4.index t 0 = 0 ∧ win0_4.index t 1 = 0 := by decide +kernel
/-- Which block of the second vector of the factor a grid point reads or writes. -/
theorem idx5 : ∀ t : Fin grid0.N, win0_5.index t 0 = 0 ∧ win0_5.index t 1 = 0 := by decide +kernel
/-- Which block of the third vector of the factor a grid point reads or writes. -/
theorem idx6 : ∀ t : Fin grid0.N, win0_6.index t 0 = 0 ∧ win0_6.index t 1 = 0 := by decide +kernel
/-- Which block of the fourth vector of the factor a grid point reads or writes. -/
theorem idx7 : ∀ t : Fin grid0.N, win0_7.index t 0 = 0 ∧ win0_7.index t 1 = 0 := by decide +kernel
/-- Which block of the scale a grid point reads or writes. -/
theorem idx8 : ∀ t : Fin grid0.N, win0_8.index t 0 = 0 ∧ win0_8.index t 1 = 0 := by decide +kernel
/-- Which block of the result a grid point reads or writes. -/
theorem idx9 : ∀ t : Fin grid0.N, win0_9.index t 0 = prow t.val ∧ win0_9.index t 1 = phead t.val := by decide +kernel

/-- There are 64 blocks of rows. -/
theorem prow_lt (t : Fin cfg0.N) : prow t.val < 64 := by
  have : t.val < 256 := t.isLt
  unfold prow; omega

/-- There are four heads. -/
theorem phead_lt (t : ℕ) : phead t < 4 := by unfold phead; omega

/-- Window 0's block at a point, by its index in the array. -/
theorem iblk0 (c : Dev nD) (t : Fin cfg0.N) (r : Fin 256) (l : Fin 128) :
    (iblk m c 0 t : Vec F S256x128 .bf16) (ix2 r l) = m ((c : Thread nD τ).loc main_arg0) (ix2 (n0 := 16384) (n1 := 512) ⟨prow t.val * 256 + r.val, by have := prow_lt t; omega⟩ ⟨phead t.val * 128 + l.val, by have := phead_lt t.val; omega⟩) := by
  have hi := idx0 t
  unfold iblk
  rw [View.read_apply]
  show V m c main_arg0 _ = m (c.tc.loc main_arg0) _
  unfold V
  congr 1
  funext a
  apply Fin.ext
  match a with
  | ⟨0, _⟩ => show win0_0.index t 0 * 256 + 1 * r.val = prow t.val * 256 + r.val; rw [hi.1]; omega
  | ⟨1, _⟩ => show win0_0.index t 1 * 128 + 1 * l.val = phead t.val * 128 + l.val; rw [hi.2]; omega

/-- Window 1's block at a point, by its index in the array. -/
theorem iblk1 (c : Dev nD) (t : Fin cfg0.N) (r : Fin 128) (l : Fin 8192) :
    (iblk m c 1 t : Vec F S1x128x8192 .bf16) (ix3 0 r l) = m ((c : Thread nD τ).loc main_arg1)
      (ix3 (n0 := 2) (n1 := 512) (n2 := 8192) ⟨t.val / 128, by have : t.val < 256 := t.isLt; omega⟩ ⟨phead t.val * 128 + r.val, by have := phead_lt t.val; omega⟩ l) := by
  have hi := idx1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 128; rw [hi.1]; omega
  | ⟨1, _⟩ => show win0_1.index t 1 * 128 + 1 * r.val = phead t.val * 128 + r.val; rw [hi.2.1]; omega
  | ⟨2, _⟩ => show win0_1.index t 2 * 8192 + 1 * l.val = l.val; rw [hi.2.2]; omega

/-- Window 2's block at a point, by its index in the array. -/
theorem iblk2 (c : Dev nD) (t : Fin cfg0.N) (r : Fin 8192) (l : Fin 128) :
    (iblk m c 2 t : Vec F S8192x128 .bf16) (ix2 r l) = m ((c : Thread nD τ).loc main_arg2) (ix2 (n0 := 16384) (n1 := 512) ⟨t.val / 128 * 8192 + r.val, by have : t.val < 256 := t.isLt; omega⟩ ⟨phead t.val * 128 + l.val, by have := phead_lt t.val; omega⟩) := by
  have hi := idx2 t
  unfold iblk
  rw [View.read_apply]
  show V m c main_arg2 _ = m (c.tc.loc main_arg2) _
  unfold V
  congr 1
  funext a
  apply Fin.ext
  match a with
  | ⟨0, _⟩ => show win0_2.index t 0 * 8192 + 1 * r.val = t.val / 128 * 8192 + r.val; rw [hi.1]; omega
  | ⟨1, _⟩ => show win0_2.index t 1 * 128 + 1 * l.val = phead t.val * 128 + l.val; rw [hi.2]; omega

/-- Window 3's block at a point, by its index in the array. -/
theorem iblk3 (c : Dev nD) (t : Fin cfg0.N) (r : Fin 256) (l : Fin 128) :
    (iblk m c 3 t : Vec F S256x128 .bf16) (ix2 r l) = m ((c : Thread nD τ).loc main_arg3) (ix2 (n0 := 16384) (n1 := 512) ⟨prow t.val * 256 + r.val, by have := prow_lt t; omega⟩ ⟨phead t.val * 128 + l.val, by have := phead_lt t.val; omega⟩) := by
  have hi := idx3 t
  unfold iblk
  rw [View.read_apply]
  show V m c main_arg3 _ = m (c.tc.loc main_arg3) _
  unfold V
  congr 1
  funext a
  apply Fin.ext
  match a with
  | ⟨0, _⟩ => show win0_3.index t 0 * 256 + 1 * r.val = prow t.val * 256 + r.val; rw [hi.1]; omega
  | ⟨1, _⟩ => show win0_3.index t 1 * 128 + 1 * l.val = phead t.val * 128 + l.val; rw [hi.2]; omega

/-- Window 4's block at a point, by its index in the array. -/
theorem iblk4 (c : Dev nD) (t : Fin cfg0.N) (r : Fin 1) (l : Fin 64) :
    (iblk m c 4 t : Vec F S1x64 .f32) (ix2 r l) = m ((c : Thread nD τ).loc main_arg4) (ix2 (n0 := 1) (n1 := 64) ⟨r.val, by omega⟩ ⟨l.val, by omega⟩) := by
  have hi := idx4 t
  unfold iblk
  rw [View.read_apply]
  show V m c main_arg4 _ = m (c.tc.loc main_arg4) _
  unfold V
  congr 1
  funext a
  apply Fin.ext
  match a with
  | ⟨0, _⟩ => show win0_4.index t 0 * 1 + 1 * r.val = r.val; rw [hi.1]; omega
  | ⟨1, _⟩ => show win0_4.index t 1 * 64 + 1 * l.val = l.val; rw [hi.2]; omega

/-- Window 5's block at a point, by its index in the array. -/
theorem iblk5 (c : Dev nD) (t : Fin cfg0.N) (r : Fin 1) (l : Fin 64) :
    (iblk m c 5 t : Vec F S1x64 .f32) (ix2 r l) = m ((c : Thread nD τ).loc main_arg5) (ix2 (n0 := 1) (n1 := 64) ⟨r.val, by omega⟩ ⟨l.val, by omega⟩) := by
  have hi := idx5 t
  unfold iblk
  rw [View.read_apply]
  show V m c main_arg5 _ = m (c.tc.loc main_arg5) _
  unfold V
  congr 1
  funext a
  apply Fin.ext
  match a with
  | ⟨0, _⟩ => show win0_5.index t 0 * 1 + 1 * r.val = r.val; rw [hi.1]; omega
  | ⟨1, _⟩ => show win0_5.index t 1 * 64 + 1 * l.val = l.val; rw [hi.2]; omega

/-- Window 6's block at a point, by its index in the array. -/
theorem iblk6 (c : Dev nD) (t : Fin cfg0.N) (r : Fin 1) (l : Fin 64) :
    (iblk m c 6 t : Vec F S1x64 .f32) (ix2 r l) = m ((c : Thread nD τ).loc main_arg6) (ix2 (n0 := 1) (n1 := 64) ⟨r.val, by omega⟩ ⟨l.val, by omega⟩) := by
  have hi := idx6 t
  unfold iblk
  rw [View.read_apply]
  show V m c main_arg6 _ = m (c.tc.loc main_arg6) _
  unfold V
  congr 1
  funext a
  apply Fin.ext
  match a with
  | ⟨0, _⟩ => show win0_6.index t 0 * 1 + 1 * r.val = r.val; rw [hi.1]; omega
  | ⟨1, _⟩ => show win0_6.index t 1 * 64 + 1 * l.val = l.val; rw [hi.2]; omega

/-- Window 7's block at a point, by its index in the array. -/
theorem iblk7 (c : Dev nD) (t : Fin cfg0.N) (r : Fin 1) (l : Fin 64) :
    (iblk m c 7 t : Vec F S1x64 .f32) (ix2 r l) = m ((c : Thread nD τ).loc main_arg7) (ix2 (n0 := 1) (n1 := 64) ⟨r.val, by omega⟩ ⟨l.val, by omega⟩) := by
  have hi := idx7 t
  unfold iblk
  rw [View.read_apply]
  show V m c main_arg7 _ = m (c.tc.loc main_arg7) _
  unfold V
  congr 1
  funext a
  apply Fin.ext
  match a with
  | ⟨0, _⟩ => show win0_7.index t 0 * 1 + 1 * r.val = r.val; rw [hi.1]; omega
  | ⟨1, _⟩ => show win0_7.index t 1 * 64 + 1 * l.val = l.val; rw [hi.2]; omega

/-- Window 8's block at a point, by its index in the array. -/
theorem iblk8 (c : Dev nD) (t : Fin cfg0.N) (r : Fin 1) (l : Fin 128) :
    (iblk m c 8 t : Vec F S1x128 .f32) (ix2 r l) = m ((c : Thread nD τ).loc main_arg8) (ix2 (n0 := 1) (n1 := 128) ⟨r.val, by omega⟩ ⟨l.val, by omega⟩) := by
  have hi := idx8 t
  unfold iblk
  rw [View.read_apply]
  show V m c main_arg8 _ = m (c.tc.loc main_arg8) _
  unfold V
  congr 1
  funext a
  apply Fin.ext
  match a with
  | ⟨0, _⟩ => show win0_8.index t 0 * 1 + 1 * r.val = r.val; rw [hi.1]; omega
  | ⟨1, _⟩ => show win0_8.index t 1 * 128 + 1 * l.val = l.val; rw [hi.2]; omega

/-- Inside a head the values' block does not move. -/
theorem iblk2_pred (c : Dev nD) (t : Fin cfg0.N) (h0 : ¬t.val % 32 = 0) (h : t.val - 1 < cfg0.N) :
    (iblk m c 2 ⟨t.val - 1, h⟩ : Vec F S8192x128 .bf16) = iblk m c 2 t := by
  have key : ∀ (r : Fin 8192) (l : Fin 128), (iblk m c 2 ⟨t.val - 1, h⟩ : Vec F S8192x128 .bf16) (ix2 r l) = (iblk m c 2 t : Vec F S8192x128 .bf16) (ix2 r l) := fun r l => by
    rw [iblk2, iblk2]
    refine congrArg (m ((c : Thread nD τ).loc main_arg2)) (congrArg₂ ix2 (Fin.ext ?_) (Fin.ext ?_))
    · show (t.val - 1) / 128 * 8192 + r.val = t.val / 128 * 8192 + r.val
      have : (t.val - 1) / 128 = t.val / 128 := by omega
      rw [this]
    · show phead (t.val - 1) * 128 + l.val = phead t.val * 128 + l.val
      have : phead (t.val - 1) = phead t.val := by unfold phead; omega
      rw [this]
  refine funext fun (j : S8192x128.Idx) => ?_
  rw [eq_ix2 j]
  exact key _ _

/-- After every point the scratch keeps the head's values beside the ones. -/
theorem kept (c : Dev nD) : ∀ (n : ℕ) (h : n < cfg0.N), (outsAt0 m c n h).2 = vones (iblk m c 2 ⟨n, h⟩)
  | n, h => by
    by_cases h0 : n % 32 = 0
    · refine (congrArg Prod.snd (outsAt0_A m c ⟨n, h⟩ h0)).trans ?_
      dsimp only
      exact sout_A ..
    · have hp : n - 1 < n := by omega
      refine (congrArg Prod.snd (outsAt0_B m c ⟨n, h⟩ h0)).trans ?_
      dsimp only
      unfold sout0_B_0
      exact (kept c (n - 1) _).trans (congrArg vones (iblk2_pred m c ⟨n, h⟩ h0 _))

/-- What point `t` leaves in the result's block. -/
def blkAt (c : Dev nD) (t : Fin cfg0.N) : Vec F S256x128 .bf16 :=
  blk (iblk m c 0 t) (iblk m c 1 t) (vones (iblk m c 2 t)) (iblk m c 3 t) (iblk m c 4 t) (iblk m c 5 t) (iblk m c 6 t) (iblk m c 7 t) (iblk m c 8 t)

/-- Every point leaves its block. -/
theorem outs_eq (c : Dev nD) (t : Fin cfg0.N) : (outsAt0 m c t.val t.isLt).1 = blkAt m c t := by
  by_cases h0 : t.val % 32 = 0
  · refine (congrArg Prod.fst (outsAt0_A m c t h0)).trans ?_
    dsimp only
    exact out_A ..
  · refine (congrArg Prod.fst (outsAt0_B m c t h0)).trans ?_
    dsimp only
    refine (out_B ..).trans ?_
    rw [kept, iblk2_pred m c t h0]
    rfl

/-- The point that computes a row and lane of the result. -/
def pt (p : S16384x512.Idx) : Fin cfg0.N :=
  ⟨(p 0).val / 8192 * 128 + (p 1).val / 128 * 32 + (p 0).val % 8192 / 256, by
    have h0 : (p 0).val < 16384 := (p 0).isLt
    have h1 : (p 1).val < 512 := (p 1).isLt
    show _ < 256
    omega⟩

/-- The result array. -/
def result (c : Dev nD) : Buf (Elt F) ((c : Thread nD τ).loc main_v0) :=
  fun p : S16384x512.Idx => blkAt m c (pt p) (ix2 ⟨(p 0).val % 256, Nat.mod_lt _ (by norm_num)⟩ ⟨(p 1).val % 128, Nat.mod_lt _ (by norm_num)⟩)

/-- The result at an index of point `t`'s block. -/
theorem result_at (c : Dev nD) (t : Fin cfg0.N) (p : S16384x512.Idx) (j : S256x128.Idx) (e0 : (p 0).val = prow t.val * 256 + (j 0).val)
    (e1 : (p 1).val = phead t.val * 128 + (j 1).val) : (result m c : Vec F S16384x512 .bf16) p = blkAt m c t j := by
  have ht : t.val < 256 := t.isLt
  have hj0 : (j 0).val < 256 := (j 0).isLt
  have hj1 : (j 1).val < 128 := (j 1).isLt
  have hpt : pt p = t := Fin.ext (by
    show (p 0).val / 8192 * 128 + (p 1).val / 128 * 32 + (p 0).val % 8192 / 256 = t.val
    rw [e0, e1]; unfold prow phead; omega)
  have hj : (ix2 ⟨(p 0).val % 256, Nat.mod_lt _ (by norm_num)⟩ ⟨(p 1).val % 128, Nat.mod_lt _ (by norm_num)⟩ : S256x128.Idx) = j := by
    rw [eq_ix2 j]
    exact congrArg₂ ix2 (Fin.ext (by show (p 0).val % 256 = (j 0).val; rw [e0]; omega)) (Fin.ext (by show (p 1).val % 128 = (j 1).val; rw [e1]; omega))
  show blkAt m c (pt p) _ = _
  rw [hpt, hj]

/-- Every point writes its block of the result. -/
theorem flushed_eq (c : Dev nD) (t : Fin cfg0.N) (hf : (cfg0.win 9).flush t = true) :
    (dats m 0 c).flushed 9 t = ((cfg0.win 9).blk t).view.read (Elt F) (result m c) := by
  rw [Value.flushed9, outs_eq]
  funext j
  rw [View.read_apply]
  have hi := idx9 t
  have ht : t.val < 256 := t.isLt
  have e0 : ((((cfg0.win 9).blk t).view.emb j : S16384x512.Idx) 0).val = prow t.val * 256 + (j 0).val := by
    show win0_9.index t 0 * 256 + 1 * (j 0).val = _; rw [hi.1]; omega
  have e1 : ((((cfg0.win 9).blk t).view.emb j : S16384x512.Idx) 1).val = phead t.val * 128 + (j 1).val := by
    show win0_9.index t 1 * 128 + 1 * (j 1).val = _; rw [hi.2]; omega
  exact (result_at m c t _ j e0 e1).symm

/-- The result array after the run. -/
theorem final (c : Dev nD) : (dats m 0 c).arrAt 9 cfg0.N = result m c :=
  (dats m 0 c).arrAt_eq_of_cover 9 (result m c) (flushed_eq m c) fun i =>
    ⟨pt i, flush0_9 _, by
      show i ∈ ((View.whole main_v0).slice (win0_9.rect (pt i))).set
      rw [View.set_slice_whole, Rect.mem_set_unit]
      intro a
      have hi := idx9 (pt i)
      have h0 : (i 0 : Nat) < 16384 := (i 0).isLt
      have h1 : (i 1 : Nat) < 512 := (i 1).isLt
      have hp : (pt i).val = (i 0).val / 8192 * 128 + (i 1).val / 128 * 32 + (i 0).val % 8192 / 256 := rfl
      match a with
      | ⟨0, _⟩ =>
        show win0_9.index (pt i) 0 * 256 ≤ (i 0 : Nat) ∧ (i 0 : Nat) < win0_9.index (pt i) 0 * 256 + 256
        rw [hi.1, hp]; unfold prow; omega
      | ⟨1, _⟩ =>
        show win0_9.index (pt i) 1 * 128 ≤ (i 1 : Nat) ∧ (i 1 : Nat) < win0_9.index (pt i) 1 * 128 + 128
        rw [hi.2, hp]; unfold phead; omega⟩

end Cert.KernelIdeal.Attn

end
-- ==== Proof.KernelVal.lean ====
/- The block a grid point stores, over the extended reals, when the values it reads are real numbers: the two softmax
   averages of the values, their difference, the norm over the head's lanes and the gate. -/
module

public import proofs.«01_k».proof.Proof.Block
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe
open Cert.Attn
open scoped BigOperators

/-- The weight of key `k` in row `r` of a block, against the row's maximum over all the keys. -/
def wk (q : Vec Ideal S256x128 .bf16) (kt : Vec Ideal S1x128x8192 .bf16) (r : Fin 512) (k : Fin 8192) : ℝ :=
  wt (score q kt r k.val) ((Finset.range 8192).sup (score q kt r))

/-- The loop's sums at its end, for one column of real numbers. -/
theorem sums_apply (q : Vec Ideal S256x128 .bf16) (kt : Vec Ideal S1x128x8192 .bf16) (xs : Vec Ideal S8192x256 .bf16) (r : Fin 512) (j : Fin 256)
    (u : Fin 8192 → ℝ) (hu : ∀ k, xs (ix2 k j) = (u k : EReal)) :
    (st q kt xs 8).2 (ix2 r j) = ((∑ k, wk q kt r k * u k : ℝ) : EReal) := by
  rw [(st_apply q kt xs r 8).2 j, show col xs j = fun k => ((u ⟨k % 8192, Nat.mod_lt _ (by norm_num)⟩ : ℝ) : EReal) from funext fun k => hu _]
  refine (runSum_eq (score q kt r) (fun k => u ⟨k % 8192, Nat.mod_lt _ (by norm_num)⟩) 8).trans (congrArg _ ?_)
  rw [runMax_eq, show 1024 * 8 = 8192 from rfl, Finset.sum_range]
  refine Finset.sum_congr rfl fun k _ => ?_
  exact congrArg (fun i => wk q kt r k * u i) (Fin.ext (Nat.mod_eq_of_lt k.isLt))

/-- The kept values in the first half of the lanes. -/
theorem vones_val (x2 : Vec Ideal S8192x128 .bf16) (k : Fin 8192) (l : Fin 128) : vones x2 (ix2 k ⟨l.val, by omega⟩) = x2 (ix2 k l) := by
  exact (dif_pos (show l.val < 128 from l.isLt)).trans (pay1_apply x2 k l)

/-- The ones in the second half. -/
theorem vones_one (x2 : Vec Ideal S8192x128 .bf16) (k : Fin 8192) (l : Fin 128) : vones x2 (ix2 k ⟨128 + l.val, by omega⟩) = ((1 : ℝ) : EReal) := by
  exact (dif_neg (show ¬128 + l.val < 128 by omega)).trans ((pay2_apply _ _).trans EReal.coe_one.symm)

/-- A row's average of the values. -/
theorem mean_apply (q : Vec Ideal S256x128 .bf16) (kt : Vec Ideal S1x128x8192 .bf16) (x2 : Vec Ideal S8192x128 .bf16) (v : Fin 8192 → Fin 128 → ℝ)
    (hv : ∀ k l, x2 (ix2 k l) = (v k l : EReal)) (r : Fin 512) (l : Fin 128) :
    k0_pay9 (st q kt (vones x2) 8).2 (ix2 r l)
      = Ideal.div ((∑ k, wk q kt r k * v k l : ℝ) : EReal) ((∑ k, wk q kt r k : ℝ) : EReal) := by
  rw [pay9_apply, sums_apply q kt (vones x2) r ⟨l.val, by omega⟩ (fun k => v k l) (fun k => (vones_val x2 k l).trans (hv k l)),
    sums_apply q kt (vones x2) r ⟨128 + l.val, by omega⟩ (fun _ => 1) (fun k => vones_one x2 k l)]
  simp only [mul_one]

/-- The row of map `t` that query `r` of a block becomes. -/
def mrow (t : Fin 2) (r : Fin 256) : Fin 512 := ⟨t.val * 256 + r.val, by omega⟩

/-- The block stored, at an index. -/
theorem blk_apply (x0 : Vec Ideal S256x128 .bf16) (x1 : Vec Ideal S1x128x8192 .bf16) (x2 : Vec Ideal S8192x128 .bf16) (x3 : Vec Ideal S256x128 .bf16)
    (x4 x5 x6 x7 : Vec Ideal S1x64 .f32) (x8 : Vec Ideal S1x128 .f32) (v : Fin 8192 → Fin 128 → ℝ)
    (hv : ∀ k l, x2 (ix2 k l) = (v k l : EReal)) (r : Fin 256) (l : Fin 128) :
    blk x0 x1 (vones x2) x3 x4 x5 x6 x7 x8 (ix2 r l)
      = nrm (Ideal.ofBits FTy.f32 1124073472#32) (Ideal.ofBits FTy.f32 897988541#32)
          (fun j => Ideal.div ((∑ k, wk x0 x1 (mrow 0 r) k * v k j : ℝ) : EReal) ((∑ k, wk x0 x1 (mrow 0 r) k : ℝ) : EReal)
            - lamOf x4 x5 x6 x7 * Ideal.div ((∑ k, wk x0 x1 (mrow 1 r) k * v k j : ℝ) : EReal) ((∑ k, wk x0 x1 (mrow 1 r) k : ℝ) : EReal)) l
        * x8 (ix2 0 l) * Ideal.ofBits FTy.f32 1061997773#32 * Ideal.div (x3 (ix2 r l)) (1 + Ideal.exp (0 - x3 (ix2 r l))) := by
  unfold blk
  rw [pay11_apply]
  have e : (fun i => diff (k0_pay9 (st x0 x1 (vones x2) 8).2) (lamOf x4 x5 x6 x7) r i)
      = fun j => Ideal.div ((∑ k, wk x0 x1 (mrow 0 r) k * v k j : ℝ) : EReal) ((∑ k, wk x0 x1 (mrow 0 r) k : ℝ) : EReal)
            - lamOf x4 x5 x6 x7 * Ideal.div ((∑ k, wk x0 x1 (mrow 1 r) k * v k j : ℝ) : EReal) ((∑ k, wk x0 x1 (mrow 1 r) k : ℝ) : EReal) := by
    funext j
    unfold diff
    rw [mean_apply x0 x1 x2 v hv, mean_apply x0 x1 x2 v hv]
    rw [show (⟨r.val, by omega⟩ : Fin 512) = mrow 0 r from Fin.ext (by simp [mrow]),
      show (⟨256 + r.val, by omega⟩ : Fin 512) = mrow 1 r from Fin.ext (by simp [mrow])]
  rw [e]

end Cert.KernelIdeal.Attn

end
-- ==== Proof.RefVal.lean ====
/- The reference read at an index: the softmax of the two maps of a head, their difference against the values, the
   norm over the head's lanes and the gate. -/
module

public import proofs.«01_k».proof.Proof.Gen.ReferenceIdeal.Read
public import proofs.«01_k».proof.Proof.Softmax
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe
open Cert.Attn
open scoped BigOperators

/-- An array of rows. -/
abbrev QArr : Type := BufTy.Contents (Elt Ideal) (⟨S16384x512, .bf16⟩ : BufTy)
/-- The keys, transposed. -/
abbrev KArr : Type := BufTy.Contents (Elt Ideal) (⟨S2x512x8192, .bf16⟩ : BufTy)
/-- A vector of the factor. -/
abbrev LArr : Type := BufTy.Contents (Elt Ideal) (⟨S1x64, .f32⟩ : BufTy)
/-- A scale. -/
abbrev GArr : Type := BufTy.Contents (Elt Ideal) (⟨S1x128, .f32⟩ : BufTy)

/-- Row `s` of batch `b` in an array of both batches' rows. -/
def rq (b : Fin 2) (s : Fin 8192) : Fin 16384 := ⟨b.val * 8192 + s.val, by omega⟩

/-- Lane `d` of map `t` of head `h`. -/
def rc (h : Fin 4) (t : Fin 2) (d : Fin 64) : Fin 512 := ⟨h.val * 128 + t.val * 64 + d.val, by omega⟩

/-- Lane `j` of head `h`. -/
def rl (h : Fin 4) (j : Fin 128) : Fin 512 := ⟨h.val * 128 + j.val, by omega⟩

/-- The score, in base two, of query `s` against key `k` in map `t` of head `h`. -/
def sc (Q : QArr) (K : KArr) (b : Fin 2) (h : Fin 4) (t : Fin 2) (s : Fin 8192) (k : ℕ) : EReal :=
  ∑ d : Fin 64, (Q (ix2 (rq b s) (rc h t d)) : EReal) * K (ix3 b (rc h t d) ⟨k % 8192, Nat.mod_lt _ (by norm_num)⟩)

/-- The bit pattern of the number two. -/
theorem two_f32 : Ideal.ofBits FTy.f32 0x40000000#32 = ((2 : ℝ) : EReal) := by
  simp [Ideal.ofBits, Ideal.ieee, -EReal.coe_mul]; norm_num

/-- The bit pattern of the maximum's start. -/
theorem bot_f32 : Ideal.ofBits FTy.f32 0xFF800000#32 = ⊥ := by
  simp [Ideal.ofBits, Ideal.ieee]

/-- The products of queries and keys. -/
theorem score_apply (Q : QArr) (K : KArr) (t b : Fin 2) (h : Fin 4) (s k : Fin 8192) :
    val_main_v15 (F := Ideal) Q K (ix5 t b h s k) = sc Q K b h t s k.val := by
  rw [val_main_v15_apply]
  unfold sc
  refine Finset.sum_congr rfl fun d _ => ?_
  rw [val_main_v1_apply, val_main_v0_apply, val_main_v3_apply, val_main_v2_apply]
  refine congrArg₂ (· * ·) (congrArg Q ?_) (congrArg K ?_)
  · funext a
    match a with
    | ⟨0, _⟩ => exact Fin.ext (by dsimp [rq, rc, ix2, ix5]; omega)
    | ⟨1, _⟩ => exact Fin.ext (by dsimp [rq, rc, ix2, ix5]; omega)
  · funext a
    match a with
    | ⟨0, _⟩ => exact Fin.ext (by dsimp [rq, rc, ix3, ix5]; omega)
    | ⟨1, _⟩ => exact Fin.ext (by dsimp [rq, rc, ix3, ix5]; omega)
    | ⟨2, _⟩ => exact Fin.ext (by dsimp [rq, rc, ix3, ix5]; omega)

/-- The scores in base e. -/
theorem scaled_apply (Q : QArr) (K : KArr) (t b : Fin 2) (h : Fin 4) (s k : Fin 8192) :
    val_main_v18 (F := Ideal) Q K (ix5 t b h s k) = sc Q K b h t s k.val * ((Real.log 2 : ℝ) : EReal) := by
  rw [val_main_v18_apply, score_apply, val_main_v17_apply, val_main_v16_apply, val_main_cst_2_apply]
  show _ * Ideal.log (Ideal.ofBits FTy.f32 0x40000000#32) = _
  rw [two_f32, Ideal.log_coe, if_neg (by norm_num)]

/-- A supremum over a range, indexed by the numbers below its length. -/
theorem sup_range_eq (n : ℕ) (f : ℕ → EReal) : (Finset.range n).sup f = (Finset.univ : Finset (Fin n)).sup fun k => f k.val :=
  le_antisymm (Finset.sup_le fun k hk => Finset.le_sup (f := fun k : Fin n => f k.val) (Finset.mem_univ ⟨k, Finset.mem_range.mp hk⟩))
    (Finset.sup_le fun k _ => Finset.le_sup (f := f) (Finset.mem_range.mpr k.isLt))

/-- The maximum of a query's scores. -/
theorem max_apply (Q : QArr) (K : KArr) (t b : Fin 2) (h : Fin 4) (s : Fin 8192) :
    val_main_v21 (F := Ideal) Q K (ix4 t b h s)
      = (Finset.range 8192).sup (sc Q K b h t s) * ((Real.log 2 : ℝ) : EReal) := by
  rw [val_main_v21_apply, val_main_v20_apply, val_main_cst_4_apply]
  unfold val_main_v19
  rw [Host.reduce_eq_fold_single _ _ _ _ (by decide : S2x2x4x8192x8192.Reduces [4] S2x2x4x8192) _ _, val_main_cst_3_apply]
  show max (Ideal.ofBits FTy.f32 0xFF800000#32) (Finset.fold max (Ideal.ofBits FTy.f32 0xFF800000#32) _ _) = _
  rw [bot_f32, fold_max_eq_sup, bot_sup_eq, ← sup_mul_log, sup_range_eq]
  refine Finset.sup_congr rfl fun k _ => ?_
  refine (congrArg (val_main_v18 (F := Ideal) Q K) ?_).trans (scaled_apply Q K t b h s k)
  funext a
  match a with
  | ⟨0, _⟩ => rfl
  | ⟨1, _⟩ => rfl
  | ⟨2, _⟩ => rfl
  | ⟨3, _⟩ => rfl
  | ⟨4, _⟩ => rfl

/-- The weight of key `k` for query `s`, against the query's maximum. -/
def wgt (Q : QArr) (K : KArr) (b : Fin 2) (h : Fin 4) (t : Fin 2) (s k : Fin 8192) : ℝ :=
  wt (sc Q K b h t s k.val) ((Finset.range 8192).sup (sc Q K b h t s))

/-- No score of a row exceeds its largest. -/
theorem sc_le (Q : QArr) (K : KArr) (t b : Fin 2) (h : Fin 4) (s k : Fin 8192) :
    sc Q K b h t s k.val ≤ (Finset.range 8192).sup (sc Q K b h t s) :=
  Finset.le_sup (f := sc Q K b h t s) (Finset.mem_range.mpr k.isLt)

/-- The weight of a key: the exponential of its score less the row's largest. -/
theorem weight_apply (Q : QArr) (K : KArr) (t b : Fin 2) (h : Fin 4) (s k : Fin 8192) :
    val_main_v25 (F := Ideal) Q K (ix5 t b h s k) = (wgt Q K b h t s k : EReal) := by
  rw [val_main_v25_apply, val_main_v24_apply, scaled_apply, val_main_v23_apply, val_main_v22_apply]
  rw [show idx_main_v22 (idx_main_v23 (ix5 t b h s k)) = ix4 t b h s from by
    funext a; match a with | ⟨0, _⟩ => rfl | ⟨1, _⟩ => rfl | ⟨2, _⟩ => rfl | ⟨3, _⟩ => rfl]
  rw [max_apply]
  exact (exp_log_two _ _).trans (exp2_sub_eq (sc_le Q K t b h s k))

/-- The sum of a row's weights. -/
theorem denom_apply (Q : QArr) (K : KArr) (t b : Fin 2) (h : Fin 4) (s : Fin 8192) :
    val_main_v26 (F := Ideal) Q K (ix4 t b h s) = ((∑ k, wgt Q K b h t s k : ℝ) : EReal) := by
  rw [val_main_v26_apply, val_main_cst_5_apply, coe_sum]
  show Ideal.ofBits FTy.f32 0x00000000#32 + _ = _
  rw [Ideal.ofBits_zero_f32, zero_add]
  refine Finset.sum_congr rfl fun k _ => ?_
  rw [← weight_apply]
  refine congrArg (val_main_v25 (F := Ideal) Q K) ?_
  funext a
  match a with | ⟨0, _⟩ => rfl | ⟨1, _⟩ => rfl | ⟨2, _⟩ => rfl | ⟨3, _⟩ => rfl | ⟨4, _⟩ => rfl

/-- A query's share of a key. -/
def prob (Q : QArr) (K : KArr) (b : Fin 2) (h : Fin 4) (t : Fin 2) (s k : Fin 8192) : EReal :=
  Ideal.div (wgt Q K b h t s k : EReal) ((∑ k, wgt Q K b h t s k : ℝ) : EReal)

/-- The probability of a key. -/
theorem prob_apply (Q : QArr) (K : KArr) (t b : Fin 2) (h : Fin 4) (s k : Fin 8192) :
    val_main_v29 (F := Ideal) Q K (ix5 t b h s k) = prob Q K b h t s k := by
  rw [val_main_v29_apply, weight_apply, val_main_v28_apply, val_main_v27_apply]
  rw [show idx_main_v27 (idx_main_v28 (ix5 t b h s k)) = ix4 t b h s from by
    funext a; match a with | ⟨0, _⟩ => rfl | ⟨1, _⟩ => rfl | ⟨2, _⟩ => rfl | ⟨3, _⟩ => rfl]
  rw [denom_apply]
  rfl

/-- The probabilities of the first map. -/
theorem first_apply (Q : QArr) (K : KArr) (b : Fin 2) (h : Fin 4) (s k : Fin 8192) :
    val_main_v31 (F := Ideal) Q K (ix4 b h s k) = prob Q K b h 0 s k := by
  rw [val_main_v31_apply, val_main_v30_apply, ← prob_apply]
  refine congrArg (val_main_v29 (F := Ideal) Q K) ?_
  funext a
  match a with
  | ⟨0, _⟩ => rfl
  | ⟨1, _⟩ => exact Fin.ext (by dsimp [ix4, ix5]; omega)
  | ⟨2, _⟩ => exact Fin.ext (by dsimp [ix4, ix5]; omega)
  | ⟨3, _⟩ => exact Fin.ext (by dsimp [ix4, ix5]; omega)
  | ⟨4, _⟩ => exact Fin.ext (by dsimp [ix4, ix5]; omega)

/-- The probabilities of the second map. -/
theorem second_apply (Q : QArr) (K : KArr) (b : Fin 2) (h : Fin 4) (s k : Fin 8192) :
    val_main_v33 (F := Ideal) Q K (ix4 b h s k) = prob Q K b h 1 s k := by
  rw [val_main_v33_apply, val_main_v32_apply, ← prob_apply]
  refine congrArg (val_main_v29 (F := Ideal) Q K) ?_
  funext a
  match a with
  | ⟨0, _⟩ => rfl
  | ⟨1, _⟩ => exact Fin.ext (by dsimp [ix4, ix5]; omega)
  | ⟨2, _⟩ => exact Fin.ext (by dsimp [ix4, ix5]; omega)
  | ⟨3, _⟩ => exact Fin.ext (by dsimp [ix4, ix5]; omega)
  | ⟨4, _⟩ => exact Fin.ext (by dsimp [ix4, ix5]; omega)

/-- The factor of the second map. -/
def lamR (x4 x5 x6 x7 : LArr) : EReal :=
  Ideal.exp (∑ x : Fin 64, (x4 (ix2 0 x) : EReal) * x5 (ix2 0 x)) - Ideal.exp (∑ x : Fin 64, (x6 (ix2 0 x) : EReal) * x7 (ix2 0 x))
    + Ideal.ofBits FTy.f32 0x3E4CCCCD#32

/-- The factor of the second map. -/
theorem lam_apply (x4 x5 x6 x7 : LArr) (i : S_.Idx) : val_main_v14 (F := Ideal) x4 x5 x6 x7 i = lamR x4 x5 x6 x7 := by
  rw [val_main_v14_apply, val_main_v13_apply, val_main_v9_apply, val_main_v12_apply, val_main_v8_apply, val_main_v11_apply,
    val_main_cst_apply, val_main_cst_0_apply, val_main_cst_1_apply, sum_idx2, sum_idx2, Fin.sum_univ_one, Fin.sum_univ_one]
  show Ideal.exp (Ideal.ofBits FTy.f32 0x00000000#32 + _) - Ideal.exp (Ideal.ofBits FTy.f32 0x00000000#32 + _) + _ = _
  rw [Ideal.ofBits_zero_f32, zero_add, zero_add]
  rfl

/-- The difference of the two maps against the values. -/
def out (Q : QArr) (K : KArr) (V : QArr) (lam : EReal) (b : Fin 2) (h : Fin 4) (s : Fin 8192) (l : Fin 128) : EReal :=
  ∑ k : Fin 8192, (V (ix2 (rq b k) (rl h l)) : EReal) * (prob Q K b h 0 s k - lam * prob Q K b h 1 s k)

/-- The values under the difference of the two maps. -/
theorem out_apply (Q : QArr) (K : KArr) (V : QArr) (x4 x5 x6 x7 : LArr) (b : Fin 2) (h : Fin 4) (s : Fin 8192) (l : Fin 128) :
    val_main_v38 (F := Ideal) Q K V x4 x5 x6 x7 (ix4 b s h l) = out Q K V (lamR x4 x5 x6 x7) b h s l := by
  rw [val_main_v38_apply, val_main_v37_apply]
  unfold out
  refine Finset.sum_congr rfl fun k _ => ?_
  rw [val_main_v5_apply, val_main_v4_apply, val_main_v36_apply, val_main_v35_apply, val_main_v34_apply, lam_apply]
  rw [show ridx_main_v37 (idx_main_v38 (ix4 b s h l)) k = ix4 b h s k from by
    funext a; match a with | ⟨0, _⟩ => rfl | ⟨1, _⟩ => rfl | ⟨2, _⟩ => rfl | ⟨3, _⟩ => rfl]
  rw [first_apply, second_apply]
  refine congrArg₂ (· * ·) (congrArg V ?_) rfl
  funext a
  match a with
  | ⟨0, _⟩ => exact Fin.ext (by dsimp [rq, rl, ix2, ix4]; omega)
  | ⟨1, _⟩ => exact Fin.ext (by dsimp [rq, rl, ix2, ix4]; omega)

/-- A head's values scaled to mean square one, under their scale. -/
theorem scale_apply (Q : QArr) (K : KArr) (V : QArr) (x4 x5 x6 x7 : LArr) (b : Fin 2) (h : Fin 4) (s : Fin 8192) (l : Fin 128) :
    val_main_v49 (F := Ideal) Q K V x4 x5 x6 x7 (ix4 b s h l)
      = nrm (Ideal.ofBits FTy.f32 0x43000000#32) (Ideal.ofBits FTy.f32 0x358637BD#32) (out Q K V (lamR x4 x5 x6 x7) b h s) l := by
  rw [val_main_v49_apply, out_apply, val_main_v48_apply, val_main_v47_apply, val_main_v46_apply, val_main_v45_apply, val_main_v44_apply,
    val_main_v43_apply, val_main_cst_7_apply, val_main_cst_8_apply, val_main_v42_apply, val_main_v41_apply, val_main_cst_6_apply]
  have e : (∑ k : Fin 128, val_main_v40 (F := Ideal) Q K V x4 x5 x6 x7 (idx_main_v41 (idx_main_v42 (idx_main_v48 (ix4 b s h l))) k) : EReal)
      = ∑ k : Fin 128, out Q K V (lamR x4 x5 x6 x7) b h s k * out Q K V (lamR x4 x5 x6 x7) b h s k :=
    Finset.sum_congr rfl fun k _ => by
      rw [val_main_v40_apply, show idx_main_v41 (idx_main_v42 (idx_main_v48 (ix4 b s h l))) k = ix4 b s h k from by
        funext a; match a with | ⟨0, _⟩ => rfl | ⟨1, _⟩ => rfl | ⟨2, _⟩ => rfl | ⟨3, _⟩ => rfl]
      rw [out_apply]
      rfl
  rw [e]
  show _ * Ideal.rsqrt (Ideal.div (Ideal.ofBits FTy.f32 0x00000000#32 + _) _ + _) = _
  rw [Ideal.ofBits_zero_f32, zero_add]
  rfl

/-- The gate. -/
theorem gate_apply (g : QArr) (i : S16384x512.Idx) :
    val_main_v56 (F := Ideal) g i = (g i : EReal) * Ideal.div 1 (1 + Ideal.exp (-(g i : EReal))) := by
  rw [val_main_v56_apply, val_main_call0_v5_apply, val_main_call0_v4_apply, val_main_call0_cst_0_apply, val_main_call0_v3_apply,
    val_main_call0_v2_apply, val_main_call0_cst_apply, val_main_call0_v1_apply, val_main_call0_v0_apply, val_main_v6_apply]
  show (g i : EReal) * Ideal.div (Ideal.ofBits FTy.f32 0x3F800000#32) (Ideal.ofBits FTy.f32 0x3F800000#32 + Ideal.exp (-(g i : EReal))) = _
  rw [Ideal.ofBits_one_f32]

/-- The reference's result at row `s` of batch `b` and lane `l` of head `h`. -/
theorem result_apply (Q : QArr) (K : KArr) (V g : QArr) (x4 x5 x6 x7 : LArr) (x8 : GArr) (b : Fin 2) (h : Fin 4) (s : Fin 8192) (l : Fin 128) :
    val_main_v58 (F := Ideal) Q K V g x4 x5 x6 x7 x8 (ix2 (rq b s) (rl h l))
      = nrm (Ideal.ofBits FTy.f32 0x43000000#32) (Ideal.ofBits FTy.f32 0x358637BD#32) (out Q K V (lamR x4 x5 x6 x7) b h s) l
          * x8 (ix2 0 l) * Ideal.ofBits FTy.f32 0x3F4CCCCD#32
          * ((g (ix2 (rq b s) (rl h l)) : EReal) * Ideal.div 1 (1 + Ideal.exp (-(g (ix2 (rq b s) (rl h l)) : EReal)))) := by
  rw [val_main_v58_apply, val_main_v57_apply, gate_apply, val_main_v55_apply]
  rw [show idx_main_v55 (ix2 (rq b s) (rl h l)) = ix4 b s h l from by
    funext a
    match a with
    | ⟨0, _⟩ => exact Fin.ext (by dsimp [rq, rl, ix2, ix4]; omega)
    | ⟨1, _⟩ => exact Fin.ext (by dsimp [rq, rl, ix2, ix4]; omega)
    | ⟨2, _⟩ => exact Fin.ext (by dsimp [rq, rl, ix2, ix4]; omega)
    | ⟨3, _⟩ => exact Fin.ext (by dsimp [rq, rl, ix2, ix4]; omega)]
  rw [val_main_v54_apply, val_main_v53_apply, val_main_cst_9_apply, val_main_v52_apply, scale_apply, val_main_v51_apply, val_main_v50_apply,
    val_main_v39_apply]
  rw [show idx_main_v39 (idx_main_v50 (idx_main_v51 (ix4 b s h l))) = ix2 0 l from by
    funext a
    match a with
    | ⟨0, _⟩ => rfl
    | ⟨1, _⟩ => exact Fin.ext (by dsimp [ix2, ix4]; omega)]
  rfl

end Cert.ReferenceIdeal.Attn

end
-- ==== Proof.Equal.lean ====
/- The kernel's array and the reference's are the same, for finite values and finite vectors of the factor. -/
module

public import proofs.«01_k».proof.Proof.Array
public import proofs.«01_k».proof.Proof.KernelVal
public import proofs.«01_k».proof.Proof.RefVal
public import Idealize.ShloMosaic.Lib.IdealHost

@[expose] public section

set_option maxRecDepth 16384

noncomputable section

namespace Cert.KernelIdeal.Attn

open Cert.KernelIdeal Cert.KernelIdeal.Gen Idealize.ShloMosaic Idealize.ShloMosaic.TcCoe
open Cert.Attn Cert.ReferenceIdeal.Attn
open scoped BigOperators

variable (m : (ℓ : Loc nD τ sig) → Buf (Elt Ideal) ℓ) (c : Dev nD)

/-- The grid point of a row and a head. -/
def tp (b : Fin 2) (h : Fin 4) (s : Fin 8192) : Fin cfg0.N :=
  ⟨b.val * 128 + h.val * 32 + s.val / 256, by show _ < 256; omega⟩

/-- Its block of rows. -/
theorem prow_tp (b : Fin 2) (h : Fin 4) (s : Fin 8192) : prow (tp b h s).val = b.val * 32 + s.val / 256 := by
  unfold prow tp; dsimp only; omega

/-- Its head. -/
theorem phead_tp (b : Fin 2) (h : Fin 4) (s : Fin 8192) : phead (tp b h s).val = h.val := by
  unfold phead tp; dsimp only; omega

/-- Its batch. -/
theorem pb_tp (b : Fin 2) (h : Fin 4) (s : Fin 8192) : (tp b h s).val / 128 = b.val := by
  unfold tp; dsimp only; omega

/-- The row of `s` in its block. -/
def rr (s : Fin 8192) : Fin 256 := ⟨s.val % 256, Nat.mod_lt _ (by norm_num)⟩

/-- The scores of a block's row are those of the query it holds. -/
theorem score_eq (b : Fin 2) (h : Fin 4) (t : Fin 2) (s : Fin 8192) :
    score (iblk m c 0 (tp b h s)) (iblk m c 1 (tp b h s)) (mrow t (rr s))
      = sc (m ((c : Thread nD τ).loc main_arg0)) (m ((c : Thread nD τ).loc main_arg1)) b h t s := by
  funext k
  unfold score sc
  refine Finset.sum_congr rfl fun d _ => ?_
  rw [iblk0, iblk1]
  have hp := prow_tp b h s
  have hh := phead_tp b h s
  have hb := pb_tp b h s
  have ht : t.val < 2 := t.isLt
  have hs : s.val % 256 < 256 := Nat.mod_lt _ (by norm_num)
  have h1 : (qrow (mrow t (rr s))).val = s.val % 256 := by
    show (t.val * 256 + s.val % 256) % 256 = _; omega
  have h2 : (qlane (mrow t (rr s)) d).val = 64 * t.val + d.val := by
    show 64 * ((t.val * 256 + s.val % 256) / 256) + d.val = _; omega
  refine congrArg₂ (· * ·) (congrArg (m ((c : Thread nD τ).loc main_arg0)) (congrArg₂ ix2 (Fin.ext ?_) (Fin.ext ?_)))
    (congrArg (m ((c : Thread nD τ).loc main_arg1)) (congr (congrArg₂ ix3 (Fin.ext ?_) (Fin.ext ?_)) rfl))
  · show prow (tp b h s).val * 256 + (qrow (mrow t (rr s))).val = b.val * 8192 + s.val; omega
  · show phead (tp b h s).val * 128 + (qlane (mrow t (rr s)) d).val = h.val * 128 + t.val * 64 + d.val; omega
  · exact hb
  · show phead (tp b h s).val * 128 + (qlane (mrow t (rr s)) d).val = h.val * 128 + t.val * 64 + d.val; omega

/-- So are the weights. -/
theorem weight_eq (b : Fin 2) (h : Fin 4) (t : Fin 2) (s k : Fin 8192) :
    wk (iblk m c 0 (tp b h s)) (iblk m c 1 (tp b h s)) (mrow t (rr s)) k
      = wgt (m ((c : Thread nD τ).loc main_arg0)) (m ((c : Thread nD τ).loc main_arg1)) b h t s k := by
  unfold wk wgt
  rw [score_eq]

/-- The ideal exponential is never negative. -/
theorem exp_nonneg (x : EReal) : 0 ≤ Ideal.exp x := by
  induction x with
  | bot => simp
  | top => simp
  | coe r => rw [Ideal.exp_coe]; exact_mod_cast (Real.exp_pos r).le

/-- The gate, multiplied or divided. -/
theorem gate_eq (g : EReal) : Ideal.div g (1 + Ideal.exp (0 - g)) = g * Ideal.div 1 (1 + Ideal.exp (-g)) := by
  have h : (1 : EReal) + Ideal.exp (-g) ≠ 0 := by
    have h1 : (1 : EReal) ≤ 1 + Ideal.exp (-g) := le_add_of_nonneg_right (exp_nonneg _)
    intro e; rw [e] at h1; exact absurd h1 (by simp)
  rw [Ideal.mul_one_div h, zero_sub]

/-- The divisor of the mean square. -/
theorem c128 : Ideal.ofBits FTy.f32 1124073472#32 = ((128 : ℝ) : EReal) := by
  simp [Ideal.ofBits, Ideal.ieee, -EReal.coe_mul]; norm_num

/-- The number added to the mean square. -/
theorem ceps : ∃ e : ℝ, Ideal.ofBits FTy.f32 897988541#32 = (e : EReal) := by
  refine ⟨8796093 / 2 ^ 43, ?_⟩
  simp [Ideal.ofBits, Ideal.ieee, -EReal.coe_mul]; norm_num

/-- The number added to the difference of the exponentials. -/
theorem cinit : ∃ e : ℝ, Ideal.ofBits FTy.f32 1045220557#32 = (e : EReal) := by
  refine ⟨13421773 / 2 ^ 26, ?_⟩
  simp [Ideal.ofBits, Ideal.ieee, -EReal.coe_mul]; norm_num

/-- The factor of the second map is a real number when the vectors it is made of are finite. -/
theorem lam_real (x4 x5 x6 x7 : Vec Ideal S1x64 .f32) (y4 y5 y6 y7 : Fin 64 → ℝ) (h4 : ∀ x, x4 (ix2 0 x) = (y4 x : EReal))
    (h5 : ∀ x, x5 (ix2 0 x) = (y5 x : EReal)) (h6 : ∀ x, x6 (ix2 0 x) = (y6 x : EReal)) (h7 : ∀ x, x7 (ix2 0 x) = (y7 x : EReal)) :
    ∃ l : ℝ, lamOf x4 x5 x6 x7 = (l : EReal) := by
  obtain ⟨e, he⟩ := cinit
  refine ⟨Real.exp (∑ x, y4 x * y5 x) - Real.exp (∑ x, y6 x * y7 x) + e, ?_⟩
  unfold lamOf
  have a : (∑ x : Fin 64, (x4 (ix2 0 x) * x5 (ix2 0 x) : EReal)) = ((∑ x, y4 x * y5 x : ℝ) : EReal) := by
    rw [coe_sum]; exact Finset.sum_congr rfl fun x _ => by rw [h4, h5, EReal.coe_mul]
  have b : (∑ x : Fin 64, (x6 (ix2 0 x) * x7 (ix2 0 x) : EReal)) = ((∑ x, y6 x * y7 x : ℝ) : EReal) := by
    rw [coe_sum]; exact Finset.sum_congr rfl fun x _ => by rw [h6, h7, EReal.coe_mul]
  rw [a, b, he, Ideal.exp_coe, Ideal.exp_coe, ← EReal.coe_sub, ← EReal.coe_add]

/-- The kernel's result at a row and a lane. -/
theorem result_at_row (b : Fin 2) (h : Fin 4) (s : Fin 8192) (l : Fin 128) :
    (result m c : Vec Ideal S16384x512 .bf16) (ix2 (rq b s) (rl h l)) = blkAt m c (tp b h s) (ix2 (rr s) l) := by
  have hp := prow_tp b h s
  have hh := phead_tp b h s
  refine result_at m c (tp b h s) _ _ ?_ ?_
  · show b.val * 8192 + s.val = prow (tp b h s).val * 256 + s.val % 256; omega
  · show h.val * 128 + l.val = phead (tp b h s).val * 128 + l.val; omega

/-- The two programs' results at a row and a lane. -/
theorem equal_at (v : Fin 16384 → Fin 512 → ℝ) (y4 y5 y6 y7 : Fin 64 → ℝ)
    (hv : ∀ i j, (m ((c : Thread nD τ).loc main_arg2) : Vec Ideal S16384x512 .bf16) (ix2 i j) = (v i j : EReal))
    (h4 : ∀ x, (m ((c : Thread nD τ).loc main_arg4) : Vec Ideal S1x64 .f32) (ix2 0 x) = (y4 x : EReal))
    (h5 : ∀ x, (m ((c : Thread nD τ).loc main_arg5) : Vec Ideal S1x64 .f32) (ix2 0 x) = (y5 x : EReal))
    (h6 : ∀ x, (m ((c : Thread nD τ).loc main_arg6) : Vec Ideal S1x64 .f32) (ix2 0 x) = (y6 x : EReal))
    (h7 : ∀ x, (m ((c : Thread nD τ).loc main_arg7) : Vec Ideal S1x64 .f32) (ix2 0 x) = (y7 x : EReal))
    (b : Fin 2) (h : Fin 4) (s : Fin 8192) (l : Fin 128) :
    (result m c : Vec Ideal S16384x512 .bf16) (ix2 (rq b s) (rl h l))
      = Cert.ReferenceIdeal.Read.val_main_v58 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (ix2 (rq b s) (rl h l)) := by
  have hp := prow_tp b h s
  have hh := phead_tp b h s
  have hb := pb_tp b h s
  have k4 : (iblk m c 4 (tp b h s) : Vec Ideal S1x64 .f32) = m ((c : Thread nD τ).loc main_arg4) := funext fun j => by
    rw [eq_ix2 j]; exact iblk4 m c _ _ _
  have k5 : (iblk m c 5 (tp b h s) : Vec Ideal S1x64 .f32) = m ((c : Thread nD τ).loc main_arg5) := funext fun j => by
    rw [eq_ix2 j]; exact iblk5 m c _ _ _
  have k6 : (iblk m c 6 (tp b h s) : Vec Ideal S1x64 .f32) = m ((c : Thread nD τ).loc main_arg6) := funext fun j => by
    rw [eq_ix2 j]; exact iblk6 m c _ _ _
  have k7 : (iblk m c 7 (tp b h s) : Vec Ideal S1x64 .f32) = m ((c : Thread nD τ).loc main_arg7) := funext fun j => by
    rw [eq_ix2 j]; exact iblk7 m c _ _ _
  have k8 : (iblk m c 8 (tp b h s) : Vec Ideal S1x128 .f32) = m ((c : Thread nD τ).loc main_arg8) := funext fun j => by
    rw [eq_ix2 j]; exact iblk8 m c _ _ _
  have hv' : ∀ (k : Fin 8192) (j : Fin 128), (iblk m c 2 (tp b h s) : Vec Ideal S8192x128 .bf16) (ix2 k j) = (v (rq b k) (rl h j) : EReal) := fun k j => by
    rw [iblk2, ← hv]
    refine congrArg (m ((c : Thread nD τ).loc main_arg2)) (congrArg₂ ix2 (Fin.ext ?_) (Fin.ext ?_))
    · show (tp b h s).val / 128 * 8192 + k.val = b.val * 8192 + k.val; omega
    · show phead (tp b h s).val * 128 + j.val = h.val * 128 + j.val; omega
  have hg : (iblk m c 3 (tp b h s) : Vec Ideal S256x128 .bf16) (ix2 (rr s) l) = (m ((c : Thread nD τ).loc main_arg3) : Vec Ideal S16384x512 .bf16) (ix2 (rq b s) (rl h l)) := by
    rw [iblk3]
    refine congrArg (m ((c : Thread nD τ).loc main_arg3)) (congrArg₂ ix2 (Fin.ext ?_) (Fin.ext ?_))
    · show prow (tp b h s).val * 256 + s.val % 256 = b.val * 8192 + s.val; omega
    · show phead (tp b h s).val * 128 + l.val = h.val * 128 + l.val; omega
  rw [result_at_row, Cert.ReferenceIdeal.Attn.result_apply]
  unfold blkAt
  rw [blk_apply _ _ _ _ _ _ _ _ _ (fun k j => v (rq b k) (rl h j)) hv', hg, k4, k5, k6, k7, k8, gate_eq]
  obtain ⟨lam, hl⟩ := lam_real _ _ _ _ y4 y5 y6 y7 h4 h5 h6 h7
  obtain ⟨e, he⟩ := ceps
  have hr : lamR (m ((c : Thread nD τ).loc main_arg4)) (m ((c : Thread nD τ).loc main_arg5)) (m ((c : Thread nD τ).loc main_arg6)) (m ((c : Thread nD τ).loc main_arg7)) = (lam : EReal) := hl
  rw [hl, hr]
  simp only [weight_eq]
  rw [c128, he]
  have key := row_eq (wgt (m ((c : Thread nD τ).loc main_arg0)) (m ((c : Thread nD τ).loc main_arg1)) b h 0 s)
    (wgt (m ((c : Thread nD τ).loc main_arg0)) (m ((c : Thread nD τ).loc main_arg1)) b h 1 s)
    (fun k => wt_nonneg (sc_le _ _ _ _ _ _ _)) (fun k => wt_nonneg (sc_le _ _ _ _ _ _ _)) lam (fun k j => v (rq b k) (rl h j))
    (K := 128) (e := e) (by norm_num) l
  rw [key]
  have ho : (out (m ((c : Thread nD τ).loc main_arg0)) (m ((c : Thread nD τ).loc main_arg1)) (m ((c : Thread nD τ).loc main_arg2)) (lam : EReal) b h s)
      = fun j => ∑ k : Fin 8192, ((v (rq b k) (rl h j) : ℝ) : EReal) *
          (prob (m ((c : Thread nD τ).loc main_arg0)) (m ((c : Thread nD τ).loc main_arg1)) b h 0 s k
            - (lam : EReal) * prob (m ((c : Thread nD τ).loc main_arg0)) (m ((c : Thread nD τ).loc main_arg1)) b h 1 s k) := by
    funext j
    unfold out
    exact Finset.sum_congr rfl fun k _ => congrArg (· * _) (hv _ _)
  rw [ho]
  rfl

/-- The two programs' results. -/
theorem equal (v : Fin 16384 → Fin 512 → ℝ) (y4 y5 y6 y7 : Fin 64 → ℝ)
    (hv : ∀ i j, (m ((c : Thread nD τ).loc main_arg2) : Vec Ideal S16384x512 .bf16) (ix2 i j) = (v i j : EReal))
    (h4 : ∀ x, (m ((c : Thread nD τ).loc main_arg4) : Vec Ideal S1x64 .f32) (ix2 0 x) = (y4 x : EReal))
    (h5 : ∀ x, (m ((c : Thread nD τ).loc main_arg5) : Vec Ideal S1x64 .f32) (ix2 0 x) = (y5 x : EReal))
    (h6 : ∀ x, (m ((c : Thread nD τ).loc main_arg6) : Vec Ideal S1x64 .f32) (ix2 0 x) = (y6 x : EReal))
    (h7 : ∀ x, (m ((c : Thread nD τ).loc main_arg7) : Vec Ideal S1x64 .f32) (ix2 0 x) = (y7 x : EReal)) :
    (result m c : Vec Ideal S16384x512 .bf16)
      = Cert.ReferenceIdeal.Read.val_main_v58 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  funext p
  have p0 : (p 0).val < 16384 := (p 0).isLt
  have p1 : (p 1).val < 512 := (p 1).isLt
  have e : p = ix2 (rq ⟨(p 0).val / 8192, by omega⟩ ⟨(p 0).val % 8192, by omega⟩) (rl ⟨(p 1).val / 128, by omega⟩ ⟨(p 1).val % 128, by omega⟩) := by
    funext a
    match a with
    | ⟨0, _⟩ => exact Fin.ext (by show (p 0).val = (p 0).val / 8192 * 8192 + (p 0).val % 8192; omega)
    | ⟨1, _⟩ => exact Fin.ext (by show (p 1).val = (p 1).val / 128 * 128 + (p 1).val % 128; omega)
  rw [e]
  exact equal_at m c v y4 y5 y6 y7 hv h4 h5 h6 h7 _ _ _ _

end Cert.KernelIdeal.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Input
public import proofs.«01_k».proof.Proof.Gen.Input.Skeleton
public import proofs.«01_k».proof.Proof.Gen.Input.Launch
public import proofs.«01_k».proof.Proof.Gen.Input.Points
public import proofs.«01_k».proof.Proof.Gen.Input.Frame
public import proofs.«01_k».proof.Proof.Gen.InputIdeal
public import proofs.«01_k».proof.Proof.Gen.InputIdeal.Skeleton
public import proofs.«01_k».proof.Proof.Gen.InputIdeal.Launch
public import proofs.«01_k».proof.Proof.Gen.InputIdeal.Points
public import proofs.«01_k».proof.Proof.Gen.InputIdeal.Frame
public import proofs.«01_k».proof.Proof.Gen.InputIdeal.Value
public import proofs.«01_k».proof.Proof.Gen.InputRefIdeal
public import proofs.«01_k».proof.Proof.Gen.InputRefIdeal.Run
public import proofs.«01_k».proof.Proof.Gen.InputRefIdeal.Read
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryIdeal.Value
public import proofs.«01_k».proof.Proof.Gen.MemoryRefIdeal
public import proofs.«01_k».proof.Proof.Gen.MemoryRefIdeal.Run
public import proofs.«01_k».proof.Proof.Gen.MemoryRefIdeal.Read
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputIdeal.Value
public import proofs.«01_k».proof.Proof.Gen.OutputRefIdeal
public import proofs.«01_k».proof.Proof.Gen.OutputRefIdeal.Run
public import proofs.«01_k».proof.Proof.Gen.OutputRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.Filter
public import proofs.«01_k».proof.Proof.Gen.Filter.Skeleton
public import proofs.«01_k».proof.Proof.Gen.Filter.Launch
public import proofs.«01_k».proof.Proof.Gen.Filter.Points
public import proofs.«01_k».proof.Proof.Gen.Filter.Frame
public import proofs.«01_k».proof.Proof.Gen.FilterIdeal
public import proofs.«01_k».proof.Proof.Gen.FilterIdeal.Skeleton
public import proofs.«01_k».proof.Proof.Gen.FilterIdeal.Launch
public import proofs.«01_k».proof.Proof.Gen.FilterIdeal.Points
public import proofs.«01_k».proof.Proof.Gen.FilterIdeal.Frame
public import proofs.«01_k».proof.Proof.Gen.FilterIdeal.Value
public import proofs.«01_k».proof.Proof.Gen.FilterRefIdeal
public import proofs.«01_k».proof.Proof.Gen.FilterRefIdeal.Run
public import proofs.«01_k».proof.Proof.Gen.FilterRefIdeal.Read
public import proofs.«01_k».proof.Proof.Gen.Spectrum
public import proofs.«01_k».proof.Proof.Gen.Spectrum.Skeleton
public import proofs.«01_k».proof.Proof.Gen.Spectrum.Launch
public import proofs.«01_k».proof.Proof.Gen.Spectrum.Points
public import proofs.«01_k».proof.Proof.Gen.Spectrum.Frame
public import proofs.«01_k».proof.Proof.Gen.SpectrumIdeal
public import proofs.«01_k».proof.Proof.Gen.SpectrumIdeal.Skeleton
public import proofs.«01_k».proof.Proof.Gen.SpectrumIdeal.Launch
public import proofs.«01_k».proof.Proof.Gen.SpectrumIdeal.Points
public import proofs.«01_k».proof.Proof.Gen.SpectrumIdeal.Frame
public import proofs.«01_k».proof.Proof.Gen.SpectrumIdeal.Value
public import proofs.«01_k».proof.Proof.Gen.SpectrumRefIdeal
public import proofs.«01_k».proof.Proof.Gen.SpectrumRefIdeal.Run
public import proofs.«01_k».proof.Proof.Gen.SpectrumRefIdeal.Read
public import proofs.«01_k».proof.Proof.Gen.Signal
public import proofs.«01_k».proof.Proof.Gen.Signal.Skeleton
public import proofs.«01_k».proof.Proof.Gen.Signal.Launch
public import proofs.«01_k».proof.Proof.Gen.Signal.Points
public import proofs.«01_k».proof.Proof.Gen.Signal.Frame
public import proofs.«01_k».proof.Proof.Gen.SignalIdeal
public import proofs.«01_k».proof.Proof.Gen.SignalIdeal.Skeleton
public import proofs.«01_k».proof.Proof.Gen.SignalIdeal.Launch
public import proofs.«01_k».proof.Proof.Gen.SignalIdeal.Points
public import proofs.«01_k».proof.Proof.Gen.SignalIdeal.Frame
public import proofs.«01_k».proof.Proof.Gen.SignalIdeal.Value
public import proofs.«01_k».proof.Proof.Gen.SignalRefIdeal
public import proofs.«01_k».proof.Proof.Gen.SignalRefIdeal.Run
public import proofs.«01_k».proof.Proof.Gen.SignalRefIdeal.Read
public import proofs.«01_k».proof.Proof.Gen.Rows
public import proofs.«01_k».proof.Proof.Gen.Rows.Skeleton
public import proofs.«01_k».proof.Proof.Gen.Rows.Launch
public import proofs.«01_k».proof.Proof.Gen.Rows.Points
public import proofs.«01_k».proof.Proof.Gen.Rows.Frame
public import proofs.«01_k».proof.Proof.Gen.RowsIdeal
public import proofs.«01_k».proof.Proof.Gen.RowsIdeal.Skeleton
public import proofs.«01_k».proof.Proof.Gen.RowsIdeal.Launch
public import proofs.«01_k».proof.Proof.Gen.RowsIdeal.Points
public import proofs.«01_k».proof.Proof.Gen.RowsIdeal.Frame
public import proofs.«01_k».proof.Proof.Gen.RowsIdeal.Value
public import proofs.«01_k».proof.Proof.Gen.RowsRefIdeal
public import proofs.«01_k».proof.Proof.Gen.RowsRefIdeal.Run
public import proofs.«01_k».proof.Proof.Gen.RowsRefIdeal.Read
public import proofs.«01_k».proof.Proof.Gen.Product
public import proofs.«01_k».proof.Proof.Gen.Product.Skeleton
public import proofs.«01_k».proof.Proof.Gen.Product.Launch
public import proofs.«01_k».proof.Proof.Gen.Product.Points
public import proofs.«01_k».proof.Proof.Gen.Product.Frame
public import proofs.«01_k».proof.Proof.Gen.ProductIdeal
public import proofs.«01_k».proof.Proof.Gen.ProductIdeal.Skeleton
public import proofs.«01_k».proof.Proof.Gen.ProductIdeal.Launch
public import proofs.«01_k».proof.Proof.Gen.ProductIdeal.Points
public import proofs.«01_k».proof.Proof.Gen.ProductIdeal.Frame
public import proofs.«01_k».proof.Proof.Gen.ProductIdeal.Value
public import proofs.«01_k».proof.Proof.Gen.ProductRefIdeal
public import proofs.«01_k».proof.Proof.Gen.ProductRefIdeal.Run
public import proofs.«01_k».proof.Proof.Gen.ProductRefIdeal.Read
public import proofs.«01_k».proof.Proof.Gen.Back
public import proofs.«01_k».proof.Proof.Gen.Back.Skeleton
public import proofs.«01_k».proof.Proof.Gen.Back.Launch
public import proofs.«01_k».proof.Proof.Gen.Back.Points
public import proofs.«01_k».proof.Proof.Gen.Back.Frame
public import proofs.«01_k».proof.Proof.Gen.BackIdeal
public import proofs.«01_k».proof.Proof.Gen.BackIdeal.Skeleton
public import proofs.«01_k».proof.Proof.Gen.BackIdeal.Launch
public import proofs.«01_k».proof.Proof.Gen.BackIdeal.Points
public import proofs.«01_k».proof.Proof.Gen.BackIdeal.Frame
public import proofs.«01_k».proof.Proof.Gen.BackIdeal.Value
public import proofs.«01_k».proof.Proof.Gen.BackRefIdeal
public import proofs.«01_k».proof.Proof.Gen.BackRefIdeal.Run
public import proofs.«01_k».proof.Proof.Gen.BackRefIdeal.Read
public import proofs.«01_k».proof.Proof.Gen.Gated
public import proofs.«01_k».proof.Proof.Gen.Gated.Skeleton
public import proofs.«01_k».proof.Proof.Gen.Gated.Launch
public import proofs.«01_k».proof.Proof.Gen.Gated.Points
public import proofs.«01_k».proof.Proof.Gen.Gated.Frame
public import proofs.«01_k».proof.Proof.Gen.GatedIdeal
public import proofs.«01_k».proof.Proof.Gen.GatedIdeal.Skeleton
public import proofs.«01_k».proof.Proof.Gen.GatedIdeal.Launch
public import proofs.«01_k».proof.Proof.Gen.GatedIdeal.Points
public import proofs.«01_k».proof.Proof.Gen.GatedIdeal.Frame
public import proofs.«01_k».proof.Proof.Gen.GatedIdeal.Value
public import proofs.«01_k».proof.Proof.Gen.GatedRefIdeal
public import proofs.«01_k».proof.Proof.Gen.GatedRefIdeal.Run
public import proofs.«01_k».proof.Proof.Gen.GatedRefIdeal.Read
public import proofs.«01_k».proof.Proof.Gen.Inner
public import proofs.«01_k».proof.Proof.Gen.Inner.Skeleton
public import proofs.«01_k».proof.Proof.Gen.Inner.Launch
public import proofs.«01_k».proof.Proof.Gen.Inner.Points
public import proofs.«01_k».proof.Proof.Gen.Inner.Frame
public import proofs.«01_k».proof.Proof.Gen.InnerIdeal
public import proofs.«01_k».proof.Proof.Gen.InnerIdeal.Skeleton
public import proofs.«01_k».proof.Proof.Gen.InnerIdeal.Launch
public import proofs.«01_k».proof.Proof.Gen.InnerIdeal.Points
public import proofs.«01_k».proof.Proof.Gen.InnerIdeal.Frame
public import proofs.«01_k».proof.Proof.Gen.InnerIdeal.Value
public import proofs.«01_k».proof.Proof.Gen.InnerRefIdeal
public import proofs.«01_k».proof.Proof.Gen.InnerRefIdeal.Run
public import proofs.«01_k».proof.Proof.Gen.InnerRefIdeal.Read
public import proofs.«01_k».proof.Proof.Gen.Second
public import proofs.«01_k».proof.Proof.Gen.Second.Skeleton
public import proofs.«01_k».proof.Proof.Gen.Second.Loops
public import proofs.«01_k».proof.Proof.Gen.Second.Launch
public import proofs.«01_k».proof.Proof.Gen.Second.Points
public import proofs.«01_k».proof.Proof.Gen.Second.Frame
public import proofs.«01_k».proof.Proof.Gen.SecondIdeal
public import proofs.«01_k».proof.Proof.Gen.SecondIdeal.Skeleton
public import proofs.«01_k».proof.Proof.Gen.SecondIdeal.Loops
public import proofs.«01_k».proof.Proof.Gen.SecondIdeal.Launch
public import proofs.«01_k».proof.Proof.Gen.SecondIdeal.Points
public import proofs.«01_k».proof.Proof.Gen.SecondIdeal.Frame
public import proofs.«01_k».proof.Proof.Gen.SecondIdeal.Value
public import proofs.«01_k».proof.Proof.Gen.SecondRefIdeal
public import proofs.«01_k».proof.Proof.Gen.SecondRefIdeal.Run
public import proofs.«01_k».proof.Proof.Gen.SecondRefIdeal.Read
public import proofs.«01_k».proof.Proof.InputVal
public import proofs.«01_k».proof.Proof.InputRefVal
public import proofs.«01_k».proof.Proof.MemoryVal
public import proofs.«01_k».proof.Proof.MemoryRefVal
public import proofs.«01_k».proof.Proof.OutputVal
public import proofs.«01_k».proof.Proof.OutputRefVal
public import proofs.«01_k».proof.Proof.ConvVal
public import proofs.«01_k».proof.Proof.ConvRefVal
public import proofs.«01_k».proof.Proof.RopeVal
public import proofs.«01_k».proof.Proof.RopeRefVal
public import proofs.«01_k».proof.Proof.FilterVal
public import proofs.«01_k».proof.Proof.FilterRefVal
public import proofs.«01_k».proof.Proof.SpectrumVal
public import proofs.«01_k».proof.Proof.SpectrumRefVal
public import proofs.«01_k».proof.Proof.SignalVal
public import proofs.«01_k».proof.Proof.SignalRefVal
public import proofs.«01_k».proof.Proof.RowsVal
public import proofs.«01_k».proof.Proof.RowsRefVal
public import proofs.«01_k».proof.Proof.ProductVal
public import proofs.«01_k».proof.Proof.ProductRefVal
public import proofs.«01_k».proof.Proof.BackVal
public import proofs.«01_k».proof.Proof.BackRefVal
public import proofs.«01_k».proof.Proof.GatedVal
public import proofs.«01_k».proof.Proof.GatedRefVal
public import proofs.«01_k».proof.Proof.InnerVal
public import proofs.«01_k».proof.Proof.InnerRefVal
public import proofs.«01_k».proof.Proof.SecondEqual
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel as printed runs to its end from every memory, changes none of its arguments and leaves every semaphore at zero. -/
theorem frame_kernel : Cert.quiescent_Kernel (hKernel := Cert.Kernel.Gen.facts) := fun m ρ _ => Cert.Kernel.Gen.frame m ρ

/-- The same of the kernel over the extended reals. -/
theorem frame_kernelIdeal : Cert.quiescent_KernelIdeal (hKernelIdeal := Cert.KernelIdeal.Gen.facts) :=
  fun m ρ _ => Cert.KernelIdeal.Gen.frame m ρ

/-- The reference declares no semaphore. -/
theorem no_semaphore (x : SemLoc Cert.ReferenceIdeal.sig) : False := by
  cases x with
  | reg a => exact a.elim0
  | dma a => exact a.elim0

/-- The same of the reference over the extended reals. -/
theorem frame_referenceIdeal : Cert.quiescent_ReferenceIdeal (hReferenceIdeal := Cert.ReferenceIdeal.Gen.facts) :=
  fun m ρ _ => (θ_run Cert.ReferenceIdeal.defs _ _).mono (fun _ h => ⟨fun c => (h c).2, funext fun g => (no_semaphore g.2).elim⟩)
    (Cert.ReferenceIdeal.Value.run m ρ)

/-- The side conditions of the precondition's operations. -/
theorem facts_pre : Cert.Pre_finite_inputs.Facts where
  bitsLt_bf16_f32 := by decide
  bcast_S_S16384x512 := by decide
  bcast_S_S1x64 := by decide

/-- The bit pattern of the bound is the infinity. -/
theorem inf_f32 : Ideal.ofBits FTy.f32 0x7F800000#32 = ⊤ := by
  simp [Ideal.ofBits, Ideal.ieee]

/-- An extended real whose absolute value is below the infinity is a real number. -/
theorem real_of_cmp (x : EReal) (h : FloatOps.cmpf (F := Ideal) (φ := .f32) .olt (FloatOps.hostAbsf (F := Ideal) (φ := .f32) x) (Ideal.ofBits FTy.f32 0x7F800000#32) = 1#1) :
    x = (x.toReal : EReal) := by
  rw [inf_f32] at h
  have h' : max x (-x) < ⊤ := by
    by_contra hn
    have e : (FloatOps.cmpf (F := Ideal) (φ := .f32) .olt (FloatOps.hostAbsf (F := Ideal) (φ := .f32) x) (⊤ : EReal)) = 0#1 := by
      show BitVec.ofBool (decide (max x (-x) < ⊤)) = 0#1
      rw [decide_eq_false hn]; rfl
    rw [e] at h
    exact absurd h (by decide)
  induction x with
  | bot => simp at h'
  | top => simp at h'
  | coe r => rfl

/-- Over the extended reals the kernel's result is the reference's, for finite values and finite vectors of the factor. -/
theorem algebraic : Cert.algebraic_KernelIdeal_ReferenceIdeal_pre_finite_inputs (hKernelIdeal := Cert.KernelIdeal.Gen.facts)
    (hReferenceIdeal := Cert.ReferenceIdeal.Gen.facts) (hPre_finite_inputs := facts_pre) := by
  intro m g m' g' hpre hin
  refine ⟨fun c => Cert.KernelIdeal.Attn.result m c, ?_, ?_⟩
  · exact (θ_run Cert.KernelIdeal.defs _ _).mono (fun r h c => ⟨((h c).1).trans (Cert.KernelIdeal.Attn.final m c), (h c).2⟩)
      (Cert.KernelIdeal.Value.run_blocks m g)
  · refine (θ_run Cert.ReferenceIdeal.defs _ _).mono (fun r h c => ⟨((h c).1).trans ?_, (h c).2⟩) (Cert.ReferenceIdeal.Value.run m' g')
    rw [Cert.ReferenceIdeal.Read.val_main_v58_eq]
    obtain ⟨e0, e1, e2, e3, e4, e5, e6, e7, e8⟩ := hin c
    obtain ⟨f2, f4, f5, f6, f7⟩ := hpre c
    rw [e0, e1, e2, e3, e4, e5, e6, e7, e8]
    exact (Cert.KernelIdeal.Attn.equal m c _ _ _ _ _
      (fun i j => real_of_cmp _ (congrFun f2 (ix2 i j))) (fun x => real_of_cmp _ (congrFun f4 (ix2 0 x)))
      (fun x => real_of_cmp _ (congrFun f5 (ix2 0 x))) (fun x => real_of_cmp _ (congrFun f6 (ix2 0 x)))
      (fun x => real_of_cmp _ (congrFun f7 (ix2 0 x)))).symm

/-! ## The input projection -/

/-- The input projection as printed runs to its end from every memory, changes none of its arguments and leaves every semaphore at zero. -/
theorem frame_input : Cert.quiescent_Input (hInput := Cert.Input.Gen.facts) := fun m ρ _ => Cert.Input.Gen.frame m ρ

/-- The same of the input projection over the extended reals. -/
theorem frame_inputIdeal : Cert.quiescent_InputIdeal (hInputIdeal := Cert.InputIdeal.Gen.facts) := fun m ρ _ => Cert.InputIdeal.Gen.frame m ρ

/-- Its reference declares no semaphore. -/
theorem no_semaphore_input (x : SemLoc Cert.InputRefIdeal.sig) : False := by
  cases x with
  | reg a => exact a.elim0
  | dma a => exact a.elim0

/-- The same of its reference over the extended reals. -/
theorem frame_inputRefIdeal : Cert.quiescent_InputRefIdeal (hInputRefIdeal := Cert.InputRefIdeal.Gen.facts) :=
  fun m ρ _ => (θ_run Cert.InputRefIdeal.defs _ _).mono (fun _ h => ⟨fun c => (h c).2.2.2.2.2.2.2.2, funext fun g => (no_semaphore_input g.2).elim⟩)
    (Cert.InputRefIdeal.Value.run m ρ)

/-- The one literal named instead of printed has the value of its name. -/
theorem preserves_input : Cert.preserves_Input_InputIdeal :=
  IdealRules.named_const.statement Cert.InputIdeal.κ "q_scale" .f32 0x3E38AA3B#32 (((Real.sqrt 64)⁻¹ * (Real.log 2)⁻¹ : ℝ) : EReal) rfl

/-- Over the extended reals the input projection's eight results are its reference's. -/
theorem algebraic_input : Cert.algebraic_InputIdeal_InputRefIdeal (hInputIdeal := Cert.InputIdeal.Gen.facts)
    (hInputRefIdeal := Cert.InputRefIdeal.Gen.facts) := by
  intro m g m' g' _ hin
  refine ⟨fun c => Cert.InputIdeal.Inp.queries m c, fun c => Cert.InputIdeal.Inp.keys m c, fun c => Cert.InputIdeal.Inp.part7 m c,
    fun c => Cert.InputIdeal.Inp.part8 m c, fun c => Cert.InputIdeal.Inp.part9 m c, fun c => Cert.InputIdeal.Inp.part10 m c,
    fun c => Cert.InputIdeal.Inp.part11 m c, fun c => Cert.InputIdeal.Inp.part12 m c, ?_, ?_⟩
  · refine (θ_run Cert.InputIdeal.defs _ _).mono (fun r h c => ?_) (Cert.InputIdeal.Value.run_blocks m g)
    obtain ⟨h0, h1, h2, h3, h4, h5, h6, h7, hargs⟩ := h c
    exact ⟨h0.trans (Cert.InputIdeal.Inp.final_5 m c), h1.trans (Cert.InputIdeal.Inp.final_6 m c), h2.trans (Cert.InputIdeal.Inp.final_7 m c),
      h3.trans (Cert.InputIdeal.Inp.final_8 m c), h4.trans (Cert.InputIdeal.Inp.final_9 m c), h5.trans (Cert.InputIdeal.Inp.final_10 m c),
      h6.trans (Cert.InputIdeal.Inp.final_11 m c), h7.trans (Cert.InputIdeal.Inp.final_12 m c), hargs⟩
  · refine (θ_run Cert.InputRefIdeal.defs _ _).mono (fun r h c => ?_) (Cert.InputRefIdeal.Value.run m' g')
    obtain ⟨h0, h1, h2, h3, h4, h5, h6, h7, hargs⟩ := h c
    obtain ⟨e0, e1, e2, e3, e4⟩ := hin c
    rw [Cert.InputRefIdeal.Read.val_main_v68_eq, e0, e1, e2, e3, e4] at h0
    rw [Cert.InputRefIdeal.Read.val_main_v69_eq, e0, e1, e2, e3, e4] at h1
    rw [Cert.InputRefIdeal.Read.val_main_v70_eq, e0, e1, e2] at h2
    rw [Cert.InputRefIdeal.Read.val_main_v71_eq, e0, e1, e2] at h3
    rw [Cert.InputRefIdeal.Read.val_main_v72_eq, e0, e1, e2] at h4
    rw [Cert.InputRefIdeal.Read.val_main_v73_eq, e0, e1, e2] at h5
    rw [Cert.InputRefIdeal.Read.val_main_v74_eq, e0, e1, e2] at h6
    rw [Cert.InputRefIdeal.Read.val_main_v75_eq, e0, e1, e2] at h7
    exact ⟨h0.trans (funext fun p => Cert.InputRefIdeal.Inp.res68_apply _ _ _ _ _ p),
      h1.trans (funext fun p => Cert.InputRefIdeal.Inp.res69_apply _ _ _ _ _ p), h2.trans (funext fun p => Cert.InputRefIdeal.Inp.res70_apply _ _ _ p),
      h3.trans (funext fun p => Cert.InputRefIdeal.Inp.res71_apply _ _ _ p), h4.trans (funext fun p => Cert.InputRefIdeal.Inp.res72_apply _ _ _ p),
      h5.trans (funext fun p => Cert.InputRefIdeal.Inp.res73_apply _ _ _ p), h6.trans (funext fun p => Cert.InputRefIdeal.Inp.res74_apply _ _ _ p),
      h7.trans (funext fun p => Cert.InputRefIdeal.Inp.res75_apply _ _ _ p), hargs⟩

/-! ## The memory's projection -/

/-- The memory's projection as printed runs to its end from every memory, changes none of its arguments and leaves every semaphore at zero. -/
theorem frame_memory : Cert.quiescent_Memory (hMemory := Cert.Memory.Gen.facts) := fun m ρ _ => Cert.Memory.Gen.frame m ρ

/-- The same of the memory's projection over the extended reals. -/
theorem frame_memoryIdeal : Cert.quiescent_MemoryIdeal (hMemoryIdeal := Cert.MemoryIdeal.Gen.facts) := fun m ρ _ => Cert.MemoryIdeal.Gen.frame m ρ

/-- Its reference declares no semaphore. -/
theorem no_semaphore_memory (x : SemLoc Cert.MemoryRefIdeal.sig) : False := by
  cases x with
  | reg a => exact a.elim0
  | dma a => exact a.elim0

/-- The same of its reference over the extended reals. -/
theorem frame_memoryRefIdeal : Cert.quiescent_MemoryRefIdeal (hMemoryRefIdeal := Cert.MemoryRefIdeal.Gen.facts) :=
  fun m ρ _ => (θ_run Cert.MemoryRefIdeal.defs _ _).mono (fun _ h => ⟨fun c => (h c).2.2, funext fun g => (no_semaphore_memory g.2).elim⟩)
    (Cert.MemoryRefIdeal.Value.run m ρ)

/-- Over the extended reals the memory's keys and values are the reference's. -/
theorem algebraic_memory : Cert.algebraic_MemoryIdeal_MemoryRefIdeal (hMemoryIdeal := Cert.MemoryIdeal.Gen.facts)
    (hMemoryRefIdeal := Cert.MemoryRefIdeal.Gen.facts) := by
  intro m g m' g' _ hin
  refine ⟨fun c => Cert.MemoryIdeal.Mem.keys m c, fun c => Cert.MemoryIdeal.Mem.values m c, ?_, ?_⟩
  · refine (θ_run Cert.MemoryIdeal.defs _ _).mono (fun r h c => ?_) (Cert.MemoryIdeal.Value.run_blocks m g)
    obtain ⟨h0, h1, hargs⟩ := h c
    exact ⟨h0.trans (Cert.MemoryIdeal.Mem.final_keys m c), h1.trans (Cert.MemoryIdeal.Mem.final_values m c), hargs⟩
  · refine (θ_run Cert.MemoryRefIdeal.defs _ _).mono (fun r h c => ?_) (Cert.MemoryRefIdeal.Value.run m' g')
    obtain ⟨h0, h1, hargs⟩ := h c
    obtain ⟨e0, e1, e2⟩ := hin c
    rw [Cert.MemoryRefIdeal.Read.val_main_v18_eq, e0, e1, e2] at h0
    rw [Cert.MemoryRefIdeal.Read.val_main_v19_eq, e0, e1, e2] at h1
    exact ⟨h0.trans (funext fun p => Cert.MemoryRefIdeal.Mem.keys_apply _ _ _ p),
      h1.trans (funext fun p => Cert.MemoryRefIdeal.Mem.values_apply _ _ _ p), hargs⟩

/-! ## The output projection -/

/-- The output projection as printed runs to its end from every memory, changes none of its arguments and leaves every semaphore at zero. -/
theorem frame_output : Cert.quiescent_Output (hOutput := Cert.Output.Gen.facts) := fun m ρ _ => Cert.Output.Gen.frame m ρ

/-- The same of the output projection over the extended reals. -/
theorem frame_outputIdeal : Cert.quiescent_OutputIdeal (hOutputIdeal := Cert.OutputIdeal.Gen.facts) := fun m ρ _ => Cert.OutputIdeal.Gen.frame m ρ

/-- Its reference declares no semaphore. -/
theorem no_semaphore_output (x : SemLoc Cert.OutputRefIdeal.sig) : False := by
  cases x with
  | reg a => exact a.elim0
  | dma a => exact a.elim0

/-- The same of its reference over the extended reals. -/
theorem frame_outputRefIdeal : Cert.quiescent_OutputRefIdeal (hOutputRefIdeal := Cert.OutputRefIdeal.Gen.facts) :=
  fun m ρ _ => (θ_run Cert.OutputRefIdeal.defs _ _).mono (fun _ h => ⟨fun c => (h c).2, funext fun g => (no_semaphore_output g.2).elim⟩)
    (Cert.OutputRefIdeal.Value.run m ρ)

/-- The side conditions of the operations of the scores' precondition. -/
theorem facts_scores : Cert.Pre_finite_scores.Facts where
  bitsLt_bf16_f32 := by decide
  bcast_S_S16384x512 := by decide
  bcast_S_S2x512x256 := by decide

/-- Over the extended reals the output projection's result is its reference's, for finite queries and keys of the memory. -/
theorem algebraic_output : Cert.algebraic_OutputIdeal_OutputRefIdeal_pre_finite_scores (hOutputIdeal := Cert.OutputIdeal.Gen.facts)
    (hOutputRefIdeal := Cert.OutputRefIdeal.Gen.facts) (hPre_finite_scores := facts_scores) := by
  intro m g m' g' hpre hin
  refine ⟨fun c => Cert.OutputIdeal.Out.result m c, ?_, ?_⟩
  · exact (θ_run Cert.OutputIdeal.defs _ _).mono (fun r h c => ⟨((h c).1).trans (Cert.OutputIdeal.Out.final_result m c), (h c).2⟩)
      (Cert.OutputIdeal.Value.run_blocks m g)
  · refine (θ_run Cert.OutputRefIdeal.defs _ _).mono (fun r h c => ⟨((h c).1).trans ?_, (h c).2⟩) (Cert.OutputRefIdeal.Value.run m' g')
    rw [Cert.OutputRefIdeal.Read.val_main_v44_eq]
    obtain ⟨e0, e1, e2, e3, e4, e5, e6, e7, e8⟩ := hin c
    obtain ⟨f2, f4⟩ := hpre c
    rw [e0, e1, e2, e3, e4, e5, e6, e7, e8]
    exact funext fun p => Cert.OutputRefIdeal.Out.row_apply _ _ _ _ _ _ _ _ _ (fun i => real_of_cmp _ (congrFun f2 i))
      (fun i => real_of_cmp _ (congrFun f4 i)) p

/-! ## The short convolution -/

/-- The short convolution as printed runs to its end from every memory, changes none of its arguments and leaves every semaphore at zero. -/
theorem frame_conv : Cert.quiescent_Conv (hConv := Cert.Conv.Gen.facts) := fun m ρ _ => Cert.Conv.Gen.frame m ρ

/-- The same of the short convolution over the extended reals. -/
theorem frame_convIdeal : Cert.quiescent_ConvIdeal (hConvIdeal := Cert.ConvIdeal.Gen.facts) := fun m ρ _ => Cert.ConvIdeal.Gen.frame m ρ

/-- Its reference declares no semaphore. -/
theorem no_semaphore_conv (x : SemLoc Cert.ConvRefIdeal.sig) : False := by
  cases x with
  | reg a => exact a.elim0
  | dma a => exact a.elim0

/-- The same of its reference over the extended reals. -/
theorem frame_convRefIdeal : Cert.quiescent_ConvRefIdeal (hConvRefIdeal := Cert.ConvRefIdeal.Gen.facts) :=
  fun m ρ _ => (θ_run Cert.ConvRefIdeal.defs _ _).mono (fun _ h => ⟨fun c => (h c).2.2.2, funext fun g => (no_semaphore_conv g.2).elim⟩)
    (Cert.ConvRefIdeal.Value.run m ρ)

/-- Over the extended reals the short convolution's results are its reference's, for every input. -/
theorem algebraic_conv : Cert.algebraic_ConvIdeal_ConvRefIdeal (hConvIdeal := Cert.ConvIdeal.Gen.facts)
    (hConvRefIdeal := Cert.ConvRefIdeal.Gen.facts) := by
  intro m g m' g' _ hin
  refine ⟨fun c => Cert.ConvIdeal.Conv.first m c, fun c => Cert.ConvIdeal.Conv.second m c, fun c => Cert.ConvIdeal.Conv.third m c, ?_, ?_⟩
  · refine (θ_run Cert.ConvIdeal.defs _ _).mono (fun r h c => ?_) (Cert.ConvIdeal.Value.run_blocks m g)
    obtain ⟨h0, h1, h2, hargs⟩ := h c
    exact ⟨h0.trans (Cert.ConvIdeal.Conv.final_5 m c), h1.trans (Cert.ConvIdeal.Conv.final_6 m c), h2.trans (Cert.ConvIdeal.Conv.final_7 m c), hargs⟩
  · refine (θ_run Cert.ConvRefIdeal.defs _ _).mono (fun r h c => ?_) (Cert.ConvRefIdeal.Value.run m' g')
    obtain ⟨h0, h1, h2, hargs⟩ := h c
    obtain ⟨e0, e1, e2⟩ := hin c
    rw [Cert.ConvRefIdeal.Read.val_main_v29_eq, e0, e1, e2] at h0
    rw [Cert.ConvRefIdeal.Read.val_main_v30_eq, e0, e1, e2] at h1
    rw [Cert.ConvRefIdeal.Read.val_main_v31_eq, e0, e1, e2] at h2
    exact ⟨h0.trans (funext fun p => Cert.ConvRefIdeal.Conv.first_apply _ _ _ p),
      h1.trans (funext fun p => Cert.ConvRefIdeal.Conv.second_apply _ _ _ p),
      h2.trans (funext fun p => Cert.ConvRefIdeal.Conv.third_apply _ _ _ p), hargs⟩

/-! ## The tables of the rotary embedding -/

/-- The tables of the rotary embedding as printed runs to its end from every memory, changes none of its arguments and leaves every semaphore at zero. -/
theorem frame_rope : Cert.quiescent_Rope (hRope := Cert.Rope.Gen.facts) := fun m ρ _ => Cert.Rope.Gen.frame m ρ

/-- The same of the tables of the rotary embedding over the extended reals. -/
theorem frame_ropeIdeal : Cert.quiescent_RopeIdeal (hRopeIdeal := Cert.RopeIdeal.Gen.facts) := fun m ρ _ => Cert.RopeIdeal.Gen.frame m ρ

/-- Its reference declares no semaphore. -/
theorem no_semaphore_rope (x : SemLoc Cert.RopeRefIdeal.sig) : False := by
  cases x with
  | reg a => exact a.elim0
  | dma a => exact a.elim0

/-- The same of its reference over the extended reals. -/
theorem frame_ropeRefIdeal : Cert.quiescent_RopeRefIdeal (hRopeRefIdeal := Cert.RopeRefIdeal.Gen.facts) :=
  fun m ρ _ => (θ_run Cert.RopeRefIdeal.defs _ _).mono (fun _ h => ⟨fun c => (h c).2.2, funext fun g => (no_semaphore_rope g.2).elim⟩)
    (Cert.RopeRefIdeal.Value.run m ρ)

/-- Over the extended reals the tables of the rotary embedding are their reference's, for every input. -/
theorem algebraic_rope : Cert.algebraic_RopeIdeal_RopeRefIdeal (hRopeIdeal := Cert.RopeIdeal.Gen.facts)
    (hRopeRefIdeal := Cert.RopeRefIdeal.Gen.facts) := by
  intro m g m' g' _ hin
  refine ⟨fun c => Cert.RopeIdeal.Tab.cosines m c, fun c => Cert.RopeIdeal.Tab.sines m c, ?_, ?_⟩
  · refine (θ_run Cert.RopeIdeal.defs _ _).mono (fun r h c => ?_) (Cert.RopeIdeal.Value.run_blocks m g)
    obtain ⟨h0, h1, hargs⟩ := h c
    exact ⟨h0.trans (Cert.RopeIdeal.Tab.final_2 m c), h1.trans (Cert.RopeIdeal.Tab.final_3 m c), hargs⟩
  · refine (θ_run Cert.RopeRefIdeal.defs _ _).mono (fun r h c => ?_) (Cert.RopeRefIdeal.Value.run m' g')
    obtain ⟨h0, h1, hargs⟩ := h c
    have e0 := hin c
    rw [Cert.RopeRefIdeal.Read.val_main_v9_eq, e0] at h0
    rw [Cert.RopeRefIdeal.Read.val_main_v14_eq, e0] at h1
    exact ⟨h0.trans (funext fun p => Cert.RopeRefIdeal.Tab.cos_apply _ p),
      h1.trans (funext fun p => Cert.RopeRefIdeal.Tab.sin_apply _ p), hargs⟩
/-! ## The filters -/

/-- The filters as printed runs to its end from every memory, changes none of its arguments and leaves every semaphore at zero. -/
theorem frame_filter : Cert.quiescent_Filter (hFilter := Cert.Filter.Gen.facts) := fun m ρ _ => Cert.Filter.Gen.frame m ρ

/-- The same of the filters over the extended reals. -/
theorem frame_filterIdeal : Cert.quiescent_FilterIdeal (hFilterIdeal := Cert.FilterIdeal.Gen.facts) := fun m ρ _ => Cert.FilterIdeal.Gen.frame m ρ

/-- Its reference declares no semaphore. -/
theorem no_semaphore_filter (x : SemLoc Cert.FilterRefIdeal.sig) : False := by
  cases x with
  | reg a => exact a.elim0
  | dma a => exact a.elim0

/-- The same of its reference over the extended reals. -/
theorem frame_filterRefIdeal : Cert.quiescent_FilterRefIdeal (hFilterRefIdeal := Cert.FilterRefIdeal.Gen.facts) :=
  fun m ρ _ => (θ_run Cert.FilterRefIdeal.defs _ _).mono (fun _ h => ⟨fun c => (h c).2, funext fun g => (no_semaphore_filter g.2).elim⟩)
    (Cert.FilterRefIdeal.Value.run m ρ)

/-- The one literal named instead of printed has the value of its name. -/
theorem preserves_filter : Cert.preserves_Filter_FilterIdeal :=
  IdealRules.named_const.statement Cert.FilterIdeal.κ "t_step" .f32 0x39000400#32 ((8191⁻¹ : ℝ) : EReal) rfl

/-- Over the extended reals the filters are their reference's, for every input. -/
theorem algebraic_filter : Cert.algebraic_FilterIdeal_FilterRefIdeal (hFilterIdeal := Cert.FilterIdeal.Gen.facts)
    (hFilterRefIdeal := Cert.FilterRefIdeal.Gen.facts) := by
  intro m g m' g' _ hin
  refine ⟨fun c => Cert.FilterIdeal.Filt.filters m c, ?_, ?_⟩
  · refine (θ_run Cert.FilterIdeal.defs _ _).mono (fun r h c => ?_) (Cert.FilterIdeal.Value.run_blocks m g)
    obtain ⟨h0, hargs⟩ := h c
    exact ⟨h0.trans (Cert.FilterIdeal.Filt.final_10 m c), hargs⟩
  · refine (θ_run Cert.FilterRefIdeal.defs _ _).mono (fun r h c => ?_) (Cert.FilterRefIdeal.Value.run m' g')
    obtain ⟨h0, hargs⟩ := h c
    obtain ⟨e0, e1, e2, e3, e4, e5, e6, e7, e8, e9⟩ := hin c
    rw [Cert.FilterRefIdeal.Read.val_main_v74_eq, e0, e1, e2, e3, e4, e5, e6, e7, e8, e9] at h0
    exact ⟨h0.trans (funext fun p => Cert.FilterRefIdeal.Filt.filter_apply _ _ _ _ _ _ _ _ _ _ p), hargs⟩

/-! ## The transform's first stage of a filter -/

/-- The transform's first stage of a filter as printed runs to its end from every memory, changes none of its arguments and leaves every semaphore at zero. -/
theorem frame_spectrum : Cert.quiescent_Spectrum (hSpectrum := Cert.Spectrum.Gen.facts) := fun m ρ _ => Cert.Spectrum.Gen.frame m ρ

/-- The same of the transform's first stage of a filter over the extended reals. -/
theorem frame_spectrumIdeal : Cert.quiescent_SpectrumIdeal (hSpectrumIdeal := Cert.SpectrumIdeal.Gen.facts) := fun m ρ _ => Cert.SpectrumIdeal.Gen.frame m ρ

/-- Its reference declares no semaphore. -/
theorem no_semaphore_spectrum (x : SemLoc Cert.SpectrumRefIdeal.sig) : False := by
  cases x with
  | reg a => exact a.elim0
  | dma a => exact a.elim0

/-- The same of its reference over the extended reals. -/
theorem frame_spectrumRefIdeal : Cert.quiescent_SpectrumRefIdeal (hSpectrumRefIdeal := Cert.SpectrumRefIdeal.Gen.facts) :=
  fun m ρ _ => (θ_run Cert.SpectrumRefIdeal.defs _ _).mono (fun _ h => ⟨fun c => (h c).2, funext fun g => (no_semaphore_spectrum g.2).elim⟩)
    (Cert.SpectrumRefIdeal.Value.run m ρ)

/-- Over the extended reals the first stage of a filter's transform is its reference's, for every input. -/
theorem algebraic_spectrum : Cert.algebraic_SpectrumIdeal_SpectrumRefIdeal (hSpectrumIdeal := Cert.SpectrumIdeal.Gen.facts)
    (hSpectrumRefIdeal := Cert.SpectrumRefIdeal.Gen.facts) := by
  intro m g m' g' _ hin
  refine ⟨fun c => Cert.SpectrumIdeal.Stage.products m c, ?_, ?_⟩
  · refine (θ_run Cert.SpectrumIdeal.defs _ _).mono (fun r h c => ?_) (Cert.SpectrumIdeal.Value.run_blocks m g)
    obtain ⟨h0, hargs⟩ := h c
    exact ⟨h0.trans (Cert.SpectrumIdeal.Stage.final_2 m c), hargs⟩
  · refine (θ_run Cert.SpectrumRefIdeal.defs _ _).mono (fun r h c => ?_) (Cert.SpectrumRefIdeal.Value.run m' g')
    obtain ⟨h0, hargs⟩ := h c
    obtain ⟨e0, e1⟩ := hin c
    rw [Cert.SpectrumRefIdeal.Read.val_main_v6_eq, e0, e1] at h0
    exact ⟨h0.trans (funext fun p => Cert.SpectrumRefIdeal.Stage.products_apply _ _ p), hargs⟩
/-! ## The transform's first stage of a signal -/

/-- The transform's first stage of a signal as printed runs to its end from every memory, changes none of its arguments and leaves every semaphore at zero. -/
theorem frame_signal : Cert.quiescent_Signal (hSignal := Cert.Signal.Gen.facts) := fun m ρ _ => Cert.Signal.Gen.frame m ρ

/-- The same of the transform's first stage of a signal over the extended reals. -/
theorem frame_signalIdeal : Cert.quiescent_SignalIdeal (hSignalIdeal := Cert.SignalIdeal.Gen.facts) := fun m ρ _ => Cert.SignalIdeal.Gen.frame m ρ

/-- Its reference declares no semaphore. -/
theorem no_semaphore_signal (x : SemLoc Cert.SignalRefIdeal.sig) : False := by
  cases x with
  | reg a => exact a.elim0
  | dma a => exact a.elim0

/-- The same of its reference over the extended reals. -/
theorem frame_signalRefIdeal : Cert.quiescent_SignalRefIdeal (hSignalRefIdeal := Cert.SignalRefIdeal.Gen.facts) :=
  fun m ρ _ => (θ_run Cert.SignalRefIdeal.defs _ _).mono (fun _ h => ⟨fun c => (h c).2, funext fun g => (no_semaphore_signal g.2).elim⟩)
    (Cert.SignalRefIdeal.Value.run m ρ)

/-- Over the extended reals the first stage of the signal's transform is its reference's, for every input. -/
theorem algebraic_signal : Cert.algebraic_SignalIdeal_SignalRefIdeal (hSignalIdeal := Cert.SignalIdeal.Gen.facts)
    (hSignalRefIdeal := Cert.SignalRefIdeal.Gen.facts) := by
  intro m g m' g' _ hin
  refine ⟨fun c => Cert.SignalIdeal.Stage.products m c, ?_, ?_⟩
  · refine (θ_run Cert.SignalIdeal.defs _ _).mono (fun r h c => ?_) (Cert.SignalIdeal.Value.run_blocks m g)
    obtain ⟨h0, hargs⟩ := h c
    exact ⟨h0.trans (Cert.SignalIdeal.Stage.final_2 m c), hargs⟩
  · refine (θ_run Cert.SignalRefIdeal.defs _ _).mono (fun r h c => ?_) (Cert.SignalRefIdeal.Value.run m' g')
    obtain ⟨h0, hargs⟩ := h c
    obtain ⟨e0, e1⟩ := hin c
    rw [Cert.SignalRefIdeal.Read.val_main_v7_eq, e0, e1] at h0
    exact ⟨h0.trans (funext fun p => Cert.SignalRefIdeal.Stage.products_apply _ _ p), hargs⟩
/-! ## The transform's second stage of a filter -/

/-- The transform's second stage of a filter as printed runs to its end from every memory, changes none of its arguments and leaves every semaphore at zero. -/
theorem frame_rows : Cert.quiescent_Rows (hRows := Cert.Rows.Gen.facts) := fun m ρ _ => Cert.Rows.Gen.frame m ρ

/-- The same of the transform's second stage of a filter over the extended reals. -/
theorem frame_rowsIdeal : Cert.quiescent_RowsIdeal (hRowsIdeal := Cert.RowsIdeal.Gen.facts) := fun m ρ _ => Cert.RowsIdeal.Gen.frame m ρ

/-- Its reference declares no semaphore. -/
theorem no_semaphore_rows (x : SemLoc Cert.RowsRefIdeal.sig) : False := by
  cases x with
  | reg a => exact a.elim0
  | dma a => exact a.elim0

/-- The same of its reference over the extended reals. -/
theorem frame_rowsRefIdeal : Cert.quiescent_RowsRefIdeal (hRowsRefIdeal := Cert.RowsRefIdeal.Gen.facts) :=
  fun m ρ _ => (θ_run Cert.RowsRefIdeal.defs _ _).mono (fun _ h => ⟨fun c => (h c).2, funext fun g => (no_semaphore_rows g.2).elim⟩)
    (Cert.RowsRefIdeal.Value.run m ρ)

/-- Over the extended reals the second stage of a filter's transform is its reference's, for every input. -/
theorem algebraic_rows : Cert.algebraic_RowsIdeal_RowsRefIdeal (hRowsIdeal := Cert.RowsIdeal.Gen.facts)
    (hRowsRefIdeal := Cert.RowsRefIdeal.Gen.facts) := by
  intro m g m' g' _ hin
  refine ⟨fun c => Cert.RowsIdeal.Stage.products m c, ?_, ?_⟩
  · refine (θ_run Cert.RowsIdeal.defs _ _).mono (fun r h c => ?_) (Cert.RowsIdeal.Value.run_blocks m g)
    obtain ⟨h0, hargs⟩ := h c
    exact ⟨h0.trans (Cert.RowsIdeal.Stage.final_2 m c), hargs⟩
  · refine (θ_run Cert.RowsRefIdeal.defs _ _).mono (fun r h c => ?_) (Cert.RowsRefIdeal.Value.run m' g')
    obtain ⟨h0, hargs⟩ := h c
    obtain ⟨e0, e1⟩ := hin c
    rw [Cert.RowsRefIdeal.Read.val_main_v6_eq, e0, e1] at h0
    exact ⟨h0.trans (funext fun p => Cert.RowsRefIdeal.Stage.products_apply _ _ p), hargs⟩
/-! ## The product of spectra -/

/-- The product of spectra as printed runs to its end from every memory, changes none of its arguments and leaves every semaphore at zero. -/
theorem frame_product : Cert.quiescent_Product (hProduct := Cert.Product.Gen.facts) := fun m ρ _ => Cert.Product.Gen.frame m ρ

/-- The same of the product of spectra over the extended reals. -/
theorem frame_productIdeal : Cert.quiescent_ProductIdeal (hProductIdeal := Cert.ProductIdeal.Gen.facts) := fun m ρ _ => Cert.ProductIdeal.Gen.frame m ρ

/-- Its reference declares no semaphore. -/
theorem no_semaphore_product (x : SemLoc Cert.ProductRefIdeal.sig) : False := by
  cases x with
  | reg a => exact a.elim0
  | dma a => exact a.elim0

/-- The same of its reference over the extended reals. -/
theorem frame_productRefIdeal : Cert.quiescent_ProductRefIdeal (hProductRefIdeal := Cert.ProductRefIdeal.Gen.facts) :=
  fun m ρ _ => (θ_run Cert.ProductRefIdeal.defs _ _).mono (fun _ h => ⟨fun c => (h c).2, funext fun g => (no_semaphore_product g.2).elim⟩)
    (Cert.ProductRefIdeal.Value.run m ρ)

/-- Over the extended reals the signal's second stage, the product with the filter's and the inverse stage are their reference's, for every input. -/
theorem algebraic_product : Cert.algebraic_ProductIdeal_ProductRefIdeal (hProductIdeal := Cert.ProductIdeal.Gen.facts)
    (hProductRefIdeal := Cert.ProductRefIdeal.Gen.facts) := by
  intro m g m' g' _ hin
  refine ⟨fun c => Cert.ProductIdeal.Stage.products m c, ?_, ?_⟩
  · refine (θ_run Cert.ProductIdeal.defs _ _).mono (fun r h c => ?_) (Cert.ProductIdeal.Value.run_blocks m g)
    obtain ⟨h0, hargs⟩ := h c
    exact ⟨h0.trans (Cert.ProductIdeal.Stage.final_4 m c), hargs⟩
  · refine (θ_run Cert.ProductRefIdeal.defs _ _).mono (fun r h c => ?_) (Cert.ProductRefIdeal.Value.run m' g')
    obtain ⟨h0, hargs⟩ := h c
    obtain ⟨e0, e1, e2, e3⟩ := hin c
    rw [Cert.ProductRefIdeal.Read.val_main_v22_eq, e0, e1, e2, e3] at h0
    exact ⟨h0.trans (funext fun p => Cert.ProductRefIdeal.Stage.products_apply _ _ _ _ p), hargs⟩
/-! ## The last stage -/

/-- The last stage as printed runs to its end from every memory, changes none of its arguments and leaves every semaphore at zero. -/
theorem frame_back : Cert.quiescent_Back (hBack := Cert.Back.Gen.facts) := fun m ρ _ => Cert.Back.Gen.frame m ρ

/-- The same of the last stage over the extended reals. -/
theorem frame_backIdeal : Cert.quiescent_BackIdeal (hBackIdeal := Cert.BackIdeal.Gen.facts) := fun m ρ _ => Cert.BackIdeal.Gen.frame m ρ

/-- Its reference declares no semaphore. -/
theorem no_semaphore_back (x : SemLoc Cert.BackRefIdeal.sig) : False := by
  cases x with
  | reg a => exact a.elim0
  | dma a => exact a.elim0

/-- The same of its reference over the extended reals. -/
theorem frame_backRefIdeal : Cert.quiescent_BackRefIdeal (hBackRefIdeal := Cert.BackRefIdeal.Gen.facts) :=
  fun m ρ _ => (θ_run Cert.BackRefIdeal.defs _ _).mono (fun _ h => ⟨fun c => (h c).2, funext fun g => (no_semaphore_back g.2).elim⟩)
    (Cert.BackRefIdeal.Value.run m ρ)

/-- Over the extended reals the inverse transform's last stage, residual and gate are their reference's, for every input. -/
theorem algebraic_back : Cert.algebraic_BackIdeal_BackRefIdeal (hBackIdeal := Cert.BackIdeal.Gen.facts)
    (hBackRefIdeal := Cert.BackRefIdeal.Gen.facts) := by
  intro m g m' g' _ hin
  refine ⟨fun c => Cert.BackIdeal.Stage.products m c, ?_, ?_⟩
  · refine (θ_run Cert.BackIdeal.defs _ _).mono (fun r h c => ?_) (Cert.BackIdeal.Value.run_blocks m g)
    obtain ⟨h0, hargs⟩ := h c
    exact ⟨h0.trans (Cert.BackIdeal.Stage.final_5 m c), hargs⟩
  · refine (θ_run Cert.BackRefIdeal.defs _ _).mono (fun r h c => ?_) (Cert.BackRefIdeal.Value.run m' g')
    obtain ⟨h0, hargs⟩ := h c
    obtain ⟨e0, e1, e2, e3, e4⟩ := hin c
    have h1 := h0.trans (Cert.BackRefIdeal.Read.val_main_v15_eq _ _ _ _ _)
    rw [e0, e1, e2, e3, e4] at h1
    exact ⟨h1.trans (funext fun p => Cert.BackRefIdeal.Stage.products_apply _ _ _ _ _ p), hargs⟩
/-! ## The last stage with a gate -/

/-- The last stage with a gate as printed runs to its end from every memory, changes none of its arguments and leaves every semaphore at zero. -/
theorem frame_gated : Cert.quiescent_Gated (hGated := Cert.Gated.Gen.facts) := fun m ρ _ => Cert.Gated.Gen.frame m ρ

/-- The same of the last stage with a gate over the extended reals. -/
theorem frame_gatedIdeal : Cert.quiescent_GatedIdeal (hGatedIdeal := Cert.GatedIdeal.Gen.facts) := fun m ρ _ => Cert.GatedIdeal.Gen.frame m ρ

/-- Its reference declares no semaphore. -/
theorem no_semaphore_gated (x : SemLoc Cert.GatedRefIdeal.sig) : False := by
  cases x with
  | reg a => exact a.elim0
  | dma a => exact a.elim0

/-- The same of its reference over the extended reals. -/
theorem frame_gatedRefIdeal : Cert.quiescent_GatedRefIdeal (hGatedRefIdeal := Cert.GatedRefIdeal.Gen.facts) :=
  fun m ρ _ => (θ_run Cert.GatedRefIdeal.defs _ _).mono (fun _ h => ⟨fun c => (h c).2, funext fun g => (no_semaphore_gated g.2).elim⟩)
    (Cert.GatedRefIdeal.Value.run m ρ)

/-- Over the extended reals the inverse transform's last stage, residual and two gates are their reference's, for every input. -/
theorem algebraic_gated : Cert.algebraic_GatedIdeal_GatedRefIdeal (hGatedIdeal := Cert.GatedIdeal.Gen.facts)
    (hGatedRefIdeal := Cert.GatedRefIdeal.Gen.facts) := by
  intro m g m' g' _ hin
  refine ⟨fun c => Cert.GatedIdeal.Stage.products m c, ?_, ?_⟩
  · refine (θ_run Cert.GatedIdeal.defs _ _).mono (fun r h c => ?_) (Cert.GatedIdeal.Value.run_blocks m g)
    obtain ⟨h0, hargs⟩ := h c
    exact ⟨h0.trans (Cert.GatedIdeal.Stage.final_6 m c), hargs⟩
  · refine (θ_run Cert.GatedRefIdeal.defs _ _).mono (fun r h c => ?_) (Cert.GatedRefIdeal.Value.run m' g')
    obtain ⟨h0, hargs⟩ := h c
    obtain ⟨e0, e1, e2, e3, e4, e5⟩ := hin c
    have h1 := h0.trans (Cert.GatedRefIdeal.Read.val_main_v18_eq _ _ _ _ _ _)
    rw [e0, e1, e2, e3, e4, e5] at h1
    exact ⟨h1.trans (funext fun p => Cert.GatedRefIdeal.Stage.products_apply _ _ _ _ _ _ p), hargs⟩
/-! ## The output projection without the final norm -/

/-- The output projection without the final norm as printed runs to its end from every memory, changes none of its arguments and leaves every semaphore at zero. -/
theorem frame_inner : Cert.quiescent_Inner (hInner := Cert.Inner.Gen.facts) := fun m ρ _ => Cert.Inner.Gen.frame m ρ

/-- The same of the output projection without the final norm over the extended reals. -/
theorem frame_innerIdeal : Cert.quiescent_InnerIdeal (hInnerIdeal := Cert.InnerIdeal.Gen.facts) := fun m ρ _ => Cert.InnerIdeal.Gen.frame m ρ

/-- Its reference declares no semaphore. -/
theorem no_semaphore_inner (x : SemLoc Cert.InnerRefIdeal.sig) : False := by
  cases x with
  | reg a => exact a.elim0
  | dma a => exact a.elim0

/-- The same of its reference over the extended reals. -/
theorem frame_innerRefIdeal : Cert.quiescent_InnerRefIdeal (hInnerRefIdeal := Cert.InnerRefIdeal.Gen.facts) :=
  fun m ρ _ => (θ_run Cert.InnerRefIdeal.defs _ _).mono (fun _ h => ⟨fun c => (h c).2, funext fun g => (no_semaphore_inner g.2).elim⟩)
    (Cert.InnerRefIdeal.Value.run m ρ)

/-- Over the extended reals the result of the output projection without the final norm is its reference's, for finite queries and keys of the memory. -/
theorem algebraic_inner : Cert.algebraic_InnerIdeal_InnerRefIdeal_pre_finite_scores (hInnerIdeal := Cert.InnerIdeal.Gen.facts)
    (hInnerRefIdeal := Cert.InnerRefIdeal.Gen.facts) (hPre_finite_scores := facts_scores) := by
  intro m g m' g' hpre hin
  refine ⟨fun c => Cert.InnerIdeal.Out.result m c, ?_, ?_⟩
  · exact (θ_run Cert.InnerIdeal.defs _ _).mono (fun r h c => ⟨((h c).1).trans (Cert.InnerIdeal.Out.final_result m c), (h c).2⟩)
      (Cert.InnerIdeal.Value.run_blocks m g)
  · refine (θ_run Cert.InnerRefIdeal.defs _ _).mono (fun r h c => ⟨((h c).1).trans ?_, (h c).2⟩) (Cert.InnerRefIdeal.Value.run m' g')
    rw [Cert.InnerRefIdeal.Read.val_main_v32_eq]
    obtain ⟨e0, e1, e2, e3, e4, e5, e6, e7, _⟩ := hin c
    obtain ⟨f2, f4⟩ := hpre c
    rw [e0, e1, e2, e3, e4, e5, e6, e7]
    exact funext fun p => Cert.InnerRefIdeal.Out.row_apply _ _ _ _ _ _ _ _ (fun i => real_of_cmp _ (congrFun f2 i))
      (fun i => real_of_cmp _ (congrFun f4 i)) p

/-! ## The second layer's attention -/

/-- The second layer's attention as printed runs to its end from every memory, changes none of its arguments and leaves every semaphore at zero. -/
theorem frame_second : Cert.quiescent_Second (hSecond := Cert.Second.Gen.facts) := fun m ρ _ => Cert.Second.Gen.frame m ρ

/-- The same of the second layer's attention over the extended reals. -/
theorem frame_secondIdeal : Cert.quiescent_SecondIdeal (hSecondIdeal := Cert.SecondIdeal.Gen.facts) := fun m ρ _ => Cert.SecondIdeal.Gen.frame m ρ

/-- Its reference declares no semaphore. -/
theorem no_semaphore_second (x : SemLoc Cert.SecondRefIdeal.sig) : False := by
  cases x with
  | reg a => exact a.elim0
  | dma a => exact a.elim0

/-- The same of its reference over the extended reals. -/
theorem frame_secondRefIdeal : Cert.quiescent_SecondRefIdeal (hSecondRefIdeal := Cert.SecondRefIdeal.Gen.facts) :=
  fun m ρ _ => (θ_run Cert.SecondRefIdeal.defs _ _).mono (fun _ h => ⟨fun c => (h c).2, funext fun g => (no_semaphore_second g.2).elim⟩)
    (Cert.SecondRefIdeal.Value.run m ρ)

/-- Over the extended reals the result of the second layer's attention is its reference's, for finite values and finite vectors of the factor. -/
theorem algebraic_second : Cert.algebraic_SecondIdeal_SecondRefIdeal_pre_finite_inputs (hSecondIdeal := Cert.SecondIdeal.Gen.facts)
    (hSecondRefIdeal := Cert.SecondRefIdeal.Gen.facts) (hPre_finite_inputs := facts_pre) := by
  intro m g m' g' hpre hin
  refine ⟨fun c => Cert.SecondIdeal.Attn.result m c, ?_, ?_⟩
  · exact (θ_run Cert.SecondIdeal.defs _ _).mono (fun r h c => ⟨((h c).1).trans (Cert.SecondIdeal.Attn.final m c), (h c).2⟩)
      (Cert.SecondIdeal.Value.run_blocks m g)
  · refine (θ_run Cert.SecondRefIdeal.defs _ _).mono (fun r h c => ⟨((h c).1).trans ?_, (h c).2⟩) (Cert.SecondRefIdeal.Value.run m' g')
    rw [Cert.SecondRefIdeal.Read.val_main_v58_eq]
    obtain ⟨e0, e1, e2, e3, e4, e5, e6, e7, e8⟩ := hin c
    obtain ⟨f2, f4, f5, f6, f7⟩ := hpre c
    rw [e0, e1, e2, e3, e4, e5, e6, e7, e8]
    exact (Cert.SecondIdeal.Attn.equal m c _ _ _ _ _
      (fun i j => real_of_cmp _ (congrFun f2 (ix2 i j))) (fun x => real_of_cmp _ (congrFun f4 (ix2 0 x)))
      (fun x => real_of_cmp _ (congrFun f5 (ix2 0 x))) (fun x => real_of_cmp _ (congrFun f6 (ix2 0 x)))
      (fun x => real_of_cmp _ (congrFun f7 (ix2 0 x)))).symm

/-- Everything that is claimed. -/
theorem claim : Cert.Claim :=
  ⟨Cert.Kernel.Gen.facts, Cert.KernelIdeal.Gen.facts, Cert.ReferenceIdeal.Gen.facts, Cert.Input.Gen.facts, Cert.InputIdeal.Gen.facts, Cert.InputRefIdeal.Gen.facts, Cert.Memory.Gen.facts, Cert.MemoryIdeal.Gen.facts, Cert.MemoryRefIdeal.Gen.facts, Cert.Output.Gen.facts, Cert.OutputIdeal.Gen.facts, Cert.OutputRefIdeal.Gen.facts, Cert.Conv.Gen.facts, Cert.ConvIdeal.Gen.facts, Cert.ConvRefIdeal.Gen.facts, Cert.Rope.Gen.facts, Cert.RopeIdeal.Gen.facts, Cert.RopeRefIdeal.Gen.facts, Cert.Filter.Gen.facts, Cert.FilterIdeal.Gen.facts, Cert.FilterRefIdeal.Gen.facts, Cert.Spectrum.Gen.facts, Cert.SpectrumIdeal.Gen.facts, Cert.SpectrumRefIdeal.Gen.facts, Cert.Signal.Gen.facts, Cert.SignalIdeal.Gen.facts, Cert.SignalRefIdeal.Gen.facts, Cert.Rows.Gen.facts, Cert.RowsIdeal.Gen.facts, Cert.RowsRefIdeal.Gen.facts, Cert.Product.Gen.facts, Cert.ProductIdeal.Gen.facts, Cert.ProductRefIdeal.Gen.facts, Cert.Back.Gen.facts, Cert.BackIdeal.Gen.facts, Cert.BackRefIdeal.Gen.facts, Cert.Gated.Gen.facts, Cert.GatedIdeal.Gen.facts, Cert.GatedRefIdeal.Gen.facts, Cert.Inner.Gen.facts, Cert.InnerIdeal.Gen.facts, Cert.InnerRefIdeal.Gen.facts, Cert.Second.Gen.facts, Cert.SecondIdeal.Gen.facts, Cert.SecondRefIdeal.Gen.facts, facts_pre, facts_scores,
    frame_kernel, frame_kernelIdeal, fun m ρ h => frame_kernelIdeal m ρ trivial, frame_referenceIdeal, fun m ρ h => frame_referenceIdeal m ρ trivial,
    frame_input, frame_inputIdeal, frame_inputRefIdeal, frame_memory, frame_memoryIdeal, frame_memoryRefIdeal,
    frame_output, frame_outputIdeal, fun m ρ h => frame_outputIdeal m ρ trivial, frame_outputRefIdeal, fun m ρ h => frame_outputRefIdeal m ρ trivial,
    frame_conv, frame_convIdeal, frame_convRefIdeal,
    frame_rope, frame_ropeIdeal, frame_ropeRefIdeal,
    frame_filter, frame_filterIdeal, frame_filterRefIdeal,
    frame_spectrum, frame_spectrumIdeal, frame_spectrumRefIdeal,
    frame_signal, frame_signalIdeal, frame_signalRefIdeal,
    frame_rows, frame_rowsIdeal, frame_rowsRefIdeal,
    frame_product, frame_productIdeal, frame_productRefIdeal,
    frame_back, frame_backIdeal, frame_backRefIdeal,
    frame_gated, frame_gatedIdeal, frame_gatedRefIdeal,
    frame_inner, frame_innerIdeal, fun m ρ h => frame_innerIdeal m ρ trivial, frame_innerRefIdeal, fun m ρ h => frame_innerRefIdeal m ρ trivial,
    frame_second, frame_secondIdeal, fun m ρ h => frame_secondIdeal m ρ trivial, frame_secondRefIdeal, fun m ρ h => frame_secondRefIdeal m ρ trivial,
    trivial, algebraic, preserves_input, algebraic_input, trivial, algebraic_memory, trivial, algebraic_output, trivial, algebraic_conv, trivial, algebraic_rope, preserves_filter, algebraic_filter, trivial, algebraic_spectrum, trivial, algebraic_signal, trivial, algebraic_rows, trivial, algebraic_product, trivial, algebraic_back, trivial, algebraic_gated, trivial, algebraic_inner, trivial, algebraic_second⟩

end Cert.Proof

end
